-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "width_inverse" .f32 0x39AAAAAB#32 ((3072⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S4096 : Shape := ⟨1, ![4096]⟩
abbrev S16 : Shape := ⟨1, ![16]⟩
abbrev S16384x1024 : Shape := ⟨2, ![16384, 1024]⟩
abbrev S786432 : Shape := ⟨1, ![786432]⟩
abbrev S16384x128 : Shape := ⟨2, ![16384, 128]⟩
abbrev S16x256x256 : Shape := ⟨3, ![16, 256, 256]⟩
abbrev S_ : Shape := ⟨0, ![]⟩
abbrev S794640 : Shape := ⟨1, ![794640]⟩

class Facts : Prop where
  bcast_S_S4096 : S_.BroadcastsInDim S4096 (![] : Fin 0 → Fin S4096.rank)
  bcast_S_S16 : S_.BroadcastsInDim S16 (![] : Fin 0 → Fin S16.rank)
  bcast_S_S786432 : S_.BroadcastsInDim S786432 (![] : Fin 0 → Fin S786432.rank)
  concatenates_S4096_S4096_S16_S786432_S794640_d0 : Shape.Concatenates [S4096, S4096, S16, S786432] S794640 0

variable [Facts]

def fn_part1 {F : FTy → Type} [FloatOps F] (main_arg3 : IVec S16 32) (main_arg6 : IVec S786432 32) (main_v9 : IVec S4096 1) (main_v14 : IVec S4096 1) (main_v16 : IVec S16 1) : IVec S794640 1 :=
  let main_c_6 : IVec S_ 32 := constantI S_ 32 256#32
  let main_v17 : IVec S16 32 := broadcastInDim S16 ![] bcast_S_S16 main_c_6
  let main_v18 : IVec S16 1 := cmpi .sle main_arg3 main_v17
  let main_v19 : IVec S16 1 := andi main_v16 main_v18
  let main_c_7 : IVec S_ 32 := constantI S_ 32 0#32
  let main_v20 : IVec S786432 32 := broadcastInDim S786432 ![] bcast_S_S786432 main_c_7
  let main_v21 : IVec S786432 1 := cmpi .sge main_arg6 main_v20
  let main_c_8 : IVec S_ 32 := constantI S_ 32 50432#32
  let main_v22 : IVec S786432 32 := broadcastInDim S786432 ![] bcast_S_S786432 main_c_8
  let main_v23 : IVec S786432 1 := cmpi .slt main_arg6 main_v22
  let main_v24 : IVec S786432 1 := andi main_v21 main_v23
  let main_v25 : IVec S794640 1 := concatenate S794640 0 [⟨S4096, main_v9⟩, ⟨S4096, main_v14⟩, ⟨S16, main_v19⟩, ⟨S786432, main_v24⟩] concatenates_S4096_S4096_S16_S786432_S794640_d0
  main_v25

def fn {F : FTy → Type} [FloatOps F] (main_arg0 : IVec S4096 32) (main_arg1 : IVec S4096 32) (main_arg2 : IVec S4096 32) (main_arg3 : IVec S16 32) (main_arg4 : FVec F S16 .f32) (main_arg5 : FVec F S16384x1024 .f32) (main_arg6 : IVec S786432 32) (main_arg7 : FVec F S16384x1024 .bf16) (main_arg8 : FVec F S16384x1024 .bf16) (main_arg9 : FVec F S16384x128 .f32) (main_arg10 : FVec F S16x256x256 .f32) (main_arg11 : FVec F S16x256x256 .f32) : IVec S794640 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 50176#32
  let main_v2 : IVec S4096 32 := broadcastInDim S4096 ![] bcast_S_S4096 main_c_0
  let main_v3 : IVec S4096 1 := cmpi .sle main_arg0 main_v2
  let main_v4 : IVec S4096 1 := andi main_v1 main_v3
  let main_c_1 : IVec S_ 32 := constantI S_ 32 7#32
  let main_v5 : IVec S4096 32 := broadcastInDim S4096 ![] bcast_S_S4096 main_c_1
  let main_v6 : IVec S4096 32 := andi main_arg0 main_v5
  let main_c_2 : IVec S_ 32 := constantI S_ 32 0#32
  let main_v7 : IVec S4096 32 := broadcastInDim S4096 ![] bcast_S_S4096 main_c_2
  let main_v8 : IVec S4096 1 := cmpi .eq main_v6 main_v7
  let main_v9 : IVec S4096 1 := andi main_v4 main_v8
  let main_c_3 : IVec S_ 32 := constantI S_ 32 0#32
  let main_v10 : IVec S4096 32 := broadcastInDim S4096 ![] bcast_S_S4096 main_c_3
  let main_v11 : IVec S4096 1 := cmpi .sge main_arg1 main_v10
  let main_c_4 : IVec S_ 32 := constantI S_ 32 64#32
  let main_v12 : IVec S4096 32 := broadcastInDim S4096 ![] bcast_S_S4096 main_c_4
  let main_v13 : IVec S4096 1 := cmpi .slt main_arg1 main_v12
  let main_v14 : IVec S4096 1 := andi main_v11 main_v13
  let main_c_5 : IVec S_ 32 := constantI S_ 32 0#32
  let main_v15 : IVec S16 32 := broadcastInDim S16 ![] bcast_S_S16 main_c_5
  let main_v16 : IVec S16 1 := cmpi .sge main_arg3 main_v15
  fn_part1 (F := F) main_arg3 main_arg6 main_v9 main_v14 main_v16
-- ==== Kernel.lean ====
abbrev S4096 : Shape := ⟨1, ![4096]⟩
abbrev S16 : Shape := ⟨1, ![16]⟩
abbrev S16384x1024 : Shape := ⟨2, ![16384, 1024]⟩
abbrev S786432 : Shape := ⟨1, ![786432]⟩
abbrev S16384x128 : Shape := ⟨2, ![16384, 128]⟩
abbrev S16x256x256 : Shape := ⟨3, ![16, 256, 256]⟩
abbrev S2048x128 : Shape := ⟨2, ![2048, 128]⟩
abbrev S1x256x256 : Shape := ⟨3, ![1, 256, 256]⟩
abbrev S50432x128 : Shape := ⟨2, ![50432, 128]⟩
abbrev S3x2048x128 : Shape := ⟨3, ![3, 2048, 128]⟩
abbrev S8x256x256 : Shape := ⟨3, ![8, 256, 256]⟩
abbrev S8x256x128 : Shape := ⟨3, ![8, 256, 128]⟩
abbrev S6144 : Shape := ⟨1, ![6144]⟩
abbrev S2 : Shape := ⟨1, ![2]⟩
abbrev S1x128 : Shape := ⟨2, ![1, 128]⟩
abbrev S256x128 : Shape := ⟨2, ![256, 128]⟩
abbrev S8x128 : Shape := ⟨2, ![8, 128]⟩
abbrev S1 : Shape := ⟨1, ![1]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩
abbrev S_ : Shape := ⟨0, ![]⟩
abbrev S512x128 : Shape := ⟨2, ![512, 128]⟩
abbrev S256x512 : Shape := ⟨2, ![256, 512]⟩
abbrev S1x1x128 : Shape := ⟨3, ![1, 1, 128]⟩

abbrev nBuf : Space → Nat
  | .hbm => 9
  | .vmem => 18
  | .smem => 7
  | _ => 0

abbrev bufTy : (tb : Table) → Fin (tcTables nBuf tb) → BufTy
  | .hbm, ⟨0, _⟩ => ⟨S16, .f32⟩
  | .hbm, ⟨1, _⟩ => ⟨S16384x1024, .f32⟩
  | .hbm, ⟨2, _⟩ => ⟨S786432, .i32⟩
  | .hbm, ⟨3, _⟩ => ⟨S16384x1024, .bf16⟩
  | .hbm, ⟨4, _⟩ => ⟨S16384x1024, .bf16⟩
  | .hbm, ⟨5, _⟩ => ⟨S16384x128, .f32⟩
  | .hbm, ⟨6, _⟩ => ⟨S16x256x256, .f32⟩
  | .hbm, ⟨7, _⟩ => ⟨S16x256x256, .f32⟩
  | .hbm, ⟨8, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S16384x128, .bf16⟩
  | .local _ .vmem, ⟨3, _⟩ => ⟨S16384x128, .bf16⟩
  | .local _ .vmem, ⟨4, _⟩ => ⟨S2048x128, .f32⟩
  | .local _ .vmem, ⟨5, _⟩ => ⟨S2048x128, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S2048x128, .bf16⟩
  | .local _ .vmem, ⟨11, _⟩ => ⟨S2048x128, .bf16⟩
  | .local _ .vmem, ⟨12, _⟩ => ⟨S50432x128, .f32⟩
  | .local _ .vmem, ⟨13, _⟩ => ⟨S3x2048x128, .f32⟩
  | .local _ .vmem, ⟨14, _⟩ => ⟨S16384x128, .bf16⟩
  | .local _ .vmem, ⟨15, _⟩ => ⟨S8x256x256, .f32⟩
  | .local _ .vmem, ⟨16, _⟩ => ⟨S8x256x256, .bf16⟩
  | .local _ .vmem, ⟨17, _⟩ => ⟨S8x256x128, .f32⟩
  | .local _ .smem, ⟨0, _⟩ => ⟨S4096, .i32⟩
  | .local _ .smem, ⟨1, _⟩ => ⟨S4096, .i32⟩
  | .local _ .smem, ⟨2, _⟩ => ⟨S4096, .i32⟩
  | .local _ .smem, ⟨3, _⟩ => ⟨S16, .i32⟩
  | .local _ .smem, ⟨4, _⟩ => ⟨S16, .f32⟩
  | .local _ .smem, ⟨5, _⟩ => ⟨S6144, .i32⟩
  | .local _ .smem, ⟨6, _⟩ => ⟨S6144, .i32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_arg11 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 4, rfl⟩
abbrev cc0_scratch6 : Ref sig .tc := ⟨.smem, 5, rfl⟩
abbrev cc0_scratch7 : Ref sig .tc := ⟨.smem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 17], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg1 : BitVec 32 := BitVec.ofNat 32 (i 1).val
  let c0_i32_12 : BitVec 32 := 0#32
  let v44 : BitVec 1 := Scalar.cmpi .eq arg1 c0_i32_12
  let arg0 : BitVec 32 := BitVec.ofNat 32 (i 0).val
  let c0_i32_13 : BitVec 32 := 0#32
  let v45 : BitVec 1 := Scalar.cmpi .eq arg0 c0_i32_13
  let v46 : BitVec 1 := Scalar.andi v44 v45
  let v47 : BitVec 32 := Scalar.extui v46
  let c0_i32_14 : BitVec 32 := 0#32
  let v48 : BitVec 1 := Scalar.cmpi .ne v47 c0_i32_14
  v48

@[reducible] def k0_t1_loop : Scf.Loop 32 :=
  let c0_i32_38 : BitVec 32 := 0#32
  let c197_i32 : BitVec 32 := 197#32
  let v87 : BitVec 32 := Scalar.addi c0_i32_38 c197_i32
  let c1_i32_39 : BitVec 32 := 1#32
  ⟨c0_i32_38, v87, c1_i32_39⟩
def k0_mult1 (k0_t1 : Fin k0_t1_loop.trips) : BitVec 32 :=
  let c0_i32_38 : BitVec 32 := 0#32
  let c1_i32_39 : BitVec 32 := 1#32
  let arg24 : BitVec 32 := Scf.iv c0_i32_38 c1_i32_39 k0_t1
  let c256_i32 : BitVec 32 := 256#32
  let v90 : BitVec 32 := Scalar.muli arg24 c256_i32
  v90
def k0_off1 (k0_t1 : Fin k0_t1_loop.trips) : Fin 2 → Nat :=
  let c0_i32_38 : BitVec 32 := 0#32
  let c1_i32_39 : BitVec 32 := 1#32
  let arg24 : BitVec 32 := Scf.iv c0_i32_38 c1_i32_39 k0_t1
  let c256_i32 : BitVec 32 := 256#32
  let v90 : BitVec 32 := Scalar.muli arg24 c256_i32
  let v91 : BitVec 32 := v90
  let v92 : Index := Scalar.indexCast v91
  let c0 : Index := 0#32
  ![v92.toNat, 0]
@[reducible] def k0_t2_loop : Scf.Loop 32 :=
  let c0_i32_41 : BitVec 32 := 0#32
  let c64_i32_42 : BitVec 32 := 64#32
  let v88 : BitVec 32 := Scalar.addi c0_i32_41 c64_i32_42
  let c1_i32_43 : BitVec 32 := 1#32
  ⟨c0_i32_41, v88, c1_i32_43⟩
def k0_mult2 (k0_t2 : Fin k0_t2_loop.trips) : BitVec 32 :=
  let c0_i32_41 : BitVec 32 := 0#32
  let c1_i32_43 : BitVec 32 := 1#32
  let arg24 : BitVec 32 := Scf.iv c0_i32_41 c1_i32_43 k0_t2
  let c256_i32 : BitVec 32 := 256#32
  let v90 : BitVec 32 := Scalar.muli arg24 c256_i32
  v90
def k0_off2 (k0_t2 : Fin k0_t2_loop.trips) : Fin 2 → Nat :=
  let c0_i32_41 : BitVec 32 := 0#32
  let c1_i32_43 : BitVec 32 := 1#32
  let arg24 : BitVec 32 := Scf.iv c0_i32_41 c1_i32_43 k0_t2
  let c256_i32 : BitVec 32 := 256#32
  let v90 : BitVec 32 := Scalar.muli arg24 c256_i32
  let v91 : BitVec 32 := v90
  let v92 : Index := Scalar.indexCast v91
  let c0 : Index := 0#32
  ![v92.toNat, 0]
def k0_cond2 (i : grid0.Coords) : BitVec 1 :=
  let arg1 : BitVec 32 := BitVec.ofNat 32 (i 1).val
  let c8_i32 : BitVec 32 := 8#32
  let v49 : BitVec 1 := Scalar.cmpi .eq arg1 c8_i32
  let v50 : BitVec 32 := Scalar.extui v49
  let c0_i32_15 : BitVec 32 := 0#32
  let v51 : BitVec 1 := Scalar.cmpi .ne v50 c0_i32_15
  v51

def k0_off3 (i : grid0.Coords) : Fin 1 → Nat :=
  let arg0 : BitVec 32 := BitVec.ofNat 32 (i 0).val
  let v95 : Index := Scalar.indexCast arg0
  ![v95.toNat]
def k0_off4 (i : grid0.Coords) (v96 : BitVec 32) : Fin 1 → Nat :=
  let arg0 : BitVec 32 := BitVec.ofNat 32 (i 0).val
  let c256_i32 : BitVec 32 := 256#32
  let v111 : BitVec 32 := Scalar.muli arg0 c256_i32
  let c1_i32_50 : BitVec 32 := 1#32
  let v112 : BitVec 32 := Scalar.subi v96 c1_i32_50
  let c0_i32_52 : BitVec 32 := 0#32
  let c0_i32_51 : BitVec 32 := 0#32
  let v113 : BitVec 32 := Scalar.maxsi c0_i32_52 c0_i32_51
  let v114 : BitVec 32 := Scalar.minsi v112 v113
  let v115 : BitVec 32 := Scalar.addi v111 v114
  let v116 : Index := Scalar.indexCast v115
  ![v116.toNat]
def k0_cond3 (v96 : BitVec 32) : BitVec 1 :=
  let c0_i32_40 : BitVec 32 := 0#32
  let v100 : BitVec 1 := Scalar.cmpi .sgt v96 c0_i32_40
  let v101 : BitVec 32 := Scalar.extui v100
  let c0_i32_41 : BitVec 32 := 0#32
  let v102 : BitVec 1 := Scalar.cmpi .ne v101 c0_i32_41
  v102

def k0_mult3 (v117 : BitVec 32) : BitVec 32 :=
  v117

def k0_off5 (i : grid0.Coords) (v96 : BitVec 32) : Fin 1 → Nat :=
  let arg0 : BitVec 32 := BitVec.ofNat 32 (i 0).val
  let c256_i32 : BitVec 32 := 256#32
  let v111 : BitVec 32 := Scalar.muli arg0 c256_i32
  let c1_i32_50 : BitVec 32 := 1#32
  let v112 : BitVec 32 := Scalar.subi v96 c1_i32_50
  let c0_i32_52 : BitVec 32 := 0#32
  let c0_i32_51 : BitVec 32 := 0#32
  let v113 : BitVec 32 := Scalar.maxsi c0_i32_52 c0_i32_51
  let v114 : BitVec 32 := Scalar.minsi v112 v113
  let v115 : BitVec 32 := Scalar.addi v111 v114
  let v119 : Index := Scalar.indexCast v115
  ![v119.toNat]
def k0_mult4 (v120 : BitVec 32) : BitVec 32 :=
  let c256_i32_53 : BitVec 32 := 256#32
  let v121 : BitVec 32 := Scalar.muli v120 c256_i32_53
  v121

def k0_off6 (v117 : BitVec 32) : Fin 2 → Nat :=
  let v118 : BitVec 32 := v117
  let v123 : Index := Scalar.indexCast v118
  let c0_54 : Index := 0#32
  ![v123.toNat, 0]

def k0_chk2 (i : grid0.Coords) (v96 : BitVec 32) (v117 : BitVec 32) : Prop :=
  (∀ (k0_h2 : k0_cond2 i = 1#1), ∀ (k0_h3 : k0_cond3 v96 = 1#1), 8 ∣ (k0_mult3 v117).toNat) ∧
  (∀ (k0_h2 : k0_cond2 i = 1#1), ∀ (k0_h3 : k0_cond3 v96 = 1#1), ∀ a, (k0_off6 v117) a + S256x128.size a ≤ S50432x128.size a)
theorem k0_mult3_dvd : ∀ (i : grid0.Coords) (v96 : BitVec 32) (v117 : BitVec 32) (k0_hw2 : k0_chk2 i v96 v117), ∀ (k0_h2 : k0_cond2 i = 1#1), ∀ (k0_h3 : k0_cond3 v96 = 1#1), 8 ∣ (k0_mult3 v117).toNat := fun i v96 v117 k0_hw2 k0_h2 k0_h3 => k0_hw2.1 k0_h2 k0_h3
theorem k0_off6_inb : ∀ (i : grid0.Coords) (v96 : BitVec 32) (v117 : BitVec 32) (k0_hw2 : k0_chk2 i v96 v117), ∀ (k0_h2 : k0_cond2 i = 1#1), ∀ (k0_h3 : k0_cond3 v96 = 1#1), ∀ a, (k0_off6 v117) a + S256x128.size a ≤ S50432x128.size a := fun i v96 v117 k0_hw2 k0_h2 k0_h3 => k0_hw2.2 k0_h2 k0_h3

def k0_off7 (v120 : BitVec 32) : Fin 2 → Nat :=
  let c256_i32_53 : BitVec 32 := 256#32
  let v121 : BitVec 32 := Scalar.muli v120 c256_i32_53
  let v122 : BitVec 32 := v121
  let v130 : Index := Scalar.indexCast v122
  let c0_56 : Index := 0#32
  ![v130.toNat, 0]

def k0_chk3 (i : grid0.Coords) (v96 : BitVec 32) (v120 : BitVec 32) : Prop :=
  (∀ (k0_h2 : k0_cond2 i = 1#1), ∀ (k0_h3 : k0_cond3 v96 = 1#1), 256 ∣ (k0_mult4 v120).toNat) ∧
  (∀ (k0_h2 : k0_cond2 i = 1#1), ∀ (k0_h3 : k0_cond3 v96 = 1#1), ∀ a, (k0_off7 v120) a + S256x128.size a ≤ S16384x128.size a)
theorem k0_mult4_dvd : ∀ (i : grid0.Coords) (v96 : BitVec 32) (v120 : BitVec 32) (k0_hw3 : k0_chk3 i v96 v120), ∀ (k0_h2 : k0_cond2 i = 1#1), ∀ (k0_h3 : k0_cond3 v96 = 1#1), 256 ∣ (k0_mult4 v120).toNat := fun i v96 v120 k0_hw3 k0_h2 k0_h3 => k0_hw3.1 k0_h2 k0_h3
theorem k0_off7_inb : ∀ (i : grid0.Coords) (v96 : BitVec 32) (v120 : BitVec 32) (k0_hw3 : k0_chk3 i v96 v120), ∀ (k0_h2 : k0_cond2 i = 1#1), ∀ (k0_h3 : k0_cond3 v96 = 1#1), ∀ a, (k0_off7 v120) a + S256x128.size a ≤ S16384x128.size a := fun i v96 v120 k0_hw3 k0_h2 k0_h3 => k0_hw3.2 k0_h2 k0_h3

def k0_off8 (i : grid0.Coords) (v96 : BitVec 32) : Fin 1 → Nat :=
  let arg0 : BitVec 32 := BitVec.ofNat 32 (i 0).val
  let c256_i32_61 : BitVec 32 := 256#32
  let v136 : BitVec 32 := Scalar.muli arg0 c256_i32_61
  let c1_i32_62 : BitVec 32 := 1#32
  let v137 : BitVec 32 := Scalar.subi v96 c1_i32_62
  let c0_i32_64 : BitVec 32 := 0#32
  let c1_i32_63 : BitVec 32 := 1#32
  let v138 : BitVec 32 := Scalar.maxsi c0_i32_64 c1_i32_63
  let v139 : BitVec 32 := Scalar.minsi v137 v138
  let v140 : BitVec 32 := Scalar.addi v136 v139
  let v141 : Index := Scalar.indexCast v140
  ![v141.toNat]
def k0_mult5 (v142 : BitVec 32) : BitVec 32 :=
  v142

def k0_off9 (i : grid0.Coords) (v96 : BitVec 32) : Fin 1 → Nat :=
  let arg0 : BitVec 32 := BitVec.ofNat 32 (i 0).val
  let c256_i32_61 : BitVec 32 := 256#32
  let v136 : BitVec 32 := Scalar.muli arg0 c256_i32_61
  let c1_i32_62 : BitVec 32 := 1#32
  let v137 : BitVec 32 := Scalar.subi v96 c1_i32_62
  let c0_i32_64 : BitVec 32 := 0#32
  let c1_i32_63 : BitVec 32 := 1#32
  let v138 : BitVec 32 := Scalar.maxsi c0_i32_64 c1_i32_63
  let v139 : BitVec 32 := Scalar.minsi v137 v138
  let v140 : BitVec 32 := Scalar.addi v136 v139
  let v144 : Index := Scalar.indexCast v140
  ![v144.toNat]
def k0_mult6 (v145 : BitVec 32) : BitVec 32 :=
  let c256_i32_65 : BitVec 32 := 256#32
  let v146 : BitVec 32 := Scalar.muli v145 c256_i32_65
  v146

def k0_off10 (v142 : BitVec 32) : Fin 2 → Nat :=
  let v143 : BitVec 32 := v142
  let v148 : Index := Scalar.indexCast v143
  let c0_66 : Index := 0#32
  ![v148.toNat, 0]

def k0_chk4 (i : grid0.Coords) (v96 : BitVec 32) (v142 : BitVec 32) : Prop :=
  (∀ (k0_h2 : k0_cond2 i = 1#1), ∀ (k0_h3 : k0_cond3 v96 = 1#1), 8 ∣ (k0_mult5 v142).toNat) ∧
  (∀ (k0_h2 : k0_cond2 i = 1#1), ∀ (k0_h3 : k0_cond3 v96 = 1#1), ∀ a, (k0_off10 v142) a + S256x128.size a ≤ S50432x128.size a)
theorem k0_mult5_dvd : ∀ (i : grid0.Coords) (v96 : BitVec 32) (v142 : BitVec 32) (k0_hw4 : k0_chk4 i v96 v142), ∀ (k0_h2 : k0_cond2 i = 1#1), ∀ (k0_h3 : k0_cond3 v96 = 1#1), 8 ∣ (k0_mult5 v142).toNat := fun i v96 v142 k0_hw4 k0_h2 k0_h3 => k0_hw4.1 k0_h2 k0_h3
theorem k0_off10_inb : ∀ (i : grid0.Coords) (v96 : BitVec 32) (v142 : BitVec 32) (k0_hw4 : k0_chk4 i v96 v142), ∀ (k0_h2 : k0_cond2 i = 1#1), ∀ (k0_h3 : k0_cond3 v96 = 1#1), ∀ a, (k0_off10 v142) a + S256x128.size a ≤ S50432x128.size a := fun i v96 v142 k0_hw4 k0_h2 k0_h3 => k0_hw4.2 k0_h2 k0_h3

def k0_off11 (v145 : BitVec 32) : Fin 2 → Nat :=
  let c256_i32_65 : BitVec 32 := 256#32
  let v146 : BitVec 32 := Scalar.muli v145 c256_i32_65
  let v147 : BitVec 32 := v146
  let v155 : Index := Scalar.indexCast v147
  let c0_68 : Index := 0#32
  ![v155.toNat, 0]

def k0_chk5 (i : grid0.Coords) (v96 : BitVec 32) (v145 : BitVec 32) : Prop :=
  (∀ (k0_h2 : k0_cond2 i = 1#1), ∀ (k0_h3 : k0_cond3 v96 = 1#1), 256 ∣ (k0_mult6 v145).toNat) ∧
  (∀ (k0_h2 : k0_cond2 i = 1#1), ∀ (k0_h3 : k0_cond3 v96 = 1#1), ∀ a, (k0_off11 v145) a + S256x128.size a ≤ S16384x128.size a)
theorem k0_mult6_dvd : ∀ (i : grid0.Coords) (v96 : BitVec 32) (v145 : BitVec 32) (k0_hw5 : k0_chk5 i v96 v145), ∀ (k0_h2 : k0_cond2 i = 1#1), ∀ (k0_h3 : k0_cond3 v96 = 1#1), 256 ∣ (k0_mult6 v145).toNat := fun i v96 v145 k0_hw5 k0_h2 k0_h3 => k0_hw5.1 k0_h2 k0_h3
theorem k0_off11_inb : ∀ (i : grid0.Coords) (v96 : BitVec 32) (v145 : BitVec 32) (k0_hw5 : k0_chk5 i v96 v145), ∀ (k0_h2 : k0_cond2 i = 1#1), ∀ (k0_h3 : k0_cond3 v96 = 1#1), ∀ a, (k0_off11 v145) a + S256x128.size a ≤ S16384x128.size a := fun i v96 v145 k0_hw5 k0_h2 k0_h3 => k0_hw5.2 k0_h2 k0_h3

def k0_off12 (i : grid0.Coords) (v96 : BitVec 32) : Fin 1 → Nat :=
  let arg0 : BitVec 32 := BitVec.ofNat 32 (i 0).val
  let c256_i32_72 : BitVec 32 := 256#32
  let v161 : BitVec 32 := Scalar.muli arg0 c256_i32_72
  let c1_i32_73 : BitVec 32 := 1#32
  let v162 : BitVec 32 := Scalar.subi v96 c1_i32_73
  let c0_i32_75 : BitVec 32 := 0#32
  let c2_i32_74 : BitVec 32 := 2#32
  let v163 : BitVec 32 := Scalar.maxsi c0_i32_75 c2_i32_74
  let v164 : BitVec 32 := Scalar.minsi v162 v163
  let v165 : BitVec 32 := Scalar.addi v161 v164
  let v166 : Index := Scalar.indexCast v165
  ![v166.toNat]
def k0_mult7 (v167 : BitVec 32) : BitVec 32 :=
  v167

def k0_off13 (i : grid0.Coords) (v96 : BitVec 32) : Fin 1 → Nat :=
  let arg0 : BitVec 32 := BitVec.ofNat 32 (i 0).val
  let c256_i32_72 : BitVec 32 := 256#32
  let v161 : BitVec 32 := Scalar.muli arg0 c256_i32_72
  let c1_i32_73 : BitVec 32 := 1#32
  let v162 : BitVec 32 := Scalar.subi v96 c1_i32_73
  let c0_i32_75 : BitVec 32 := 0#32
  let c2_i32_74 : BitVec 32 := 2#32
  let v163 : BitVec 32 := Scalar.maxsi c0_i32_75 c2_i32_74
  let v164 : BitVec 32 := Scalar.minsi v162 v163
  let v165 : BitVec 32 := Scalar.addi v161 v164
  let v169 : Index := Scalar.indexCast v165
  ![v169.toNat]
def k0_mult8 (v170 : BitVec 32) : BitVec 32 :=
  let c256_i32_76 : BitVec 32 := 256#32
  let v171 : BitVec 32 := Scalar.muli v170 c256_i32_76
  v171

def k0_off14 (v167 : BitVec 32) : Fin 2 → Nat :=
  let v168 : BitVec 32 := v167
  let v173 : Index := Scalar.indexCast v168
  let c0_77 : Index := 0#32
  ![v173.toNat, 0]

def k0_chk6 (i : grid0.Coords) (v96 : BitVec 32) (v167 : BitVec 32) : Prop :=
  (∀ (k0_h2 : k0_cond2 i = 1#1), ∀ (k0_h3 : k0_cond3 v96 = 1#1), 8 ∣ (k0_mult7 v167).toNat) ∧
  (∀ (k0_h2 : k0_cond2 i = 1#1), ∀ (k0_h3 : k0_cond3 v96 = 1#1), ∀ a, (k0_off14 v167) a + S256x128.size a ≤ S50432x128.size a)
theorem k0_mult7_dvd : ∀ (i : grid0.Coords) (v96 : BitVec 32) (v167 : BitVec 32) (k0_hw6 : k0_chk6 i v96 v167), ∀ (k0_h2 : k0_cond2 i = 1#1), ∀ (k0_h3 : k0_cond3 v96 = 1#1), 8 ∣ (k0_mult7 v167).toNat := fun i v96 v167 k0_hw6 k0_h2 k0_h3 => k0_hw6.1 k0_h2 k0_h3
theorem k0_off14_inb : ∀ (i : grid0.Coords) (v96 : BitVec 32) (v167 : BitVec 32) (k0_hw6 : k0_chk6 i v96 v167), ∀ (k0_h2 : k0_cond2 i = 1#1), ∀ (k0_h3 : k0_cond3 v96 = 1#1), ∀ a, (k0_off14 v167) a + S256x128.size a ≤ S50432x128.size a := fun i v96 v167 k0_hw6 k0_h2 k0_h3 => k0_hw6.2 k0_h2 k0_h3

def k0_off15 (v170 : BitVec 32) : Fin 2 → Nat :=
  let c256_i32_76 : BitVec 32 := 256#32
  let v171 : BitVec 32 := Scalar.muli v170 c256_i32_76
  let v172 : BitVec 32 := v171
  let v180 : Index := Scalar.indexCast v172
  let c0_79 : Index := 0#32
  ![v180.toNat, 0]

def k0_chk7 (i : grid0.Coords) (v96 : BitVec 32) (v170 : BitVec 32) : Prop :=
  (∀ (k0_h2 : k0_cond2 i = 1#1), ∀ (k0_h3 : k0_cond3 v96 = 1#1), 256 ∣ (k0_mult8 v170).toNat) ∧
  (∀ (k0_h2 : k0_cond2 i = 1#1), ∀ (k0_h3 : k0_cond3 v96 = 1#1), ∀ a, (k0_off15 v170) a + S256x128.size a ≤ S16384x128.size a)
theorem k0_mult8_dvd : ∀ (i : grid0.Coords) (v96 : BitVec 32) (v170 : BitVec 32) (k0_hw7 : k0_chk7 i v96 v170), ∀ (k0_h2 : k0_cond2 i = 1#1), ∀ (k0_h3 : k0_cond3 v96 = 1#1), 256 ∣ (k0_mult8 v170).toNat := fun i v96 v170 k0_hw7 k0_h2 k0_h3 => k0_hw7.1 k0_h2 k0_h3
theorem k0_off15_inb : ∀ (i : grid0.Coords) (v96 : BitVec 32) (v170 : BitVec 32) (k0_hw7 : k0_chk7 i v96 v170), ∀ (k0_h2 : k0_cond2 i = 1#1), ∀ (k0_h3 : k0_cond3 v96 = 1#1), ∀ a, (k0_off15 v170) a + S256x128.size a ≤ S16384x128.size a := fun i v96 v170 k0_hw7 k0_h2 k0_h3 => k0_hw7.2 k0_h2 k0_h3

def k0_off16 (i : grid0.Coords) (v96 : BitVec 32) : Fin 1 → Nat :=
  let arg0 : BitVec 32 := BitVec.ofNat 32 (i 0).val
  let c256_i32_83 : BitVec 32 := 256#32
  let v186 : BitVec 32 := Scalar.muli arg0 c256_i32_83
  let c1_i32_84 : BitVec 32 := 1#32
  let v187 : BitVec 32 := Scalar.subi v96 c1_i32_84
  let c0_i32_85 : BitVec 32 := 0#32
  let c3_i32 : BitVec 32 := 3#32
  let v188 : BitVec 32 := Scalar.maxsi c0_i32_85 c3_i32
  let v189 : BitVec 32 := Scalar.minsi v187 v188
  let v190 : BitVec 32 := Scalar.addi v186 v189
  let v191 : Index := Scalar.indexCast v190
  ![v191.toNat]
def k0_mult9 (v192 : BitVec 32) : BitVec 32 :=
  v192

def k0_off17 (i : grid0.Coords) (v96 : BitVec 32) : Fin 1 → Nat :=
  let arg0 : BitVec 32 := BitVec.ofNat 32 (i 0).val
  let c256_i32_83 : BitVec 32 := 256#32
  let v186 : BitVec 32 := Scalar.muli arg0 c256_i32_83
  let c1_i32_84 : BitVec 32 := 1#32
  let v187 : BitVec 32 := Scalar.subi v96 c1_i32_84
  let c0_i32_85 : BitVec 32 := 0#32
  let c3_i32 : BitVec 32 := 3#32
  let v188 : BitVec 32 := Scalar.maxsi c0_i32_85 c3_i32
  let v189 : BitVec 32 := Scalar.minsi v187 v188
  let v190 : BitVec 32 := Scalar.addi v186 v189
  let v194 : Index := Scalar.indexCast v190
  ![v194.toNat]
def k0_mult10 (v195 : BitVec 32) : BitVec 32 :=
  let c256_i32_86 : BitVec 32 := 256#32
  let v196 : BitVec 32 := Scalar.muli v195 c256_i32_86
  v196

def k0_off18 (v192 : BitVec 32) : Fin 2 → Nat :=
  let v193 : BitVec 32 := v192
  let v198 : Index := Scalar.indexCast v193
  let c0_87 : Index := 0#32
  ![v198.toNat, 0]

def k0_chk8 (i : grid0.Coords) (v96 : BitVec 32) (v192 : BitVec 32) : Prop :=
  (∀ (k0_h2 : k0_cond2 i = 1#1), ∀ (k0_h3 : k0_cond3 v96 = 1#1), 8 ∣ (k0_mult9 v192).toNat) ∧
  (∀ (k0_h2 : k0_cond2 i = 1#1), ∀ (k0_h3 : k0_cond3 v96 = 1#1), ∀ a, (k0_off18 v192) a + S256x128.size a ≤ S50432x128.size a)
theorem k0_mult9_dvd : ∀ (i : grid0.Coords) (v96 : BitVec 32) (v192 : BitVec 32) (k0_hw8 : k0_chk8 i v96 v192), ∀ (k0_h2 : k0_cond2 i = 1#1), ∀ (k0_h3 : k0_cond3 v96 = 1#1), 8 ∣ (k0_mult9 v192).toNat := fun i v96 v192 k0_hw8 k0_h2 k0_h3 => k0_hw8.1 k0_h2 k0_h3
theorem k0_off18_inb : ∀ (i : grid0.Coords) (v96 : BitVec 32) (v192 : BitVec 32) (k0_hw8 : k0_chk8 i v96 v192), ∀ (k0_h2 : k0_cond2 i = 1#1), ∀ (k0_h3 : k0_cond3 v96 = 1#1), ∀ a, (k0_off18 v192) a + S256x128.size a ≤ S50432x128.size a := fun i v96 v192 k0_hw8 k0_h2 k0_h3 => k0_hw8.2 k0_h2 k0_h3

def k0_off19 (v195 : BitVec 32) : Fin 2 → Nat :=
  let c256_i32_86 : BitVec 32 := 256#32
  let v196 : BitVec 32 := Scalar.muli v195 c256_i32_86
  let v197 : BitVec 32 := v196
  let v205 : Index := Scalar.indexCast v197
  let c0_89 : Index := 0#32
  ![v205.toNat, 0]

def k0_chk9 (i : grid0.Coords) (v96 : BitVec 32) (v195 : BitVec 32) : Prop :=
  (∀ (k0_h2 : k0_cond2 i = 1#1), ∀ (k0_h3 : k0_cond3 v96 = 1#1), 256 ∣ (k0_mult10 v195).toNat) ∧
  (∀ (k0_h2 : k0_cond2 i = 1#1), ∀ (k0_h3 : k0_cond3 v96 = 1#1), ∀ a, (k0_off19 v195) a + S256x128.size a ≤ S16384x128.size a)
theorem k0_mult10_dvd : ∀ (i : grid0.Coords) (v96 : BitVec 32) (v195 : BitVec 32) (k0_hw9 : k0_chk9 i v96 v195), ∀ (k0_h2 : k0_cond2 i = 1#1), ∀ (k0_h3 : k0_cond3 v96 = 1#1), 256 ∣ (k0_mult10 v195).toNat := fun i v96 v195 k0_hw9 k0_h2 k0_h3 => k0_hw9.1 k0_h2 k0_h3
theorem k0_off19_inb : ∀ (i : grid0.Coords) (v96 : BitVec 32) (v195 : BitVec 32) (k0_hw9 : k0_chk9 i v96 v195), ∀ (k0_h2 : k0_cond2 i = 1#1), ∀ (k0_h3 : k0_cond3 v96 = 1#1), ∀ a, (k0_off19 v195) a + S256x128.size a ≤ S16384x128.size a := fun i v96 v195 k0_hw9 k0_h2 k0_h3 => k0_hw9.2 k0_h2 k0_h3

def k0_off20 (i : grid0.Coords) (v96 : BitVec 32) : Fin 1 → Nat :=
  let arg0 : BitVec 32 := BitVec.ofNat 32 (i 0).val
  let c256_i32_93 : BitVec 32 := 256#32
  let v211 : BitVec 32 := Scalar.muli arg0 c256_i32_93
  let c1_i32_94 : BitVec 32 := 1#32
  let v212 : BitVec 32 := Scalar.subi v96 c1_i32_94
  let c0_i32_95 : BitVec 32 := 0#32
  let c4_i32 : BitVec 32 := 4#32
  let v213 : BitVec 32 := Scalar.maxsi c0_i32_95 c4_i32
  let v214 : BitVec 32 := Scalar.minsi v212 v213
  let v215 : BitVec 32 := Scalar.addi v211 v214
  let v216 : Index := Scalar.indexCast v215
  ![v216.toNat]
def k0_mult11 (v217 : BitVec 32) : BitVec 32 :=
  v217

def k0_off21 (i : grid0.Coords) (v96 : BitVec 32) : Fin 1 → Nat :=
  let arg0 : BitVec 32 := BitVec.ofNat 32 (i 0).val
  let c256_i32_93 : BitVec 32 := 256#32
  let v211 : BitVec 32 := Scalar.muli arg0 c256_i32_93
  let c1_i32_94 : BitVec 32 := 1#32
  let v212 : BitVec 32 := Scalar.subi v96 c1_i32_94
  let c0_i32_95 : BitVec 32 := 0#32
  let c4_i32 : BitVec 32 := 4#32
  let v213 : BitVec 32 := Scalar.maxsi c0_i32_95 c4_i32
  let v214 : BitVec 32 := Scalar.minsi v212 v213
  let v215 : BitVec 32 := Scalar.addi v211 v214
  let v219 : Index := Scalar.indexCast v215
  ![v219.toNat]
def k0_mult12 (v220 : BitVec 32) : BitVec 32 :=
  let c256_i32_96 : BitVec 32 := 256#32
  let v221 : BitVec 32 := Scalar.muli v220 c256_i32_96
  v221

def k0_off22 (v217 : BitVec 32) : Fin 2 → Nat :=
  let v218 : BitVec 32 := v217
  let v223 : Index := Scalar.indexCast v218
  let c0_97 : Index := 0#32
  ![v223.toNat, 0]

def k0_chk10 (i : grid0.Coords) (v96 : BitVec 32) (v217 : BitVec 32) : Prop :=
  (∀ (k0_h2 : k0_cond2 i = 1#1), ∀ (k0_h3 : k0_cond3 v96 = 1#1), 8 ∣ (k0_mult11 v217).toNat) ∧
  (∀ (k0_h2 : k0_cond2 i = 1#1), ∀ (k0_h3 : k0_cond3 v96 = 1#1), ∀ a, (k0_off22 v217) a + S256x128.size a ≤ S50432x128.size a)
theorem k0_mult11_dvd : ∀ (i : grid0.Coords) (v96 : BitVec 32) (v217 : BitVec 32) (k0_hw10 : k0_chk10 i v96 v217), ∀ (k0_h2 : k0_cond2 i = 1#1), ∀ (k0_h3 : k0_cond3 v96 = 1#1), 8 ∣ (k0_mult11 v217).toNat := fun i v96 v217 k0_hw10 k0_h2 k0_h3 => k0_hw10.1 k0_h2 k0_h3
theorem k0_off22_inb : ∀ (i : grid0.Coords) (v96 : BitVec 32) (v217 : BitVec 32) (k0_hw10 : k0_chk10 i v96 v217), ∀ (k0_h2 : k0_cond2 i = 1#1), ∀ (k0_h3 : k0_cond3 v96 = 1#1), ∀ a, (k0_off22 v217) a + S256x128.size a ≤ S50432x128.size a := fun i v96 v217 k0_hw10 k0_h2 k0_h3 => k0_hw10.2 k0_h2 k0_h3

def k0_off23 (v220 : BitVec 32) : Fin 2 → Nat :=
  let c256_i32_96 : BitVec 32 := 256#32
  let v221 : BitVec 32 := Scalar.muli v220 c256_i32_96
  let v222 : BitVec 32 := v221
  let v230 : Index := Scalar.indexCast v222
  let c0_99 : Index := 0#32
  ![v230.toNat, 0]

def k0_chk11 (i : grid0.Coords) (v96 : BitVec 32) (v220 : BitVec 32) : Prop :=
  (∀ (k0_h2 : k0_cond2 i = 1#1), ∀ (k0_h3 : k0_cond3 v96 = 1#1), 256 ∣ (k0_mult12 v220).toNat) ∧
  (∀ (k0_h2 : k0_cond2 i = 1#1), ∀ (k0_h3 : k0_cond3 v96 = 1#1), ∀ a, (k0_off23 v220) a + S256x128.size a ≤ S16384x128.size a)
theorem k0_mult12_dvd : ∀ (i : grid0.Coords) (v96 : BitVec 32) (v220 : BitVec 32) (k0_hw11 : k0_chk11 i v96 v220), ∀ (k0_h2 : k0_cond2 i = 1#1), ∀ (k0_h3 : k0_cond3 v96 = 1#1), 256 ∣ (k0_mult12 v220).toNat := fun i v96 v220 k0_hw11 k0_h2 k0_h3 => k0_hw11.1 k0_h2 k0_h3
theorem k0_off23_inb : ∀ (i : grid0.Coords) (v96 : BitVec 32) (v220 : BitVec 32) (k0_hw11 : k0_chk11 i v96 v220), ∀ (k0_h2 : k0_cond2 i = 1#1), ∀ (k0_h3 : k0_cond3 v96 = 1#1), ∀ a, (k0_off23 v220) a + S256x128.size a ≤ S16384x128.size a := fun i v96 v220 k0_hw11 k0_h2 k0_h3 => k0_hw11.2 k0_h2 k0_h3

def k0_off24 (i : grid0.Coords) (v96 : BitVec 32) : Fin 1 → Nat :=
  let arg0 : BitVec 32 := BitVec.ofNat 32 (i 0).val
  let c256_i32_103 : BitVec 32 := 256#32
  let v236 : BitVec 32 := Scalar.muli arg0 c256_i32_103
  let c1_i32_104 : BitVec 32 := 1#32
  let v237 : BitVec 32 := Scalar.subi v96 c1_i32_104
  let c0_i32_105 : BitVec 32 := 0#32
  let c5_i32 : BitVec 32 := 5#32
  let v238 : BitVec 32 := Scalar.maxsi c0_i32_105 c5_i32
  let v239 : BitVec 32 := Scalar.minsi v237 v238
  let v240 : BitVec 32 := Scalar.addi v236 v239
  let v241 : Index := Scalar.indexCast v240
  ![v241.toNat]
def k0_mult13 (v242 : BitVec 32) : BitVec 32 :=
  v242

def k0_off25 (i : grid0.Coords) (v96 : BitVec 32) : Fin 1 → Nat :=
  let arg0 : BitVec 32 := BitVec.ofNat 32 (i 0).val
  let c256_i32_103 : BitVec 32 := 256#32
  let v236 : BitVec 32 := Scalar.muli arg0 c256_i32_103
  let c1_i32_104 : BitVec 32 := 1#32
  let v237 : BitVec 32 := Scalar.subi v96 c1_i32_104
  let c0_i32_105 : BitVec 32 := 0#32
  let c5_i32 : BitVec 32 := 5#32
  let v238 : BitVec 32 := Scalar.maxsi c0_i32_105 c5_i32
  let v239 : BitVec 32 := Scalar.minsi v237 v238
  let v240 : BitVec 32 := Scalar.addi v236 v239
  let v244 : Index := Scalar.indexCast v240
  ![v244.toNat]
def k0_mult14 (v245 : BitVec 32) : BitVec 32 :=
  let c256_i32_106 : BitVec 32 := 256#32
  let v246 : BitVec 32 := Scalar.muli v245 c256_i32_106
  v246

def k0_off26 (v242 : BitVec 32) : Fin 2 → Nat :=
  let v243 : BitVec 32 := v242
  let v248 : Index := Scalar.indexCast v243
  let c0_107 : Index := 0#32
  ![v248.toNat, 0]

def k0_chk12 (i : grid0.Coords) (v96 : BitVec 32) (v242 : BitVec 32) : Prop :=
  (∀ (k0_h2 : k0_cond2 i = 1#1), ∀ (k0_h3 : k0_cond3 v96 = 1#1), 8 ∣ (k0_mult13 v242).toNat) ∧
  (∀ (k0_h2 : k0_cond2 i = 1#1), ∀ (k0_h3 : k0_cond3 v96 = 1#1), ∀ a, (k0_off26 v242) a + S256x128.size a ≤ S50432x128.size a)
theorem k0_mult13_dvd : ∀ (i : grid0.Coords) (v96 : BitVec 32) (v242 : BitVec 32) (k0_hw12 : k0_chk12 i v96 v242), ∀ (k0_h2 : k0_cond2 i = 1#1), ∀ (k0_h3 : k0_cond3 v96 = 1#1), 8 ∣ (k0_mult13 v242).toNat := fun i v96 v242 k0_hw12 k0_h2 k0_h3 => k0_hw12.1 k0_h2 k0_h3
theorem k0_off26_inb : ∀ (i : grid0.Coords) (v96 : BitVec 32) (v242 : BitVec 32) (k0_hw12 : k0_chk12 i v96 v242), ∀ (k0_h2 : k0_cond2 i = 1#1), ∀ (k0_h3 : k0_cond3 v96 = 1#1), ∀ a, (k0_off26 v242) a + S256x128.size a ≤ S50432x128.size a := fun i v96 v242 k0_hw12 k0_h2 k0_h3 => k0_hw12.2 k0_h2 k0_h3

def k0_off27 (v245 : BitVec 32) : Fin 2 → Nat :=
  let c256_i32_106 : BitVec 32 := 256#32
  let v246 : BitVec 32 := Scalar.muli v245 c256_i32_106
  let v247 : BitVec 32 := v246
  let v255 : Index := Scalar.indexCast v247
  let c0_109 : Index := 0#32
  ![v255.toNat, 0]

def k0_chk13 (i : grid0.Coords) (v96 : BitVec 32) (v245 : BitVec 32) : Prop :=
  (∀ (k0_h2 : k0_cond2 i = 1#1), ∀ (k0_h3 : k0_cond3 v96 = 1#1), 256 ∣ (k0_mult14 v245).toNat) ∧
  (∀ (k0_h2 : k0_cond2 i = 1#1), ∀ (k0_h3 : k0_cond3 v96 = 1#1), ∀ a, (k0_off27 v245) a + S256x128.size a ≤ S16384x128.size a)
theorem k0_mult14_dvd : ∀ (i : grid0.Coords) (v96 : BitVec 32) (v245 : BitVec 32) (k0_hw13 : k0_chk13 i v96 v245), ∀ (k0_h2 : k0_cond2 i = 1#1), ∀ (k0_h3 : k0_cond3 v96 = 1#1), 256 ∣ (k0_mult14 v245).toNat := fun i v96 v245 k0_hw13 k0_h2 k0_h3 => k0_hw13.1 k0_h2 k0_h3
theorem k0_off27_inb : ∀ (i : grid0.Coords) (v96 : BitVec 32) (v245 : BitVec 32) (k0_hw13 : k0_chk13 i v96 v245), ∀ (k0_h2 : k0_cond2 i = 1#1), ∀ (k0_h3 : k0_cond3 v96 = 1#1), ∀ a, (k0_off27 v245) a + S256x128.size a ≤ S16384x128.size a := fun i v96 v245 k0_hw13 k0_h2 k0_h3 => k0_hw13.2 k0_h2 k0_h3

def k0_off28 (i : grid0.Coords) (v96 : BitVec 32) : Fin 1 → Nat :=
  let arg0 : BitVec 32 := BitVec.ofNat 32 (i 0).val
  let c256_i32_113 : BitVec 32 := 256#32
  let v261 : BitVec 32 := Scalar.muli arg0 c256_i32_113
  let c1_i32_114 : BitVec 32 := 1#32
  let v262 : BitVec 32 := Scalar.subi v96 c1_i32_114
  let c0_i32_115 : BitVec 32 := 0#32
  let c6_i32 : BitVec 32 := 6#32
  let v263 : BitVec 32 := Scalar.maxsi c0_i32_115 c6_i32
  let v264 : BitVec 32 := Scalar.minsi v262 v263
  let v265 : BitVec 32 := Scalar.addi v261 v264
  let v266 : Index := Scalar.indexCast v265
  ![v266.toNat]
def k0_mult15 (v267 : BitVec 32) : BitVec 32 :=
  v267

def k0_off29 (i : grid0.Coords) (v96 : BitVec 32) : Fin 1 → Nat :=
  let arg0 : BitVec 32 := BitVec.ofNat 32 (i 0).val
  let c256_i32_113 : BitVec 32 := 256#32
  let v261 : BitVec 32 := Scalar.muli arg0 c256_i32_113
  let c1_i32_114 : BitVec 32 := 1#32
  let v262 : BitVec 32 := Scalar.subi v96 c1_i32_114
  let c0_i32_115 : BitVec 32 := 0#32
  let c6_i32 : BitVec 32 := 6#32
  let v263 : BitVec 32 := Scalar.maxsi c0_i32_115 c6_i32
  let v264 : BitVec 32 := Scalar.minsi v262 v263
  let v265 : BitVec 32 := Scalar.addi v261 v264
  let v269 : Index := Scalar.indexCast v265
  ![v269.toNat]
def k0_mult16 (v270 : BitVec 32) : BitVec 32 :=
  let c256_i32_116 : BitVec 32 := 256#32
  let v271 : BitVec 32 := Scalar.muli v270 c256_i32_116
  v271

def k0_off30 (v267 : BitVec 32) : Fin 2 → Nat :=
  let v268 : BitVec 32 := v267
  let v273 : Index := Scalar.indexCast v268
  let c0_117 : Index := 0#32
  ![v273.toNat, 0]

def k0_chk14 (i : grid0.Coords) (v96 : BitVec 32) (v267 : BitVec 32) : Prop :=
  (∀ (k0_h2 : k0_cond2 i = 1#1), ∀ (k0_h3 : k0_cond3 v96 = 1#1), 8 ∣ (k0_mult15 v267).toNat) ∧
  (∀ (k0_h2 : k0_cond2 i = 1#1), ∀ (k0_h3 : k0_cond3 v96 = 1#1), ∀ a, (k0_off30 v267) a + S256x128.size a ≤ S50432x128.size a)
theorem k0_mult15_dvd : ∀ (i : grid0.Coords) (v96 : BitVec 32) (v267 : BitVec 32) (k0_hw14 : k0_chk14 i v96 v267), ∀ (k0_h2 : k0_cond2 i = 1#1), ∀ (k0_h3 : k0_cond3 v96 = 1#1), 8 ∣ (k0_mult15 v267).toNat := fun i v96 v267 k0_hw14 k0_h2 k0_h3 => k0_hw14.1 k0_h2 k0_h3
theorem k0_off30_inb : ∀ (i : grid0.Coords) (v96 : BitVec 32) (v267 : BitVec 32) (k0_hw14 : k0_chk14 i v96 v267), ∀ (k0_h2 : k0_cond2 i = 1#1), ∀ (k0_h3 : k0_cond3 v96 = 1#1), ∀ a, (k0_off30 v267) a + S256x128.size a ≤ S50432x128.size a := fun i v96 v267 k0_hw14 k0_h2 k0_h3 => k0_hw14.2 k0_h2 k0_h3

def k0_off31 (v270 : BitVec 32) : Fin 2 → Nat :=
  let c256_i32_116 : BitVec 32 := 256#32
  let v271 : BitVec 32 := Scalar.muli v270 c256_i32_116
  let v272 : BitVec 32 := v271
  let v280 : Index := Scalar.indexCast v272
  let c0_119 : Index := 0#32
  ![v280.toNat, 0]

def k0_chk15 (i : grid0.Coords) (v96 : BitVec 32) (v270 : BitVec 32) : Prop :=
  (∀ (k0_h2 : k0_cond2 i = 1#1), ∀ (k0_h3 : k0_cond3 v96 = 1#1), 256 ∣ (k0_mult16 v270).toNat) ∧
  (∀ (k0_h2 : k0_cond2 i = 1#1), ∀ (k0_h3 : k0_cond3 v96 = 1#1), ∀ a, (k0_off31 v270) a + S256x128.size a ≤ S16384x128.size a)
theorem k0_mult16_dvd : ∀ (i : grid0.Coords) (v96 : BitVec 32) (v270 : BitVec 32) (k0_hw15 : k0_chk15 i v96 v270), ∀ (k0_h2 : k0_cond2 i = 1#1), ∀ (k0_h3 : k0_cond3 v96 = 1#1), 256 ∣ (k0_mult16 v270).toNat := fun i v96 v270 k0_hw15 k0_h2 k0_h3 => k0_hw15.1 k0_h2 k0_h3
theorem k0_off31_inb : ∀ (i : grid0.Coords) (v96 : BitVec 32) (v270 : BitVec 32) (k0_hw15 : k0_chk15 i v96 v270), ∀ (k0_h2 : k0_cond2 i = 1#1), ∀ (k0_h3 : k0_cond3 v96 = 1#1), ∀ a, (k0_off31 v270) a + S256x128.size a ≤ S16384x128.size a := fun i v96 v270 k0_hw15 k0_h2 k0_h3 => k0_hw15.2 k0_h2 k0_h3

def k0_off32 (i : grid0.Coords) (v96 : BitVec 32) : Fin 1 → Nat :=
  let arg0 : BitVec 32 := BitVec.ofNat 32 (i 0).val
  let c256_i32_123 : BitVec 32 := 256#32
  let v286 : BitVec 32 := Scalar.muli arg0 c256_i32_123
  let c1_i32_124 : BitVec 32 := 1#32
  let v287 : BitVec 32 := Scalar.subi v96 c1_i32_124
  let c0_i32_125 : BitVec 32 := 0#32
  let c7_i32 : BitVec 32 := 7#32
  let v288 : BitVec 32 := Scalar.maxsi c0_i32_125 c7_i32
  let v289 : BitVec 32 := Scalar.minsi v287 v288
  let v290 : BitVec 32 := Scalar.addi v286 v289
  let v291 : Index := Scalar.indexCast v290
  ![v291.toNat]
def k0_mult17 (v292 : BitVec 32) : BitVec 32 :=
  v292

def k0_off33 (i : grid0.Coords) (v96 : BitVec 32) : Fin 1 → Nat :=
  let arg0 : BitVec 32 := BitVec.ofNat 32 (i 0).val
  let c256_i32_123 : BitVec 32 := 256#32
  let v286 : BitVec 32 := Scalar.muli arg0 c256_i32_123
  let c1_i32_124 : BitVec 32 := 1#32
  let v287 : BitVec 32 := Scalar.subi v96 c1_i32_124
  let c0_i32_125 : BitVec 32 := 0#32
  let c7_i32 : BitVec 32 := 7#32
  let v288 : BitVec 32 := Scalar.maxsi c0_i32_125 c7_i32
  let v289 : BitVec 32 := Scalar.minsi v287 v288
  let v290 : BitVec 32 := Scalar.addi v286 v289
  let v294 : Index := Scalar.indexCast v290
  ![v294.toNat]
def k0_mult18 (v295 : BitVec 32) : BitVec 32 :=
  let c256_i32_126 : BitVec 32 := 256#32
  let v296 : BitVec 32 := Scalar.muli v295 c256_i32_126
  v296

def k0_off34 (v292 : BitVec 32) : Fin 2 → Nat :=
  let v293 : BitVec 32 := v292
  let v298 : Index := Scalar.indexCast v293
  let c0_127 : Index := 0#32
  ![v298.toNat, 0]

def k0_chk16 (i : grid0.Coords) (v96 : BitVec 32) (v292 : BitVec 32) : Prop :=
  (∀ (k0_h2 : k0_cond2 i = 1#1), ∀ (k0_h3 : k0_cond3 v96 = 1#1), 8 ∣ (k0_mult17 v292).toNat) ∧
  (∀ (k0_h2 : k0_cond2 i = 1#1), ∀ (k0_h3 : k0_cond3 v96 = 1#1), ∀ a, (k0_off34 v292) a + S256x128.size a ≤ S50432x128.size a)
theorem k0_mult17_dvd : ∀ (i : grid0.Coords) (v96 : BitVec 32) (v292 : BitVec 32) (k0_hw16 : k0_chk16 i v96 v292), ∀ (k0_h2 : k0_cond2 i = 1#1), ∀ (k0_h3 : k0_cond3 v96 = 1#1), 8 ∣ (k0_mult17 v292).toNat := fun i v96 v292 k0_hw16 k0_h2 k0_h3 => k0_hw16.1 k0_h2 k0_h3
theorem k0_off34_inb : ∀ (i : grid0.Coords) (v96 : BitVec 32) (v292 : BitVec 32) (k0_hw16 : k0_chk16 i v96 v292), ∀ (k0_h2 : k0_cond2 i = 1#1), ∀ (k0_h3 : k0_cond3 v96 = 1#1), ∀ a, (k0_off34 v292) a + S256x128.size a ≤ S50432x128.size a := fun i v96 v292 k0_hw16 k0_h2 k0_h3 => k0_hw16.2 k0_h2 k0_h3

def k0_off35 (v295 : BitVec 32) : Fin 2 → Nat :=
  let c256_i32_126 : BitVec 32 := 256#32
  let v296 : BitVec 32 := Scalar.muli v295 c256_i32_126
  let v297 : BitVec 32 := v296
  let v305 : Index := Scalar.indexCast v297
  let c0_129 : Index := 0#32
  ![v305.toNat, 0]

def k0_chk17 (i : grid0.Coords) (v96 : BitVec 32) (v295 : BitVec 32) : Prop :=
  (∀ (k0_h2 : k0_cond2 i = 1#1), ∀ (k0_h3 : k0_cond3 v96 = 1#1), 256 ∣ (k0_mult18 v295).toNat) ∧
  (∀ (k0_h2 : k0_cond2 i = 1#1), ∀ (k0_h3 : k0_cond3 v96 = 1#1), ∀ a, (k0_off35 v295) a + S256x128.size a ≤ S16384x128.size a)
theorem k0_mult18_dvd : ∀ (i : grid0.Coords) (v96 : BitVec 32) (v295 : BitVec 32) (k0_hw17 : k0_chk17 i v96 v295), ∀ (k0_h2 : k0_cond2 i = 1#1), ∀ (k0_h3 : k0_cond3 v96 = 1#1), 256 ∣ (k0_mult18 v295).toNat := fun i v96 v295 k0_hw17 k0_h2 k0_h3 => k0_hw17.1 k0_h2 k0_h3
theorem k0_off35_inb : ∀ (i : grid0.Coords) (v96 : BitVec 32) (v295 : BitVec 32) (k0_hw17 : k0_chk17 i v96 v295), ∀ (k0_h2 : k0_cond2 i = 1#1), ∀ (k0_h3 : k0_cond3 v96 = 1#1), ∀ a, (k0_off35 v295) a + S256x128.size a ≤ S16384x128.size a := fun i v96 v295 k0_hw17 k0_h2 k0_h3 => k0_hw17.2 k0_h2 k0_h3

@[reducible] def k0_t3_loop (v96 : BitVec 32) : Scf.Loop 32 :=
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_146 : BitVec 32 := 1#32
  ⟨c0_i32_143, v335, c1_i32_146⟩
def k0_off36 (i : grid0.Coords) (v96 : BitVec 32) (k0_t3 : Fin (k0_t3_loop v96).trips) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_149 : BitVec 32 := 8#32
  let v339 : BitVec 32 := Scalar.addi v338 c8_i32_149
  let c0_i32_150 : BitVec 32 := 0#32
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v346 : Index := Scalar.indexCast v345
  ![v346.toNat]
def k0_mult19 (v347 : BitVec 32) : BitVec 32 :=
  v347

def k0_off37 (i : grid0.Coords) (v96 : BitVec 32) (k0_t3 : Fin (k0_t3_loop v96).trips) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_149 : BitVec 32 := 8#32
  let v339 : BitVec 32 := Scalar.addi v338 c8_i32_149
  let c0_i32_150 : BitVec 32 := 0#32
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v349 : Index := Scalar.indexCast v345
  ![v349.toNat]
def k0_mult20 (v350 : BitVec 32) : BitVec 32 :=
  let c256_i32_154 : BitVec 32 := 256#32
  let v351 : BitVec 32 := Scalar.muli v350 c256_i32_154
  v351

def k0_off38 (i : grid0.Coords) (v96 : BitVec 32) (k0_t3 : Fin (k0_t3_loop v96).trips) (c0_i32_150 : BitVec 32) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_149 : BitVec 32 := 8#32
  let v339 : BitVec 32 := Scalar.addi v338 c8_i32_149
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v356 : Index := Scalar.indexCast v345
  ![v356.toNat]
def k0_mult21 (v367 : BitVec 32) : BitVec 32 :=
  v367

def k0_off39 (i : grid0.Coords) (v96 : BitVec 32) (k0_t3 : Fin (k0_t3_loop v96).trips) : Fin 1 → Nat :=
  let arg0 : BitVec 32 := BitVec.ofNat 32 (i 0).val
  let c256_i32_159 : BitVec 32 := 256#32
  let v361 : BitVec 32 := Scalar.muli arg0 c256_i32_159
  let c1_i32_160 : BitVec 32 := 1#32
  let v362 : BitVec 32 := Scalar.subi v96 c1_i32_160
  let c0_i32_161 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_157 : BitVec 32 := 8#32
  let v359 : BitVec 32 := Scalar.addi v338 c8_i32_157
  let c1_i32_158 : BitVec 32 := 1#32
  let v360 : BitVec 32 := Scalar.addi v359 c1_i32_158
  let v363 : BitVec 32 := Scalar.maxsi c0_i32_161 v360
  let v364 : BitVec 32 := Scalar.minsi v362 v363
  let v365 : BitVec 32 := Scalar.addi v361 v364
  let v369 : Index := Scalar.indexCast v365
  ![v369.toNat]
def k0_mult22 (v370 : BitVec 32) : BitVec 32 :=
  let c256_i32_162 : BitVec 32 := 256#32
  let v371 : BitVec 32 := Scalar.muli v370 c256_i32_162
  v371

def k0_off40 (i : grid0.Coords) (v96 : BitVec 32) (k0_t3 : Fin (k0_t3_loop v96).trips) (c1_i32_158 : BitVec 32) : Fin 1 → Nat :=
  let arg0 : BitVec 32 := BitVec.ofNat 32 (i 0).val
  let c256_i32_159 : BitVec 32 := 256#32
  let v361 : BitVec 32 := Scalar.muli arg0 c256_i32_159
  let c1_i32_160 : BitVec 32 := 1#32
  let v362 : BitVec 32 := Scalar.subi v96 c1_i32_160
  let c0_i32_161 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_157 : BitVec 32 := 8#32
  let v359 : BitVec 32 := Scalar.addi v338 c8_i32_157
  let v360 : BitVec 32 := Scalar.addi v359 c1_i32_158
  let v363 : BitVec 32 := Scalar.maxsi c0_i32_161 v360
  let v364 : BitVec 32 := Scalar.minsi v362 v363
  let v365 : BitVec 32 := Scalar.addi v361 v364
  let v376 : Index := Scalar.indexCast v365
  ![v376.toNat]
def k0_mult23 (v387 : BitVec 32) : BitVec 32 :=
  v387

def k0_off41 (i : grid0.Coords) (v96 : BitVec 32) (k0_t3 : Fin (k0_t3_loop v96).trips) : Fin 1 → Nat :=
  let arg0 : BitVec 32 := BitVec.ofNat 32 (i 0).val
  let c256_i32_167 : BitVec 32 := 256#32
  let v381 : BitVec 32 := Scalar.muli arg0 c256_i32_167
  let c1_i32_168 : BitVec 32 := 1#32
  let v382 : BitVec 32 := Scalar.subi v96 c1_i32_168
  let c0_i32_169 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_165 : BitVec 32 := 8#32
  let v379 : BitVec 32 := Scalar.addi v338 c8_i32_165
  let c2_i32_166 : BitVec 32 := 2#32
  let v380 : BitVec 32 := Scalar.addi v379 c2_i32_166
  let v383 : BitVec 32 := Scalar.maxsi c0_i32_169 v380
  let v384 : BitVec 32 := Scalar.minsi v382 v383
  let v385 : BitVec 32 := Scalar.addi v381 v384
  let v389 : Index := Scalar.indexCast v385
  ![v389.toNat]
def k0_mult24 (v390 : BitVec 32) : BitVec 32 :=
  let c256_i32_170 : BitVec 32 := 256#32
  let v391 : BitVec 32 := Scalar.muli v390 c256_i32_170
  v391

def k0_off42 (i : grid0.Coords) (v96 : BitVec 32) (k0_t3 : Fin (k0_t3_loop v96).trips) (c2_i32_166 : BitVec 32) : Fin 1 → Nat :=
  let arg0 : BitVec 32 := BitVec.ofNat 32 (i 0).val
  let c256_i32_167 : BitVec 32 := 256#32
  let v381 : BitVec 32 := Scalar.muli arg0 c256_i32_167
  let c1_i32_168 : BitVec 32 := 1#32
  let v382 : BitVec 32 := Scalar.subi v96 c1_i32_168
  let c0_i32_169 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_165 : BitVec 32 := 8#32
  let v379 : BitVec 32 := Scalar.addi v338 c8_i32_165
  let v380 : BitVec 32 := Scalar.addi v379 c2_i32_166
  let v383 : BitVec 32 := Scalar.maxsi c0_i32_169 v380
  let v384 : BitVec 32 := Scalar.minsi v382 v383
  let v385 : BitVec 32 := Scalar.addi v381 v384
  let v396 : Index := Scalar.indexCast v385
  ![v396.toNat]
def k0_mult25 (v407 : BitVec 32) : BitVec 32 :=
  v407

def k0_off43 (i : grid0.Coords) (v96 : BitVec 32) (k0_t3 : Fin (k0_t3_loop v96).trips) : Fin 1 → Nat :=
  let arg0 : BitVec 32 := BitVec.ofNat 32 (i 0).val
  let c256_i32_175 : BitVec 32 := 256#32
  let v401 : BitVec 32 := Scalar.muli arg0 c256_i32_175
  let c1_i32_176 : BitVec 32 := 1#32
  let v402 : BitVec 32 := Scalar.subi v96 c1_i32_176
  let c0_i32_177 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_173 : BitVec 32 := 8#32
  let v399 : BitVec 32 := Scalar.addi v338 c8_i32_173
  let c3_i32_174 : BitVec 32 := 3#32
  let v400 : BitVec 32 := Scalar.addi v399 c3_i32_174
  let v403 : BitVec 32 := Scalar.maxsi c0_i32_177 v400
  let v404 : BitVec 32 := Scalar.minsi v402 v403
  let v405 : BitVec 32 := Scalar.addi v401 v404
  let v409 : Index := Scalar.indexCast v405
  ![v409.toNat]
def k0_mult26 (v410 : BitVec 32) : BitVec 32 :=
  let c256_i32_178 : BitVec 32 := 256#32
  let v411 : BitVec 32 := Scalar.muli v410 c256_i32_178
  v411

def k0_off44 (i : grid0.Coords) (v96 : BitVec 32) (k0_t3 : Fin (k0_t3_loop v96).trips) (c3_i32_174 : BitVec 32) : Fin 1 → Nat :=
  let arg0 : BitVec 32 := BitVec.ofNat 32 (i 0).val
  let c256_i32_175 : BitVec 32 := 256#32
  let v401 : BitVec 32 := Scalar.muli arg0 c256_i32_175
  let c1_i32_176 : BitVec 32 := 1#32
  let v402 : BitVec 32 := Scalar.subi v96 c1_i32_176
  let c0_i32_177 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_173 : BitVec 32 := 8#32
  let v399 : BitVec 32 := Scalar.addi v338 c8_i32_173
  let v400 : BitVec 32 := Scalar.addi v399 c3_i32_174
  let v403 : BitVec 32 := Scalar.maxsi c0_i32_177 v400
  let v404 : BitVec 32 := Scalar.minsi v402 v403
  let v405 : BitVec 32 := Scalar.addi v401 v404
  let v416 : Index := Scalar.indexCast v405
  ![v416.toNat]
def k0_mult27 (v427 : BitVec 32) : BitVec 32 :=
  v427

def k0_off45 (i : grid0.Coords) (v96 : BitVec 32) (k0_t3 : Fin (k0_t3_loop v96).trips) : Fin 1 → Nat :=
  let arg0 : BitVec 32 := BitVec.ofNat 32 (i 0).val
  let c256_i32_183 : BitVec 32 := 256#32
  let v421 : BitVec 32 := Scalar.muli arg0 c256_i32_183
  let c1_i32_184 : BitVec 32 := 1#32
  let v422 : BitVec 32 := Scalar.subi v96 c1_i32_184
  let c0_i32_185 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_181 : BitVec 32 := 8#32
  let v419 : BitVec 32 := Scalar.addi v338 c8_i32_181
  let c4_i32_182 : BitVec 32 := 4#32
  let v420 : BitVec 32 := Scalar.addi v419 c4_i32_182
  let v423 : BitVec 32 := Scalar.maxsi c0_i32_185 v420
  let v424 : BitVec 32 := Scalar.minsi v422 v423
  let v425 : BitVec 32 := Scalar.addi v421 v424
  let v429 : Index := Scalar.indexCast v425
  ![v429.toNat]
def k0_mult28 (v430 : BitVec 32) : BitVec 32 :=
  let c256_i32_186 : BitVec 32 := 256#32
  let v431 : BitVec 32 := Scalar.muli v430 c256_i32_186
  v431

def k0_off46 (i : grid0.Coords) (v96 : BitVec 32) (k0_t3 : Fin (k0_t3_loop v96).trips) (c4_i32_182 : BitVec 32) : Fin 1 → Nat :=
  let arg0 : BitVec 32 := BitVec.ofNat 32 (i 0).val
  let c256_i32_183 : BitVec 32 := 256#32
  let v421 : BitVec 32 := Scalar.muli arg0 c256_i32_183
  let c1_i32_184 : BitVec 32 := 1#32
  let v422 : BitVec 32 := Scalar.subi v96 c1_i32_184
  let c0_i32_185 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_181 : BitVec 32 := 8#32
  let v419 : BitVec 32 := Scalar.addi v338 c8_i32_181
  let v420 : BitVec 32 := Scalar.addi v419 c4_i32_182
  let v423 : BitVec 32 := Scalar.maxsi c0_i32_185 v420
  let v424 : BitVec 32 := Scalar.minsi v422 v423
  let v425 : BitVec 32 := Scalar.addi v421 v424
  let v436 : Index := Scalar.indexCast v425
  ![v436.toNat]
def k0_mult29 (v447 : BitVec 32) : BitVec 32 :=
  v447

def k0_off47 (i : grid0.Coords) (v96 : BitVec 32) (k0_t3 : Fin (k0_t3_loop v96).trips) : Fin 1 → Nat :=
  let arg0 : BitVec 32 := BitVec.ofNat 32 (i 0).val
  let c256_i32_191 : BitVec 32 := 256#32
  let v441 : BitVec 32 := Scalar.muli arg0 c256_i32_191
  let c1_i32_192 : BitVec 32 := 1#32
  let v442 : BitVec 32 := Scalar.subi v96 c1_i32_192
  let c0_i32_193 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_189 : BitVec 32 := 8#32
  let v439 : BitVec 32 := Scalar.addi v338 c8_i32_189
  let c5_i32_190 : BitVec 32 := 5#32
  let v440 : BitVec 32 := Scalar.addi v439 c5_i32_190
  let v443 : BitVec 32 := Scalar.maxsi c0_i32_193 v440
  let v444 : BitVec 32 := Scalar.minsi v442 v443
  let v445 : BitVec 32 := Scalar.addi v441 v444
  let v449 : Index := Scalar.indexCast v445
  ![v449.toNat]
def k0_mult30 (v450 : BitVec 32) : BitVec 32 :=
  let c256_i32_194 : BitVec 32 := 256#32
  let v451 : BitVec 32 := Scalar.muli v450 c256_i32_194
  v451

def k0_off48 (i : grid0.Coords) (v96 : BitVec 32) (k0_t3 : Fin (k0_t3_loop v96).trips) (c5_i32_190 : BitVec 32) : Fin 1 → Nat :=
  let arg0 : BitVec 32 := BitVec.ofNat 32 (i 0).val
  let c256_i32_191 : BitVec 32 := 256#32
  let v441 : BitVec 32 := Scalar.muli arg0 c256_i32_191
  let c1_i32_192 : BitVec 32 := 1#32
  let v442 : BitVec 32 := Scalar.subi v96 c1_i32_192
  let c0_i32_193 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_189 : BitVec 32 := 8#32
  let v439 : BitVec 32 := Scalar.addi v338 c8_i32_189
  let v440 : BitVec 32 := Scalar.addi v439 c5_i32_190
  let v443 : BitVec 32 := Scalar.maxsi c0_i32_193 v440
  let v444 : BitVec 32 := Scalar.minsi v442 v443
  let v445 : BitVec 32 := Scalar.addi v441 v444
  let v456 : Index := Scalar.indexCast v445
  ![v456.toNat]
def k0_mult31 (v467 : BitVec 32) : BitVec 32 :=
  v467

def k0_off49 (i : grid0.Coords) (v96 : BitVec 32) (k0_t3 : Fin (k0_t3_loop v96).trips) : Fin 1 → Nat :=
  let arg0 : BitVec 32 := BitVec.ofNat 32 (i 0).val
  let c256_i32_199 : BitVec 32 := 256#32
  let v461 : BitVec 32 := Scalar.muli arg0 c256_i32_199
  let c1_i32_200 : BitVec 32 := 1#32
  let v462 : BitVec 32 := Scalar.subi v96 c1_i32_200
  let c0_i32_201 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_197 : BitVec 32 := 8#32
  let v459 : BitVec 32 := Scalar.addi v338 c8_i32_197
  let c6_i32_198 : BitVec 32 := 6#32
  let v460 : BitVec 32 := Scalar.addi v459 c6_i32_198
  let v463 : BitVec 32 := Scalar.maxsi c0_i32_201 v460
  let v464 : BitVec 32 := Scalar.minsi v462 v463
  let v465 : BitVec 32 := Scalar.addi v461 v464
  let v469 : Index := Scalar.indexCast v465
  ![v469.toNat]
def k0_mult32 (v470 : BitVec 32) : BitVec 32 :=
  let c256_i32_202 : BitVec 32 := 256#32
  let v471 : BitVec 32 := Scalar.muli v470 c256_i32_202
  v471

def k0_off50 (i : grid0.Coords) (v96 : BitVec 32) (k0_t3 : Fin (k0_t3_loop v96).trips) (c6_i32_198 : BitVec 32) : Fin 1 → Nat :=
  let arg0 : BitVec 32 := BitVec.ofNat 32 (i 0).val
  let c256_i32_199 : BitVec 32 := 256#32
  let v461 : BitVec 32 := Scalar.muli arg0 c256_i32_199
  let c1_i32_200 : BitVec 32 := 1#32
  let v462 : BitVec 32 := Scalar.subi v96 c1_i32_200
  let c0_i32_201 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_197 : BitVec 32 := 8#32
  let v459 : BitVec 32 := Scalar.addi v338 c8_i32_197
  let v460 : BitVec 32 := Scalar.addi v459 c6_i32_198
  let v463 : BitVec 32 := Scalar.maxsi c0_i32_201 v460
  let v464 : BitVec 32 := Scalar.minsi v462 v463
  let v465 : BitVec 32 := Scalar.addi v461 v464
  let v476 : Index := Scalar.indexCast v465
  ![v476.toNat]
def k0_mult33 (v487 : BitVec 32) : BitVec 32 :=
  v487

def k0_off51 (i : grid0.Coords) (v96 : BitVec 32) (k0_t3 : Fin (k0_t3_loop v96).trips) : Fin 1 → Nat :=
  let arg0 : BitVec 32 := BitVec.ofNat 32 (i 0).val
  let c256_i32_207 : BitVec 32 := 256#32
  let v481 : BitVec 32 := Scalar.muli arg0 c256_i32_207
  let c1_i32_208 : BitVec 32 := 1#32
  let v482 : BitVec 32 := Scalar.subi v96 c1_i32_208
  let c0_i32_209 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_205 : BitVec 32 := 8#32
  let v479 : BitVec 32 := Scalar.addi v338 c8_i32_205
  let c7_i32_206 : BitVec 32 := 7#32
  let v480 : BitVec 32 := Scalar.addi v479 c7_i32_206
  let v483 : BitVec 32 := Scalar.maxsi c0_i32_209 v480
  let v484 : BitVec 32 := Scalar.minsi v482 v483
  let v485 : BitVec 32 := Scalar.addi v481 v484
  let v489 : Index := Scalar.indexCast v485
  ![v489.toNat]
def k0_mult34 (v490 : BitVec 32) : BitVec 32 :=
  let c256_i32_210 : BitVec 32 := 256#32
  let v491 : BitVec 32 := Scalar.muli v490 c256_i32_210
  v491

def k0_off52 (i : grid0.Coords) (v96 : BitVec 32) (k0_t3 : Fin (k0_t3_loop v96).trips) : Fin 1 → Nat :=
  let arg0 : BitVec 32 := BitVec.ofNat 32 (i 0).val
  let c256_i32_207 : BitVec 32 := 256#32
  let v481 : BitVec 32 := Scalar.muli arg0 c256_i32_207
  let c1_i32_208 : BitVec 32 := 1#32
  let v482 : BitVec 32 := Scalar.subi v96 c1_i32_208
  let c0_i32_209 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_205 : BitVec 32 := 8#32
  let v479 : BitVec 32 := Scalar.addi v338 c8_i32_205
  let c7_i32_206 : BitVec 32 := 7#32
  let v480 : BitVec 32 := Scalar.addi v479 c7_i32_206
  let v483 : BitVec 32 := Scalar.maxsi c0_i32_209 v480
  let v484 : BitVec 32 := Scalar.minsi v482 v483
  let v485 : BitVec 32 := Scalar.addi v481 v484
  let v496 : Index := Scalar.indexCast v485
  ![v496.toNat]
def k0_off53 (i : grid0.Coords) (v96 : BitVec 32) (k0_t3 : Fin (k0_t3_loop v96).trips) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_213 : BitVec 32 := 8#32
  let v499 : BitVec 32 := Scalar.subi v338 c8_i32_213
  let c0_i32_214 : BitVec 32 := 0#32
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v506 : Index := Scalar.indexCast v505
  ![v506.toNat]
def k0_mult35 (v507 : BitVec 32) : BitVec 32 :=
  v507

def k0_off54 (i : grid0.Coords) (v96 : BitVec 32) (k0_t3 : Fin (k0_t3_loop v96).trips) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_213 : BitVec 32 := 8#32
  let v499 : BitVec 32 := Scalar.subi v338 c8_i32_213
  let c0_i32_214 : BitVec 32 := 0#32
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v509 : Index := Scalar.indexCast v505
  ![v509.toNat]
def k0_mult36 (v510 : BitVec 32) : BitVec 32 :=
  let c256_i32_218 : BitVec 32 := 256#32
  let v511 : BitVec 32 := Scalar.muli v510 c256_i32_218
  v511

def k0_off55 (i : grid0.Coords) (v96 : BitVec 32) (k0_t3 : Fin (k0_t3_loop v96).trips) (c0_i32_214 : BitVec 32) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_213 : BitVec 32 := 8#32
  let v499 : BitVec 32 := Scalar.subi v338 c8_i32_213
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v516 : Index := Scalar.indexCast v505
  ![v516.toNat]
def k0_mult37 (v527 : BitVec 32) : BitVec 32 :=
  v527

def k0_off56 (i : grid0.Coords) (v96 : BitVec 32) (k0_t3 : Fin (k0_t3_loop v96).trips) : Fin 1 → Nat :=
  let arg0 : BitVec 32 := BitVec.ofNat 32 (i 0).val
  let c256_i32_223 : BitVec 32 := 256#32
  let v521 : BitVec 32 := Scalar.muli arg0 c256_i32_223
  let c1_i32_224 : BitVec 32 := 1#32
  let v522 : BitVec 32 := Scalar.subi v96 c1_i32_224
  let c0_i32_225 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_221 : BitVec 32 := 8#32
  let v519 : BitVec 32 := Scalar.subi v338 c8_i32_221
  let c1_i32_222 : BitVec 32 := 1#32
  let v520 : BitVec 32 := Scalar.addi v519 c1_i32_222
  let v523 : BitVec 32 := Scalar.maxsi c0_i32_225 v520
  let v524 : BitVec 32 := Scalar.minsi v522 v523
  let v525 : BitVec 32 := Scalar.addi v521 v524
  let v529 : Index := Scalar.indexCast v525
  ![v529.toNat]
def k0_mult38 (v530 : BitVec 32) : BitVec 32 :=
  let c256_i32_226 : BitVec 32 := 256#32
  let v531 : BitVec 32 := Scalar.muli v530 c256_i32_226
  v531

def k0_off57 (i : grid0.Coords) (v96 : BitVec 32) (k0_t3 : Fin (k0_t3_loop v96).trips) (c1_i32_222 : BitVec 32) : Fin 1 → Nat :=
  let arg0 : BitVec 32 := BitVec.ofNat 32 (i 0).val
  let c256_i32_223 : BitVec 32 := 256#32
  let v521 : BitVec 32 := Scalar.muli arg0 c256_i32_223
  let c1_i32_224 : BitVec 32 := 1#32
  let v522 : BitVec 32 := Scalar.subi v96 c1_i32_224
  let c0_i32_225 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_221 : BitVec 32 := 8#32
  let v519 : BitVec 32 := Scalar.subi v338 c8_i32_221
  let v520 : BitVec 32 := Scalar.addi v519 c1_i32_222
  let v523 : BitVec 32 := Scalar.maxsi c0_i32_225 v520
  let v524 : BitVec 32 := Scalar.minsi v522 v523
  let v525 : BitVec 32 := Scalar.addi v521 v524
  let v536 : Index := Scalar.indexCast v525
  ![v536.toNat]
def k0_mult39 (v547 : BitVec 32) : BitVec 32 :=
  v547

def k0_off58 (i : grid0.Coords) (v96 : BitVec 32) (k0_t3 : Fin (k0_t3_loop v96).trips) : Fin 1 → Nat :=
  let arg0 : BitVec 32 := BitVec.ofNat 32 (i 0).val
  let c256_i32_231 : BitVec 32 := 256#32
  let v541 : BitVec 32 := Scalar.muli arg0 c256_i32_231
  let c1_i32_232 : BitVec 32 := 1#32
  let v542 : BitVec 32 := Scalar.subi v96 c1_i32_232
  let c0_i32_233 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_229 : BitVec 32 := 8#32
  let v539 : BitVec 32 := Scalar.subi v338 c8_i32_229
  let c2_i32_230 : BitVec 32 := 2#32
  let v540 : BitVec 32 := Scalar.addi v539 c2_i32_230
  let v543 : BitVec 32 := Scalar.maxsi c0_i32_233 v540
  let v544 : BitVec 32 := Scalar.minsi v542 v543
  let v545 : BitVec 32 := Scalar.addi v541 v544
  let v549 : Index := Scalar.indexCast v545
  ![v549.toNat]
def k0_mult40 (v550 : BitVec 32) : BitVec 32 :=
  let c256_i32_234 : BitVec 32 := 256#32
  let v551 : BitVec 32 := Scalar.muli v550 c256_i32_234
  v551

def k0_off59 (i : grid0.Coords) (v96 : BitVec 32) (k0_t3 : Fin (k0_t3_loop v96).trips) (c2_i32_230 : BitVec 32) : Fin 1 → Nat :=
  let arg0 : BitVec 32 := BitVec.ofNat 32 (i 0).val
  let c256_i32_231 : BitVec 32 := 256#32
  let v541 : BitVec 32 := Scalar.muli arg0 c256_i32_231
  let c1_i32_232 : BitVec 32 := 1#32
  let v542 : BitVec 32 := Scalar.subi v96 c1_i32_232
  let c0_i32_233 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_229 : BitVec 32 := 8#32
  let v539 : BitVec 32 := Scalar.subi v338 c8_i32_229
  let v540 : BitVec 32 := Scalar.addi v539 c2_i32_230
  let v543 : BitVec 32 := Scalar.maxsi c0_i32_233 v540
  let v544 : BitVec 32 := Scalar.minsi v542 v543
  let v545 : BitVec 32 := Scalar.addi v541 v544
  let v556 : Index := Scalar.indexCast v545
  ![v556.toNat]
def k0_mult41 (v567 : BitVec 32) : BitVec 32 :=
  v567

def k0_off60 (i : grid0.Coords) (v96 : BitVec 32) (k0_t3 : Fin (k0_t3_loop v96).trips) : Fin 1 → Nat :=
  let arg0 : BitVec 32 := BitVec.ofNat 32 (i 0).val
  let c256_i32_239 : BitVec 32 := 256#32
  let v561 : BitVec 32 := Scalar.muli arg0 c256_i32_239
  let c1_i32_240 : BitVec 32 := 1#32
  let v562 : BitVec 32 := Scalar.subi v96 c1_i32_240
  let c0_i32_241 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_237 : BitVec 32 := 8#32
  let v559 : BitVec 32 := Scalar.subi v338 c8_i32_237
  let c3_i32_238 : BitVec 32 := 3#32
  let v560 : BitVec 32 := Scalar.addi v559 c3_i32_238
  let v563 : BitVec 32 := Scalar.maxsi c0_i32_241 v560
  let v564 : BitVec 32 := Scalar.minsi v562 v563
  let v565 : BitVec 32 := Scalar.addi v561 v564
  let v569 : Index := Scalar.indexCast v565
  ![v569.toNat]
def k0_mult42 (v570 : BitVec 32) : BitVec 32 :=
  let c256_i32_242 : BitVec 32 := 256#32
  let v571 : BitVec 32 := Scalar.muli v570 c256_i32_242
  v571

def k0_off61 (i : grid0.Coords) (v96 : BitVec 32) (k0_t3 : Fin (k0_t3_loop v96).trips) (c3_i32_238 : BitVec 32) : Fin 1 → Nat :=
  let arg0 : BitVec 32 := BitVec.ofNat 32 (i 0).val
  let c256_i32_239 : BitVec 32 := 256#32
  let v561 : BitVec 32 := Scalar.muli arg0 c256_i32_239
  let c1_i32_240 : BitVec 32 := 1#32
  let v562 : BitVec 32 := Scalar.subi v96 c1_i32_240
  let c0_i32_241 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_237 : BitVec 32 := 8#32
  let v559 : BitVec 32 := Scalar.subi v338 c8_i32_237
  let v560 : BitVec 32 := Scalar.addi v559 c3_i32_238
  let v563 : BitVec 32 := Scalar.maxsi c0_i32_241 v560
  let v564 : BitVec 32 := Scalar.minsi v562 v563
  let v565 : BitVec 32 := Scalar.addi v561 v564
  let v576 : Index := Scalar.indexCast v565
  ![v576.toNat]
def k0_mult43 (v587 : BitVec 32) : BitVec 32 :=
  v587

def k0_off62 (i : grid0.Coords) (v96 : BitVec 32) (k0_t3 : Fin (k0_t3_loop v96).trips) : Fin 1 → Nat :=
  let arg0 : BitVec 32 := BitVec.ofNat 32 (i 0).val
  let c256_i32_247 : BitVec 32 := 256#32
  let v581 : BitVec 32 := Scalar.muli arg0 c256_i32_247
  let c1_i32_248 : BitVec 32 := 1#32
  let v582 : BitVec 32 := Scalar.subi v96 c1_i32_248
  let c0_i32_249 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_245 : BitVec 32 := 8#32
  let v579 : BitVec 32 := Scalar.subi v338 c8_i32_245
  let c4_i32_246 : BitVec 32 := 4#32
  let v580 : BitVec 32 := Scalar.addi v579 c4_i32_246
  let v583 : BitVec 32 := Scalar.maxsi c0_i32_249 v580
  let v584 : BitVec 32 := Scalar.minsi v582 v583
  let v585 : BitVec 32 := Scalar.addi v581 v584
  let v589 : Index := Scalar.indexCast v585
  ![v589.toNat]
def k0_mult44 (v590 : BitVec 32) : BitVec 32 :=
  let c256_i32_250 : BitVec 32 := 256#32
  let v591 : BitVec 32 := Scalar.muli v590 c256_i32_250
  v591

def k0_off63 (i : grid0.Coords) (v96 : BitVec 32) (k0_t3 : Fin (k0_t3_loop v96).trips) (c4_i32_246 : BitVec 32) : Fin 1 → Nat :=
  let arg0 : BitVec 32 := BitVec.ofNat 32 (i 0).val
  let c256_i32_247 : BitVec 32 := 256#32
  let v581 : BitVec 32 := Scalar.muli arg0 c256_i32_247
  let c1_i32_248 : BitVec 32 := 1#32
  let v582 : BitVec 32 := Scalar.subi v96 c1_i32_248
  let c0_i32_249 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_245 : BitVec 32 := 8#32
  let v579 : BitVec 32 := Scalar.subi v338 c8_i32_245
  let v580 : BitVec 32 := Scalar.addi v579 c4_i32_246
  let v583 : BitVec 32 := Scalar.maxsi c0_i32_249 v580
  let v584 : BitVec 32 := Scalar.minsi v582 v583
  let v585 : BitVec 32 := Scalar.addi v581 v584
  let v596 : Index := Scalar.indexCast v585
  ![v596.toNat]
def k0_mult45 (v607 : BitVec 32) : BitVec 32 :=
  v607

def k0_off64 (i : grid0.Coords) (v96 : BitVec 32) (k0_t3 : Fin (k0_t3_loop v96).trips) : Fin 1 → Nat :=
  let arg0 : BitVec 32 := BitVec.ofNat 32 (i 0).val
  let c256_i32_255 : BitVec 32 := 256#32
  let v601 : BitVec 32 := Scalar.muli arg0 c256_i32_255
  let c1_i32_256 : BitVec 32 := 1#32
  let v602 : BitVec 32 := Scalar.subi v96 c1_i32_256
  let c0_i32_257 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_253 : BitVec 32 := 8#32
  let v599 : BitVec 32 := Scalar.subi v338 c8_i32_253
  let c5_i32_254 : BitVec 32 := 5#32
  let v600 : BitVec 32 := Scalar.addi v599 c5_i32_254
  let v603 : BitVec 32 := Scalar.maxsi c0_i32_257 v600
  let v604 : BitVec 32 := Scalar.minsi v602 v603
  let v605 : BitVec 32 := Scalar.addi v601 v604
  let v609 : Index := Scalar.indexCast v605
  ![v609.toNat]
def k0_mult46 (v610 : BitVec 32) : BitVec 32 :=
  let c256_i32_258 : BitVec 32 := 256#32
  let v611 : BitVec 32 := Scalar.muli v610 c256_i32_258
  v611

def k0_off65 (i : grid0.Coords) (v96 : BitVec 32) (k0_t3 : Fin (k0_t3_loop v96).trips) (c5_i32_254 : BitVec 32) : Fin 1 → Nat :=
  let arg0 : BitVec 32 := BitVec.ofNat 32 (i 0).val
  let c256_i32_255 : BitVec 32 := 256#32
  let v601 : BitVec 32 := Scalar.muli arg0 c256_i32_255
  let c1_i32_256 : BitVec 32 := 1#32
  let v602 : BitVec 32 := Scalar.subi v96 c1_i32_256
  let c0_i32_257 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_253 : BitVec 32 := 8#32
  let v599 : BitVec 32 := Scalar.subi v338 c8_i32_253
  let v600 : BitVec 32 := Scalar.addi v599 c5_i32_254
  let v603 : BitVec 32 := Scalar.maxsi c0_i32_257 v600
  let v604 : BitVec 32 := Scalar.minsi v602 v603
  let v605 : BitVec 32 := Scalar.addi v601 v604
  let v616 : Index := Scalar.indexCast v605
  ![v616.toNat]
def k0_mult47 (v627 : BitVec 32) : BitVec 32 :=
  v627

def k0_off66 (i : grid0.Coords) (v96 : BitVec 32) (k0_t3 : Fin (k0_t3_loop v96).trips) : Fin 1 → Nat :=
  let arg0 : BitVec 32 := BitVec.ofNat 32 (i 0).val
  let c256_i32_263 : BitVec 32 := 256#32
  let v621 : BitVec 32 := Scalar.muli arg0 c256_i32_263
  let c1_i32_264 : BitVec 32 := 1#32
  let v622 : BitVec 32 := Scalar.subi v96 c1_i32_264
  let c0_i32_265 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_261 : BitVec 32 := 8#32
  let v619 : BitVec 32 := Scalar.subi v338 c8_i32_261
  let c6_i32_262 : BitVec 32 := 6#32
  let v620 : BitVec 32 := Scalar.addi v619 c6_i32_262
  let v623 : BitVec 32 := Scalar.maxsi c0_i32_265 v620
  let v624 : BitVec 32 := Scalar.minsi v622 v623
  let v625 : BitVec 32 := Scalar.addi v621 v624
  let v629 : Index := Scalar.indexCast v625
  ![v629.toNat]
def k0_mult48 (v630 : BitVec 32) : BitVec 32 :=
  let c256_i32_266 : BitVec 32 := 256#32
  let v631 : BitVec 32 := Scalar.muli v630 c256_i32_266
  v631

def k0_off67 (i : grid0.Coords) (v96 : BitVec 32) (k0_t3 : Fin (k0_t3_loop v96).trips) (c6_i32_262 : BitVec 32) : Fin 1 → Nat :=
  let arg0 : BitVec 32 := BitVec.ofNat 32 (i 0).val
  let c256_i32_263 : BitVec 32 := 256#32
  let v621 : BitVec 32 := Scalar.muli arg0 c256_i32_263
  let c1_i32_264 : BitVec 32 := 1#32
  let v622 : BitVec 32 := Scalar.subi v96 c1_i32_264
  let c0_i32_265 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_261 : BitVec 32 := 8#32
  let v619 : BitVec 32 := Scalar.subi v338 c8_i32_261
  let v620 : BitVec 32 := Scalar.addi v619 c6_i32_262
  let v623 : BitVec 32 := Scalar.maxsi c0_i32_265 v620
  let v624 : BitVec 32 := Scalar.minsi v622 v623
  let v625 : BitVec 32 := Scalar.addi v621 v624
  let v636 : Index := Scalar.indexCast v625
  ![v636.toNat]
def k0_mult49 (v647 : BitVec 32) : BitVec 32 :=
  v647

def k0_off68 (i : grid0.Coords) (v96 : BitVec 32) (k0_t3 : Fin (k0_t3_loop v96).trips) : Fin 1 → Nat :=
  let arg0 : BitVec 32 := BitVec.ofNat 32 (i 0).val
  let c256_i32_271 : BitVec 32 := 256#32
  let v641 : BitVec 32 := Scalar.muli arg0 c256_i32_271
  let c1_i32_272 : BitVec 32 := 1#32
  let v642 : BitVec 32 := Scalar.subi v96 c1_i32_272
  let c0_i32_273 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_269 : BitVec 32 := 8#32
  let v639 : BitVec 32 := Scalar.subi v338 c8_i32_269
  let c7_i32_270 : BitVec 32 := 7#32
  let v640 : BitVec 32 := Scalar.addi v639 c7_i32_270
  let v643 : BitVec 32 := Scalar.maxsi c0_i32_273 v640
  let v644 : BitVec 32 := Scalar.minsi v642 v643
  let v645 : BitVec 32 := Scalar.addi v641 v644
  let v649 : Index := Scalar.indexCast v645
  ![v649.toNat]
def k0_mult50 (v650 : BitVec 32) : BitVec 32 :=
  let c256_i32_274 : BitVec 32 := 256#32
  let v651 : BitVec 32 := Scalar.muli v650 c256_i32_274
  v651

def k0_off69 (i : grid0.Coords) (v96 : BitVec 32) (k0_t3 : Fin (k0_t3_loop v96).trips) : Fin 1 → Nat :=
  let arg0 : BitVec 32 := BitVec.ofNat 32 (i 0).val
  let c256_i32_271 : BitVec 32 := 256#32
  let v641 : BitVec 32 := Scalar.muli arg0 c256_i32_271
  let c1_i32_272 : BitVec 32 := 1#32
  let v642 : BitVec 32 := Scalar.subi v96 c1_i32_272
  let c0_i32_273 : BitVec 32 := 0#32
  let c8_i32_148 : BitVec 32 := 8#32
  let c0_i32_143 : BitVec 32 := 0#32
  let c1_i32_146 : BitVec 32 := 1#32
  let arg24 : BitVec 32 := Scf.iv c0_i32_143 c1_i32_146 k0_t3
  let v338 : BitVec 32 := Scalar.muli c8_i32_148 arg24
  let c8_i32_269 : BitVec 32 := 8#32
  let v639 : BitVec 32 := Scalar.subi v338 c8_i32_269
  let c7_i32_270 : BitVec 32 := 7#32
  let v640 : BitVec 32 := Scalar.addi v639 c7_i32_270
  let v643 : BitVec 32 := Scalar.maxsi c0_i32_273 v640
  let v644 : BitVec 32 := Scalar.minsi v642 v643
  let v645 : BitVec 32 := Scalar.addi v641 v644
  let v656 : Index := Scalar.indexCast v645
  ![v656.toNat]
def k0_off70 (v347 : BitVec 32) : Fin 2 → Nat :=
  let v348 : BitVec 32 := v347
  let v659 : Index := Scalar.indexCast v348
  let c0_277 : Index := 0#32
  ![v659.toNat, 0]

def k0_chk18 (i : grid0.Coords) (v96 : BitVec 32) (v347 : BitVec 32) : Prop :=
  (∀ (k0_h2 : k0_cond2 i = 1#1), ∀ (k0_h3 : k0_cond3 v96 = 1#1), 8 ∣ (k0_mult19 v347).toNat) ∧
  (∀ (k0_h2 : k0_cond2 i = 1#1), ∀ (k0_h3 : k0_cond3 v96 = 1#1), ∀ a, (k0_off70 v347) a + S256x128.size a ≤ S50432x128.size a)
theorem k0_mult19_dvd : ∀ (i : grid0.Coords) (v96 : BitVec 32) (v347 : BitVec 32) (k0_hw18 : k0_chk18 i v96 v347), ∀ (k0_h2 : k0_cond2 i = 1#1), ∀ (k0_h3 : k0_cond3 v96 = 1#1), 8 ∣ (k0_mult19 v347).toNat := fun i v96 v347 k0_hw18 k0_h2 k0_h3 => k0_hw18.1 k0_h2 k0_h3
theorem k0_off70_inb : ∀ (i : grid0.Coords) (v96 : BitVec 32) (v347 : BitVec 32) (k0_hw18 : k0_chk18 i v96 v347), ∀ (k0_h2 : k0_cond2 i = 1#1), ∀ (k0_h3 : k0_cond3 v96 = 1#1), ∀ a, (k0_off70 v347) a + S256x128.size a ≤ S50432x128.size a := fun i v96 v347 k0_hw18 k0_h2 k0_h3 => k0_hw18.2 k0_h2 k0_h3

def k0_off71 (v367 : BitVec 32) : Fin 2 → Nat :=
  let v368 : BitVec 32 := v367
  let v666 : Index := Scalar.indexCast v368
  let c0_279 : Index := 0#32
  ![v666.toNat, 0]

def k0_chk20 (i : grid0.Coords) (v96 : BitVec 32) (v367 : BitVec 32) : Prop :=
  (∀ (k0_h2 : k0_cond2 i = 1#1), ∀ (k0_h3 : k0_cond3 v96 = 1#1), 8 ∣ (k0_mult21 v367).toNat) ∧
  (∀ (k0_h2 : k0_cond2 i = 1#1), ∀ (k0_h3 : k0_cond3 v96 = 1#1), ∀ a, (k0_off71 v367) a + S256x128.size a ≤ S50432x128.size a)
theorem k0_mult21_dvd : ∀ (i : grid0.Coords) (v96 : BitVec 32) (v367 : BitVec 32) (k0_hw20 : k0_chk20 i v96 v367), ∀ (k0_h2 : k0_cond2 i = 1#1), ∀ (k0_h3 : k0_cond3 v96 = 1#1), 8 ∣ (k0_mult21 v367).toNat := fun i v96 v367 k0_hw20 k0_h2 k0_h3 => k0_hw20.1 k0_h2 k0_h3
theorem k0_off71_inb : ∀ (i : grid0.Coords) (v96 : BitVec 32) (v367 : BitVec 32) (k0_hw20 : k0_chk20 i v96 v367), ∀ (k0_h2 : k0_cond2 i = 1#1), ∀ (k0_h3 : k0_cond3 v96 = 1#1), ∀ a, (k0_off71 v367) a + S256x128.size a ≤ S50432x128.size a := fun i v96 v367 k0_hw20 k0_h2 k0_h3 => k0_hw20.2 k0_h2 k0_h3

def k0_off72 (v387 : BitVec 32) : Fin 2 → Nat :=
  let v388 : BitVec 32 := v387
  let v673 : Index := Scalar.indexCast v388
  let c0_281 : Index := 0#32
  ![v673.toNat, 0]

def k0_chk22 (i : grid0.Coords) (v96 : BitVec 32) (v387 : BitVec 32) : Prop :=
  (∀ (k0_h2 : k0_cond2 i = 1#1), ∀ (k0_h3 : k0_cond3 v96 = 1#1), 8 ∣ (k0_mult23 v387).toNat) ∧
  (∀ (k0_h2 : k0_cond2 i = 1#1), ∀ (k0_h3 : k0_cond3 v96 = 1#1), ∀ a, (k0_off72 v387) a + S256x128.size a ≤ S50432x128.size a)
theorem k0_mult23_dvd : ∀ (i : grid0.Coords) (v96 : BitVec 32) (v387 : BitVec 32) (k0_hw22 : k0_chk22 i v96 v387), ∀ (k0_h2 : k0_cond2 i = 1#1), ∀ (k0_h3 : k0_cond3 v96 = 1#1), 8 ∣ (k0_mult23 v387).toNat := fun i v96 v387 k0_hw22 k0_h2 k0_h3 => k0_hw22.1 k0_h2 k0_h3
theorem k0_off72_inb : ∀ (i : grid0.Coords) (v96 : BitVec 32) (v387 : BitVec 32) (k0_hw22 : k0_chk22 i v96 v387), ∀ (k0_h2 : k0_cond2 i = 1#1), ∀ (k0_h3 : k0_cond3 v96 = 1#1), ∀ a, (k0_off72 v387) a + S256x128.size a ≤ S50432x128.size a := fun i v96 v387 k0_hw22 k0_h2 k0_h3 => k0_hw22.2 k0_h2 k0_h3

def k0_off73 (v407 : BitVec 32) : Fin 2 → Nat :=
  let v408 : BitVec 32 := v407
  let v680 : Index := Scalar.indexCast v408
  let c0_283 : Index := 0#32
  ![v680.toNat, 0]

def k0_chk24 (i : grid0.Coords) (v96 : BitVec 32) (v407 : BitVec 32) : Prop :=
  (∀ (k0_h2 : k0_cond2 i = 1#1), ∀ (k0_h3 : k0_cond3 v96 = 1#1), 8 ∣ (k0_mult25 v407).toNat) ∧
  (∀ (k0_h2 : k0_cond2 i = 1#1), ∀ (k0_h3 : k0_cond3 v96 = 1#1), ∀ a, (k0_off73 v407) a + S256x128.size a ≤ S50432x128.size a)
theorem k0_mult25_dvd : ∀ (i : grid0.Coords) (v96 : BitVec 32) (v407 : BitVec 32) (k0_hw24 : k0_chk24 i v96 v407), ∀ (k0_h2 : k0_cond2 i = 1#1), ∀ (k0_h3 : k0_cond3 v96 = 1#1), 8 ∣ (k0_mult25 v407).toNat := fun i v96 v407 k0_hw24 k0_h2 k0_h3 => k0_hw24.1 k0_h2 k0_h3
theorem k0_off73_inb : ∀ (i : grid0.Coords) (v96 : BitVec 32) (v407 : BitVec 32) (k0_hw24 : k0_chk24 i v96 v407), ∀ (k0_h2 : k0_cond2 i = 1#1), ∀ (k0_h3 : k0_cond3 v96 = 1#1), ∀ a, (k0_off73 v407) a + S256x128.size a ≤ S50432x128.size a := fun i v96 v407 k0_hw24 k0_h2 k0_h3 => k0_hw24.2 k0_h2 k0_h3

def k0_off74 (v427 : BitVec 32) : Fin 2 → Nat :=
  let v428 : BitVec 32 := v427
  let v687 : Index := Scalar.indexCast v428
  let c0_285 : Index := 0#32
  ![v687.toNat, 0]

def k0_chk26 (i : grid0.Coords) (v96 : BitVec 32) (v427 : BitVec 32) : Prop :=
  (∀ (k0_h2 : k0_cond2 i = 1#1), ∀ (k0_h3 : k0_cond3 v96 = 1#1), 8 ∣ (k0_mult27 v427).toNat) ∧
  (∀ (k0_h2 : k0_cond2 i = 1#1), ∀ (k0_h3 : k0_cond3 v96 = 1#1), ∀ a, (k0_off74 v427) a + S256x128.size a ≤ S50432x128.size a)
theorem k0_mult27_dvd : ∀ (i : grid0.Coords) (v96 : BitVec 32) (v427 : BitVec 32) (k0_hw26 : k0_chk26 i v96 v427), ∀ (k0_h2 : k0_cond2 i = 1#1), ∀ (k0_h3 : k0_cond3 v96 = 1#1), 8 ∣ (k0_mult27 v427).toNat := fun i v96 v427 k0_hw26 k0_h2 k0_h3 => k0_hw26.1 k0_h2 k0_h3
theorem k0_off74_inb : ∀ (i : grid0.Coords) (v96 : BitVec 32) (v427 : BitVec 32) (k0_hw26 : k0_chk26 i v96 v427), ∀ (k0_h2 : k0_cond2 i = 1#1), ∀ (k0_h3 : k0_cond3 v96 = 1#1), ∀ a, (k0_off74 v427) a + S256x128.size a ≤ S50432x128.size a := fun i v96 v427 k0_hw26 k0_h2 k0_h3 => k0_hw26.2 k0_h2 k0_h3

def k0_off75 (v447 : BitVec 32) : Fin 2 → Nat :=
  let v448 : BitVec 32 := v447
  let v694 : Index := Scalar.indexCast v448
  let c0_287 : Index := 0#32
  ![v694.toNat, 0]

def k0_chk28 (i : grid0.Coords) (v96 : BitVec 32) (v447 : BitVec 32) : Prop :=
  (∀ (k0_h2 : k0_cond2 i = 1#1), ∀ (k0_h3 : k0_cond3 v96 = 1#1), 8 ∣ (k0_mult29 v447).toNat) ∧
  (∀ (k0_h2 : k0_cond2 i = 1#1), ∀ (k0_h3 : k0_cond3 v96 = 1#1), ∀ a, (k0_off75 v447) a + S256x128.size a ≤ S50432x128.size a)
theorem k0_mult29_dvd : ∀ (i : grid0.Coords) (v96 : BitVec 32) (v447 : BitVec 32) (k0_hw28 : k0_chk28 i v96 v447), ∀ (k0_h2 : k0_cond2 i = 1#1), ∀ (k0_h3 : k0_cond3 v96 = 1#1), 8 ∣ (k0_mult29 v447).toNat := fun i v96 v447 k0_hw28 k0_h2 k0_h3 => k0_hw28.1 k0_h2 k0_h3
theorem k0_off75_inb : ∀ (i : grid0.Coords) (v96 : BitVec 32) (v447 : BitVec 32) (k0_hw28 : k0_chk28 i v96 v447), ∀ (k0_h2 : k0_cond2 i = 1#1), ∀ (k0_h3 : k0_cond3 v96 = 1#1), ∀ a, (k0_off75 v447) a + S256x128.size a ≤ S50432x128.size a := fun i v96 v447 k0_hw28 k0_h2 k0_h3 => k0_hw28.2 k0_h2 k0_h3

def k0_off76 (v467 : BitVec 32) : Fin 2 → Nat :=
  let v468 : BitVec 32 := v467
  let v701 : Index := Scalar.indexCast v468
  let c0_289 : Index := 0#32
  ![v701.toNat, 0]

def k0_chk30 (i : grid0.Coords) (v96 : BitVec 32) (v467 : BitVec 32) : Prop :=
  (∀ (k0_h2 : k0_cond2 i = 1#1), ∀ (k0_h3 : k0_cond3 v96 = 1#1), 8 ∣ (k0_mult31 v467).toNat) ∧
  (∀ (k0_h2 : k0_cond2 i = 1#1), ∀ (k0_h3 : k0_cond3 v96 = 1#1), ∀ a, (k0_off76 v467) a + S256x128.size a ≤ S50432x128.size a)
theorem k0_mult31_dvd : ∀ (i : grid0.Coords) (v96 : BitVec 32) (v467 : BitVec 32) (k0_hw30 : k0_chk30 i v96 v467), ∀ (k0_h2 : k0_cond2 i = 1#1), ∀ (k0_h3 : k0_cond3 v96 = 1#1), 8 ∣ (k0_mult31 v467).toNat := fun i v96 v467 k0_hw30 k0_h2 k0_h3 => k0_hw30.1 k0_h2 k0_h3
theorem k0_off76_inb : ∀ (i : grid0.Coords) (v96 : BitVec 32) (v467 : BitVec 32) (k0_hw30 : k0_chk30 i v96 v467), ∀ (k0_h2 : k0_cond2 i = 1#1), ∀ (k0_h3 : k0_cond3 v96 = 1#1), ∀ a, (k0_off76 v467) a + S256x128.size a ≤ S50432x128.size a := fun i v96 v467 k0_hw30 k0_h2 k0_h3 => k0_hw30.2 k0_h2 k0_h3

def k0_off77 (v487 : BitVec 32) : Fin 2 → Nat :=
  let v488 : BitVec 32 := v487
  let v708 : Index := Scalar.indexCast v488
  let c0_291 : Index := 0#32
  ![v708.toNat, 0]

def k0_chk32 (i : grid0.Coords) (v96 : BitVec 32) (v487 : BitVec 32) : Prop :=
  (∀ (k0_h2 : k0_cond2 i = 1#1), ∀ (k0_h3 : k0_cond3 v96 = 1#1), 8 ∣ (k0_mult33 v487).toNat) ∧
  (∀ (k0_h2 : k0_cond2 i = 1#1), ∀ (k0_h3 : k0_cond3 v96 = 1#1), ∀ a, (k0_off77 v487) a + S256x128.size a ≤ S50432x128.size a)
theorem k0_mult33_dvd : ∀ (i : grid0.Coords) (v96 : BitVec 32) (v487 : BitVec 32) (k0_hw32 : k0_chk32 i v96 v487), ∀ (k0_h2 : k0_cond2 i = 1#1), ∀ (k0_h3 : k0_cond3 v96 = 1#1), 8 ∣ (k0_mult33 v487).toNat := fun i v96 v487 k0_hw32 k0_h2 k0_h3 => k0_hw32.1 k0_h2 k0_h3
theorem k0_off77_inb : ∀ (i : grid0.Coords) (v96 : BitVec 32) (v487 : BitVec 32) (k0_hw32 : k0_chk32 i v96 v487), ∀ (k0_h2 : k0_cond2 i = 1#1), ∀ (k0_h3 : k0_cond3 v96 = 1#1), ∀ a, (k0_off77 v487) a + S256x128.size a ≤ S50432x128.size a := fun i v96 v487 k0_hw32 k0_h2 k0_h3 => k0_hw32.2 k0_h2 k0_h3

def k0_off78 (v510 : BitVec 32) : Fin 2 → Nat :=
  let c256_i32_218 : BitVec 32 := 256#32
  let v511 : BitVec 32 := Scalar.muli v510 c256_i32_218
  let v512 : BitVec 32 := v511
  let v717 : Index := Scalar.indexCast v512
  let c0_296 : Index := 0#32
  ![v717.toNat, 0]

def k0_chk35 (i : grid0.Coords) (v96 : BitVec 32) (v510 : BitVec 32) : Prop :=
  (∀ (k0_h2 : k0_cond2 i = 1#1), ∀ (k0_h3 : k0_cond3 v96 = 1#1), 256 ∣ (k0_mult36 v510).toNat) ∧
  (∀ (k0_h2 : k0_cond2 i = 1#1), ∀ (k0_h3 : k0_cond3 v96 = 1#1), ∀ a, (k0_off78 v510) a + S256x128.size a ≤ S16384x128.size a)
theorem k0_mult36_dvd : ∀ (i : grid0.Coords) (v96 : BitVec 32) (v510 : BitVec 32) (k0_hw35 : k0_chk35 i v96 v510), ∀ (k0_h2 : k0_cond2 i = 1#1), ∀ (k0_h3 : k0_cond3 v96 = 1#1), 256 ∣ (k0_mult36 v510).toNat := fun i v96 v510 k0_hw35 k0_h2 k0_h3 => k0_hw35.1 k0_h2 k0_h3
theorem k0_off78_inb : ∀ (i : grid0.Coords) (v96 : BitVec 32) (v510 : BitVec 32) (k0_hw35 : k0_chk35 i v96 v510), ∀ (k0_h2 : k0_cond2 i = 1#1), ∀ (k0_h3 : k0_cond3 v96 = 1#1), ∀ a, (k0_off78 v510) a + S256x128.size a ≤ S16384x128.size a := fun i v96 v510 k0_hw35 k0_h2 k0_h3 => k0_hw35.2 k0_h2 k0_h3

def k0_off79 (v507 : BitVec 32) : Fin 2 → Nat :=
  let v508 : BitVec 32 := v507
  let v733 : Index := Scalar.indexCast v508
  let c0_301 : Index := 0#32
  ![v733.toNat, 0]

def k0_chk34 (i : grid0.Coords) (v96 : BitVec 32) (v507 : BitVec 32) : Prop :=
  (∀ (k0_h2 : k0_cond2 i = 1#1), ∀ (k0_h3 : k0_cond3 v96 = 1#1), 8 ∣ (k0_mult35 v507).toNat) ∧
  (∀ (k0_h2 : k0_cond2 i = 1#1), ∀ (k0_h3 : k0_cond3 v96 = 1#1), ∀ a, (k0_off79 v507) a + S256x128.size a ≤ S50432x128.size a)
theorem k0_mult35_dvd : ∀ (i : grid0.Coords) (v96 : BitVec 32) (v507 : BitVec 32) (k0_hw34 : k0_chk34 i v96 v507), ∀ (k0_h2 : k0_cond2 i = 1#1), ∀ (k0_h3 : k0_cond3 v96 = 1#1), 8 ∣ (k0_mult35 v507).toNat := fun i v96 v507 k0_hw34 k0_h2 k0_h3 => k0_hw34.1 k0_h2 k0_h3
theorem k0_off79_inb : ∀ (i : grid0.Coords) (v96 : BitVec 32) (v507 : BitVec 32) (k0_hw34 : k0_chk34 i v96 v507), ∀ (k0_h2 : k0_cond2 i = 1#1), ∀ (k0_h3 : k0_cond3 v96 = 1#1), ∀ a, (k0_off79 v507) a + S256x128.size a ≤ S50432x128.size a := fun i v96 v507 k0_hw34 k0_h2 k0_h3 => k0_hw34.2 k0_h2 k0_h3

def k0_off80 (v530 : BitVec 32) : Fin 2 → Nat :=
  let c256_i32_226 : BitVec 32 := 256#32
  let v531 : BitVec 32 := Scalar.muli v530 c256_i32_226
  let v532 : BitVec 32 := v531
  let v740 : Index := Scalar.indexCast v532
  let c0_305 : Index := 0#32
  ![v740.toNat, 0]

def k0_chk37 (i : grid0.Coords) (v96 : BitVec 32) (v530 : BitVec 32) : Prop :=
  (∀ (k0_h2 : k0_cond2 i = 1#1), ∀ (k0_h3 : k0_cond3 v96 = 1#1), 256 ∣ (k0_mult38 v530).toNat) ∧
  (∀ (k0_h2 : k0_cond2 i = 1#1), ∀ (k0_h3 : k0_cond3 v96 = 1#1), ∀ a, (k0_off80 v530) a + S256x128.size a ≤ S16384x128.size a)
theorem k0_mult38_dvd : ∀ (i : grid0.Coords) (v96 : BitVec 32) (v530 : BitVec 32) (k0_hw37 : k0_chk37 i v96 v530), ∀ (k0_h2 : k0_cond2 i = 1#1), ∀ (k0_h3 : k0_cond3 v96 = 1#1), 256 ∣ (k0_mult38 v530).toNat := fun i v96 v530 k0_hw37 k0_h2 k0_h3 => k0_hw37.1 k0_h2 k0_h3
theorem k0_off80_inb : ∀ (i : grid0.Coords) (v96 : BitVec 32) (v530 : BitVec 32) (k0_hw37 : k0_chk37 i v96 v530), ∀ (k0_h2 : k0_cond2 i = 1#1), ∀ (k0_h3 : k0_cond3 v96 = 1#1), ∀ a, (k0_off80 v530) a + S256x128.size a ≤ S16384x128.size a := fun i v96 v530 k0_hw37 k0_h2 k0_h3 => k0_hw37.2 k0_h2 k0_h3

def k0_off81 (v527 : BitVec 32) : Fin 2 → Nat :=
  let v528 : BitVec 32 := v527
  let v756 : Index := Scalar.indexCast v528
  let c0_310 : Index := 0#32
  ![v756.toNat, 0]

def k0_chk36 (i : grid0.Coords) (v96 : BitVec 32) (v527 : BitVec 32) : Prop :=
  (∀ (k0_h2 : k0_cond2 i = 1#1), ∀ (k0_h3 : k0_cond3 v96 = 1#1), 8 ∣ (k0_mult37 v527).toNat) ∧
  (∀ (k0_h2 : k0_cond2 i = 1#1), ∀ (k0_h3 : k0_cond3 v96 = 1#1), ∀ a, (k0_off81 v527) a + S256x128.size a ≤ S50432x128.size a)
theorem k0_mult37_dvd : ∀ (i : grid0.Coords) (v96 : BitVec 32) (v527 : BitVec 32) (k0_hw36 : k0_chk36 i v96 v527), ∀ (k0_h2 : k0_cond2 i = 1#1), ∀ (k0_h3 : k0_cond3 v96 = 1#1), 8 ∣ (k0_mult37 v527).toNat := fun i v96 v527 k0_hw36 k0_h2 k0_h3 => k0_hw36.1 k0_h2 k0_h3
theorem k0_off81_inb : ∀ (i : grid0.Coords) (v96 : BitVec 32) (v527 : BitVec 32) (k0_hw36 : k0_chk36 i v96 v527), ∀ (k0_h2 : k0_cond2 i = 1#1), ∀ (k0_h3 : k0_cond3 v96 = 1#1), ∀ a, (k0_off81 v527) a + S256x128.size a ≤ S50432x128.size a := fun i v96 v527 k0_hw36 k0_h2 k0_h3 => k0_hw36.2 k0_h2 k0_h3

def k0_off82 (v550 : BitVec 32) : Fin 2 → Nat :=
  let c256_i32_234 : BitVec 32 := 256#32
  let v551 : BitVec 32 := Scalar.muli v550 c256_i32_234
  let v552 : BitVec 32 := v551
  let v763 : Index := Scalar.indexCast v552
  let c0_314 : Index := 0#32
  ![v763.toNat, 0]

def k0_chk39 (i : grid0.Coords) (v96 : BitVec 32) (v550 : BitVec 32) : Prop :=
  (∀ (k0_h2 : k0_cond2 i = 1#1), ∀ (k0_h3 : k0_cond3 v96 = 1#1), 256 ∣ (k0_mult40 v550).toNat) ∧
  (∀ (k0_h2 : k0_cond2 i = 1#1), ∀ (k0_h3 : k0_cond3 v96 = 1#1), ∀ a, (k0_off82 v550) a + S256x128.size a ≤ S16384x128.size a)
theorem k0_mult40_dvd : ∀ (i : grid0.Coords) (v96 : BitVec 32) (v550 : BitVec 32) (k0_hw39 : k0_chk39 i v96 v550), ∀ (k0_h2 : k0_cond2 i = 1#1), ∀ (k0_h3 : k0_cond3 v96 = 1#1), 256 ∣ (k0_mult40 v550).toNat := fun i v96 v550 k0_hw39 k0_h2 k0_h3 => k0_hw39.1 k0_h2 k0_h3
theorem k0_off82_inb : ∀ (i : grid0.Coords) (v96 : BitVec 32) (v550 : BitVec 32) (k0_hw39 : k0_chk39 i v96 v550), ∀ (k0_h2 : k0_cond2 i = 1#1), ∀ (k0_h3 : k0_cond3 v96 = 1#1), ∀ a, (k0_off82 v550) a + S256x128.size a ≤ S16384x128.size a := fun i v96 v550 k0_hw39 k0_h2 k0_h3 => k0_hw39.2 k0_h2 k0_h3

def k0_off83 (v547 : BitVec 32) : Fin 2 → Nat :=
  let v548 : BitVec 32 := v547
  let v779 : Index := Scalar.indexCast v548
  let c0_319 : Index := 0#32
  ![v779.toNat, 0]

def k0_chk38 (i : grid0.Coords) (v96 : BitVec 32) (v547 : BitVec 32) : Prop :=
  (∀ (k0_h2 : k0_cond2 i = 1#1), ∀ (k0_h3 : k0_cond3 v96 = 1#1), 8 ∣ (k0_mult39 v547).toNat) ∧
  (∀ (k0_h2 : k0_cond2 i = 1#1), ∀ (k0_h3 : k0_cond3 v96 = 1#1), ∀ a, (k0_off83 v547) a + S256x128.size a ≤ S50432x128.size a)
theorem k0_mult39_dvd : ∀ (i : grid0.Coords) (v96 : BitVec 32) (v547 : BitVec 32) (k0_hw38 : k0_chk38 i v96 v547), ∀ (k0_h2 : k0_cond2 i = 1#1), ∀ (k0_h3 : k0_cond3 v96 = 1#1), 8 ∣ (k0_mult39 v547).toNat := fun i v96 v547 k0_hw38 k0_h2 k0_h3 => k0_hw38.1 k0_h2 k0_h3
theorem k0_off83_inb : ∀ (i : grid0.Coords) (v96 : BitVec 32) (v547 : BitVec 32) (k0_hw38 : k0_chk38 i v96 v547), ∀ (k0_h2 : k0_cond2 i = 1#1), ∀ (k0_h3 : k0_cond3 v96 = 1#1), ∀ a, (k0_off83 v547) a + S256x128.size a ≤ S50432x128.size a := fun i v96 v547 k0_hw38 k0_h2 k0_h3 => k0_hw38.2 k0_h2 k0_h3

def k0_off84 (v570 : BitVec 32) : Fin 2 → Nat :=
  let c256_i32_242 : BitVec 32 := 256#32
  let v571 : BitVec 32 := Scalar.muli v570 c256_i32_242
  let v572 : BitVec 32 := v571
  let v786 : Index := Scalar.indexCast v572
  let c0_323 : Index := 0#32
  ![v786.toNat, 0]

def k0_chk41 (i : grid0.Coords) (v96 : BitVec 32) (v570 : BitVec 32) : Prop :=
  (∀ (k0_h2 : k0_cond2 i = 1#1), ∀ (k0_h3 : k0_cond3 v96 = 1#1), 256 ∣ (k0_mult42 v570).toNat) ∧
  (∀ (k0_h2 : k0_cond2 i = 1#1), ∀ (k0_h3 : k0_cond3 v96 = 1#1), ∀ a, (k0_off84 v570) a + S256x128.size a ≤ S16384x128.size a)
theorem k0_mult42_dvd : ∀ (i : grid0.Coords) (v96 : BitVec 32) (v570 : BitVec 32) (k0_hw41 : k0_chk41 i v96 v570), ∀ (k0_h2 : k0_cond2 i = 1#1), ∀ (k0_h3 : k0_cond3 v96 = 1#1), 256 ∣ (k0_mult42 v570).toNat := fun i v96 v570 k0_hw41 k0_h2 k0_h3 => k0_hw41.1 k0_h2 k0_h3
theorem k0_off84_inb : ∀ (i : grid0.Coords) (v96 : BitVec 32) (v570 : BitVec 32) (k0_hw41 : k0_chk41 i v96 v570), ∀ (k0_h2 : k0_cond2 i = 1#1), ∀ (k0_h3 : k0_cond3 v96 = 1#1), ∀ a, (k0_off84 v570) a + S256x128.size a ≤ S16384x128.size a := fun i v96 v570 k0_hw41 k0_h2 k0_h3 => k0_hw41.2 k0_h2 k0_h3

def k0_off85 (v567 : BitVec 32) : Fin 2 → Nat :=
  let v568 : BitVec 32 := v567
  let v802 : Index := Scalar.indexCast v568
  let c0_328 : Index := 0#32
  ![v802.toNat, 0]

def k0_chk40 (i : grid0.Coords) (v96 : BitVec 32) (v567 : BitVec 32) : Prop :=
  (∀ (k0_h2 : k0_cond2 i = 1#1), ∀ (k0_h3 : k0_cond3 v96 = 1#1), 8 ∣ (k0_mult41 v567).toNat) ∧
  (∀ (k0_h2 : k0_cond2 i = 1#1), ∀ (k0_h3 : k0_cond3 v96 = 1#1), ∀ a, (k0_off85 v567) a + S256x128.size a ≤ S50432x128.size a)
theorem k0_mult41_dvd : ∀ (i : grid0.Coords) (v96 : BitVec 32) (v567 : BitVec 32) (k0_hw40 : k0_chk40 i v96 v567), ∀ (k0_h2 : k0_cond2 i = 1#1), ∀ (k0_h3 : k0_cond3 v96 = 1#1), 8 ∣ (k0_mult41 v567).toNat := fun i v96 v567 k0_hw40 k0_h2 k0_h3 => k0_hw40.1 k0_h2 k0_h3
theorem k0_off85_inb : ∀ (i : grid0.Coords) (v96 : BitVec 32) (v567 : BitVec 32) (k0_hw40 : k0_chk40 i v96 v567), ∀ (k0_h2 : k0_cond2 i = 1#1), ∀ (k0_h3 : k0_cond3 v96 = 1#1), ∀ a, (k0_off85 v567) a + S256x128.size a ≤ S50432x128.size a := fun i v96 v567 k0_hw40 k0_h2 k0_h3 => k0_hw40.2 k0_h2 k0_h3

def k0_off86 (v590 : BitVec 32) : Fin 2 → Nat :=
  let c256_i32_250 : BitVec 32 := 256#32
  let v591 : BitVec 32 := Scalar.muli v590 c256_i32_250
  let v592 : BitVec 32 := v591
  let v809 : Index := Scalar.indexCast v592
  let c0_332 : Index := 0#32
  ![v809.toNat, 0]

def k0_chk43 (i : grid0.Coords) (v96 : BitVec 32) (v590 : BitVec 32) : Prop :=
  (∀ (k0_h2 : k0_cond2 i = 1#1), ∀ (k0_h3 : k0_cond3 v96 = 1#1), 256 ∣ (k0_mult44 v590).toNat) ∧
  (∀ (k0_h2 : k0_cond2 i = 1#1), ∀ (k0_h3 : k0_cond3 v96 = 1#1), ∀ a, (k0_off86 v590) a + S256x128.size a ≤ S16384x128.size a)
theorem k0_mult44_dvd : ∀ (i : grid0.Coords) (v96 : BitVec 32) (v590 : BitVec 32) (k0_hw43 : k0_chk43 i v96 v590), ∀ (k0_h2 : k0_cond2 i = 1#1), ∀ (k0_h3 : k0_cond3 v96 = 1#1), 256 ∣ (k0_mult44 v590).toNat := fun i v96 v590 k0_hw43 k0_h2 k0_h3 => k0_hw43.1 k0_h2 k0_h3
theorem k0_off86_inb : ∀ (i : grid0.Coords) (v96 : BitVec 32) (v590 : BitVec 32) (k0_hw43 : k0_chk43 i v96 v590), ∀ (k0_h2 : k0_cond2 i = 1#1), ∀ (k0_h3 : k0_cond3 v96 = 1#1), ∀ a, (k0_off86 v590) a + S256x128.size a ≤ S16384x128.size a := fun i v96 v590 k0_hw43 k0_h2 k0_h3 => k0_hw43.2 k0_h2 k0_h3

def k0_off87 (v587 : BitVec 32) : Fin 2 → Nat :=
  let v588 : BitVec 32 := v587
  let v825 : Index := Scalar.indexCast v588
  let c0_337 : Index := 0#32
  ![v825.toNat, 0]

def k0_chk42 (i : grid0.Coords) (v96 : BitVec 32) (v587 : BitVec 32) : Prop :=
  (∀ (k0_h2 : k0_cond2 i = 1#1), ∀ (k0_h3 : k0_cond3 v96 = 1#1), 8 ∣ (k0_mult43 v587).toNat) ∧
  (∀ (k0_h2 : k0_cond2 i = 1#1), ∀ (k0_h3 : k0_cond3 v96 = 1#1), ∀ a, (k0_off87 v587) a + S256x128.size a ≤ S50432x128.size a)
theorem k0_mult43_dvd : ∀ (i : grid0.Coords) (v96 : BitVec 32) (v587 : BitVec 32) (k0_hw42 : k0_chk42 i v96 v587), ∀ (k0_h2 : k0_cond2 i = 1#1), ∀ (k0_h3 : k0_cond3 v96 = 1#1), 8 ∣ (k0_mult43 v587).toNat := fun i v96 v587 k0_hw42 k0_h2 k0_h3 => k0_hw42.1 k0_h2 k0_h3
theorem k0_off87_inb : ∀ (i : grid0.Coords) (v96 : BitVec 32) (v587 : BitVec 32) (k0_hw42 : k0_chk42 i v96 v587), ∀ (k0_h2 : k0_cond2 i = 1#1), ∀ (k0_h3 : k0_cond3 v96 = 1#1), ∀ a, (k0_off87 v587) a + S256x128.size a ≤ S50432x128.size a := fun i v96 v587 k0_hw42 k0_h2 k0_h3 => k0_hw42.2 k0_h2 k0_h3

def k0_off88 (v610 : BitVec 32) : Fin 2 → Nat :=
  let c256_i32_258 : BitVec 32 := 256#32
  let v611 : BitVec 32 := Scalar.muli v610 c256_i32_258
  let v612 : BitVec 32 := v611
  let v832 : Index := Scalar.indexCast v612
  let c0_341 : Index := 0#32
  ![v832.toNat, 0]

def k0_chk45 (i : grid0.Coords) (v96 : BitVec 32) (v610 : BitVec 32) : Prop :=
  (∀ (k0_h2 : k0_cond2 i = 1#1), ∀ (k0_h3 : k0_cond3 v96 = 1#1), 256 ∣ (k0_mult46 v610).toNat) ∧
  (∀ (k0_h2 : k0_cond2 i = 1#1), ∀ (k0_h3 : k0_cond3 v96 = 1#1), ∀ a, (k0_off88 v610) a + S256x128.size a ≤ S16384x128.size a)
theorem k0_mult46_dvd : ∀ (i : grid0.Coords) (v96 : BitVec 32) (v610 : BitVec 32) (k0_hw45 : k0_chk45 i v96 v610), ∀ (k0_h2 : k0_cond2 i = 1#1), ∀ (k0_h3 : k0_cond3 v96 = 1#1), 256 ∣ (k0_mult46 v610).toNat := fun i v96 v610 k0_hw45 k0_h2 k0_h3 => k0_hw45.1 k0_h2 k0_h3
theorem k0_off88_inb : ∀ (i : grid0.Coords) (v96 : BitVec 32) (v610 : BitVec 32) (k0_hw45 : k0_chk45 i v96 v610), ∀ (k0_h2 : k0_cond2 i = 1#1), ∀ (k0_h3 : k0_cond3 v96 = 1#1), ∀ a, (k0_off88 v610) a + S256x128.size a ≤ S16384x128.size a := fun i v96 v610 k0_hw45 k0_h2 k0_h3 => k0_hw45.2 k0_h2 k0_h3

def k0_off89 (v607 : BitVec 32) : Fin 2 → Nat :=
  let v608 : BitVec 32 := v607
  let v848 : Index := Scalar.indexCast v608
  let c0_346 : Index := 0#32
  ![v848.toNat, 0]

def k0_chk44 (i : grid0.Coords) (v96 : BitVec 32) (v607 : BitVec 32) : Prop :=
  (∀ (k0_h2 : k0_cond2 i = 1#1), ∀ (k0_h3 : k0_cond3 v96 = 1#1), 8 ∣ (k0_mult45 v607).toNat) ∧
  (∀ (k0_h2 : k0_cond2 i = 1#1), ∀ (k0_h3 : k0_cond3 v96 = 1#1), ∀ a, (k0_off89 v607) a + S256x128.size a ≤ S50432x128.size a)
theorem k0_mult45_dvd : ∀ (i : grid0.Coords) (v96 : BitVec 32) (v607 : BitVec 32) (k0_hw44 : k0_chk44 i v96 v607), ∀ (k0_h2 : k0_cond2 i = 1#1), ∀ (k0_h3 : k0_cond3 v96 = 1#1), 8 ∣ (k0_mult45 v607).toNat := fun i v96 v607 k0_hw44 k0_h2 k0_h3 => k0_hw44.1 k0_h2 k0_h3
theorem k0_off89_inb : ∀ (i : grid0.Coords) (v96 : BitVec 32) (v607 : BitVec 32) (k0_hw44 : k0_chk44 i v96 v607), ∀ (k0_h2 : k0_cond2 i = 1#1), ∀ (k0_h3 : k0_cond3 v96 = 1#1), ∀ a, (k0_off89 v607) a + S256x128.size a ≤ S50432x128.size a := fun i v96 v607 k0_hw44 k0_h2 k0_h3 => k0_hw44.2 k0_h2 k0_h3

def k0_off90 (v630 : BitVec 32) : Fin 2 → Nat :=
  let c256_i32_266 : BitVec 32 := 256#32
  let v631 : BitVec 32 := Scalar.muli v630 c256_i32_266
  let v632 : BitVec 32 := v631
  let v855 : Index := Scalar.indexCast v632
  let c0_350 : Index := 0#32
  ![v855.toNat, 0]

def k0_chk47 (i : grid0.Coords) (v96 : BitVec 32) (v630 : BitVec 32) : Prop :=
  (∀ (k0_h2 : k0_cond2 i = 1#1), ∀ (k0_h3 : k0_cond3 v96 = 1#1), 256 ∣ (k0_mult48 v630).toNat) ∧
  (∀ (k0_h2 : k0_cond2 i = 1#1), ∀ (k0_h3 : k0_cond3 v96 = 1#1), ∀ a, (k0_off90 v630) a + S256x128.size a ≤ S16384x128.size a)
theorem k0_mult48_dvd : ∀ (i : grid0.Coords) (v96 : BitVec 32) (v630 : BitVec 32) (k0_hw47 : k0_chk47 i v96 v630), ∀ (k0_h2 : k0_cond2 i = 1#1), ∀ (k0_h3 : k0_cond3 v96 = 1#1), 256 ∣ (k0_mult48 v630).toNat := fun i v96 v630 k0_hw47 k0_h2 k0_h3 => k0_hw47.1 k0_h2 k0_h3
theorem k0_off90_inb : ∀ (i : grid0.Coords) (v96 : BitVec 32) (v630 : BitVec 32) (k0_hw47 : k0_chk47 i v96 v630), ∀ (k0_h2 : k0_cond2 i = 1#1), ∀ (k0_h3 : k0_cond3 v96 = 1#1), ∀ a, (k0_off90 v630) a + S256x128.size a ≤ S16384x128.size a := fun i v96 v630 k0_hw47 k0_h2 k0_h3 => k0_hw47.2 k0_h2 k0_h3

def k0_off91 (v627 : BitVec 32) : Fin 2 → Nat :=
  let v628 : BitVec 32 := v627
  let v871 : Index := Scalar.indexCast v628
  let c0_355 : Index := 0#32
  ![v871.toNat, 0]

def k0_chk46 (i : grid0.Coords) (v96 : BitVec 32) (v627 : BitVec 32) : Prop :=
  (∀ (k0_h2 : k0_cond2 i = 1#1), ∀ (k0_h3 : k0_cond3 v96 = 1#1), 8 ∣ (k0_mult47 v627).toNat) ∧
  (∀ (k0_h2 : k0_cond2 i = 1#1), ∀ (k0_h3 : k0_cond3 v96 = 1#1), ∀ a, (k0_off91 v627) a + S256x128.size a ≤ S50432x128.size a)
theorem k0_mult47_dvd : ∀ (i : grid0.Coords) (v96 : BitVec 32) (v627 : BitVec 32) (k0_hw46 : k0_chk46 i v96 v627), ∀ (k0_h2 : k0_cond2 i = 1#1), ∀ (k0_h3 : k0_cond3 v96 = 1#1), 8 ∣ (k0_mult47 v627).toNat := fun i v96 v627 k0_hw46 k0_h2 k0_h3 => k0_hw46.1 k0_h2 k0_h3
theorem k0_off91_inb : ∀ (i : grid0.Coords) (v96 : BitVec 32) (v627 : BitVec 32) (k0_hw46 : k0_chk46 i v96 v627), ∀ (k0_h2 : k0_cond2 i = 1#1), ∀ (k0_h3 : k0_cond3 v96 = 1#1), ∀ a, (k0_off91 v627) a + S256x128.size a ≤ S50432x128.size a := fun i v96 v627 k0_hw46 k0_h2 k0_h3 => k0_hw46.2 k0_h2 k0_h3

def k0_off92 (v650 : BitVec 32) : Fin 2 → Nat :=
  let c256_i32_274 : BitVec 32 := 256#32
  let v651 : BitVec 32 := Scalar.muli v650 c256_i32_274
  let v652 : BitVec 32 := v651
  let v878 : Index := Scalar.indexCast v652
  let c0_359 : Index := 0#32
  ![v878.toNat, 0]

def k0_chk49 (i : grid0.Coords) (v96 : BitVec 32) (v650 : BitVec 32) : Prop :=
  (∀ (k0_h2 : k0_cond2 i = 1#1), ∀ (k0_h3 : k0_cond3 v96 = 1#1), 256 ∣ (k0_mult50 v650).toNat) ∧
  (∀ (k0_h2 : k0_cond2 i = 1#1), ∀ (k0_h3 : k0_cond3 v96 = 1#1), ∀ a, (k0_off92 v650) a + S256x128.size a ≤ S16384x128.size a)
theorem k0_mult50_dvd : ∀ (i : grid0.Coords) (v96 : BitVec 32) (v650 : BitVec 32) (k0_hw49 : k0_chk49 i v96 v650), ∀ (k0_h2 : k0_cond2 i = 1#1), ∀ (k0_h3 : k0_cond3 v96 = 1#1), 256 ∣ (k0_mult50 v650).toNat := fun i v96 v650 k0_hw49 k0_h2 k0_h3 => k0_hw49.1 k0_h2 k0_h3
theorem k0_off92_inb : ∀ (i : grid0.Coords) (v96 : BitVec 32) (v650 : BitVec 32) (k0_hw49 : k0_chk49 i v96 v650), ∀ (k0_h2 : k0_cond2 i = 1#1), ∀ (k0_h3 : k0_cond3 v96 = 1#1), ∀ a, (k0_off92 v650) a + S256x128.size a ≤ S16384x128.size a := fun i v96 v650 k0_hw49 k0_h2 k0_h3 => k0_hw49.2 k0_h2 k0_h3

def k0_off93 (v647 : BitVec 32) : Fin 2 → Nat :=
  let v648 : BitVec 32 := v647
  let v894 : Index := Scalar.indexCast v648
  let c0_364 : Index := 0#32
  ![v894.toNat, 0]

def k0_chk48 (i : grid0.Coords) (v96 : BitVec 32) (v647 : BitVec 32) : Prop :=
  (∀ (k0_h2 : k0_cond2 i = 1#1), ∀ (k0_h3 : k0_cond3 v96 = 1#1), 8 ∣ (k0_mult49 v647).toNat) ∧
  (∀ (k0_h2 : k0_cond2 i = 1#1), ∀ (k0_h3 : k0_cond3 v96 = 1#1), ∀ a, (k0_off93 v647) a + S256x128.size a ≤ S50432x128.size a)
theorem k0_mult49_dvd : ∀ (i : grid0.Coords) (v96 : BitVec 32) (v647 : BitVec 32) (k0_hw48 : k0_chk48 i v96 v647), ∀ (k0_h2 : k0_cond2 i = 1#1), ∀ (k0_h3 : k0_cond3 v96 = 1#1), 8 ∣ (k0_mult49 v647).toNat := fun i v96 v647 k0_hw48 k0_h2 k0_h3 => k0_hw48.1 k0_h2 k0_h3
theorem k0_off93_inb : ∀ (i : grid0.Coords) (v96 : BitVec 32) (v647 : BitVec 32) (k0_hw48 : k0_chk48 i v96 v647), ∀ (k0_h2 : k0_cond2 i = 1#1), ∀ (k0_h3 : k0_cond3 v96 = 1#1), ∀ a, (k0_off93 v647) a + S256x128.size a ≤ S50432x128.size a := fun i v96 v647 k0_hw48 k0_h2 k0_h3 => k0_hw48.2 k0_h2 k0_h3

def k0_off94 (v350 : BitVec 32) : Fin 2 → Nat :=
  let c256_i32_154 : BitVec 32 := 256#32
  let v351 : BitVec 32 := Scalar.muli v350 c256_i32_154
  let v352 : BitVec 32 := v351
  let v1027 : Index := Scalar.indexCast v352
  let c0_445 : Index := 0#32
  ![v1027.toNat, 0]

def k0_chk19 (i : grid0.Coords) (v96 : BitVec 32) (v350 : BitVec 32) : Prop :=
  (∀ (k0_h2 : k0_cond2 i = 1#1), ∀ (k0_h3 : k0_cond3 v96 = 1#1), 256 ∣ (k0_mult20 v350).toNat) ∧
  (∀ (k0_h2 : k0_cond2 i = 1#1), ∀ (k0_h3 : k0_cond3 v96 = 1#1), ∀ a, (k0_off94 v350) a + S256x128.size a ≤ S16384x128.size a)
theorem k0_mult20_dvd : ∀ (i : grid0.Coords) (v96 : BitVec 32) (v350 : BitVec 32) (k0_hw19 : k0_chk19 i v96 v350), ∀ (k0_h2 : k0_cond2 i = 1#1), ∀ (k0_h3 : k0_cond3 v96 = 1#1), 256 ∣ (k0_mult20 v350).toNat := fun i v96 v350 k0_hw19 k0_h2 k0_h3 => k0_hw19.1 k0_h2 k0_h3
theorem k0_off94_inb : ∀ (i : grid0.Coords) (v96 : BitVec 32) (v350 : BitVec 32) (k0_hw19 : k0_chk19 i v96 v350), ∀ (k0_h2 : k0_cond2 i = 1#1), ∀ (k0_h3 : k0_cond3 v96 = 1#1), ∀ a, (k0_off94 v350) a + S256x128.size a ≤ S16384x128.size a := fun i v96 v350 k0_hw19 k0_h2 k0_h3 => k0_hw19.2 k0_h2 k0_h3

def k0_off95 (v370 : BitVec 32) : Fin 2 → Nat :=
  let c256_i32_162 : BitVec 32 := 256#32
  let v371 : BitVec 32 := Scalar.muli v370 c256_i32_162
  let v372 : BitVec 32 := v371
  let v1033 : Index := Scalar.indexCast v372
  let c0_450 : Index := 0#32
  ![v1033.toNat, 0]

def k0_chk21 (i : grid0.Coords) (v96 : BitVec 32) (v370 : BitVec 32) : Prop :=
  (∀ (k0_h2 : k0_cond2 i = 1#1), ∀ (k0_h3 : k0_cond3 v96 = 1#1), 256 ∣ (k0_mult22 v370).toNat) ∧
  (∀ (k0_h2 : k0_cond2 i = 1#1), ∀ (k0_h3 : k0_cond3 v96 = 1#1), ∀ a, (k0_off95 v370) a + S256x128.size a ≤ S16384x128.size a)
theorem k0_mult22_dvd : ∀ (i : grid0.Coords) (v96 : BitVec 32) (v370 : BitVec 32) (k0_hw21 : k0_chk21 i v96 v370), ∀ (k0_h2 : k0_cond2 i = 1#1), ∀ (k0_h3 : k0_cond3 v96 = 1#1), 256 ∣ (k0_mult22 v370).toNat := fun i v96 v370 k0_hw21 k0_h2 k0_h3 => k0_hw21.1 k0_h2 k0_h3
theorem k0_off95_inb : ∀ (i : grid0.Coords) (v96 : BitVec 32) (v370 : BitVec 32) (k0_hw21 : k0_chk21 i v96 v370), ∀ (k0_h2 : k0_cond2 i = 1#1), ∀ (k0_h3 : k0_cond3 v96 = 1#1), ∀ a, (k0_off95 v370) a + S256x128.size a ≤ S16384x128.size a := fun i v96 v370 k0_hw21 k0_h2 k0_h3 => k0_hw21.2 k0_h2 k0_h3

def k0_off96 (v390 : BitVec 32) : Fin 2 → Nat :=
  let c256_i32_170 : BitVec 32 := 256#32
  let v391 : BitVec 32 := Scalar.muli v390 c256_i32_170
  let v392 : BitVec 32 := v391
  let v1039 : Index := Scalar.indexCast v392
  let c0_455 : Index := 0#32
  ![v1039.toNat, 0]

def k0_chk23 (i : grid0.Coords) (v96 : BitVec 32) (v390 : BitVec 32) : Prop :=
  (∀ (k0_h2 : k0_cond2 i = 1#1), ∀ (k0_h3 : k0_cond3 v96 = 1#1), 256 ∣ (k0_mult24 v390).toNat) ∧
  (∀ (k0_h2 : k0_cond2 i = 1#1), ∀ (k0_h3 : k0_cond3 v96 = 1#1), ∀ a, (k0_off96 v390) a + S256x128.size a ≤ S16384x128.size a)
theorem k0_mult24_dvd : ∀ (i : grid0.Coords) (v96 : BitVec 32) (v390 : BitVec 32) (k0_hw23 : k0_chk23 i v96 v390), ∀ (k0_h2 : k0_cond2 i = 1#1), ∀ (k0_h3 : k0_cond3 v96 = 1#1), 256 ∣ (k0_mult24 v390).toNat := fun i v96 v390 k0_hw23 k0_h2 k0_h3 => k0_hw23.1 k0_h2 k0_h3
theorem k0_off96_inb : ∀ (i : grid0.Coords) (v96 : BitVec 32) (v390 : BitVec 32) (k0_hw23 : k0_chk23 i v96 v390), ∀ (k0_h2 : k0_cond2 i = 1#1), ∀ (k0_h3 : k0_cond3 v96 = 1#1), ∀ a, (k0_off96 v390) a + S256x128.size a ≤ S16384x128.size a := fun i v96 v390 k0_hw23 k0_h2 k0_h3 => k0_hw23.2 k0_h2 k0_h3

def k0_off97 (v410 : BitVec 32) : Fin 2 → Nat :=
  let c256_i32_178 : BitVec 32 := 256#32
  let v411 : BitVec 32 := Scalar.muli v410 c256_i32_178
  let v412 : BitVec 32 := v411
  let v1045 : Index := Scalar.indexCast v412
  let c0_460 : Index := 0#32
  ![v1045.toNat, 0]

def k0_chk25 (i : grid0.Coords) (v96 : BitVec 32) (v410 : BitVec 32) : Prop :=
  (∀ (k0_h2 : k0_cond2 i = 1#1), ∀ (k0_h3 : k0_cond3 v96 = 1#1), 256 ∣ (k0_mult26 v410).toNat) ∧
  (∀ (k0_h2 : k0_cond2 i = 1#1), ∀ (k0_h3 : k0_cond3 v96 = 1#1), ∀ a, (k0_off97 v410) a + S256x128.size a ≤ S16384x128.size a)
theorem k0_mult26_dvd : ∀ (i : grid0.Coords) (v96 : BitVec 32) (v410 : BitVec 32) (k0_hw25 : k0_chk25 i v96 v410), ∀ (k0_h2 : k0_cond2 i = 1#1), ∀ (k0_h3 : k0_cond3 v96 = 1#1), 256 ∣ (k0_mult26 v410).toNat := fun i v96 v410 k0_hw25 k0_h2 k0_h3 => k0_hw25.1 k0_h2 k0_h3
theorem k0_off97_inb : ∀ (i : grid0.Coords) (v96 : BitVec 32) (v410 : BitVec 32) (k0_hw25 : k0_chk25 i v96 v410), ∀ (k0_h2 : k0_cond2 i = 1#1), ∀ (k0_h3 : k0_cond3 v96 = 1#1), ∀ a, (k0_off97 v410) a + S256x128.size a ≤ S16384x128.size a := fun i v96 v410 k0_hw25 k0_h2 k0_h3 => k0_hw25.2 k0_h2 k0_h3

def k0_off98 (v430 : BitVec 32) : Fin 2 → Nat :=
  let c256_i32_186 : BitVec 32 := 256#32
  let v431 : BitVec 32 := Scalar.muli v430 c256_i32_186
  let v432 : BitVec 32 := v431
  let v1051 : Index := Scalar.indexCast v432
  let c0_465 : Index := 0#32
  ![v1051.toNat, 0]

def k0_chk27 (i : grid0.Coords) (v96 : BitVec 32) (v430 : BitVec 32) : Prop :=
  (∀ (k0_h2 : k0_cond2 i = 1#1), ∀ (k0_h3 : k0_cond3 v96 = 1#1), 256 ∣ (k0_mult28 v430).toNat) ∧
  (∀ (k0_h2 : k0_cond2 i = 1#1), ∀ (k0_h3 : k0_cond3 v96 = 1#1), ∀ a, (k0_off98 v430) a + S256x128.size a ≤ S16384x128.size a)
theorem k0_mult28_dvd : ∀ (i : grid0.Coords) (v96 : BitVec 32) (v430 : BitVec 32) (k0_hw27 : k0_chk27 i v96 v430), ∀ (k0_h2 : k0_cond2 i = 1#1), ∀ (k0_h3 : k0_cond3 v96 = 1#1), 256 ∣ (k0_mult28 v430).toNat := fun i v96 v430 k0_hw27 k0_h2 k0_h3 => k0_hw27.1 k0_h2 k0_h3
theorem k0_off98_inb : ∀ (i : grid0.Coords) (v96 : BitVec 32) (v430 : BitVec 32) (k0_hw27 : k0_chk27 i v96 v430), ∀ (k0_h2 : k0_cond2 i = 1#1), ∀ (k0_h3 : k0_cond3 v96 = 1#1), ∀ a, (k0_off98 v430) a + S256x128.size a ≤ S16384x128.size a := fun i v96 v430 k0_hw27 k0_h2 k0_h3 => k0_hw27.2 k0_h2 k0_h3

def k0_off99 (v450 : BitVec 32) : Fin 2 → Nat :=
  let c256_i32_194 : BitVec 32 := 256#32
  let v451 : BitVec 32 := Scalar.muli v450 c256_i32_194
  let v452 : BitVec 32 := v451
  let v1057 : Index := Scalar.indexCast v452
  let c0_470 : Index := 0#32
  ![v1057.toNat, 0]

def k0_chk29 (i : grid0.Coords) (v96 : BitVec 32) (v450 : BitVec 32) : Prop :=
  (∀ (k0_h2 : k0_cond2 i = 1#1), ∀ (k0_h3 : k0_cond3 v96 = 1#1), 256 ∣ (k0_mult30 v450).toNat) ∧
  (∀ (k0_h2 : k0_cond2 i = 1#1), ∀ (k0_h3 : k0_cond3 v96 = 1#1), ∀ a, (k0_off99 v450) a + S256x128.size a ≤ S16384x128.size a)
theorem k0_mult30_dvd : ∀ (i : grid0.Coords) (v96 : BitVec 32) (v450 : BitVec 32) (k0_hw29 : k0_chk29 i v96 v450), ∀ (k0_h2 : k0_cond2 i = 1#1), ∀ (k0_h3 : k0_cond3 v96 = 1#1), 256 ∣ (k0_mult30 v450).toNat := fun i v96 v450 k0_hw29 k0_h2 k0_h3 => k0_hw29.1 k0_h2 k0_h3
theorem k0_off99_inb : ∀ (i : grid0.Coords) (v96 : BitVec 32) (v450 : BitVec 32) (k0_hw29 : k0_chk29 i v96 v450), ∀ (k0_h2 : k0_cond2 i = 1#1), ∀ (k0_h3 : k0_cond3 v96 = 1#1), ∀ a, (k0_off99 v450) a + S256x128.size a ≤ S16384x128.size a := fun i v96 v450 k0_hw29 k0_h2 k0_h3 => k0_hw29.2 k0_h2 k0_h3

def k0_off100 (v470 : BitVec 32) : Fin 2 → Nat :=
  let c256_i32_202 : BitVec 32 := 256#32
  let v471 : BitVec 32 := Scalar.muli v470 c256_i32_202
  let v472 : BitVec 32 := v471
  let v1063 : Index := Scalar.indexCast v472
  let c0_475 : Index := 0#32
  ![v1063.toNat, 0]

def k0_chk31 (i : grid0.Coords) (v96 : BitVec 32) (v470 : BitVec 32) : Prop :=
  (∀ (k0_h2 : k0_cond2 i = 1#1), ∀ (k0_h3 : k0_cond3 v96 = 1#1), 256 ∣ (k0_mult32 v470).toNat) ∧
  (∀ (k0_h2 : k0_cond2 i = 1#1), ∀ (k0_h3 : k0_cond3 v96 = 1#1), ∀ a, (k0_off100 v470) a + S256x128.size a ≤ S16384x128.size a)
theorem k0_mult32_dvd : ∀ (i : grid0.Coords) (v96 : BitVec 32) (v470 : BitVec 32) (k0_hw31 : k0_chk31 i v96 v470), ∀ (k0_h2 : k0_cond2 i = 1#1), ∀ (k0_h3 : k0_cond3 v96 = 1#1), 256 ∣ (k0_mult32 v470).toNat := fun i v96 v470 k0_hw31 k0_h2 k0_h3 => k0_hw31.1 k0_h2 k0_h3
theorem k0_off100_inb : ∀ (i : grid0.Coords) (v96 : BitVec 32) (v470 : BitVec 32) (k0_hw31 : k0_chk31 i v96 v470), ∀ (k0_h2 : k0_cond2 i = 1#1), ∀ (k0_h3 : k0_cond3 v96 = 1#1), ∀ a, (k0_off100 v470) a + S256x128.size a ≤ S16384x128.size a := fun i v96 v470 k0_hw31 k0_h2 k0_h3 => k0_hw31.2 k0_h2 k0_h3

def k0_off101 (v490 : BitVec 32) : Fin 2 → Nat :=
  let c256_i32_210 : BitVec 32 := 256#32
  let v491 : BitVec 32 := Scalar.muli v490 c256_i32_210
  let v492 : BitVec 32 := v491
  let v1069 : Index := Scalar.indexCast v492
  let c0_480 : Index := 0#32
  ![v1069.toNat, 0]

def k0_chk33 (i : grid0.Coords) (v96 : BitVec 32) (v490 : BitVec 32) : Prop :=
  (∀ (k0_h2 : k0_cond2 i = 1#1), ∀ (k0_h3 : k0_cond3 v96 = 1#1), 256 ∣ (k0_mult34 v490).toNat) ∧
  (∀ (k0_h2 : k0_cond2 i = 1#1), ∀ (k0_h3 : k0_cond3 v96 = 1#1), ∀ a, (k0_off101 v490) a + S256x128.size a ≤ S16384x128.size a)
theorem k0_mult34_dvd : ∀ (i : grid0.Coords) (v96 : BitVec 32) (v490 : BitVec 32) (k0_hw33 : k0_chk33 i v96 v490), ∀ (k0_h2 : k0_cond2 i = 1#1), ∀ (k0_h3 : k0_cond3 v96 = 1#1), 256 ∣ (k0_mult34 v490).toNat := fun i v96 v490 k0_hw33 k0_h2 k0_h3 => k0_hw33.1 k0_h2 k0_h3
theorem k0_off101_inb : ∀ (i : grid0.Coords) (v96 : BitVec 32) (v490 : BitVec 32) (k0_hw33 : k0_chk33 i v96 v490), ∀ (k0_h2 : k0_cond2 i = 1#1), ∀ (k0_h3 : k0_cond3 v96 = 1#1), ∀ a, (k0_off101 v490) a + S256x128.size a ≤ S16384x128.size a := fun i v96 v490 k0_hw33 k0_h2 k0_h3 => k0_hw33.2 k0_h2 k0_h3

@[reducible] def k0_t4_loop (v96 : BitVec 32) : Scf.Loop 32 :=
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let v332 : BitVec 32 := Scalar.addi c0_i32_143 v331
  let c1_i32_147 : BitVec 32 := 1#32
  ⟨v335, v332, c1_i32_147⟩
def k0_off102 (i : grid0.Coords) (v96 : BitVec 32) (k0_t4 : Fin (k0_t4_loop v96).trips) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_149 : BitVec 32 := 8#32
  let v339 : BitVec 32 := Scalar.addi v338 c8_i32_149
  let c0_i32_150 : BitVec 32 := 0#32
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v346 : Index := Scalar.indexCast v345
  ![v346.toNat]
def k0_mult51 (v347 : BitVec 32) : BitVec 32 :=
  v347

def k0_off103 (i : grid0.Coords) (v96 : BitVec 32) (k0_t4 : Fin (k0_t4_loop v96).trips) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_149 : BitVec 32 := 8#32
  let v339 : BitVec 32 := Scalar.addi v338 c8_i32_149
  let c0_i32_150 : BitVec 32 := 0#32
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v349 : Index := Scalar.indexCast v345
  ![v349.toNat]
def k0_mult52 (v350 : BitVec 32) : BitVec 32 :=
  let c256_i32_154 : BitVec 32 := 256#32
  let v351 : BitVec 32 := Scalar.muli v350 c256_i32_154
  v351

def k0_off104 (i : grid0.Coords) (v96 : BitVec 32) (k0_t4 : Fin (k0_t4_loop v96).trips) (c0_i32_150 : BitVec 32) : Fin 1 → Nat :=
  let arg0 : BitVec 32 := BitVec.ofNat 32 (i 0).val
  let c256_i32_151 : BitVec 32 := 256#32
  let v341 : BitVec 32 := Scalar.muli arg0 c256_i32_151
  let c1_i32_152 : BitVec 32 := 1#32
  let v342 : BitVec 32 := Scalar.subi v96 c1_i32_152
  let c0_i32_153 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_149 : BitVec 32 := 8#32
  let v339 : BitVec 32 := Scalar.addi v338 c8_i32_149
  let v340 : BitVec 32 := Scalar.addi v339 c0_i32_150
  let v343 : BitVec 32 := Scalar.maxsi c0_i32_153 v340
  let v344 : BitVec 32 := Scalar.minsi v342 v343
  let v345 : BitVec 32 := Scalar.addi v341 v344
  let v356 : Index := Scalar.indexCast v345
  ![v356.toNat]
def k0_mult53 (v367 : BitVec 32) : BitVec 32 :=
  v367

def k0_off105 (i : grid0.Coords) (v96 : BitVec 32) (k0_t4 : Fin (k0_t4_loop v96).trips) : Fin 1 → Nat :=
  let arg0 : BitVec 32 := BitVec.ofNat 32 (i 0).val
  let c256_i32_159 : BitVec 32 := 256#32
  let v361 : BitVec 32 := Scalar.muli arg0 c256_i32_159
  let c1_i32_160 : BitVec 32 := 1#32
  let v362 : BitVec 32 := Scalar.subi v96 c1_i32_160
  let c0_i32_161 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_157 : BitVec 32 := 8#32
  let v359 : BitVec 32 := Scalar.addi v338 c8_i32_157
  let c1_i32_158 : BitVec 32 := 1#32
  let v360 : BitVec 32 := Scalar.addi v359 c1_i32_158
  let v363 : BitVec 32 := Scalar.maxsi c0_i32_161 v360
  let v364 : BitVec 32 := Scalar.minsi v362 v363
  let v365 : BitVec 32 := Scalar.addi v361 v364
  let v369 : Index := Scalar.indexCast v365
  ![v369.toNat]
def k0_mult54 (v370 : BitVec 32) : BitVec 32 :=
  let c256_i32_162 : BitVec 32 := 256#32
  let v371 : BitVec 32 := Scalar.muli v370 c256_i32_162
  v371

def k0_off106 (i : grid0.Coords) (v96 : BitVec 32) (k0_t4 : Fin (k0_t4_loop v96).trips) (c1_i32_158 : BitVec 32) : Fin 1 → Nat :=
  let arg0 : BitVec 32 := BitVec.ofNat 32 (i 0).val
  let c256_i32_159 : BitVec 32 := 256#32
  let v361 : BitVec 32 := Scalar.muli arg0 c256_i32_159
  let c1_i32_160 : BitVec 32 := 1#32
  let v362 : BitVec 32 := Scalar.subi v96 c1_i32_160
  let c0_i32_161 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_157 : BitVec 32 := 8#32
  let v359 : BitVec 32 := Scalar.addi v338 c8_i32_157
  let v360 : BitVec 32 := Scalar.addi v359 c1_i32_158
  let v363 : BitVec 32 := Scalar.maxsi c0_i32_161 v360
  let v364 : BitVec 32 := Scalar.minsi v362 v363
  let v365 : BitVec 32 := Scalar.addi v361 v364
  let v376 : Index := Scalar.indexCast v365
  ![v376.toNat]
def k0_mult55 (v387 : BitVec 32) : BitVec 32 :=
  v387

def k0_off107 (i : grid0.Coords) (v96 : BitVec 32) (k0_t4 : Fin (k0_t4_loop v96).trips) : Fin 1 → Nat :=
  let arg0 : BitVec 32 := BitVec.ofNat 32 (i 0).val
  let c256_i32_167 : BitVec 32 := 256#32
  let v381 : BitVec 32 := Scalar.muli arg0 c256_i32_167
  let c1_i32_168 : BitVec 32 := 1#32
  let v382 : BitVec 32 := Scalar.subi v96 c1_i32_168
  let c0_i32_169 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_165 : BitVec 32 := 8#32
  let v379 : BitVec 32 := Scalar.addi v338 c8_i32_165
  let c2_i32_166 : BitVec 32 := 2#32
  let v380 : BitVec 32 := Scalar.addi v379 c2_i32_166
  let v383 : BitVec 32 := Scalar.maxsi c0_i32_169 v380
  let v384 : BitVec 32 := Scalar.minsi v382 v383
  let v385 : BitVec 32 := Scalar.addi v381 v384
  let v389 : Index := Scalar.indexCast v385
  ![v389.toNat]
def k0_mult56 (v390 : BitVec 32) : BitVec 32 :=
  let c256_i32_170 : BitVec 32 := 256#32
  let v391 : BitVec 32 := Scalar.muli v390 c256_i32_170
  v391

def k0_off108 (i : grid0.Coords) (v96 : BitVec 32) (k0_t4 : Fin (k0_t4_loop v96).trips) (c2_i32_166 : BitVec 32) : Fin 1 → Nat :=
  let arg0 : BitVec 32 := BitVec.ofNat 32 (i 0).val
  let c256_i32_167 : BitVec 32 := 256#32
  let v381 : BitVec 32 := Scalar.muli arg0 c256_i32_167
  let c1_i32_168 : BitVec 32 := 1#32
  let v382 : BitVec 32 := Scalar.subi v96 c1_i32_168
  let c0_i32_169 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_165 : BitVec 32 := 8#32
  let v379 : BitVec 32 := Scalar.addi v338 c8_i32_165
  let v380 : BitVec 32 := Scalar.addi v379 c2_i32_166
  let v383 : BitVec 32 := Scalar.maxsi c0_i32_169 v380
  let v384 : BitVec 32 := Scalar.minsi v382 v383
  let v385 : BitVec 32 := Scalar.addi v381 v384
  let v396 : Index := Scalar.indexCast v385
  ![v396.toNat]
def k0_mult57 (v407 : BitVec 32) : BitVec 32 :=
  v407

def k0_off109 (i : grid0.Coords) (v96 : BitVec 32) (k0_t4 : Fin (k0_t4_loop v96).trips) : Fin 1 → Nat :=
  let arg0 : BitVec 32 := BitVec.ofNat 32 (i 0).val
  let c256_i32_175 : BitVec 32 := 256#32
  let v401 : BitVec 32 := Scalar.muli arg0 c256_i32_175
  let c1_i32_176 : BitVec 32 := 1#32
  let v402 : BitVec 32 := Scalar.subi v96 c1_i32_176
  let c0_i32_177 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_173 : BitVec 32 := 8#32
  let v399 : BitVec 32 := Scalar.addi v338 c8_i32_173
  let c3_i32_174 : BitVec 32 := 3#32
  let v400 : BitVec 32 := Scalar.addi v399 c3_i32_174
  let v403 : BitVec 32 := Scalar.maxsi c0_i32_177 v400
  let v404 : BitVec 32 := Scalar.minsi v402 v403
  let v405 : BitVec 32 := Scalar.addi v401 v404
  let v409 : Index := Scalar.indexCast v405
  ![v409.toNat]
def k0_mult58 (v410 : BitVec 32) : BitVec 32 :=
  let c256_i32_178 : BitVec 32 := 256#32
  let v411 : BitVec 32 := Scalar.muli v410 c256_i32_178
  v411

def k0_off110 (i : grid0.Coords) (v96 : BitVec 32) (k0_t4 : Fin (k0_t4_loop v96).trips) (c3_i32_174 : BitVec 32) : Fin 1 → Nat :=
  let arg0 : BitVec 32 := BitVec.ofNat 32 (i 0).val
  let c256_i32_175 : BitVec 32 := 256#32
  let v401 : BitVec 32 := Scalar.muli arg0 c256_i32_175
  let c1_i32_176 : BitVec 32 := 1#32
  let v402 : BitVec 32 := Scalar.subi v96 c1_i32_176
  let c0_i32_177 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_173 : BitVec 32 := 8#32
  let v399 : BitVec 32 := Scalar.addi v338 c8_i32_173
  let v400 : BitVec 32 := Scalar.addi v399 c3_i32_174
  let v403 : BitVec 32 := Scalar.maxsi c0_i32_177 v400
  let v404 : BitVec 32 := Scalar.minsi v402 v403
  let v405 : BitVec 32 := Scalar.addi v401 v404
  let v416 : Index := Scalar.indexCast v405
  ![v416.toNat]
def k0_mult59 (v427 : BitVec 32) : BitVec 32 :=
  v427

def k0_off111 (i : grid0.Coords) (v96 : BitVec 32) (k0_t4 : Fin (k0_t4_loop v96).trips) : Fin 1 → Nat :=
  let arg0 : BitVec 32 := BitVec.ofNat 32 (i 0).val
  let c256_i32_183 : BitVec 32 := 256#32
  let v421 : BitVec 32 := Scalar.muli arg0 c256_i32_183
  let c1_i32_184 : BitVec 32 := 1#32
  let v422 : BitVec 32 := Scalar.subi v96 c1_i32_184
  let c0_i32_185 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_181 : BitVec 32 := 8#32
  let v419 : BitVec 32 := Scalar.addi v338 c8_i32_181
  let c4_i32_182 : BitVec 32 := 4#32
  let v420 : BitVec 32 := Scalar.addi v419 c4_i32_182
  let v423 : BitVec 32 := Scalar.maxsi c0_i32_185 v420
  let v424 : BitVec 32 := Scalar.minsi v422 v423
  let v425 : BitVec 32 := Scalar.addi v421 v424
  let v429 : Index := Scalar.indexCast v425
  ![v429.toNat]
def k0_mult60 (v430 : BitVec 32) : BitVec 32 :=
  let c256_i32_186 : BitVec 32 := 256#32
  let v431 : BitVec 32 := Scalar.muli v430 c256_i32_186
  v431

def k0_off112 (i : grid0.Coords) (v96 : BitVec 32) (k0_t4 : Fin (k0_t4_loop v96).trips) (c4_i32_182 : BitVec 32) : Fin 1 → Nat :=
  let arg0 : BitVec 32 := BitVec.ofNat 32 (i 0).val
  let c256_i32_183 : BitVec 32 := 256#32
  let v421 : BitVec 32 := Scalar.muli arg0 c256_i32_183
  let c1_i32_184 : BitVec 32 := 1#32
  let v422 : BitVec 32 := Scalar.subi v96 c1_i32_184
  let c0_i32_185 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_181 : BitVec 32 := 8#32
  let v419 : BitVec 32 := Scalar.addi v338 c8_i32_181
  let v420 : BitVec 32 := Scalar.addi v419 c4_i32_182
  let v423 : BitVec 32 := Scalar.maxsi c0_i32_185 v420
  let v424 : BitVec 32 := Scalar.minsi v422 v423
  let v425 : BitVec 32 := Scalar.addi v421 v424
  let v436 : Index := Scalar.indexCast v425
  ![v436.toNat]
def k0_mult61 (v447 : BitVec 32) : BitVec 32 :=
  v447

def k0_off113 (i : grid0.Coords) (v96 : BitVec 32) (k0_t4 : Fin (k0_t4_loop v96).trips) : Fin 1 → Nat :=
  let arg0 : BitVec 32 := BitVec.ofNat 32 (i 0).val
  let c256_i32_191 : BitVec 32 := 256#32
  let v441 : BitVec 32 := Scalar.muli arg0 c256_i32_191
  let c1_i32_192 : BitVec 32 := 1#32
  let v442 : BitVec 32 := Scalar.subi v96 c1_i32_192
  let c0_i32_193 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_189 : BitVec 32 := 8#32
  let v439 : BitVec 32 := Scalar.addi v338 c8_i32_189
  let c5_i32_190 : BitVec 32 := 5#32
  let v440 : BitVec 32 := Scalar.addi v439 c5_i32_190
  let v443 : BitVec 32 := Scalar.maxsi c0_i32_193 v440
  let v444 : BitVec 32 := Scalar.minsi v442 v443
  let v445 : BitVec 32 := Scalar.addi v441 v444
  let v449 : Index := Scalar.indexCast v445
  ![v449.toNat]
def k0_mult62 (v450 : BitVec 32) : BitVec 32 :=
  let c256_i32_194 : BitVec 32 := 256#32
  let v451 : BitVec 32 := Scalar.muli v450 c256_i32_194
  v451

def k0_off114 (i : grid0.Coords) (v96 : BitVec 32) (k0_t4 : Fin (k0_t4_loop v96).trips) (c5_i32_190 : BitVec 32) : Fin 1 → Nat :=
  let arg0 : BitVec 32 := BitVec.ofNat 32 (i 0).val
  let c256_i32_191 : BitVec 32 := 256#32
  let v441 : BitVec 32 := Scalar.muli arg0 c256_i32_191
  let c1_i32_192 : BitVec 32 := 1#32
  let v442 : BitVec 32 := Scalar.subi v96 c1_i32_192
  let c0_i32_193 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_189 : BitVec 32 := 8#32
  let v439 : BitVec 32 := Scalar.addi v338 c8_i32_189
  let v440 : BitVec 32 := Scalar.addi v439 c5_i32_190
  let v443 : BitVec 32 := Scalar.maxsi c0_i32_193 v440
  let v444 : BitVec 32 := Scalar.minsi v442 v443
  let v445 : BitVec 32 := Scalar.addi v441 v444
  let v456 : Index := Scalar.indexCast v445
  ![v456.toNat]
def k0_mult63 (v467 : BitVec 32) : BitVec 32 :=
  v467

def k0_off115 (i : grid0.Coords) (v96 : BitVec 32) (k0_t4 : Fin (k0_t4_loop v96).trips) : Fin 1 → Nat :=
  let arg0 : BitVec 32 := BitVec.ofNat 32 (i 0).val
  let c256_i32_199 : BitVec 32 := 256#32
  let v461 : BitVec 32 := Scalar.muli arg0 c256_i32_199
  let c1_i32_200 : BitVec 32 := 1#32
  let v462 : BitVec 32 := Scalar.subi v96 c1_i32_200
  let c0_i32_201 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_197 : BitVec 32 := 8#32
  let v459 : BitVec 32 := Scalar.addi v338 c8_i32_197
  let c6_i32_198 : BitVec 32 := 6#32
  let v460 : BitVec 32 := Scalar.addi v459 c6_i32_198
  let v463 : BitVec 32 := Scalar.maxsi c0_i32_201 v460
  let v464 : BitVec 32 := Scalar.minsi v462 v463
  let v465 : BitVec 32 := Scalar.addi v461 v464
  let v469 : Index := Scalar.indexCast v465
  ![v469.toNat]
def k0_mult64 (v470 : BitVec 32) : BitVec 32 :=
  let c256_i32_202 : BitVec 32 := 256#32
  let v471 : BitVec 32 := Scalar.muli v470 c256_i32_202
  v471

def k0_off116 (i : grid0.Coords) (v96 : BitVec 32) (k0_t4 : Fin (k0_t4_loop v96).trips) (c6_i32_198 : BitVec 32) : Fin 1 → Nat :=
  let arg0 : BitVec 32 := BitVec.ofNat 32 (i 0).val
  let c256_i32_199 : BitVec 32 := 256#32
  let v461 : BitVec 32 := Scalar.muli arg0 c256_i32_199
  let c1_i32_200 : BitVec 32 := 1#32
  let v462 : BitVec 32 := Scalar.subi v96 c1_i32_200
  let c0_i32_201 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_197 : BitVec 32 := 8#32
  let v459 : BitVec 32 := Scalar.addi v338 c8_i32_197
  let v460 : BitVec 32 := Scalar.addi v459 c6_i32_198
  let v463 : BitVec 32 := Scalar.maxsi c0_i32_201 v460
  let v464 : BitVec 32 := Scalar.minsi v462 v463
  let v465 : BitVec 32 := Scalar.addi v461 v464
  let v476 : Index := Scalar.indexCast v465
  ![v476.toNat]
def k0_mult65 (v487 : BitVec 32) : BitVec 32 :=
  v487

def k0_off117 (i : grid0.Coords) (v96 : BitVec 32) (k0_t4 : Fin (k0_t4_loop v96).trips) : Fin 1 → Nat :=
  let arg0 : BitVec 32 := BitVec.ofNat 32 (i 0).val
  let c256_i32_207 : BitVec 32 := 256#32
  let v481 : BitVec 32 := Scalar.muli arg0 c256_i32_207
  let c1_i32_208 : BitVec 32 := 1#32
  let v482 : BitVec 32 := Scalar.subi v96 c1_i32_208
  let c0_i32_209 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_205 : BitVec 32 := 8#32
  let v479 : BitVec 32 := Scalar.addi v338 c8_i32_205
  let c7_i32_206 : BitVec 32 := 7#32
  let v480 : BitVec 32 := Scalar.addi v479 c7_i32_206
  let v483 : BitVec 32 := Scalar.maxsi c0_i32_209 v480
  let v484 : BitVec 32 := Scalar.minsi v482 v483
  let v485 : BitVec 32 := Scalar.addi v481 v484
  let v489 : Index := Scalar.indexCast v485
  ![v489.toNat]
def k0_mult66 (v490 : BitVec 32) : BitVec 32 :=
  let c256_i32_210 : BitVec 32 := 256#32
  let v491 : BitVec 32 := Scalar.muli v490 c256_i32_210
  v491

def k0_off118 (i : grid0.Coords) (v96 : BitVec 32) (k0_t4 : Fin (k0_t4_loop v96).trips) : Fin 1 → Nat :=
  let arg0 : BitVec 32 := BitVec.ofNat 32 (i 0).val
  let c256_i32_207 : BitVec 32 := 256#32
  let v481 : BitVec 32 := Scalar.muli arg0 c256_i32_207
  let c1_i32_208 : BitVec 32 := 1#32
  let v482 : BitVec 32 := Scalar.subi v96 c1_i32_208
  let c0_i32_209 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_205 : BitVec 32 := 8#32
  let v479 : BitVec 32 := Scalar.addi v338 c8_i32_205
  let c7_i32_206 : BitVec 32 := 7#32
  let v480 : BitVec 32 := Scalar.addi v479 c7_i32_206
  let v483 : BitVec 32 := Scalar.maxsi c0_i32_209 v480
  let v484 : BitVec 32 := Scalar.minsi v482 v483
  let v485 : BitVec 32 := Scalar.addi v481 v484
  let v496 : Index := Scalar.indexCast v485
  ![v496.toNat]
def k0_off119 (i : grid0.Coords) (v96 : BitVec 32) (k0_t4 : Fin (k0_t4_loop v96).trips) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_213 : BitVec 32 := 8#32
  let v499 : BitVec 32 := Scalar.subi v338 c8_i32_213
  let c0_i32_214 : BitVec 32 := 0#32
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v506 : Index := Scalar.indexCast v505
  ![v506.toNat]
def k0_mult67 (v507 : BitVec 32) : BitVec 32 :=
  v507

def k0_off120 (i : grid0.Coords) (v96 : BitVec 32) (k0_t4 : Fin (k0_t4_loop v96).trips) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_213 : BitVec 32 := 8#32
  let v499 : BitVec 32 := Scalar.subi v338 c8_i32_213
  let c0_i32_214 : BitVec 32 := 0#32
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v509 : Index := Scalar.indexCast v505
  ![v509.toNat]
def k0_mult68 (v510 : BitVec 32) : BitVec 32 :=
  let c256_i32_218 : BitVec 32 := 256#32
  let v511 : BitVec 32 := Scalar.muli v510 c256_i32_218
  v511

def k0_off121 (i : grid0.Coords) (v96 : BitVec 32) (k0_t4 : Fin (k0_t4_loop v96).trips) (c0_i32_214 : BitVec 32) : Fin 1 → Nat :=
  let arg0 : BitVec 32 := BitVec.ofNat 32 (i 0).val
  let c256_i32_215 : BitVec 32 := 256#32
  let v501 : BitVec 32 := Scalar.muli arg0 c256_i32_215
  let c1_i32_216 : BitVec 32 := 1#32
  let v502 : BitVec 32 := Scalar.subi v96 c1_i32_216
  let c0_i32_217 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_213 : BitVec 32 := 8#32
  let v499 : BitVec 32 := Scalar.subi v338 c8_i32_213
  let v500 : BitVec 32 := Scalar.addi v499 c0_i32_214
  let v503 : BitVec 32 := Scalar.maxsi c0_i32_217 v500
  let v504 : BitVec 32 := Scalar.minsi v502 v503
  let v505 : BitVec 32 := Scalar.addi v501 v504
  let v516 : Index := Scalar.indexCast v505
  ![v516.toNat]
def k0_mult69 (v527 : BitVec 32) : BitVec 32 :=
  v527

def k0_off122 (i : grid0.Coords) (v96 : BitVec 32) (k0_t4 : Fin (k0_t4_loop v96).trips) : Fin 1 → Nat :=
  let arg0 : BitVec 32 := BitVec.ofNat 32 (i 0).val
  let c256_i32_223 : BitVec 32 := 256#32
  let v521 : BitVec 32 := Scalar.muli arg0 c256_i32_223
  let c1_i32_224 : BitVec 32 := 1#32
  let v522 : BitVec 32 := Scalar.subi v96 c1_i32_224
  let c0_i32_225 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_221 : BitVec 32 := 8#32
  let v519 : BitVec 32 := Scalar.subi v338 c8_i32_221
  let c1_i32_222 : BitVec 32 := 1#32
  let v520 : BitVec 32 := Scalar.addi v519 c1_i32_222
  let v523 : BitVec 32 := Scalar.maxsi c0_i32_225 v520
  let v524 : BitVec 32 := Scalar.minsi v522 v523
  let v525 : BitVec 32 := Scalar.addi v521 v524
  let v529 : Index := Scalar.indexCast v525
  ![v529.toNat]
def k0_mult70 (v530 : BitVec 32) : BitVec 32 :=
  let c256_i32_226 : BitVec 32 := 256#32
  let v531 : BitVec 32 := Scalar.muli v530 c256_i32_226
  v531

def k0_off123 (i : grid0.Coords) (v96 : BitVec 32) (k0_t4 : Fin (k0_t4_loop v96).trips) (c1_i32_222 : BitVec 32) : Fin 1 → Nat :=
  let arg0 : BitVec 32 := BitVec.ofNat 32 (i 0).val
  let c256_i32_223 : BitVec 32 := 256#32
  let v521 : BitVec 32 := Scalar.muli arg0 c256_i32_223
  let c1_i32_224 : BitVec 32 := 1#32
  let v522 : BitVec 32 := Scalar.subi v96 c1_i32_224
  let c0_i32_225 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_221 : BitVec 32 := 8#32
  let v519 : BitVec 32 := Scalar.subi v338 c8_i32_221
  let v520 : BitVec 32 := Scalar.addi v519 c1_i32_222
  let v523 : BitVec 32 := Scalar.maxsi c0_i32_225 v520
  let v524 : BitVec 32 := Scalar.minsi v522 v523
  let v525 : BitVec 32 := Scalar.addi v521 v524
  let v536 : Index := Scalar.indexCast v525
  ![v536.toNat]
def k0_mult71 (v547 : BitVec 32) : BitVec 32 :=
  v547

def k0_off124 (i : grid0.Coords) (v96 : BitVec 32) (k0_t4 : Fin (k0_t4_loop v96).trips) : Fin 1 → Nat :=
  let arg0 : BitVec 32 := BitVec.ofNat 32 (i 0).val
  let c256_i32_231 : BitVec 32 := 256#32
  let v541 : BitVec 32 := Scalar.muli arg0 c256_i32_231
  let c1_i32_232 : BitVec 32 := 1#32
  let v542 : BitVec 32 := Scalar.subi v96 c1_i32_232
  let c0_i32_233 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_229 : BitVec 32 := 8#32
  let v539 : BitVec 32 := Scalar.subi v338 c8_i32_229
  let c2_i32_230 : BitVec 32 := 2#32
  let v540 : BitVec 32 := Scalar.addi v539 c2_i32_230
  let v543 : BitVec 32 := Scalar.maxsi c0_i32_233 v540
  let v544 : BitVec 32 := Scalar.minsi v542 v543
  let v545 : BitVec 32 := Scalar.addi v541 v544
  let v549 : Index := Scalar.indexCast v545
  ![v549.toNat]
def k0_mult72 (v550 : BitVec 32) : BitVec 32 :=
  let c256_i32_234 : BitVec 32 := 256#32
  let v551 : BitVec 32 := Scalar.muli v550 c256_i32_234
  v551

def k0_off125 (i : grid0.Coords) (v96 : BitVec 32) (k0_t4 : Fin (k0_t4_loop v96).trips) (c2_i32_230 : BitVec 32) : Fin 1 → Nat :=
  let arg0 : BitVec 32 := BitVec.ofNat 32 (i 0).val
  let c256_i32_231 : BitVec 32 := 256#32
  let v541 : BitVec 32 := Scalar.muli arg0 c256_i32_231
  let c1_i32_232 : BitVec 32 := 1#32
  let v542 : BitVec 32 := Scalar.subi v96 c1_i32_232
  let c0_i32_233 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_229 : BitVec 32 := 8#32
  let v539 : BitVec 32 := Scalar.subi v338 c8_i32_229
  let v540 : BitVec 32 := Scalar.addi v539 c2_i32_230
  let v543 : BitVec 32 := Scalar.maxsi c0_i32_233 v540
  let v544 : BitVec 32 := Scalar.minsi v542 v543
  let v545 : BitVec 32 := Scalar.addi v541 v544
  let v556 : Index := Scalar.indexCast v545
  ![v556.toNat]
def k0_mult73 (v567 : BitVec 32) : BitVec 32 :=
  v567

def k0_off126 (i : grid0.Coords) (v96 : BitVec 32) (k0_t4 : Fin (k0_t4_loop v96).trips) : Fin 1 → Nat :=
  let arg0 : BitVec 32 := BitVec.ofNat 32 (i 0).val
  let c256_i32_239 : BitVec 32 := 256#32
  let v561 : BitVec 32 := Scalar.muli arg0 c256_i32_239
  let c1_i32_240 : BitVec 32 := 1#32
  let v562 : BitVec 32 := Scalar.subi v96 c1_i32_240
  let c0_i32_241 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_237 : BitVec 32 := 8#32
  let v559 : BitVec 32 := Scalar.subi v338 c8_i32_237
  let c3_i32_238 : BitVec 32 := 3#32
  let v560 : BitVec 32 := Scalar.addi v559 c3_i32_238
  let v563 : BitVec 32 := Scalar.maxsi c0_i32_241 v560
  let v564 : BitVec 32 := Scalar.minsi v562 v563
  let v565 : BitVec 32 := Scalar.addi v561 v564
  let v569 : Index := Scalar.indexCast v565
  ![v569.toNat]
def k0_mult74 (v570 : BitVec 32) : BitVec 32 :=
  let c256_i32_242 : BitVec 32 := 256#32
  let v571 : BitVec 32 := Scalar.muli v570 c256_i32_242
  v571

def k0_off127 (i : grid0.Coords) (v96 : BitVec 32) (k0_t4 : Fin (k0_t4_loop v96).trips) (c3_i32_238 : BitVec 32) : Fin 1 → Nat :=
  let arg0 : BitVec 32 := BitVec.ofNat 32 (i 0).val
  let c256_i32_239 : BitVec 32 := 256#32
  let v561 : BitVec 32 := Scalar.muli arg0 c256_i32_239
  let c1_i32_240 : BitVec 32 := 1#32
  let v562 : BitVec 32 := Scalar.subi v96 c1_i32_240
  let c0_i32_241 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_237 : BitVec 32 := 8#32
  let v559 : BitVec 32 := Scalar.subi v338 c8_i32_237
  let v560 : BitVec 32 := Scalar.addi v559 c3_i32_238
  let v563 : BitVec 32 := Scalar.maxsi c0_i32_241 v560
  let v564 : BitVec 32 := Scalar.minsi v562 v563
  let v565 : BitVec 32 := Scalar.addi v561 v564
  let v576 : Index := Scalar.indexCast v565
  ![v576.toNat]
def k0_mult75 (v587 : BitVec 32) : BitVec 32 :=
  v587

def k0_off128 (i : grid0.Coords) (v96 : BitVec 32) (k0_t4 : Fin (k0_t4_loop v96).trips) : Fin 1 → Nat :=
  let arg0 : BitVec 32 := BitVec.ofNat 32 (i 0).val
  let c256_i32_247 : BitVec 32 := 256#32
  let v581 : BitVec 32 := Scalar.muli arg0 c256_i32_247
  let c1_i32_248 : BitVec 32 := 1#32
  let v582 : BitVec 32 := Scalar.subi v96 c1_i32_248
  let c0_i32_249 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_245 : BitVec 32 := 8#32
  let v579 : BitVec 32 := Scalar.subi v338 c8_i32_245
  let c4_i32_246 : BitVec 32 := 4#32
  let v580 : BitVec 32 := Scalar.addi v579 c4_i32_246
  let v583 : BitVec 32 := Scalar.maxsi c0_i32_249 v580
  let v584 : BitVec 32 := Scalar.minsi v582 v583
  let v585 : BitVec 32 := Scalar.addi v581 v584
  let v589 : Index := Scalar.indexCast v585
  ![v589.toNat]
def k0_mult76 (v590 : BitVec 32) : BitVec 32 :=
  let c256_i32_250 : BitVec 32 := 256#32
  let v591 : BitVec 32 := Scalar.muli v590 c256_i32_250
  v591

def k0_off129 (i : grid0.Coords) (v96 : BitVec 32) (k0_t4 : Fin (k0_t4_loop v96).trips) (c4_i32_246 : BitVec 32) : Fin 1 → Nat :=
  let arg0 : BitVec 32 := BitVec.ofNat 32 (i 0).val
  let c256_i32_247 : BitVec 32 := 256#32
  let v581 : BitVec 32 := Scalar.muli arg0 c256_i32_247
  let c1_i32_248 : BitVec 32 := 1#32
  let v582 : BitVec 32 := Scalar.subi v96 c1_i32_248
  let c0_i32_249 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_245 : BitVec 32 := 8#32
  let v579 : BitVec 32 := Scalar.subi v338 c8_i32_245
  let v580 : BitVec 32 := Scalar.addi v579 c4_i32_246
  let v583 : BitVec 32 := Scalar.maxsi c0_i32_249 v580
  let v584 : BitVec 32 := Scalar.minsi v582 v583
  let v585 : BitVec 32 := Scalar.addi v581 v584
  let v596 : Index := Scalar.indexCast v585
  ![v596.toNat]
def k0_mult77 (v607 : BitVec 32) : BitVec 32 :=
  v607

def k0_off130 (i : grid0.Coords) (v96 : BitVec 32) (k0_t4 : Fin (k0_t4_loop v96).trips) : Fin 1 → Nat :=
  let arg0 : BitVec 32 := BitVec.ofNat 32 (i 0).val
  let c256_i32_255 : BitVec 32 := 256#32
  let v601 : BitVec 32 := Scalar.muli arg0 c256_i32_255
  let c1_i32_256 : BitVec 32 := 1#32
  let v602 : BitVec 32 := Scalar.subi v96 c1_i32_256
  let c0_i32_257 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_253 : BitVec 32 := 8#32
  let v599 : BitVec 32 := Scalar.subi v338 c8_i32_253
  let c5_i32_254 : BitVec 32 := 5#32
  let v600 : BitVec 32 := Scalar.addi v599 c5_i32_254
  let v603 : BitVec 32 := Scalar.maxsi c0_i32_257 v600
  let v604 : BitVec 32 := Scalar.minsi v602 v603
  let v605 : BitVec 32 := Scalar.addi v601 v604
  let v609 : Index := Scalar.indexCast v605
  ![v609.toNat]
def k0_mult78 (v610 : BitVec 32) : BitVec 32 :=
  let c256_i32_258 : BitVec 32 := 256#32
  let v611 : BitVec 32 := Scalar.muli v610 c256_i32_258
  v611

def k0_off131 (i : grid0.Coords) (v96 : BitVec 32) (k0_t4 : Fin (k0_t4_loop v96).trips) (c5_i32_254 : BitVec 32) : Fin 1 → Nat :=
  let arg0 : BitVec 32 := BitVec.ofNat 32 (i 0).val
  let c256_i32_255 : BitVec 32 := 256#32
  let v601 : BitVec 32 := Scalar.muli arg0 c256_i32_255
  let c1_i32_256 : BitVec 32 := 1#32
  let v602 : BitVec 32 := Scalar.subi v96 c1_i32_256
  let c0_i32_257 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_253 : BitVec 32 := 8#32
  let v599 : BitVec 32 := Scalar.subi v338 c8_i32_253
  let v600 : BitVec 32 := Scalar.addi v599 c5_i32_254
  let v603 : BitVec 32 := Scalar.maxsi c0_i32_257 v600
  let v604 : BitVec 32 := Scalar.minsi v602 v603
  let v605 : BitVec 32 := Scalar.addi v601 v604
  let v616 : Index := Scalar.indexCast v605
  ![v616.toNat]
def k0_mult79 (v627 : BitVec 32) : BitVec 32 :=
  v627

def k0_off132 (i : grid0.Coords) (v96 : BitVec 32) (k0_t4 : Fin (k0_t4_loop v96).trips) : Fin 1 → Nat :=
  let arg0 : BitVec 32 := BitVec.ofNat 32 (i 0).val
  let c256_i32_263 : BitVec 32 := 256#32
  let v621 : BitVec 32 := Scalar.muli arg0 c256_i32_263
  let c1_i32_264 : BitVec 32 := 1#32
  let v622 : BitVec 32 := Scalar.subi v96 c1_i32_264
  let c0_i32_265 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_261 : BitVec 32 := 8#32
  let v619 : BitVec 32 := Scalar.subi v338 c8_i32_261
  let c6_i32_262 : BitVec 32 := 6#32
  let v620 : BitVec 32 := Scalar.addi v619 c6_i32_262
  let v623 : BitVec 32 := Scalar.maxsi c0_i32_265 v620
  let v624 : BitVec 32 := Scalar.minsi v622 v623
  let v625 : BitVec 32 := Scalar.addi v621 v624
  let v629 : Index := Scalar.indexCast v625
  ![v629.toNat]
def k0_mult80 (v630 : BitVec 32) : BitVec 32 :=
  let c256_i32_266 : BitVec 32 := 256#32
  let v631 : BitVec 32 := Scalar.muli v630 c256_i32_266
  v631

def k0_off133 (i : grid0.Coords) (v96 : BitVec 32) (k0_t4 : Fin (k0_t4_loop v96).trips) (c6_i32_262 : BitVec 32) : Fin 1 → Nat :=
  let arg0 : BitVec 32 := BitVec.ofNat 32 (i 0).val
  let c256_i32_263 : BitVec 32 := 256#32
  let v621 : BitVec 32 := Scalar.muli arg0 c256_i32_263
  let c1_i32_264 : BitVec 32 := 1#32
  let v622 : BitVec 32 := Scalar.subi v96 c1_i32_264
  let c0_i32_265 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_261 : BitVec 32 := 8#32
  let v619 : BitVec 32 := Scalar.subi v338 c8_i32_261
  let v620 : BitVec 32 := Scalar.addi v619 c6_i32_262
  let v623 : BitVec 32 := Scalar.maxsi c0_i32_265 v620
  let v624 : BitVec 32 := Scalar.minsi v622 v623
  let v625 : BitVec 32 := Scalar.addi v621 v624
  let v636 : Index := Scalar.indexCast v625
  ![v636.toNat]
def k0_mult81 (v647 : BitVec 32) : BitVec 32 :=
  v647

def k0_off134 (i : grid0.Coords) (v96 : BitVec 32) (k0_t4 : Fin (k0_t4_loop v96).trips) : Fin 1 → Nat :=
  let arg0 : BitVec 32 := BitVec.ofNat 32 (i 0).val
  let c256_i32_271 : BitVec 32 := 256#32
  let v641 : BitVec 32 := Scalar.muli arg0 c256_i32_271
  let c1_i32_272 : BitVec 32 := 1#32
  let v642 : BitVec 32 := Scalar.subi v96 c1_i32_272
  let c0_i32_273 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_269 : BitVec 32 := 8#32
  let v639 : BitVec 32 := Scalar.subi v338 c8_i32_269
  let c7_i32_270 : BitVec 32 := 7#32
  let v640 : BitVec 32 := Scalar.addi v639 c7_i32_270
  let v643 : BitVec 32 := Scalar.maxsi c0_i32_273 v640
  let v644 : BitVec 32 := Scalar.minsi v642 v643
  let v645 : BitVec 32 := Scalar.addi v641 v644
  let v649 : Index := Scalar.indexCast v645
  ![v649.toNat]
def k0_mult82 (v650 : BitVec 32) : BitVec 32 :=
  let c256_i32_274 : BitVec 32 := 256#32
  let v651 : BitVec 32 := Scalar.muli v650 c256_i32_274
  v651

def k0_off135 (i : grid0.Coords) (v96 : BitVec 32) (k0_t4 : Fin (k0_t4_loop v96).trips) : Fin 1 → Nat :=
  let arg0 : BitVec 32 := BitVec.ofNat 32 (i 0).val
  let c256_i32_271 : BitVec 32 := 256#32
  let v641 : BitVec 32 := Scalar.muli arg0 c256_i32_271
  let c1_i32_272 : BitVec 32 := 1#32
  let v642 : BitVec 32 := Scalar.subi v96 c1_i32_272
  let c0_i32_273 : BitVec 32 := 0#32
  let c8_i32_148 : BitVec 32 := 8#32
  let c0_i32_143 : BitVec 32 := 0#32
  let c8_i32_133 : BitVec 32 := 8#32
  let v311 : BitVec 32 := Scalar.addi v96 c8_i32_133
  let c1_i32_134 : BitVec 32 := 1#32
  let v312 : BitVec 32 := Scalar.subi v311 c1_i32_134
  let c0_i32_136 : BitVec 32 := 0#32
  let v314 : BitVec 1 := Scalar.cmpi .sgt v312 c0_i32_136
  let v315 : BitVec 32 := Scalar.extui v314
  let c0_i32_137 : BitVec 32 := 0#32
  let v316 : BitVec 1 := Scalar.cmpi .slt v312 c0_i32_137
  let v317 : BitVec 32 := Scalar.extui v316
  let v318 : BitVec 32 := Scalar.subi v315 v317
  let c8_i32_135 : BitVec 32 := 8#32
  let c0_i32_138 : BitVec 32 := 0#32
  let v319 : BitVec 1 := Scalar.cmpi .sgt c8_i32_135 c0_i32_138
  let v320 : BitVec 32 := Scalar.extui v319
  let c0_i32_139 : BitVec 32 := 0#32
  let v321 : BitVec 1 := Scalar.cmpi .slt c8_i32_135 c0_i32_139
  let v322 : BitVec 32 := Scalar.extui v321
  let v323 : BitVec 32 := Scalar.subi v320 v322
  let v324 : BitVec 1 := Scalar.cmpi .ne v318 v323
  let v325 : BitVec 32 := Scalar.remsi v312 c8_i32_135
  let c0_i32_140 : BitVec 32 := 0#32
  let v326 : BitVec 1 := Scalar.cmpi .ne v325 c0_i32_140
  let v327 : BitVec 1 := Scalar.andi v324 v326
  let v313 : BitVec 32 := Scalar.divsi v312 c8_i32_135
  let c1_i32_141 : BitVec 32 := 1#32
  let v328 : BitVec 32 := Scalar.subi v313 c1_i32_141
  let v329 : BitVec 32 := Scalar.select v327 v328 v313
  let c1_i32_142 : BitVec 32 := 1#32
  let v330 : BitVec 32 := Scalar.addi v329 c1_i32_142
  let v331 : BitVec 32 := Scalar.subi v330 c0_i32_143
  let c1_i32_145 : BitVec 32 := 1#32
  let v333 : BitVec 32 := Scalar.divsi v331 c1_i32_145
  let v334 : BitVec 32 := Scalar.muli v333 c1_i32_145
  let v335 : BitVec 32 := Scalar.addi c0_i32_143 v334
  let c1_i32_147 : BitVec 32 := 1#32
  let arg24 : BitVec 32 := Scf.iv v335 c1_i32_147 k0_t4
  let v338 : BitVec 32 := Scalar.muli c8_i32_148 arg24
  let c8_i32_269 : BitVec 32 := 8#32
  let v639 : BitVec 32 := Scalar.subi v338 c8_i32_269
  let c7_i32_270 : BitVec 32 := 7#32
  let v640 : BitVec 32 := Scalar.addi v639 c7_i32_270
  let v643 : BitVec 32 := Scalar.maxsi c0_i32_273 v640
  let v644 : BitVec 32 := Scalar.minsi v642 v643
  let v645 : BitVec 32 := Scalar.addi v641 v644
  let v656 : Index := Scalar.indexCast v645
  ![v656.toNat]

def k0_chk1_0 (i : grid0.Coords) (v96 : BitVec 32) : Prop :=
  (∀ (k0_h2 : k0_cond2 i = 1#1), ∀ (k0_h3 : k0_cond3 v96 = 1#1), ∀ a, (k0_off4 i v96) a + S1.size a ≤ S4096.size a) ∧
  (∀ (k0_h2 : k0_cond2 i = 1#1), ∀ (k0_h3 : k0_cond3 v96 = 1#1), ∀ a, (k0_off5 i v96) a + S1.size a ≤ S4096.size a) ∧
  (∀ (k0_h2 : k0_cond2 i = 1#1), ∀ (k0_h3 : k0_cond3 v96 = 1#1), ∀ a, (k0_off8 i v96) a + S1.size a ≤ S4096.size a) ∧
  (∀ (k0_h2 : k0_cond2 i = 1#1), ∀ (k0_h3 : k0_cond3 v96 = 1#1), ∀ a, (k0_off9 i v96) a + S1.size a ≤ S4096.size a) ∧
  (∀ (k0_h2 : k0_cond2 i = 1#1), ∀ (k0_h3 : k0_cond3 v96 = 1#1), ∀ a, (k0_off12 i v96) a + S1.size a ≤ S4096.size a) ∧
  (∀ (k0_h2 : k0_cond2 i = 1#1), ∀ (k0_h3 : k0_cond3 v96 = 1#1), ∀ a, (k0_off13 i v96) a + S1.size a ≤ S4096.size a) ∧
  (∀ (k0_h2 : k0_cond2 i = 1#1), ∀ (k0_h3 : k0_cond3 v96 = 1#1), ∀ a, (k0_off16 i v96) a + S1.size a ≤ S4096.size a) ∧
  (∀ (k0_h2 : k0_cond2 i = 1#1), ∀ (k0_h3 : k0_cond3 v96 = 1#1), ∀ a, (k0_off17 i v96) a + S1.size a ≤ S4096.size a) ∧
  (∀ (k0_h2 : k0_cond2 i = 1#1), ∀ (k0_h3 : k0_cond3 v96 = 1#1), ∀ a, (k0_off20 i v96) a + S1.size a ≤ S4096.size a) ∧
  (∀ (k0_h2 : k0_cond2 i = 1#1), ∀ (k0_h3 : k0_cond3 v96 = 1#1), ∀ a, (k0_off21 i v96) a + S1.size a ≤ S4096.size a) ∧
  (∀ (k0_h2 : k0_cond2 i = 1#1), ∀ (k0_h3 : k0_cond3 v96 = 1#1), ∀ a, (k0_off24 i v96) a + S1.size a ≤ S4096.size a) ∧
  (∀ (k0_h2 : k0_cond2 i = 1#1), ∀ (k0_h3 : k0_cond3 v96 = 1#1), ∀ a, (k0_off25 i v96) a + S1.size a ≤ S4096.size a) ∧
  (∀ (k0_h2 : k0_cond2 i = 1#1), ∀ (k0_h3 : k0_cond3 v96 = 1#1), ∀ a, (k0_off28 i v96) a + S1.size a ≤ S4096.size a) ∧
  (∀ (k0_h2 : k0_cond2 i = 1#1), ∀ (k0_h3 : k0_cond3 v96 = 1#1), ∀ a, (k0_off29 i v96) a + S1.size a ≤ S4096.size a) ∧
  (∀ (k0_h2 : k0_cond2 i = 1#1), ∀ (k0_h3 : k0_cond3 v96 = 1#1), ∀ a, (k0_off32 i v96) a + S1.size a ≤ S4096.size a) ∧
  (∀ (k0_h2 : k0_cond2 i = 1#1), ∀ (k0_h3 : k0_cond3 v96 = 1#1), ∀ a, (k0_off33 i v96) a + S1.size a ≤ S4096.size a) ∧
  (∀ (k0_h2 : k0_cond2 i = 1#1), ∀ (k0_h3 : k0_cond3 v96 = 1#1), (k0_t3_loop v96).OK) ∧
  (∀ k0_t3 : Fin (k0_t3_loop v96).trips, ∀ (k0_h2 : k0_cond2 i = 1#1), ∀ (k0_h3 : k0_cond3 v96 = 1#1), ∀ a, (k0_off36 i v96 k0_t3) a + S1.size a ≤ S4096.size a) ∧
  (∀ k0_t3 : Fin (k0_t3_loop v96).trips, ∀ (k0_h2 : k0_cond2 i = 1#1), ∀ (k0_h3 : k0_cond3 v96 = 1#1), ∀ a, (k0_off37 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off38 i v96 k0_t3 (BitVec.ofNat 32 r.val)) a + S1.size a ≤ S4096.size a) ∧
  (∀ k0_t3 : Fin (k0_t3_loop v96).trips, ∀ (k0_h2 : k0_cond2 i = 1#1), ∀ (k0_h3 : k0_cond3 v96 = 1#1), ∀ a, (k0_off39 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off40 i v96 k0_t3 (BitVec.ofNat 32 (1 + r.val))) a + S1.size a ≤ S4096.size a) ∧
  (∀ k0_t3 : Fin (k0_t3_loop v96).trips, ∀ (k0_h2 : k0_cond2 i = 1#1), ∀ (k0_h3 : k0_cond3 v96 = 1#1), ∀ a, (k0_off41 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off42 i v96 k0_t3 (BitVec.ofNat 32 (2 + r.val))) a + S1.size a ≤ S4096.size a) ∧
  (∀ k0_t3 : Fin (k0_t3_loop v96).trips, ∀ (k0_h2 : k0_cond2 i = 1#1), ∀ (k0_h3 : k0_cond3 v96 = 1#1), ∀ a, (k0_off43 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off44 i v96 k0_t3 (BitVec.ofNat 32 (3 + r.val))) a + S1.size a ≤ S4096.size a) ∧
  (∀ k0_t3 : Fin (k0_t3_loop v96).trips, ∀ (k0_h2 : k0_cond2 i = 1#1), ∀ (k0_h3 : k0_cond3 v96 = 1#1), ∀ a, (k0_off45 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off46 i v96 k0_t3 (BitVec.ofNat 32 (4 + r.val))) a + S1.size a ≤ S4096.size a) ∧
  (∀ k0_t3 : Fin (k0_t3_loop v96).trips, ∀ (k0_h2 : k0_cond2 i = 1#1), ∀ (k0_h3 : k0_cond3 v96 = 1#1), ∀ a, (k0_off47 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off48 i v96 k0_t3 (BitVec.ofNat 32 (5 + r.val))) a + S1.size a ≤ S4096.size a) ∧
  (∀ k0_t3 : Fin (k0_t3_loop v96).trips, ∀ (k0_h2 : k0_cond2 i = 1#1), ∀ (k0_h3 : k0_cond3 v96 = 1#1), ∀ a, (k0_off49 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off50 i v96 k0_t3 (BitVec.ofNat 32 (6 + r.val))) a + S1.size a ≤ S4096.size a)
def k0_chk1_1 (i : grid0.Coords) (v96 : BitVec 32) : Prop :=
  (∀ k0_t3 : Fin (k0_t3_loop v96).trips, ∀ (k0_h2 : k0_cond2 i = 1#1), ∀ (k0_h3 : k0_cond3 v96 = 1#1), ∀ a, (k0_off51 i v96 k0_t3) a + S1.size a ≤ S4096.size a) ∧
  (∀ k0_t3 : Fin (k0_t3_loop v96).trips, ∀ (k0_h2 : k0_cond2 i = 1#1), ∀ (k0_h3 : k0_cond3 v96 = 1#1), ∀ a, (k0_off52 i v96 k0_t3) a + S1.size a ≤ S4096.size a) ∧
  (∀ k0_t3 : Fin (k0_t3_loop v96).trips, ∀ (k0_h2 : k0_cond2 i = 1#1), ∀ (k0_h3 : k0_cond3 v96 = 1#1), ∀ a, (k0_off53 i v96 k0_t3) a + S1.size a ≤ S4096.size a) ∧
  (∀ k0_t3 : Fin (k0_t3_loop v96).trips, ∀ (k0_h2 : k0_cond2 i = 1#1), ∀ (k0_h3 : k0_cond3 v96 = 1#1), ∀ a, (k0_off54 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off55 i v96 k0_t3 (BitVec.ofNat 32 r.val)) a + S1.size a ≤ S4096.size a) ∧
  (∀ k0_t3 : Fin (k0_t3_loop v96).trips, ∀ (k0_h2 : k0_cond2 i = 1#1), ∀ (k0_h3 : k0_cond3 v96 = 1#1), ∀ a, (k0_off56 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off57 i v96 k0_t3 (BitVec.ofNat 32 (1 + r.val))) a + S1.size a ≤ S4096.size a) ∧
  (∀ k0_t3 : Fin (k0_t3_loop v96).trips, ∀ (k0_h2 : k0_cond2 i = 1#1), ∀ (k0_h3 : k0_cond3 v96 = 1#1), ∀ a, (k0_off58 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off59 i v96 k0_t3 (BitVec.ofNat 32 (2 + r.val))) a + S1.size a ≤ S4096.size a) ∧
  (∀ k0_t3 : Fin (k0_t3_loop v96).trips, ∀ (k0_h2 : k0_cond2 i = 1#1), ∀ (k0_h3 : k0_cond3 v96 = 1#1), ∀ a, (k0_off60 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off61 i v96 k0_t3 (BitVec.ofNat 32 (3 + r.val))) a + S1.size a ≤ S4096.size a) ∧
  (∀ k0_t3 : Fin (k0_t3_loop v96).trips, ∀ (k0_h2 : k0_cond2 i = 1#1), ∀ (k0_h3 : k0_cond3 v96 = 1#1), ∀ a, (k0_off62 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off63 i v96 k0_t3 (BitVec.ofNat 32 (4 + r.val))) a + S1.size a ≤ S4096.size a) ∧
  (∀ k0_t3 : Fin (k0_t3_loop v96).trips, ∀ (k0_h2 : k0_cond2 i = 1#1), ∀ (k0_h3 : k0_cond3 v96 = 1#1), ∀ a, (k0_off64 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off65 i v96 k0_t3 (BitVec.ofNat 32 (5 + r.val))) a + S1.size a ≤ S4096.size a) ∧
  (∀ k0_t3 : Fin (k0_t3_loop v96).trips, ∀ (k0_h2 : k0_cond2 i = 1#1), ∀ (k0_h3 : k0_cond3 v96 = 1#1), ∀ a, (k0_off66 i v96 k0_t3) a + S1.size a ≤ S4096.size a) ∧
  (∀ k0_t3 : Fin (k0_t3_loop v96).trips, ∀ (k0_h2 : k0_cond2 i = 1#1), ∀ (k0_h3 : k0_cond3 v96 = 1#1), ∀ (r : Fin 2), ∀ a, (k0_off67 i v96 k0_t3 (BitVec.ofNat 32 (6 + r.val))) a + S1.size a ≤ S4096.size a) ∧
  (∀ k0_t3 : Fin (k0_t3_loop v96).trips, ∀ (k0_h2 : k0_cond2 i = 1#1), ∀ (k0_h3 : k0_cond3 v96 = 1#1), ∀ a, (k0_off68 i v96 k0_t3) a + S1.size a ≤ S4096.size a) ∧
  (∀ k0_t3 : Fin (k0_t3_loop v96).trips, ∀ (k0_h2 : k0_cond2 i = 1#1), ∀ (k0_h3 : k0_cond3 v96 = 1#1), ∀ a, (k0_off69 i v96 k0_t3) a + S1.size a ≤ S4096.size a) ∧
  (∀ (k0_h2 : k0_cond2 i = 1#1), ∀ (k0_h3 : k0_cond3 v96 = 1#1), (k0_t4_loop v96).OK) ∧
  (∀ k0_t4 : Fin (k0_t4_loop v96).trips, ∀ (k0_h2 : k0_cond2 i = 1#1), ∀ (k0_h3 : k0_cond3 v96 = 1#1), ∀ a, (k0_off102 i v96 k0_t4) a + S1.size a ≤ S4096.size a) ∧
  (∀ k0_t4 : Fin (k0_t4_loop v96).trips, ∀ (k0_h2 : k0_cond2 i = 1#1), ∀ (k0_h3 : k0_cond3 v96 = 1#1), ∀ a, (k0_off103 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off104 i v96 k0_t4 (BitVec.ofNat 32 r.val)) a + S1.size a ≤ S4096.size a) ∧
  (∀ k0_t4 : Fin (k0_t4_loop v96).trips, ∀ (k0_h2 : k0_cond2 i = 1#1), ∀ (k0_h3 : k0_cond3 v96 = 1#1), ∀ a, (k0_off105 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off106 i v96 k0_t4 (BitVec.ofNat 32 (1 + r.val))) a + S1.size a ≤ S4096.size a) ∧
  (∀ k0_t4 : Fin (k0_t4_loop v96).trips, ∀ (k0_h2 : k0_cond2 i = 1#1), ∀ (k0_h3 : k0_cond3 v96 = 1#1), ∀ a, (k0_off107 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off108 i v96 k0_t4 (BitVec.ofNat 32 (2 + r.val))) a + S1.size a ≤ S4096.size a) ∧
  (∀ k0_t4 : Fin (k0_t4_loop v96).trips, ∀ (k0_h2 : k0_cond2 i = 1#1), ∀ (k0_h3 : k0_cond3 v96 = 1#1), ∀ a, (k0_off109 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off110 i v96 k0_t4 (BitVec.ofNat 32 (3 + r.val))) a + S1.size a ≤ S4096.size a) ∧
  (∀ k0_t4 : Fin (k0_t4_loop v96).trips, ∀ (k0_h2 : k0_cond2 i = 1#1), ∀ (k0_h3 : k0_cond3 v96 = 1#1), ∀ a, (k0_off111 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off112 i v96 k0_t4 (BitVec.ofNat 32 (4 + r.val))) a + S1.size a ≤ S4096.size a) ∧
  (∀ k0_t4 : Fin (k0_t4_loop v96).trips, ∀ (k0_h2 : k0_cond2 i = 1#1), ∀ (k0_h3 : k0_cond3 v96 = 1#1), ∀ a, (k0_off113 i v96 k0_t4) a + S1.size a ≤ S4096.size a)
def k0_chk1_2 (i : grid0.Coords) (v96 : BitVec 32) : Prop :=
  (∀ k0_t4 : Fin (k0_t4_loop v96).trips, ∀ (k0_h2 : k0_cond2 i = 1#1), ∀ (k0_h3 : k0_cond3 v96 = 1#1), ∀ (r : Fin 2), ∀ a, (k0_off114 i v96 k0_t4 (BitVec.ofNat 32 (5 + r.val))) a + S1.size a ≤ S4096.size a) ∧
  (∀ k0_t4 : Fin (k0_t4_loop v96).trips, ∀ (k0_h2 : k0_cond2 i = 1#1), ∀ (k0_h3 : k0_cond3 v96 = 1#1), ∀ a, (k0_off115 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off116 i v96 k0_t4 (BitVec.ofNat 32 (6 + r.val))) a + S1.size a ≤ S4096.size a) ∧
  (∀ k0_t4 : Fin (k0_t4_loop v96).trips, ∀ (k0_h2 : k0_cond2 i = 1#1), ∀ (k0_h3 : k0_cond3 v96 = 1#1), ∀ a, (k0_off117 i v96 k0_t4) a + S1.size a ≤ S4096.size a) ∧
  (∀ k0_t4 : Fin (k0_t4_loop v96).trips, ∀ (k0_h2 : k0_cond2 i = 1#1), ∀ (k0_h3 : k0_cond3 v96 = 1#1), ∀ a, (k0_off118 i v96 k0_t4) a + S1.size a ≤ S4096.size a) ∧
  (∀ k0_t4 : Fin (k0_t4_loop v96).trips, ∀ (k0_h2 : k0_cond2 i = 1#1), ∀ (k0_h3 : k0_cond3 v96 = 1#1), ∀ a, (k0_off119 i v96 k0_t4) a + S1.size a ≤ S4096.size a) ∧
  (∀ k0_t4 : Fin (k0_t4_loop v96).trips, ∀ (k0_h2 : k0_cond2 i = 1#1), ∀ (k0_h3 : k0_cond3 v96 = 1#1), ∀ a, (k0_off120 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off121 i v96 k0_t4 (BitVec.ofNat 32 r.val)) a + S1.size a ≤ S4096.size a) ∧
  (∀ k0_t4 : Fin (k0_t4_loop v96).trips, ∀ (k0_h2 : k0_cond2 i = 1#1), ∀ (k0_h3 : k0_cond3 v96 = 1#1), ∀ a, (k0_off122 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off123 i v96 k0_t4 (BitVec.ofNat 32 (1 + r.val))) a + S1.size a ≤ S4096.size a) ∧
  (∀ k0_t4 : Fin (k0_t4_loop v96).trips, ∀ (k0_h2 : k0_cond2 i = 1#1), ∀ (k0_h3 : k0_cond3 v96 = 1#1), ∀ a, (k0_off124 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off125 i v96 k0_t4 (BitVec.ofNat 32 (2 + r.val))) a + S1.size a ≤ S4096.size a) ∧
  (∀ k0_t4 : Fin (k0_t4_loop v96).trips, ∀ (k0_h2 : k0_cond2 i = 1#1), ∀ (k0_h3 : k0_cond3 v96 = 1#1), ∀ a, (k0_off126 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off127 i v96 k0_t4 (BitVec.ofNat 32 (3 + r.val))) a + S1.size a ≤ S4096.size a) ∧
  (∀ k0_t4 : Fin (k0_t4_loop v96).trips, ∀ (k0_h2 : k0_cond2 i = 1#1), ∀ (k0_h3 : k0_cond3 v96 = 1#1), ∀ a, (k0_off128 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off129 i v96 k0_t4 (BitVec.ofNat 32 (4 + r.val))) a + S1.size a ≤ S4096.size a) ∧
  (∀ k0_t4 : Fin (k0_t4_loop v96).trips, ∀ (k0_h2 : k0_cond2 i = 1#1), ∀ (k0_h3 : k0_cond3 v96 = 1#1), ∀ a, (k0_off130 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off131 i v96 k0_t4 (BitVec.ofNat 32 (5 + r.val))) a + S1.size a ≤ S4096.size a) ∧
  (∀ k0_t4 : Fin (k0_t4_loop v96).trips, ∀ (k0_h2 : k0_cond2 i = 1#1), ∀ (k0_h3 : k0_cond3 v96 = 1#1), ∀ a, (k0_off132 i v96 k0_t4) a + S1.size a ≤ S4096.size a) ∧
  (∀ k0_t4 : Fin (k0_t4_loop v96).trips, ∀ (k0_h2 : k0_cond2 i = 1#1), ∀ (k0_h3 : k0_cond3 v96 = 1#1), ∀ (r : Fin 2), ∀ a, (k0_off133 i v96 k0_t4 (BitVec.ofNat 32 (6 + r.val))) a + S1.size a ≤ S4096.size a) ∧
  (∀ k0_t4 : Fin (k0_t4_loop v96).trips, ∀ (k0_h2 : k0_cond2 i = 1#1), ∀ (k0_h3 : k0_cond3 v96 = 1#1), ∀ a, (k0_off134 i v96 k0_t4) a + S1.size a ≤ S4096.size a) ∧
  (∀ k0_t4 : Fin (k0_t4_loop v96).trips, ∀ (k0_h2 : k0_cond2 i = 1#1), ∀ (k0_h3 : k0_cond3 v96 = 1#1), ∀ a, (k0_off135 i v96 k0_t4) a + S1.size a ≤ S4096.size a)
def k0_chk1 (i : grid0.Coords) (v96 : BitVec 32) : Prop :=
  k0_chk1_0 i v96 ∧
  k0_chk1_1 i v96 ∧
  k0_chk1_2 i v96
theorem k0_off4_inb : ∀ (i : grid0.Coords) (v96 : BitVec 32) (k0_hw1 : k0_chk1 i v96), ∀ (k0_h2 : k0_cond2 i = 1#1), ∀ (k0_h3 : k0_cond3 v96 = 1#1), ∀ a, (k0_off4 i v96) a + S1.size a ≤ S4096.size a := fun i v96 k0_hw1 k0_h2 k0_h3 => k0_hw1.1.1 k0_h2 k0_h3
theorem k0_off5_inb : ∀ (i : grid0.Coords) (v96 : BitVec 32) (k0_hw1 : k0_chk1 i v96), ∀ (k0_h2 : k0_cond2 i = 1#1), ∀ (k0_h3 : k0_cond3 v96 = 1#1), ∀ a, (k0_off5 i v96) a + S1.size a ≤ S4096.size a := fun i v96 k0_hw1 k0_h2 k0_h3 => k0_hw1.1.2.1 k0_h2 k0_h3
theorem k0_off8_inb : ∀ (i : grid0.Coords) (v96 : BitVec 32) (k0_hw1 : k0_chk1 i v96), ∀ (k0_h2 : k0_cond2 i = 1#1), ∀ (k0_h3 : k0_cond3 v96 = 1#1), ∀ a, (k0_off8 i v96) a + S1.size a ≤ S4096.size a := fun i v96 k0_hw1 k0_h2 k0_h3 => k0_hw1.1.2.2.1 k0_h2 k0_h3
theorem k0_off9_inb : ∀ (i : grid0.Coords) (v96 : BitVec 32) (k0_hw1 : k0_chk1 i v96), ∀ (k0_h2 : k0_cond2 i = 1#1), ∀ (k0_h3 : k0_cond3 v96 = 1#1), ∀ a, (k0_off9 i v96) a + S1.size a ≤ S4096.size a := fun i v96 k0_hw1 k0_h2 k0_h3 => k0_hw1.1.2.2.2.1 k0_h2 k0_h3
theorem k0_off12_inb : ∀ (i : grid0.Coords) (v96 : BitVec 32) (k0_hw1 : k0_chk1 i v96), ∀ (k0_h2 : k0_cond2 i = 1#1), ∀ (k0_h3 : k0_cond3 v96 = 1#1), ∀ a, (k0_off12 i v96) a + S1.size a ≤ S4096.size a := fun i v96 k0_hw1 k0_h2 k0_h3 => k0_hw1.1.2.2.2.2.1 k0_h2 k0_h3
theorem k0_off13_inb : ∀ (i : grid0.Coords) (v96 : BitVec 32) (k0_hw1 : k0_chk1 i v96), ∀ (k0_h2 : k0_cond2 i = 1#1), ∀ (k0_h3 : k0_cond3 v96 = 1#1), ∀ a, (k0_off13 i v96) a + S1.size a ≤ S4096.size a := fun i v96 k0_hw1 k0_h2 k0_h3 => k0_hw1.1.2.2.2.2.2.1 k0_h2 k0_h3
theorem k0_off16_inb : ∀ (i : grid0.Coords) (v96 : BitVec 32) (k0_hw1 : k0_chk1 i v96), ∀ (k0_h2 : k0_cond2 i = 1#1), ∀ (k0_h3 : k0_cond3 v96 = 1#1), ∀ a, (k0_off16 i v96) a + S1.size a ≤ S4096.size a := fun i v96 k0_hw1 k0_h2 k0_h3 => k0_hw1.1.2.2.2.2.2.2.1 k0_h2 k0_h3
theorem k0_off17_inb : ∀ (i : grid0.Coords) (v96 : BitVec 32) (k0_hw1 : k0_chk1 i v96), ∀ (k0_h2 : k0_cond2 i = 1#1), ∀ (k0_h3 : k0_cond3 v96 = 1#1), ∀ a, (k0_off17 i v96) a + S1.size a ≤ S4096.size a := fun i v96 k0_hw1 k0_h2 k0_h3 => k0_hw1.1.2.2.2.2.2.2.2.1 k0_h2 k0_h3
theorem k0_off20_inb : ∀ (i : grid0.Coords) (v96 : BitVec 32) (k0_hw1 : k0_chk1 i v96), ∀ (k0_h2 : k0_cond2 i = 1#1), ∀ (k0_h3 : k0_cond3 v96 = 1#1), ∀ a, (k0_off20 i v96) a + S1.size a ≤ S4096.size a := fun i v96 k0_hw1 k0_h2 k0_h3 => k0_hw1.1.2.2.2.2.2.2.2.2.1 k0_h2 k0_h3
theorem k0_off21_inb : ∀ (i : grid0.Coords) (v96 : BitVec 32) (k0_hw1 : k0_chk1 i v96), ∀ (k0_h2 : k0_cond2 i = 1#1), ∀ (k0_h3 : k0_cond3 v96 = 1#1), ∀ a, (k0_off21 i v96) a + S1.size a ≤ S4096.size a := fun i v96 k0_hw1 k0_h2 k0_h3 => k0_hw1.1.2.2.2.2.2.2.2.2.2.1 k0_h2 k0_h3
theorem k0_off24_inb : ∀ (i : grid0.Coords) (v96 : BitVec 32) (k0_hw1 : k0_chk1 i v96), ∀ (k0_h2 : k0_cond2 i = 1#1), ∀ (k0_h3 : k0_cond3 v96 = 1#1), ∀ a, (k0_off24 i v96) a + S1.size a ≤ S4096.size a := fun i v96 k0_hw1 k0_h2 k0_h3 => k0_hw1.1.2.2.2.2.2.2.2.2.2.2.1 k0_h2 k0_h3
theorem k0_off25_inb : ∀ (i : grid0.Coords) (v96 : BitVec 32) (k0_hw1 : k0_chk1 i v96), ∀ (k0_h2 : k0_cond2 i = 1#1), ∀ (k0_h3 : k0_cond3 v96 = 1#1), ∀ a, (k0_off25 i v96) a + S1.size a ≤ S4096.size a := fun i v96 k0_hw1 k0_h2 k0_h3 => k0_hw1.1.2.2.2.2.2.2.2.2.2.2.2.1 k0_h2 k0_h3
theorem k0_off28_inb : ∀ (i : grid0.Coords) (v96 : BitVec 32) (k0_hw1 : k0_chk1 i v96), ∀ (k0_h2 : k0_cond2 i = 1#1), ∀ (k0_h3 : k0_cond3 v96 = 1#1), ∀ a, (k0_off28 i v96) a + S1.size a ≤ S4096.size a := fun i v96 k0_hw1 k0_h2 k0_h3 => k0_hw1.1.2.2.2.2.2.2.2.2.2.2.2.2.1 k0_h2 k0_h3
theorem k0_off29_inb : ∀ (i : grid0.Coords) (v96 : BitVec 32) (k0_hw1 : k0_chk1 i v96), ∀ (k0_h2 : k0_cond2 i = 1#1), ∀ (k0_h3 : k0_cond3 v96 = 1#1), ∀ a, (k0_off29 i v96) a + S1.size a ≤ S4096.size a := fun i v96 k0_hw1 k0_h2 k0_h3 => k0_hw1.1.2.2.2.2.2.2.2.2.2.2.2.2.2.1 k0_h2 k0_h3
theorem k0_off32_inb : ∀ (i : grid0.Coords) (v96 : BitVec 32) (k0_hw1 : k0_chk1 i v96), ∀ (k0_h2 : k0_cond2 i = 1#1), ∀ (k0_h3 : k0_cond3 v96 = 1#1), ∀ a, (k0_off32 i v96) a + S1.size a ≤ S4096.size a := fun i v96 k0_hw1 k0_h2 k0_h3 => k0_hw1.1.2.2.2.2.2.2.2.2.2.2.2.2.2.2.1 k0_h2 k0_h3
theorem k0_off33_inb : ∀ (i : grid0.Coords) (v96 : BitVec 32) (k0_hw1 : k0_chk1 i v96), ∀ (k0_h2 : k0_cond2 i = 1#1), ∀ (k0_h3 : k0_cond3 v96 = 1#1), ∀ a, (k0_off33 i v96) a + S1.size a ≤ S4096.size a := fun i v96 k0_hw1 k0_h2 k0_h3 => k0_hw1.1.2.2.2.2.2.2.2.2.2.2.2.2.2.2.2.1 k0_h2 k0_h3
theorem k0_t3_ok : ∀ (i : grid0.Coords) (v96 : BitVec 32) (k0_hw1 : k0_chk1 i v96), ∀ (k0_h2 : k0_cond2 i = 1#1), ∀ (k0_h3 : k0_cond3 v96 = 1#1), (k0_t3_loop v96).OK := fun i v96 k0_hw1 k0_h2 k0_h3 => k0_hw1.1.2.2.2.2.2.2.2.2.2.2.2.2.2.2.2.2.1 k0_h2 k0_h3
theorem k0_off36_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off36 i v96 k0_t3) a + S1.size a ≤ S4096.size a := fun i v96 k0_hw1 k0_t3 k0_h2 k0_h3 => k0_hw1.1.2.2.2.2.2.2.2.2.2.2.2.2.2.2.2.2.2.1 k0_t3 k0_h2 k0_h3
theorem k0_off37_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off37 i v96 k0_t3) a + S1.size a ≤ S4096.size a := fun i v96 k0_hw1 k0_t3 k0_h2 k0_h3 => k0_hw1.1.2.2.2.2.2.2.2.2.2.2.2.2.2.2.2.2.2.2.1 k0_t3 k0_h2 k0_h3
theorem k0_off38_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off38 i v96 k0_t3 (BitVec.ofNat 32 r.val)) a + S1.size a ≤ S4096.size a := fun i v96 k0_hw1 k0_t3 k0_h2 k0_h3 r => k0_hw1.1.2.2.2.2.2.2.2.2.2.2.2.2.2.2.2.2.2.2.2.1 k0_t3 k0_h2 k0_h3 r
theorem k0_off39_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off39 i v96 k0_t3) a + S1.size a ≤ S4096.size a := fun i v96 k0_hw1 k0_t3 k0_h2 k0_h3 => k0_hw1.1.2.2.2.2.2.2.2.2.2.2.2.2.2.2.2.2.2.2.2.2.1 k0_t3 k0_h2 k0_h3
theorem k0_off40_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off40 i v96 k0_t3 (BitVec.ofNat 32 (1 + r.val))) a + S1.size a ≤ S4096.size a := fun i v96 k0_hw1 k0_t3 k0_h2 k0_h3 r => k0_hw1.1.2.2.2.2.2.2.2.2.2.2.2.2.2.2.2.2.2.2.2.2.2.1 k0_t3 k0_h2 k0_h3 r
theorem k0_off41_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off41 i v96 k0_t3) a + S1.size a ≤ S4096.size a := fun i v96 k0_hw1 k0_t3 k0_h2 k0_h3 => k0_hw1.1.2.2.2.2.2.2.2.2.2.2.2.2.2.2.2.2.2.2.2.2.2.2.1 k0_t3 k0_h2 k0_h3
theorem k0_off42_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off42 i v96 k0_t3 (BitVec.ofNat 32 (2 + r.val))) a + S1.size a ≤ S4096.size a := fun i v96 k0_hw1 k0_t3 k0_h2 k0_h3 r => k0_hw1.1.2.2.2.2.2.2.2.2.2.2.2.2.2.2.2.2.2.2.2.2.2.2.2.1 k0_t3 k0_h2 k0_h3 r
theorem k0_off43_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off43 i v96 k0_t3) a + S1.size a ≤ S4096.size a := fun i v96 k0_hw1 k0_t3 k0_h2 k0_h3 => k0_hw1.1.2.2.2.2.2.2.2.2.2.2.2.2.2.2.2.2.2.2.2.2.2.2.2.2.1 k0_t3 k0_h2 k0_h3
theorem k0_off44_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off44 i v96 k0_t3 (BitVec.ofNat 32 (3 + r.val))) a + S1.size a ≤ S4096.size a := fun i v96 k0_hw1 k0_t3 k0_h2 k0_h3 r => k0_hw1.1.2.2.2.2.2.2.2.2.2.2.2.2.2.2.2.2.2.2.2.2.2.2.2.2.2.1 k0_t3 k0_h2 k0_h3 r
theorem k0_off45_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off45 i v96 k0_t3) a + S1.size a ≤ S4096.size a := fun i v96 k0_hw1 k0_t3 k0_h2 k0_h3 => k0_hw1.1.2.2.2.2.2.2.2.2.2.2.2.2.2.2.2.2.2.2.2.2.2.2.2.2.2.2.1 k0_t3 k0_h2 k0_h3
theorem k0_off46_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off46 i v96 k0_t3 (BitVec.ofNat 32 (4 + r.val))) a + S1.size a ≤ S4096.size a := fun i v96 k0_hw1 k0_t3 k0_h2 k0_h3 r => k0_hw1.1.2.2.2.2.2.2.2.2.2.2.2.2.2.2.2.2.2.2.2.2.2.2.2.2.2.2.2.1 k0_t3 k0_h2 k0_h3 r
theorem k0_off47_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off47 i v96 k0_t3) a + S1.size a ≤ S4096.size a := fun i v96 k0_hw1 k0_t3 k0_h2 k0_h3 => k0_hw1.1.2.2.2.2.2.2.2.2.2.2.2.2.2.2.2.2.2.2.2.2.2.2.2.2.2.2.2.2.1 k0_t3 k0_h2 k0_h3
theorem k0_off48_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off48 i v96 k0_t3 (BitVec.ofNat 32 (5 + r.val))) a + S1.size a ≤ S4096.size a := fun i v96 k0_hw1 k0_t3 k0_h2 k0_h3 r => k0_hw1.1.2.2.2.2.2.2.2.2.2.2.2.2.2.2.2.2.2.2.2.2.2.2.2.2.2.2.2.2.2.1 k0_t3 k0_h2 k0_h3 r
theorem k0_off49_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off49 i v96 k0_t3) a + S1.size a ≤ S4096.size a := fun i v96 k0_hw1 k0_t3 k0_h2 k0_h3 => k0_hw1.1.2.2.2.2.2.2.2.2.2.2.2.2.2.2.2.2.2.2.2.2.2.2.2.2.2.2.2.2.2.2.1 k0_t3 k0_h2 k0_h3
theorem k0_off50_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off50 i v96 k0_t3 (BitVec.ofNat 32 (6 + r.val))) a + S1.size a ≤ S4096.size a := fun i v96 k0_hw1 k0_t3 k0_h2 k0_h3 r => k0_hw1.1.2.2.2.2.2.2.2.2.2.2.2.2.2.2.2.2.2.2.2.2.2.2.2.2.2.2.2.2.2.2.2 k0_t3 k0_h2 k0_h3 r
theorem k0_off51_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off51 i v96 k0_t3) a + S1.size a ≤ S4096.size a := fun i v96 k0_hw1 k0_t3 k0_h2 k0_h3 => k0_hw1.2.1.1 k0_t3 k0_h2 k0_h3
theorem k0_off52_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off52 i v96 k0_t3) a + S1.size a ≤ S4096.size a := fun i v96 k0_hw1 k0_t3 k0_h2 k0_h3 => k0_hw1.2.1.2.1 k0_t3 k0_h2 k0_h3
theorem k0_off53_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off53 i v96 k0_t3) a + S1.size a ≤ S4096.size a := fun i v96 k0_hw1 k0_t3 k0_h2 k0_h3 => k0_hw1.2.1.2.2.1 k0_t3 k0_h2 k0_h3
theorem k0_off54_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off54 i v96 k0_t3) a + S1.size a ≤ S4096.size a := fun i v96 k0_hw1 k0_t3 k0_h2 k0_h3 => k0_hw1.2.1.2.2.2.1 k0_t3 k0_h2 k0_h3
theorem k0_off55_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off55 i v96 k0_t3 (BitVec.ofNat 32 r.val)) a + S1.size a ≤ S4096.size a := fun i v96 k0_hw1 k0_t3 k0_h2 k0_h3 r => k0_hw1.2.1.2.2.2.2.1 k0_t3 k0_h2 k0_h3 r
theorem k0_off56_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off56 i v96 k0_t3) a + S1.size a ≤ S4096.size a := fun i v96 k0_hw1 k0_t3 k0_h2 k0_h3 => k0_hw1.2.1.2.2.2.2.2.1 k0_t3 k0_h2 k0_h3
theorem k0_off57_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off57 i v96 k0_t3 (BitVec.ofNat 32 (1 + r.val))) a + S1.size a ≤ S4096.size a := fun i v96 k0_hw1 k0_t3 k0_h2 k0_h3 r => k0_hw1.2.1.2.2.2.2.2.2.1 k0_t3 k0_h2 k0_h3 r
theorem k0_off58_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off58 i v96 k0_t3) a + S1.size a ≤ S4096.size a := fun i v96 k0_hw1 k0_t3 k0_h2 k0_h3 => k0_hw1.2.1.2.2.2.2.2.2.2.1 k0_t3 k0_h2 k0_h3
theorem k0_off59_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off59 i v96 k0_t3 (BitVec.ofNat 32 (2 + r.val))) a + S1.size a ≤ S4096.size a := fun i v96 k0_hw1 k0_t3 k0_h2 k0_h3 r => k0_hw1.2.1.2.2.2.2.2.2.2.2.1 k0_t3 k0_h2 k0_h3 r
theorem k0_off60_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off60 i v96 k0_t3) a + S1.size a ≤ S4096.size a := fun i v96 k0_hw1 k0_t3 k0_h2 k0_h3 => k0_hw1.2.1.2.2.2.2.2.2.2.2.2.1 k0_t3 k0_h2 k0_h3
theorem k0_off61_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off61 i v96 k0_t3 (BitVec.ofNat 32 (3 + r.val))) a + S1.size a ≤ S4096.size a := fun i v96 k0_hw1 k0_t3 k0_h2 k0_h3 r => k0_hw1.2.1.2.2.2.2.2.2.2.2.2.2.1 k0_t3 k0_h2 k0_h3 r
theorem k0_off62_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off62 i v96 k0_t3) a + S1.size a ≤ S4096.size a := fun i v96 k0_hw1 k0_t3 k0_h2 k0_h3 => k0_hw1.2.1.2.2.2.2.2.2.2.2.2.2.2.1 k0_t3 k0_h2 k0_h3
theorem k0_off63_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off63 i v96 k0_t3 (BitVec.ofNat 32 (4 + r.val))) a + S1.size a ≤ S4096.size a := fun i v96 k0_hw1 k0_t3 k0_h2 k0_h3 r => k0_hw1.2.1.2.2.2.2.2.2.2.2.2.2.2.2.1 k0_t3 k0_h2 k0_h3 r
theorem k0_off64_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off64 i v96 k0_t3) a + S1.size a ≤ S4096.size a := fun i v96 k0_hw1 k0_t3 k0_h2 k0_h3 => k0_hw1.2.1.2.2.2.2.2.2.2.2.2.2.2.2.2.1 k0_t3 k0_h2 k0_h3
theorem k0_off65_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off65 i v96 k0_t3 (BitVec.ofNat 32 (5 + r.val))) a + S1.size a ≤ S4096.size a := fun i v96 k0_hw1 k0_t3 k0_h2 k0_h3 r => k0_hw1.2.1.2.2.2.2.2.2.2.2.2.2.2.2.2.2.1 k0_t3 k0_h2 k0_h3 r
theorem k0_off66_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off66 i v96 k0_t3) a + S1.size a ≤ S4096.size a := fun i v96 k0_hw1 k0_t3 k0_h2 k0_h3 => k0_hw1.2.1.2.2.2.2.2.2.2.2.2.2.2.2.2.2.2.1 k0_t3 k0_h2 k0_h3
theorem k0_off67_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ (r : Fin 2), ∀ a, (k0_off67 i v96 k0_t3 (BitVec.ofNat 32 (6 + r.val))) a + S1.size a ≤ S4096.size a := fun i v96 k0_hw1 k0_t3 k0_h2 k0_h3 r => k0_hw1.2.1.2.2.2.2.2.2.2.2.2.2.2.2.2.2.2.2.1 k0_t3 k0_h2 k0_h3 r
theorem k0_off68_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off68 i v96 k0_t3) a + S1.size a ≤ S4096.size a := fun i v96 k0_hw1 k0_t3 k0_h2 k0_h3 => k0_hw1.2.1.2.2.2.2.2.2.2.2.2.2.2.2.2.2.2.2.2.1 k0_t3 k0_h2 k0_h3
theorem k0_off69_inb : ∀ (i : grid0.Coords) (v96 : BitVec 32) (k0_hw1 : k0_chk1 i v96) (k0_t3 : Fin (k0_t3_loop v96).trips), ∀ (k0_h2 : k0_cond2 i = 1#1), ∀ (k0_h3 : k0_cond3 v96 = 1#1), ∀ a, (k0_off69 i v96 k0_t3) a + S1.size a ≤ S4096.size a := fun i v96 k0_hw1 k0_t3 k0_h2 k0_h3 => k0_hw1.2.1.2.2.2.2.2.2.2.2.2.2.2.2.2.2.2.2.2.2.1 k0_t3 k0_h2 k0_h3
theorem k0_t4_ok : ∀ (i : grid0.Coords) (v96 : BitVec 32) (k0_hw1 : k0_chk1 i v96), ∀ (k0_h2 : k0_cond2 i = 1#1), ∀ (k0_h3 : k0_cond3 v96 = 1#1), (k0_t4_loop v96).OK := fun i v96 k0_hw1 k0_h2 k0_h3 => k0_hw1.2.1.2.2.2.2.2.2.2.2.2.2.2.2.2.2.2.2.2.2.2.1 k0_h2 k0_h3
theorem k0_off102_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off102 i v96 k0_t4) a + S1.size a ≤ S4096.size a := fun i v96 k0_hw1 k0_t4 k0_h2 k0_h3 => k0_hw1.2.1.2.2.2.2.2.2.2.2.2.2.2.2.2.2.2.2.2.2.2.2.1 k0_t4 k0_h2 k0_h3
theorem k0_off103_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off103 i v96 k0_t4) a + S1.size a ≤ S4096.size a := fun i v96 k0_hw1 k0_t4 k0_h2 k0_h3 => k0_hw1.2.1.2.2.2.2.2.2.2.2.2.2.2.2.2.2.2.2.2.2.2.2.2.1 k0_t4 k0_h2 k0_h3
theorem k0_off104_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off104 i v96 k0_t4 (BitVec.ofNat 32 r.val)) a + S1.size a ≤ S4096.size a := fun i v96 k0_hw1 k0_t4 k0_h2 k0_h3 r => k0_hw1.2.1.2.2.2.2.2.2.2.2.2.2.2.2.2.2.2.2.2.2.2.2.2.2.1 k0_t4 k0_h2 k0_h3 r
theorem k0_off105_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off105 i v96 k0_t4) a + S1.size a ≤ S4096.size a := fun i v96 k0_hw1 k0_t4 k0_h2 k0_h3 => k0_hw1.2.1.2.2.2.2.2.2.2.2.2.2.2.2.2.2.2.2.2.2.2.2.2.2.2.1 k0_t4 k0_h2 k0_h3
theorem k0_off106_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off106 i v96 k0_t4 (BitVec.ofNat 32 (1 + r.val))) a + S1.size a ≤ S4096.size a := fun i v96 k0_hw1 k0_t4 k0_h2 k0_h3 r => k0_hw1.2.1.2.2.2.2.2.2.2.2.2.2.2.2.2.2.2.2.2.2.2.2.2.2.2.2.1 k0_t4 k0_h2 k0_h3 r
theorem k0_off107_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off107 i v96 k0_t4) a + S1.size a ≤ S4096.size a := fun i v96 k0_hw1 k0_t4 k0_h2 k0_h3 => k0_hw1.2.1.2.2.2.2.2.2.2.2.2.2.2.2.2.2.2.2.2.2.2.2.2.2.2.2.2.1 k0_t4 k0_h2 k0_h3
theorem k0_off108_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off108 i v96 k0_t4 (BitVec.ofNat 32 (2 + r.val))) a + S1.size a ≤ S4096.size a := fun i v96 k0_hw1 k0_t4 k0_h2 k0_h3 r => k0_hw1.2.1.2.2.2.2.2.2.2.2.2.2.2.2.2.2.2.2.2.2.2.2.2.2.2.2.2.2.1 k0_t4 k0_h2 k0_h3 r
theorem k0_off109_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off109 i v96 k0_t4) a + S1.size a ≤ S4096.size a := fun i v96 k0_hw1 k0_t4 k0_h2 k0_h3 => k0_hw1.2.1.2.2.2.2.2.2.2.2.2.2.2.2.2.2.2.2.2.2.2.2.2.2.2.2.2.2.2.1 k0_t4 k0_h2 k0_h3
theorem k0_off110_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off110 i v96 k0_t4 (BitVec.ofNat 32 (3 + r.val))) a + S1.size a ≤ S4096.size a := fun i v96 k0_hw1 k0_t4 k0_h2 k0_h3 r => k0_hw1.2.1.2.2.2.2.2.2.2.2.2.2.2.2.2.2.2.2.2.2.2.2.2.2.2.2.2.2.2.2.1 k0_t4 k0_h2 k0_h3 r
theorem k0_off111_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off111 i v96 k0_t4) a + S1.size a ≤ S4096.size a := fun i v96 k0_hw1 k0_t4 k0_h2 k0_h3 => k0_hw1.2.1.2.2.2.2.2.2.2.2.2.2.2.2.2.2.2.2.2.2.2.2.2.2.2.2.2.2.2.2.2.1 k0_t4 k0_h2 k0_h3
theorem k0_off112_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off112 i v96 k0_t4 (BitVec.ofNat 32 (4 + r.val))) a + S1.size a ≤ S4096.size a := fun i v96 k0_hw1 k0_t4 k0_h2 k0_h3 r => k0_hw1.2.1.2.2.2.2.2.2.2.2.2.2.2.2.2.2.2.2.2.2.2.2.2.2.2.2.2.2.2.2.2.2.1 k0_t4 k0_h2 k0_h3 r
theorem k0_off113_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off113 i v96 k0_t4) a + S1.size a ≤ S4096.size a := fun i v96 k0_hw1 k0_t4 k0_h2 k0_h3 => k0_hw1.2.1.2.2.2.2.2.2.2.2.2.2.2.2.2.2.2.2.2.2.2.2.2.2.2.2.2.2.2.2.2.2.2 k0_t4 k0_h2 k0_h3
theorem k0_off114_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off114 i v96 k0_t4 (BitVec.ofNat 32 (5 + r.val))) a + S1.size a ≤ S4096.size a := fun i v96 k0_hw1 k0_t4 k0_h2 k0_h3 r => k0_hw1.2.2.1 k0_t4 k0_h2 k0_h3 r
theorem k0_off115_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off115 i v96 k0_t4) a + S1.size a ≤ S4096.size a := fun i v96 k0_hw1 k0_t4 k0_h2 k0_h3 => k0_hw1.2.2.2.1 k0_t4 k0_h2 k0_h3
theorem k0_off116_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off116 i v96 k0_t4 (BitVec.ofNat 32 (6 + r.val))) a + S1.size a ≤ S4096.size a := fun i v96 k0_hw1 k0_t4 k0_h2 k0_h3 r => k0_hw1.2.2.2.2.1 k0_t4 k0_h2 k0_h3 r
theorem k0_off117_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off117 i v96 k0_t4) a + S1.size a ≤ S4096.size a := fun i v96 k0_hw1 k0_t4 k0_h2 k0_h3 => k0_hw1.2.2.2.2.2.1 k0_t4 k0_h2 k0_h3
theorem k0_off118_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off118 i v96 k0_t4) a + S1.size a ≤ S4096.size a := fun i v96 k0_hw1 k0_t4 k0_h2 k0_h3 => k0_hw1.2.2.2.2.2.2.1 k0_t4 k0_h2 k0_h3
theorem k0_off119_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off119 i v96 k0_t4) a + S1.size a ≤ S4096.size a := fun i v96 k0_hw1 k0_t4 k0_h2 k0_h3 => k0_hw1.2.2.2.2.2.2.2.1 k0_t4 k0_h2 k0_h3
theorem k0_off120_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off120 i v96 k0_t4) a + S1.size a ≤ S4096.size a := fun i v96 k0_hw1 k0_t4 k0_h2 k0_h3 => k0_hw1.2.2.2.2.2.2.2.2.1 k0_t4 k0_h2 k0_h3
theorem k0_off121_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off121 i v96 k0_t4 (BitVec.ofNat 32 r.val)) a + S1.size a ≤ S4096.size a := fun i v96 k0_hw1 k0_t4 k0_h2 k0_h3 r => k0_hw1.2.2.2.2.2.2.2.2.2.1 k0_t4 k0_h2 k0_h3 r
theorem k0_off122_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off122 i v96 k0_t4) a + S1.size a ≤ S4096.size a := fun i v96 k0_hw1 k0_t4 k0_h2 k0_h3 => k0_hw1.2.2.2.2.2.2.2.2.2.2.1 k0_t4 k0_h2 k0_h3
theorem k0_off123_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off123 i v96 k0_t4 (BitVec.ofNat 32 (1 + r.val))) a + S1.size a ≤ S4096.size a := fun i v96 k0_hw1 k0_t4 k0_h2 k0_h3 r => k0_hw1.2.2.2.2.2.2.2.2.2.2.2.1 k0_t4 k0_h2 k0_h3 r
theorem k0_off124_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off124 i v96 k0_t4) a + S1.size a ≤ S4096.size a := fun i v96 k0_hw1 k0_t4 k0_h2 k0_h3 => k0_hw1.2.2.2.2.2.2.2.2.2.2.2.2.1 k0_t4 k0_h2 k0_h3
theorem k0_off125_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off125 i v96 k0_t4 (BitVec.ofNat 32 (2 + r.val))) a + S1.size a ≤ S4096.size a := fun i v96 k0_hw1 k0_t4 k0_h2 k0_h3 r => k0_hw1.2.2.2.2.2.2.2.2.2.2.2.2.2.1 k0_t4 k0_h2 k0_h3 r
theorem k0_off126_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off126 i v96 k0_t4) a + S1.size a ≤ S4096.size a := fun i v96 k0_hw1 k0_t4 k0_h2 k0_h3 => k0_hw1.2.2.2.2.2.2.2.2.2.2.2.2.2.2.1 k0_t4 k0_h2 k0_h3
theorem k0_off127_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off127 i v96 k0_t4 (BitVec.ofNat 32 (3 + r.val))) a + S1.size a ≤ S4096.size a := fun i v96 k0_hw1 k0_t4 k0_h2 k0_h3 r => k0_hw1.2.2.2.2.2.2.2.2.2.2.2.2.2.2.2.1 k0_t4 k0_h2 k0_h3 r
theorem k0_off128_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off128 i v96 k0_t4) a + S1.size a ≤ S4096.size a := fun i v96 k0_hw1 k0_t4 k0_h2 k0_h3 => k0_hw1.2.2.2.2.2.2.2.2.2.2.2.2.2.2.2.2.1 k0_t4 k0_h2 k0_h3
theorem k0_off129_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off129 i v96 k0_t4 (BitVec.ofNat 32 (4 + r.val))) a + S1.size a ≤ S4096.size a := fun i v96 k0_hw1 k0_t4 k0_h2 k0_h3 r => k0_hw1.2.2.2.2.2.2.2.2.2.2.2.2.2.2.2.2.2.1 k0_t4 k0_h2 k0_h3 r
theorem k0_off130_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off130 i v96 k0_t4) a + S1.size a ≤ S4096.size a := fun i v96 k0_hw1 k0_t4 k0_h2 k0_h3 => k0_hw1.2.2.2.2.2.2.2.2.2.2.2.2.2.2.2.2.2.2.1 k0_t4 k0_h2 k0_h3
theorem k0_off131_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off131 i v96 k0_t4 (BitVec.ofNat 32 (5 + r.val))) a + S1.size a ≤ S4096.size a := fun i v96 k0_hw1 k0_t4 k0_h2 k0_h3 r => k0_hw1.2.2.2.2.2.2.2.2.2.2.2.2.2.2.2.2.2.2.2.1 k0_t4 k0_h2 k0_h3 r
theorem k0_off132_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off132 i v96 k0_t4) a + S1.size a ≤ S4096.size a := fun i v96 k0_hw1 k0_t4 k0_h2 k0_h3 => k0_hw1.2.2.2.2.2.2.2.2.2.2.2.2.2.2.2.2.2.2.2.2.1 k0_t4 k0_h2 k0_h3
theorem k0_off133_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ (r : Fin 2), ∀ a, (k0_off133 i v96 k0_t4 (BitVec.ofNat 32 (6 + r.val))) a + S1.size a ≤ S4096.size a := fun i v96 k0_hw1 k0_t4 k0_h2 k0_h3 r => k0_hw1.2.2.2.2.2.2.2.2.2.2.2.2.2.2.2.2.2.2.2.2.2.1 k0_t4 k0_h2 k0_h3 r
theorem k0_off134_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off134 i v96 k0_t4) a + S1.size a ≤ S4096.size a := fun i v96 k0_hw1 k0_t4 k0_h2 k0_h3 => k0_hw1.2.2.2.2.2.2.2.2.2.2.2.2.2.2.2.2.2.2.2.2.2.2.1 k0_t4 k0_h2 k0_h3
theorem k0_off135_inb : ∀ (i : grid0.Coords) (v96 : BitVec 32) (k0_hw1 : k0_chk1 i v96) (k0_t4 : Fin (k0_t4_loop v96).trips), ∀ (k0_h2 : k0_cond2 i = 1#1), ∀ (k0_h3 : k0_cond3 v96 = 1#1), ∀ a, (k0_off135 i v96 k0_t4) a + S1.size a ≤ S4096.size a := fun i v96 k0_hw1 k0_t4 k0_h2 k0_h3 => k0_hw1.2.2.2.2.2.2.2.2.2.2.2.2.2.2.2.2.2.2.2.2.2.2.2 k0_t4 k0_h2 k0_h3

def k0_off136 (v347 : BitVec 32) : Fin 2 → Nat :=
  let v348 : BitVec 32 := v347
  let v659 : Index := Scalar.indexCast v348
  let c0_277 : Index := 0#32
  ![v659.toNat, 0]

def k0_chk50 (i : grid0.Coords) (v96 : BitVec 32) (v347 : BitVec 32) : Prop :=
  (∀ (k0_h2 : k0_cond2 i = 1#1), ∀ (k0_h3 : k0_cond3 v96 = 1#1), 8 ∣ (k0_mult51 v347).toNat) ∧
  (∀ (k0_h2 : k0_cond2 i = 1#1), ∀ (k0_h3 : k0_cond3 v96 = 1#1), ∀ a, (k0_off136 v347) a + S256x128.size a ≤ S50432x128.size a)
theorem k0_mult51_dvd : ∀ (i : grid0.Coords) (v96 : BitVec 32) (v347 : BitVec 32) (k0_hw50 : k0_chk50 i v96 v347), ∀ (k0_h2 : k0_cond2 i = 1#1), ∀ (k0_h3 : k0_cond3 v96 = 1#1), 8 ∣ (k0_mult51 v347).toNat := fun i v96 v347 k0_hw50 k0_h2 k0_h3 => k0_hw50.1 k0_h2 k0_h3
theorem k0_off136_inb : ∀ (i : grid0.Coords) (v96 : BitVec 32) (v347 : BitVec 32) (k0_hw50 : k0_chk50 i v96 v347), ∀ (k0_h2 : k0_cond2 i = 1#1), ∀ (k0_h3 : k0_cond3 v96 = 1#1), ∀ a, (k0_off136 v347) a + S256x128.size a ≤ S50432x128.size a := fun i v96 v347 k0_hw50 k0_h2 k0_h3 => k0_hw50.2 k0_h2 k0_h3

def k0_off137 (v367 : BitVec 32) : Fin 2 → Nat :=
  let v368 : BitVec 32 := v367
  let v666 : Index := Scalar.indexCast v368
  let c0_279 : Index := 0#32
  ![v666.toNat, 0]

def k0_chk52 (i : grid0.Coords) (v96 : BitVec 32) (v367 : BitVec 32) : Prop :=
  (∀ (k0_h2 : k0_cond2 i = 1#1), ∀ (k0_h3 : k0_cond3 v96 = 1#1), 8 ∣ (k0_mult53 v367).toNat) ∧
  (∀ (k0_h2 : k0_cond2 i = 1#1), ∀ (k0_h3 : k0_cond3 v96 = 1#1), ∀ a, (k0_off137 v367) a + S256x128.size a ≤ S50432x128.size a)
theorem k0_mult53_dvd : ∀ (i : grid0.Coords) (v96 : BitVec 32) (v367 : BitVec 32) (k0_hw52 : k0_chk52 i v96 v367), ∀ (k0_h2 : k0_cond2 i = 1#1), ∀ (k0_h3 : k0_cond3 v96 = 1#1), 8 ∣ (k0_mult53 v367).toNat := fun i v96 v367 k0_hw52 k0_h2 k0_h3 => k0_hw52.1 k0_h2 k0_h3
theorem k0_off137_inb : ∀ (i : grid0.Coords) (v96 : BitVec 32) (v367 : BitVec 32) (k0_hw52 : k0_chk52 i v96 v367), ∀ (k0_h2 : k0_cond2 i = 1#1), ∀ (k0_h3 : k0_cond3 v96 = 1#1), ∀ a, (k0_off137 v367) a + S256x128.size a ≤ S50432x128.size a := fun i v96 v367 k0_hw52 k0_h2 k0_h3 => k0_hw52.2 k0_h2 k0_h3

def k0_off138 (v387 : BitVec 32) : Fin 2 → Nat :=
  let v388 : BitVec 32 := v387
  let v673 : Index := Scalar.indexCast v388
  let c0_281 : Index := 0#32
  ![v673.toNat, 0]

def k0_chk54 (i : grid0.Coords) (v96 : BitVec 32) (v387 : BitVec 32) : Prop :=
  (∀ (k0_h2 : k0_cond2 i = 1#1), ∀ (k0_h3 : k0_cond3 v96 = 1#1), 8 ∣ (k0_mult55 v387).toNat) ∧
  (∀ (k0_h2 : k0_cond2 i = 1#1), ∀ (k0_h3 : k0_cond3 v96 = 1#1), ∀ a, (k0_off138 v387) a + S256x128.size a ≤ S50432x128.size a)
theorem k0_mult55_dvd : ∀ (i : grid0.Coords) (v96 : BitVec 32) (v387 : BitVec 32) (k0_hw54 : k0_chk54 i v96 v387), ∀ (k0_h2 : k0_cond2 i = 1#1), ∀ (k0_h3 : k0_cond3 v96 = 1#1), 8 ∣ (k0_mult55 v387).toNat := fun i v96 v387 k0_hw54 k0_h2 k0_h3 => k0_hw54.1 k0_h2 k0_h3
theorem k0_off138_inb : ∀ (i : grid0.Coords) (v96 : BitVec 32) (v387 : BitVec 32) (k0_hw54 : k0_chk54 i v96 v387), ∀ (k0_h2 : k0_cond2 i = 1#1), ∀ (k0_h3 : k0_cond3 v96 = 1#1), ∀ a, (k0_off138 v387) a + S256x128.size a ≤ S50432x128.size a := fun i v96 v387 k0_hw54 k0_h2 k0_h3 => k0_hw54.2 k0_h2 k0_h3

def k0_off139 (v407 : BitVec 32) : Fin 2 → Nat :=
  let v408 : BitVec 32 := v407
  let v680 : Index := Scalar.indexCast v408
  let c0_283 : Index := 0#32
  ![v680.toNat, 0]

def k0_chk56 (i : grid0.Coords) (v96 : BitVec 32) (v407 : BitVec 32) : Prop :=
  (∀ (k0_h2 : k0_cond2 i = 1#1), ∀ (k0_h3 : k0_cond3 v96 = 1#1), 8 ∣ (k0_mult57 v407).toNat) ∧
  (∀ (k0_h2 : k0_cond2 i = 1#1), ∀ (k0_h3 : k0_cond3 v96 = 1#1), ∀ a, (k0_off139 v407) a + S256x128.size a ≤ S50432x128.size a)
theorem k0_mult57_dvd : ∀ (i : grid0.Coords) (v96 : BitVec 32) (v407 : BitVec 32) (k0_hw56 : k0_chk56 i v96 v407), ∀ (k0_h2 : k0_cond2 i = 1#1), ∀ (k0_h3 : k0_cond3 v96 = 1#1), 8 ∣ (k0_mult57 v407).toNat := fun i v96 v407 k0_hw56 k0_h2 k0_h3 => k0_hw56.1 k0_h2 k0_h3
theorem k0_off139_inb : ∀ (i : grid0.Coords) (v96 : BitVec 32) (v407 : BitVec 32) (k0_hw56 : k0_chk56 i v96 v407), ∀ (k0_h2 : k0_cond2 i = 1#1), ∀ (k0_h3 : k0_cond3 v96 = 1#1), ∀ a, (k0_off139 v407) a + S256x128.size a ≤ S50432x128.size a := fun i v96 v407 k0_hw56 k0_h2 k0_h3 => k0_hw56.2 k0_h2 k0_h3

def k0_off140 (v427 : BitVec 32) : Fin 2 → Nat :=
  let v428 : BitVec 32 := v427
  let v687 : Index := Scalar.indexCast v428
  let c0_285 : Index := 0#32
  ![v687.toNat, 0]

def k0_chk58 (i : grid0.Coords) (v96 : BitVec 32) (v427 : BitVec 32) : Prop :=
  (∀ (k0_h2 : k0_cond2 i = 1#1), ∀ (k0_h3 : k0_cond3 v96 = 1#1), 8 ∣ (k0_mult59 v427).toNat) ∧
  (∀ (k0_h2 : k0_cond2 i = 1#1), ∀ (k0_h3 : k0_cond3 v96 = 1#1), ∀ a, (k0_off140 v427) a + S256x128.size a ≤ S50432x128.size a)
theorem k0_mult59_dvd : ∀ (i : grid0.Coords) (v96 : BitVec 32) (v427 : BitVec 32) (k0_hw58 : k0_chk58 i v96 v427), ∀ (k0_h2 : k0_cond2 i = 1#1), ∀ (k0_h3 : k0_cond3 v96 = 1#1), 8 ∣ (k0_mult59 v427).toNat := fun i v96 v427 k0_hw58 k0_h2 k0_h3 => k0_hw58.1 k0_h2 k0_h3
theorem k0_off140_inb : ∀ (i : grid0.Coords) (v96 : BitVec 32) (v427 : BitVec 32) (k0_hw58 : k0_chk58 i v96 v427), ∀ (k0_h2 : k0_cond2 i = 1#1), ∀ (k0_h3 : k0_cond3 v96 = 1#1), ∀ a, (k0_off140 v427) a + S256x128.size a ≤ S50432x128.size a := fun i v96 v427 k0_hw58 k0_h2 k0_h3 => k0_hw58.2 k0_h2 k0_h3

def k0_off141 (v447 : BitVec 32) : Fin 2 → Nat :=
  let v448 : BitVec 32 := v447
  let v694 : Index := Scalar.indexCast v448
  let c0_287 : Index := 0#32
  ![v694.toNat, 0]

def k0_chk60 (i : grid0.Coords) (v96 : BitVec 32) (v447 : BitVec 32) : Prop :=
  (∀ (k0_h2 : k0_cond2 i = 1#1), ∀ (k0_h3 : k0_cond3 v96 = 1#1), 8 ∣ (k0_mult61 v447).toNat) ∧
  (∀ (k0_h2 : k0_cond2 i = 1#1), ∀ (k0_h3 : k0_cond3 v96 = 1#1), ∀ a, (k0_off141 v447) a + S256x128.size a ≤ S50432x128.size a)
theorem k0_mult61_dvd : ∀ (i : grid0.Coords) (v96 : BitVec 32) (v447 : BitVec 32) (k0_hw60 : k0_chk60 i v96 v447), ∀ (k0_h2 : k0_cond2 i = 1#1), ∀ (k0_h3 : k0_cond3 v96 = 1#1), 8 ∣ (k0_mult61 v447).toNat := fun i v96 v447 k0_hw60 k0_h2 k0_h3 => k0_hw60.1 k0_h2 k0_h3
theorem k0_off141_inb : ∀ (i : grid0.Coords) (v96 : BitVec 32) (v447 : BitVec 32) (k0_hw60 : k0_chk60 i v96 v447), ∀ (k0_h2 : k0_cond2 i = 1#1), ∀ (k0_h3 : k0_cond3 v96 = 1#1), ∀ a, (k0_off141 v447) a + S256x128.size a ≤ S50432x128.size a := fun i v96 v447 k0_hw60 k0_h2 k0_h3 => k0_hw60.2 k0_h2 k0_h3

def k0_off142 (v467 : BitVec 32) : Fin 2 → Nat :=
  let v468 : BitVec 32 := v467
  let v701 : Index := Scalar.indexCast v468
  let c0_289 : Index := 0#32
  ![v701.toNat, 0]

def k0_chk62 (i : grid0.Coords) (v96 : BitVec 32) (v467 : BitVec 32) : Prop :=
  (∀ (k0_h2 : k0_cond2 i = 1#1), ∀ (k0_h3 : k0_cond3 v96 = 1#1), 8 ∣ (k0_mult63 v467).toNat) ∧
  (∀ (k0_h2 : k0_cond2 i = 1#1), ∀ (k0_h3 : k0_cond3 v96 = 1#1), ∀ a, (k0_off142 v467) a + S256x128.size a ≤ S50432x128.size a)
theorem k0_mult63_dvd : ∀ (i : grid0.Coords) (v96 : BitVec 32) (v467 : BitVec 32) (k0_hw62 : k0_chk62 i v96 v467), ∀ (k0_h2 : k0_cond2 i = 1#1), ∀ (k0_h3 : k0_cond3 v96 = 1#1), 8 ∣ (k0_mult63 v467).toNat := fun i v96 v467 k0_hw62 k0_h2 k0_h3 => k0_hw62.1 k0_h2 k0_h3
theorem k0_off142_inb : ∀ (i : grid0.Coords) (v96 : BitVec 32) (v467 : BitVec 32) (k0_hw62 : k0_chk62 i v96 v467), ∀ (k0_h2 : k0_cond2 i = 1#1), ∀ (k0_h3 : k0_cond3 v96 = 1#1), ∀ a, (k0_off142 v467) a + S256x128.size a ≤ S50432x128.size a := fun i v96 v467 k0_hw62 k0_h2 k0_h3 => k0_hw62.2 k0_h2 k0_h3

def k0_off143 (v487 : BitVec 32) : Fin 2 → Nat :=
  let v488 : BitVec 32 := v487
  let v708 : Index := Scalar.indexCast v488
  let c0_291 : Index := 0#32
  ![v708.toNat, 0]

def k0_chk64 (i : grid0.Coords) (v96 : BitVec 32) (v487 : BitVec 32) : Prop :=
  (∀ (k0_h2 : k0_cond2 i = 1#1), ∀ (k0_h3 : k0_cond3 v96 = 1#1), 8 ∣ (k0_mult65 v487).toNat) ∧
  (∀ (k0_h2 : k0_cond2 i = 1#1), ∀ (k0_h3 : k0_cond3 v96 = 1#1), ∀ a, (k0_off143 v487) a + S256x128.size a ≤ S50432x128.size a)
theorem k0_mult65_dvd : ∀ (i : grid0.Coords) (v96 : BitVec 32) (v487 : BitVec 32) (k0_hw64 : k0_chk64 i v96 v487), ∀ (k0_h2 : k0_cond2 i = 1#1), ∀ (k0_h3 : k0_cond3 v96 = 1#1), 8 ∣ (k0_mult65 v487).toNat := fun i v96 v487 k0_hw64 k0_h2 k0_h3 => k0_hw64.1 k0_h2 k0_h3
theorem k0_off143_inb : ∀ (i : grid0.Coords) (v96 : BitVec 32) (v487 : BitVec 32) (k0_hw64 : k0_chk64 i v96 v487), ∀ (k0_h2 : k0_cond2 i = 1#1), ∀ (k0_h3 : k0_cond3 v96 = 1#1), ∀ a, (k0_off143 v487) a + S256x128.size a ≤ S50432x128.size a := fun i v96 v487 k0_hw64 k0_h2 k0_h3 => k0_hw64.2 k0_h2 k0_h3

def k0_off144 (v510 : BitVec 32) : Fin 2 → Nat :=
  let c256_i32_218 : BitVec 32 := 256#32
  let v511 : BitVec 32 := Scalar.muli v510 c256_i32_218
  let v512 : BitVec 32 := v511
  let v717 : Index := Scalar.indexCast v512
  let c0_296 : Index := 0#32
  ![v717.toNat, 0]

def k0_chk67 (i : grid0.Coords) (v96 : BitVec 32) (v510 : BitVec 32) : Prop :=
  (∀ (k0_h2 : k0_cond2 i = 1#1), ∀ (k0_h3 : k0_cond3 v96 = 1#1), 256 ∣ (k0_mult68 v510).toNat) ∧
  (∀ (k0_h2 : k0_cond2 i = 1#1), ∀ (k0_h3 : k0_cond3 v96 = 1#1), ∀ a, (k0_off144 v510) a + S256x128.size a ≤ S16384x128.size a)
theorem k0_mult68_dvd : ∀ (i : grid0.Coords) (v96 : BitVec 32) (v510 : BitVec 32) (k0_hw67 : k0_chk67 i v96 v510), ∀ (k0_h2 : k0_cond2 i = 1#1), ∀ (k0_h3 : k0_cond3 v96 = 1#1), 256 ∣ (k0_mult68 v510).toNat := fun i v96 v510 k0_hw67 k0_h2 k0_h3 => k0_hw67.1 k0_h2 k0_h3
theorem k0_off144_inb : ∀ (i : grid0.Coords) (v96 : BitVec 32) (v510 : BitVec 32) (k0_hw67 : k0_chk67 i v96 v510), ∀ (k0_h2 : k0_cond2 i = 1#1), ∀ (k0_h3 : k0_cond3 v96 = 1#1), ∀ a, (k0_off144 v510) a + S256x128.size a ≤ S16384x128.size a := fun i v96 v510 k0_hw67 k0_h2 k0_h3 => k0_hw67.2 k0_h2 k0_h3

def k0_off145 (v507 : BitVec 32) : Fin 2 → Nat :=
  let v508 : BitVec 32 := v507
  let v733 : Index := Scalar.indexCast v508
  let c0_301 : Index := 0#32
  ![v733.toNat, 0]

def k0_chk66 (i : grid0.Coords) (v96 : BitVec 32) (v507 : BitVec 32) : Prop :=
  (∀ (k0_h2 : k0_cond2 i = 1#1), ∀ (k0_h3 : k0_cond3 v96 = 1#1), 8 ∣ (k0_mult67 v507).toNat) ∧
  (∀ (k0_h2 : k0_cond2 i = 1#1), ∀ (k0_h3 : k0_cond3 v96 = 1#1), ∀ a, (k0_off145 v507) a + S256x128.size a ≤ S50432x128.size a)
theorem k0_mult67_dvd : ∀ (i : grid0.Coords) (v96 : BitVec 32) (v507 : BitVec 32) (k0_hw66 : k0_chk66 i v96 v507), ∀ (k0_h2 : k0_cond2 i = 1#1), ∀ (k0_h3 : k0_cond3 v96 = 1#1), 8 ∣ (k0_mult67 v507).toNat := fun i v96 v507 k0_hw66 k0_h2 k0_h3 => k0_hw66.1 k0_h2 k0_h3
theorem k0_off145_inb : ∀ (i : grid0.Coords) (v96 : BitVec 32) (v507 : BitVec 32) (k0_hw66 : k0_chk66 i v96 v507), ∀ (k0_h2 : k0_cond2 i = 1#1), ∀ (k0_h3 : k0_cond3 v96 = 1#1), ∀ a, (k0_off145 v507) a + S256x128.size a ≤ S50432x128.size a := fun i v96 v507 k0_hw66 k0_h2 k0_h3 => k0_hw66.2 k0_h2 k0_h3

def k0_off146 (v530 : BitVec 32) : Fin 2 → Nat :=
  let c256_i32_226 : BitVec 32 := 256#32
  let v531 : BitVec 32 := Scalar.muli v530 c256_i32_226
  let v532 : BitVec 32 := v531
  let v740 : Index := Scalar.indexCast v532
  let c0_305 : Index := 0#32
  ![v740.toNat, 0]

def k0_chk69 (i : grid0.Coords) (v96 : BitVec 32) (v530 : BitVec 32) : Prop :=
  (∀ (k0_h2 : k0_cond2 i = 1#1), ∀ (k0_h3 : k0_cond3 v96 = 1#1), 256 ∣ (k0_mult70 v530).toNat) ∧
  (∀ (k0_h2 : k0_cond2 i = 1#1), ∀ (k0_h3 : k0_cond3 v96 = 1#1), ∀ a, (k0_off146 v530) a + S256x128.size a ≤ S16384x128.size a)
theorem k0_mult70_dvd : ∀ (i : grid0.Coords) (v96 : BitVec 32) (v530 : BitVec 32) (k0_hw69 : k0_chk69 i v96 v530), ∀ (k0_h2 : k0_cond2 i = 1#1), ∀ (k0_h3 : k0_cond3 v96 = 1#1), 256 ∣ (k0_mult70 v530).toNat := fun i v96 v530 k0_hw69 k0_h2 k0_h3 => k0_hw69.1 k0_h2 k0_h3
theorem k0_off146_inb : ∀ (i : grid0.Coords) (v96 : BitVec 32) (v530 : BitVec 32) (k0_hw69 : k0_chk69 i v96 v530), ∀ (k0_h2 : k0_cond2 i = 1#1), ∀ (k0_h3 : k0_cond3 v96 = 1#1), ∀ a, (k0_off146 v530) a + S256x128.size a ≤ S16384x128.size a := fun i v96 v530 k0_hw69 k0_h2 k0_h3 => k0_hw69.2 k0_h2 k0_h3

def k0_off147 (v527 : BitVec 32) : Fin 2 → Nat :=
  let v528 : BitVec 32 := v527
  let v756 : Index := Scalar.indexCast v528
  let c0_310 : Index := 0#32
  ![v756.toNat, 0]

def k0_chk68 (i : grid0.Coords) (v96 : BitVec 32) (v527 : BitVec 32) : Prop :=
  (∀ (k0_h2 : k0_cond2 i = 1#1), ∀ (k0_h3 : k0_cond3 v96 = 1#1), 8 ∣ (k0_mult69 v527).toNat) ∧
  (∀ (k0_h2 : k0_cond2 i = 1#1), ∀ (k0_h3 : k0_cond3 v96 = 1#1), ∀ a, (k0_off147 v527) a + S256x128.size a ≤ S50432x128.size a)
theorem k0_mult69_dvd : ∀ (i : grid0.Coords) (v96 : BitVec 32) (v527 : BitVec 32) (k0_hw68 : k0_chk68 i v96 v527), ∀ (k0_h2 : k0_cond2 i = 1#1), ∀ (k0_h3 : k0_cond3 v96 = 1#1), 8 ∣ (k0_mult69 v527).toNat := fun i v96 v527 k0_hw68 k0_h2 k0_h3 => k0_hw68.1 k0_h2 k0_h3
theorem k0_off147_inb : ∀ (i : grid0.Coords) (v96 : BitVec 32) (v527 : BitVec 32) (k0_hw68 : k0_chk68 i v96 v527), ∀ (k0_h2 : k0_cond2 i = 1#1), ∀ (k0_h3 : k0_cond3 v96 = 1#1), ∀ a, (k0_off147 v527) a + S256x128.size a ≤ S50432x128.size a := fun i v96 v527 k0_hw68 k0_h2 k0_h3 => k0_hw68.2 k0_h2 k0_h3

def k0_off148 (v550 : BitVec 32) : Fin 2 → Nat :=
  let c256_i32_234 : BitVec 32 := 256#32
  let v551 : BitVec 32 := Scalar.muli v550 c256_i32_234
  let v552 : BitVec 32 := v551
  let v763 : Index := Scalar.indexCast v552
  let c0_314 : Index := 0#32
  ![v763.toNat, 0]

def k0_chk71 (i : grid0.Coords) (v96 : BitVec 32) (v550 : BitVec 32) : Prop :=
  (∀ (k0_h2 : k0_cond2 i = 1#1), ∀ (k0_h3 : k0_cond3 v96 = 1#1), 256 ∣ (k0_mult72 v550).toNat) ∧
  (∀ (k0_h2 : k0_cond2 i = 1#1), ∀ (k0_h3 : k0_cond3 v96 = 1#1), ∀ a, (k0_off148 v550) a + S256x128.size a ≤ S16384x128.size a)
theorem k0_mult72_dvd : ∀ (i : grid0.Coords) (v96 : BitVec 32) (v550 : BitVec 32) (k0_hw71 : k0_chk71 i v96 v550), ∀ (k0_h2 : k0_cond2 i = 1#1), ∀ (k0_h3 : k0_cond3 v96 = 1#1), 256 ∣ (k0_mult72 v550).toNat := fun i v96 v550 k0_hw71 k0_h2 k0_h3 => k0_hw71.1 k0_h2 k0_h3
theorem k0_off148_inb : ∀ (i : grid0.Coords) (v96 : BitVec 32) (v550 : BitVec 32) (k0_hw71 : k0_chk71 i v96 v550), ∀ (k0_h2 : k0_cond2 i = 1#1), ∀ (k0_h3 : k0_cond3 v96 = 1#1), ∀ a, (k0_off148 v550) a + S256x128.size a ≤ S16384x128.size a := fun i v96 v550 k0_hw71 k0_h2 k0_h3 => k0_hw71.2 k0_h2 k0_h3

def k0_off149 (v547 : BitVec 32) : Fin 2 → Nat :=
  let v548 : BitVec 32 := v547
  let v779 : Index := Scalar.indexCast v548
  let c0_319 : Index := 0#32
  ![v779.toNat, 0]

def k0_chk70 (i : grid0.Coords) (v96 : BitVec 32) (v547 : BitVec 32) : Prop :=
  (∀ (k0_h2 : k0_cond2 i = 1#1), ∀ (k0_h3 : k0_cond3 v96 = 1#1), 8 ∣ (k0_mult71 v547).toNat) ∧
  (∀ (k0_h2 : k0_cond2 i = 1#1), ∀ (k0_h3 : k0_cond3 v96 = 1#1), ∀ a, (k0_off149 v547) a + S256x128.size a ≤ S50432x128.size a)
theorem k0_mult71_dvd : ∀ (i : grid0.Coords) (v96 : BitVec 32) (v547 : BitVec 32) (k0_hw70 : k0_chk70 i v96 v547), ∀ (k0_h2 : k0_cond2 i = 1#1), ∀ (k0_h3 : k0_cond3 v96 = 1#1), 8 ∣ (k0_mult71 v547).toNat := fun i v96 v547 k0_hw70 k0_h2 k0_h3 => k0_hw70.1 k0_h2 k0_h3
theorem k0_off149_inb : ∀ (i : grid0.Coords) (v96 : BitVec 32) (v547 : BitVec 32) (k0_hw70 : k0_chk70 i v96 v547), ∀ (k0_h2 : k0_cond2 i = 1#1), ∀ (k0_h3 : k0_cond3 v96 = 1#1), ∀ a, (k0_off149 v547) a + S256x128.size a ≤ S50432x128.size a := fun i v96 v547 k0_hw70 k0_h2 k0_h3 => k0_hw70.2 k0_h2 k0_h3

def k0_off150 (v570 : BitVec 32) : Fin 2 → Nat :=
  let c256_i32_242 : BitVec 32 := 256#32
  let v571 : BitVec 32 := Scalar.muli v570 c256_i32_242
  let v572 : BitVec 32 := v571
  let v786 : Index := Scalar.indexCast v572
  let c0_323 : Index := 0#32
  ![v786.toNat, 0]

def k0_chk73 (i : grid0.Coords) (v96 : BitVec 32) (v570 : BitVec 32) : Prop :=
  (∀ (k0_h2 : k0_cond2 i = 1#1), ∀ (k0_h3 : k0_cond3 v96 = 1#1), 256 ∣ (k0_mult74 v570).toNat) ∧
  (∀ (k0_h2 : k0_cond2 i = 1#1), ∀ (k0_h3 : k0_cond3 v96 = 1#1), ∀ a, (k0_off150 v570) a + S256x128.size a ≤ S16384x128.size a)
theorem k0_mult74_dvd : ∀ (i : grid0.Coords) (v96 : BitVec 32) (v570 : BitVec 32) (k0_hw73 : k0_chk73 i v96 v570), ∀ (k0_h2 : k0_cond2 i = 1#1), ∀ (k0_h3 : k0_cond3 v96 = 1#1), 256 ∣ (k0_mult74 v570).toNat := fun i v96 v570 k0_hw73 k0_h2 k0_h3 => k0_hw73.1 k0_h2 k0_h3
theorem k0_off150_inb : ∀ (i : grid0.Coords) (v96 : BitVec 32) (v570 : BitVec 32) (k0_hw73 : k0_chk73 i v96 v570), ∀ (k0_h2 : k0_cond2 i = 1#1), ∀ (k0_h3 : k0_cond3 v96 = 1#1), ∀ a, (k0_off150 v570) a + S256x128.size a ≤ S16384x128.size a := fun i v96 v570 k0_hw73 k0_h2 k0_h3 => k0_hw73.2 k0_h2 k0_h3

def k0_off151 (v567 : BitVec 32) : Fin 2 → Nat :=
  let v568 : BitVec 32 := v567
  let v802 : Index := Scalar.indexCast v568
  let c0_328 : Index := 0#32
  ![v802.toNat, 0]

def k0_chk72 (i : grid0.Coords) (v96 : BitVec 32) (v567 : BitVec 32) : Prop :=
  (∀ (k0_h2 : k0_cond2 i = 1#1), ∀ (k0_h3 : k0_cond3 v96 = 1#1), 8 ∣ (k0_mult73 v567).toNat) ∧
  (∀ (k0_h2 : k0_cond2 i = 1#1), ∀ (k0_h3 : k0_cond3 v96 = 1#1), ∀ a, (k0_off151 v567) a + S256x128.size a ≤ S50432x128.size a)
theorem k0_mult73_dvd : ∀ (i : grid0.Coords) (v96 : BitVec 32) (v567 : BitVec 32) (k0_hw72 : k0_chk72 i v96 v567), ∀ (k0_h2 : k0_cond2 i = 1#1), ∀ (k0_h3 : k0_cond3 v96 = 1#1), 8 ∣ (k0_mult73 v567).toNat := fun i v96 v567 k0_hw72 k0_h2 k0_h3 => k0_hw72.1 k0_h2 k0_h3
theorem k0_off151_inb : ∀ (i : grid0.Coords) (v96 : BitVec 32) (v567 : BitVec 32) (k0_hw72 : k0_chk72 i v96 v567), ∀ (k0_h2 : k0_cond2 i = 1#1), ∀ (k0_h3 : k0_cond3 v96 = 1#1), ∀ a, (k0_off151 v567) a + S256x128.size a ≤ S50432x128.size a := fun i v96 v567 k0_hw72 k0_h2 k0_h3 => k0_hw72.2 k0_h2 k0_h3

def k0_off152 (v590 : BitVec 32) : Fin 2 → Nat :=
  let c256_i32_250 : BitVec 32 := 256#32
  let v591 : BitVec 32 := Scalar.muli v590 c256_i32_250
  let v592 : BitVec 32 := v591
  let v809 : Index := Scalar.indexCast v592
  let c0_332 : Index := 0#32
  ![v809.toNat, 0]

def k0_chk75 (i : grid0.Coords) (v96 : BitVec 32) (v590 : BitVec 32) : Prop :=
  (∀ (k0_h2 : k0_cond2 i = 1#1), ∀ (k0_h3 : k0_cond3 v96 = 1#1), 256 ∣ (k0_mult76 v590).toNat) ∧
  (∀ (k0_h2 : k0_cond2 i = 1#1), ∀ (k0_h3 : k0_cond3 v96 = 1#1), ∀ a, (k0_off152 v590) a + S256x128.size a ≤ S16384x128.size a)
theorem k0_mult76_dvd : ∀ (i : grid0.Coords) (v96 : BitVec 32) (v590 : BitVec 32) (k0_hw75 : k0_chk75 i v96 v590), ∀ (k0_h2 : k0_cond2 i = 1#1), ∀ (k0_h3 : k0_cond3 v96 = 1#1), 256 ∣ (k0_mult76 v590).toNat := fun i v96 v590 k0_hw75 k0_h2 k0_h3 => k0_hw75.1 k0_h2 k0_h3
theorem k0_off152_inb : ∀ (i : grid0.Coords) (v96 : BitVec 32) (v590 : BitVec 32) (k0_hw75 : k0_chk75 i v96 v590), ∀ (k0_h2 : k0_cond2 i = 1#1), ∀ (k0_h3 : k0_cond3 v96 = 1#1), ∀ a, (k0_off152 v590) a + S256x128.size a ≤ S16384x128.size a := fun i v96 v590 k0_hw75 k0_h2 k0_h3 => k0_hw75.2 k0_h2 k0_h3

def k0_off153 (v587 : BitVec 32) : Fin 2 → Nat :=
  let v588 : BitVec 32 := v587
  let v825 : Index := Scalar.indexCast v588
  let c0_337 : Index := 0#32
  ![v825.toNat, 0]

def k0_chk74 (i : grid0.Coords) (v96 : BitVec 32) (v587 : BitVec 32) : Prop :=
  (∀ (k0_h2 : k0_cond2 i = 1#1), ∀ (k0_h3 : k0_cond3 v96 = 1#1), 8 ∣ (k0_mult75 v587).toNat) ∧
  (∀ (k0_h2 : k0_cond2 i = 1#1), ∀ (k0_h3 : k0_cond3 v96 = 1#1), ∀ a, (k0_off153 v587) a + S256x128.size a ≤ S50432x128.size a)
theorem k0_mult75_dvd : ∀ (i : grid0.Coords) (v96 : BitVec 32) (v587 : BitVec 32) (k0_hw74 : k0_chk74 i v96 v587), ∀ (k0_h2 : k0_cond2 i = 1#1), ∀ (k0_h3 : k0_cond3 v96 = 1#1), 8 ∣ (k0_mult75 v587).toNat := fun i v96 v587 k0_hw74 k0_h2 k0_h3 => k0_hw74.1 k0_h2 k0_h3
theorem k0_off153_inb : ∀ (i : grid0.Coords) (v96 : BitVec 32) (v587 : BitVec 32) (k0_hw74 : k0_chk74 i v96 v587), ∀ (k0_h2 : k0_cond2 i = 1#1), ∀ (k0_h3 : k0_cond3 v96 = 1#1), ∀ a, (k0_off153 v587) a + S256x128.size a ≤ S50432x128.size a := fun i v96 v587 k0_hw74 k0_h2 k0_h3 => k0_hw74.2 k0_h2 k0_h3

def k0_off154 (v610 : BitVec 32) : Fin 2 → Nat :=
  let c256_i32_258 : BitVec 32 := 256#32
  let v611 : BitVec 32 := Scalar.muli v610 c256_i32_258
  let v612 : BitVec 32 := v611
  let v832 : Index := Scalar.indexCast v612
  let c0_341 : Index := 0#32
  ![v832.toNat, 0]

def k0_chk77 (i : grid0.Coords) (v96 : BitVec 32) (v610 : BitVec 32) : Prop :=
  (∀ (k0_h2 : k0_cond2 i = 1#1), ∀ (k0_h3 : k0_cond3 v96 = 1#1), 256 ∣ (k0_mult78 v610).toNat) ∧
  (∀ (k0_h2 : k0_cond2 i = 1#1), ∀ (k0_h3 : k0_cond3 v96 = 1#1), ∀ a, (k0_off154 v610) a + S256x128.size a ≤ S16384x128.size a)
theorem k0_mult78_dvd : ∀ (i : grid0.Coords) (v96 : BitVec 32) (v610 : BitVec 32) (k0_hw77 : k0_chk77 i v96 v610), ∀ (k0_h2 : k0_cond2 i = 1#1), ∀ (k0_h3 : k0_cond3 v96 = 1#1), 256 ∣ (k0_mult78 v610).toNat := fun i v96 v610 k0_hw77 k0_h2 k0_h3 => k0_hw77.1 k0_h2 k0_h3
theorem k0_off154_inb : ∀ (i : grid0.Coords) (v96 : BitVec 32) (v610 : BitVec 32) (k0_hw77 : k0_chk77 i v96 v610), ∀ (k0_h2 : k0_cond2 i = 1#1), ∀ (k0_h3 : k0_cond3 v96 = 1#1), ∀ a, (k0_off154 v610) a + S256x128.size a ≤ S16384x128.size a := fun i v96 v610 k0_hw77 k0_h2 k0_h3 => k0_hw77.2 k0_h2 k0_h3

def k0_off155 (v607 : BitVec 32) : Fin 2 → Nat :=
  let v608 : BitVec 32 := v607
  let v848 : Index := Scalar.indexCast v608
  let c0_346 : Index := 0#32
  ![v848.toNat, 0]

def k0_chk76 (i : grid0.Coords) (v96 : BitVec 32) (v607 : BitVec 32) : Prop :=
  (∀ (k0_h2 : k0_cond2 i = 1#1), ∀ (k0_h3 : k0_cond3 v96 = 1#1), 8 ∣ (k0_mult77 v607).toNat) ∧
  (∀ (k0_h2 : k0_cond2 i = 1#1), ∀ (k0_h3 : k0_cond3 v96 = 1#1), ∀ a, (k0_off155 v607) a + S256x128.size a ≤ S50432x128.size a)
theorem k0_mult77_dvd : ∀ (i : grid0.Coords) (v96 : BitVec 32) (v607 : BitVec 32) (k0_hw76 : k0_chk76 i v96 v607), ∀ (k0_h2 : k0_cond2 i = 1#1), ∀ (k0_h3 : k0_cond3 v96 = 1#1), 8 ∣ (k0_mult77 v607).toNat := fun i v96 v607 k0_hw76 k0_h2 k0_h3 => k0_hw76.1 k0_h2 k0_h3
theorem k0_off155_inb : ∀ (i : grid0.Coords) (v96 : BitVec 32) (v607 : BitVec 32) (k0_hw76 : k0_chk76 i v96 v607), ∀ (k0_h2 : k0_cond2 i = 1#1), ∀ (k0_h3 : k0_cond3 v96 = 1#1), ∀ a, (k0_off155 v607) a + S256x128.size a ≤ S50432x128.size a := fun i v96 v607 k0_hw76 k0_h2 k0_h3 => k0_hw76.2 k0_h2 k0_h3

def k0_off156 (v630 : BitVec 32) : Fin 2 → Nat :=
  let c256_i32_266 : BitVec 32 := 256#32
  let v631 : BitVec 32 := Scalar.muli v630 c256_i32_266
  let v632 : BitVec 32 := v631
  let v855 : Index := Scalar.indexCast v632
  let c0_350 : Index := 0#32
  ![v855.toNat, 0]

def k0_chk79 (i : grid0.Coords) (v96 : BitVec 32) (v630 : BitVec 32) : Prop :=
  (∀ (k0_h2 : k0_cond2 i = 1#1), ∀ (k0_h3 : k0_cond3 v96 = 1#1), 256 ∣ (k0_mult80 v630).toNat) ∧
  (∀ (k0_h2 : k0_cond2 i = 1#1), ∀ (k0_h3 : k0_cond3 v96 = 1#1), ∀ a, (k0_off156 v630) a + S256x128.size a ≤ S16384x128.size a)
theorem k0_mult80_dvd : ∀ (i : grid0.Coords) (v96 : BitVec 32) (v630 : BitVec 32) (k0_hw79 : k0_chk79 i v96 v630), ∀ (k0_h2 : k0_cond2 i = 1#1), ∀ (k0_h3 : k0_cond3 v96 = 1#1), 256 ∣ (k0_mult80 v630).toNat := fun i v96 v630 k0_hw79 k0_h2 k0_h3 => k0_hw79.1 k0_h2 k0_h3
theorem k0_off156_inb : ∀ (i : grid0.Coords) (v96 : BitVec 32) (v630 : BitVec 32) (k0_hw79 : k0_chk79 i v96 v630), ∀ (k0_h2 : k0_cond2 i = 1#1), ∀ (k0_h3 : k0_cond3 v96 = 1#1), ∀ a, (k0_off156 v630) a + S256x128.size a ≤ S16384x128.size a := fun i v96 v630 k0_hw79 k0_h2 k0_h3 => k0_hw79.2 k0_h2 k0_h3

def k0_off157 (v627 : BitVec 32) : Fin 2 → Nat :=
  let v628 : BitVec 32 := v627
  let v871 : Index := Scalar.indexCast v628
  let c0_355 : Index := 0#32
  ![v871.toNat, 0]

def k0_chk78 (i : grid0.Coords) (v96 : BitVec 32) (v627 : BitVec 32) : Prop :=
  (∀ (k0_h2 : k0_cond2 i = 1#1), ∀ (k0_h3 : k0_cond3 v96 = 1#1), 8 ∣ (k0_mult79 v627).toNat) ∧
  (∀ (k0_h2 : k0_cond2 i = 1#1), ∀ (k0_h3 : k0_cond3 v96 = 1#1), ∀ a, (k0_off157 v627) a + S256x128.size a ≤ S50432x128.size a)
theorem k0_mult79_dvd : ∀ (i : grid0.Coords) (v96 : BitVec 32) (v627 : BitVec 32) (k0_hw78 : k0_chk78 i v96 v627), ∀ (k0_h2 : k0_cond2 i = 1#1), ∀ (k0_h3 : k0_cond3 v96 = 1#1), 8 ∣ (k0_mult79 v627).toNat := fun i v96 v627 k0_hw78 k0_h2 k0_h3 => k0_hw78.1 k0_h2 k0_h3
theorem k0_off157_inb : ∀ (i : grid0.Coords) (v96 : BitVec 32) (v627 : BitVec 32) (k0_hw78 : k0_chk78 i v96 v627), ∀ (k0_h2 : k0_cond2 i = 1#1), ∀ (k0_h3 : k0_cond3 v96 = 1#1), ∀ a, (k0_off157 v627) a + S256x128.size a ≤ S50432x128.size a := fun i v96 v627 k0_hw78 k0_h2 k0_h3 => k0_hw78.2 k0_h2 k0_h3

def k0_off158 (v650 : BitVec 32) : Fin 2 → Nat :=
  let c256_i32_274 : BitVec 32 := 256#32
  let v651 : BitVec 32 := Scalar.muli v650 c256_i32_274
  let v652 : BitVec 32 := v651
  let v878 : Index := Scalar.indexCast v652
  let c0_359 : Index := 0#32
  ![v878.toNat, 0]

def k0_chk81 (i : grid0.Coords) (v96 : BitVec 32) (v650 : BitVec 32) : Prop :=
  (∀ (k0_h2 : k0_cond2 i = 1#1), ∀ (k0_h3 : k0_cond3 v96 = 1#1), 256 ∣ (k0_mult82 v650).toNat) ∧
  (∀ (k0_h2 : k0_cond2 i = 1#1), ∀ (k0_h3 : k0_cond3 v96 = 1#1), ∀ a, (k0_off158 v650) a + S256x128.size a ≤ S16384x128.size a)
theorem k0_mult82_dvd : ∀ (i : grid0.Coords) (v96 : BitVec 32) (v650 : BitVec 32) (k0_hw81 : k0_chk81 i v96 v650), ∀ (k0_h2 : k0_cond2 i = 1#1), ∀ (k0_h3 : k0_cond3 v96 = 1#1), 256 ∣ (k0_mult82 v650).toNat := fun i v96 v650 k0_hw81 k0_h2 k0_h3 => k0_hw81.1 k0_h2 k0_h3
theorem k0_off158_inb : ∀ (i : grid0.Coords) (v96 : BitVec 32) (v650 : BitVec 32) (k0_hw81 : k0_chk81 i v96 v650), ∀ (k0_h2 : k0_cond2 i = 1#1), ∀ (k0_h3 : k0_cond3 v96 = 1#1), ∀ a, (k0_off158 v650) a + S256x128.size a ≤ S16384x128.size a := fun i v96 v650 k0_hw81 k0_h2 k0_h3 => k0_hw81.2 k0_h2 k0_h3

def k0_off159 (v647 : BitVec 32) : Fin 2 → Nat :=
  let v648 : BitVec 32 := v647
  let v894 : Index := Scalar.indexCast v648
  let c0_364 : Index := 0#32
  ![v894.toNat, 0]

def k0_chk80 (i : grid0.Coords) (v96 : BitVec 32) (v647 : BitVec 32) : Prop :=
  (∀ (k0_h2 : k0_cond2 i = 1#1), ∀ (k0_h3 : k0_cond3 v96 = 1#1), 8 ∣ (k0_mult81 v647).toNat) ∧
  (∀ (k0_h2 : k0_cond2 i = 1#1), ∀ (k0_h3 : k0_cond3 v96 = 1#1), ∀ a, (k0_off159 v647) a + S256x128.size a ≤ S50432x128.size a)
theorem k0_mult81_dvd : ∀ (i : grid0.Coords) (v96 : BitVec 32) (v647 : BitVec 32) (k0_hw80 : k0_chk80 i v96 v647), ∀ (k0_h2 : k0_cond2 i = 1#1), ∀ (k0_h3 : k0_cond3 v96 = 1#1), 8 ∣ (k0_mult81 v647).toNat := fun i v96 v647 k0_hw80 k0_h2 k0_h3 => k0_hw80.1 k0_h2 k0_h3
theorem k0_off159_inb : ∀ (i : grid0.Coords) (v96 : BitVec 32) (v647 : BitVec 32) (k0_hw80 : k0_chk80 i v96 v647), ∀ (k0_h2 : k0_cond2 i = 1#1), ∀ (k0_h3 : k0_cond3 v96 = 1#1), ∀ a, (k0_off159 v647) a + S256x128.size a ≤ S50432x128.size a := fun i v96 v647 k0_hw80 k0_h2 k0_h3 => k0_hw80.2 k0_h2 k0_h3

def k0_off160 (v350 : BitVec 32) : Fin 2 → Nat :=
  let c256_i32_154 : BitVec 32 := 256#32
  let v351 : BitVec 32 := Scalar.muli v350 c256_i32_154
  let v352 : BitVec 32 := v351
  let v1027 : Index := Scalar.indexCast v352
  let c0_445 : Index := 0#32
  ![v1027.toNat, 0]

def k0_chk51 (i : grid0.Coords) (v96 : BitVec 32) (v350 : BitVec 32) : Prop :=
  (∀ (k0_h2 : k0_cond2 i = 1#1), ∀ (k0_h3 : k0_cond3 v96 = 1#1), 256 ∣ (k0_mult52 v350).toNat) ∧
  (∀ (k0_h2 : k0_cond2 i = 1#1), ∀ (k0_h3 : k0_cond3 v96 = 1#1), ∀ a, (k0_off160 v350) a + S256x128.size a ≤ S16384x128.size a)
theorem k0_mult52_dvd : ∀ (i : grid0.Coords) (v96 : BitVec 32) (v350 : BitVec 32) (k0_hw51 : k0_chk51 i v96 v350), ∀ (k0_h2 : k0_cond2 i = 1#1), ∀ (k0_h3 : k0_cond3 v96 = 1#1), 256 ∣ (k0_mult52 v350).toNat := fun i v96 v350 k0_hw51 k0_h2 k0_h3 => k0_hw51.1 k0_h2 k0_h3
theorem k0_off160_inb : ∀ (i : grid0.Coords) (v96 : BitVec 32) (v350 : BitVec 32) (k0_hw51 : k0_chk51 i v96 v350), ∀ (k0_h2 : k0_cond2 i = 1#1), ∀ (k0_h3 : k0_cond3 v96 = 1#1), ∀ a, (k0_off160 v350) a + S256x128.size a ≤ S16384x128.size a := fun i v96 v350 k0_hw51 k0_h2 k0_h3 => k0_hw51.2 k0_h2 k0_h3

def k0_off161 (v370 : BitVec 32) : Fin 2 → Nat :=
  let c256_i32_162 : BitVec 32 := 256#32
  let v371 : BitVec 32 := Scalar.muli v370 c256_i32_162
  let v372 : BitVec 32 := v371
  let v1033 : Index := Scalar.indexCast v372
  let c0_450 : Index := 0#32
  ![v1033.toNat, 0]

def k0_chk53 (i : grid0.Coords) (v96 : BitVec 32) (v370 : BitVec 32) : Prop :=
  (∀ (k0_h2 : k0_cond2 i = 1#1), ∀ (k0_h3 : k0_cond3 v96 = 1#1), 256 ∣ (k0_mult54 v370).toNat) ∧
  (∀ (k0_h2 : k0_cond2 i = 1#1), ∀ (k0_h3 : k0_cond3 v96 = 1#1), ∀ a, (k0_off161 v370) a + S256x128.size a ≤ S16384x128.size a)
theorem k0_mult54_dvd : ∀ (i : grid0.Coords) (v96 : BitVec 32) (v370 : BitVec 32) (k0_hw53 : k0_chk53 i v96 v370), ∀ (k0_h2 : k0_cond2 i = 1#1), ∀ (k0_h3 : k0_cond3 v96 = 1#1), 256 ∣ (k0_mult54 v370).toNat := fun i v96 v370 k0_hw53 k0_h2 k0_h3 => k0_hw53.1 k0_h2 k0_h3
theorem k0_off161_inb : ∀ (i : grid0.Coords) (v96 : BitVec 32) (v370 : BitVec 32) (k0_hw53 : k0_chk53 i v96 v370), ∀ (k0_h2 : k0_cond2 i = 1#1), ∀ (k0_h3 : k0_cond3 v96 = 1#1), ∀ a, (k0_off161 v370) a + S256x128.size a ≤ S16384x128.size a := fun i v96 v370 k0_hw53 k0_h2 k0_h3 => k0_hw53.2 k0_h2 k0_h3

def k0_off162 (v390 : BitVec 32) : Fin 2 → Nat :=
  let c256_i32_170 : BitVec 32 := 256#32
  let v391 : BitVec 32 := Scalar.muli v390 c256_i32_170
  let v392 : BitVec 32 := v391
  let v1039 : Index := Scalar.indexCast v392
  let c0_455 : Index := 0#32
  ![v1039.toNat, 0]

def k0_chk55 (i : grid0.Coords) (v96 : BitVec 32) (v390 : BitVec 32) : Prop :=
  (∀ (k0_h2 : k0_cond2 i = 1#1), ∀ (k0_h3 : k0_cond3 v96 = 1#1), 256 ∣ (k0_mult56 v390).toNat) ∧
  (∀ (k0_h2 : k0_cond2 i = 1#1), ∀ (k0_h3 : k0_cond3 v96 = 1#1), ∀ a, (k0_off162 v390) a + S256x128.size a ≤ S16384x128.size a)
theorem k0_mult56_dvd : ∀ (i : grid0.Coords) (v96 : BitVec 32) (v390 : BitVec 32) (k0_hw55 : k0_chk55 i v96 v390), ∀ (k0_h2 : k0_cond2 i = 1#1), ∀ (k0_h3 : k0_cond3 v96 = 1#1), 256 ∣ (k0_mult56 v390).toNat := fun i v96 v390 k0_hw55 k0_h2 k0_h3 => k0_hw55.1 k0_h2 k0_h3
theorem k0_off162_inb : ∀ (i : grid0.Coords) (v96 : BitVec 32) (v390 : BitVec 32) (k0_hw55 : k0_chk55 i v96 v390), ∀ (k0_h2 : k0_cond2 i = 1#1), ∀ (k0_h3 : k0_cond3 v96 = 1#1), ∀ a, (k0_off162 v390) a + S256x128.size a ≤ S16384x128.size a := fun i v96 v390 k0_hw55 k0_h2 k0_h3 => k0_hw55.2 k0_h2 k0_h3

def k0_off163 (v410 : BitVec 32) : Fin 2 → Nat :=
  let c256_i32_178 : BitVec 32 := 256#32
  let v411 : BitVec 32 := Scalar.muli v410 c256_i32_178
  let v412 : BitVec 32 := v411
  let v1045 : Index := Scalar.indexCast v412
  let c0_460 : Index := 0#32
  ![v1045.toNat, 0]

def k0_chk57 (i : grid0.Coords) (v96 : BitVec 32) (v410 : BitVec 32) : Prop :=
  (∀ (k0_h2 : k0_cond2 i = 1#1), ∀ (k0_h3 : k0_cond3 v96 = 1#1), 256 ∣ (k0_mult58 v410).toNat) ∧
  (∀ (k0_h2 : k0_cond2 i = 1#1), ∀ (k0_h3 : k0_cond3 v96 = 1#1), ∀ a, (k0_off163 v410) a + S256x128.size a ≤ S16384x128.size a)
theorem k0_mult58_dvd : ∀ (i : grid0.Coords) (v96 : BitVec 32) (v410 : BitVec 32) (k0_hw57 : k0_chk57 i v96 v410), ∀ (k0_h2 : k0_cond2 i = 1#1), ∀ (k0_h3 : k0_cond3 v96 = 1#1), 256 ∣ (k0_mult58 v410).toNat := fun i v96 v410 k0_hw57 k0_h2 k0_h3 => k0_hw57.1 k0_h2 k0_h3
theorem k0_off163_inb : ∀ (i : grid0.Coords) (v96 : BitVec 32) (v410 : BitVec 32) (k0_hw57 : k0_chk57 i v96 v410), ∀ (k0_h2 : k0_cond2 i = 1#1), ∀ (k0_h3 : k0_cond3 v96 = 1#1), ∀ a, (k0_off163 v410) a + S256x128.size a ≤ S16384x128.size a := fun i v96 v410 k0_hw57 k0_h2 k0_h3 => k0_hw57.2 k0_h2 k0_h3

def k0_off164 (v430 : BitVec 32) : Fin 2 → Nat :=
  let c256_i32_186 : BitVec 32 := 256#32
  let v431 : BitVec 32 := Scalar.muli v430 c256_i32_186
  let v432 : BitVec 32 := v431
  let v1051 : Index := Scalar.indexCast v432
  let c0_465 : Index := 0#32
  ![v1051.toNat, 0]

def k0_chk59 (i : grid0.Coords) (v96 : BitVec 32) (v430 : BitVec 32) : Prop :=
  (∀ (k0_h2 : k0_cond2 i = 1#1), ∀ (k0_h3 : k0_cond3 v96 = 1#1), 256 ∣ (k0_mult60 v430).toNat) ∧
  (∀ (k0_h2 : k0_cond2 i = 1#1), ∀ (k0_h3 : k0_cond3 v96 = 1#1), ∀ a, (k0_off164 v430) a + S256x128.size a ≤ S16384x128.size a)
theorem k0_mult60_dvd : ∀ (i : grid0.Coords) (v96 : BitVec 32) (v430 : BitVec 32) (k0_hw59 : k0_chk59 i v96 v430), ∀ (k0_h2 : k0_cond2 i = 1#1), ∀ (k0_h3 : k0_cond3 v96 = 1#1), 256 ∣ (k0_mult60 v430).toNat := fun i v96 v430 k0_hw59 k0_h2 k0_h3 => k0_hw59.1 k0_h2 k0_h3
theorem k0_off164_inb : ∀ (i : grid0.Coords) (v96 : BitVec 32) (v430 : BitVec 32) (k0_hw59 : k0_chk59 i v96 v430), ∀ (k0_h2 : k0_cond2 i = 1#1), ∀ (k0_h3 : k0_cond3 v96 = 1#1), ∀ a, (k0_off164 v430) a + S256x128.size a ≤ S16384x128.size a := fun i v96 v430 k0_hw59 k0_h2 k0_h3 => k0_hw59.2 k0_h2 k0_h3

def k0_off165 (v450 : BitVec 32) : Fin 2 → Nat :=
  let c256_i32_194 : BitVec 32 := 256#32
  let v451 : BitVec 32 := Scalar.muli v450 c256_i32_194
  let v452 : BitVec 32 := v451
  let v1057 : Index := Scalar.indexCast v452
  let c0_470 : Index := 0#32
  ![v1057.toNat, 0]

def k0_chk61 (i : grid0.Coords) (v96 : BitVec 32) (v450 : BitVec 32) : Prop :=
  (∀ (k0_h2 : k0_cond2 i = 1#1), ∀ (k0_h3 : k0_cond3 v96 = 1#1), 256 ∣ (k0_mult62 v450).toNat) ∧
  (∀ (k0_h2 : k0_cond2 i = 1#1), ∀ (k0_h3 : k0_cond3 v96 = 1#1), ∀ a, (k0_off165 v450) a + S256x128.size a ≤ S16384x128.size a)
theorem k0_mult62_dvd : ∀ (i : grid0.Coords) (v96 : BitVec 32) (v450 : BitVec 32) (k0_hw61 : k0_chk61 i v96 v450), ∀ (k0_h2 : k0_cond2 i = 1#1), ∀ (k0_h3 : k0_cond3 v96 = 1#1), 256 ∣ (k0_mult62 v450).toNat := fun i v96 v450 k0_hw61 k0_h2 k0_h3 => k0_hw61.1 k0_h2 k0_h3
theorem k0_off165_inb : ∀ (i : grid0.Coords) (v96 : BitVec 32) (v450 : BitVec 32) (k0_hw61 : k0_chk61 i v96 v450), ∀ (k0_h2 : k0_cond2 i = 1#1), ∀ (k0_h3 : k0_cond3 v96 = 1#1), ∀ a, (k0_off165 v450) a + S256x128.size a ≤ S16384x128.size a := fun i v96 v450 k0_hw61 k0_h2 k0_h3 => k0_hw61.2 k0_h2 k0_h3

def k0_off166 (v470 : BitVec 32) : Fin 2 → Nat :=
  let c256_i32_202 : BitVec 32 := 256#32
  let v471 : BitVec 32 := Scalar.muli v470 c256_i32_202
  let v472 : BitVec 32 := v471
  let v1063 : Index := Scalar.indexCast v472
  let c0_475 : Index := 0#32
  ![v1063.toNat, 0]

def k0_chk63 (i : grid0.Coords) (v96 : BitVec 32) (v470 : BitVec 32) : Prop :=
  (∀ (k0_h2 : k0_cond2 i = 1#1), ∀ (k0_h3 : k0_cond3 v96 = 1#1), 256 ∣ (k0_mult64 v470).toNat) ∧
  (∀ (k0_h2 : k0_cond2 i = 1#1), ∀ (k0_h3 : k0_cond3 v96 = 1#1), ∀ a, (k0_off166 v470) a + S256x128.size a ≤ S16384x128.size a)
theorem k0_mult64_dvd : ∀ (i : grid0.Coords) (v96 : BitVec 32) (v470 : BitVec 32) (k0_hw63 : k0_chk63 i v96 v470), ∀ (k0_h2 : k0_cond2 i = 1#1), ∀ (k0_h3 : k0_cond3 v96 = 1#1), 256 ∣ (k0_mult64 v470).toNat := fun i v96 v470 k0_hw63 k0_h2 k0_h3 => k0_hw63.1 k0_h2 k0_h3
theorem k0_off166_inb : ∀ (i : grid0.Coords) (v96 : BitVec 32) (v470 : BitVec 32) (k0_hw63 : k0_chk63 i v96 v470), ∀ (k0_h2 : k0_cond2 i = 1#1), ∀ (k0_h3 : k0_cond3 v96 = 1#1), ∀ a, (k0_off166 v470) a + S256x128.size a ≤ S16384x128.size a := fun i v96 v470 k0_hw63 k0_h2 k0_h3 => k0_hw63.2 k0_h2 k0_h3

def k0_off167 (v490 : BitVec 32) : Fin 2 → Nat :=
  let c256_i32_210 : BitVec 32 := 256#32
  let v491 : BitVec 32 := Scalar.muli v490 c256_i32_210
  let v492 : BitVec 32 := v491
  let v1069 : Index := Scalar.indexCast v492
  let c0_480 : Index := 0#32
  ![v1069.toNat, 0]

def k0_chk65 (i : grid0.Coords) (v96 : BitVec 32) (v490 : BitVec 32) : Prop :=
  (∀ (k0_h2 : k0_cond2 i = 1#1), ∀ (k0_h3 : k0_cond3 v96 = 1#1), 256 ∣ (k0_mult66 v490).toNat) ∧
  (∀ (k0_h2 : k0_cond2 i = 1#1), ∀ (k0_h3 : k0_cond3 v96 = 1#1), ∀ a, (k0_off167 v490) a + S256x128.size a ≤ S16384x128.size a)
theorem k0_mult66_dvd : ∀ (i : grid0.Coords) (v96 : BitVec 32) (v490 : BitVec 32) (k0_hw65 : k0_chk65 i v96 v490), ∀ (k0_h2 : k0_cond2 i = 1#1), ∀ (k0_h3 : k0_cond3 v96 = 1#1), 256 ∣ (k0_mult66 v490).toNat := fun i v96 v490 k0_hw65 k0_h2 k0_h3 => k0_hw65.1 k0_h2 k0_h3
theorem k0_off167_inb : ∀ (i : grid0.Coords) (v96 : BitVec 32) (v490 : BitVec 32) (k0_hw65 : k0_chk65 i v96 v490), ∀ (k0_h2 : k0_cond2 i = 1#1), ∀ (k0_h3 : k0_cond3 v96 = 1#1), ∀ a, (k0_off167 v490) a + S256x128.size a ≤ S16384x128.size a := fun i v96 v490 k0_hw65 k0_h2 k0_h3 => k0_hw65.2 k0_h2 k0_h3

def k0_cond4 (i : grid0.Coords) : BitVec 1 :=
  let arg1 : BitVec 32 := BitVec.ofNat 32 (i 1).val
  let c8_i32_18 : BitVec 32 := 8#32
  let v57 : BitVec 1 := Scalar.cmpi .ne arg1 c8_i32_18
  let arg0 : BitVec 32 := BitVec.ofNat 32 (i 0).val
  let c16_i32 : BitVec 32 := 16#32
  let v52 : BitVec 32 := Scalar.muli arg0 c16_i32
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c2_i32_19 : BitVec 32 := 2#32
  let c0_i32_20 : BitVec 32 := 0#32
  let v58 : BitVec 1 := Scalar.cmpi .eq c2_i32_19 c0_i32_20
  let c1_i32_21 : BitVec 32 := 1#32
  let v59 : BitVec 32 := Scalar.select v58 c1_i32_21 c2_i32_19
  let v60 : BitVec 32 := Scalar.remsi v56 v59
  let c0_i32_23 : BitVec 32 := 0#32
  let v62 : BitVec 1 := Scalar.cmpi .slt v60 c0_i32_23
  let c0_i32_24 : BitVec 32 := 0#32
  let v63 : BitVec 1 := Scalar.cmpi .slt v59 c0_i32_24
  let v64 : BitVec 1 := Scalar.xori v62 v63
  let c0_i32_22 : BitVec 32 := 0#32
  let v61 : BitVec 1 := Scalar.cmpi .ne v60 c0_i32_22
  let v65 : BitVec 1 := Scalar.andi v64 v61
  let v66 : BitVec 32 := Scalar.addi v60 v59
  let v67 : BitVec 32 := Scalar.select v65 v66 v60
  let c0_i32_25 : BitVec 32 := 0#32
  let v68 : BitVec 1 := Scalar.cmpi .eq v67 c0_i32_25
  let v69 : BitVec 1 := Scalar.andi v57 v68
  let v70 : BitVec 32 := Scalar.extui v69
  let c0_i32_27 : BitVec 32 := 0#32
  let v71 : BitVec 1 := Scalar.cmpi .ne v70 c0_i32_27
  v71

def k0_cond5 (i : grid0.Coords) : BitVec 1 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_38 : BitVec 32 := 0#32
  let v87 : BitVec 1 := Scalar.cmpi .eq v56 c0_i32_38
  let v88 : BitVec 32 := Scalar.extui v87
  let c0_i32_39 : BitVec 32 := 0#32
  let v89 : BitVec 1 := Scalar.cmpi .ne v88 c0_i32_39
  v89

def k0_mult83 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_62 : BitVec 32 := 0#32
  let v135 : BitVec 1 := Scalar.cmpi .sgt v56 c0_i32_62
  let v136 : BitVec 32 := Scalar.extui v135
  let c0_i32_63 : BitVec 32 := 0#32
  let v137 : BitVec 1 := Scalar.cmpi .slt v56 c0_i32_63
  let v138 : BitVec 32 := Scalar.extui v137
  let v139 : BitVec 32 := Scalar.subi v136 v138
  let c16_i32_61 : BitVec 32 := 16#32
  let c0_i32_64 : BitVec 32 := 0#32
  let v140 : BitVec 1 := Scalar.cmpi .sgt c16_i32_61 c0_i32_64
  let v141 : BitVec 32 := Scalar.extui v140
  let c0_i32_65 : BitVec 32 := 0#32
  let v142 : BitVec 1 := Scalar.cmpi .slt c16_i32_61 c0_i32_65
  let v143 : BitVec 32 := Scalar.extui v142
  let v144 : BitVec 32 := Scalar.subi v141 v143
  let v145 : BitVec 1 := Scalar.cmpi .ne v139 v144
  let v146 : BitVec 32 := Scalar.remsi v56 c16_i32_61
  let c0_i32_66 : BitVec 32 := 0#32
  let v147 : BitVec 1 := Scalar.cmpi .ne v146 c0_i32_66
  let v148 : BitVec 1 := Scalar.andi v145 v147
  let v134 : BitVec 32 := Scalar.divsi v56 c16_i32_61
  let c1_i32_67 : BitVec 32 := 1#32
  let v149 : BitVec 32 := Scalar.subi v134 c1_i32_67
  let v150 : BitVec 32 := Scalar.select v148 v149 v134
  let c8_i32_68 : BitVec 32 := 8#32
  let v151 : BitVec 32 := Scalar.muli v150 c8_i32_68
  let c8_i32_69 : BitVec 32 := 8#32
  let c0_i32_70 : BitVec 32 := 0#32
  let v152 : BitVec 1 := Scalar.cmpi .eq c8_i32_69 c0_i32_70
  let c1_i32_71 : BitVec 32 := 1#32
  let v153 : BitVec 32 := Scalar.select v152 c1_i32_71 c8_i32_69
  let v154 : BitVec 32 := Scalar.remsi v56 v153
  let c0_i32_73 : BitVec 32 := 0#32
  let v156 : BitVec 1 := Scalar.cmpi .slt v154 c0_i32_73
  let c0_i32_74 : BitVec 32 := 0#32
  let v157 : BitVec 1 := Scalar.cmpi .slt v153 c0_i32_74
  let v158 : BitVec 1 := Scalar.xori v156 v157
  let c0_i32_72 : BitVec 32 := 0#32
  let v155 : BitVec 1 := Scalar.cmpi .ne v154 c0_i32_72
  let v159 : BitVec 1 := Scalar.andi v158 v155
  let v160 : BitVec 32 := Scalar.addi v154 v153
  let v161 : BitVec 32 := Scalar.select v159 v160 v154
  let v162 : BitVec 32 := Scalar.addi v151 v161
  let c6144_i32_75 : BitVec 32 := 6144#32
  let v163 : BitVec 32 := Scalar.muli v162 c6144_i32_75
  v163
def k0_off168 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_62 : BitVec 32 := 0#32
  let v135 : BitVec 1 := Scalar.cmpi .sgt v56 c0_i32_62
  let v136 : BitVec 32 := Scalar.extui v135
  let c0_i32_63 : BitVec 32 := 0#32
  let v137 : BitVec 1 := Scalar.cmpi .slt v56 c0_i32_63
  let v138 : BitVec 32 := Scalar.extui v137
  let v139 : BitVec 32 := Scalar.subi v136 v138
  let c16_i32_61 : BitVec 32 := 16#32
  let c0_i32_64 : BitVec 32 := 0#32
  let v140 : BitVec 1 := Scalar.cmpi .sgt c16_i32_61 c0_i32_64
  let v141 : BitVec 32 := Scalar.extui v140
  let c0_i32_65 : BitVec 32 := 0#32
  let v142 : BitVec 1 := Scalar.cmpi .slt c16_i32_61 c0_i32_65
  let v143 : BitVec 32 := Scalar.extui v142
  let v144 : BitVec 32 := Scalar.subi v141 v143
  let v145 : BitVec 1 := Scalar.cmpi .ne v139 v144
  let v146 : BitVec 32 := Scalar.remsi v56 c16_i32_61
  let c0_i32_66 : BitVec 32 := 0#32
  let v147 : BitVec 1 := Scalar.cmpi .ne v146 c0_i32_66
  let v148 : BitVec 1 := Scalar.andi v145 v147
  let v134 : BitVec 32 := Scalar.divsi v56 c16_i32_61
  let c1_i32_67 : BitVec 32 := 1#32
  let v149 : BitVec 32 := Scalar.subi v134 c1_i32_67
  let v150 : BitVec 32 := Scalar.select v148 v149 v134
  let c8_i32_68 : BitVec 32 := 8#32
  let v151 : BitVec 32 := Scalar.muli v150 c8_i32_68
  let c8_i32_69 : BitVec 32 := 8#32
  let c0_i32_70 : BitVec 32 := 0#32
  let v152 : BitVec 1 := Scalar.cmpi .eq c8_i32_69 c0_i32_70
  let c1_i32_71 : BitVec 32 := 1#32
  let v153 : BitVec 32 := Scalar.select v152 c1_i32_71 c8_i32_69
  let v154 : BitVec 32 := Scalar.remsi v56 v153
  let c0_i32_73 : BitVec 32 := 0#32
  let v156 : BitVec 1 := Scalar.cmpi .slt v154 c0_i32_73
  let c0_i32_74 : BitVec 32 := 0#32
  let v157 : BitVec 1 := Scalar.cmpi .slt v153 c0_i32_74
  let v158 : BitVec 1 := Scalar.xori v156 v157
  let c0_i32_72 : BitVec 32 := 0#32
  let v155 : BitVec 1 := Scalar.cmpi .ne v154 c0_i32_72
  let v159 : BitVec 1 := Scalar.andi v158 v155
  let v160 : BitVec 32 := Scalar.addi v154 v153
  let v161 : BitVec 32 := Scalar.select v159 v160 v154
  let v162 : BitVec 32 := Scalar.addi v151 v161
  let c6144_i32_75 : BitVec 32 := 6144#32
  let v163 : BitVec 32 := Scalar.muli v162 c6144_i32_75
  let v164 : BitVec 32 := v163
  ![v164.toNat]
def k0_cond6 (i : grid0.Coords) : BitVec 1 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_40 : BitVec 32 := 1#32
  let v90 : BitVec 32 := Scalar.addi v56 c1_i32_40
  let c256_i32 : BitVec 32 := 256#32
  let v91 : BitVec 1 := Scalar.cmpi .slt v90 c256_i32
  let v92 : BitVec 32 := Scalar.extui v91
  let c0_i32_41 : BitVec 32 := 0#32
  let v93 : BitVec 1 := Scalar.cmpi .ne v92 c0_i32_41
  v93

def k0_mult84 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_61 : BitVec 32 := 1#32
  let v134 : BitVec 32 := Scalar.addi v56 c1_i32_61
  let c0_i32_63 : BitVec 32 := 0#32
  let v136 : BitVec 1 := Scalar.cmpi .sgt v134 c0_i32_63
  let v137 : BitVec 32 := Scalar.extui v136
  let c0_i32_64 : BitVec 32 := 0#32
  let v138 : BitVec 1 := Scalar.cmpi .slt v134 c0_i32_64
  let v139 : BitVec 32 := Scalar.extui v138
  let v140 : BitVec 32 := Scalar.subi v137 v139
  let c16_i32_62 : BitVec 32 := 16#32
  let c0_i32_65 : BitVec 32 := 0#32
  let v141 : BitVec 1 := Scalar.cmpi .sgt c16_i32_62 c0_i32_65
  let v142 : BitVec 32 := Scalar.extui v141
  let c0_i32_66 : BitVec 32 := 0#32
  let v143 : BitVec 1 := Scalar.cmpi .slt c16_i32_62 c0_i32_66
  let v144 : BitVec 32 := Scalar.extui v143
  let v145 : BitVec 32 := Scalar.subi v142 v144
  let v146 : BitVec 1 := Scalar.cmpi .ne v140 v145
  let v147 : BitVec 32 := Scalar.remsi v134 c16_i32_62
  let c0_i32_67 : BitVec 32 := 0#32
  let v148 : BitVec 1 := Scalar.cmpi .ne v147 c0_i32_67
  let v149 : BitVec 1 := Scalar.andi v146 v148
  let v135 : BitVec 32 := Scalar.divsi v134 c16_i32_62
  let c1_i32_68 : BitVec 32 := 1#32
  let v150 : BitVec 32 := Scalar.subi v135 c1_i32_68
  let v151 : BitVec 32 := Scalar.select v149 v150 v135
  let c8_i32_69 : BitVec 32 := 8#32
  let v152 : BitVec 32 := Scalar.muli v151 c8_i32_69
  let c8_i32_70 : BitVec 32 := 8#32
  let c0_i32_71 : BitVec 32 := 0#32
  let v153 : BitVec 1 := Scalar.cmpi .eq c8_i32_70 c0_i32_71
  let c1_i32_72 : BitVec 32 := 1#32
  let v154 : BitVec 32 := Scalar.select v153 c1_i32_72 c8_i32_70
  let v155 : BitVec 32 := Scalar.remsi v134 v154
  let c0_i32_74 : BitVec 32 := 0#32
  let v157 : BitVec 1 := Scalar.cmpi .slt v155 c0_i32_74
  let c0_i32_75 : BitVec 32 := 0#32
  let v158 : BitVec 1 := Scalar.cmpi .slt v154 c0_i32_75
  let v159 : BitVec 1 := Scalar.xori v157 v158
  let c0_i32_73 : BitVec 32 := 0#32
  let v156 : BitVec 1 := Scalar.cmpi .ne v155 c0_i32_73
  let v160 : BitVec 1 := Scalar.andi v159 v156
  let v161 : BitVec 32 := Scalar.addi v155 v154
  let v162 : BitVec 32 := Scalar.select v160 v161 v155
  let v163 : BitVec 32 := Scalar.addi v152 v162
  let c6144_i32_76 : BitVec 32 := 6144#32
  let v164 : BitVec 32 := Scalar.muli v163 c6144_i32_76
  v164
def k0_off169 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_61 : BitVec 32 := 1#32
  let v134 : BitVec 32 := Scalar.addi v56 c1_i32_61
  let c0_i32_63 : BitVec 32 := 0#32
  let v136 : BitVec 1 := Scalar.cmpi .sgt v134 c0_i32_63
  let v137 : BitVec 32 := Scalar.extui v136
  let c0_i32_64 : BitVec 32 := 0#32
  let v138 : BitVec 1 := Scalar.cmpi .slt v134 c0_i32_64
  let v139 : BitVec 32 := Scalar.extui v138
  let v140 : BitVec 32 := Scalar.subi v137 v139
  let c16_i32_62 : BitVec 32 := 16#32
  let c0_i32_65 : BitVec 32 := 0#32
  let v141 : BitVec 1 := Scalar.cmpi .sgt c16_i32_62 c0_i32_65
  let v142 : BitVec 32 := Scalar.extui v141
  let c0_i32_66 : BitVec 32 := 0#32
  let v143 : BitVec 1 := Scalar.cmpi .slt c16_i32_62 c0_i32_66
  let v144 : BitVec 32 := Scalar.extui v143
  let v145 : BitVec 32 := Scalar.subi v142 v144
  let v146 : BitVec 1 := Scalar.cmpi .ne v140 v145
  let v147 : BitVec 32 := Scalar.remsi v134 c16_i32_62
  let c0_i32_67 : BitVec 32 := 0#32
  let v148 : BitVec 1 := Scalar.cmpi .ne v147 c0_i32_67
  let v149 : BitVec 1 := Scalar.andi v146 v148
  let v135 : BitVec 32 := Scalar.divsi v134 c16_i32_62
  let c1_i32_68 : BitVec 32 := 1#32
  let v150 : BitVec 32 := Scalar.subi v135 c1_i32_68
  let v151 : BitVec 32 := Scalar.select v149 v150 v135
  let c8_i32_69 : BitVec 32 := 8#32
  let v152 : BitVec 32 := Scalar.muli v151 c8_i32_69
  let c8_i32_70 : BitVec 32 := 8#32
  let c0_i32_71 : BitVec 32 := 0#32
  let v153 : BitVec 1 := Scalar.cmpi .eq c8_i32_70 c0_i32_71
  let c1_i32_72 : BitVec 32 := 1#32
  let v154 : BitVec 32 := Scalar.select v153 c1_i32_72 c8_i32_70
  let v155 : BitVec 32 := Scalar.remsi v134 v154
  let c0_i32_74 : BitVec 32 := 0#32
  let v157 : BitVec 1 := Scalar.cmpi .slt v155 c0_i32_74
  let c0_i32_75 : BitVec 32 := 0#32
  let v158 : BitVec 1 := Scalar.cmpi .slt v154 c0_i32_75
  let v159 : BitVec 1 := Scalar.xori v157 v158
  let c0_i32_73 : BitVec 32 := 0#32
  let v156 : BitVec 1 := Scalar.cmpi .ne v155 c0_i32_73
  let v160 : BitVec 1 := Scalar.andi v159 v156
  let v161 : BitVec 32 := Scalar.addi v155 v154
  let v162 : BitVec 32 := Scalar.select v160 v161 v155
  let v163 : BitVec 32 := Scalar.addi v152 v162
  let c6144_i32_76 : BitVec 32 := 6144#32
  let v164 : BitVec 32 := Scalar.muli v163 c6144_i32_76
  let v165 : BitVec 32 := v164
  ![v165.toNat]
def k0_mult85 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_43 : BitVec 32 := 0#32
  let v95 : BitVec 1 := Scalar.cmpi .sgt v56 c0_i32_43
  let v96 : BitVec 32 := Scalar.extui v95
  let c0_i32_44 : BitVec 32 := 0#32
  let v97 : BitVec 1 := Scalar.cmpi .slt v56 c0_i32_44
  let v98 : BitVec 32 := Scalar.extui v97
  let v99 : BitVec 32 := Scalar.subi v96 v98
  let c16_i32_42 : BitVec 32 := 16#32
  let c0_i32_45 : BitVec 32 := 0#32
  let v100 : BitVec 1 := Scalar.cmpi .sgt c16_i32_42 c0_i32_45
  let v101 : BitVec 32 := Scalar.extui v100
  let c0_i32_46 : BitVec 32 := 0#32
  let v102 : BitVec 1 := Scalar.cmpi .slt c16_i32_42 c0_i32_46
  let v103 : BitVec 32 := Scalar.extui v102
  let v104 : BitVec 32 := Scalar.subi v101 v103
  let v105 : BitVec 1 := Scalar.cmpi .ne v99 v104
  let v106 : BitVec 32 := Scalar.remsi v56 c16_i32_42
  let c0_i32_47 : BitVec 32 := 0#32
  let v107 : BitVec 1 := Scalar.cmpi .ne v106 c0_i32_47
  let v108 : BitVec 1 := Scalar.andi v105 v107
  let v94 : BitVec 32 := Scalar.divsi v56 c16_i32_42
  let c1_i32_48 : BitVec 32 := 1#32
  let v109 : BitVec 32 := Scalar.subi v94 c1_i32_48
  let v110 : BitVec 32 := Scalar.select v108 v109 v94
  let c8_i32_49 : BitVec 32 := 8#32
  let v111 : BitVec 32 := Scalar.muli v110 c8_i32_49
  let c8_i32_50 : BitVec 32 := 8#32
  let c0_i32_51 : BitVec 32 := 0#32
  let v112 : BitVec 1 := Scalar.cmpi .eq c8_i32_50 c0_i32_51
  let c1_i32_52 : BitVec 32 := 1#32
  let v113 : BitVec 32 := Scalar.select v112 c1_i32_52 c8_i32_50
  let v114 : BitVec 32 := Scalar.remsi v56 v113
  let c0_i32_54 : BitVec 32 := 0#32
  let v116 : BitVec 1 := Scalar.cmpi .slt v114 c0_i32_54
  let c0_i32_55 : BitVec 32 := 0#32
  let v117 : BitVec 1 := Scalar.cmpi .slt v113 c0_i32_55
  let v118 : BitVec 1 := Scalar.xori v116 v117
  let c0_i32_53 : BitVec 32 := 0#32
  let v115 : BitVec 1 := Scalar.cmpi .ne v114 c0_i32_53
  let v119 : BitVec 1 := Scalar.andi v118 v115
  let v120 : BitVec 32 := Scalar.addi v114 v113
  let v121 : BitVec 32 := Scalar.select v119 v120 v114
  let v122 : BitVec 32 := Scalar.addi v111 v121
  let c6144_i32 : BitVec 32 := 6144#32
  let v123 : BitVec 32 := Scalar.muli v122 c6144_i32
  v123
def k0_off170 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_43 : BitVec 32 := 0#32
  let v95 : BitVec 1 := Scalar.cmpi .sgt v56 c0_i32_43
  let v96 : BitVec 32 := Scalar.extui v95
  let c0_i32_44 : BitVec 32 := 0#32
  let v97 : BitVec 1 := Scalar.cmpi .slt v56 c0_i32_44
  let v98 : BitVec 32 := Scalar.extui v97
  let v99 : BitVec 32 := Scalar.subi v96 v98
  let c16_i32_42 : BitVec 32 := 16#32
  let c0_i32_45 : BitVec 32 := 0#32
  let v100 : BitVec 1 := Scalar.cmpi .sgt c16_i32_42 c0_i32_45
  let v101 : BitVec 32 := Scalar.extui v100
  let c0_i32_46 : BitVec 32 := 0#32
  let v102 : BitVec 1 := Scalar.cmpi .slt c16_i32_42 c0_i32_46
  let v103 : BitVec 32 := Scalar.extui v102
  let v104 : BitVec 32 := Scalar.subi v101 v103
  let v105 : BitVec 1 := Scalar.cmpi .ne v99 v104
  let v106 : BitVec 32 := Scalar.remsi v56 c16_i32_42
  let c0_i32_47 : BitVec 32 := 0#32
  let v107 : BitVec 1 := Scalar.cmpi .ne v106 c0_i32_47
  let v108 : BitVec 1 := Scalar.andi v105 v107
  let v94 : BitVec 32 := Scalar.divsi v56 c16_i32_42
  let c1_i32_48 : BitVec 32 := 1#32
  let v109 : BitVec 32 := Scalar.subi v94 c1_i32_48
  let v110 : BitVec 32 := Scalar.select v108 v109 v94
  let c8_i32_49 : BitVec 32 := 8#32
  let v111 : BitVec 32 := Scalar.muli v110 c8_i32_49
  let c8_i32_50 : BitVec 32 := 8#32
  let c0_i32_51 : BitVec 32 := 0#32
  let v112 : BitVec 1 := Scalar.cmpi .eq c8_i32_50 c0_i32_51
  let c1_i32_52 : BitVec 32 := 1#32
  let v113 : BitVec 32 := Scalar.select v112 c1_i32_52 c8_i32_50
  let v114 : BitVec 32 := Scalar.remsi v56 v113
  let c0_i32_54 : BitVec 32 := 0#32
  let v116 : BitVec 1 := Scalar.cmpi .slt v114 c0_i32_54
  let c0_i32_55 : BitVec 32 := 0#32
  let v117 : BitVec 1 := Scalar.cmpi .slt v113 c0_i32_55
  let v118 : BitVec 1 := Scalar.xori v116 v117
  let c0_i32_53 : BitVec 32 := 0#32
  let v115 : BitVec 1 := Scalar.cmpi .ne v114 c0_i32_53
  let v119 : BitVec 1 := Scalar.andi v118 v115
  let v120 : BitVec 32 := Scalar.addi v114 v113
  let v121 : BitVec 32 := Scalar.select v119 v120 v114
  let v122 : BitVec 32 := Scalar.addi v111 v121
  let c6144_i32 : BitVec 32 := 6144#32
  let v123 : BitVec 32 := Scalar.muli v122 c6144_i32
  let v124 : BitVec 32 := v123
  ![v124.toNat]
def k0_cond7 (i : grid0.Coords) : BitVec 1 :=
  let arg1 : BitVec 32 := BitVec.ofNat 32 (i 1).val
  let c8_i32_57 : BitVec 32 := 8#32
  let v128 : BitVec 1 := Scalar.cmpi .slt arg1 c8_i32_57
  let v129 : BitVec 32 := Scalar.extui v128
  let c0_i32_58 : BitVec 32 := 0#32
  let v130 : BitVec 1 := Scalar.cmpi .ne v129 c0_i32_58
  v130

@[reducible] def k0_t5_loop : Scf.Loop 32 :=
  let c0_i32_61 : BitVec 32 := 0#32
  let c2048_i32 : BitVec 32 := 2048#32
  let v134 : BitVec 32 := Scalar.addi c0_i32_61 c2048_i32
  let c1_i32_62 : BitVec 32 := 1#32
  ⟨c0_i32_61, v134, c1_i32_62⟩
def k0_off171 (k0_t5 : Fin k0_t5_loop.trips) : Fin 2 → Nat :=
  let c0_i32_61 : BitVec 32 := 0#32
  let c1_i32_62 : BitVec 32 := 1#32
  let arg24 : BitVec 32 := Scf.iv c0_i32_61 c1_i32_62 k0_t5
  let v135 : Index := Scalar.indexCast arg24
  let c0 : Index := 0#32
  ![v135.toNat, 0]
def k0_off172 (k0_t5 : Fin k0_t5_loop.trips) : Fin 1 → Nat :=
  let c0_i32_64 : BitVec 32 := 0#32
  let c0_i32_61 : BitVec 32 := 0#32
  let c1_i32_62 : BitVec 32 := 1#32
  let arg24 : BitVec 32 := Scf.iv c0_i32_61 c1_i32_62 k0_t5
  let v137 : BitVec 32 := Scalar.addi c0_i32_64 arg24
  let v138 : Index := Scalar.indexCast v137
  ![v138.toNat]
def k0_off173 (v139 : BitVec 32) : Fin 2 → Nat :=
  let v140 : Index := Scalar.indexCast v139
  let c0_65 : Index := 0#32
  ![v140.toNat, 0]

def k0_chk82 (i : grid0.Coords) (v139 : BitVec 32) : Prop :=
  (∀ (k0_h4 : k0_cond4 i = 1#1), ∀ (k0_h7 : k0_cond7 i = 1#1), ∀ a, (k0_off173 v139) a + S1x128.size a ≤ S50432x128.size a)
theorem k0_off173_inb : ∀ (i : grid0.Coords) (v139 : BitVec 32) (k0_hw82 : k0_chk82 i v139), ∀ (k0_h4 : k0_cond4 i = 1#1), ∀ (k0_h7 : k0_cond7 i = 1#1), ∀ a, (k0_off173 v139) a + S1x128.size a ≤ S50432x128.size a := fun i v139 k0_hw82 k0_h4 k0_h7 => k0_hw82 k0_h4 k0_h7

def k0_off174 (k0_t5 : Fin k0_t5_loop.trips) : Fin 1 → Nat :=
  let c2048_i32_66 : BitVec 32 := 2048#32
  let c0_i32_61 : BitVec 32 := 0#32
  let c1_i32_62 : BitVec 32 := 1#32
  let arg24 : BitVec 32 := Scf.iv c0_i32_61 c1_i32_62 k0_t5
  let v144 : BitVec 32 := Scalar.addi c2048_i32_66 arg24
  let v145 : Index := Scalar.indexCast v144
  ![v145.toNat]
def k0_off175 (v146 : BitVec 32) : Fin 2 → Nat :=
  let v147 : Index := Scalar.indexCast v146
  let c0_67 : Index := 0#32
  ![v147.toNat, 0]

def k0_chk83 (i : grid0.Coords) (v146 : BitVec 32) : Prop :=
  (∀ (k0_h4 : k0_cond4 i = 1#1), ∀ (k0_h7 : k0_cond7 i = 1#1), ∀ a, (k0_off175 v146) a + S1x128.size a ≤ S50432x128.size a)
theorem k0_off175_inb : ∀ (i : grid0.Coords) (v146 : BitVec 32) (k0_hw83 : k0_chk83 i v146), ∀ (k0_h4 : k0_cond4 i = 1#1), ∀ (k0_h7 : k0_cond7 i = 1#1), ∀ a, (k0_off175 v146) a + S1x128.size a ≤ S50432x128.size a := fun i v146 k0_hw83 k0_h4 k0_h7 => k0_hw83 k0_h4 k0_h7

def k0_off176 (k0_t5 : Fin k0_t5_loop.trips) : Fin 1 → Nat :=
  let c4096_i32 : BitVec 32 := 4096#32
  let c0_i32_61 : BitVec 32 := 0#32
  let c1_i32_62 : BitVec 32 := 1#32
  let arg24 : BitVec 32 := Scf.iv c0_i32_61 c1_i32_62 k0_t5
  let v151 : BitVec 32 := Scalar.addi c4096_i32 arg24
  let v152 : Index := Scalar.indexCast v151
  ![v152.toNat]
def k0_off177 (v153 : BitVec 32) : Fin 2 → Nat :=
  let v154 : Index := Scalar.indexCast v153
  let c0_68 : Index := 0#32
  ![v154.toNat, 0]

def k0_chk84 (i : grid0.Coords) (v153 : BitVec 32) : Prop :=
  (∀ (k0_h4 : k0_cond4 i = 1#1), ∀ (k0_h7 : k0_cond7 i = 1#1), ∀ a, (k0_off177 v153) a + S1x128.size a ≤ S50432x128.size a)
theorem k0_off177_inb : ∀ (i : grid0.Coords) (v153 : BitVec 32) (k0_hw84 : k0_chk84 i v153), ∀ (k0_h4 : k0_cond4 i = 1#1), ∀ (k0_h7 : k0_cond7 i = 1#1), ∀ a, (k0_off177 v153) a + S1x128.size a ≤ S50432x128.size a := fun i v153 k0_hw84 k0_h4 k0_h7 => k0_hw84 k0_h4 k0_h7

def k0_cond8 (i : grid0.Coords) : BitVec 1 :=
  let arg1 : BitVec 32 := BitVec.ofNat 32 (i 1).val
  let c8_i32_59 : BitVec 32 := 8#32
  let v131 : BitVec 1 := Scalar.cmpi .sgt arg1 c8_i32_59
  let v132 : BitVec 32 := Scalar.extui v131
  let c0_i32_60 : BitVec 32 := 0#32
  let v133 : BitVec 1 := Scalar.cmpi .ne v132 c0_i32_60
  v133

def k0_mult86 (i : grid0.Coords) : BitVec 32 :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let c0_i32_62 : BitVec 32 := 0#32
  let v136 : BitVec 32 := Scalar.addi v135 c0_i32_62
  let c1_i32_63 : BitVec 32 := 1#32
  let v137 : BitVec 32 := Scalar.subi v136 c1_i32_63
  let c0_i32_64 : BitVec 32 := 0#32
  let v138 : BitVec 32 := Scalar.maxsi v137 c0_i32_64
  let c256_i32_65 : BitVec 32 := 256#32
  let v139 : BitVec 32 := Scalar.muli v138 c256_i32_65
  v139
def k0_off178 (i : grid0.Coords) (c0_i32_62 : BitVec 32) : Fin 2 → Nat :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let v136 : BitVec 32 := Scalar.addi v135 c0_i32_62
  let c1_i32_63 : BitVec 32 := 1#32
  let v137 : BitVec 32 := Scalar.subi v136 c1_i32_63
  let c0_i32_64 : BitVec 32 := 0#32
  let v138 : BitVec 32 := Scalar.maxsi v137 c0_i32_64
  let c256_i32_65 : BitVec 32 := 256#32
  let v139 : BitVec 32 := Scalar.muli v138 c256_i32_65
  let v140 : BitVec 32 := v139
  let v147 : Index := Scalar.indexCast v140
  let c0_68 : Index := 0#32
  ![v147.toNat, 0]
@[reducible] def k0_t6_loop : Scf.Loop 32 :=
  let c0_i32_91 : BitVec 32 := 0#32
  let c256_i32_92 : BitVec 32 := 256#32
  let v201 : BitVec 32 := Scalar.addi c0_i32_91 c256_i32_92
  let c1_i32_93 : BitVec 32 := 1#32
  ⟨c0_i32_91, v201, c1_i32_93⟩
def k0_off179 (k0_t6 : Fin k0_t6_loop.trips) : Fin 1 → Nat :=
  let c0_i32_477 : BitVec 32 := 0#32
  let c0_i32_91 : BitVec 32 := 0#32
  let c1_i32_93 : BitVec 32 := 1#32
  let arg24 : BitVec 32 := Scf.iv c0_i32_91 c1_i32_93 k0_t6
  let v1191 : BitVec 32 := Scalar.addi c0_i32_477 arg24
  let v1192 : Index := Scalar.indexCast v1191
  ![v1192.toNat]
def k0_off180 (v1193 : BitVec 32) : Fin 2 → Nat :=
  let v1194 : Index := Scalar.indexCast v1193
  let c0_478 : Index := 0#32
  ![v1194.toNat, 0]

def k0_chk85 (i : grid0.Coords) (v1193 : BitVec 32) : Prop :=
  (∀ (k0_h4 : k0_cond4 i = 1#1), ∀ (k0_h8 : k0_cond8 i = 1#1), ∀ a, (k0_off180 v1193) a + S1x128.size a ≤ S50432x128.size a)
theorem k0_off180_inb : ∀ (i : grid0.Coords) (v1193 : BitVec 32) (k0_hw85 : k0_chk85 i v1193), ∀ (k0_h4 : k0_cond4 i = 1#1), ∀ (k0_h8 : k0_cond8 i = 1#1), ∀ a, (k0_off180 v1193) a + S1x128.size a ≤ S50432x128.size a := fun i v1193 k0_hw85 k0_h4 k0_h8 => k0_hw85 k0_h4 k0_h8

def k0_off181 (k0_t6 : Fin k0_t6_loop.trips) : Fin 3 → Nat :=
  let c0_479 : Index := 0#32
  let c0_i32_91 : BitVec 32 := 0#32
  let c1_i32_93 : BitVec 32 := 1#32
  let arg24 : BitVec 32 := Scf.iv c0_i32_91 c1_i32_93 k0_t6
  let v1196 : Index := Scalar.indexCast arg24
  let c0_480 : Index := 0#32
  ![0, v1196.toNat, 0]
def k0_off182 (k0_t6 : Fin k0_t6_loop.trips) : Fin 1 → Nat :=
  let c2048_i32 : BitVec 32 := 2048#32
  let c0_i32_91 : BitVec 32 := 0#32
  let c1_i32_93 : BitVec 32 := 1#32
  let arg24 : BitVec 32 := Scf.iv c0_i32_91 c1_i32_93 k0_t6
  let v1200 : BitVec 32 := Scalar.addi c2048_i32 arg24
  let v1201 : Index := Scalar.indexCast v1200
  ![v1201.toNat]
def k0_off183 (v1202 : BitVec 32) : Fin 2 → Nat :=
  let v1203 : Index := Scalar.indexCast v1202
  let c0_481 : Index := 0#32
  ![v1203.toNat, 0]

def k0_chk86 (i : grid0.Coords) (v1202 : BitVec 32) : Prop :=
  (∀ (k0_h4 : k0_cond4 i = 1#1), ∀ (k0_h8 : k0_cond8 i = 1#1), ∀ a, (k0_off183 v1202) a + S1x128.size a ≤ S50432x128.size a)
theorem k0_off183_inb : ∀ (i : grid0.Coords) (v1202 : BitVec 32) (k0_hw86 : k0_chk86 i v1202), ∀ (k0_h4 : k0_cond4 i = 1#1), ∀ (k0_h8 : k0_cond8 i = 1#1), ∀ a, (k0_off183 v1202) a + S1x128.size a ≤ S50432x128.size a := fun i v1202 k0_hw86 k0_h4 k0_h8 => k0_hw86 k0_h4 k0_h8

def k0_off184 (k0_t6 : Fin k0_t6_loop.trips) : Fin 3 → Nat :=
  let c1_482 : Index := 1#32
  let c0_i32_91 : BitVec 32 := 0#32
  let c1_i32_93 : BitVec 32 := 1#32
  let arg24 : BitVec 32 := Scf.iv c0_i32_91 c1_i32_93 k0_t6
  let v1205 : Index := Scalar.indexCast arg24
  let c0_483 : Index := 0#32
  ![1, v1205.toNat, 0]
def k0_off185 (k0_t6 : Fin k0_t6_loop.trips) : Fin 1 → Nat :=
  let c4096_i32 : BitVec 32 := 4096#32
  let c0_i32_91 : BitVec 32 := 0#32
  let c1_i32_93 : BitVec 32 := 1#32
  let arg24 : BitVec 32 := Scf.iv c0_i32_91 c1_i32_93 k0_t6
  let v1209 : BitVec 32 := Scalar.addi c4096_i32 arg24
  let v1210 : Index := Scalar.indexCast v1209
  ![v1210.toNat]
def k0_off186 (v1211 : BitVec 32) : Fin 2 → Nat :=
  let v1212 : Index := Scalar.indexCast v1211
  let c0_484 : Index := 0#32
  ![v1212.toNat, 0]

def k0_chk87 (i : grid0.Coords) (v1211 : BitVec 32) : Prop :=
  (∀ (k0_h4 : k0_cond4 i = 1#1), ∀ (k0_h8 : k0_cond8 i = 1#1), ∀ a, (k0_off186 v1211) a + S1x128.size a ≤ S50432x128.size a)
theorem k0_off186_inb : ∀ (i : grid0.Coords) (v1211 : BitVec 32) (k0_hw87 : k0_chk87 i v1211), ∀ (k0_h4 : k0_cond4 i = 1#1), ∀ (k0_h8 : k0_cond8 i = 1#1), ∀ a, (k0_off186 v1211) a + S1x128.size a ≤ S50432x128.size a := fun i v1211 k0_hw87 k0_h4 k0_h8 => k0_hw87 k0_h4 k0_h8

def k0_off187 (k0_t6 : Fin k0_t6_loop.trips) : Fin 3 → Nat :=
  let c2_485 : Index := 2#32
  let c0_i32_91 : BitVec 32 := 0#32
  let c1_i32_93 : BitVec 32 := 1#32
  let arg24 : BitVec 32 := Scf.iv c0_i32_91 c1_i32_93 k0_t6
  let v1214 : Index := Scalar.indexCast arg24
  let c0_486 : Index := 0#32
  ![2, v1214.toNat, 0]
def k0_mult87 (i : grid0.Coords) : BitVec 32 :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let c0_i32_62 : BitVec 32 := 0#32
  let v136 : BitVec 32 := Scalar.addi v135 c0_i32_62
  let c256_i32_110 : BitVec 32 := 256#32
  let v257 : BitVec 32 := Scalar.muli v136 c256_i32_110
  v257
def k0_off188 (i : grid0.Coords) (c0_i32_62 : BitVec 32) : Fin 2 → Nat :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let v136 : BitVec 32 := Scalar.addi v135 c0_i32_62
  let c256_i32_110 : BitVec 32 := 256#32
  let v257 : BitVec 32 := Scalar.muli v136 c256_i32_110
  let v258 : BitVec 32 := v257
  let v264 : Index := Scalar.indexCast v258
  let c0_113 : Index := 0#32
  ![v264.toNat, 0]
def k0_mult88 (i : grid0.Coords) : BitVec 32 :=
  let arg1 : BitVec 32 := BitVec.ofNat 32 (i 1).val
  let c9_i32 : BitVec 32 := 9#32
  let v134 : BitVec 32 := Scalar.subi arg1 c9_i32
  let c8_i32_117 : BitVec 32 := 8#32
  let v274 : BitVec 32 := Scalar.muli v134 c8_i32_117
  let c1_i32_118 : BitVec 32 := 1#32
  let v275 : BitVec 32 := Scalar.addi v274 c1_i32_118
  let c1_i32_119 : BitVec 32 := 1#32
  let v276 : BitVec 32 := Scalar.subi v275 c1_i32_119
  let c0_i32_120 : BitVec 32 := 0#32
  let v277 : BitVec 32 := Scalar.maxsi v276 c0_i32_120
  let c256_i32_121 : BitVec 32 := 256#32
  let v278 : BitVec 32 := Scalar.muli v277 c256_i32_121
  v278
@[reducible] def k0_t7_loop : Scf.Loop 32 :=
  let c256_i32_142 : BitVec 32 := 256#32
  let c256_i32_143 : BitVec 32 := 256#32
  let v332 : BitVec 32 := Scalar.addi c256_i32_142 c256_i32_143
  let c1_i32_144 : BitVec 32 := 1#32
  ⟨c256_i32_142, v332, c1_i32_144⟩
def k0_off189 (k0_t7 : Fin k0_t7_loop.trips) : Fin 1 → Nat :=
  let c0_i32_477 : BitVec 32 := 0#32
  let c256_i32_142 : BitVec 32 := 256#32
  let c1_i32_144 : BitVec 32 := 1#32
  let arg24 : BitVec 32 := Scf.iv c256_i32_142 c1_i32_144 k0_t7
  let v1191 : BitVec 32 := Scalar.addi c0_i32_477 arg24
  let v1192 : Index := Scalar.indexCast v1191
  ![v1192.toNat]
def k0_off190 (v1193 : BitVec 32) : Fin 2 → Nat :=
  let v1194 : Index := Scalar.indexCast v1193
  let c0_478 : Index := 0#32
  ![v1194.toNat, 0]

def k0_chk88 (i : grid0.Coords) (v1193 : BitVec 32) : Prop :=
  (∀ (k0_h4 : k0_cond4 i = 1#1), ∀ (k0_h8 : k0_cond8 i = 1#1), ∀ a, (k0_off190 v1193) a + S1x128.size a ≤ S50432x128.size a)
theorem k0_off190_inb : ∀ (i : grid0.Coords) (v1193 : BitVec 32) (k0_hw88 : k0_chk88 i v1193), ∀ (k0_h4 : k0_cond4 i = 1#1), ∀ (k0_h8 : k0_cond8 i = 1#1), ∀ a, (k0_off190 v1193) a + S1x128.size a ≤ S50432x128.size a := fun i v1193 k0_hw88 k0_h4 k0_h8 => k0_hw88 k0_h4 k0_h8

def k0_off191 (k0_t7 : Fin k0_t7_loop.trips) : Fin 3 → Nat :=
  let c0_479 : Index := 0#32
  let c256_i32_142 : BitVec 32 := 256#32
  let c1_i32_144 : BitVec 32 := 1#32
  let arg24 : BitVec 32 := Scf.iv c256_i32_142 c1_i32_144 k0_t7
  let v1196 : Index := Scalar.indexCast arg24
  let c0_480 : Index := 0#32
  ![0, v1196.toNat, 0]
def k0_off192 (k0_t7 : Fin k0_t7_loop.trips) : Fin 1 → Nat :=
  let c2048_i32 : BitVec 32 := 2048#32
  let c256_i32_142 : BitVec 32 := 256#32
  let c1_i32_144 : BitVec 32 := 1#32
  let arg24 : BitVec 32 := Scf.iv c256_i32_142 c1_i32_144 k0_t7
  let v1200 : BitVec 32 := Scalar.addi c2048_i32 arg24
  let v1201 : Index := Scalar.indexCast v1200
  ![v1201.toNat]
def k0_off193 (v1202 : BitVec 32) : Fin 2 → Nat :=
  let v1203 : Index := Scalar.indexCast v1202
  let c0_481 : Index := 0#32
  ![v1203.toNat, 0]

def k0_chk89 (i : grid0.Coords) (v1202 : BitVec 32) : Prop :=
  (∀ (k0_h4 : k0_cond4 i = 1#1), ∀ (k0_h8 : k0_cond8 i = 1#1), ∀ a, (k0_off193 v1202) a + S1x128.size a ≤ S50432x128.size a)
theorem k0_off193_inb : ∀ (i : grid0.Coords) (v1202 : BitVec 32) (k0_hw89 : k0_chk89 i v1202), ∀ (k0_h4 : k0_cond4 i = 1#1), ∀ (k0_h8 : k0_cond8 i = 1#1), ∀ a, (k0_off193 v1202) a + S1x128.size a ≤ S50432x128.size a := fun i v1202 k0_hw89 k0_h4 k0_h8 => k0_hw89 k0_h4 k0_h8

def k0_off194 (k0_t7 : Fin k0_t7_loop.trips) : Fin 3 → Nat :=
  let c1_482 : Index := 1#32
  let c256_i32_142 : BitVec 32 := 256#32
  let c1_i32_144 : BitVec 32 := 1#32
  let arg24 : BitVec 32 := Scf.iv c256_i32_142 c1_i32_144 k0_t7
  let v1205 : Index := Scalar.indexCast arg24
  let c0_483 : Index := 0#32
  ![1, v1205.toNat, 0]
def k0_off195 (k0_t7 : Fin k0_t7_loop.trips) : Fin 1 → Nat :=
  let c4096_i32 : BitVec 32 := 4096#32
  let c256_i32_142 : BitVec 32 := 256#32
  let c1_i32_144 : BitVec 32 := 1#32
  let arg24 : BitVec 32 := Scf.iv c256_i32_142 c1_i32_144 k0_t7
  let v1209 : BitVec 32 := Scalar.addi c4096_i32 arg24
  let v1210 : Index := Scalar.indexCast v1209
  ![v1210.toNat]
def k0_off196 (v1211 : BitVec 32) : Fin 2 → Nat :=
  let v1212 : Index := Scalar.indexCast v1211
  let c0_484 : Index := 0#32
  ![v1212.toNat, 0]

def k0_chk90 (i : grid0.Coords) (v1211 : BitVec 32) : Prop :=
  (∀ (k0_h4 : k0_cond4 i = 1#1), ∀ (k0_h8 : k0_cond8 i = 1#1), ∀ a, (k0_off196 v1211) a + S1x128.size a ≤ S50432x128.size a)
theorem k0_off196_inb : ∀ (i : grid0.Coords) (v1211 : BitVec 32) (k0_hw90 : k0_chk90 i v1211), ∀ (k0_h4 : k0_cond4 i = 1#1), ∀ (k0_h8 : k0_cond8 i = 1#1), ∀ a, (k0_off196 v1211) a + S1x128.size a ≤ S50432x128.size a := fun i v1211 k0_hw90 k0_h4 k0_h8 => k0_hw90 k0_h4 k0_h8

def k0_off197 (k0_t7 : Fin k0_t7_loop.trips) : Fin 3 → Nat :=
  let c2_485 : Index := 2#32
  let c256_i32_142 : BitVec 32 := 256#32
  let c1_i32_144 : BitVec 32 := 1#32
  let arg24 : BitVec 32 := Scf.iv c256_i32_142 c1_i32_144 k0_t7
  let v1214 : Index := Scalar.indexCast arg24
  let c0_486 : Index := 0#32
  ![2, v1214.toNat, 0]
def k0_mult89 (i : grid0.Coords) : BitVec 32 :=
  let arg1 : BitVec 32 := BitVec.ofNat 32 (i 1).val
  let c9_i32 : BitVec 32 := 9#32
  let v134 : BitVec 32 := Scalar.subi arg1 c9_i32
  let c8_i32_117 : BitVec 32 := 8#32
  let v274 : BitVec 32 := Scalar.muli v134 c8_i32_117
  let c1_i32_118 : BitVec 32 := 1#32
  let v275 : BitVec 32 := Scalar.addi v274 c1_i32_118
  let c256_i32_163 : BitVec 32 := 256#32
  let v388 : BitVec 32 := Scalar.muli v275 c256_i32_163
  v388
def k0_mult90 (i : grid0.Coords) : BitVec 32 :=
  let arg1 : BitVec 32 := BitVec.ofNat 32 (i 1).val
  let c9_i32 : BitVec 32 := 9#32
  let v134 : BitVec 32 := Scalar.subi arg1 c9_i32
  let c8_i32_170 : BitVec 32 := 8#32
  let v405 : BitVec 32 := Scalar.muli v134 c8_i32_170
  let c2_i32_171 : BitVec 32 := 2#32
  let v406 : BitVec 32 := Scalar.addi v405 c2_i32_171
  let c1_i32_172 : BitVec 32 := 1#32
  let v407 : BitVec 32 := Scalar.subi v406 c1_i32_172
  let c0_i32_173 : BitVec 32 := 0#32
  let v408 : BitVec 32 := Scalar.maxsi v407 c0_i32_173
  let c256_i32_174 : BitVec 32 := 256#32
  let v409 : BitVec 32 := Scalar.muli v408 c256_i32_174
  v409
@[reducible] def k0_t8_loop : Scf.Loop 32 :=
  let c512_i32 : BitVec 32 := 512#32
  let c256_i32_195 : BitVec 32 := 256#32
  let v463 : BitVec 32 := Scalar.addi c512_i32 c256_i32_195
  let c1_i32_196 : BitVec 32 := 1#32
  ⟨c512_i32, v463, c1_i32_196⟩
def k0_off198 (k0_t8 : Fin k0_t8_loop.trips) : Fin 1 → Nat :=
  let c0_i32_477 : BitVec 32 := 0#32
  let c512_i32 : BitVec 32 := 512#32
  let c1_i32_196 : BitVec 32 := 1#32
  let arg24 : BitVec 32 := Scf.iv c512_i32 c1_i32_196 k0_t8
  let v1191 : BitVec 32 := Scalar.addi c0_i32_477 arg24
  let v1192 : Index := Scalar.indexCast v1191
  ![v1192.toNat]
def k0_off199 (v1193 : BitVec 32) : Fin 2 → Nat :=
  let v1194 : Index := Scalar.indexCast v1193
  let c0_478 : Index := 0#32
  ![v1194.toNat, 0]

def k0_chk91 (i : grid0.Coords) (v1193 : BitVec 32) : Prop :=
  (∀ (k0_h4 : k0_cond4 i = 1#1), ∀ (k0_h8 : k0_cond8 i = 1#1), ∀ a, (k0_off199 v1193) a + S1x128.size a ≤ S50432x128.size a)
theorem k0_off199_inb : ∀ (i : grid0.Coords) (v1193 : BitVec 32) (k0_hw91 : k0_chk91 i v1193), ∀ (k0_h4 : k0_cond4 i = 1#1), ∀ (k0_h8 : k0_cond8 i = 1#1), ∀ a, (k0_off199 v1193) a + S1x128.size a ≤ S50432x128.size a := fun i v1193 k0_hw91 k0_h4 k0_h8 => k0_hw91 k0_h4 k0_h8

def k0_off200 (k0_t8 : Fin k0_t8_loop.trips) : Fin 3 → Nat :=
  let c0_479 : Index := 0#32
  let c512_i32 : BitVec 32 := 512#32
  let c1_i32_196 : BitVec 32 := 1#32
  let arg24 : BitVec 32 := Scf.iv c512_i32 c1_i32_196 k0_t8
  let v1196 : Index := Scalar.indexCast arg24
  let c0_480 : Index := 0#32
  ![0, v1196.toNat, 0]
def k0_off201 (k0_t8 : Fin k0_t8_loop.trips) : Fin 1 → Nat :=
  let c2048_i32 : BitVec 32 := 2048#32
  let c512_i32 : BitVec 32 := 512#32
  let c1_i32_196 : BitVec 32 := 1#32
  let arg24 : BitVec 32 := Scf.iv c512_i32 c1_i32_196 k0_t8
  let v1200 : BitVec 32 := Scalar.addi c2048_i32 arg24
  let v1201 : Index := Scalar.indexCast v1200
  ![v1201.toNat]
def k0_off202 (v1202 : BitVec 32) : Fin 2 → Nat :=
  let v1203 : Index := Scalar.indexCast v1202
  let c0_481 : Index := 0#32
  ![v1203.toNat, 0]

def k0_chk92 (i : grid0.Coords) (v1202 : BitVec 32) : Prop :=
  (∀ (k0_h4 : k0_cond4 i = 1#1), ∀ (k0_h8 : k0_cond8 i = 1#1), ∀ a, (k0_off202 v1202) a + S1x128.size a ≤ S50432x128.size a)
theorem k0_off202_inb : ∀ (i : grid0.Coords) (v1202 : BitVec 32) (k0_hw92 : k0_chk92 i v1202), ∀ (k0_h4 : k0_cond4 i = 1#1), ∀ (k0_h8 : k0_cond8 i = 1#1), ∀ a, (k0_off202 v1202) a + S1x128.size a ≤ S50432x128.size a := fun i v1202 k0_hw92 k0_h4 k0_h8 => k0_hw92 k0_h4 k0_h8

def k0_off203 (k0_t8 : Fin k0_t8_loop.trips) : Fin 3 → Nat :=
  let c1_482 : Index := 1#32
  let c512_i32 : BitVec 32 := 512#32
  let c1_i32_196 : BitVec 32 := 1#32
  let arg24 : BitVec 32 := Scf.iv c512_i32 c1_i32_196 k0_t8
  let v1205 : Index := Scalar.indexCast arg24
  let c0_483 : Index := 0#32
  ![1, v1205.toNat, 0]
def k0_off204 (k0_t8 : Fin k0_t8_loop.trips) : Fin 1 → Nat :=
  let c4096_i32 : BitVec 32 := 4096#32
  let c512_i32 : BitVec 32 := 512#32
  let c1_i32_196 : BitVec 32 := 1#32
  let arg24 : BitVec 32 := Scf.iv c512_i32 c1_i32_196 k0_t8
  let v1209 : BitVec 32 := Scalar.addi c4096_i32 arg24
  let v1210 : Index := Scalar.indexCast v1209
  ![v1210.toNat]
def k0_off205 (v1211 : BitVec 32) : Fin 2 → Nat :=
  let v1212 : Index := Scalar.indexCast v1211
  let c0_484 : Index := 0#32
  ![v1212.toNat, 0]

def k0_chk93 (i : grid0.Coords) (v1211 : BitVec 32) : Prop :=
  (∀ (k0_h4 : k0_cond4 i = 1#1), ∀ (k0_h8 : k0_cond8 i = 1#1), ∀ a, (k0_off205 v1211) a + S1x128.size a ≤ S50432x128.size a)
theorem k0_off205_inb : ∀ (i : grid0.Coords) (v1211 : BitVec 32) (k0_hw93 : k0_chk93 i v1211), ∀ (k0_h4 : k0_cond4 i = 1#1), ∀ (k0_h8 : k0_cond8 i = 1#1), ∀ a, (k0_off205 v1211) a + S1x128.size a ≤ S50432x128.size a := fun i v1211 k0_hw93 k0_h4 k0_h8 => k0_hw93 k0_h4 k0_h8

def k0_off206 (k0_t8 : Fin k0_t8_loop.trips) : Fin 3 → Nat :=
  let c2_485 : Index := 2#32
  let c512_i32 : BitVec 32 := 512#32
  let c1_i32_196 : BitVec 32 := 1#32
  let arg24 : BitVec 32 := Scf.iv c512_i32 c1_i32_196 k0_t8
  let v1214 : Index := Scalar.indexCast arg24
  let c0_486 : Index := 0#32
  ![2, v1214.toNat, 0]
def k0_mult91 (i : grid0.Coords) : BitVec 32 :=
  let arg1 : BitVec 32 := BitVec.ofNat 32 (i 1).val
  let c9_i32 : BitVec 32 := 9#32
  let v134 : BitVec 32 := Scalar.subi arg1 c9_i32
  let c8_i32_170 : BitVec 32 := 8#32
  let v405 : BitVec 32 := Scalar.muli v134 c8_i32_170
  let c2_i32_171 : BitVec 32 := 2#32
  let v406 : BitVec 32 := Scalar.addi v405 c2_i32_171
  let c256_i32_215 : BitVec 32 := 256#32
  let v519 : BitVec 32 := Scalar.muli v406 c256_i32_215
  v519
def k0_mult92 (i : grid0.Coords) : BitVec 32 :=
  let arg1 : BitVec 32 := BitVec.ofNat 32 (i 1).val
  let c9_i32 : BitVec 32 := 9#32
  let v134 : BitVec 32 := Scalar.subi arg1 c9_i32
  let c8_i32_222 : BitVec 32 := 8#32
  let v536 : BitVec 32 := Scalar.muli v134 c8_i32_222
  let c3_i32 : BitVec 32 := 3#32
  let v537 : BitVec 32 := Scalar.addi v536 c3_i32
  let c1_i32_223 : BitVec 32 := 1#32
  let v538 : BitVec 32 := Scalar.subi v537 c1_i32_223
  let c0_i32_224 : BitVec 32 := 0#32
  let v539 : BitVec 32 := Scalar.maxsi v538 c0_i32_224
  let c256_i32_225 : BitVec 32 := 256#32
  let v540 : BitVec 32 := Scalar.muli v539 c256_i32_225
  v540
@[reducible] def k0_t9_loop : Scf.Loop 32 :=
  let c768_i32 : BitVec 32 := 768#32
  let c256_i32_246 : BitVec 32 := 256#32
  let v594 : BitVec 32 := Scalar.addi c768_i32 c256_i32_246
  let c1_i32_247 : BitVec 32 := 1#32
  ⟨c768_i32, v594, c1_i32_247⟩
def k0_off207 (k0_t9 : Fin k0_t9_loop.trips) : Fin 1 → Nat :=
  let c0_i32_477 : BitVec 32 := 0#32
  let c768_i32 : BitVec 32 := 768#32
  let c1_i32_247 : BitVec 32 := 1#32
  let arg24 : BitVec 32 := Scf.iv c768_i32 c1_i32_247 k0_t9
  let v1191 : BitVec 32 := Scalar.addi c0_i32_477 arg24
  let v1192 : Index := Scalar.indexCast v1191
  ![v1192.toNat]
def k0_off208 (v1193 : BitVec 32) : Fin 2 → Nat :=
  let v1194 : Index := Scalar.indexCast v1193
  let c0_478 : Index := 0#32
  ![v1194.toNat, 0]

def k0_chk94 (i : grid0.Coords) (v1193 : BitVec 32) : Prop :=
  (∀ (k0_h4 : k0_cond4 i = 1#1), ∀ (k0_h8 : k0_cond8 i = 1#1), ∀ a, (k0_off208 v1193) a + S1x128.size a ≤ S50432x128.size a)
theorem k0_off208_inb : ∀ (i : grid0.Coords) (v1193 : BitVec 32) (k0_hw94 : k0_chk94 i v1193), ∀ (k0_h4 : k0_cond4 i = 1#1), ∀ (k0_h8 : k0_cond8 i = 1#1), ∀ a, (k0_off208 v1193) a + S1x128.size a ≤ S50432x128.size a := fun i v1193 k0_hw94 k0_h4 k0_h8 => k0_hw94 k0_h4 k0_h8

def k0_off209 (k0_t9 : Fin k0_t9_loop.trips) : Fin 3 → Nat :=
  let c0_479 : Index := 0#32
  let c768_i32 : BitVec 32 := 768#32
  let c1_i32_247 : BitVec 32 := 1#32
  let arg24 : BitVec 32 := Scf.iv c768_i32 c1_i32_247 k0_t9
  let v1196 : Index := Scalar.indexCast arg24
  let c0_480 : Index := 0#32
  ![0, v1196.toNat, 0]
def k0_off210 (k0_t9 : Fin k0_t9_loop.trips) : Fin 1 → Nat :=
  let c2048_i32 : BitVec 32 := 2048#32
  let c768_i32 : BitVec 32 := 768#32
  let c1_i32_247 : BitVec 32 := 1#32
  let arg24 : BitVec 32 := Scf.iv c768_i32 c1_i32_247 k0_t9
  let v1200 : BitVec 32 := Scalar.addi c2048_i32 arg24
  let v1201 : Index := Scalar.indexCast v1200
  ![v1201.toNat]
def k0_off211 (v1202 : BitVec 32) : Fin 2 → Nat :=
  let v1203 : Index := Scalar.indexCast v1202
  let c0_481 : Index := 0#32
  ![v1203.toNat, 0]

def k0_chk95 (i : grid0.Coords) (v1202 : BitVec 32) : Prop :=
  (∀ (k0_h4 : k0_cond4 i = 1#1), ∀ (k0_h8 : k0_cond8 i = 1#1), ∀ a, (k0_off211 v1202) a + S1x128.size a ≤ S50432x128.size a)
theorem k0_off211_inb : ∀ (i : grid0.Coords) (v1202 : BitVec 32) (k0_hw95 : k0_chk95 i v1202), ∀ (k0_h4 : k0_cond4 i = 1#1), ∀ (k0_h8 : k0_cond8 i = 1#1), ∀ a, (k0_off211 v1202) a + S1x128.size a ≤ S50432x128.size a := fun i v1202 k0_hw95 k0_h4 k0_h8 => k0_hw95 k0_h4 k0_h8

def k0_off212 (k0_t9 : Fin k0_t9_loop.trips) : Fin 3 → Nat :=
  let c1_482 : Index := 1#32
  let c768_i32 : BitVec 32 := 768#32
  let c1_i32_247 : BitVec 32 := 1#32
  let arg24 : BitVec 32 := Scf.iv c768_i32 c1_i32_247 k0_t9
  let v1205 : Index := Scalar.indexCast arg24
  let c0_483 : Index := 0#32
  ![1, v1205.toNat, 0]
def k0_off213 (k0_t9 : Fin k0_t9_loop.trips) : Fin 1 → Nat :=
  let c4096_i32 : BitVec 32 := 4096#32
  let c768_i32 : BitVec 32 := 768#32
  let c1_i32_247 : BitVec 32 := 1#32
  let arg24 : BitVec 32 := Scf.iv c768_i32 c1_i32_247 k0_t9
  let v1209 : BitVec 32 := Scalar.addi c4096_i32 arg24
  let v1210 : Index := Scalar.indexCast v1209
  ![v1210.toNat]
def k0_off214 (v1211 : BitVec 32) : Fin 2 → Nat :=
  let v1212 : Index := Scalar.indexCast v1211
  let c0_484 : Index := 0#32
  ![v1212.toNat, 0]

def k0_chk96 (i : grid0.Coords) (v1211 : BitVec 32) : Prop :=
  (∀ (k0_h4 : k0_cond4 i = 1#1), ∀ (k0_h8 : k0_cond8 i = 1#1), ∀ a, (k0_off214 v1211) a + S1x128.size a ≤ S50432x128.size a)
theorem k0_off214_inb : ∀ (i : grid0.Coords) (v1211 : BitVec 32) (k0_hw96 : k0_chk96 i v1211), ∀ (k0_h4 : k0_cond4 i = 1#1), ∀ (k0_h8 : k0_cond8 i = 1#1), ∀ a, (k0_off214 v1211) a + S1x128.size a ≤ S50432x128.size a := fun i v1211 k0_hw96 k0_h4 k0_h8 => k0_hw96 k0_h4 k0_h8

def k0_off215 (k0_t9 : Fin k0_t9_loop.trips) : Fin 3 → Nat :=
  let c2_485 : Index := 2#32
  let c768_i32 : BitVec 32 := 768#32
  let c1_i32_247 : BitVec 32 := 1#32
  let arg24 : BitVec 32 := Scf.iv c768_i32 c1_i32_247 k0_t9
  let v1214 : Index := Scalar.indexCast arg24
  let c0_486 : Index := 0#32
  ![2, v1214.toNat, 0]
def k0_mult93 (i : grid0.Coords) : BitVec 32 :=
  let arg1 : BitVec 32 := BitVec.ofNat 32 (i 1).val
  let c9_i32 : BitVec 32 := 9#32
  let v134 : BitVec 32 := Scalar.subi arg1 c9_i32
  let c8_i32_222 : BitVec 32 := 8#32
  let v536 : BitVec 32 := Scalar.muli v134 c8_i32_222
  let c3_i32 : BitVec 32 := 3#32
  let v537 : BitVec 32 := Scalar.addi v536 c3_i32
  let c256_i32_266 : BitVec 32 := 256#32
  let v650 : BitVec 32 := Scalar.muli v537 c256_i32_266
  v650
def k0_mult94 (i : grid0.Coords) : BitVec 32 :=
  let arg1 : BitVec 32 := BitVec.ofNat 32 (i 1).val
  let c9_i32 : BitVec 32 := 9#32
  let v134 : BitVec 32 := Scalar.subi arg1 c9_i32
  let c8_i32_273 : BitVec 32 := 8#32
  let v667 : BitVec 32 := Scalar.muli v134 c8_i32_273
  let c4_i32 : BitVec 32 := 4#32
  let v668 : BitVec 32 := Scalar.addi v667 c4_i32
  let c1_i32_274 : BitVec 32 := 1#32
  let v669 : BitVec 32 := Scalar.subi v668 c1_i32_274
  let c0_i32_275 : BitVec 32 := 0#32
  let v670 : BitVec 32 := Scalar.maxsi v669 c0_i32_275
  let c256_i32_276 : BitVec 32 := 256#32
  let v671 : BitVec 32 := Scalar.muli v670 c256_i32_276
  v671
@[reducible] def k0_t10_loop : Scf.Loop 32 :=
  let c1024_i32 : BitVec 32 := 1024#32
  let c256_i32_297 : BitVec 32 := 256#32
  let v725 : BitVec 32 := Scalar.addi c1024_i32 c256_i32_297
  let c1_i32_298 : BitVec 32 := 1#32
  ⟨c1024_i32, v725, c1_i32_298⟩
def k0_off216 (k0_t10 : Fin k0_t10_loop.trips) : Fin 1 → Nat :=
  let c0_i32_477 : BitVec 32 := 0#32
  let c1024_i32 : BitVec 32 := 1024#32
  let c1_i32_298 : BitVec 32 := 1#32
  let arg24 : BitVec 32 := Scf.iv c1024_i32 c1_i32_298 k0_t10
  let v1191 : BitVec 32 := Scalar.addi c0_i32_477 arg24
  let v1192 : Index := Scalar.indexCast v1191
  ![v1192.toNat]
def k0_off217 (v1193 : BitVec 32) : Fin 2 → Nat :=
  let v1194 : Index := Scalar.indexCast v1193
  let c0_478 : Index := 0#32
  ![v1194.toNat, 0]

def k0_chk97 (i : grid0.Coords) (v1193 : BitVec 32) : Prop :=
  (∀ (k0_h4 : k0_cond4 i = 1#1), ∀ (k0_h8 : k0_cond8 i = 1#1), ∀ a, (k0_off217 v1193) a + S1x128.size a ≤ S50432x128.size a)
theorem k0_off217_inb : ∀ (i : grid0.Coords) (v1193 : BitVec 32) (k0_hw97 : k0_chk97 i v1193), ∀ (k0_h4 : k0_cond4 i = 1#1), ∀ (k0_h8 : k0_cond8 i = 1#1), ∀ a, (k0_off217 v1193) a + S1x128.size a ≤ S50432x128.size a := fun i v1193 k0_hw97 k0_h4 k0_h8 => k0_hw97 k0_h4 k0_h8

def k0_off218 (k0_t10 : Fin k0_t10_loop.trips) : Fin 3 → Nat :=
  let c0_479 : Index := 0#32
  let c1024_i32 : BitVec 32 := 1024#32
  let c1_i32_298 : BitVec 32 := 1#32
  let arg24 : BitVec 32 := Scf.iv c1024_i32 c1_i32_298 k0_t10
  let v1196 : Index := Scalar.indexCast arg24
  let c0_480 : Index := 0#32
  ![0, v1196.toNat, 0]
def k0_off219 (k0_t10 : Fin k0_t10_loop.trips) : Fin 1 → Nat :=
  let c2048_i32 : BitVec 32 := 2048#32
  let c1024_i32 : BitVec 32 := 1024#32
  let c1_i32_298 : BitVec 32 := 1#32
  let arg24 : BitVec 32 := Scf.iv c1024_i32 c1_i32_298 k0_t10
  let v1200 : BitVec 32 := Scalar.addi c2048_i32 arg24
  let v1201 : Index := Scalar.indexCast v1200
  ![v1201.toNat]
def k0_off220 (v1202 : BitVec 32) : Fin 2 → Nat :=
  let v1203 : Index := Scalar.indexCast v1202
  let c0_481 : Index := 0#32
  ![v1203.toNat, 0]

def k0_chk98 (i : grid0.Coords) (v1202 : BitVec 32) : Prop :=
  (∀ (k0_h4 : k0_cond4 i = 1#1), ∀ (k0_h8 : k0_cond8 i = 1#1), ∀ a, (k0_off220 v1202) a + S1x128.size a ≤ S50432x128.size a)
theorem k0_off220_inb : ∀ (i : grid0.Coords) (v1202 : BitVec 32) (k0_hw98 : k0_chk98 i v1202), ∀ (k0_h4 : k0_cond4 i = 1#1), ∀ (k0_h8 : k0_cond8 i = 1#1), ∀ a, (k0_off220 v1202) a + S1x128.size a ≤ S50432x128.size a := fun i v1202 k0_hw98 k0_h4 k0_h8 => k0_hw98 k0_h4 k0_h8

def k0_off221 (k0_t10 : Fin k0_t10_loop.trips) : Fin 3 → Nat :=
  let c1_482 : Index := 1#32
  let c1024_i32 : BitVec 32 := 1024#32
  let c1_i32_298 : BitVec 32 := 1#32
  let arg24 : BitVec 32 := Scf.iv c1024_i32 c1_i32_298 k0_t10
  let v1205 : Index := Scalar.indexCast arg24
  let c0_483 : Index := 0#32
  ![1, v1205.toNat, 0]
def k0_off222 (k0_t10 : Fin k0_t10_loop.trips) : Fin 1 → Nat :=
  let c4096_i32 : BitVec 32 := 4096#32
  let c1024_i32 : BitVec 32 := 1024#32
  let c1_i32_298 : BitVec 32 := 1#32
  let arg24 : BitVec 32 := Scf.iv c1024_i32 c1_i32_298 k0_t10
  let v1209 : BitVec 32 := Scalar.addi c4096_i32 arg24
  let v1210 : Index := Scalar.indexCast v1209
  ![v1210.toNat]
def k0_off223 (v1211 : BitVec 32) : Fin 2 → Nat :=
  let v1212 : Index := Scalar.indexCast v1211
  let c0_484 : Index := 0#32
  ![v1212.toNat, 0]

def k0_chk99 (i : grid0.Coords) (v1211 : BitVec 32) : Prop :=
  (∀ (k0_h4 : k0_cond4 i = 1#1), ∀ (k0_h8 : k0_cond8 i = 1#1), ∀ a, (k0_off223 v1211) a + S1x128.size a ≤ S50432x128.size a)
theorem k0_off223_inb : ∀ (i : grid0.Coords) (v1211 : BitVec 32) (k0_hw99 : k0_chk99 i v1211), ∀ (k0_h4 : k0_cond4 i = 1#1), ∀ (k0_h8 : k0_cond8 i = 1#1), ∀ a, (k0_off223 v1211) a + S1x128.size a ≤ S50432x128.size a := fun i v1211 k0_hw99 k0_h4 k0_h8 => k0_hw99 k0_h4 k0_h8

def k0_off224 (k0_t10 : Fin k0_t10_loop.trips) : Fin 3 → Nat :=
  let c2_485 : Index := 2#32
  let c1024_i32 : BitVec 32 := 1024#32
  let c1_i32_298 : BitVec 32 := 1#32
  let arg24 : BitVec 32 := Scf.iv c1024_i32 c1_i32_298 k0_t10
  let v1214 : Index := Scalar.indexCast arg24
  let c0_486 : Index := 0#32
  ![2, v1214.toNat, 0]
def k0_mult95 (i : grid0.Coords) : BitVec 32 :=
  let arg1 : BitVec 32 := BitVec.ofNat 32 (i 1).val
  let c9_i32 : BitVec 32 := 9#32
  let v134 : BitVec 32 := Scalar.subi arg1 c9_i32
  let c8_i32_273 : BitVec 32 := 8#32
  let v667 : BitVec 32 := Scalar.muli v134 c8_i32_273
  let c4_i32 : BitVec 32 := 4#32
  let v668 : BitVec 32 := Scalar.addi v667 c4_i32
  let c256_i32_317 : BitVec 32 := 256#32
  let v781 : BitVec 32 := Scalar.muli v668 c256_i32_317
  v781
def k0_mult96 (i : grid0.Coords) : BitVec 32 :=
  let arg1 : BitVec 32 := BitVec.ofNat 32 (i 1).val
  let c9_i32 : BitVec 32 := 9#32
  let v134 : BitVec 32 := Scalar.subi arg1 c9_i32
  let c8_i32_324 : BitVec 32 := 8#32
  let v798 : BitVec 32 := Scalar.muli v134 c8_i32_324
  let c5_i32 : BitVec 32 := 5#32
  let v799 : BitVec 32 := Scalar.addi v798 c5_i32
  let c1_i32_325 : BitVec 32 := 1#32
  let v800 : BitVec 32 := Scalar.subi v799 c1_i32_325
  let c0_i32_326 : BitVec 32 := 0#32
  let v801 : BitVec 32 := Scalar.maxsi v800 c0_i32_326
  let c256_i32_327 : BitVec 32 := 256#32
  let v802 : BitVec 32 := Scalar.muli v801 c256_i32_327
  v802
@[reducible] def k0_t11_loop : Scf.Loop 32 :=
  let c1280_i32 : BitVec 32 := 1280#32
  let c256_i32_348 : BitVec 32 := 256#32
  let v856 : BitVec 32 := Scalar.addi c1280_i32 c256_i32_348
  let c1_i32_349 : BitVec 32 := 1#32
  ⟨c1280_i32, v856, c1_i32_349⟩
def k0_off225 (k0_t11 : Fin k0_t11_loop.trips) : Fin 1 → Nat :=
  let c0_i32_477 : BitVec 32 := 0#32
  let c1280_i32 : BitVec 32 := 1280#32
  let c1_i32_349 : BitVec 32 := 1#32
  let arg24 : BitVec 32 := Scf.iv c1280_i32 c1_i32_349 k0_t11
  let v1191 : BitVec 32 := Scalar.addi c0_i32_477 arg24
  let v1192 : Index := Scalar.indexCast v1191
  ![v1192.toNat]
def k0_off226 (v1193 : BitVec 32) : Fin 2 → Nat :=
  let v1194 : Index := Scalar.indexCast v1193
  let c0_478 : Index := 0#32
  ![v1194.toNat, 0]

def k0_chk100 (i : grid0.Coords) (v1193 : BitVec 32) : Prop :=
  (∀ (k0_h4 : k0_cond4 i = 1#1), ∀ (k0_h8 : k0_cond8 i = 1#1), ∀ a, (k0_off226 v1193) a + S1x128.size a ≤ S50432x128.size a)
theorem k0_off226_inb : ∀ (i : grid0.Coords) (v1193 : BitVec 32) (k0_hw100 : k0_chk100 i v1193), ∀ (k0_h4 : k0_cond4 i = 1#1), ∀ (k0_h8 : k0_cond8 i = 1#1), ∀ a, (k0_off226 v1193) a + S1x128.size a ≤ S50432x128.size a := fun i v1193 k0_hw100 k0_h4 k0_h8 => k0_hw100 k0_h4 k0_h8

def k0_off227 (k0_t11 : Fin k0_t11_loop.trips) : Fin 3 → Nat :=
  let c0_479 : Index := 0#32
  let c1280_i32 : BitVec 32 := 1280#32
  let c1_i32_349 : BitVec 32 := 1#32
  let arg24 : BitVec 32 := Scf.iv c1280_i32 c1_i32_349 k0_t11
  let v1196 : Index := Scalar.indexCast arg24
  let c0_480 : Index := 0#32
  ![0, v1196.toNat, 0]
def k0_off228 (k0_t11 : Fin k0_t11_loop.trips) : Fin 1 → Nat :=
  let c2048_i32 : BitVec 32 := 2048#32
  let c1280_i32 : BitVec 32 := 1280#32
  let c1_i32_349 : BitVec 32 := 1#32
  let arg24 : BitVec 32 := Scf.iv c1280_i32 c1_i32_349 k0_t11
  let v1200 : BitVec 32 := Scalar.addi c2048_i32 arg24
  let v1201 : Index := Scalar.indexCast v1200
  ![v1201.toNat]
def k0_off229 (v1202 : BitVec 32) : Fin 2 → Nat :=
  let v1203 : Index := Scalar.indexCast v1202
  let c0_481 : Index := 0#32
  ![v1203.toNat, 0]

def k0_chk101 (i : grid0.Coords) (v1202 : BitVec 32) : Prop :=
  (∀ (k0_h4 : k0_cond4 i = 1#1), ∀ (k0_h8 : k0_cond8 i = 1#1), ∀ a, (k0_off229 v1202) a + S1x128.size a ≤ S50432x128.size a)
theorem k0_off229_inb : ∀ (i : grid0.Coords) (v1202 : BitVec 32) (k0_hw101 : k0_chk101 i v1202), ∀ (k0_h4 : k0_cond4 i = 1#1), ∀ (k0_h8 : k0_cond8 i = 1#1), ∀ a, (k0_off229 v1202) a + S1x128.size a ≤ S50432x128.size a := fun i v1202 k0_hw101 k0_h4 k0_h8 => k0_hw101 k0_h4 k0_h8

def k0_off230 (k0_t11 : Fin k0_t11_loop.trips) : Fin 3 → Nat :=
  let c1_482 : Index := 1#32
  let c1280_i32 : BitVec 32 := 1280#32
  let c1_i32_349 : BitVec 32 := 1#32
  let arg24 : BitVec 32 := Scf.iv c1280_i32 c1_i32_349 k0_t11
  let v1205 : Index := Scalar.indexCast arg24
  let c0_483 : Index := 0#32
  ![1, v1205.toNat, 0]
def k0_off231 (k0_t11 : Fin k0_t11_loop.trips) : Fin 1 → Nat :=
  let c4096_i32 : BitVec 32 := 4096#32
  let c1280_i32 : BitVec 32 := 1280#32
  let c1_i32_349 : BitVec 32 := 1#32
  let arg24 : BitVec 32 := Scf.iv c1280_i32 c1_i32_349 k0_t11
  let v1209 : BitVec 32 := Scalar.addi c4096_i32 arg24
  let v1210 : Index := Scalar.indexCast v1209
  ![v1210.toNat]
def k0_off232 (v1211 : BitVec 32) : Fin 2 → Nat :=
  let v1212 : Index := Scalar.indexCast v1211
  let c0_484 : Index := 0#32
  ![v1212.toNat, 0]

def k0_chk102 (i : grid0.Coords) (v1211 : BitVec 32) : Prop :=
  (∀ (k0_h4 : k0_cond4 i = 1#1), ∀ (k0_h8 : k0_cond8 i = 1#1), ∀ a, (k0_off232 v1211) a + S1x128.size a ≤ S50432x128.size a)
theorem k0_off232_inb : ∀ (i : grid0.Coords) (v1211 : BitVec 32) (k0_hw102 : k0_chk102 i v1211), ∀ (k0_h4 : k0_cond4 i = 1#1), ∀ (k0_h8 : k0_cond8 i = 1#1), ∀ a, (k0_off232 v1211) a + S1x128.size a ≤ S50432x128.size a := fun i v1211 k0_hw102 k0_h4 k0_h8 => k0_hw102 k0_h4 k0_h8

def k0_off233 (k0_t11 : Fin k0_t11_loop.trips) : Fin 3 → Nat :=
  let c2_485 : Index := 2#32
  let c1280_i32 : BitVec 32 := 1280#32
  let c1_i32_349 : BitVec 32 := 1#32
  let arg24 : BitVec 32 := Scf.iv c1280_i32 c1_i32_349 k0_t11
  let v1214 : Index := Scalar.indexCast arg24
  let c0_486 : Index := 0#32
  ![2, v1214.toNat, 0]
def k0_mult97 (i : grid0.Coords) : BitVec 32 :=
  let arg1 : BitVec 32 := BitVec.ofNat 32 (i 1).val
  let c9_i32 : BitVec 32 := 9#32
  let v134 : BitVec 32 := Scalar.subi arg1 c9_i32
  let c8_i32_324 : BitVec 32 := 8#32
  let v798 : BitVec 32 := Scalar.muli v134 c8_i32_324
  let c5_i32 : BitVec 32 := 5#32
  let v799 : BitVec 32 := Scalar.addi v798 c5_i32
  let c256_i32_368 : BitVec 32 := 256#32
  let v912 : BitVec 32 := Scalar.muli v799 c256_i32_368
  v912
def k0_mult98 (i : grid0.Coords) : BitVec 32 :=
  let arg1 : BitVec 32 := BitVec.ofNat 32 (i 1).val
  let c9_i32 : BitVec 32 := 9#32
  let v134 : BitVec 32 := Scalar.subi arg1 c9_i32
  let c8_i32_375 : BitVec 32 := 8#32
  let v929 : BitVec 32 := Scalar.muli v134 c8_i32_375
  let c6_i32 : BitVec 32 := 6#32
  let v930 : BitVec 32 := Scalar.addi v929 c6_i32
  let c1_i32_376 : BitVec 32 := 1#32
  let v931 : BitVec 32 := Scalar.subi v930 c1_i32_376
  let c0_i32_377 : BitVec 32 := 0#32
  let v932 : BitVec 32 := Scalar.maxsi v931 c0_i32_377
  let c256_i32_378 : BitVec 32 := 256#32
  let v933 : BitVec 32 := Scalar.muli v932 c256_i32_378
  v933
@[reducible] def k0_t12_loop : Scf.Loop 32 :=
  let c1536_i32 : BitVec 32 := 1536#32
  let c256_i32_399 : BitVec 32 := 256#32
  let v987 : BitVec 32 := Scalar.addi c1536_i32 c256_i32_399
  let c1_i32_400 : BitVec 32 := 1#32
  ⟨c1536_i32, v987, c1_i32_400⟩
def k0_off234 (k0_t12 : Fin k0_t12_loop.trips) : Fin 1 → Nat :=
  let c0_i32_477 : BitVec 32 := 0#32
  let c1536_i32 : BitVec 32 := 1536#32
  let c1_i32_400 : BitVec 32 := 1#32
  let arg24 : BitVec 32 := Scf.iv c1536_i32 c1_i32_400 k0_t12
  let v1191 : BitVec 32 := Scalar.addi c0_i32_477 arg24
  let v1192 : Index := Scalar.indexCast v1191
  ![v1192.toNat]
def k0_off235 (v1193 : BitVec 32) : Fin 2 → Nat :=
  let v1194 : Index := Scalar.indexCast v1193
  let c0_478 : Index := 0#32
  ![v1194.toNat, 0]

def k0_chk103 (i : grid0.Coords) (v1193 : BitVec 32) : Prop :=
  (∀ (k0_h4 : k0_cond4 i = 1#1), ∀ (k0_h8 : k0_cond8 i = 1#1), ∀ a, (k0_off235 v1193) a + S1x128.size a ≤ S50432x128.size a)
theorem k0_off235_inb : ∀ (i : grid0.Coords) (v1193 : BitVec 32) (k0_hw103 : k0_chk103 i v1193), ∀ (k0_h4 : k0_cond4 i = 1#1), ∀ (k0_h8 : k0_cond8 i = 1#1), ∀ a, (k0_off235 v1193) a + S1x128.size a ≤ S50432x128.size a := fun i v1193 k0_hw103 k0_h4 k0_h8 => k0_hw103 k0_h4 k0_h8

def k0_off236 (k0_t12 : Fin k0_t12_loop.trips) : Fin 3 → Nat :=
  let c0_479 : Index := 0#32
  let c1536_i32 : BitVec 32 := 1536#32
  let c1_i32_400 : BitVec 32 := 1#32
  let arg24 : BitVec 32 := Scf.iv c1536_i32 c1_i32_400 k0_t12
  let v1196 : Index := Scalar.indexCast arg24
  let c0_480 : Index := 0#32
  ![0, v1196.toNat, 0]
def k0_off237 (k0_t12 : Fin k0_t12_loop.trips) : Fin 1 → Nat :=
  let c2048_i32 : BitVec 32 := 2048#32
  let c1536_i32 : BitVec 32 := 1536#32
  let c1_i32_400 : BitVec 32 := 1#32
  let arg24 : BitVec 32 := Scf.iv c1536_i32 c1_i32_400 k0_t12
  let v1200 : BitVec 32 := Scalar.addi c2048_i32 arg24
  let v1201 : Index := Scalar.indexCast v1200
  ![v1201.toNat]
def k0_off238 (v1202 : BitVec 32) : Fin 2 → Nat :=
  let v1203 : Index := Scalar.indexCast v1202
  let c0_481 : Index := 0#32
  ![v1203.toNat, 0]

def k0_chk104 (i : grid0.Coords) (v1202 : BitVec 32) : Prop :=
  (∀ (k0_h4 : k0_cond4 i = 1#1), ∀ (k0_h8 : k0_cond8 i = 1#1), ∀ a, (k0_off238 v1202) a + S1x128.size a ≤ S50432x128.size a)
theorem k0_off238_inb : ∀ (i : grid0.Coords) (v1202 : BitVec 32) (k0_hw104 : k0_chk104 i v1202), ∀ (k0_h4 : k0_cond4 i = 1#1), ∀ (k0_h8 : k0_cond8 i = 1#1), ∀ a, (k0_off238 v1202) a + S1x128.size a ≤ S50432x128.size a := fun i v1202 k0_hw104 k0_h4 k0_h8 => k0_hw104 k0_h4 k0_h8

def k0_off239 (k0_t12 : Fin k0_t12_loop.trips) : Fin 3 → Nat :=
  let c1_482 : Index := 1#32
  let c1536_i32 : BitVec 32 := 1536#32
  let c1_i32_400 : BitVec 32 := 1#32
  let arg24 : BitVec 32 := Scf.iv c1536_i32 c1_i32_400 k0_t12
  let v1205 : Index := Scalar.indexCast arg24
  let c0_483 : Index := 0#32
  ![1, v1205.toNat, 0]
def k0_off240 (k0_t12 : Fin k0_t12_loop.trips) : Fin 1 → Nat :=
  let c4096_i32 : BitVec 32 := 4096#32
  let c1536_i32 : BitVec 32 := 1536#32
  let c1_i32_400 : BitVec 32 := 1#32
  let arg24 : BitVec 32 := Scf.iv c1536_i32 c1_i32_400 k0_t12
  let v1209 : BitVec 32 := Scalar.addi c4096_i32 arg24
  let v1210 : Index := Scalar.indexCast v1209
  ![v1210.toNat]
def k0_off241 (v1211 : BitVec 32) : Fin 2 → Nat :=
  let v1212 : Index := Scalar.indexCast v1211
  let c0_484 : Index := 0#32
  ![v1212.toNat, 0]

def k0_chk105 (i : grid0.Coords) (v1211 : BitVec 32) : Prop :=
  (∀ (k0_h4 : k0_cond4 i = 1#1), ∀ (k0_h8 : k0_cond8 i = 1#1), ∀ a, (k0_off241 v1211) a + S1x128.size a ≤ S50432x128.size a)
theorem k0_off241_inb : ∀ (i : grid0.Coords) (v1211 : BitVec 32) (k0_hw105 : k0_chk105 i v1211), ∀ (k0_h4 : k0_cond4 i = 1#1), ∀ (k0_h8 : k0_cond8 i = 1#1), ∀ a, (k0_off241 v1211) a + S1x128.size a ≤ S50432x128.size a := fun i v1211 k0_hw105 k0_h4 k0_h8 => k0_hw105 k0_h4 k0_h8

def k0_off242 (k0_t12 : Fin k0_t12_loop.trips) : Fin 3 → Nat :=
  let c2_485 : Index := 2#32
  let c1536_i32 : BitVec 32 := 1536#32
  let c1_i32_400 : BitVec 32 := 1#32
  let arg24 : BitVec 32 := Scf.iv c1536_i32 c1_i32_400 k0_t12
  let v1214 : Index := Scalar.indexCast arg24
  let c0_486 : Index := 0#32
  ![2, v1214.toNat, 0]
def k0_mult99 (i : grid0.Coords) : BitVec 32 :=
  let arg1 : BitVec 32 := BitVec.ofNat 32 (i 1).val
  let c9_i32 : BitVec 32 := 9#32
  let v134 : BitVec 32 := Scalar.subi arg1 c9_i32
  let c8_i32_375 : BitVec 32 := 8#32
  let v929 : BitVec 32 := Scalar.muli v134 c8_i32_375
  let c6_i32 : BitVec 32 := 6#32
  let v930 : BitVec 32 := Scalar.addi v929 c6_i32
  let c256_i32_419 : BitVec 32 := 256#32
  let v1043 : BitVec 32 := Scalar.muli v930 c256_i32_419
  v1043
def k0_mult100 (i : grid0.Coords) : BitVec 32 :=
  let arg1 : BitVec 32 := BitVec.ofNat 32 (i 1).val
  let c9_i32 : BitVec 32 := 9#32
  let v134 : BitVec 32 := Scalar.subi arg1 c9_i32
  let c8_i32_426 : BitVec 32 := 8#32
  let v1060 : BitVec 32 := Scalar.muli v134 c8_i32_426
  let c7_i32 : BitVec 32 := 7#32
  let v1061 : BitVec 32 := Scalar.addi v1060 c7_i32
  let c1_i32_427 : BitVec 32 := 1#32
  let v1062 : BitVec 32 := Scalar.subi v1061 c1_i32_427
  let c0_i32_428 : BitVec 32 := 0#32
  let v1063 : BitVec 32 := Scalar.maxsi v1062 c0_i32_428
  let c256_i32_429 : BitVec 32 := 256#32
  let v1064 : BitVec 32 := Scalar.muli v1063 c256_i32_429
  v1064
@[reducible] def k0_t13_loop : Scf.Loop 32 :=
  let c1792_i32 : BitVec 32 := 1792#32
  let c256_i32_450 : BitVec 32 := 256#32
  let v1118 : BitVec 32 := Scalar.addi c1792_i32 c256_i32_450
  let c1_i32_451 : BitVec 32 := 1#32
  ⟨c1792_i32, v1118, c1_i32_451⟩
def k0_off243 (k0_t13 : Fin k0_t13_loop.trips) : Fin 1 → Nat :=
  let c0_i32_477 : BitVec 32 := 0#32
  let c1792_i32 : BitVec 32 := 1792#32
  let c1_i32_451 : BitVec 32 := 1#32
  let arg24 : BitVec 32 := Scf.iv c1792_i32 c1_i32_451 k0_t13
  let v1191 : BitVec 32 := Scalar.addi c0_i32_477 arg24
  let v1192 : Index := Scalar.indexCast v1191
  ![v1192.toNat]
def k0_off244 (v1193 : BitVec 32) : Fin 2 → Nat :=
  let v1194 : Index := Scalar.indexCast v1193
  let c0_478 : Index := 0#32
  ![v1194.toNat, 0]

def k0_chk106 (i : grid0.Coords) (v1193 : BitVec 32) : Prop :=
  (∀ (k0_h4 : k0_cond4 i = 1#1), ∀ (k0_h8 : k0_cond8 i = 1#1), ∀ a, (k0_off244 v1193) a + S1x128.size a ≤ S50432x128.size a)
theorem k0_off244_inb : ∀ (i : grid0.Coords) (v1193 : BitVec 32) (k0_hw106 : k0_chk106 i v1193), ∀ (k0_h4 : k0_cond4 i = 1#1), ∀ (k0_h8 : k0_cond8 i = 1#1), ∀ a, (k0_off244 v1193) a + S1x128.size a ≤ S50432x128.size a := fun i v1193 k0_hw106 k0_h4 k0_h8 => k0_hw106 k0_h4 k0_h8

def k0_off245 (k0_t13 : Fin k0_t13_loop.trips) : Fin 3 → Nat :=
  let c0_479 : Index := 0#32
  let c1792_i32 : BitVec 32 := 1792#32
  let c1_i32_451 : BitVec 32 := 1#32
  let arg24 : BitVec 32 := Scf.iv c1792_i32 c1_i32_451 k0_t13
  let v1196 : Index := Scalar.indexCast arg24
  let c0_480 : Index := 0#32
  ![0, v1196.toNat, 0]
def k0_off246 (k0_t13 : Fin k0_t13_loop.trips) : Fin 1 → Nat :=
  let c2048_i32 : BitVec 32 := 2048#32
  let c1792_i32 : BitVec 32 := 1792#32
  let c1_i32_451 : BitVec 32 := 1#32
  let arg24 : BitVec 32 := Scf.iv c1792_i32 c1_i32_451 k0_t13
  let v1200 : BitVec 32 := Scalar.addi c2048_i32 arg24
  let v1201 : Index := Scalar.indexCast v1200
  ![v1201.toNat]
def k0_off247 (v1202 : BitVec 32) : Fin 2 → Nat :=
  let v1203 : Index := Scalar.indexCast v1202
  let c0_481 : Index := 0#32
  ![v1203.toNat, 0]

def k0_chk107 (i : grid0.Coords) (v1202 : BitVec 32) : Prop :=
  (∀ (k0_h4 : k0_cond4 i = 1#1), ∀ (k0_h8 : k0_cond8 i = 1#1), ∀ a, (k0_off247 v1202) a + S1x128.size a ≤ S50432x128.size a)
theorem k0_off247_inb : ∀ (i : grid0.Coords) (v1202 : BitVec 32) (k0_hw107 : k0_chk107 i v1202), ∀ (k0_h4 : k0_cond4 i = 1#1), ∀ (k0_h8 : k0_cond8 i = 1#1), ∀ a, (k0_off247 v1202) a + S1x128.size a ≤ S50432x128.size a := fun i v1202 k0_hw107 k0_h4 k0_h8 => k0_hw107 k0_h4 k0_h8

def k0_off248 (k0_t13 : Fin k0_t13_loop.trips) : Fin 3 → Nat :=
  let c1_482 : Index := 1#32
  let c1792_i32 : BitVec 32 := 1792#32
  let c1_i32_451 : BitVec 32 := 1#32
  let arg24 : BitVec 32 := Scf.iv c1792_i32 c1_i32_451 k0_t13
  let v1205 : Index := Scalar.indexCast arg24
  let c0_483 : Index := 0#32
  ![1, v1205.toNat, 0]
def k0_off249 (k0_t13 : Fin k0_t13_loop.trips) : Fin 1 → Nat :=
  let c4096_i32 : BitVec 32 := 4096#32
  let c1792_i32 : BitVec 32 := 1792#32
  let c1_i32_451 : BitVec 32 := 1#32
  let arg24 : BitVec 32 := Scf.iv c1792_i32 c1_i32_451 k0_t13
  let v1209 : BitVec 32 := Scalar.addi c4096_i32 arg24
  let v1210 : Index := Scalar.indexCast v1209
  ![v1210.toNat]
def k0_off250 (v1211 : BitVec 32) : Fin 2 → Nat :=
  let v1212 : Index := Scalar.indexCast v1211
  let c0_484 : Index := 0#32
  ![v1212.toNat, 0]

def k0_chk108 (i : grid0.Coords) (v1211 : BitVec 32) : Prop :=
  (∀ (k0_h4 : k0_cond4 i = 1#1), ∀ (k0_h8 : k0_cond8 i = 1#1), ∀ a, (k0_off250 v1211) a + S1x128.size a ≤ S50432x128.size a)
theorem k0_off250_inb : ∀ (i : grid0.Coords) (v1211 : BitVec 32) (k0_hw108 : k0_chk108 i v1211), ∀ (k0_h4 : k0_cond4 i = 1#1), ∀ (k0_h8 : k0_cond8 i = 1#1), ∀ a, (k0_off250 v1211) a + S1x128.size a ≤ S50432x128.size a := fun i v1211 k0_hw108 k0_h4 k0_h8 => k0_hw108 k0_h4 k0_h8

def k0_off251 (k0_t13 : Fin k0_t13_loop.trips) : Fin 3 → Nat :=
  let c2_485 : Index := 2#32
  let c1792_i32 : BitVec 32 := 1792#32
  let c1_i32_451 : BitVec 32 := 1#32
  let arg24 : BitVec 32 := Scf.iv c1792_i32 c1_i32_451 k0_t13
  let v1214 : Index := Scalar.indexCast arg24
  let c0_486 : Index := 0#32
  ![2, v1214.toNat, 0]
def k0_mult101 (i : grid0.Coords) : BitVec 32 :=
  let arg1 : BitVec 32 := BitVec.ofNat 32 (i 1).val
  let c9_i32 : BitVec 32 := 9#32
  let v134 : BitVec 32 := Scalar.subi arg1 c9_i32
  let c8_i32_426 : BitVec 32 := 8#32
  let v1060 : BitVec 32 := Scalar.muli v134 c8_i32_426
  let c7_i32 : BitVec 32 := 7#32
  let v1061 : BitVec 32 := Scalar.addi v1060 c7_i32
  let c256_i32_470 : BitVec 32 := 256#32
  let v1174 : BitVec 32 := Scalar.muli v1061 c256_i32_470
  v1174
def k0_cond9 (i : grid0.Coords) : BitVec 1 :=
  let arg1 : BitVec 32 := BitVec.ofNat 32 (i 1).val
  let c8_i32_28 : BitVec 32 := 8#32
  let v72 : BitVec 1 := Scalar.cmpi .ne arg1 c8_i32_28
  let arg0 : BitVec 32 := BitVec.ofNat 32 (i 0).val
  let c16_i32 : BitVec 32 := 16#32
  let v52 : BitVec 32 := Scalar.muli arg0 c16_i32
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c2_i32_29 : BitVec 32 := 2#32
  let c0_i32_30 : BitVec 32 := 0#32
  let v73 : BitVec 1 := Scalar.cmpi .eq c2_i32_29 c0_i32_30
  let c1_i32_31 : BitVec 32 := 1#32
  let v74 : BitVec 32 := Scalar.select v73 c1_i32_31 c2_i32_29
  let v75 : BitVec 32 := Scalar.remsi v56 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let c1_i32_35 : BitVec 32 := 1#32
  let v83 : BitVec 1 := Scalar.cmpi .eq v82 c1_i32_35
  let v84 : BitVec 1 := Scalar.andi v72 v83
  let v85 : BitVec 32 := Scalar.extui v84
  let c0_i32_37 : BitVec 32 := 0#32
  let v86 : BitVec 1 := Scalar.cmpi .ne v85 c0_i32_37
  v86

def k0_cond10 (i : grid0.Coords) : BitVec 1 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_38 : BitVec 32 := 0#32
  let v87 : BitVec 1 := Scalar.cmpi .eq v56 c0_i32_38
  let v88 : BitVec 32 := Scalar.extui v87
  let c0_i32_39 : BitVec 32 := 0#32
  let v89 : BitVec 1 := Scalar.cmpi .ne v88 c0_i32_39
  v89

def k0_mult102 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_62 : BitVec 32 := 0#32
  let v135 : BitVec 1 := Scalar.cmpi .sgt v56 c0_i32_62
  let v136 : BitVec 32 := Scalar.extui v135
  let c0_i32_63 : BitVec 32 := 0#32
  let v137 : BitVec 1 := Scalar.cmpi .slt v56 c0_i32_63
  let v138 : BitVec 32 := Scalar.extui v137
  let v139 : BitVec 32 := Scalar.subi v136 v138
  let c16_i32_61 : BitVec 32 := 16#32
  let c0_i32_64 : BitVec 32 := 0#32
  let v140 : BitVec 1 := Scalar.cmpi .sgt c16_i32_61 c0_i32_64
  let v141 : BitVec 32 := Scalar.extui v140
  let c0_i32_65 : BitVec 32 := 0#32
  let v142 : BitVec 1 := Scalar.cmpi .slt c16_i32_61 c0_i32_65
  let v143 : BitVec 32 := Scalar.extui v142
  let v144 : BitVec 32 := Scalar.subi v141 v143
  let v145 : BitVec 1 := Scalar.cmpi .ne v139 v144
  let v146 : BitVec 32 := Scalar.remsi v56 c16_i32_61
  let c0_i32_66 : BitVec 32 := 0#32
  let v147 : BitVec 1 := Scalar.cmpi .ne v146 c0_i32_66
  let v148 : BitVec 1 := Scalar.andi v145 v147
  let v134 : BitVec 32 := Scalar.divsi v56 c16_i32_61
  let c1_i32_67 : BitVec 32 := 1#32
  let v149 : BitVec 32 := Scalar.subi v134 c1_i32_67
  let v150 : BitVec 32 := Scalar.select v148 v149 v134
  let c8_i32_68 : BitVec 32 := 8#32
  let v151 : BitVec 32 := Scalar.muli v150 c8_i32_68
  let c8_i32_69 : BitVec 32 := 8#32
  let c0_i32_70 : BitVec 32 := 0#32
  let v152 : BitVec 1 := Scalar.cmpi .eq c8_i32_69 c0_i32_70
  let c1_i32_71 : BitVec 32 := 1#32
  let v153 : BitVec 32 := Scalar.select v152 c1_i32_71 c8_i32_69
  let v154 : BitVec 32 := Scalar.remsi v56 v153
  let c0_i32_73 : BitVec 32 := 0#32
  let v156 : BitVec 1 := Scalar.cmpi .slt v154 c0_i32_73
  let c0_i32_74 : BitVec 32 := 0#32
  let v157 : BitVec 1 := Scalar.cmpi .slt v153 c0_i32_74
  let v158 : BitVec 1 := Scalar.xori v156 v157
  let c0_i32_72 : BitVec 32 := 0#32
  let v155 : BitVec 1 := Scalar.cmpi .ne v154 c0_i32_72
  let v159 : BitVec 1 := Scalar.andi v158 v155
  let v160 : BitVec 32 := Scalar.addi v154 v153
  let v161 : BitVec 32 := Scalar.select v159 v160 v154
  let v162 : BitVec 32 := Scalar.addi v151 v161
  let c6144_i32_75 : BitVec 32 := 6144#32
  let v163 : BitVec 32 := Scalar.muli v162 c6144_i32_75
  v163
def k0_off252 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_62 : BitVec 32 := 0#32
  let v135 : BitVec 1 := Scalar.cmpi .sgt v56 c0_i32_62
  let v136 : BitVec 32 := Scalar.extui v135
  let c0_i32_63 : BitVec 32 := 0#32
  let v137 : BitVec 1 := Scalar.cmpi .slt v56 c0_i32_63
  let v138 : BitVec 32 := Scalar.extui v137
  let v139 : BitVec 32 := Scalar.subi v136 v138
  let c16_i32_61 : BitVec 32 := 16#32
  let c0_i32_64 : BitVec 32 := 0#32
  let v140 : BitVec 1 := Scalar.cmpi .sgt c16_i32_61 c0_i32_64
  let v141 : BitVec 32 := Scalar.extui v140
  let c0_i32_65 : BitVec 32 := 0#32
  let v142 : BitVec 1 := Scalar.cmpi .slt c16_i32_61 c0_i32_65
  let v143 : BitVec 32 := Scalar.extui v142
  let v144 : BitVec 32 := Scalar.subi v141 v143
  let v145 : BitVec 1 := Scalar.cmpi .ne v139 v144
  let v146 : BitVec 32 := Scalar.remsi v56 c16_i32_61
  let c0_i32_66 : BitVec 32 := 0#32
  let v147 : BitVec 1 := Scalar.cmpi .ne v146 c0_i32_66
  let v148 : BitVec 1 := Scalar.andi v145 v147
  let v134 : BitVec 32 := Scalar.divsi v56 c16_i32_61
  let c1_i32_67 : BitVec 32 := 1#32
  let v149 : BitVec 32 := Scalar.subi v134 c1_i32_67
  let v150 : BitVec 32 := Scalar.select v148 v149 v134
  let c8_i32_68 : BitVec 32 := 8#32
  let v151 : BitVec 32 := Scalar.muli v150 c8_i32_68
  let c8_i32_69 : BitVec 32 := 8#32
  let c0_i32_70 : BitVec 32 := 0#32
  let v152 : BitVec 1 := Scalar.cmpi .eq c8_i32_69 c0_i32_70
  let c1_i32_71 : BitVec 32 := 1#32
  let v153 : BitVec 32 := Scalar.select v152 c1_i32_71 c8_i32_69
  let v154 : BitVec 32 := Scalar.remsi v56 v153
  let c0_i32_73 : BitVec 32 := 0#32
  let v156 : BitVec 1 := Scalar.cmpi .slt v154 c0_i32_73
  let c0_i32_74 : BitVec 32 := 0#32
  let v157 : BitVec 1 := Scalar.cmpi .slt v153 c0_i32_74
  let v158 : BitVec 1 := Scalar.xori v156 v157
  let c0_i32_72 : BitVec 32 := 0#32
  let v155 : BitVec 1 := Scalar.cmpi .ne v154 c0_i32_72
  let v159 : BitVec 1 := Scalar.andi v158 v155
  let v160 : BitVec 32 := Scalar.addi v154 v153
  let v161 : BitVec 32 := Scalar.select v159 v160 v154
  let v162 : BitVec 32 := Scalar.addi v151 v161
  let c6144_i32_75 : BitVec 32 := 6144#32
  let v163 : BitVec 32 := Scalar.muli v162 c6144_i32_75
  let v164 : BitVec 32 := v163
  ![v164.toNat]
def k0_cond11 (i : grid0.Coords) : BitVec 1 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_40 : BitVec 32 := 1#32
  let v90 : BitVec 32 := Scalar.addi v56 c1_i32_40
  let c256_i32 : BitVec 32 := 256#32
  let v91 : BitVec 1 := Scalar.cmpi .slt v90 c256_i32
  let v92 : BitVec 32 := Scalar.extui v91
  let c0_i32_41 : BitVec 32 := 0#32
  let v93 : BitVec 1 := Scalar.cmpi .ne v92 c0_i32_41
  v93

def k0_mult103 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_61 : BitVec 32 := 1#32
  let v134 : BitVec 32 := Scalar.addi v56 c1_i32_61
  let c0_i32_63 : BitVec 32 := 0#32
  let v136 : BitVec 1 := Scalar.cmpi .sgt v134 c0_i32_63
  let v137 : BitVec 32 := Scalar.extui v136
  let c0_i32_64 : BitVec 32 := 0#32
  let v138 : BitVec 1 := Scalar.cmpi .slt v134 c0_i32_64
  let v139 : BitVec 32 := Scalar.extui v138
  let v140 : BitVec 32 := Scalar.subi v137 v139
  let c16_i32_62 : BitVec 32 := 16#32
  let c0_i32_65 : BitVec 32 := 0#32
  let v141 : BitVec 1 := Scalar.cmpi .sgt c16_i32_62 c0_i32_65
  let v142 : BitVec 32 := Scalar.extui v141
  let c0_i32_66 : BitVec 32 := 0#32
  let v143 : BitVec 1 := Scalar.cmpi .slt c16_i32_62 c0_i32_66
  let v144 : BitVec 32 := Scalar.extui v143
  let v145 : BitVec 32 := Scalar.subi v142 v144
  let v146 : BitVec 1 := Scalar.cmpi .ne v140 v145
  let v147 : BitVec 32 := Scalar.remsi v134 c16_i32_62
  let c0_i32_67 : BitVec 32 := 0#32
  let v148 : BitVec 1 := Scalar.cmpi .ne v147 c0_i32_67
  let v149 : BitVec 1 := Scalar.andi v146 v148
  let v135 : BitVec 32 := Scalar.divsi v134 c16_i32_62
  let c1_i32_68 : BitVec 32 := 1#32
  let v150 : BitVec 32 := Scalar.subi v135 c1_i32_68
  let v151 : BitVec 32 := Scalar.select v149 v150 v135
  let c8_i32_69 : BitVec 32 := 8#32
  let v152 : BitVec 32 := Scalar.muli v151 c8_i32_69
  let c8_i32_70 : BitVec 32 := 8#32
  let c0_i32_71 : BitVec 32 := 0#32
  let v153 : BitVec 1 := Scalar.cmpi .eq c8_i32_70 c0_i32_71
  let c1_i32_72 : BitVec 32 := 1#32
  let v154 : BitVec 32 := Scalar.select v153 c1_i32_72 c8_i32_70
  let v155 : BitVec 32 := Scalar.remsi v134 v154
  let c0_i32_74 : BitVec 32 := 0#32
  let v157 : BitVec 1 := Scalar.cmpi .slt v155 c0_i32_74
  let c0_i32_75 : BitVec 32 := 0#32
  let v158 : BitVec 1 := Scalar.cmpi .slt v154 c0_i32_75
  let v159 : BitVec 1 := Scalar.xori v157 v158
  let c0_i32_73 : BitVec 32 := 0#32
  let v156 : BitVec 1 := Scalar.cmpi .ne v155 c0_i32_73
  let v160 : BitVec 1 := Scalar.andi v159 v156
  let v161 : BitVec 32 := Scalar.addi v155 v154
  let v162 : BitVec 32 := Scalar.select v160 v161 v155
  let v163 : BitVec 32 := Scalar.addi v152 v162
  let c6144_i32_76 : BitVec 32 := 6144#32
  let v164 : BitVec 32 := Scalar.muli v163 c6144_i32_76
  v164
def k0_off253 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c1_i32_61 : BitVec 32 := 1#32
  let v134 : BitVec 32 := Scalar.addi v56 c1_i32_61
  let c0_i32_63 : BitVec 32 := 0#32
  let v136 : BitVec 1 := Scalar.cmpi .sgt v134 c0_i32_63
  let v137 : BitVec 32 := Scalar.extui v136
  let c0_i32_64 : BitVec 32 := 0#32
  let v138 : BitVec 1 := Scalar.cmpi .slt v134 c0_i32_64
  let v139 : BitVec 32 := Scalar.extui v138
  let v140 : BitVec 32 := Scalar.subi v137 v139
  let c16_i32_62 : BitVec 32 := 16#32
  let c0_i32_65 : BitVec 32 := 0#32
  let v141 : BitVec 1 := Scalar.cmpi .sgt c16_i32_62 c0_i32_65
  let v142 : BitVec 32 := Scalar.extui v141
  let c0_i32_66 : BitVec 32 := 0#32
  let v143 : BitVec 1 := Scalar.cmpi .slt c16_i32_62 c0_i32_66
  let v144 : BitVec 32 := Scalar.extui v143
  let v145 : BitVec 32 := Scalar.subi v142 v144
  let v146 : BitVec 1 := Scalar.cmpi .ne v140 v145
  let v147 : BitVec 32 := Scalar.remsi v134 c16_i32_62
  let c0_i32_67 : BitVec 32 := 0#32
  let v148 : BitVec 1 := Scalar.cmpi .ne v147 c0_i32_67
  let v149 : BitVec 1 := Scalar.andi v146 v148
  let v135 : BitVec 32 := Scalar.divsi v134 c16_i32_62
  let c1_i32_68 : BitVec 32 := 1#32
  let v150 : BitVec 32 := Scalar.subi v135 c1_i32_68
  let v151 : BitVec 32 := Scalar.select v149 v150 v135
  let c8_i32_69 : BitVec 32 := 8#32
  let v152 : BitVec 32 := Scalar.muli v151 c8_i32_69
  let c8_i32_70 : BitVec 32 := 8#32
  let c0_i32_71 : BitVec 32 := 0#32
  let v153 : BitVec 1 := Scalar.cmpi .eq c8_i32_70 c0_i32_71
  let c1_i32_72 : BitVec 32 := 1#32
  let v154 : BitVec 32 := Scalar.select v153 c1_i32_72 c8_i32_70
  let v155 : BitVec 32 := Scalar.remsi v134 v154
  let c0_i32_74 : BitVec 32 := 0#32
  let v157 : BitVec 1 := Scalar.cmpi .slt v155 c0_i32_74
  let c0_i32_75 : BitVec 32 := 0#32
  let v158 : BitVec 1 := Scalar.cmpi .slt v154 c0_i32_75
  let v159 : BitVec 1 := Scalar.xori v157 v158
  let c0_i32_73 : BitVec 32 := 0#32
  let v156 : BitVec 1 := Scalar.cmpi .ne v155 c0_i32_73
  let v160 : BitVec 1 := Scalar.andi v159 v156
  let v161 : BitVec 32 := Scalar.addi v155 v154
  let v162 : BitVec 32 := Scalar.select v160 v161 v155
  let v163 : BitVec 32 := Scalar.addi v152 v162
  let c6144_i32_76 : BitVec 32 := 6144#32
  let v164 : BitVec 32 := Scalar.muli v163 c6144_i32_76
  let v165 : BitVec 32 := v164
  ![v165.toNat]
def k0_mult104 (i : grid0.Coords) : BitVec 32 :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_43 : BitVec 32 := 0#32
  let v95 : BitVec 1 := Scalar.cmpi .sgt v56 c0_i32_43
  let v96 : BitVec 32 := Scalar.extui v95
  let c0_i32_44 : BitVec 32 := 0#32
  let v97 : BitVec 1 := Scalar.cmpi .slt v56 c0_i32_44
  let v98 : BitVec 32 := Scalar.extui v97
  let v99 : BitVec 32 := Scalar.subi v96 v98
  let c16_i32_42 : BitVec 32 := 16#32
  let c0_i32_45 : BitVec 32 := 0#32
  let v100 : BitVec 1 := Scalar.cmpi .sgt c16_i32_42 c0_i32_45
  let v101 : BitVec 32 := Scalar.extui v100
  let c0_i32_46 : BitVec 32 := 0#32
  let v102 : BitVec 1 := Scalar.cmpi .slt c16_i32_42 c0_i32_46
  let v103 : BitVec 32 := Scalar.extui v102
  let v104 : BitVec 32 := Scalar.subi v101 v103
  let v105 : BitVec 1 := Scalar.cmpi .ne v99 v104
  let v106 : BitVec 32 := Scalar.remsi v56 c16_i32_42
  let c0_i32_47 : BitVec 32 := 0#32
  let v107 : BitVec 1 := Scalar.cmpi .ne v106 c0_i32_47
  let v108 : BitVec 1 := Scalar.andi v105 v107
  let v94 : BitVec 32 := Scalar.divsi v56 c16_i32_42
  let c1_i32_48 : BitVec 32 := 1#32
  let v109 : BitVec 32 := Scalar.subi v94 c1_i32_48
  let v110 : BitVec 32 := Scalar.select v108 v109 v94
  let c8_i32_49 : BitVec 32 := 8#32
  let v111 : BitVec 32 := Scalar.muli v110 c8_i32_49
  let c8_i32_50 : BitVec 32 := 8#32
  let c0_i32_51 : BitVec 32 := 0#32
  let v112 : BitVec 1 := Scalar.cmpi .eq c8_i32_50 c0_i32_51
  let c1_i32_52 : BitVec 32 := 1#32
  let v113 : BitVec 32 := Scalar.select v112 c1_i32_52 c8_i32_50
  let v114 : BitVec 32 := Scalar.remsi v56 v113
  let c0_i32_54 : BitVec 32 := 0#32
  let v116 : BitVec 1 := Scalar.cmpi .slt v114 c0_i32_54
  let c0_i32_55 : BitVec 32 := 0#32
  let v117 : BitVec 1 := Scalar.cmpi .slt v113 c0_i32_55
  let v118 : BitVec 1 := Scalar.xori v116 v117
  let c0_i32_53 : BitVec 32 := 0#32
  let v115 : BitVec 1 := Scalar.cmpi .ne v114 c0_i32_53
  let v119 : BitVec 1 := Scalar.andi v118 v115
  let v120 : BitVec 32 := Scalar.addi v114 v113
  let v121 : BitVec 32 := Scalar.select v119 v120 v114
  let v122 : BitVec 32 := Scalar.addi v111 v121
  let c6144_i32 : BitVec 32 := 6144#32
  let v123 : BitVec 32 := Scalar.muli v122 c6144_i32
  v123
def k0_off254 (i : grid0.Coords) : Fin 1 → Nat :=
  let arg0 : BitVec 32 := BitVec.ofNat 32 (i 0).val
  let c16_i32 : BitVec 32 := 16#32
  let v52 : BitVec 32 := Scalar.muli arg0 c16_i32
  let arg1 : BitVec 32 := BitVec.ofNat 32 (i 1).val
  let c8_i32_16 : BitVec 32 := 8#32
  let v53 : BitVec 1 := Scalar.cmpi .slt arg1 c8_i32_16
  let c1_i32_17 : BitVec 32 := 1#32
  let v54 : BitVec 32 := Scalar.subi arg1 c1_i32_17
  let v55 : BitVec 32 := Scalar.select v53 arg1 v54
  let v56 : BitVec 32 := Scalar.addi v52 v55
  let c0_i32_43 : BitVec 32 := 0#32
  let v95 : BitVec 1 := Scalar.cmpi .sgt v56 c0_i32_43
  let v96 : BitVec 32 := Scalar.extui v95
  let c0_i32_44 : BitVec 32 := 0#32
  let v97 : BitVec 1 := Scalar.cmpi .slt v56 c0_i32_44
  let v98 : BitVec 32 := Scalar.extui v97
  let v99 : BitVec 32 := Scalar.subi v96 v98
  let c16_i32_42 : BitVec 32 := 16#32
  let c0_i32_45 : BitVec 32 := 0#32
  let v100 : BitVec 1 := Scalar.cmpi .sgt c16_i32_42 c0_i32_45
  let v101 : BitVec 32 := Scalar.extui v100
  let c0_i32_46 : BitVec 32 := 0#32
  let v102 : BitVec 1 := Scalar.cmpi .slt c16_i32_42 c0_i32_46
  let v103 : BitVec 32 := Scalar.extui v102
  let v104 : BitVec 32 := Scalar.subi v101 v103
  let v105 : BitVec 1 := Scalar.cmpi .ne v99 v104
  let v106 : BitVec 32 := Scalar.remsi v56 c16_i32_42
  let c0_i32_47 : BitVec 32 := 0#32
  let v107 : BitVec 1 := Scalar.cmpi .ne v106 c0_i32_47
  let v108 : BitVec 1 := Scalar.andi v105 v107
  let v94 : BitVec 32 := Scalar.divsi v56 c16_i32_42
  let c1_i32_48 : BitVec 32 := 1#32
  let v109 : BitVec 32 := Scalar.subi v94 c1_i32_48
  let v110 : BitVec 32 := Scalar.select v108 v109 v94
  let c8_i32_49 : BitVec 32 := 8#32
  let v111 : BitVec 32 := Scalar.muli v110 c8_i32_49
  let c8_i32_50 : BitVec 32 := 8#32
  let c0_i32_51 : BitVec 32 := 0#32
  let v112 : BitVec 1 := Scalar.cmpi .eq c8_i32_50 c0_i32_51
  let c1_i32_52 : BitVec 32 := 1#32
  let v113 : BitVec 32 := Scalar.select v112 c1_i32_52 c8_i32_50
  let v114 : BitVec 32 := Scalar.remsi v56 v113
  let c0_i32_54 : BitVec 32 := 0#32
  let v116 : BitVec 1 := Scalar.cmpi .slt v114 c0_i32_54
  let c0_i32_55 : BitVec 32 := 0#32
  let v117 : BitVec 1 := Scalar.cmpi .slt v113 c0_i32_55
  let v118 : BitVec 1 := Scalar.xori v116 v117
  let c0_i32_53 : BitVec 32 := 0#32
  let v115 : BitVec 1 := Scalar.cmpi .ne v114 c0_i32_53
  let v119 : BitVec 1 := Scalar.andi v118 v115
  let v120 : BitVec 32 := Scalar.addi v114 v113
  let v121 : BitVec 32 := Scalar.select v119 v120 v114
  let v122 : BitVec 32 := Scalar.addi v111 v121
  let c6144_i32 : BitVec 32 := 6144#32
  let v123 : BitVec 32 := Scalar.muli v122 c6144_i32
  let v124 : BitVec 32 := v123
  ![v124.toNat]
def k0_cond12 (i : grid0.Coords) : BitVec 1 :=
  let arg1 : BitVec 32 := BitVec.ofNat 32 (i 1).val
  let c8_i32_57 : BitVec 32 := 8#32
  let v128 : BitVec 1 := Scalar.cmpi .slt arg1 c8_i32_57
  let v129 : BitVec 32 := Scalar.extui v128
  let c0_i32_58 : BitVec 32 := 0#32
  let v130 : BitVec 1 := Scalar.cmpi .ne v129 c0_i32_58
  v130

@[reducible] def k0_t14_loop : Scf.Loop 32 :=
  let c0_i32_61 : BitVec 32 := 0#32
  let c2048_i32 : BitVec 32 := 2048#32
  let v134 : BitVec 32 := Scalar.addi c0_i32_61 c2048_i32
  let c1_i32_62 : BitVec 32 := 1#32
  ⟨c0_i32_61, v134, c1_i32_62⟩
def k0_off255 (k0_t14 : Fin k0_t14_loop.trips) : Fin 2 → Nat :=
  let c0_i32_61 : BitVec 32 := 0#32
  let c1_i32_62 : BitVec 32 := 1#32
  let arg24 : BitVec 32 := Scf.iv c0_i32_61 c1_i32_62 k0_t14
  let v135 : Index := Scalar.indexCast arg24
  let c0 : Index := 0#32
  ![v135.toNat, 0]
def k0_off256 (k0_t14 : Fin k0_t14_loop.trips) : Fin 1 → Nat :=
  let c0_i32_64 : BitVec 32 := 0#32
  let c0_i32_61 : BitVec 32 := 0#32
  let c1_i32_62 : BitVec 32 := 1#32
  let arg24 : BitVec 32 := Scf.iv c0_i32_61 c1_i32_62 k0_t14
  let v137 : BitVec 32 := Scalar.addi c0_i32_64 arg24
  let v138 : Index := Scalar.indexCast v137
  ![v138.toNat]
def k0_off257 (v139 : BitVec 32) : Fin 2 → Nat :=
  let v140 : Index := Scalar.indexCast v139
  let c0_65 : Index := 0#32
  ![v140.toNat, 0]

def k0_chk109 (i : grid0.Coords) (v139 : BitVec 32) : Prop :=
  (∀ (k0_h9 : k0_cond9 i = 1#1), ∀ (k0_h12 : k0_cond12 i = 1#1), ∀ a, (k0_off257 v139) a + S1x128.size a ≤ S50432x128.size a)
theorem k0_off257_inb : ∀ (i : grid0.Coords) (v139 : BitVec 32) (k0_hw109 : k0_chk109 i v139), ∀ (k0_h9 : k0_cond9 i = 1#1), ∀ (k0_h12 : k0_cond12 i = 1#1), ∀ a, (k0_off257 v139) a + S1x128.size a ≤ S50432x128.size a := fun i v139 k0_hw109 k0_h9 k0_h12 => k0_hw109 k0_h9 k0_h12

def k0_off258 (k0_t14 : Fin k0_t14_loop.trips) : Fin 1 → Nat :=
  let c2048_i32_66 : BitVec 32 := 2048#32
  let c0_i32_61 : BitVec 32 := 0#32
  let c1_i32_62 : BitVec 32 := 1#32
  let arg24 : BitVec 32 := Scf.iv c0_i32_61 c1_i32_62 k0_t14
  let v144 : BitVec 32 := Scalar.addi c2048_i32_66 arg24
  let v145 : Index := Scalar.indexCast v144
  ![v145.toNat]
def k0_off259 (v146 : BitVec 32) : Fin 2 → Nat :=
  let v147 : Index := Scalar.indexCast v146
  let c0_67 : Index := 0#32
  ![v147.toNat, 0]

def k0_chk110 (i : grid0.Coords) (v146 : BitVec 32) : Prop :=
  (∀ (k0_h9 : k0_cond9 i = 1#1), ∀ (k0_h12 : k0_cond12 i = 1#1), ∀ a, (k0_off259 v146) a + S1x128.size a ≤ S50432x128.size a)
theorem k0_off259_inb : ∀ (i : grid0.Coords) (v146 : BitVec 32) (k0_hw110 : k0_chk110 i v146), ∀ (k0_h9 : k0_cond9 i = 1#1), ∀ (k0_h12 : k0_cond12 i = 1#1), ∀ a, (k0_off259 v146) a + S1x128.size a ≤ S50432x128.size a := fun i v146 k0_hw110 k0_h9 k0_h12 => k0_hw110 k0_h9 k0_h12

def k0_off260 (k0_t14 : Fin k0_t14_loop.trips) : Fin 1 → Nat :=
  let c4096_i32 : BitVec 32 := 4096#32
  let c0_i32_61 : BitVec 32 := 0#32
  let c1_i32_62 : BitVec 32 := 1#32
  let arg24 : BitVec 32 := Scf.iv c0_i32_61 c1_i32_62 k0_t14
  let v151 : BitVec 32 := Scalar.addi c4096_i32 arg24
  let v152 : Index := Scalar.indexCast v151
  ![v152.toNat]
def k0_off261 (v153 : BitVec 32) : Fin 2 → Nat :=
  let v154 : Index := Scalar.indexCast v153
  let c0_68 : Index := 0#32
  ![v154.toNat, 0]

def k0_chk111 (i : grid0.Coords) (v153 : BitVec 32) : Prop :=
  (∀ (k0_h9 : k0_cond9 i = 1#1), ∀ (k0_h12 : k0_cond12 i = 1#1), ∀ a, (k0_off261 v153) a + S1x128.size a ≤ S50432x128.size a)
theorem k0_off261_inb : ∀ (i : grid0.Coords) (v153 : BitVec 32) (k0_hw111 : k0_chk111 i v153), ∀ (k0_h9 : k0_cond9 i = 1#1), ∀ (k0_h12 : k0_cond12 i = 1#1), ∀ a, (k0_off261 v153) a + S1x128.size a ≤ S50432x128.size a := fun i v153 k0_hw111 k0_h9 k0_h12 => k0_hw111 k0_h9 k0_h12

def k0_cond13 (i : grid0.Coords) : BitVec 1 :=
  let arg1 : BitVec 32 := BitVec.ofNat 32 (i 1).val
  let c8_i32_59 : BitVec 32 := 8#32
  let v131 : BitVec 1 := Scalar.cmpi .sgt arg1 c8_i32_59
  let v132 : BitVec 32 := Scalar.extui v131
  let c0_i32_60 : BitVec 32 := 0#32
  let v133 : BitVec 1 := Scalar.cmpi .ne v132 c0_i32_60
  v133

def k0_mult105 (i : grid0.Coords) : BitVec 32 :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let c0_i32_62 : BitVec 32 := 0#32
  let v136 : BitVec 32 := Scalar.addi v135 c0_i32_62
  let c1_i32_63 : BitVec 32 := 1#32
  let v137 : BitVec 32 := Scalar.subi v136 c1_i32_63
  let c0_i32_64 : BitVec 32 := 0#32
  let v138 : BitVec 32 := Scalar.maxsi v137 c0_i32_64
  let c256_i32_65 : BitVec 32 := 256#32
  let v139 : BitVec 32 := Scalar.muli v138 c256_i32_65
  v139
def k0_off262 (i : grid0.Coords) (c0_i32_62 : BitVec 32) : Fin 2 → Nat :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let v136 : BitVec 32 := Scalar.addi v135 c0_i32_62
  let c1_i32_63 : BitVec 32 := 1#32
  let v137 : BitVec 32 := Scalar.subi v136 c1_i32_63
  let c0_i32_64 : BitVec 32 := 0#32
  let v138 : BitVec 32 := Scalar.maxsi v137 c0_i32_64
  let c256_i32_65 : BitVec 32 := 256#32
  let v139 : BitVec 32 := Scalar.muli v138 c256_i32_65
  let v140 : BitVec 32 := v139
  let v147 : Index := Scalar.indexCast v140
  let c0_68 : Index := 0#32
  ![v147.toNat, 0]
@[reducible] def k0_t15_loop : Scf.Loop 32 :=
  let c0_i32_91 : BitVec 32 := 0#32
  let c256_i32_92 : BitVec 32 := 256#32
  let v201 : BitVec 32 := Scalar.addi c0_i32_91 c256_i32_92
  let c1_i32_93 : BitVec 32 := 1#32
  ⟨c0_i32_91, v201, c1_i32_93⟩
def k0_off263 (k0_t15 : Fin k0_t15_loop.trips) : Fin 1 → Nat :=
  let c0_i32_477 : BitVec 32 := 0#32
  let c0_i32_91 : BitVec 32 := 0#32
  let c1_i32_93 : BitVec 32 := 1#32
  let arg24 : BitVec 32 := Scf.iv c0_i32_91 c1_i32_93 k0_t15
  let v1191 : BitVec 32 := Scalar.addi c0_i32_477 arg24
  let v1192 : Index := Scalar.indexCast v1191
  ![v1192.toNat]
def k0_off264 (v1193 : BitVec 32) : Fin 2 → Nat :=
  let v1194 : Index := Scalar.indexCast v1193
  let c0_478 : Index := 0#32
  ![v1194.toNat, 0]

def k0_chk112 (i : grid0.Coords) (v1193 : BitVec 32) : Prop :=
  (∀ (k0_h9 : k0_cond9 i = 1#1), ∀ (k0_h13 : k0_cond13 i = 1#1), ∀ a, (k0_off264 v1193) a + S1x128.size a ≤ S50432x128.size a)
theorem k0_off264_inb : ∀ (i : grid0.Coords) (v1193 : BitVec 32) (k0_hw112 : k0_chk112 i v1193), ∀ (k0_h9 : k0_cond9 i = 1#1), ∀ (k0_h13 : k0_cond13 i = 1#1), ∀ a, (k0_off264 v1193) a + S1x128.size a ≤ S50432x128.size a := fun i v1193 k0_hw112 k0_h9 k0_h13 => k0_hw112 k0_h9 k0_h13

def k0_off265 (k0_t15 : Fin k0_t15_loop.trips) : Fin 3 → Nat :=
  let c0_479 : Index := 0#32
  let c0_i32_91 : BitVec 32 := 0#32
  let c1_i32_93 : BitVec 32 := 1#32
  let arg24 : BitVec 32 := Scf.iv c0_i32_91 c1_i32_93 k0_t15
  let v1196 : Index := Scalar.indexCast arg24
  let c0_480 : Index := 0#32
  ![0, v1196.toNat, 0]
def k0_off266 (k0_t15 : Fin k0_t15_loop.trips) : Fin 1 → Nat :=
  let c2048_i32 : BitVec 32 := 2048#32
  let c0_i32_91 : BitVec 32 := 0#32
  let c1_i32_93 : BitVec 32 := 1#32
  let arg24 : BitVec 32 := Scf.iv c0_i32_91 c1_i32_93 k0_t15
  let v1200 : BitVec 32 := Scalar.addi c2048_i32 arg24
  let v1201 : Index := Scalar.indexCast v1200
  ![v1201.toNat]
def k0_off267 (v1202 : BitVec 32) : Fin 2 → Nat :=
  let v1203 : Index := Scalar.indexCast v1202
  let c0_481 : Index := 0#32
  ![v1203.toNat, 0]

def k0_chk113 (i : grid0.Coords) (v1202 : BitVec 32) : Prop :=
  (∀ (k0_h9 : k0_cond9 i = 1#1), ∀ (k0_h13 : k0_cond13 i = 1#1), ∀ a, (k0_off267 v1202) a + S1x128.size a ≤ S50432x128.size a)
theorem k0_off267_inb : ∀ (i : grid0.Coords) (v1202 : BitVec 32) (k0_hw113 : k0_chk113 i v1202), ∀ (k0_h9 : k0_cond9 i = 1#1), ∀ (k0_h13 : k0_cond13 i = 1#1), ∀ a, (k0_off267 v1202) a + S1x128.size a ≤ S50432x128.size a := fun i v1202 k0_hw113 k0_h9 k0_h13 => k0_hw113 k0_h9 k0_h13

def k0_off268 (k0_t15 : Fin k0_t15_loop.trips) : Fin 3 → Nat :=
  let c1_482 : Index := 1#32
  let c0_i32_91 : BitVec 32 := 0#32
  let c1_i32_93 : BitVec 32 := 1#32
  let arg24 : BitVec 32 := Scf.iv c0_i32_91 c1_i32_93 k0_t15
  let v1205 : Index := Scalar.indexCast arg24
  let c0_483 : Index := 0#32
  ![1, v1205.toNat, 0]
def k0_off269 (k0_t15 : Fin k0_t15_loop.trips) : Fin 1 → Nat :=
  let c4096_i32 : BitVec 32 := 4096#32
  let c0_i32_91 : BitVec 32 := 0#32
  let c1_i32_93 : BitVec 32 := 1#32
  let arg24 : BitVec 32 := Scf.iv c0_i32_91 c1_i32_93 k0_t15
  let v1209 : BitVec 32 := Scalar.addi c4096_i32 arg24
  let v1210 : Index := Scalar.indexCast v1209
  ![v1210.toNat]
def k0_off270 (v1211 : BitVec 32) : Fin 2 → Nat :=
  let v1212 : Index := Scalar.indexCast v1211
  let c0_484 : Index := 0#32
  ![v1212.toNat, 0]

def k0_chk114 (i : grid0.Coords) (v1211 : BitVec 32) : Prop :=
  (∀ (k0_h9 : k0_cond9 i = 1#1), ∀ (k0_h13 : k0_cond13 i = 1#1), ∀ a, (k0_off270 v1211) a + S1x128.size a ≤ S50432x128.size a)
theorem k0_off270_inb : ∀ (i : grid0.Coords) (v1211 : BitVec 32) (k0_hw114 : k0_chk114 i v1211), ∀ (k0_h9 : k0_cond9 i = 1#1), ∀ (k0_h13 : k0_cond13 i = 1#1), ∀ a, (k0_off270 v1211) a + S1x128.size a ≤ S50432x128.size a := fun i v1211 k0_hw114 k0_h9 k0_h13 => k0_hw114 k0_h9 k0_h13

def k0_off271 (k0_t15 : Fin k0_t15_loop.trips) : Fin 3 → Nat :=
  let c2_485 : Index := 2#32
  let c0_i32_91 : BitVec 32 := 0#32
  let c1_i32_93 : BitVec 32 := 1#32
  let arg24 : BitVec 32 := Scf.iv c0_i32_91 c1_i32_93 k0_t15
  let v1214 : Index := Scalar.indexCast arg24
  let c0_486 : Index := 0#32
  ![2, v1214.toNat, 0]
def k0_mult106 (i : grid0.Coords) : BitVec 32 :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let c0_i32_62 : BitVec 32 := 0#32
  let v136 : BitVec 32 := Scalar.addi v135 c0_i32_62
  let c256_i32_110 : BitVec 32 := 256#32
  let v257 : BitVec 32 := Scalar.muli v136 c256_i32_110
  v257
def k0_off272 (i : grid0.Coords) (c0_i32_62 : BitVec 32) : Fin 2 → Nat :=
  let arg1 : BitVec 32 := BitVec.ofNat 32 (i 1).val
  let c9_i32 : BitVec 32 := 9#32
  let v134 : BitVec 32 := Scalar.subi arg1 c9_i32
  let c8_i32_61 : BitVec 32 := 8#32
  let v135 : BitVec 32 := Scalar.muli v134 c8_i32_61
  let v136 : BitVec 32 := Scalar.addi v135 c0_i32_62
  let c256_i32_110 : BitVec 32 := 256#32
  let v257 : BitVec 32 := Scalar.muli v136 c256_i32_110
  let v258 : BitVec 32 := v257
  let v264 : Index := Scalar.indexCast v258
  let c0_113 : Index := 0#32
  ![v264.toNat, 0]
def k0_mult107 (i : grid0.Coords) : BitVec 32 :=
  let arg1 : BitVec 32 := BitVec.ofNat 32 (i 1).val
  let c9_i32 : BitVec 32 := 9#32
  let v134 : BitVec 32 := Scalar.subi arg1 c9_i32
  let c8_i32_117 : BitVec 32 := 8#32
  let v274 : BitVec 32 := Scalar.muli v134 c8_i32_117
  let c1_i32_118 : BitVec 32 := 1#32
  let v275 : BitVec 32 := Scalar.addi v274 c1_i32_118
  let c1_i32_119 : BitVec 32 := 1#32
  let v276 : BitVec 32 := Scalar.subi v275 c1_i32_119
  let c0_i32_120 : BitVec 32 := 0#32
  let v277 : BitVec 32 := Scalar.maxsi v276 c0_i32_120
  let c256_i32_121 : BitVec 32 := 256#32
  let v278 : BitVec 32 := Scalar.muli v277 c256_i32_121
  v278
@[reducible] def k0_t16_loop : Scf.Loop 32 :=
  let c256_i32_142 : BitVec 32 := 256#32
  let c256_i32_143 : BitVec 32 := 256#32
  let v332 : BitVec 32 := Scalar.addi c256_i32_142 c256_i32_143
  let c1_i32_144 : BitVec 32 := 1#32
  ⟨c256_i32_142, v332, c1_i32_144⟩
def k0_off273 (k0_t16 : Fin k0_t16_loop.trips) : Fin 1 → Nat :=
  let c0_i32_477 : BitVec 32 := 0#32
  let c256_i32_142 : BitVec 32 := 256#32
  let c1_i32_144 : BitVec 32 := 1#32
  let arg24 : BitVec 32 := Scf.iv c256_i32_142 c1_i32_144 k0_t16
  let v1191 : BitVec 32 := Scalar.addi c0_i32_477 arg24
  let v1192 : Index := Scalar.indexCast v1191
  ![v1192.toNat]
def k0_off274 (v1193 : BitVec 32) : Fin 2 → Nat :=
  let v1194 : Index := Scalar.indexCast v1193
  let c0_478 : Index := 0#32
  ![v1194.toNat, 0]

def k0_chk115 (i : grid0.Coords) (v1193 : BitVec 32) : Prop :=
  (∀ (k0_h9 : k0_cond9 i = 1#1), ∀ (k0_h13 : k0_cond13 i = 1#1), ∀ a, (k0_off274 v1193) a + S1x128.size a ≤ S50432x128.size a)
theorem k0_off274_inb : ∀ (i : grid0.Coords) (v1193 : BitVec 32) (k0_hw115 : k0_chk115 i v1193), ∀ (k0_h9 : k0_cond9 i = 1#1), ∀ (k0_h13 : k0_cond13 i = 1#1), ∀ a, (k0_off274 v1193) a + S1x128.size a ≤ S50432x128.size a := fun i v1193 k0_hw115 k0_h9 k0_h13 => k0_hw115 k0_h9 k0_h13

def k0_off275 (k0_t16 : Fin k0_t16_loop.trips) : Fin 3 → Nat :=
  let c0_479 : Index := 0#32
  let c256_i32_142 : BitVec 32 := 256#32
  let c1_i32_144 : BitVec 32 := 1#32
  let arg24 : BitVec 32 := Scf.iv c256_i32_142 c1_i32_144 k0_t16
  let v1196 : Index := Scalar.indexCast arg24
  let c0_480 : Index := 0#32
  ![0, v1196.toNat, 0]
def k0_off276 (k0_t16 : Fin k0_t16_loop.trips) : Fin 1 → Nat :=
  let c2048_i32 : BitVec 32 := 2048#32
  let c256_i32_142 : BitVec 32 := 256#32
  let c1_i32_144 : BitVec 32 := 1#32
  let arg24 : BitVec 32 := Scf.iv c256_i32_142 c1_i32_144 k0_t16
  let v1200 : BitVec 32 := Scalar.addi c2048_i32 arg24
  let v1201 : Index := Scalar.indexCast v1200
  ![v1201.toNat]
def k0_off277 (v1202 : BitVec 32) : Fin 2 → Nat :=
  let v1203 : Index := Scalar.indexCast v1202
  let c0_481 : Index := 0#32
  ![v1203.toNat, 0]

def k0_chk116 (i : grid0.Coords) (v1202 : BitVec 32) : Prop :=
  (∀ (k0_h9 : k0_cond9 i = 1#1), ∀ (k0_h13 : k0_cond13 i = 1#1), ∀ a, (k0_off277 v1202) a + S1x128.size a ≤ S50432x128.size a)
theorem k0_off277_inb : ∀ (i : grid0.Coords) (v1202 : BitVec 32) (k0_hw116 : k0_chk116 i v1202), ∀ (k0_h9 : k0_cond9 i = 1#1), ∀ (k0_h13 : k0_cond13 i = 1#1), ∀ a, (k0_off277 v1202) a + S1x128.size a ≤ S50432x128.size a := fun i v1202 k0_hw116 k0_h9 k0_h13 => k0_hw116 k0_h9 k0_h13

def k0_off278 (k0_t16 : Fin k0_t16_loop.trips) : Fin 3 → Nat :=
  let c1_482 : Index := 1#32
  let c256_i32_142 : BitVec 32 := 256#32
  let c1_i32_144 : BitVec 32 := 1#32
  let arg24 : BitVec 32 := Scf.iv c256_i32_142 c1_i32_144 k0_t16
  let v1205 : Index := Scalar.indexCast arg24
  let c0_483 : Index := 0#32
  ![1, v1205.toNat, 0]
def k0_off279 (k0_t16 : Fin k0_t16_loop.trips) : Fin 1 → Nat :=
  let c4096_i32 : BitVec 32 := 4096#32
  let c256_i32_142 : BitVec 32 := 256#32
  let c1_i32_144 : BitVec 32 := 1#32
  let arg24 : BitVec 32 := Scf.iv c256_i32_142 c1_i32_144 k0_t16
  let v1209 : BitVec 32 := Scalar.addi c4096_i32 arg24
  let v1210 : Index := Scalar.indexCast v1209
  ![v1210.toNat]
def k0_off280 (v1211 : BitVec 32) : Fin 2 → Nat :=
  let v1212 : Index := Scalar.indexCast v1211
  let c0_484 : Index := 0#32
  ![v1212.toNat, 0]

def k0_chk117 (i : grid0.Coords) (v1211 : BitVec 32) : Prop :=
  (∀ (k0_h9 : k0_cond9 i = 1#1), ∀ (k0_h13 : k0_cond13 i = 1#1), ∀ a, (k0_off280 v1211) a + S1x128.size a ≤ S50432x128.size a)
theorem k0_off280_inb : ∀ (i : grid0.Coords) (v1211 : BitVec 32) (k0_hw117 : k0_chk117 i v1211), ∀ (k0_h9 : k0_cond9 i = 1#1), ∀ (k0_h13 : k0_cond13 i = 1#1), ∀ a, (k0_off280 v1211) a + S1x128.size a ≤ S50432x128.size a := fun i v1211 k0_hw117 k0_h9 k0_h13 => k0_hw117 k0_h9 k0_h13

def k0_off281 (k0_t16 : Fin k0_t16_loop.trips) : Fin 3 → Nat :=
  let c2_485 : Index := 2#32
  let c256_i32_142 : BitVec 32 := 256#32
  let c1_i32_144 : BitVec 32 := 1#32
  let arg24 : BitVec 32 := Scf.iv c256_i32_142 c1_i32_144 k0_t16
  let v1214 : Index := Scalar.indexCast arg24
  let c0_486 : Index := 0#32
  ![2, v1214.toNat, 0]
def k0_mult108 (i : grid0.Coords) : BitVec 32 :=
  let arg1 : BitVec 32 := BitVec.ofNat 32 (i 1).val
  let c9_i32 : BitVec 32 := 9#32
  let v134 : BitVec 32 := Scalar.subi arg1 c9_i32
  let c8_i32_117 : BitVec 32 := 8#32
  let v274 : BitVec 32 := Scalar.muli v134 c8_i32_117
  let c1_i32_118 : BitVec 32 := 1#32
  let v275 : BitVec 32 := Scalar.addi v274 c1_i32_118
  let c256_i32_163 : BitVec 32 := 256#32
  let v388 : BitVec 32 := Scalar.muli v275 c256_i32_163
  v388
def k0_mult109 (i : grid0.Coords) : BitVec 32 :=
  let arg1 : BitVec 32 := BitVec.ofNat 32 (i 1).val
  let c9_i32 : BitVec 32 := 9#32
  let v134 : BitVec 32 := Scalar.subi arg1 c9_i32
  let c8_i32_170 : BitVec 32 := 8#32
  let v405 : BitVec 32 := Scalar.muli v134 c8_i32_170
  let c2_i32_171 : BitVec 32 := 2#32
  let v406 : BitVec 32 := Scalar.addi v405 c2_i32_171
  let c1_i32_172 : BitVec 32 := 1#32
  let v407 : BitVec 32 := Scalar.subi v406 c1_i32_172
  let c0_i32_173 : BitVec 32 := 0#32
  let v408 : BitVec 32 := Scalar.maxsi v407 c0_i32_173
  let c256_i32_174 : BitVec 32 := 256#32
  let v409 : BitVec 32 := Scalar.muli v408 c256_i32_174
  v409
@[reducible] def k0_t17_loop : Scf.Loop 32 :=
  let c512_i32 : BitVec 32 := 512#32
  let c256_i32_195 : BitVec 32 := 256#32
  let v463 : BitVec 32 := Scalar.addi c512_i32 c256_i32_195
  let c1_i32_196 : BitVec 32 := 1#32
  ⟨c512_i32, v463, c1_i32_196⟩
def k0_off282 (k0_t17 : Fin k0_t17_loop.trips) : Fin 1 → Nat :=
  let c0_i32_477 : BitVec 32 := 0#32
  let c512_i32 : BitVec 32 := 512#32
  let c1_i32_196 : BitVec 32 := 1#32
  let arg24 : BitVec 32 := Scf.iv c512_i32 c1_i32_196 k0_t17
  let v1191 : BitVec 32 := Scalar.addi c0_i32_477 arg24
  let v1192 : Index := Scalar.indexCast v1191
  ![v1192.toNat]
def k0_off283 (v1193 : BitVec 32) : Fin 2 → Nat :=
  let v1194 : Index := Scalar.indexCast v1193
  let c0_478 : Index := 0#32
  ![v1194.toNat, 0]

def k0_chk118 (i : grid0.Coords) (v1193 : BitVec 32) : Prop :=
  (∀ (k0_h9 : k0_cond9 i = 1#1), ∀ (k0_h13 : k0_cond13 i = 1#1), ∀ a, (k0_off283 v1193) a + S1x128.size a ≤ S50432x128.size a)
theorem k0_off283_inb : ∀ (i : grid0.Coords) (v1193 : BitVec 32) (k0_hw118 : k0_chk118 i v1193), ∀ (k0_h9 : k0_cond9 i = 1#1), ∀ (k0_h13 : k0_cond13 i = 1#1), ∀ a, (k0_off283 v1193) a + S1x128.size a ≤ S50432x128.size a := fun i v1193 k0_hw118 k0_h9 k0_h13 => k0_hw118 k0_h9 k0_h13

def k0_off284 (k0_t17 : Fin k0_t17_loop.trips) : Fin 3 → Nat :=
  let c0_479 : Index := 0#32
  let c512_i32 : BitVec 32 := 512#32
  let c1_i32_196 : BitVec 32 := 1#32
  let arg24 : BitVec 32 := Scf.iv c512_i32 c1_i32_196 k0_t17
  let v1196 : Index := Scalar.indexCast arg24
  let c0_480 : Index := 0#32
  ![0, v1196.toNat, 0]
def k0_off285 (k0_t17 : Fin k0_t17_loop.trips) : Fin 1 → Nat :=
  let c2048_i32 : BitVec 32 := 2048#32
  let c512_i32 : BitVec 32 := 512#32
  let c1_i32_196 : BitVec 32 := 1#32
  let arg24 : BitVec 32 := Scf.iv c512_i32 c1_i32_196 k0_t17
  let v1200 : BitVec 32 := Scalar.addi c2048_i32 arg24
  let v1201 : Index := Scalar.indexCast v1200
  ![v1201.toNat]
def k0_off286 (v1202 : BitVec 32) : Fin 2 → Nat :=
  let v1203 : Index := Scalar.indexCast v1202
  let c0_481 : Index := 0#32
  ![v1203.toNat, 0]

def k0_chk119 (i : grid0.Coords) (v1202 : BitVec 32) : Prop :=
  (∀ (k0_h9 : k0_cond9 i = 1#1), ∀ (k0_h13 : k0_cond13 i = 1#1), ∀ a, (k0_off286 v1202) a + S1x128.size a ≤ S50432x128.size a)
theorem k0_off286_inb : ∀ (i : grid0.Coords) (v1202 : BitVec 32) (k0_hw119 : k0_chk119 i v1202), ∀ (k0_h9 : k0_cond9 i = 1#1), ∀ (k0_h13 : k0_cond13 i = 1#1), ∀ a, (k0_off286 v1202) a + S1x128.size a ≤ S50432x128.size a := fun i v1202 k0_hw119 k0_h9 k0_h13 => k0_hw119 k0_h9 k0_h13

def k0_off287 (k0_t17 : Fin k0_t17_loop.trips) : Fin 3 → Nat :=
  let c1_482 : Index := 1#32
  let c512_i32 : BitVec 32 := 512#32
  let c1_i32_196 : BitVec 32 := 1#32
  let arg24 : BitVec 32 := Scf.iv c512_i32 c1_i32_196 k0_t17
  let v1205 : Index := Scalar.indexCast arg24
  let c0_483 : Index := 0#32
  ![1, v1205.toNat, 0]
def k0_off288 (k0_t17 : Fin k0_t17_loop.trips) : Fin 1 → Nat :=
  let c4096_i32 : BitVec 32 := 4096#32
  let c512_i32 : BitVec 32 := 512#32
  let c1_i32_196 : BitVec 32 := 1#32
  let arg24 : BitVec 32 := Scf.iv c512_i32 c1_i32_196 k0_t17
  let v1209 : BitVec 32 := Scalar.addi c4096_i32 arg24
  let v1210 : Index := Scalar.indexCast v1209
  ![v1210.toNat]
def k0_off289 (v1211 : BitVec 32) : Fin 2 → Nat :=
  let v1212 : Index := Scalar.indexCast v1211
  let c0_484 : Index := 0#32
  ![v1212.toNat, 0]

def k0_chk120 (i : grid0.Coords) (v1211 : BitVec 32) : Prop :=
  (∀ (k0_h9 : k0_cond9 i = 1#1), ∀ (k0_h13 : k0_cond13 i = 1#1), ∀ a, (k0_off289 v1211) a + S1x128.size a ≤ S50432x128.size a)
theorem k0_off289_inb : ∀ (i : grid0.Coords) (v1211 : BitVec 32) (k0_hw120 : k0_chk120 i v1211), ∀ (k0_h9 : k0_cond9 i = 1#1), ∀ (k0_h13 : k0_cond13 i = 1#1), ∀ a, (k0_off289 v1211) a + S1x128.size a ≤ S50432x128.size a := fun i v1211 k0_hw120 k0_h9 k0_h13 => k0_hw120 k0_h9 k0_h13

def k0_off290 (k0_t17 : Fin k0_t17_loop.trips) : Fin 3 → Nat :=
  let c2_485 : Index := 2#32
  let c512_i32 : BitVec 32 := 512#32
  let c1_i32_196 : BitVec 32 := 1#32
  let arg24 : BitVec 32 := Scf.iv c512_i32 c1_i32_196 k0_t17
  let v1214 : Index := Scalar.indexCast arg24
  let c0_486 : Index := 0#32
  ![2, v1214.toNat, 0]
def k0_mult110 (i : grid0.Coords) : BitVec 32 :=
  let arg1 : BitVec 32 := BitVec.ofNat 32 (i 1).val
  let c9_i32 : BitVec 32 := 9#32
  let v134 : BitVec 32 := Scalar.subi arg1 c9_i32
  let c8_i32_170 : BitVec 32 := 8#32
  let v405 : BitVec 32 := Scalar.muli v134 c8_i32_170
  let c2_i32_171 : BitVec 32 := 2#32
  let v406 : BitVec 32 := Scalar.addi v405 c2_i32_171
  let c256_i32_215 : BitVec 32 := 256#32
  let v519 : BitVec 32 := Scalar.muli v406 c256_i32_215
  v519
def k0_mult111 (i : grid0.Coords) : BitVec 32 :=
  let arg1 : BitVec 32 := BitVec.ofNat 32 (i 1).val
  let c9_i32 : BitVec 32 := 9#32
  let v134 : BitVec 32 := Scalar.subi arg1 c9_i32
  let c8_i32_222 : BitVec 32 := 8#32
  let v536 : BitVec 32 := Scalar.muli v134 c8_i32_222
  let c3_i32 : BitVec 32 := 3#32
  let v537 : BitVec 32 := Scalar.addi v536 c3_i32
  let c1_i32_223 : BitVec 32 := 1#32
  let v538 : BitVec 32 := Scalar.subi v537 c1_i32_223
  let c0_i32_224 : BitVec 32 := 0#32
  let v539 : BitVec 32 := Scalar.maxsi v538 c0_i32_224
  let c256_i32_225 : BitVec 32 := 256#32
  let v540 : BitVec 32 := Scalar.muli v539 c256_i32_225
  v540
@[reducible] def k0_t18_loop : Scf.Loop 32 :=
  let c768_i32 : BitVec 32 := 768#32
  let c256_i32_246 : BitVec 32 := 256#32
  let v594 : BitVec 32 := Scalar.addi c768_i32 c256_i32_246
  let c1_i32_247 : BitVec 32 := 1#32
  ⟨c768_i32, v594, c1_i32_247⟩
def k0_off291 (k0_t18 : Fin k0_t18_loop.trips) : Fin 1 → Nat :=
  let c0_i32_477 : BitVec 32 := 0#32
  let c768_i32 : BitVec 32 := 768#32
  let c1_i32_247 : BitVec 32 := 1#32
  let arg24 : BitVec 32 := Scf.iv c768_i32 c1_i32_247 k0_t18
  let v1191 : BitVec 32 := Scalar.addi c0_i32_477 arg24
  let v1192 : Index := Scalar.indexCast v1191
  ![v1192.toNat]
def k0_off292 (v1193 : BitVec 32) : Fin 2 → Nat :=
  let v1194 : Index := Scalar.indexCast v1193
  let c0_478 : Index := 0#32
  ![v1194.toNat, 0]

def k0_chk121 (i : grid0.Coords) (v1193 : BitVec 32) : Prop :=
  (∀ (k0_h9 : k0_cond9 i = 1#1), ∀ (k0_h13 : k0_cond13 i = 1#1), ∀ a, (k0_off292 v1193) a + S1x128.size a ≤ S50432x128.size a)
theorem k0_off292_inb : ∀ (i : grid0.Coords) (v1193 : BitVec 32) (k0_hw121 : k0_chk121 i v1193), ∀ (k0_h9 : k0_cond9 i = 1#1), ∀ (k0_h13 : k0_cond13 i = 1#1), ∀ a, (k0_off292 v1193) a + S1x128.size a ≤ S50432x128.size a := fun i v1193 k0_hw121 k0_h9 k0_h13 => k0_hw121 k0_h9 k0_h13

def k0_off293 (k0_t18 : Fin k0_t18_loop.trips) : Fin 3 → Nat :=
  let c0_479 : Index := 0#32
  let c768_i32 : BitVec 32 := 768#32
  let c1_i32_247 : BitVec 32 := 1#32
  let arg24 : BitVec 32 := Scf.iv c768_i32 c1_i32_247 k0_t18
  let v1196 : Index := Scalar.indexCast arg24
  let c0_480 : Index := 0#32
  ![0, v1196.toNat, 0]
def k0_off294 (k0_t18 : Fin k0_t18_loop.trips) : Fin 1 → Nat :=
  let c2048_i32 : BitVec 32 := 2048#32
  let c768_i32 : BitVec 32 := 768#32
  let c1_i32_247 : BitVec 32 := 1#32
  let arg24 : BitVec 32 := Scf.iv c768_i32 c1_i32_247 k0_t18
  let v1200 : BitVec 32 := Scalar.addi c2048_i32 arg24
  let v1201 : Index := Scalar.indexCast v1200
  ![v1201.toNat]
def k0_off295 (v1202 : BitVec 32) : Fin 2 → Nat :=
  let v1203 : Index := Scalar.indexCast v1202
  let c0_481 : Index := 0#32
  ![v1203.toNat, 0]

def k0_chk122 (i : grid0.Coords) (v1202 : BitVec 32) : Prop :=
  (∀ (k0_h9 : k0_cond9 i = 1#1), ∀ (k0_h13 : k0_cond13 i = 1#1), ∀ a, (k0_off295 v1202) a + S1x128.size a ≤ S50432x128.size a)
theorem k0_off295_inb : ∀ (i : grid0.Coords) (v1202 : BitVec 32) (k0_hw122 : k0_chk122 i v1202), ∀ (k0_h9 : k0_cond9 i = 1#1), ∀ (k0_h13 : k0_cond13 i = 1#1), ∀ a, (k0_off295 v1202) a + S1x128.size a ≤ S50432x128.size a := fun i v1202 k0_hw122 k0_h9 k0_h13 => k0_hw122 k0_h9 k0_h13

def k0_off296 (k0_t18 : Fin k0_t18_loop.trips) : Fin 3 → Nat :=
  let c1_482 : Index := 1#32
  let c768_i32 : BitVec 32 := 768#32
  let c1_i32_247 : BitVec 32 := 1#32
  let arg24 : BitVec 32 := Scf.iv c768_i32 c1_i32_247 k0_t18
  let v1205 : Index := Scalar.indexCast arg24
  let c0_483 : Index := 0#32
  ![1, v1205.toNat, 0]
def k0_off297 (k0_t18 : Fin k0_t18_loop.trips) : Fin 1 → Nat :=
  let c4096_i32 : BitVec 32 := 4096#32
  let c768_i32 : BitVec 32 := 768#32
  let c1_i32_247 : BitVec 32 := 1#32
  let arg24 : BitVec 32 := Scf.iv c768_i32 c1_i32_247 k0_t18
  let v1209 : BitVec 32 := Scalar.addi c4096_i32 arg24
  let v1210 : Index := Scalar.indexCast v1209
  ![v1210.toNat]
def k0_off298 (v1211 : BitVec 32) : Fin 2 → Nat :=
  let v1212 : Index := Scalar.indexCast v1211
  let c0_484 : Index := 0#32
  ![v1212.toNat, 0]

def k0_chk123 (i : grid0.Coords) (v1211 : BitVec 32) : Prop :=
  (∀ (k0_h9 : k0_cond9 i = 1#1), ∀ (k0_h13 : k0_cond13 i = 1#1), ∀ a, (k0_off298 v1211) a + S1x128.size a ≤ S50432x128.size a)
theorem k0_off298_inb : ∀ (i : grid0.Coords) (v1211 : BitVec 32) (k0_hw123 : k0_chk123 i v1211), ∀ (k0_h9 : k0_cond9 i = 1#1), ∀ (k0_h13 : k0_cond13 i = 1#1), ∀ a, (k0_off298 v1211) a + S1x128.size a ≤ S50432x128.size a := fun i v1211 k0_hw123 k0_h9 k0_h13 => k0_hw123 k0_h9 k0_h13

def k0_off299 (k0_t18 : Fin k0_t18_loop.trips) : Fin 3 → Nat :=
  let c2_485 : Index := 2#32
  let c768_i32 : BitVec 32 := 768#32
  let c1_i32_247 : BitVec 32 := 1#32
  let arg24 : BitVec 32 := Scf.iv c768_i32 c1_i32_247 k0_t18
  let v1214 : Index := Scalar.indexCast arg24
  let c0_486 : Index := 0#32
  ![2, v1214.toNat, 0]
def k0_mult112 (i : grid0.Coords) : BitVec 32 :=
  let arg1 : BitVec 32 := BitVec.ofNat 32 (i 1).val
  let c9_i32 : BitVec 32 := 9#32
  let v134 : BitVec 32 := Scalar.subi arg1 c9_i32
  let c8_i32_222 : BitVec 32 := 8#32
  let v536 : BitVec 32 := Scalar.muli v134 c8_i32_222
  let c3_i32 : BitVec 32 := 3#32
  let v537 : BitVec 32 := Scalar.addi v536 c3_i32
  let c256_i32_266 : BitVec 32 := 256#32
  let v650 : BitVec 32 := Scalar.muli v537 c256_i32_266
  v650
def k0_mult113 (i : grid0.Coords) : BitVec 32 :=
  let arg1 : BitVec 32 := BitVec.ofNat 32 (i 1).val
  let c9_i32 : BitVec 32 := 9#32
  let v134 : BitVec 32 := Scalar.subi arg1 c9_i32
  let c8_i32_273 : BitVec 32 := 8#32
  let v667 : BitVec 32 := Scalar.muli v134 c8_i32_273
  let c4_i32 : BitVec 32 := 4#32
  let v668 : BitVec 32 := Scalar.addi v667 c4_i32
  let c1_i32_274 : BitVec 32 := 1#32
  let v669 : BitVec 32 := Scalar.subi v668 c1_i32_274
  let c0_i32_275 : BitVec 32 := 0#32
  let v670 : BitVec 32 := Scalar.maxsi v669 c0_i32_275
  let c256_i32_276 : BitVec 32 := 256#32
  let v671 : BitVec 32 := Scalar.muli v670 c256_i32_276
  v671
@[reducible] def k0_t19_loop : Scf.Loop 32 :=
  let c1024_i32 : BitVec 32 := 1024#32
  let c256_i32_297 : BitVec 32 := 256#32
  let v725 : BitVec 32 := Scalar.addi c1024_i32 c256_i32_297
  let c1_i32_298 : BitVec 32 := 1#32
  ⟨c1024_i32, v725, c1_i32_298⟩
def k0_off300 (k0_t19 : Fin k0_t19_loop.trips) : Fin 1 → Nat :=
  let c0_i32_477 : BitVec 32 := 0#32
  let c1024_i32 : BitVec 32 := 1024#32
  let c1_i32_298 : BitVec 32 := 1#32
  let arg24 : BitVec 32 := Scf.iv c1024_i32 c1_i32_298 k0_t19
  let v1191 : BitVec 32 := Scalar.addi c0_i32_477 arg24
  let v1192 : Index := Scalar.indexCast v1191
  ![v1192.toNat]
def k0_off301 (v1193 : BitVec 32) : Fin 2 → Nat :=
  let v1194 : Index := Scalar.indexCast v1193
  let c0_478 : Index := 0#32
  ![v1194.toNat, 0]

def k0_chk124 (i : grid0.Coords) (v1193 : BitVec 32) : Prop :=
  (∀ (k0_h9 : k0_cond9 i = 1#1), ∀ (k0_h13 : k0_cond13 i = 1#1), ∀ a, (k0_off301 v1193) a + S1x128.size a ≤ S50432x128.size a)
theorem k0_off301_inb : ∀ (i : grid0.Coords) (v1193 : BitVec 32) (k0_hw124 : k0_chk124 i v1193), ∀ (k0_h9 : k0_cond9 i = 1#1), ∀ (k0_h13 : k0_cond13 i = 1#1), ∀ a, (k0_off301 v1193) a + S1x128.size a ≤ S50432x128.size a := fun i v1193 k0_hw124 k0_h9 k0_h13 => k0_hw124 k0_h9 k0_h13

def k0_off302 (k0_t19 : Fin k0_t19_loop.trips) : Fin 3 → Nat :=
  let c0_479 : Index := 0#32
  let c1024_i32 : BitVec 32 := 1024#32
  let c1_i32_298 : BitVec 32 := 1#32
  let arg24 : BitVec 32 := Scf.iv c1024_i32 c1_i32_298 k0_t19
  let v1196 : Index := Scalar.indexCast arg24
  let c0_480 : Index := 0#32
  ![0, v1196.toNat, 0]
def k0_off303 (k0_t19 : Fin k0_t19_loop.trips) : Fin 1 → Nat :=
  let c2048_i32 : BitVec 32 := 2048#32
  let c1024_i32 : BitVec 32 := 1024#32
  let c1_i32_298 : BitVec 32 := 1#32
  let arg24 : BitVec 32 := Scf.iv c1024_i32 c1_i32_298 k0_t19
  let v1200 : BitVec 32 := Scalar.addi c2048_i32 arg24
  let v1201 : Index := Scalar.indexCast v1200
  ![v1201.toNat]
def k0_off304 (v1202 : BitVec 32) : Fin 2 → Nat :=
  let v1203 : Index := Scalar.indexCast v1202
  let c0_481 : Index := 0#32
  ![v1203.toNat, 0]

def k0_chk125 (i : grid0.Coords) (v1202 : BitVec 32) : Prop :=
  (∀ (k0_h9 : k0_cond9 i = 1#1), ∀ (k0_h13 : k0_cond13 i = 1#1), ∀ a, (k0_off304 v1202) a + S1x128.size a ≤ S50432x128.size a)
theorem k0_off304_inb : ∀ (i : grid0.Coords) (v1202 : BitVec 32) (k0_hw125 : k0_chk125 i v1202), ∀ (k0_h9 : k0_cond9 i = 1#1), ∀ (k0_h13 : k0_cond13 i = 1#1), ∀ a, (k0_off304 v1202) a + S1x128.size a ≤ S50432x128.size a := fun i v1202 k0_hw125 k0_h9 k0_h13 => k0_hw125 k0_h9 k0_h13

def k0_off305 (k0_t19 : Fin k0_t19_loop.trips) : Fin 3 → Nat :=
  let c1_482 : Index := 1#32
  let c1024_i32 : BitVec 32 := 1024#32
  let c1_i32_298 : BitVec 32 := 1#32
  let arg24 : BitVec 32 := Scf.iv c1024_i32 c1_i32_298 k0_t19
  let v1205 : Index := Scalar.indexCast arg24
  let c0_483 : Index := 0#32
  ![1, v1205.toNat, 0]
def k0_off306 (k0_t19 : Fin k0_t19_loop.trips) : Fin 1 → Nat :=
  let c4096_i32 : BitVec 32 := 4096#32
  let c1024_i32 : BitVec 32 := 1024#32
  let c1_i32_298 : BitVec 32 := 1#32
  let arg24 : BitVec 32 := Scf.iv c1024_i32 c1_i32_298 k0_t19
  let v1209 : BitVec 32 := Scalar.addi c4096_i32 arg24
  let v1210 : Index := Scalar.indexCast v1209
  ![v1210.toNat]
def k0_off307 (v1211 : BitVec 32) : Fin 2 → Nat :=
  let v1212 : Index := Scalar.indexCast v1211
  let c0_484 : Index := 0#32
  ![v1212.toNat, 0]

def k0_chk126 (i : grid0.Coords) (v1211 : BitVec 32) : Prop :=
  (∀ (k0_h9 : k0_cond9 i = 1#1), ∀ (k0_h13 : k0_cond13 i = 1#1), ∀ a, (k0_off307 v1211) a + S1x128.size a ≤ S50432x128.size a)
theorem k0_off307_inb : ∀ (i : grid0.Coords) (v1211 : BitVec 32) (k0_hw126 : k0_chk126 i v1211), ∀ (k0_h9 : k0_cond9 i = 1#1), ∀ (k0_h13 : k0_cond13 i = 1#1), ∀ a, (k0_off307 v1211) a + S1x128.size a ≤ S50432x128.size a := fun i v1211 k0_hw126 k0_h9 k0_h13 => k0_hw126 k0_h9 k0_h13

def k0_off308 (k0_t19 : Fin k0_t19_loop.trips) : Fin 3 → Nat :=
  let c2_485 : Index := 2#32
  let c1024_i32 : BitVec 32 := 1024#32
  let c1_i32_298 : BitVec 32 := 1#32
  let arg24 : BitVec 32 := Scf.iv c1024_i32 c1_i32_298 k0_t19
  let v1214 : Index := Scalar.indexCast arg24
  let c0_486 : Index := 0#32
  ![2, v1214.toNat, 0]
def k0_mult114 (i : grid0.Coords) : BitVec 32 :=
  let arg1 : BitVec 32 := BitVec.ofNat 32 (i 1).val
  let c9_i32 : BitVec 32 := 9#32
  let v134 : BitVec 32 := Scalar.subi arg1 c9_i32
  let c8_i32_273 : BitVec 32 := 8#32
  let v667 : BitVec 32 := Scalar.muli v134 c8_i32_273
  let c4_i32 : BitVec 32 := 4#32
  let v668 : BitVec 32 := Scalar.addi v667 c4_i32
  let c256_i32_317 : BitVec 32 := 256#32
  let v781 : BitVec 32 := Scalar.muli v668 c256_i32_317
  v781
def k0_mult115 (i : grid0.Coords) : BitVec 32 :=
  let arg1 : BitVec 32 := BitVec.ofNat 32 (i 1).val
  let c9_i32 : BitVec 32 := 9#32
  let v134 : BitVec 32 := Scalar.subi arg1 c9_i32
  let c8_i32_324 : BitVec 32 := 8#32
  let v798 : BitVec 32 := Scalar.muli v134 c8_i32_324
  let c5_i32 : BitVec 32 := 5#32
  let v799 : BitVec 32 := Scalar.addi v798 c5_i32
  let c1_i32_325 : BitVec 32 := 1#32
  let v800 : BitVec 32 := Scalar.subi v799 c1_i32_325
  let c0_i32_326 : BitVec 32 := 0#32
  let v801 : BitVec 32 := Scalar.maxsi v800 c0_i32_326
  let c256_i32_327 : BitVec 32 := 256#32
  let v802 : BitVec 32 := Scalar.muli v801 c256_i32_327
  v802
@[reducible] def k0_t20_loop : Scf.Loop 32 :=
  let c1280_i32 : BitVec 32 := 1280#32
  let c256_i32_348 : BitVec 32 := 256#32
  let v856 : BitVec 32 := Scalar.addi c1280_i32 c256_i32_348
  let c1_i32_349 : BitVec 32 := 1#32
  ⟨c1280_i32, v856, c1_i32_349⟩
def k0_off309 (k0_t20 : Fin k0_t20_loop.trips) : Fin 1 → Nat :=
  let c0_i32_477 : BitVec 32 := 0#32
  let c1280_i32 : BitVec 32 := 1280#32
  let c1_i32_349 : BitVec 32 := 1#32
  let arg24 : BitVec 32 := Scf.iv c1280_i32 c1_i32_349 k0_t20
  let v1191 : BitVec 32 := Scalar.addi c0_i32_477 arg24
  let v1192 : Index := Scalar.indexCast v1191
  ![v1192.toNat]
def k0_off310 (v1193 : BitVec 32) : Fin 2 → Nat :=
  let v1194 : Index := Scalar.indexCast v1193
  let c0_478 : Index := 0#32
  ![v1194.toNat, 0]

def k0_chk127 (i : grid0.Coords) (v1193 : BitVec 32) : Prop :=
  (∀ (k0_h9 : k0_cond9 i = 1#1), ∀ (k0_h13 : k0_cond13 i = 1#1), ∀ a, (k0_off310 v1193) a + S1x128.size a ≤ S50432x128.size a)
theorem k0_off310_inb : ∀ (i : grid0.Coords) (v1193 : BitVec 32) (k0_hw127 : k0_chk127 i v1193), ∀ (k0_h9 : k0_cond9 i = 1#1), ∀ (k0_h13 : k0_cond13 i = 1#1), ∀ a, (k0_off310 v1193) a + S1x128.size a ≤ S50432x128.size a := fun i v1193 k0_hw127 k0_h9 k0_h13 => k0_hw127 k0_h9 k0_h13

def k0_off311 (k0_t20 : Fin k0_t20_loop.trips) : Fin 3 → Nat :=
  let c0_479 : Index := 0#32
  let c1280_i32 : BitVec 32 := 1280#32
  let c1_i32_349 : BitVec 32 := 1#32
  let arg24 : BitVec 32 := Scf.iv c1280_i32 c1_i32_349 k0_t20
  let v1196 : Index := Scalar.indexCast arg24
  let c0_480 : Index := 0#32
  ![0, v1196.toNat, 0]
def k0_off312 (k0_t20 : Fin k0_t20_loop.trips) : Fin 1 → Nat :=
  let c2048_i32 : BitVec 32 := 2048#32
  let c1280_i32 : BitVec 32 := 1280#32
  let c1_i32_349 : BitVec 32 := 1#32
  let arg24 : BitVec 32 := Scf.iv c1280_i32 c1_i32_349 k0_t20
  let v1200 : BitVec 32 := Scalar.addi c2048_i32 arg24
  let v1201 : Index := Scalar.indexCast v1200
  ![v1201.toNat]
def k0_off313 (v1202 : BitVec 32) : Fin 2 → Nat :=
  let v1203 : Index := Scalar.indexCast v1202
  let c0_481 : Index := 0#32
  ![v1203.toNat, 0]

def k0_chk128 (i : grid0.Coords) (v1202 : BitVec 32) : Prop :=
  (∀ (k0_h9 : k0_cond9 i = 1#1), ∀ (k0_h13 : k0_cond13 i = 1#1), ∀ a, (k0_off313 v1202) a + S1x128.size a ≤ S50432x128.size a)
theorem k0_off313_inb : ∀ (i : grid0.Coords) (v1202 : BitVec 32) (k0_hw128 : k0_chk128 i v1202), ∀ (k0_h9 : k0_cond9 i = 1#1), ∀ (k0_h13 : k0_cond13 i = 1#1), ∀ a, (k0_off313 v1202) a + S1x128.size a ≤ S50432x128.size a := fun i v1202 k0_hw128 k0_h9 k0_h13 => k0_hw128 k0_h9 k0_h13

def k0_off314 (k0_t20 : Fin k0_t20_loop.trips) : Fin 3 → Nat :=
  let c1_482 : Index := 1#32
  let c1280_i32 : BitVec 32 := 1280#32
  let c1_i32_349 : BitVec 32 := 1#32
  let arg24 : BitVec 32 := Scf.iv c1280_i32 c1_i32_349 k0_t20
  let v1205 : Index := Scalar.indexCast arg24
  let c0_483 : Index := 0#32
  ![1, v1205.toNat, 0]
def k0_off315 (k0_t20 : Fin k0_t20_loop.trips) : Fin 1 → Nat :=
  let c4096_i32 : BitVec 32 := 4096#32
  let c1280_i32 : BitVec 32 := 1280#32
  let c1_i32_349 : BitVec 32 := 1#32
  let arg24 : BitVec 32 := Scf.iv c1280_i32 c1_i32_349 k0_t20
  let v1209 : BitVec 32 := Scalar.addi c4096_i32 arg24
  let v1210 : Index := Scalar.indexCast v1209
  ![v1210.toNat]
def k0_off316 (v1211 : BitVec 32) : Fin 2 → Nat :=
  let v1212 : Index := Scalar.indexCast v1211
  let c0_484 : Index := 0#32
  ![v1212.toNat, 0]

def k0_chk129 (i : grid0.Coords) (v1211 : BitVec 32) : Prop :=
  (∀ (k0_h9 : k0_cond9 i = 1#1), ∀ (k0_h13 : k0_cond13 i = 1#1), ∀ a, (k0_off316 v1211) a + S1x128.size a ≤ S50432x128.size a)
theorem k0_off316_inb : ∀ (i : grid0.Coords) (v1211 : BitVec 32) (k0_hw129 : k0_chk129 i v1211), ∀ (k0_h9 : k0_cond9 i = 1#1), ∀ (k0_h13 : k0_cond13 i = 1#1), ∀ a, (k0_off316 v1211) a + S1x128.size a ≤ S50432x128.size a := fun i v1211 k0_hw129 k0_h9 k0_h13 => k0_hw129 k0_h9 k0_h13

def k0_off317 (k0_t20 : Fin k0_t20_loop.trips) : Fin 3 → Nat :=
  let c2_485 : Index := 2#32
  let c1280_i32 : BitVec 32 := 1280#32
  let c1_i32_349 : BitVec 32 := 1#32
  let arg24 : BitVec 32 := Scf.iv c1280_i32 c1_i32_349 k0_t20
  let v1214 : Index := Scalar.indexCast arg24
  let c0_486 : Index := 0#32
  ![2, v1214.toNat, 0]
def k0_mult116 (i : grid0.Coords) : BitVec 32 :=
  let arg1 : BitVec 32 := BitVec.ofNat 32 (i 1).val
  let c9_i32 : BitVec 32 := 9#32
  let v134 : BitVec 32 := Scalar.subi arg1 c9_i32
  let c8_i32_324 : BitVec 32 := 8#32
  let v798 : BitVec 32 := Scalar.muli v134 c8_i32_324
  let c5_i32 : BitVec 32 := 5#32
  let v799 : BitVec 32 := Scalar.addi v798 c5_i32
  let c256_i32_368 : BitVec 32 := 256#32
  let v912 : BitVec 32 := Scalar.muli v799 c256_i32_368
  v912
def k0_mult117 (i : grid0.Coords) : BitVec 32 :=
  let arg1 : BitVec 32 := BitVec.ofNat 32 (i 1).val
  let c9_i32 : BitVec 32 := 9#32
  let v134 : BitVec 32 := Scalar.subi arg1 c9_i32
  let c8_i32_375 : BitVec 32 := 8#32
  let v929 : BitVec 32 := Scalar.muli v134 c8_i32_375
  let c6_i32 : BitVec 32 := 6#32
  let v930 : BitVec 32 := Scalar.addi v929 c6_i32
  let c1_i32_376 : BitVec 32 := 1#32
  let v931 : BitVec 32 := Scalar.subi v930 c1_i32_376
  let c0_i32_377 : BitVec 32 := 0#32
  let v932 : BitVec 32 := Scalar.maxsi v931 c0_i32_377
  let c256_i32_378 : BitVec 32 := 256#32
  let v933 : BitVec 32 := Scalar.muli v932 c256_i32_378
  v933
@[reducible] def k0_t21_loop : Scf.Loop 32 :=
  let c1536_i32 : BitVec 32 := 1536#32
  let c256_i32_399 : BitVec 32 := 256#32
  let v987 : BitVec 32 := Scalar.addi c1536_i32 c256_i32_399
  let c1_i32_400 : BitVec 32 := 1#32
  ⟨c1536_i32, v987, c1_i32_400⟩
def k0_off318 (k0_t21 : Fin k0_t21_loop.trips) : Fin 1 → Nat :=
  let c0_i32_477 : BitVec 32 := 0#32
  let c1536_i32 : BitVec 32 := 1536#32
  let c1_i32_400 : BitVec 32 := 1#32
  let arg24 : BitVec 32 := Scf.iv c1536_i32 c1_i32_400 k0_t21
  let v1191 : BitVec 32 := Scalar.addi c0_i32_477 arg24
  let v1192 : Index := Scalar.indexCast v1191
  ![v1192.toNat]
def k0_off319 (v1193 : BitVec 32) : Fin 2 → Nat :=
  let v1194 : Index := Scalar.indexCast v1193
  let c0_478 : Index := 0#32
  ![v1194.toNat, 0]

def k0_chk130 (i : grid0.Coords) (v1193 : BitVec 32) : Prop :=
  (∀ (k0_h9 : k0_cond9 i = 1#1), ∀ (k0_h13 : k0_cond13 i = 1#1), ∀ a, (k0_off319 v1193) a + S1x128.size a ≤ S50432x128.size a)
theorem k0_off319_inb : ∀ (i : grid0.Coords) (v1193 : BitVec 32) (k0_hw130 : k0_chk130 i v1193), ∀ (k0_h9 : k0_cond9 i = 1#1), ∀ (k0_h13 : k0_cond13 i = 1#1), ∀ a, (k0_off319 v1193) a + S1x128.size a ≤ S50432x128.size a := fun i v1193 k0_hw130 k0_h9 k0_h13 => k0_hw130 k0_h9 k0_h13

def k0_off320 (k0_t21 : Fin k0_t21_loop.trips) : Fin 3 → Nat :=
  let c0_479 : Index := 0#32
  let c1536_i32 : BitVec 32 := 1536#32
  let c1_i32_400 : BitVec 32 := 1#32
  let arg24 : BitVec 32 := Scf.iv c1536_i32 c1_i32_400 k0_t21
  let v1196 : Index := Scalar.indexCast arg24
  let c0_480 : Index := 0#32
  ![0, v1196.toNat, 0]
def k0_off321 (k0_t21 : Fin k0_t21_loop.trips) : Fin 1 → Nat :=
  let c2048_i32 : BitVec 32 := 2048#32
  let c1536_i32 : BitVec 32 := 1536#32
  let c1_i32_400 : BitVec 32 := 1#32
  let arg24 : BitVec 32 := Scf.iv c1536_i32 c1_i32_400 k0_t21
  let v1200 : BitVec 32 := Scalar.addi c2048_i32 arg24
  let v1201 : Index := Scalar.indexCast v1200
  ![v1201.toNat]
def k0_off322 (v1202 : BitVec 32) : Fin 2 → Nat :=
  let v1203 : Index := Scalar.indexCast v1202
  let c0_481 : Index := 0#32
  ![v1203.toNat, 0]

def k0_chk131 (i : grid0.Coords) (v1202 : BitVec 32) : Prop :=
  (∀ (k0_h9 : k0_cond9 i = 1#1), ∀ (k0_h13 : k0_cond13 i = 1#1), ∀ a, (k0_off322 v1202) a + S1x128.size a ≤ S50432x128.size a)
theorem k0_off322_inb : ∀ (i : grid0.Coords) (v1202 : BitVec 32) (k0_hw131 : k0_chk131 i v1202), ∀ (k0_h9 : k0_cond9 i = 1#1), ∀ (k0_h13 : k0_cond13 i = 1#1), ∀ a, (k0_off322 v1202) a + S1x128.size a ≤ S50432x128.size a := fun i v1202 k0_hw131 k0_h9 k0_h13 => k0_hw131 k0_h9 k0_h13

def k0_off323 (k0_t21 : Fin k0_t21_loop.trips) : Fin 3 → Nat :=
  let c1_482 : Index := 1#32
  let c1536_i32 : BitVec 32 := 1536#32
  let c1_i32_400 : BitVec 32 := 1#32
  let arg24 : BitVec 32 := Scf.iv c1536_i32 c1_i32_400 k0_t21
  let v1205 : Index := Scalar.indexCast arg24
  let c0_483 : Index := 0#32
  ![1, v1205.toNat, 0]
def k0_off324 (k0_t21 : Fin k0_t21_loop.trips) : Fin 1 → Nat :=
  let c4096_i32 : BitVec 32 := 4096#32
  let c1536_i32 : BitVec 32 := 1536#32
  let c1_i32_400 : BitVec 32 := 1#32
  let arg24 : BitVec 32 := Scf.iv c1536_i32 c1_i32_400 k0_t21
  let v1209 : BitVec 32 := Scalar.addi c4096_i32 arg24
  let v1210 : Index := Scalar.indexCast v1209
  ![v1210.toNat]
def k0_off325 (v1211 : BitVec 32) : Fin 2 → Nat :=
  let v1212 : Index := Scalar.indexCast v1211
  let c0_484 : Index := 0#32
  ![v1212.toNat, 0]

def k0_chk132 (i : grid0.Coords) (v1211 : BitVec 32) : Prop :=
  (∀ (k0_h9 : k0_cond9 i = 1#1), ∀ (k0_h13 : k0_cond13 i = 1#1), ∀ a, (k0_off325 v1211) a + S1x128.size a ≤ S50432x128.size a)
theorem k0_off325_inb : ∀ (i : grid0.Coords) (v1211 : BitVec 32) (k0_hw132 : k0_chk132 i v1211), ∀ (k0_h9 : k0_cond9 i = 1#1), ∀ (k0_h13 : k0_cond13 i = 1#1), ∀ a, (k0_off325 v1211) a + S1x128.size a ≤ S50432x128.size a := fun i v1211 k0_hw132 k0_h9 k0_h13 => k0_hw132 k0_h9 k0_h13

def k0_off326 (k0_t21 : Fin k0_t21_loop.trips) : Fin 3 → Nat :=
  let c2_485 : Index := 2#32
  let c1536_i32 : BitVec 32 := 1536#32
  let c1_i32_400 : BitVec 32 := 1#32
  let arg24 : BitVec 32 := Scf.iv c1536_i32 c1_i32_400 k0_t21
  let v1214 : Index := Scalar.indexCast arg24
  let c0_486 : Index := 0#32
  ![2, v1214.toNat, 0]
def k0_mult118 (i : grid0.Coords) : BitVec 32 :=
  let arg1 : BitVec 32 := BitVec.ofNat 32 (i 1).val
  let c9_i32 : BitVec 32 := 9#32
  let v134 : BitVec 32 := Scalar.subi arg1 c9_i32
  let c8_i32_375 : BitVec 32 := 8#32
  let v929 : BitVec 32 := Scalar.muli v134 c8_i32_375
  let c6_i32 : BitVec 32 := 6#32
  let v930 : BitVec 32 := Scalar.addi v929 c6_i32
  let c256_i32_419 : BitVec 32 := 256#32
  let v1043 : BitVec 32 := Scalar.muli v930 c256_i32_419
  v1043
def k0_mult119 (i : grid0.Coords) : BitVec 32 :=
  let arg1 : BitVec 32 := BitVec.ofNat 32 (i 1).val
  let c9_i32 : BitVec 32 := 9#32
  let v134 : BitVec 32 := Scalar.subi arg1 c9_i32
  let c8_i32_426 : BitVec 32 := 8#32
  let v1060 : BitVec 32 := Scalar.muli v134 c8_i32_426
  let c7_i32 : BitVec 32 := 7#32
  let v1061 : BitVec 32 := Scalar.addi v1060 c7_i32
  let c1_i32_427 : BitVec 32 := 1#32
  let v1062 : BitVec 32 := Scalar.subi v1061 c1_i32_427
  let c0_i32_428 : BitVec 32 := 0#32
  let v1063 : BitVec 32 := Scalar.maxsi v1062 c0_i32_428
  let c256_i32_429 : BitVec 32 := 256#32
  let v1064 : BitVec 32 := Scalar.muli v1063 c256_i32_429
  v1064
@[reducible] def k0_t22_loop : Scf.Loop 32 :=
  let c1792_i32 : BitVec 32 := 1792#32
  let c256_i32_450 : BitVec 32 := 256#32
  let v1118 : BitVec 32 := Scalar.addi c1792_i32 c256_i32_450
  let c1_i32_451 : BitVec 32 := 1#32
  ⟨c1792_i32, v1118, c1_i32_451⟩
def k0_off327 (k0_t22 : Fin k0_t22_loop.trips) : Fin 1 → Nat :=
  let c0_i32_477 : BitVec 32 := 0#32
  let c1792_i32 : BitVec 32 := 1792#32
  let c1_i32_451 : BitVec 32 := 1#32
  let arg24 : BitVec 32 := Scf.iv c1792_i32 c1_i32_451 k0_t22
  let v1191 : BitVec 32 := Scalar.addi c0_i32_477 arg24
  let v1192 : Index := Scalar.indexCast v1191
  ![v1192.toNat]
def k0_off328 (v1193 : BitVec 32) : Fin 2 → Nat :=
  let v1194 : Index := Scalar.indexCast v1193
  let c0_478 : Index := 0#32
  ![v1194.toNat, 0]

def k0_chk133 (i : grid0.Coords) (v1193 : BitVec 32) : Prop :=
  (∀ (k0_h9 : k0_cond9 i = 1#1), ∀ (k0_h13 : k0_cond13 i = 1#1), ∀ a, (k0_off328 v1193) a + S1x128.size a ≤ S50432x128.size a)
theorem k0_off328_inb : ∀ (i : grid0.Coords) (v1193 : BitVec 32) (k0_hw133 : k0_chk133 i v1193), ∀ (k0_h9 : k0_cond9 i = 1#1), ∀ (k0_h13 : k0_cond13 i = 1#1), ∀ a, (k0_off328 v1193) a + S1x128.size a ≤ S50432x128.size a := fun i v1193 k0_hw133 k0_h9 k0_h13 => k0_hw133 k0_h9 k0_h13

def k0_off329 (k0_t22 : Fin k0_t22_loop.trips) : Fin 3 → Nat :=
  let c0_479 : Index := 0#32
  let c1792_i32 : BitVec 32 := 1792#32
  let c1_i32_451 : BitVec 32 := 1#32
  let arg24 : BitVec 32 := Scf.iv c1792_i32 c1_i32_451 k0_t22
  let v1196 : Index := Scalar.indexCast arg24
  let c0_480 : Index := 0#32
  ![0, v1196.toNat, 0]
def k0_off330 (k0_t22 : Fin k0_t22_loop.trips) : Fin 1 → Nat :=
  let c2048_i32 : BitVec 32 := 2048#32
  let c1792_i32 : BitVec 32 := 1792#32
  let c1_i32_451 : BitVec 32 := 1#32
  let arg24 : BitVec 32 := Scf.iv c1792_i32 c1_i32_451 k0_t22
  let v1200 : BitVec 32 := Scalar.addi c2048_i32 arg24
  let v1201 : Index := Scalar.indexCast v1200
  ![v1201.toNat]
def k0_off331 (v1202 : BitVec 32) : Fin 2 → Nat :=
  let v1203 : Index := Scalar.indexCast v1202
  let c0_481 : Index := 0#32
  ![v1203.toNat, 0]

def k0_chk134 (i : grid0.Coords) (v1202 : BitVec 32) : Prop :=
  (∀ (k0_h9 : k0_cond9 i = 1#1), ∀ (k0_h13 : k0_cond13 i = 1#1), ∀ a, (k0_off331 v1202) a + S1x128.size a ≤ S50432x128.size a)
theorem k0_off331_inb : ∀ (i : grid0.Coords) (v1202 : BitVec 32) (k0_hw134 : k0_chk134 i v1202), ∀ (k0_h9 : k0_cond9 i = 1#1), ∀ (k0_h13 : k0_cond13 i = 1#1), ∀ a, (k0_off331 v1202) a + S1x128.size a ≤ S50432x128.size a := fun i v1202 k0_hw134 k0_h9 k0_h13 => k0_hw134 k0_h9 k0_h13

def k0_off332 (k0_t22 : Fin k0_t22_loop.trips) : Fin 3 → Nat :=
  let c1_482 : Index := 1#32
  let c1792_i32 : BitVec 32 := 1792#32
  let c1_i32_451 : BitVec 32 := 1#32
  let arg24 : BitVec 32 := Scf.iv c1792_i32 c1_i32_451 k0_t22
  let v1205 : Index := Scalar.indexCast arg24
  let c0_483 : Index := 0#32
  ![1, v1205.toNat, 0]
def k0_off333 (k0_t22 : Fin k0_t22_loop.trips) : Fin 1 → Nat :=
  let c4096_i32 : BitVec 32 := 4096#32
  let c1792_i32 : BitVec 32 := 1792#32
  let c1_i32_451 : BitVec 32 := 1#32
  let arg24 : BitVec 32 := Scf.iv c1792_i32 c1_i32_451 k0_t22
  let v1209 : BitVec 32 := Scalar.addi c4096_i32 arg24
  let v1210 : Index := Scalar.indexCast v1209
  ![v1210.toNat]
def k0_off334 (v1211 : BitVec 32) : Fin 2 → Nat :=
  let v1212 : Index := Scalar.indexCast v1211
  let c0_484 : Index := 0#32
  ![v1212.toNat, 0]

def k0_chk135 (i : grid0.Coords) (v1211 : BitVec 32) : Prop :=
  (∀ (k0_h9 : k0_cond9 i = 1#1), ∀ (k0_h13 : k0_cond13 i = 1#1), ∀ a, (k0_off334 v1211) a + S1x128.size a ≤ S50432x128.size a)
theorem k0_off334_inb : ∀ (i : grid0.Coords) (v1211 : BitVec 32) (k0_hw135 : k0_chk135 i v1211), ∀ (k0_h9 : k0_cond9 i = 1#1), ∀ (k0_h13 : k0_cond13 i = 1#1), ∀ a, (k0_off334 v1211) a + S1x128.size a ≤ S50432x128.size a := fun i v1211 k0_hw135 k0_h9 k0_h13 => k0_hw135 k0_h9 k0_h13

def k0_off335 (k0_t22 : Fin k0_t22_loop.trips) : Fin 3 → Nat :=
  let c2_485 : Index := 2#32
  let c1792_i32 : BitVec 32 := 1792#32
  let c1_i32_451 : BitVec 32 := 1#32
  let arg24 : BitVec 32 := Scf.iv c1792_i32 c1_i32_451 k0_t22
  let v1214 : Index := Scalar.indexCast arg24
  let c0_486 : Index := 0#32
  ![2, v1214.toNat, 0]
def k0_mult120 (i : grid0.Coords) : BitVec 32 :=
  let arg1 : BitVec 32 := BitVec.ofNat 32 (i 1).val
  let c9_i32 : BitVec 32 := 9#32
  let v134 : BitVec 32 := Scalar.subi arg1 c9_i32
  let c8_i32_426 : BitVec 32 := 8#32
  let v1060 : BitVec 32 := Scalar.muli v134 c8_i32_426
  let c7_i32 : BitVec 32 := 7#32
  let v1061 : BitVec 32 := Scalar.addi v1060 c7_i32
  let c256_i32_470 : BitVec 32 := 256#32
  let v1174 : BitVec 32 := Scalar.muli v1061 c256_i32_470
  v1174
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c9_i32 : BitVec 32 := 9#32
  let v1 : BitVec 32 := Scalar.subi arg1 c9_i32
  let c0_i32 : BitVec 32 := 0#32
  let v2 : BitVec 32 := Scalar.maxsi v1 c0_i32
  let c8_i32_0 : BitVec 32 := 8#32
  let v3 : BitVec 1 := Scalar.cmpi .eq arg1 c8_i32_0
  let c7_i32 : BitVec 32 := 7#32
  let c0_i32_1 : BitVec 32 := 0#32
  let v4 : BitVec 32 := Scalar.select v3 c7_i32 c0_i32_1
  let v5 : BitVec 32 := Scalar.addi v2 v4
  let v6 : BitVec 32 := Scalar.select v0 arg1 v5
  let c2_i32 : BitVec 32 := 2#32
  let v7 : BitVec 32 := Scalar.divsi arg0 c2_i32
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c0_i32_4 : BitVec 32 := 0#32
  let v13 : BitVec 1 := Scalar.cmpi .sgt c2_i32 c0_i32_4
  let v14 : BitVec 32 := Scalar.extui v13
  let c0_i32_5 : BitVec 32 := 0#32
  let v15 : BitVec 1 := Scalar.cmpi .slt c2_i32 c0_i32_5
  let v16 : BitVec 32 := Scalar.extui v15
  let v17 : BitVec 32 := Scalar.subi v14 v16
  let v18 : BitVec 1 := Scalar.cmpi .ne v12 v17
  let v19 : BitVec 32 := Scalar.remsi arg0 c2_i32
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c0_i32_7 : BitVec 32 := 0#32
  ![v6.toNat, v23.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c9_i32 : BitVec 32 := 9#32
  let v11 : BitVec 32 := Scalar.subi arg1 c9_i32
  let c0_i32_4 : BitVec 32 := 0#32
  let v12 : BitVec 32 := Scalar.maxsi v11 c0_i32_4
  let c0_i32_5 : BitVec 32 := 0#32
  let v13 : BitVec 32 := Scalar.select v10 v12 c0_i32_5
  let c2_i32_6 : BitVec 32 := 2#32
  let v14 : BitVec 32 := Scalar.divsi arg0 c2_i32_6
  let c0_i32_7 : BitVec 32 := 0#32
  let v15 : BitVec 1 := Scalar.cmpi .sgt arg0 c0_i32_7
  let v16 : BitVec 32 := Scalar.extui v15
  let c0_i32_8 : BitVec 32 := 0#32
  let v17 : BitVec 1 := Scalar.cmpi .slt arg0 c0_i32_8
  let v18 : BitVec 32 := Scalar.extui v17
  let v19 : BitVec 32 := Scalar.subi v16 v18
  let c0_i32_9 : BitVec 32 := 0#32
  let v20 : BitVec 1 := Scalar.cmpi .sgt c2_i32_6 c0_i32_9
  let v21 : BitVec 32 := Scalar.extui v20
  let c0_i32_10 : BitVec 32 := 0#32
  let v22 : BitVec 1 := Scalar.cmpi .slt c2_i32_6 c0_i32_10
  let v23 : BitVec 32 := Scalar.extui v22
  let v24 : BitVec 32 := Scalar.subi v21 v23
  let v25 : BitVec 1 := Scalar.cmpi .ne v19 v24
  let v26 : BitVec 32 := Scalar.remsi arg0 c2_i32_6
  let c0_i32_11 : BitVec 32 := 0#32
  let v27 : BitVec 1 := Scalar.cmpi .ne v26 c0_i32_11
  let v28 : BitVec 1 := Scalar.andi v25 v27
  let c1_i32_12 : BitVec 32 := 1#32
  let v29 : BitVec 32 := Scalar.subi v14 c1_i32_12
  let v30 : BitVec 32 := Scalar.select v28 v29 v14
  let c0_i32_13 : BitVec 32 := 0#32
  ![v13.toNat, v30.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S1x16384x1024 : Shape := ⟨3, ![1, 16384, 1024]⟩
abbrev S1024 : Shape := ⟨1, ![1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S16384x1024 : Shape := ⟨2, ![16384, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 15
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S_, .f32⟩
  | .hbm, ⟨9, _⟩ => ⟨S4x1024, .f32⟩
  | .hbm, ⟨10, _⟩ => ⟨S8x1024, .f32⟩
  | .hbm, ⟨11, _⟩ => ⟨S2x2x1024x5632, .bf16⟩
  | .hbm, ⟨12, _⟩ => ⟨S2x2x2816x1024, .bf16⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x16384x1024 : Shape := ⟨3, ![1, 16384, 1024]⟩
abbrev S1024 : Shape := ⟨1, ![1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 63
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1x1024x5632, .f32⟩
  | .hbm, ⟨42, _⟩ => ⟨S1024x5632, .f32⟩
  | .hbm, ⟨43, _⟩ => ⟨S1x1x2816x1024, .f32⟩
  | .hbm, ⟨44, _⟩ => ⟨S2816x1024, .f32⟩
  | .hbm, ⟨45, _⟩ => ⟨S16384x5632, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel3.lean ====
abbrev S1x16384x1024 : Shape := ⟨3, ![1, 16384, 1024]⟩
abbrev S16384x1024 : Shape := ⟨2, ![16384, 1024]⟩
abbrev S1024 : Shape := ⟨1, ![1024]⟩
abbrev S3x1024 : Shape := ⟨2, ![3, 1024]⟩
abbrev S1024x1024 : Shape := ⟨2, ![1024, 1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 24
  | .vmem => 13
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .bf16⟩
  | .hbm, ⟨2, _⟩ => ⟨S1024, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S3x1024, .f32⟩
  | .hbm, ⟨7, _⟩ => ⟨S2x2x1024x5632, .f32⟩
  | .hbm, ⟨8, _⟩ => ⟨S2x2x2816x1024, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S2x2x1024x5632, .bf16⟩
  | .hbm, ⟨16, _⟩ => ⟨S2x2x2816x1024, .bf16⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S4x1024, .f32⟩
  | .hbm, ⟨21, _⟩ => ⟨S8x1024, .f32⟩
  | .hbm, ⟨22, _⟩ => ⟨S1024x1024, .bf16⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S1024x1024, .bf16⟩
  | .local _ .vmem, ⟨6, _⟩ => ⟨S8x1024, .f32⟩
  | .local _ .vmem, ⟨7, _⟩ => ⟨S1x1x1024x5632, .bf16⟩
  | .local _ .vmem, ⟨8, _⟩ => ⟨S1x1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S1x16384x1024 : Shape := ⟨3, ![1, 16384, 1024]⟩
abbrev S16384x1024 : Shape := ⟨2, ![16384, 1024]⟩
abbrev S1024 : Shape := ⟨1, ![1024]⟩
abbrev S3x1024 : Shape := ⟨2, ![3, 1024]⟩
abbrev S1024x1024 : Shape := ⟨2, ![1024, 1024]⟩
abbrev S2x2x1024x5632 : Shape := ⟨4, ![2, 2, 1024, 5632]⟩
abbrev S2x2x2816x1024 : Shape := ⟨4, ![2, 2, 2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .bf16⟩
  | .hbm, ⟨2, _⟩ => ⟨S1024, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S3x1024, .f32⟩
  | .hbm, ⟨7, _⟩ => ⟨S2x2x1024x5632, .f32⟩
  | .hbm, ⟨8, _⟩ => ⟨S2x2x2816x1024, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1x1024x5632, .f32⟩
  | .hbm, ⟨54, _⟩ => ⟨S1024x5632, .f32⟩
  | .hbm, ⟨55, _⟩ => ⟨S1x1x2816x1024, .f32⟩
  | .hbm, ⟨56, _⟩ => ⟨S2816x1024, .f32⟩
  | .hbm, ⟨57, _⟩ => ⟨S16384x5632, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S_, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel4.lean ====
abbrev S1x16384x1024 : Shape := ⟨3, ![1, 16384, 1024]⟩
abbrev S1024 : Shape := ⟨1, ![1024]⟩
abbrev S3x1024 : Shape := ⟨2, ![3, 1024]⟩
abbrev S1x1024x6144 : Shape := ⟨3, ![1, 1024, 6144]⟩
abbrev S1x3072 : Shape := ⟨2, ![1, 3072]⟩
abbrev S1x16x128x128 : Shape := ⟨4, ![1, 16, 128, 128]⟩
abbrev S1x16x128 : Shape := ⟨3, ![1, 16, 128]⟩
abbrev S1x3072x1024 : Shape := ⟨3, ![1, 3072, 1024]⟩
abbrev S16x128 : Shape := ⟨2, ![16, 128]⟩
abbrev S128x16 : Shape := ⟨2, ![128, 16]⟩
abbrev S128x16x192 : Shape := ⟨3, ![128, 16, 192]⟩
abbrev S128x3072 : Shape := ⟨2, ![128, 3072]⟩
abbrev S16384x1024 : Shape := ⟨2, ![16384, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1024x6144 : Shape := ⟨2, ![1024, 6144]⟩
abbrev S3072 : Shape := ⟨1, ![3072]⟩
abbrev S16x128x128 : Shape := ⟨3, ![16, 128, 128]⟩
abbrev S3072x1024 : Shape := ⟨2, ![3072, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S128x128 : Shape := ⟨2, ![128, 128]⟩
abbrev S512x384 : Shape := ⟨2, ![512, 384]⟩
abbrev S1x384 : Shape := ⟨2, ![1, 384]⟩
abbrev S1024x384 : Shape := ⟨2, ![1024, 384]⟩
abbrev S1x128x128 : Shape := ⟨3, ![1, 128, 128]⟩
abbrev S128x384 : Shape := ⟨2, ![128, 384]⟩
abbrev S128x256 : Shape := ⟨2, ![128, 256]⟩

abbrev nBuf : Space → Nat
  | .hbm => 26
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S3x1024, .f32⟩
  | .hbm, ⟨3, _⟩ => ⟨S1x1024x6144, .f32⟩
  | .hbm, ⟨4, _⟩ => ⟨S1x3072, .f32⟩
  | .hbm, ⟨5, _⟩ => ⟨S1x16x128x128, .f32⟩
  | .hbm, ⟨6, _⟩ => ⟨S1x16x128, .f32⟩
  | .hbm, ⟨7, _⟩ => ⟨S1x3072x1024, .f32⟩
  | .hbm, ⟨8, _⟩ => ⟨S16x128, .f32⟩
  | .hbm, ⟨9, _⟩ => ⟨S128x16, .f32⟩
  | .hbm, ⟨10, _⟩ => ⟨S128x16x192, .f32⟩
  | .hbm, ⟨11, _⟩ => ⟨S128x3072, .f32⟩
  | .hbm, ⟨12, _⟩ => ⟨S16384x1024, .f32⟩
  | .hbm, ⟨13, _⟩ => ⟨S1x1024, .f32⟩
  | .hbm, ⟨14, _⟩ => ⟨S_, .f32⟩
  | .hbm, ⟨15, _⟩ => ⟨S4x1024, .f32⟩
  | .hbm, ⟨16, _⟩ => ⟨S8x1024, .f32⟩
  | .hbm, ⟨17, _⟩ => ⟨S1024x6144, .f32⟩
  | .hbm, ⟨18, _⟩ => ⟨S1024x6144, .bf16⟩
  | .hbm, ⟨19, _⟩ => ⟨S3072, .f32⟩
  | .hbm, ⟨20, _⟩ => ⟨S1x3072, .f32⟩
  | .hbm, ⟨21, _⟩ => ⟨S16x128x128, .f32⟩
  | .hbm, ⟨22, _⟩ => ⟨S16x128x128, .bf16⟩
  | .hbm, ⟨23, _⟩ => ⟨S3072x1024, .f32⟩
  | .hbm, ⟨24, _⟩ => ⟨S3072x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x6144, .bf16⟩
  | .local _ .vmem, ⟨4, _⟩ => ⟨S1x3072, .f32⟩
  | .local _ .vmem, ⟨5, _⟩ => ⟨S16x128x128, .bf16⟩
  | .local _ .vmem, ⟨6, _⟩ => ⟨S128x3072, .f32⟩
  | .local _ .vmem, ⟨7, _⟩ => ⟨S3072x1024, .bf16⟩
  | .local _ .vmem, ⟨8, _⟩ => ⟨S512x1024, .f32⟩
  | .local _ .vmem, ⟨9, _⟩ => ⟨S512x1024, .f32⟩
  | .local _ .vmem, ⟨10, _⟩ => ⟨S512x3072, .f32⟩
  | .local _ .vmem, ⟨11, _⟩ => ⟨S512x3072, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel4Ideal.lean ====
variable {F : FTy → Type} [FloatOps F] [Named F]
def κ : String → Option EReal := fun
  | "width_inverse" => some ((3072⁻¹ : ℝ) : EReal)
  | _ => none
-- ==== Reference4Ideal.lean ====
abbrev S1x16384x1024 : Shape := ⟨3, ![1, 16384, 1024]⟩
abbrev S1024 : Shape := ⟨1, ![1024]⟩
abbrev S3x1024 : Shape := ⟨2, ![3, 1024]⟩
abbrev S1x1024x6144 : Shape := ⟨3, ![1, 1024, 6144]⟩
abbrev S1x3072 : Shape := ⟨2, ![1, 3072]⟩
abbrev S1x16x128x128 : Shape := ⟨4, ![1, 16, 128, 128]⟩
abbrev S1x16x128 : Shape := ⟨3, ![1, 16, 128]⟩
abbrev S1x3072x1024 : Shape := ⟨3, ![1, 3072, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S16384x3072 : Shape := ⟨2, ![16384, 3072]⟩
abbrev S3072 : Shape := ⟨1, ![3072]⟩
abbrev S128x128x16x192 : Shape := ⟨4, ![128, 128, 16, 192]⟩
abbrev S128x128 : Shape := ⟨2, ![128, 128]⟩
abbrev S16x128x128 : Shape := ⟨3, ![16, 128, 128]⟩
abbrev S16x128x192x128 : Shape := ⟨4, ![16, 128, 192, 128]⟩
abbrev S16x128 : Shape := ⟨2, ![16, 128]⟩
abbrev S128x16 : Shape := ⟨2, ![128, 16]⟩
abbrev S128x16x1 : Shape := ⟨3, ![128, 16, 1]⟩
abbrev S1x128x16x1 : Shape := ⟨4, ![1, 128, 16, 1]⟩
abbrev S3072x1024 : Shape := ⟨2, ![3072, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S3x1024, .f32⟩
  | .hbm, ⟨3, _⟩ => ⟨S1x1024x6144, .f32⟩
  | .hbm, ⟨4, _⟩ => ⟨S1x3072, .f32⟩
  | .hbm, ⟨5, _⟩ => ⟨S1x16x128x128, .f32⟩
  | .hbm, ⟨6, _⟩ => ⟨S1x16x128, .f32⟩
  | .hbm, ⟨7, _⟩ => ⟨S1x3072x1024, .f32⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1024x6144, .f32⟩
  | .hbm, ⟨39, _⟩ => ⟨S16384x6144, .f32⟩
  | .hbm, ⟨40, _⟩ => ⟨S_, .f32⟩
  | .hbm, ⟨41, _⟩ => ⟨S16384x6144, .f32⟩
  | .hbm, ⟨42, _⟩ => ⟨S16384x6144, .f32⟩
  | .hbm, ⟨43, _⟩ => ⟨S16384x6144, .f32⟩
  | .hbm, ⟨44, _⟩ => ⟨S_, .f32⟩
  | .hbm, ⟨45, _⟩ => ⟨S16384x6144, .f32⟩
  | .hbm, ⟨46, _⟩ => ⟨S16384x6144, .f32⟩
  | .hbm, ⟨47, _⟩ => ⟨S16384x6144, .f32⟩
  | .hbm, ⟨48, _⟩ => ⟨S16384x6144, .f32⟩
  | .hbm, ⟨49, _⟩ => ⟨S16384x3072, .f32⟩
  | .hbm, ⟨50, _⟩ => ⟨S16384x3072, .f32⟩
  | .hbm, ⟨51, _⟩ => ⟨S3072, .f32⟩
  | .hbm, ⟨52, _⟩ => ⟨S16384x3072, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x3072, .f32⟩
  | .hbm, ⟨64, _⟩ => ⟨S16384x3072, .f32⟩
  | .hbm, ⟨65, _⟩ => ⟨S1x3072, .f32⟩
  | .hbm, ⟨66, _⟩ => ⟨S16384x3072, .f32⟩
  | .hbm, ⟨67, _⟩ => ⟨S16384x3072, .f32⟩
  | .hbm, ⟨68, _⟩ => ⟨S128x128x16x192, .f32⟩
  | .hbm, ⟨69, _⟩ => ⟨S_, .i1⟩
  | .hbm, ⟨70, _⟩ => ⟨S128x128, .i1⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i1⟩
  | .hbm, ⟨78, _⟩ => ⟨S128x128, .i1⟩
  | .hbm, ⟨79, _⟩ => ⟨S128x128, .i1⟩
  | .hbm, ⟨80, _⟩ => ⟨S16x128x128, .f32⟩
  | .hbm, ⟨81, _⟩ => ⟨S_, .i32⟩
  | .hbm, ⟨82, _⟩ => ⟨S_, .f32⟩
  | .hbm, ⟨83, _⟩ => ⟨S16x128x128, .i1⟩
  | .hbm, ⟨84, _⟩ => ⟨S16x128x128, .f32⟩
  | .hbm, ⟨85, _⟩ => ⟨S16x128x128, .f32⟩
  | .hbm, ⟨86, _⟩ => ⟨S16x128x192x128, .f32⟩
  | .hbm, ⟨87, _⟩ => ⟨S128x128x16x192, .f32⟩
  | .hbm, ⟨88, _⟩ => ⟨S16x128, .f32⟩
  | .hbm, ⟨89, _⟩ => ⟨S128x16, .f32⟩
  | .hbm, ⟨90, _⟩ => ⟨S128x16x1, .f32⟩
  | .hbm, ⟨91, _⟩ => ⟨S1x128x16x1, .f32⟩
  | .hbm, ⟨92, _⟩ => ⟨S128x128x16x192, .f32⟩
  | .hbm, ⟨93, _⟩ => ⟨S128x128x16x192, .f32⟩
  | .hbm, ⟨94, _⟩ => ⟨S1x1024, .f32⟩
  | .hbm, ⟨95, _⟩ => ⟨S1024, .f32⟩
  | .hbm, ⟨96, _⟩ => ⟨S16384x3072, .f32⟩
  | .hbm, ⟨97, _⟩ => ⟨S16384x3072, .f32⟩
  | .hbm, ⟨98, _⟩ => ⟨S3072x1024, .f32⟩
  | .hbm, ⟨99, _⟩ => ⟨S16384x1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.Safe.lean ====
/-
  Running a body without saying what it computes: `Safe c R R' p` says that from `R` the program `p` runs to its return
  holding `R'`. The rules below step over a load, a store, a word of scalar memory, a stated side condition, a branch and a
  counted loop; what a step touches is found among the permissions `R` gives (`CanLoad`, `CanStore`, `CanWord`).
-/
module

public import Idealize.ShloMosaic.Lib.Pipeline.Frame
public import Idealize.ShloMosaic.Lib.Tactic
public import Idealize.ShloMosaic.Lib.Transfers
public import Idealize.ShloMosaic.Lib.Scf

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (Pipeline.UD sig nD τ) ℕ

variable (d : Defs nD τ sig Val Λ) (c : Dev nD)

/-- From `R` the program runs to its return, holding `R'` there. -/
def Safe (R R' : sProp 𝕄) {α : Type} (p : Prog (TpuEff nD τ sig Val Λ .tc) α) : Prop :=
  R ⊢ wp frame (wpE d Variants.none (c : Thread nD τ) none) Set.univ p (fun _ => R')

/-- `R` lends a share of `m`, whatever it holds. -/
class CanLoad (R : sProp 𝕄) {sp : Space} {s : Shape} {e : EltTy} (m : Memref sig .tc sp s e) : Prop where
  lend : R ⊢ iprop(∃ q f, (m.view.loc (c : Thread nD τ) ↦[m.view.set]{q} f) ∗ ((m.view.loc (c : Thread nD τ) ↦[m.view.set]{q} f) -∗ R))

/-- `R` lends `m` whole and takes it back at any contents. -/
class CanStore (R : sProp 𝕄) {sp : Space} {s : Shape} {e : EltTy} (m : Memref sig .tc sp s e) : Prop where
  lend : R ⊢ iprop(∃ f : Buf Val (m.view.loc (c : Thread nD τ)), (m.view.loc (c : Thread nD τ) ↦[m.view.set]{fullShare} f)
    ∗ (∀ g : Buf Val (m.view.loc (c : Thread nD τ)), (m.view.loc (c : Thread nD τ) ↦[m.view.set]{fullShare} g) -∗ R))

/-- `R` lends a share of `m`, every element of which satisfies `φ`. -/
class CanWord (R : sProp 𝕄) {sp : Space} {s : Shape} {e : EltTy} (m : Memref sig .tc sp s e) (φ : outParam (Val e → Prop)) : Prop where
  lend : R ⊢ iprop(∃ q f, ⌜∀ j, φ (m.view.read Val f j)⌝ ∗ (m.view.loc (c : Thread nD τ) ↦[m.view.set]{q} f)
    ∗ ((m.view.loc (c : Thread nD τ) ↦[m.view.set]{q} f) -∗ R))

variable {d c} {α β : Type}

theorem safe_ret {R : sProp 𝕄} (a : α) : Safe d c R R (.ret a) := by
  unfold Safe; rw [wp_ret]; exact fupd_intro

theorem safe_pure {R : sProp 𝕄} (a : α) : Safe d c R R (pure a : Prog (TpuEff nD τ sig Val Λ .tc) α) := safe_ret a

theorem safe_bind {R R' R'' : sProp 𝕄} {p : Prog (TpuEff nD τ sig Val Λ .tc) α} {k : α → Prog (TpuEff nD τ sig Val Λ .tc) β}
    (hp : Safe d c R R' p) (hk : ∀ a, Safe d c R' R'' (k a)) : Safe d c R R'' (p >>= k) := by
  unfold Safe at *
  rw [wp_bind]
  exact hp.trans (wp_mono _ _ _ fun a => hk a)

/-- A branch whose two sides each run. -/
theorem safe_dite {R R' : sProp 𝕄} {P : Prop} {_ : Decidable P} {p : P → Prog (TpuEff nD τ sig Val Λ .tc) α} {q : ¬ P → Prog (TpuEff nD τ sig Val Λ .tc) α}
    (hp : ∀ h, Safe d c R R' (p h)) (hq : ∀ h, Safe d c R R' (q h)) : Safe d c R R' (dite P p q) := by
  by_cases h : P
  · rw [dif_pos h]; exact hp h
  · rw [dif_neg h]; exact hq h

/-- A load from anything that can be loaded from. -/
theorem safe_load {R R' : sProp 𝕄} {sp : CoreSpace} {s : Shape} {e : EltTy} {m : Memref sig .tc sp s e} [H : CanLoad c R m]
    {r : LoadRect s} {hl : m.view.LoadsAt r} {k : (r.shape.Idx → Val e) → Prog (TpuEff nD τ sig Val Λ .tc) α}
    (hk : ∀ v, Safe d c R R' (k v)) : Safe d c R R' ((Prog.lift (.load m r hl) : Prog (TpuEff nD τ sig Val Λ .tc) _) >>= k) := by
  unfold Safe at *
  refine H.lend.trans ?_
  show _ ⊢ wp frame _ Set.univ (.op (.load m r hl) k) _
  iintro ⟨%q, %f, Hm, Hback⟩
  iapply (wp_load (c := (c : Thread nD τ)) Variants.none none Set.univ (k := k) (S := m.view.set) (m.view.setOn_subset_set _)) $$ Hm
  iintro Hm
  iapply (hk _)
  iapply Hback $$ Hm

/-- A store, at any mask, into anything that can be stored into. -/
theorem safe_store {R R' : sProp 𝕄} {sp : CoreSpace} {s : Shape} {e : EltTy} {m : Memref sig .tc sp s e} [H : CanStore c R m]
    {r : Rect s} {w : r.shape.Idx → Val e} {Mk : Finset r.shape.Idx} {hx : (m.access r).Stores Mk} {hm : Mk = Finset.univ ∨ ∀ a, r.stride a = 1}
    {k : PUnit → Prog (TpuEff nD τ sig Val Λ .tc) α}
    (hk : ∀ v, Safe d c R R' (k v)) : Safe d c R R' ((Prog.lift (.store m r w Mk hx hm) : Prog (TpuEff nD τ sig Val Λ .tc) _) >>= k) := by
  unfold Safe at *
  refine H.lend.trans ?_
  show _ ⊢ wp frame _ Set.univ (.op (.store m r w Mk hx hm) k) _
  iintro ⟨%f, Hm, Hback⟩
  iapply (wp_store (c := (c : Thread nD τ)) Variants.none none Set.univ (k := k) (S := m.view.set)
    (((m.access r).setOn_subset_set _).trans (m.view.set_slice_subset r))) $$ Hm
  iintro Hm
  iapply (hk _)
  iapply Hback $$ Hm

/-- A word of scalar memory, of which what the buffer's words satisfy is known. -/
theorem safe_word {R R' : sProp 𝕄} {s : Shape} {e : EltTy} {m : Memref sig .tc .smem s e} {φ : Val e → Prop} [H : CanWord c R m φ]
    {r : Rect s} {h1 : r.shape.numel = 1} {hp : e.packing = 1} {k : Val e → Prog (TpuEff nD τ sig Val Λ .tc) α}
    (hk : ∀ v, φ v → Safe d c R R' (k v)) : Safe d c R R' ((smemLoad m r h1 hp : Prog (TpuEff nD τ sig Val Λ .tc) _) >>= k) := by
  unfold Safe at *
  refine H.lend.trans ?_
  show _ ⊢ wp frame _ Set.univ (smemLoadElt m r (View.loads_smem_one hp h1) _ k) _
  iintro ⟨%q, %f, %hf, Hm, Hback⟩
  iapply (wp_smemLoadElt (c := (c : Thread nD τ)) Variants.none none Set.univ (m := m) (r := r) (k := k) (S := m.view.set) (m.view.set_slice_subset r)) $$ Hm
  iintro Hm
  iapply (hk _ (hf (r.emb _)))
  iapply Hback $$ Hm

/-- A stated side condition that holds. -/
theorem safe_assume {R R' : sProp 𝕄} {P : Prop} {dP : Decidable P} {k : PLift P → Prog (TpuEff nD τ sig Val Λ .tc) α}
    (h : P) (hk : ∀ h, Safe d c R R' (k h)) : Safe d c R R' ((Prog.lift (TpuEff.assume P dP) : Prog (TpuEff nD τ sig Val Λ .tc) _) >>= k) := by
  unfold Safe at *
  refine (hk ⟨h⟩).trans ?_
  exact wp_assume (c := (c : Thread nD τ)) Variants.none none Set.univ (k := k) h

/-- A counted loop every trip of which keeps `R`. -/
theorem safe_for {R : sProp 𝕄} {w : Nat} {l : Scf.Loop w} {hok : l.OK} {σ : Type} {init : σ}
    {body : Fin l.trips → σ → Prog (TpuEff nD τ sig Val Λ .tc) σ} (h : ∀ t s, Safe d c R R (body t s)) :
    Safe d c R R (Scf.Loop.for l hok init body) := by
  unfold Safe at *
  have := Scf.wp_for frame (wpE d Variants.none (c : Thread nD τ) none) Set.univ l.lb l.ub l.st hok init body
    (fun _ _ => R) (fun t s => h t s) (Q := fun _ => R)
  refine BIBase.Entails.trans ?_ this
  iintro HR
  isplitl [HR]; · iexact HR
  iintro %s HR
  iexact HR

/-- What can be stored into can be loaded from. -/
instance (priority := low) {R : sProp 𝕄} {sp : Space} {s : Shape} {e : EltTy} {m : Memref sig .tc sp s e} [H : CanStore c R m] : CanLoad c R m where
  lend := by
    refine H.lend.trans ?_
    iintro ⟨%f, Hm, Hb⟩
    iexists fullShare, f
    isplitl [Hm]; · iexact Hm
    iintro Hm
    iapply Hb $$ %f Hm

/-- A permission kept beside resources it does not touch. -/
instance {R : sProp 𝕄} {sp : Space} {s : Shape} {e : EltTy} {m : Memref sig .tc sp s e} {F : sProp 𝕄} [H : CanLoad c R m] : CanLoad c iprop(R ∗ F) m where
  lend := by
    iintro ⟨HR, HF⟩
    ihave ⟨%q, %f, Hm, Hb⟩ := H.lend $$ HR
    iexists q, f
    isplitl [Hm]; · iexact Hm
    iintro Hm
    isplitl [Hb Hm]
    · iapply Hb $$ Hm
    iexact HF

instance {R : sProp 𝕄} {sp : Space} {s : Shape} {e : EltTy} {m : Memref sig .tc sp s e} {F : sProp 𝕄} [H : CanStore c R m] : CanStore c iprop(R ∗ F) m where
  lend := by
    iintro ⟨HR, HF⟩
    ihave ⟨%f, Hm, Hb⟩ := H.lend $$ HR
    iexists f
    isplitl [Hm]; · iexact Hm
    iintro %g Hm
    isplitl [Hb Hm]
    · iapply Hb $$ Hm
    iexact HF

instance {R : sProp 𝕄} {sp : Space} {s : Shape} {e : EltTy} {m : Memref sig .tc sp s e} {φ : Val e → Prop} {F : sProp 𝕄} [H : CanWord c R m φ] :
    CanWord c iprop(R ∗ F) m φ where
  lend := by
    iintro ⟨HR, HF⟩
    ihave ⟨%q, %f, %hf, Hm, Hb⟩ := H.lend $$ HR
    iexists q, f
    isplitr; · ipureintro; exact hf
    isplitl [Hm]; · iexact Hm
    iintro Hm
    isplitl [Hb Hm]
    · iapply Hb $$ Hm
    iexact HF

end Cert.Safe

end
-- ==== Proof.Words.lean ====
/-
  The side conditions the body states of the words it reads out of its tables, from the ranges of those words.
-/
module

public import proofs.«01_k».proof.Proof.Gen.KernelIdeal
public import Idealize.ShloMosaic.Lib.Tactic

@[expose] public section

namespace Cert.KernelIdeal.Hand

open Cert.KernelIdeal Cert.KernelIdeal.Gen
open Idealize.ShloMosaic

/-- A chunk's first row: a multiple of 8, its 256 rows inside the row buffer. -/
def Choff (v : BitVec 32) : Prop := v.toNat ≤ 50176 ∧ 8 ∣ v.toNat
/-- A chunk's key block. -/
def Chblk (v : BitVec 32) : Prop := v.toNat ≤ 63
/-- A head's number of chunks. -/
def Nch (v : BitVec 32) : Prop := v.toNat ≤ 256
/-- A query's row in the row buffer. -/
def Pos (v : BitVec 32) : Prop := v.toNat < 50432

theorem off_choff (v : BitVec 32) (h : Choff v) :
    ∀ a, (![(Scalar.indexCast v : Index).toNat, 0] : Fin 2 → Nat) a + S256x128.size a ≤ S50432x128.size a := by
  have e : (Scalar.indexCast v : Index) = v := by simp [Scalar.indexCast]
  intro a; rw [e]
  have := h.1
  match a with
  | 0 => show v.toNat + 256 ≤ 50432; omega
  | 1 => show 0 + 128 ≤ 128; omega

theorem off_pos (v : BitVec 32) (h : Pos v) :
    ∀ a, (![(Scalar.indexCast v : Index).toNat, 0] : Fin 2 → Nat) a + S1x128.size a ≤ S50432x128.size a := by
  have e : (Scalar.indexCast v : Index) = v := by simp [Scalar.indexCast]
  intro a; rw [e]
  have := h
  unfold Pos at this
  match a with
  | 0 => show v.toNat + 1 ≤ 50432; omega
  | 1 => show 0 + 128 ≤ 128; omega

theorem mul256 (v : BitVec 32) (h : Chblk v) : (Scalar.muli v 256#32).toNat = v.toNat * 256 := by
  unfold Chblk at h
  simp only [Scalar.muli, IntOp.muli, BitVec.toNat_mul, BitVec.toNat_ofNat]
  omega

theorem mult_chblk (v : BitVec 32) (h : Chblk v) : 256 ∣ (Scalar.muli v 256#32).toNat := by
  rw [mul256 v h]; exact ⟨v.toNat, Nat.mul_comm _ _⟩

theorem off_chblk (v : BitVec 32) (h : Chblk v) :
    ∀ a, (![(Scalar.indexCast (Scalar.muli v 256#32) : Index).toNat, 0] : Fin 2 → Nat) a + S256x128.size a ≤ S16384x128.size a := by
  have e : (Scalar.indexCast (Scalar.muli v 256#32) : Index) = Scalar.muli v 256#32 := by simp [Scalar.indexCast]
  intro a; rw [e]
  have h2 := h
  unfold Chblk at h2
  match a with
  | 0 => show (Scalar.muli v 256#32).toNat + 256 ≤ 16384; rw [mul256 v h]; omega
  | 1 => show 0 + 128 ≤ 128; omega

/-- A head's slot in the chunk tables, whatever slot `x` of it is asked for: the slot is held between the first and the last. -/
theorem slot_lt (a : Nat) (ha : a < 16) (v96 x : BitVec 32) (hn : Nch v96) (h3 : k0_cond3 v96 = 1#1) :
    (Scalar.addi (Scalar.muli (BitVec.ofNat 32 a) 256#32) (Scalar.minsi (Scalar.subi v96 1#32) (Scalar.maxsi 0#32 x))).toNat < 4096 := by
  have hpos : 0 < v96.toNat := by
    rcases Nat.eq_zero_or_pos v96.toNat with e | e
    · have : v96 = 0#32 := BitVec.eq_of_toNat_eq (by simpa using e)
      subst this; exact absurd h3 (by decide)
    · exact e
  unfold Nch at hn
  have hs : (Scalar.subi v96 1#32).toNat = v96.toNat - 1 := by
    simp only [Scalar.subi, IntOp.subi, BitVec.toNat_sub, BitVec.toNat_ofNat]; omega
  have hm : (Scalar.minsi (Scalar.subi v96 1#32) (Scalar.maxsi 0#32 x)).toNat ≤ 255 := by
    simp only [Scalar.minsi, IntOp.minsi]
    split
    · rw [hs]; omega
    · next h =>
      have hx : (Scalar.maxsi 0#32 x).toInt ≥ 0 := by
        simp only [Scalar.maxsi, IntOp.maxsi]
        split
        · decide
        · next h' => simp only [BitVec.slt, decide_eq_true_eq, not_lt] at h'; simpa using h'
      simp only [BitVec.slt, decide_eq_true_eq, not_lt] at h
      have h1 : (Scalar.subi v96 1#32).toInt = v96.toNat - 1 := by
        rw [BitVec.toInt_eq_toNat_cond, hs]; split <;> omega
      rw [h1] at h
      rw [BitVec.toInt_eq_toNat_cond] at h hx
      have := (Scalar.maxsi 0#32 x).isLt
      split at h <;> omega
  simp only [Scalar.addi, IntOp.addi, BitVec.toNat_add, Scalar.muli, IntOp.muli, BitVec.toNat_mul, BitVec.toNat_ofNat] at hm ⊢
  omega

theorem off_slot (i : grid0.Coords) (v96 x : BitVec 32) (hn : Nch v96) (h3 : k0_cond3 v96 = 1#1) :
    ∀ a, (![(Scalar.indexCast (Scalar.addi (Scalar.muli (BitVec.ofNat 32 (i 0).val) 256#32)
      (Scalar.minsi (Scalar.subi v96 1#32) (Scalar.maxsi 0#32 x))) : Index).toNat] : Fin 1 → Nat) a + S1.size a ≤ S4096.size a := by
  intro a
  match a with
  | 0 =>
    have h := slot_lt (i 0).val (i 0).isLt v96 x hn h3
    have e : ∀ v : BitVec 32, (Scalar.indexCast v : Index) = v := fun v => by simp [Scalar.indexCast]
    rw [e]
    exact h

theorem loops_ok : ∀ n : Fin 257, (k0_t3_loop (BitVec.ofNat 32 n.val)).OK ∧ (k0_t4_loop (BitVec.ofNat 32 n.val)).OK := by decide +kernel

theorem loop3_ok (v96 : BitVec 32) (h : Nch v96) : (k0_t3_loop v96).OK := by
  have := (loops_ok ⟨v96.toNat, Nat.lt_succ_of_le h⟩).1
  simpa using this

theorem loop4_ok (v96 : BitVec 32) (h : Nch v96) : (k0_t4_loop v96).OK := by
  have := (loops_ok ⟨v96.toNat, Nat.lt_succ_of_le h⟩).2
  simpa using this

set_option maxRecDepth 100000

theorem k0_chk1_0_ok (i : grid0.Coords) (v96 : BitVec 32) (h : Nch v96) : k0_chk1_0 i v96 := by
  unfold k0_chk1_0
  repeat' apply And.intro
  all_goals (intros; first | exact off_slot i v96 _ h ‹_› _ | exact loop3_ok v96 h)

theorem k0_chk1_1_ok (i : grid0.Coords) (v96 : BitVec 32) (h : Nch v96) : k0_chk1_1 i v96 := by
  unfold k0_chk1_1
  repeat' apply And.intro
  all_goals (intros; first | exact off_slot i v96 _ h ‹_› _ | exact loop4_ok v96 h)

theorem k0_chk1_2_ok (i : grid0.Coords) (v96 : BitVec 32) (h : Nch v96) : k0_chk1_2 i v96 := by
  unfold k0_chk1_2
  repeat' apply And.intro
  all_goals (intros; exact off_slot i v96 _ h ‹_› _)

theorem k0_chk1_ok (i : grid0.Coords) (v96 : BitVec 32) (h : Nch v96) : k0_chk1 i v96 :=
  ⟨k0_chk1_0_ok i v96 h, k0_chk1_1_ok i v96 h, k0_chk1_2_ok i v96 h⟩

theorem k0_chk2_ok (i : grid0.Coords) (v96 : BitVec 32) (v117 : BitVec 32) (h : Choff v117) : k0_chk2 i v96 v117 :=
  ⟨fun _ _ => h.2, fun _ _ => off_choff v117 h⟩
theorem k0_chk3_ok (i : grid0.Coords) (v96 : BitVec 32) (v120 : BitVec 32) (h : Chblk v120) : k0_chk3 i v96 v120 :=
  ⟨fun _ _ => mult_chblk v120 h, fun _ _ => off_chblk v120 h⟩
theorem k0_chk4_ok (i : grid0.Coords) (v96 : BitVec 32) (v142 : BitVec 32) (h : Choff v142) : k0_chk4 i v96 v142 :=
  ⟨fun _ _ => h.2, fun _ _ => off_choff v142 h⟩
theorem k0_chk5_ok (i : grid0.Coords) (v96 : BitVec 32) (v145 : BitVec 32) (h : Chblk v145) : k0_chk5 i v96 v145 :=
  ⟨fun _ _ => mult_chblk v145 h, fun _ _ => off_chblk v145 h⟩
theorem k0_chk6_ok (i : grid0.Coords) (v96 : BitVec 32) (v167 : BitVec 32) (h : Choff v167) : k0_chk6 i v96 v167 :=
  ⟨fun _ _ => h.2, fun _ _ => off_choff v167 h⟩
theorem k0_chk7_ok (i : grid0.Coords) (v96 : BitVec 32) (v170 : BitVec 32) (h : Chblk v170) : k0_chk7 i v96 v170 :=
  ⟨fun _ _ => mult_chblk v170 h, fun _ _ => off_chblk v170 h⟩
theorem k0_chk8_ok (i : grid0.Coords) (v96 : BitVec 32) (v192 : BitVec 32) (h : Choff v192) : k0_chk8 i v96 v192 :=
  ⟨fun _ _ => h.2, fun _ _ => off_choff v192 h⟩
theorem k0_chk9_ok (i : grid0.Coords) (v96 : BitVec 32) (v195 : BitVec 32) (h : Chblk v195) : k0_chk9 i v96 v195 :=
  ⟨fun _ _ => mult_chblk v195 h, fun _ _ => off_chblk v195 h⟩
theorem k0_chk10_ok (i : grid0.Coords) (v96 : BitVec 32) (v217 : BitVec 32) (h : Choff v217) : k0_chk10 i v96 v217 :=
  ⟨fun _ _ => h.2, fun _ _ => off_choff v217 h⟩
theorem k0_chk11_ok (i : grid0.Coords) (v96 : BitVec 32) (v220 : BitVec 32) (h : Chblk v220) : k0_chk11 i v96 v220 :=
  ⟨fun _ _ => mult_chblk v220 h, fun _ _ => off_chblk v220 h⟩
theorem k0_chk12_ok (i : grid0.Coords) (v96 : BitVec 32) (v242 : BitVec 32) (h : Choff v242) : k0_chk12 i v96 v242 :=
  ⟨fun _ _ => h.2, fun _ _ => off_choff v242 h⟩
theorem k0_chk13_ok (i : grid0.Coords) (v96 : BitVec 32) (v245 : BitVec 32) (h : Chblk v245) : k0_chk13 i v96 v245 :=
  ⟨fun _ _ => mult_chblk v245 h, fun _ _ => off_chblk v245 h⟩
theorem k0_chk14_ok (i : grid0.Coords) (v96 : BitVec 32) (v267 : BitVec 32) (h : Choff v267) : k0_chk14 i v96 v267 :=
  ⟨fun _ _ => h.2, fun _ _ => off_choff v267 h⟩
theorem k0_chk15_ok (i : grid0.Coords) (v96 : BitVec 32) (v270 : BitVec 32) (h : Chblk v270) : k0_chk15 i v96 v270 :=
  ⟨fun _ _ => mult_chblk v270 h, fun _ _ => off_chblk v270 h⟩
theorem k0_chk16_ok (i : grid0.Coords) (v96 : BitVec 32) (v292 : BitVec 32) (h : Choff v292) : k0_chk16 i v96 v292 :=
  ⟨fun _ _ => h.2, fun _ _ => off_choff v292 h⟩
theorem k0_chk17_ok (i : grid0.Coords) (v96 : BitVec 32) (v295 : BitVec 32) (h : Chblk v295) : k0_chk17 i v96 v295 :=
  ⟨fun _ _ => mult_chblk v295 h, fun _ _ => off_chblk v295 h⟩
theorem k0_chk18_ok (i : grid0.Coords) (v96 : BitVec 32) (v347 : BitVec 32) (h : Choff v347) : k0_chk18 i v96 v347 :=
  ⟨fun _ _ => h.2, fun _ _ => off_choff v347 h⟩
theorem k0_chk20_ok (i : grid0.Coords) (v96 : BitVec 32) (v367 : BitVec 32) (h : Choff v367) : k0_chk20 i v96 v367 :=
  ⟨fun _ _ => h.2, fun _ _ => off_choff v367 h⟩
theorem k0_chk22_ok (i : grid0.Coords) (v96 : BitVec 32) (v387 : BitVec 32) (h : Choff v387) : k0_chk22 i v96 v387 :=
  ⟨fun _ _ => h.2, fun _ _ => off_choff v387 h⟩
theorem k0_chk24_ok (i : grid0.Coords) (v96 : BitVec 32) (v407 : BitVec 32) (h : Choff v407) : k0_chk24 i v96 v407 :=
  ⟨fun _ _ => h.2, fun _ _ => off_choff v407 h⟩
theorem k0_chk26_ok (i : grid0.Coords) (v96 : BitVec 32) (v427 : BitVec 32) (h : Choff v427) : k0_chk26 i v96 v427 :=
  ⟨fun _ _ => h.2, fun _ _ => off_choff v427 h⟩
theorem k0_chk28_ok (i : grid0.Coords) (v96 : BitVec 32) (v447 : BitVec 32) (h : Choff v447) : k0_chk28 i v96 v447 :=
  ⟨fun _ _ => h.2, fun _ _ => off_choff v447 h⟩
theorem k0_chk30_ok (i : grid0.Coords) (v96 : BitVec 32) (v467 : BitVec 32) (h : Choff v467) : k0_chk30 i v96 v467 :=
  ⟨fun _ _ => h.2, fun _ _ => off_choff v467 h⟩
theorem k0_chk32_ok (i : grid0.Coords) (v96 : BitVec 32) (v487 : BitVec 32) (h : Choff v487) : k0_chk32 i v96 v487 :=
  ⟨fun _ _ => h.2, fun _ _ => off_choff v487 h⟩
theorem k0_chk35_ok (i : grid0.Coords) (v96 : BitVec 32) (v510 : BitVec 32) (h : Chblk v510) : k0_chk35 i v96 v510 :=
  ⟨fun _ _ => mult_chblk v510 h, fun _ _ => off_chblk v510 h⟩
theorem k0_chk34_ok (i : grid0.Coords) (v96 : BitVec 32) (v507 : BitVec 32) (h : Choff v507) : k0_chk34 i v96 v507 :=
  ⟨fun _ _ => h.2, fun _ _ => off_choff v507 h⟩
theorem k0_chk37_ok (i : grid0.Coords) (v96 : BitVec 32) (v530 : BitVec 32) (h : Chblk v530) : k0_chk37 i v96 v530 :=
  ⟨fun _ _ => mult_chblk v530 h, fun _ _ => off_chblk v530 h⟩
theorem k0_chk36_ok (i : grid0.Coords) (v96 : BitVec 32) (v527 : BitVec 32) (h : Choff v527) : k0_chk36 i v96 v527 :=
  ⟨fun _ _ => h.2, fun _ _ => off_choff v527 h⟩
theorem k0_chk39_ok (i : grid0.Coords) (v96 : BitVec 32) (v550 : BitVec 32) (h : Chblk v550) : k0_chk39 i v96 v550 :=
  ⟨fun _ _ => mult_chblk v550 h, fun _ _ => off_chblk v550 h⟩
theorem k0_chk38_ok (i : grid0.Coords) (v96 : BitVec 32) (v547 : BitVec 32) (h : Choff v547) : k0_chk38 i v96 v547 :=
  ⟨fun _ _ => h.2, fun _ _ => off_choff v547 h⟩
theorem k0_chk41_ok (i : grid0.Coords) (v96 : BitVec 32) (v570 : BitVec 32) (h : Chblk v570) : k0_chk41 i v96 v570 :=
  ⟨fun _ _ => mult_chblk v570 h, fun _ _ => off_chblk v570 h⟩
theorem k0_chk40_ok (i : grid0.Coords) (v96 : BitVec 32) (v567 : BitVec 32) (h : Choff v567) : k0_chk40 i v96 v567 :=
  ⟨fun _ _ => h.2, fun _ _ => off_choff v567 h⟩
theorem k0_chk43_ok (i : grid0.Coords) (v96 : BitVec 32) (v590 : BitVec 32) (h : Chblk v590) : k0_chk43 i v96 v590 :=
  ⟨fun _ _ => mult_chblk v590 h, fun _ _ => off_chblk v590 h⟩
theorem k0_chk42_ok (i : grid0.Coords) (v96 : BitVec 32) (v587 : BitVec 32) (h : Choff v587) : k0_chk42 i v96 v587 :=
  ⟨fun _ _ => h.2, fun _ _ => off_choff v587 h⟩
theorem k0_chk45_ok (i : grid0.Coords) (v96 : BitVec 32) (v610 : BitVec 32) (h : Chblk v610) : k0_chk45 i v96 v610 :=
  ⟨fun _ _ => mult_chblk v610 h, fun _ _ => off_chblk v610 h⟩
theorem k0_chk44_ok (i : grid0.Coords) (v96 : BitVec 32) (v607 : BitVec 32) (h : Choff v607) : k0_chk44 i v96 v607 :=
  ⟨fun _ _ => h.2, fun _ _ => off_choff v607 h⟩
theorem k0_chk47_ok (i : grid0.Coords) (v96 : BitVec 32) (v630 : BitVec 32) (h : Chblk v630) : k0_chk47 i v96 v630 :=
  ⟨fun _ _ => mult_chblk v630 h, fun _ _ => off_chblk v630 h⟩
theorem k0_chk46_ok (i : grid0.Coords) (v96 : BitVec 32) (v627 : BitVec 32) (h : Choff v627) : k0_chk46 i v96 v627 :=
  ⟨fun _ _ => h.2, fun _ _ => off_choff v627 h⟩
theorem k0_chk49_ok (i : grid0.Coords) (v96 : BitVec 32) (v650 : BitVec 32) (h : Chblk v650) : k0_chk49 i v96 v650 :=
  ⟨fun _ _ => mult_chblk v650 h, fun _ _ => off_chblk v650 h⟩
theorem k0_chk48_ok (i : grid0.Coords) (v96 : BitVec 32) (v647 : BitVec 32) (h : Choff v647) : k0_chk48 i v96 v647 :=
  ⟨fun _ _ => h.2, fun _ _ => off_choff v647 h⟩
theorem k0_chk19_ok (i : grid0.Coords) (v96 : BitVec 32) (v350 : BitVec 32) (h : Chblk v350) : k0_chk19 i v96 v350 :=
  ⟨fun _ _ => mult_chblk v350 h, fun _ _ => off_chblk v350 h⟩
theorem k0_chk21_ok (i : grid0.Coords) (v96 : BitVec 32) (v370 : BitVec 32) (h : Chblk v370) : k0_chk21 i v96 v370 :=
  ⟨fun _ _ => mult_chblk v370 h, fun _ _ => off_chblk v370 h⟩
theorem k0_chk23_ok (i : grid0.Coords) (v96 : BitVec 32) (v390 : BitVec 32) (h : Chblk v390) : k0_chk23 i v96 v390 :=
  ⟨fun _ _ => mult_chblk v390 h, fun _ _ => off_chblk v390 h⟩
theorem k0_chk25_ok (i : grid0.Coords) (v96 : BitVec 32) (v410 : BitVec 32) (h : Chblk v410) : k0_chk25 i v96 v410 :=
  ⟨fun _ _ => mult_chblk v410 h, fun _ _ => off_chblk v410 h⟩
theorem k0_chk27_ok (i : grid0.Coords) (v96 : BitVec 32) (v430 : BitVec 32) (h : Chblk v430) : k0_chk27 i v96 v430 :=
  ⟨fun _ _ => mult_chblk v430 h, fun _ _ => off_chblk v430 h⟩
theorem k0_chk29_ok (i : grid0.Coords) (v96 : BitVec 32) (v450 : BitVec 32) (h : Chblk v450) : k0_chk29 i v96 v450 :=
  ⟨fun _ _ => mult_chblk v450 h, fun _ _ => off_chblk v450 h⟩
theorem k0_chk31_ok (i : grid0.Coords) (v96 : BitVec 32) (v470 : BitVec 32) (h : Chblk v470) : k0_chk31 i v96 v470 :=
  ⟨fun _ _ => mult_chblk v470 h, fun _ _ => off_chblk v470 h⟩
theorem k0_chk33_ok (i : grid0.Coords) (v96 : BitVec 32) (v490 : BitVec 32) (h : Chblk v490) : k0_chk33 i v96 v490 :=
  ⟨fun _ _ => mult_chblk v490 h, fun _ _ => off_chblk v490 h⟩
theorem k0_chk50_ok (i : grid0.Coords) (v96 : BitVec 32) (v347 : BitVec 32) (h : Choff v347) : k0_chk50 i v96 v347 :=
  ⟨fun _ _ => h.2, fun _ _ => off_choff v347 h⟩
theorem k0_chk52_ok (i : grid0.Coords) (v96 : BitVec 32) (v367 : BitVec 32) (h : Choff v367) : k0_chk52 i v96 v367 :=
  ⟨fun _ _ => h.2, fun _ _ => off_choff v367 h⟩
theorem k0_chk54_ok (i : grid0.Coords) (v96 : BitVec 32) (v387 : BitVec 32) (h : Choff v387) : k0_chk54 i v96 v387 :=
  ⟨fun _ _ => h.2, fun _ _ => off_choff v387 h⟩
theorem k0_chk56_ok (i : grid0.Coords) (v96 : BitVec 32) (v407 : BitVec 32) (h : Choff v407) : k0_chk56 i v96 v407 :=
  ⟨fun _ _ => h.2, fun _ _ => off_choff v407 h⟩
theorem k0_chk58_ok (i : grid0.Coords) (v96 : BitVec 32) (v427 : BitVec 32) (h : Choff v427) : k0_chk58 i v96 v427 :=
  ⟨fun _ _ => h.2, fun _ _ => off_choff v427 h⟩
theorem k0_chk60_ok (i : grid0.Coords) (v96 : BitVec 32) (v447 : BitVec 32) (h : Choff v447) : k0_chk60 i v96 v447 :=
  ⟨fun _ _ => h.2, fun _ _ => off_choff v447 h⟩
theorem k0_chk62_ok (i : grid0.Coords) (v96 : BitVec 32) (v467 : BitVec 32) (h : Choff v467) : k0_chk62 i v96 v467 :=
  ⟨fun _ _ => h.2, fun _ _ => off_choff v467 h⟩
theorem k0_chk64_ok (i : grid0.Coords) (v96 : BitVec 32) (v487 : BitVec 32) (h : Choff v487) : k0_chk64 i v96 v487 :=
  ⟨fun _ _ => h.2, fun _ _ => off_choff v487 h⟩
theorem k0_chk67_ok (i : grid0.Coords) (v96 : BitVec 32) (v510 : BitVec 32) (h : Chblk v510) : k0_chk67 i v96 v510 :=
  ⟨fun _ _ => mult_chblk v510 h, fun _ _ => off_chblk v510 h⟩
theorem k0_chk66_ok (i : grid0.Coords) (v96 : BitVec 32) (v507 : BitVec 32) (h : Choff v507) : k0_chk66 i v96 v507 :=
  ⟨fun _ _ => h.2, fun _ _ => off_choff v507 h⟩
theorem k0_chk69_ok (i : grid0.Coords) (v96 : BitVec 32) (v530 : BitVec 32) (h : Chblk v530) : k0_chk69 i v96 v530 :=
  ⟨fun _ _ => mult_chblk v530 h, fun _ _ => off_chblk v530 h⟩
theorem k0_chk68_ok (i : grid0.Coords) (v96 : BitVec 32) (v527 : BitVec 32) (h : Choff v527) : k0_chk68 i v96 v527 :=
  ⟨fun _ _ => h.2, fun _ _ => off_choff v527 h⟩
theorem k0_chk71_ok (i : grid0.Coords) (v96 : BitVec 32) (v550 : BitVec 32) (h : Chblk v550) : k0_chk71 i v96 v550 :=
  ⟨fun _ _ => mult_chblk v550 h, fun _ _ => off_chblk v550 h⟩
theorem k0_chk70_ok (i : grid0.Coords) (v96 : BitVec 32) (v547 : BitVec 32) (h : Choff v547) : k0_chk70 i v96 v547 :=
  ⟨fun _ _ => h.2, fun _ _ => off_choff v547 h⟩
theorem k0_chk73_ok (i : grid0.Coords) (v96 : BitVec 32) (v570 : BitVec 32) (h : Chblk v570) : k0_chk73 i v96 v570 :=
  ⟨fun _ _ => mult_chblk v570 h, fun _ _ => off_chblk v570 h⟩
theorem k0_chk72_ok (i : grid0.Coords) (v96 : BitVec 32) (v567 : BitVec 32) (h : Choff v567) : k0_chk72 i v96 v567 :=
  ⟨fun _ _ => h.2, fun _ _ => off_choff v567 h⟩
theorem k0_chk75_ok (i : grid0.Coords) (v96 : BitVec 32) (v590 : BitVec 32) (h : Chblk v590) : k0_chk75 i v96 v590 :=
  ⟨fun _ _ => mult_chblk v590 h, fun _ _ => off_chblk v590 h⟩
theorem k0_chk74_ok (i : grid0.Coords) (v96 : BitVec 32) (v587 : BitVec 32) (h : Choff v587) : k0_chk74 i v96 v587 :=
  ⟨fun _ _ => h.2, fun _ _ => off_choff v587 h⟩
theorem k0_chk77_ok (i : grid0.Coords) (v96 : BitVec 32) (v610 : BitVec 32) (h : Chblk v610) : k0_chk77 i v96 v610 :=
  ⟨fun _ _ => mult_chblk v610 h, fun _ _ => off_chblk v610 h⟩
theorem k0_chk76_ok (i : grid0.Coords) (v96 : BitVec 32) (v607 : BitVec 32) (h : Choff v607) : k0_chk76 i v96 v607 :=
  ⟨fun _ _ => h.2, fun _ _ => off_choff v607 h⟩
theorem k0_chk79_ok (i : grid0.Coords) (v96 : BitVec 32) (v630 : BitVec 32) (h : Chblk v630) : k0_chk79 i v96 v630 :=
  ⟨fun _ _ => mult_chblk v630 h, fun _ _ => off_chblk v630 h⟩
theorem k0_chk78_ok (i : grid0.Coords) (v96 : BitVec 32) (v627 : BitVec 32) (h : Choff v627) : k0_chk78 i v96 v627 :=
  ⟨fun _ _ => h.2, fun _ _ => off_choff v627 h⟩
theorem k0_chk81_ok (i : grid0.Coords) (v96 : BitVec 32) (v650 : BitVec 32) (h : Chblk v650) : k0_chk81 i v96 v650 :=
  ⟨fun _ _ => mult_chblk v650 h, fun _ _ => off_chblk v650 h⟩
theorem k0_chk80_ok (i : grid0.Coords) (v96 : BitVec 32) (v647 : BitVec 32) (h : Choff v647) : k0_chk80 i v96 v647 :=
  ⟨fun _ _ => h.2, fun _ _ => off_choff v647 h⟩
theorem k0_chk51_ok (i : grid0.Coords) (v96 : BitVec 32) (v350 : BitVec 32) (h : Chblk v350) : k0_chk51 i v96 v350 :=
  ⟨fun _ _ => mult_chblk v350 h, fun _ _ => off_chblk v350 h⟩
theorem k0_chk53_ok (i : grid0.Coords) (v96 : BitVec 32) (v370 : BitVec 32) (h : Chblk v370) : k0_chk53 i v96 v370 :=
  ⟨fun _ _ => mult_chblk v370 h, fun _ _ => off_chblk v370 h⟩
theorem k0_chk55_ok (i : grid0.Coords) (v96 : BitVec 32) (v390 : BitVec 32) (h : Chblk v390) : k0_chk55 i v96 v390 :=
  ⟨fun _ _ => mult_chblk v390 h, fun _ _ => off_chblk v390 h⟩
theorem k0_chk57_ok (i : grid0.Coords) (v96 : BitVec 32) (v410 : BitVec 32) (h : Chblk v410) : k0_chk57 i v96 v410 :=
  ⟨fun _ _ => mult_chblk v410 h, fun _ _ => off_chblk v410 h⟩
theorem k0_chk59_ok (i : grid0.Coords) (v96 : BitVec 32) (v430 : BitVec 32) (h : Chblk v430) : k0_chk59 i v96 v430 :=
  ⟨fun _ _ => mult_chblk v430 h, fun _ _ => off_chblk v430 h⟩
theorem k0_chk61_ok (i : grid0.Coords) (v96 : BitVec 32) (v450 : BitVec 32) (h : Chblk v450) : k0_chk61 i v96 v450 :=
  ⟨fun _ _ => mult_chblk v450 h, fun _ _ => off_chblk v450 h⟩
theorem k0_chk63_ok (i : grid0.Coords) (v96 : BitVec 32) (v470 : BitVec 32) (h : Chblk v470) : k0_chk63 i v96 v470 :=
  ⟨fun _ _ => mult_chblk v470 h, fun _ _ => off_chblk v470 h⟩
theorem k0_chk65_ok (i : grid0.Coords) (v96 : BitVec 32) (v490 : BitVec 32) (h : Chblk v490) : k0_chk65 i v96 v490 :=
  ⟨fun _ _ => mult_chblk v490 h, fun _ _ => off_chblk v490 h⟩
theorem k0_chk82_ok (i : grid0.Coords) (v139 : BitVec 32) (h : Pos v139) : k0_chk82 i v139 :=
  fun _ _ => off_pos v139 h
theorem k0_chk83_ok (i : grid0.Coords) (v146 : BitVec 32) (h : Pos v146) : k0_chk83 i v146 :=
  fun _ _ => off_pos v146 h
theorem k0_chk84_ok (i : grid0.Coords) (v153 : BitVec 32) (h : Pos v153) : k0_chk84 i v153 :=
  fun _ _ => off_pos v153 h
theorem k0_chk85_ok (i : grid0.Coords) (v1193 : BitVec 32) (h : Pos v1193) : k0_chk85 i v1193 :=
  fun _ _ => off_pos v1193 h
theorem k0_chk86_ok (i : grid0.Coords) (v1202 : BitVec 32) (h : Pos v1202) : k0_chk86 i v1202 :=
  fun _ _ => off_pos v1202 h
theorem k0_chk87_ok (i : grid0.Coords) (v1211 : BitVec 32) (h : Pos v1211) : k0_chk87 i v1211 :=
  fun _ _ => off_pos v1211 h
theorem k0_chk88_ok (i : grid0.Coords) (v1193 : BitVec 32) (h : Pos v1193) : k0_chk88 i v1193 :=
  fun _ _ => off_pos v1193 h
theorem k0_chk89_ok (i : grid0.Coords) (v1202 : BitVec 32) (h : Pos v1202) : k0_chk89 i v1202 :=
  fun _ _ => off_pos v1202 h
theorem k0_chk90_ok (i : grid0.Coords) (v1211 : BitVec 32) (h : Pos v1211) : k0_chk90 i v1211 :=
  fun _ _ => off_pos v1211 h
theorem k0_chk91_ok (i : grid0.Coords) (v1193 : BitVec 32) (h : Pos v1193) : k0_chk91 i v1193 :=
  fun _ _ => off_pos v1193 h
theorem k0_chk92_ok (i : grid0.Coords) (v1202 : BitVec 32) (h : Pos v1202) : k0_chk92 i v1202 :=
  fun _ _ => off_pos v1202 h
theorem k0_chk93_ok (i : grid0.Coords) (v1211 : BitVec 32) (h : Pos v1211) : k0_chk93 i v1211 :=
  fun _ _ => off_pos v1211 h
theorem k0_chk94_ok (i : grid0.Coords) (v1193 : BitVec 32) (h : Pos v1193) : k0_chk94 i v1193 :=
  fun _ _ => off_pos v1193 h
theorem k0_chk95_ok (i : grid0.Coords) (v1202 : BitVec 32) (h : Pos v1202) : k0_chk95 i v1202 :=
  fun _ _ => off_pos v1202 h
theorem k0_chk96_ok (i : grid0.Coords) (v1211 : BitVec 32) (h : Pos v1211) : k0_chk96 i v1211 :=
  fun _ _ => off_pos v1211 h
theorem k0_chk97_ok (i : grid0.Coords) (v1193 : BitVec 32) (h : Pos v1193) : k0_chk97 i v1193 :=
  fun _ _ => off_pos v1193 h
theorem k0_chk98_ok (i : grid0.Coords) (v1202 : BitVec 32) (h : Pos v1202) : k0_chk98 i v1202 :=
  fun _ _ => off_pos v1202 h
theorem k0_chk99_ok (i : grid0.Coords) (v1211 : BitVec 32) (h : Pos v1211) : k0_chk99 i v1211 :=
  fun _ _ => off_pos v1211 h
theorem k0_chk100_ok (i : grid0.Coords) (v1193 : BitVec 32) (h : Pos v1193) : k0_chk100 i v1193 :=
  fun _ _ => off_pos v1193 h
theorem k0_chk101_ok (i : grid0.Coords) (v1202 : BitVec 32) (h : Pos v1202) : k0_chk101 i v1202 :=
  fun _ _ => off_pos v1202 h
theorem k0_chk102_ok (i : grid0.Coords) (v1211 : BitVec 32) (h : Pos v1211) : k0_chk102 i v1211 :=
  fun _ _ => off_pos v1211 h
theorem k0_chk103_ok (i : grid0.Coords) (v1193 : BitVec 32) (h : Pos v1193) : k0_chk103 i v1193 :=
  fun _ _ => off_pos v1193 h
theorem k0_chk104_ok (i : grid0.Coords) (v1202 : BitVec 32) (h : Pos v1202) : k0_chk104 i v1202 :=
  fun _ _ => off_pos v1202 h
theorem k0_chk105_ok (i : grid0.Coords) (v1211 : BitVec 32) (h : Pos v1211) : k0_chk105 i v1211 :=
  fun _ _ => off_pos v1211 h
theorem k0_chk106_ok (i : grid0.Coords) (v1193 : BitVec 32) (h : Pos v1193) : k0_chk106 i v1193 :=
  fun _ _ => off_pos v1193 h
theorem k0_chk107_ok (i : grid0.Coords) (v1202 : BitVec 32) (h : Pos v1202) : k0_chk107 i v1202 :=
  fun _ _ => off_pos v1202 h
theorem k0_chk108_ok (i : grid0.Coords) (v1211 : BitVec 32) (h : Pos v1211) : k0_chk108 i v1211 :=
  fun _ _ => off_pos v1211 h
theorem k0_chk109_ok (i : grid0.Coords) (v139 : BitVec 32) (h : Pos v139) : k0_chk109 i v139 :=
  fun _ _ => off_pos v139 h
theorem k0_chk110_ok (i : grid0.Coords) (v146 : BitVec 32) (h : Pos v146) : k0_chk110 i v146 :=
  fun _ _ => off_pos v146 h
theorem k0_chk111_ok (i : grid0.Coords) (v153 : BitVec 32) (h : Pos v153) : k0_chk111 i v153 :=
  fun _ _ => off_pos v153 h
theorem k0_chk112_ok (i : grid0.Coords) (v1193 : BitVec 32) (h : Pos v1193) : k0_chk112 i v1193 :=
  fun _ _ => off_pos v1193 h
theorem k0_chk113_ok (i : grid0.Coords) (v1202 : BitVec 32) (h : Pos v1202) : k0_chk113 i v1202 :=
  fun _ _ => off_pos v1202 h
theorem k0_chk114_ok (i : grid0.Coords) (v1211 : BitVec 32) (h : Pos v1211) : k0_chk114 i v1211 :=
  fun _ _ => off_pos v1211 h
theorem k0_chk115_ok (i : grid0.Coords) (v1193 : BitVec 32) (h : Pos v1193) : k0_chk115 i v1193 :=
  fun _ _ => off_pos v1193 h
theorem k0_chk116_ok (i : grid0.Coords) (v1202 : BitVec 32) (h : Pos v1202) : k0_chk116 i v1202 :=
  fun _ _ => off_pos v1202 h
theorem k0_chk117_ok (i : grid0.Coords) (v1211 : BitVec 32) (h : Pos v1211) : k0_chk117 i v1211 :=
  fun _ _ => off_pos v1211 h
theorem k0_chk118_ok (i : grid0.Coords) (v1193 : BitVec 32) (h : Pos v1193) : k0_chk118 i v1193 :=
  fun _ _ => off_pos v1193 h
theorem k0_chk119_ok (i : grid0.Coords) (v1202 : BitVec 32) (h : Pos v1202) : k0_chk119 i v1202 :=
  fun _ _ => off_pos v1202 h
theorem k0_chk120_ok (i : grid0.Coords) (v1211 : BitVec 32) (h : Pos v1211) : k0_chk120 i v1211 :=
  fun _ _ => off_pos v1211 h
theorem k0_chk121_ok (i : grid0.Coords) (v1193 : BitVec 32) (h : Pos v1193) : k0_chk121 i v1193 :=
  fun _ _ => off_pos v1193 h
theorem k0_chk122_ok (i : grid0.Coords) (v1202 : BitVec 32) (h : Pos v1202) : k0_chk122 i v1202 :=
  fun _ _ => off_pos v1202 h
theorem k0_chk123_ok (i : grid0.Coords) (v1211 : BitVec 32) (h : Pos v1211) : k0_chk123 i v1211 :=
  fun _ _ => off_pos v1211 h
theorem k0_chk124_ok (i : grid0.Coords) (v1193 : BitVec 32) (h : Pos v1193) : k0_chk124 i v1193 :=
  fun _ _ => off_pos v1193 h
theorem k0_chk125_ok (i : grid0.Coords) (v1202 : BitVec 32) (h : Pos v1202) : k0_chk125 i v1202 :=
  fun _ _ => off_pos v1202 h
theorem k0_chk126_ok (i : grid0.Coords) (v1211 : BitVec 32) (h : Pos v1211) : k0_chk126 i v1211 :=
  fun _ _ => off_pos v1211 h
theorem k0_chk127_ok (i : grid0.Coords) (v1193 : BitVec 32) (h : Pos v1193) : k0_chk127 i v1193 :=
  fun _ _ => off_pos v1193 h
theorem k0_chk128_ok (i : grid0.Coords) (v1202 : BitVec 32) (h : Pos v1202) : k0_chk128 i v1202 :=
  fun _ _ => off_pos v1202 h
theorem k0_chk129_ok (i : grid0.Coords) (v1211 : BitVec 32) (h : Pos v1211) : k0_chk129 i v1211 :=
  fun _ _ => off_pos v1211 h
theorem k0_chk130_ok (i : grid0.Coords) (v1193 : BitVec 32) (h : Pos v1193) : k0_chk130 i v1193 :=
  fun _ _ => off_pos v1193 h
theorem k0_chk131_ok (i : grid0.Coords) (v1202 : BitVec 32) (h : Pos v1202) : k0_chk131 i v1202 :=
  fun _ _ => off_pos v1202 h
theorem k0_chk132_ok (i : grid0.Coords) (v1211 : BitVec 32) (h : Pos v1211) : k0_chk132 i v1211 :=
  fun _ _ => off_pos v1211 h
theorem k0_chk133_ok (i : grid0.Coords) (v1193 : BitVec 32) (h : Pos v1193) : k0_chk133 i v1193 :=
  fun _ _ => off_pos v1193 h
theorem k0_chk134_ok (i : grid0.Coords) (v1202 : BitVec 32) (h : Pos v1202) : k0_chk134 i v1202 :=
  fun _ _ => off_pos v1202 h
theorem k0_chk135_ok (i : grid0.Coords) (v1211 : BitVec 32) (h : Pos v1211) : k0_chk135 i v1211 :=
  fun _ _ => off_pos v1211 h

end Cert.KernelIdeal.Hand
-- ==== Proof.Parts.lean ====
/-
  Each stretch of the body, and each trip of its loops, keeps the permissions it starts with.
-/
module

public import proofs.«01_k».proof.Proof.Gen.KernelIdeal.Launch
public import proofs.«01_k».proof.Proof.Gen.KernelIdeal.Skeleton
public import proofs.«01_k».proof.Proof.Safe
public import proofs.«01_k».proof.Proof.Words

@[expose] public section

set_option maxRecDepth 65536
set_option maxHeartbeats 4000000
set_option cleanup.letToHave false
set_option Elab.async true

noncomputable section

namespace Cert.KernelIdeal.Hand

open Cert.KernelIdeal Cert.KernelIdeal.Gen Cert.Safe
open Idealize.ShloMosaic Idealize.ShloMosaic.TcCoe Idealize.ShloMosaic.Tactic
open Idealize.SL Idealize.SL.RA Idealize.SL.BI Idealize.SL.Sem

variable {F : FTy → Type} [FloatOps F]

variable {i : grid0.Coords} {arg2 : Memref sig .tc .smem S4096 .i32} {harg2 : arg2.IsWhole} {arg3 : Memref sig .tc .smem S4096 .i32} {harg3 : arg3.IsWhole} {arg4 : Memref sig .tc .smem S4096 .i32} {harg4 : arg4.IsWhole} {arg5 : Memref sig .tc .smem S16 .i32} {harg5 : arg5.IsWhole} {arg6 : Memref sig .tc .smem S16 .f32} {harg6 : arg6.IsWhole} {arg7 : Memref sig .tc .vmem S2048x128 .f32} {harg7 : arg7.IsWhole} {arg8 : Memref sig .tc .hbm S786432 .i32} {harg8 : arg8.IsWhole} {arg9 : Memref sig .tc .vmem S16384x128 .bf16} {harg9 : arg9.IsWhole} {arg10 : Memref sig .tc .vmem S16384x128 .bf16} {harg10 : arg10.IsWhole} {arg11 : Memref sig .tc .vmem S2048x128 .f32} {harg11 : arg11.IsWhole} {arg12 : Memref sig .tc .vmem S1x256x256 .f32} {harg12 : arg12.IsWhole} {arg13 : Memref sig .tc .vmem S1x256x256 .f32} {harg13 : arg13.IsWhole} {arg14 : Memref sig .tc .vmem S2048x128 .bf16} {harg14 : arg14.IsWhole} {arg15 : Memref sig .tc .vmem S50432x128 .f32} {harg15 : arg15.IsWhole} {arg16 : Memref sig .tc .vmem S3x2048x128 .f32} {harg16 : arg16.IsWhole} {arg17 : Memref sig .tc .vmem S16384x128 .bf16} {harg17 : arg17.IsWhole} {arg18 : Memref sig .tc .vmem S8x256x256 .f32} {harg18 : arg18.IsWhole} {arg19 : Memref sig .tc .vmem S8x256x256 .bf16} {harg19 : arg19.IsWhole} {arg20 : Memref sig .tc .vmem S8x256x128 .f32} {harg20 : arg20.IsWhole} {arg21 : Memref sig .tc .smem S6144 .i32} {harg21 : arg21.IsWhole} {arg22 : Memref sig .tc .smem S6144 .i32} {harg22 : arg22.IsWhole} {arg23 : DmaSems sig S2}
variable {c : Dev nD} {R : sProp (MT nD τ sig Unit (Elt F) ℕ (Pipeline.UD sig nD τ) ℕ)}
  [CanWord c R arg2 (fun v : Elt F .i32 => Choff v)] [CanWord c R arg3 (fun v : Elt F .i32 => Chblk v)] [CanWord c R arg4 (fun v : Elt F .i32 => True)]
  [CanWord c R arg5 (fun v : Elt F .i32 => Nch v)] [CanWord c R arg6 (fun v : Elt F .f32 => True)]
  [CanLoad c R arg7] [CanLoad c R arg9] [CanLoad c R arg10] [CanLoad c R arg11] [CanLoad c R arg12] [CanLoad c R arg13]
  [CanStore c R arg14] [CanStore c R arg15] [CanStore c R arg16] [CanStore c R arg17] [CanStore c R arg18] [CanStore c R arg19] [CanStore c R arg20]

theorem safe_k0_t14 {k0_h9 : k0_cond9 i = 1#1} {k0_h12 : k0_cond12 i = 1#1} [CanWord c R arg22 (fun v : Elt F .i32 => Pos v)] : ∀ t s,
    Safe defs₀ c R R (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h9 k0_h12 t s) := by
  intro t s
  unfold k0_t14_body
  refine safe_load fun v136 => ?_
  refine safe_word fun v139 hv139 => ?_
  refine safe_assume (k0_chk109_ok _ _ hv139) fun k0_hw109 => ?_
  refine safe_load fun v141 => ?_
  refine safe_store fun _ => ?_
  refine safe_word fun v146 hv146 => ?_
  refine safe_assume (k0_chk110_ok _ _ hv146) fun k0_hw110 => ?_
  refine safe_load fun v148 => ?_
  refine safe_store fun _ => ?_
  refine safe_word fun v153 hv153 => ?_
  refine safe_assume (k0_chk111_ok _ _ hv153) fun k0_hw111 => ?_
  refine safe_load fun v155 => ?_
  refine safe_store fun _ => ?_
  exact safe_pure _

theorem safe_k0_part1 {arg0 : BitVec 32} {k0_h2 : k0_cond2 i = 1#1} {v96 : Elt F .i32} {k0_hw1 : k0_chk1 i v96} {k0_h3 : k0_cond3 v96 = 1#1} {c0_i32_143 : BitVec 32} {c1_i32_146 : BitVec 32} {k0_t3 : Fin (k0_t3_loop v96).trips} :
    Safe defs₀ c R R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 c0_i32_143 c1_i32_146 k0_t3) := by
  rw [k0_part1_eq_skeleton]
  unfold k0_part1_skel
  refine safe_word fun v347 hv347 => ?_
  refine safe_assume (k0_chk18_ok _ _ _ hv347) fun k0_hw18 => ?_
  refine safe_word fun v350 hv350 => ?_
  refine safe_assume (k0_chk19_ok _ _ _ hv350) fun k0_hw19 => ?_
  refine safe_word fun v357 hv357 => ?_
  refine safe_word fun v367 hv367 => ?_
  refine safe_assume (k0_chk20_ok _ _ _ hv367) fun k0_hw20 => ?_
  refine safe_word fun v370 hv370 => ?_
  refine safe_assume (k0_chk21_ok _ _ _ hv370) fun k0_hw21 => ?_
  exact safe_pure _

theorem safe_k0_part2 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v375 : BitVec 1} :
    Safe defs₀ c R R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v375) := by
  rw [k0_part2_eq_skeleton]
  unfold k0_part2_skel
  refine safe_word fun v377 hv377 => ?_
  refine safe_word fun v387 hv387 => ?_
  refine safe_assume (k0_chk22_ok _ _ _ hv387) fun k0_hw22 => ?_
  refine safe_word fun v390 hv390 => ?_
  refine safe_assume (k0_chk23_ok _ _ _ hv390) fun k0_hw23 => ?_
  refine safe_word fun v397 hv397 => ?_
  refine safe_word fun v407 hv407 => ?_
  refine safe_assume (k0_chk24_ok _ _ _ hv407) fun k0_hw24 => ?_
  refine safe_word fun v410 hv410 => ?_
  refine safe_assume (k0_chk25_ok _ _ _ hv410) fun k0_hw25 => ?_
  exact safe_pure _

theorem safe_k0_part3 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v415 : BitVec 1} :
    Safe defs₀ c R R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v415) := by
  rw [k0_part3_eq_skeleton]
  unfold k0_part3_skel
  refine safe_word fun v417 hv417 => ?_
  refine safe_word fun v427 hv427 => ?_
  refine safe_assume (k0_chk26_ok _ _ _ hv427) fun k0_hw26 => ?_
  refine safe_word fun v430 hv430 => ?_
  refine safe_assume (k0_chk27_ok _ _ _ hv430) fun k0_hw27 => ?_
  refine safe_word fun v437 hv437 => ?_
  refine safe_word fun v447 hv447 => ?_
  refine safe_assume (k0_chk28_ok _ _ _ hv447) fun k0_hw28 => ?_
  refine safe_word fun v450 hv450 => ?_
  refine safe_assume (k0_chk29_ok _ _ _ hv450) fun k0_hw29 => ?_
  exact safe_pure _

theorem safe_k0_part4 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v455 : BitVec 1} :
    Safe defs₀ c R R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v455) := by
  rw [k0_part4_eq_skeleton]
  unfold k0_part4_skel
  refine safe_word fun v457 hv457 => ?_
  refine safe_word fun v467 hv467 => ?_
  refine safe_assume (k0_chk30_ok _ _ _ hv467) fun k0_hw30 => ?_
  refine safe_word fun v470 hv470 => ?_
  refine safe_assume (k0_chk31_ok _ _ _ hv470) fun k0_hw31 => ?_
  refine safe_word fun v477 hv477 => ?_
  refine safe_word fun v487 hv487 => ?_
  refine safe_assume (k0_chk32_ok _ _ _ hv487) fun k0_hw32 => ?_
  refine safe_word fun v490 hv490 => ?_
  refine safe_assume (k0_chk33_ok _ _ _ hv490) fun k0_hw33 => ?_
  exact safe_pure _

theorem safe_k0_part5 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v495 : BitVec 1} :
    Safe defs₀ c R R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v495) := by
  rw [k0_part5_eq_skeleton]
  unfold k0_part5_skel
  refine safe_word fun v497 hv497 => ?_
  refine safe_word fun v507 hv507 => ?_
  refine safe_assume (k0_chk34_ok _ _ _ hv507) fun k0_hw34 => ?_
  refine safe_word fun v510 hv510 => ?_
  refine safe_assume (k0_chk35_ok _ _ _ hv510) fun k0_hw35 => ?_
  refine safe_word fun v517 hv517 => ?_
  refine safe_word fun v527 hv527 => ?_
  refine safe_assume (k0_chk36_ok _ _ _ hv527) fun k0_hw36 => ?_
  refine safe_word fun v530 hv530 => ?_
  refine safe_assume (k0_chk37_ok _ _ _ hv530) fun k0_hw37 => ?_
  exact safe_pure _

theorem safe_k0_part6 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v535 : BitVec 1} :
    Safe defs₀ c R R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v535) := by
  rw [k0_part6_eq_skeleton]
  unfold k0_part6_skel
  refine safe_word fun v537 hv537 => ?_
  refine safe_word fun v547 hv547 => ?_
  refine safe_assume (k0_chk38_ok _ _ _ hv547) fun k0_hw38 => ?_
  refine safe_word fun v550 hv550 => ?_
  refine safe_assume (k0_chk39_ok _ _ _ hv550) fun k0_hw39 => ?_
  refine safe_word fun v557 hv557 => ?_
  refine safe_word fun v567 hv567 => ?_
  refine safe_assume (k0_chk40_ok _ _ _ hv567) fun k0_hw40 => ?_
  refine safe_word fun v570 hv570 => ?_
  refine safe_assume (k0_chk41_ok _ _ _ hv570) fun k0_hw41 => ?_
  exact safe_pure _

theorem safe_k0_part7 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v575 : BitVec 1} :
    Safe defs₀ c R R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v575) := by
  rw [k0_part7_eq_skeleton]
  unfold k0_part7_skel
  refine safe_word fun v577 hv577 => ?_
  refine safe_word fun v587 hv587 => ?_
  refine safe_assume (k0_chk42_ok _ _ _ hv587) fun k0_hw42 => ?_
  refine safe_word fun v590 hv590 => ?_
  refine safe_assume (k0_chk43_ok _ _ _ hv590) fun k0_hw43 => ?_
  refine safe_word fun v597 hv597 => ?_
  refine safe_word fun v607 hv607 => ?_
  refine safe_assume (k0_chk44_ok _ _ _ hv607) fun k0_hw44 => ?_
  refine safe_word fun v610 hv610 => ?_
  refine safe_assume (k0_chk45_ok _ _ _ hv610) fun k0_hw45 => ?_
  exact safe_pure _

theorem safe_k0_part8 {arg0 : BitVec 32} {k0_h2 : k0_cond2 i = 1#1} {v96 : Elt F .i32} {k0_hw1 : k0_chk1 i v96} {k0_h3 : k0_cond3 v96 = 1#1} {k0_t3 : Fin (k0_t3_loop v96).trips} {v338 : BitVec 32} {v615 : BitVec 1} :
    Safe defs₀ c R R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t3 v338 v615) := by
  rw [k0_part8_eq_skeleton]
  unfold k0_part8_skel
  refine safe_word fun v617 hv617 => ?_
  refine safe_word fun v627 hv627 => ?_
  refine safe_assume (k0_chk46_ok _ _ _ hv627) fun k0_hw46 => ?_
  refine safe_word fun v630 hv630 => ?_
  refine safe_assume (k0_chk47_ok _ _ _ hv630) fun k0_hw47 => ?_
  refine safe_word fun v637 hv637 => ?_
  refine safe_word fun v647 hv647 => ?_
  refine safe_assume (k0_chk48_ok _ _ _ hv647) fun k0_hw48 => ?_
  refine safe_word fun v650 hv650 => ?_
  refine safe_assume (k0_chk49_ok _ _ _ hv650) fun k0_hw49 => ?_
  exact safe_pure _

theorem safe_k0_part9 {v36 : IVec S1x128 1} {k0_h2 : k0_cond2 i = 1#1} {v96 : Elt F .i32} {k0_hw1 : k0_chk1 i v96} {k0_h3 : k0_cond3 v96 = 1#1} {k0_t3 : Fin (k0_t3_loop v96).trips} {v347 : Elt F .i32} {k0_hw18 : k0_chk18 i v96 v347} {v348 : BitVec 32} {v367 : Elt F .i32} {k0_hw20 : k0_chk20 i v96 v367} {v368 : BitVec 32} {v387 : Elt F .i32} {k0_hw22 : k0_chk22 i v96 v387} {v388 : BitVec 32} {v407 : Elt F .i32} {k0_hw24 : k0_chk24 i v96 v407} {v408 : BitVec 32} {v427 : Elt F .i32} {k0_hw26 : k0_chk26 i v96 v427} {v428 : BitVec 32} {v447 : Elt F .i32} {k0_hw28 : k0_chk28 i v96 v447} {v448 : BitVec 32} {v467 : Elt F .i32} {k0_hw30 : k0_chk30 i v96 v467} {v468 : BitVec 32} {v655 : BitVec 1} :
    Safe defs₀ c R R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 k0_h2 v96 k0_hw1 k0_h3 k0_t3 v347 k0_hw18 v348 v367 k0_hw20 v368 v387 k0_hw22 v388 v407 k0_hw24 v408 v427 k0_hw26 v428 v447 k0_hw28 v448 v467 k0_hw30 v468 v655) := by
  rw [k0_part9_eq_skeleton]
  unfold k0_part9_skel
  refine safe_word fun v657 hv657 => ?_
  refine safe_load fun v660 => ?_
  refine safe_load fun v667 => ?_
  refine safe_load fun v674 => ?_
  refine safe_load fun v681 => ?_
  refine safe_load fun v688 => ?_
  refine safe_load fun v695 => ?_
  refine safe_load fun v702 => ?_
  exact safe_pure _

theorem safe_k0_part10 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v487 : Elt F .i32} {k0_hw32 : k0_chk32 i v96 v487} {v488 : BitVec 32} {v507 : Elt F .i32} {k0_hw34 : k0_chk34 i v96 v507} {v508 : BitVec 32} {v510 : Elt F .i32} {k0_hw35 : k0_chk35 i v96 v510} {v512 : BitVec 32} {v518 : BitVec 32} {v530 : Elt F .i32} {k0_hw37 : k0_chk37 i v96 v530} {v532 : BitVec 32} {v702 : Vec F S256x128 .f32} :
    Safe defs₀ c R R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v487 k0_hw32 v488 v507 k0_hw34 v508 v510 k0_hw35 v512 v518 v530 k0_hw37 v532 v702) := by
  rw [k0_part10_eq_skeleton]
  unfold k0_part10_skel
  refine safe_load fun v709 => ?_
  refine safe_load fun v715 => ?_
  refine safe_load fun v718 => ?_
  refine safe_load fun v724 => ?_
  refine safe_load fun v734 => ?_
  refine safe_store fun _ => ?_
  refine safe_load fun v738 => ?_
  refine safe_load fun v741 => ?_
  exact safe_pure _

theorem safe_k0_part11 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v527 : Elt F .i32} {k0_hw36 : k0_chk36 i v96 v527} {v528 : BitVec 32} {v538 : BitVec 32} {v547 : Elt F .i32} {k0_hw38 : k0_chk38 i v96 v547} {v548 : BitVec 32} {v550 : Elt F .i32} {k0_hw39 : k0_chk39 i v96 v550} {v552 : BitVec 32} {v558 : BitVec 32} {v572 : BitVec 32} {v739 : FVec F S256x256 .bf16} {v745 : Vec F S256x128 .bf16} :
    Safe defs₀ c R R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v527 k0_hw36 v528 v538 v547 k0_hw38 v548 v550 k0_hw39 v552 v558 v572 v739 v745) := by
  rw [k0_part11_eq_skeleton]
  unfold k0_part11_skel
  refine safe_load fun v747 => ?_
  refine safe_load fun v757 => ?_
  refine safe_store fun _ => ?_
  refine safe_load fun v761 => ?_
  refine safe_load fun v764 => ?_
  refine safe_load fun v770 => ?_
  refine safe_load fun v780 => ?_
  refine safe_store fun _ => ?_
  refine safe_load fun v784 => ?_
  exact safe_pure _

theorem safe_k0_part12 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v567 : Elt F .i32} {k0_hw40 : k0_chk40 i v96 v567} {v568 : BitVec 32} {v570 : Elt F .i32} {k0_hw41 : k0_chk41 i v96 v570} {v578 : BitVec 32} {v587 : Elt F .i32} {k0_hw42 : k0_chk42 i v96 v587} {v588 : BitVec 32} {v590 : Elt F .i32} {k0_hw43 : k0_chk43 i v96 v590} {v592 : BitVec 32} {v598 : BitVec 32} {v785 : FVec F S256x256 .bf16} :
    Safe defs₀ c R R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v567 k0_hw40 v568 v570 k0_hw41 v578 v587 k0_hw42 v588 v590 k0_hw43 v592 v598 v785) := by
  rw [k0_part12_eq_skeleton]
  unfold k0_part12_skel
  refine safe_load fun v787 => ?_
  refine safe_load fun v793 => ?_
  refine safe_load fun v803 => ?_
  refine safe_store fun _ => ?_
  refine safe_load fun v807 => ?_
  refine safe_load fun v810 => ?_
  refine safe_load fun v816 => ?_
  refine safe_load fun v826 => ?_
  refine safe_store fun _ => ?_
  exact safe_pure _

theorem safe_k0_part13 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v607 : Elt F .i32} {k0_hw44 : k0_chk44 i v96 v607} {v608 : BitVec 32} {v610 : Elt F .i32} {k0_hw45 : k0_chk45 i v96 v610} {v612 : BitVec 32} {v618 : BitVec 32} {v628 : BitVec 32} {v630 : Elt F .i32} {k0_hw47 : k0_chk47 i v96 v630} {v632 : BitVec 32} {v638 : BitVec 32} :
    Safe defs₀ c R R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v607 k0_hw44 v608 v610 k0_hw45 v612 v618 v628 v630 k0_hw47 v632 v638) := by
  rw [k0_part13_eq_skeleton]
  unfold k0_part13_skel
  refine safe_load fun v830 => ?_
  refine safe_load fun v833 => ?_
  refine safe_load fun v839 => ?_
  refine safe_load fun v849 => ?_
  refine safe_store fun _ => ?_
  refine safe_load fun v853 => ?_
  refine safe_load fun v856 => ?_
  refine safe_load fun v862 => ?_
  exact safe_pure _

theorem safe_k0_part14 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v627 : Elt F .i32} {k0_hw46 : k0_chk46 i v96 v627} {v647 : Elt F .i32} {k0_hw48 : k0_chk48 i v96 v647} {v648 : BitVec 32} {v650 : Elt F .i32} {k0_hw49 : k0_chk49 i v96 v650} {v652 : BitVec 32} {v658 : BitVec 32} {v868 : FVec F S256x128 .f32} {v870 : IVec S256x128 1} :
    Safe defs₀ c R R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v627 k0_hw46 v647 k0_hw48 v648 v650 k0_hw49 v652 v658 v868 v870) := by
  rw [k0_part14_eq_skeleton]
  unfold k0_part14_skel
  refine safe_load fun v872 => ?_
  refine safe_store fun _ => ?_
  refine safe_load fun v876 => ?_
  refine safe_load fun v879 => ?_
  refine safe_load fun v885 => ?_
  refine safe_load fun v895 => ?_
  refine safe_store fun _ => ?_
  refine safe_load fun v899 => ?_
  refine safe_load fun v907 => ?_
  refine safe_store fun _ => ?_
  exact safe_pure _

theorem safe_k0_part15 {v911 : FVec F S256x128 .f32} :
    Safe defs₀ c R R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v911) := by
  rw [k0_part15_eq_skeleton]
  unfold k0_part15_skel
  refine safe_load fun v912 => ?_
  refine safe_store fun _ => ?_
  refine safe_load fun v915 => ?_
  refine safe_load fun v923 => ?_
  refine safe_store fun _ => ?_
  refine safe_load fun v928 => ?_
  refine safe_store fun _ => ?_
  refine safe_load fun v931 => ?_
  refine safe_load fun v939 => ?_
  refine safe_store fun _ => ?_
  refine safe_load fun v944 => ?_
  exact safe_pure _

theorem safe_k0_part16 {v943 : FVec F S256x128 .f32} {v944 : Vec F S1x256x128 .f32} :
    Safe defs₀ c R R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v943 v944) := by
  rw [k0_part16_eq_skeleton]
  unfold k0_part16_skel
  refine safe_store fun _ => ?_
  refine safe_load fun v947 => ?_
  refine safe_load fun v955 => ?_
  refine safe_store fun _ => ?_
  refine safe_load fun v960 => ?_
  refine safe_store fun _ => ?_
  refine safe_load fun v963 => ?_
  refine safe_load fun v971 => ?_
  refine safe_store fun _ => ?_
  refine safe_load fun v976 => ?_
  refine safe_store fun _ => ?_
  exact safe_pure _

theorem safe_k0_part17  :
    Safe defs₀ c R R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [k0_part17_eq_skeleton]
  unfold k0_part17_skel
  refine safe_load fun v979 => ?_
  refine safe_load fun v987 => ?_
  refine safe_store fun _ => ?_
  refine safe_load fun v992 => ?_
  refine safe_store fun _ => ?_
  refine safe_load fun v995 => ?_
  refine safe_load fun v1003 => ?_
  refine safe_store fun _ => ?_
  refine safe_load fun v1008 => ?_
  refine safe_store fun _ => ?_
  refine safe_load fun v1011 => ?_
  exact safe_pure _

theorem safe_k0_part18 {k0_h2 : k0_cond2 i = 1#1} {v96 : Elt F .i32} {k0_h3 : k0_cond3 v96 = 1#1} {v350 : Elt F .i32} {k0_hw19 : k0_chk19 i v96 v350} {v352 : BitVec 32} {v370 : Elt F .i32} {k0_hw21 : k0_chk21 i v96 v370} {v372 : BitVec 32} {v390 : Elt F .i32} {k0_hw23 : k0_chk23 i v96 v390} {v392 : BitVec 32} {v412 : BitVec 32} {v665 : FVec F S256x128 .bf16} {v672 : FVec F S256x128 .bf16} {v679 : FVec F S256x128 .bf16} {v1012 : FVec F S256x256 .f32} :
    Safe defs₀ c R R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h2 v96 k0_h3 v350 k0_hw19 v352 v370 k0_hw21 v372 v390 k0_hw23 v392 v412 v665 v672 v679 v1012) := by
  rw [k0_part18_eq_skeleton]
  unfold k0_part18_skel
  refine safe_load fun v1019 => ?_
  refine safe_store fun _ => ?_
  refine safe_load fun v1024 => ?_
  refine safe_store fun _ => ?_
  refine safe_load fun v1028 => ?_
  refine safe_load fun v1030 => ?_
  refine safe_store fun _ => ?_
  refine safe_load fun v1034 => ?_
  refine safe_load fun v1036 => ?_
  refine safe_store fun _ => ?_
  refine safe_load fun v1040 => ?_
  refine safe_load fun v1042 => ?_
  refine safe_store fun _ => ?_
  exact safe_pure _

theorem safe_k0_part19 {k0_h2 : k0_cond2 i = 1#1} {v96 : Elt F .i32} {k0_h3 : k0_cond3 v96 = 1#1} {v410 : Elt F .i32} {k0_hw25 : k0_chk25 i v96 v410} {v430 : Elt F .i32} {k0_hw27 : k0_chk27 i v96 v430} {v432 : BitVec 32} {v450 : Elt F .i32} {k0_hw29 : k0_chk29 i v96 v450} {v452 : BitVec 32} {v470 : Elt F .i32} {k0_hw31 : k0_chk31 i v96 v470} {v472 : BitVec 32} {v490 : Elt F .i32} {k0_hw33 : k0_chk33 i v96 v490} {v492 : BitVec 32} {v686 : FVec F S256x128 .bf16} {v693 : FVec F S256x128 .bf16} {v700 : FVec F S256x128 .bf16} {v707 : FVec F S256x128 .bf16} {v714 : FVec F S256x128 .bf16} :
    Safe defs₀ c R R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h2 v96 k0_h3 v410 k0_hw25 v430 k0_hw27 v432 v450 k0_hw29 v452 v470 k0_hw31 v472 v490 k0_hw33 v492 v686 v693 v700 v707 v714) := by
  rw [k0_part19_eq_skeleton]
  unfold k0_part19_skel
  refine safe_load fun v1046 => ?_
  refine safe_load fun v1048 => ?_
  refine safe_store fun _ => ?_
  refine safe_load fun v1052 => ?_
  refine safe_load fun v1054 => ?_
  refine safe_store fun _ => ?_
  refine safe_load fun v1058 => ?_
  refine safe_load fun v1060 => ?_
  refine safe_store fun _ => ?_
  refine safe_load fun v1064 => ?_
  refine safe_load fun v1066 => ?_
  refine safe_store fun _ => ?_
  refine safe_load fun v1070 => ?_
  refine safe_load fun v1072 => ?_
  refine safe_store fun _ => ?_
  exact safe_pure _

theorem safe_k0_part20 {arg0 : BitVec 32} {k0_h2 : k0_cond2 i = 1#1} {v96 : Elt F .i32} {k0_hw1 : k0_chk1 i v96} {k0_h3 : k0_cond3 v96 = 1#1} {v335 : BitVec 32} {c1_i32_147 : BitVec 32} {k0_t4 : Fin (k0_t4_loop v96).trips} :
    Safe defs₀ c R R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 v335 c1_i32_147 k0_t4) := by
  rw [k0_part20_eq_skeleton]
  unfold k0_part20_skel
  refine safe_word fun v347 hv347 => ?_
  refine safe_assume (k0_chk50_ok _ _ _ hv347) fun k0_hw50 => ?_
  refine safe_word fun v350 hv350 => ?_
  refine safe_assume (k0_chk51_ok _ _ _ hv350) fun k0_hw51 => ?_
  refine safe_word fun v357 hv357 => ?_
  refine safe_word fun v367 hv367 => ?_
  refine safe_assume (k0_chk52_ok _ _ _ hv367) fun k0_hw52 => ?_
  refine safe_word fun v370 hv370 => ?_
  refine safe_assume (k0_chk53_ok _ _ _ hv370) fun k0_hw53 => ?_
  exact safe_pure _

theorem safe_k0_part21 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v375 : BitVec 1} :
    Safe defs₀ c R R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v375) := by
  rw [k0_part21_eq_skeleton]
  unfold k0_part21_skel
  refine safe_word fun v377 hv377 => ?_
  refine safe_word fun v387 hv387 => ?_
  refine safe_assume (k0_chk54_ok _ _ _ hv387) fun k0_hw54 => ?_
  refine safe_word fun v390 hv390 => ?_
  refine safe_assume (k0_chk55_ok _ _ _ hv390) fun k0_hw55 => ?_
  refine safe_word fun v397 hv397 => ?_
  refine safe_word fun v407 hv407 => ?_
  refine safe_assume (k0_chk56_ok _ _ _ hv407) fun k0_hw56 => ?_
  refine safe_word fun v410 hv410 => ?_
  refine safe_assume (k0_chk57_ok _ _ _ hv410) fun k0_hw57 => ?_
  exact safe_pure _

theorem safe_k0_part22 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v415 : BitVec 1} :
    Safe defs₀ c R R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v415) := by
  rw [k0_part22_eq_skeleton]
  unfold k0_part22_skel
  refine safe_word fun v417 hv417 => ?_
  refine safe_word fun v427 hv427 => ?_
  refine safe_assume (k0_chk58_ok _ _ _ hv427) fun k0_hw58 => ?_
  refine safe_word fun v430 hv430 => ?_
  refine safe_assume (k0_chk59_ok _ _ _ hv430) fun k0_hw59 => ?_
  refine safe_word fun v437 hv437 => ?_
  refine safe_word fun v447 hv447 => ?_
  refine safe_assume (k0_chk60_ok _ _ _ hv447) fun k0_hw60 => ?_
  refine safe_word fun v450 hv450 => ?_
  refine safe_assume (k0_chk61_ok _ _ _ hv450) fun k0_hw61 => ?_
  exact safe_pure _

theorem safe_k0_part23 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v455 : BitVec 1} :
    Safe defs₀ c R R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v455) := by
  rw [k0_part23_eq_skeleton]
  unfold k0_part23_skel
  refine safe_word fun v457 hv457 => ?_
  refine safe_word fun v467 hv467 => ?_
  refine safe_assume (k0_chk62_ok _ _ _ hv467) fun k0_hw62 => ?_
  refine safe_word fun v470 hv470 => ?_
  refine safe_assume (k0_chk63_ok _ _ _ hv470) fun k0_hw63 => ?_
  refine safe_word fun v477 hv477 => ?_
  refine safe_word fun v487 hv487 => ?_
  refine safe_assume (k0_chk64_ok _ _ _ hv487) fun k0_hw64 => ?_
  refine safe_word fun v490 hv490 => ?_
  refine safe_assume (k0_chk65_ok _ _ _ hv490) fun k0_hw65 => ?_
  exact safe_pure _

theorem safe_k0_part24 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v495 : BitVec 1} :
    Safe defs₀ c R R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v495) := by
  rw [k0_part24_eq_skeleton]
  unfold k0_part24_skel
  refine safe_word fun v497 hv497 => ?_
  refine safe_word fun v507 hv507 => ?_
  refine safe_assume (k0_chk66_ok _ _ _ hv507) fun k0_hw66 => ?_
  refine safe_word fun v510 hv510 => ?_
  refine safe_assume (k0_chk67_ok _ _ _ hv510) fun k0_hw67 => ?_
  refine safe_word fun v517 hv517 => ?_
  refine safe_word fun v527 hv527 => ?_
  refine safe_assume (k0_chk68_ok _ _ _ hv527) fun k0_hw68 => ?_
  refine safe_word fun v530 hv530 => ?_
  refine safe_assume (k0_chk69_ok _ _ _ hv530) fun k0_hw69 => ?_
  exact safe_pure _

theorem safe_k0_part25 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v535 : BitVec 1} :
    Safe defs₀ c R R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v535) := by
  rw [k0_part25_eq_skeleton]
  unfold k0_part25_skel
  refine safe_word fun v537 hv537 => ?_
  refine safe_word fun v547 hv547 => ?_
  refine safe_assume (k0_chk70_ok _ _ _ hv547) fun k0_hw70 => ?_
  refine safe_word fun v550 hv550 => ?_
  refine safe_assume (k0_chk71_ok _ _ _ hv550) fun k0_hw71 => ?_
  refine safe_word fun v557 hv557 => ?_
  refine safe_word fun v567 hv567 => ?_
  refine safe_assume (k0_chk72_ok _ _ _ hv567) fun k0_hw72 => ?_
  refine safe_word fun v570 hv570 => ?_
  refine safe_assume (k0_chk73_ok _ _ _ hv570) fun k0_hw73 => ?_
  exact safe_pure _

theorem safe_k0_part26 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v575 : BitVec 1} :
    Safe defs₀ c R R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v575) := by
  rw [k0_part26_eq_skeleton]
  unfold k0_part26_skel
  refine safe_word fun v577 hv577 => ?_
  refine safe_word fun v587 hv587 => ?_
  refine safe_assume (k0_chk74_ok _ _ _ hv587) fun k0_hw74 => ?_
  refine safe_word fun v590 hv590 => ?_
  refine safe_assume (k0_chk75_ok _ _ _ hv590) fun k0_hw75 => ?_
  refine safe_word fun v597 hv597 => ?_
  refine safe_word fun v607 hv607 => ?_
  refine safe_assume (k0_chk76_ok _ _ _ hv607) fun k0_hw76 => ?_
  refine safe_word fun v610 hv610 => ?_
  refine safe_assume (k0_chk77_ok _ _ _ hv610) fun k0_hw77 => ?_
  exact safe_pure _

theorem safe_k0_part27 {arg0 : BitVec 32} {k0_h2 : k0_cond2 i = 1#1} {v96 : Elt F .i32} {k0_hw1 : k0_chk1 i v96} {k0_h3 : k0_cond3 v96 = 1#1} {k0_t4 : Fin (k0_t4_loop v96).trips} {v338 : BitVec 32} {v615 : BitVec 1} :
    Safe defs₀ c R R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 k0_h2 v96 k0_hw1 k0_h3 k0_t4 v338 v615) := by
  rw [k0_part27_eq_skeleton]
  unfold k0_part27_skel
  refine safe_word fun v617 hv617 => ?_
  refine safe_word fun v627 hv627 => ?_
  refine safe_assume (k0_chk78_ok _ _ _ hv627) fun k0_hw78 => ?_
  refine safe_word fun v630 hv630 => ?_
  refine safe_assume (k0_chk79_ok _ _ _ hv630) fun k0_hw79 => ?_
  refine safe_word fun v637 hv637 => ?_
  refine safe_word fun v647 hv647 => ?_
  refine safe_assume (k0_chk80_ok _ _ _ hv647) fun k0_hw80 => ?_
  refine safe_word fun v650 hv650 => ?_
  refine safe_assume (k0_chk81_ok _ _ _ hv650) fun k0_hw81 => ?_
  exact safe_pure _

theorem safe_k0_part28 {v36 : IVec S1x128 1} {k0_h2 : k0_cond2 i = 1#1} {v96 : Elt F .i32} {k0_hw1 : k0_chk1 i v96} {k0_h3 : k0_cond3 v96 = 1#1} {k0_t4 : Fin (k0_t4_loop v96).trips} {v347 : Elt F .i32} {k0_hw50 : k0_chk50 i v96 v347} {v348 : BitVec 32} {v367 : Elt F .i32} {k0_hw52 : k0_chk52 i v96 v367} {v368 : BitVec 32} {v387 : Elt F .i32} {k0_hw54 : k0_chk54 i v96 v387} {v388 : BitVec 32} {v407 : Elt F .i32} {k0_hw56 : k0_chk56 i v96 v407} {v408 : BitVec 32} {v427 : Elt F .i32} {k0_hw58 : k0_chk58 i v96 v427} {v428 : BitVec 32} {v447 : Elt F .i32} {k0_hw60 : k0_chk60 i v96 v447} {v448 : BitVec 32} {v467 : Elt F .i32} {k0_hw62 : k0_chk62 i v96 v467} {v468 : BitVec 32} {v655 : BitVec 1} :
    Safe defs₀ c R R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 k0_h2 v96 k0_hw1 k0_h3 k0_t4 v347 k0_hw50 v348 v367 k0_hw52 v368 v387 k0_hw54 v388 v407 k0_hw56 v408 v427 k0_hw58 v428 v447 k0_hw60 v448 v467 k0_hw62 v468 v655) := by
  rw [k0_part28_eq_skeleton]
  unfold k0_part28_skel
  refine safe_word fun v657 hv657 => ?_
  refine safe_load fun v660 => ?_
  refine safe_load fun v667 => ?_
  refine safe_load fun v674 => ?_
  refine safe_load fun v681 => ?_
  refine safe_load fun v688 => ?_
  refine safe_load fun v695 => ?_
  refine safe_load fun v702 => ?_
  exact safe_pure _

theorem safe_k0_part29 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v487 : Elt F .i32} {k0_hw64 : k0_chk64 i v96 v487} {v488 : BitVec 32} {v507 : Elt F .i32} {k0_hw66 : k0_chk66 i v96 v507} {v508 : BitVec 32} {v510 : Elt F .i32} {k0_hw67 : k0_chk67 i v96 v510} {v512 : BitVec 32} {v518 : BitVec 32} {v530 : Elt F .i32} {k0_hw69 : k0_chk69 i v96 v530} {v532 : BitVec 32} {v702 : Vec F S256x128 .f32} :
    Safe defs₀ c R R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v487 k0_hw64 v488 v507 k0_hw66 v508 v510 k0_hw67 v512 v518 v530 k0_hw69 v532 v702) := by
  rw [k0_part29_eq_skeleton]
  unfold k0_part29_skel
  refine safe_load fun v709 => ?_
  refine safe_load fun v715 => ?_
  refine safe_load fun v718 => ?_
  refine safe_load fun v724 => ?_
  refine safe_load fun v734 => ?_
  refine safe_store fun _ => ?_
  refine safe_load fun v738 => ?_
  refine safe_load fun v741 => ?_
  exact safe_pure _

theorem safe_k0_part30 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v527 : Elt F .i32} {k0_hw68 : k0_chk68 i v96 v527} {v528 : BitVec 32} {v538 : BitVec 32} {v547 : Elt F .i32} {k0_hw70 : k0_chk70 i v96 v547} {v548 : BitVec 32} {v550 : Elt F .i32} {k0_hw71 : k0_chk71 i v96 v550} {v552 : BitVec 32} {v558 : BitVec 32} {v572 : BitVec 32} {v739 : FVec F S256x256 .bf16} {v745 : Vec F S256x128 .bf16} :
    Safe defs₀ c R R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v527 k0_hw68 v528 v538 v547 k0_hw70 v548 v550 k0_hw71 v552 v558 v572 v739 v745) := by
  rw [k0_part30_eq_skeleton]
  unfold k0_part30_skel
  refine safe_load fun v747 => ?_
  refine safe_load fun v757 => ?_
  refine safe_store fun _ => ?_
  refine safe_load fun v761 => ?_
  refine safe_load fun v764 => ?_
  refine safe_load fun v770 => ?_
  refine safe_load fun v780 => ?_
  refine safe_store fun _ => ?_
  refine safe_load fun v784 => ?_
  exact safe_pure _

theorem safe_k0_part31 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v567 : Elt F .i32} {k0_hw72 : k0_chk72 i v96 v567} {v568 : BitVec 32} {v570 : Elt F .i32} {k0_hw73 : k0_chk73 i v96 v570} {v578 : BitVec 32} {v587 : Elt F .i32} {k0_hw74 : k0_chk74 i v96 v587} {v588 : BitVec 32} {v590 : Elt F .i32} {k0_hw75 : k0_chk75 i v96 v590} {v592 : BitVec 32} {v598 : BitVec 32} {v785 : FVec F S256x256 .bf16} :
    Safe defs₀ c R R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v567 k0_hw72 v568 v570 k0_hw73 v578 v587 k0_hw74 v588 v590 k0_hw75 v592 v598 v785) := by
  rw [k0_part31_eq_skeleton]
  unfold k0_part31_skel
  refine safe_load fun v787 => ?_
  refine safe_load fun v793 => ?_
  refine safe_load fun v803 => ?_
  refine safe_store fun _ => ?_
  refine safe_load fun v807 => ?_
  refine safe_load fun v810 => ?_
  refine safe_load fun v816 => ?_
  refine safe_load fun v826 => ?_
  refine safe_store fun _ => ?_
  exact safe_pure _

theorem safe_k0_part32 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v607 : Elt F .i32} {k0_hw76 : k0_chk76 i v96 v607} {v608 : BitVec 32} {v610 : Elt F .i32} {k0_hw77 : k0_chk77 i v96 v610} {v612 : BitVec 32} {v618 : BitVec 32} {v628 : BitVec 32} {v630 : Elt F .i32} {k0_hw79 : k0_chk79 i v96 v630} {v632 : BitVec 32} {v638 : BitVec 32} :
    Safe defs₀ c R R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v607 k0_hw76 v608 v610 k0_hw77 v612 v618 v628 v630 k0_hw79 v632 v638) := by
  rw [k0_part32_eq_skeleton]
  unfold k0_part32_skel
  refine safe_load fun v830 => ?_
  refine safe_load fun v833 => ?_
  refine safe_load fun v839 => ?_
  refine safe_load fun v849 => ?_
  refine safe_store fun _ => ?_
  refine safe_load fun v853 => ?_
  refine safe_load fun v856 => ?_
  refine safe_load fun v862 => ?_
  exact safe_pure _

theorem safe_k0_part33 {v36 : IVec S1x128 1} {v40 : IVec S1x128 1} {cst : F .bf16} {k0_h2 : k0_cond2 i = 1#1} {v96 : Elt F .i32} {v98 : Elt F .f32} {v99 : IVec S256x128 32} {k0_h3 : k0_cond3 v96 = 1#1} {v627 : Elt F .i32} {k0_hw78 : k0_chk78 i v96 v627} {v647 : Elt F .i32} {k0_hw80 : k0_chk80 i v96 v647} {v648 : BitVec 32} {v650 : Elt F .i32} {k0_hw81 : k0_chk81 i v96 v650} {v652 : BitVec 32} {v658 : BitVec 32} {v868 : FVec F S256x128 .f32} {v870 : IVec S256x128 1} :
    Safe defs₀ c R R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst k0_h2 v96 v98 v99 k0_h3 v627 k0_hw78 v647 k0_hw80 v648 v650 k0_hw81 v652 v658 v868 v870) := by
  rw [k0_part33_eq_skeleton]
  unfold k0_part33_skel
  refine safe_load fun v872 => ?_
  refine safe_store fun _ => ?_
  refine safe_load fun v876 => ?_
  refine safe_load fun v879 => ?_
  refine safe_load fun v885 => ?_
  refine safe_load fun v895 => ?_
  refine safe_store fun _ => ?_
  refine safe_load fun v899 => ?_
  refine safe_load fun v907 => ?_
  refine safe_store fun _ => ?_
  exact safe_pure _

theorem safe_k0_part34 {v911 : FVec F S256x128 .f32} :
    Safe defs₀ c R R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v911) := by
  rw [k0_part34_eq_skeleton]
  unfold k0_part34_skel
  refine safe_load fun v912 => ?_
  refine safe_store fun _ => ?_
  refine safe_load fun v915 => ?_
  refine safe_load fun v923 => ?_
  refine safe_store fun _ => ?_
  refine safe_load fun v928 => ?_
  refine safe_store fun _ => ?_
  refine safe_load fun v931 => ?_
  refine safe_load fun v939 => ?_
  refine safe_store fun _ => ?_
  refine safe_load fun v944 => ?_
  exact safe_pure _

theorem safe_k0_part35 {v943 : FVec F S256x128 .f32} {v944 : Vec F S1x256x128 .f32} :
    Safe defs₀ c R R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v943 v944) := by
  rw [k0_part35_eq_skeleton]
  unfold k0_part35_skel
  refine safe_store fun _ => ?_
  refine safe_load fun v947 => ?_
  refine safe_load fun v955 => ?_
  refine safe_store fun _ => ?_
  refine safe_load fun v960 => ?_
  refine safe_store fun _ => ?_
  refine safe_load fun v963 => ?_
  refine safe_load fun v971 => ?_
  refine safe_store fun _ => ?_
  refine safe_load fun v976 => ?_
  refine safe_store fun _ => ?_
  exact safe_pure _

theorem safe_k0_part36  :
    Safe defs₀ c R R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [k0_part36_eq_skeleton]
  unfold k0_part36_skel
  refine safe_load fun v979 => ?_
  refine safe_load fun v987 => ?_
  refine safe_store fun _ => ?_
  refine safe_load fun v992 => ?_
  refine safe_store fun _ => ?_
  refine safe_load fun v995 => ?_
  refine safe_load fun v1003 => ?_
  refine safe_store fun _ => ?_
  refine safe_load fun v1008 => ?_
  refine safe_store fun _ => ?_
  refine safe_load fun v1011 => ?_
  exact safe_pure _

theorem safe_k0_part37 {k0_h2 : k0_cond2 i = 1#1} {v96 : Elt F .i32} {k0_h3 : k0_cond3 v96 = 1#1} {v350 : Elt F .i32} {k0_hw51 : k0_chk51 i v96 v350} {v352 : BitVec 32} {v370 : Elt F .i32} {k0_hw53 : k0_chk53 i v96 v370} {v372 : BitVec 32} {v390 : Elt F .i32} {k0_hw55 : k0_chk55 i v96 v390} {v392 : BitVec 32} {v412 : BitVec 32} {v665 : FVec F S256x128 .bf16} {v672 : FVec F S256x128 .bf16} {v679 : FVec F S256x128 .bf16} {v1012 : FVec F S256x256 .f32} :
    Safe defs₀ c R R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h2 v96 k0_h3 v350 k0_hw51 v352 v370 k0_hw53 v372 v390 k0_hw55 v392 v412 v665 v672 v679 v1012) := by
  rw [k0_part37_eq_skeleton]
  unfold k0_part37_skel
  refine safe_load fun v1019 => ?_
  refine safe_store fun _ => ?_
  refine safe_load fun v1024 => ?_
  refine safe_store fun _ => ?_
  refine safe_load fun v1028 => ?_
  refine safe_load fun v1030 => ?_
  refine safe_store fun _ => ?_
  refine safe_load fun v1034 => ?_
  refine safe_load fun v1036 => ?_
  refine safe_store fun _ => ?_
  refine safe_load fun v1040 => ?_
  refine safe_load fun v1042 => ?_
  refine safe_store fun _ => ?_
  exact safe_pure _

theorem safe_k0_part38 {k0_h2 : k0_cond2 i = 1#1} {v96 : Elt F .i32} {k0_h3 : k0_cond3 v96 = 1#1} {v410 : Elt F .i32} {k0_hw57 : k0_chk57 i v96 v410} {v430 : Elt F .i32} {k0_hw59 : k0_chk59 i v96 v430} {v432 : BitVec 32} {v450 : Elt F .i32} {k0_hw61 : k0_chk61 i v96 v450} {v452 : BitVec 32} {v470 : Elt F .i32} {k0_hw63 : k0_chk63 i v96 v470} {v472 : BitVec 32} {v490 : Elt F .i32} {k0_hw65 : k0_chk65 i v96 v490} {v492 : BitVec 32} {v686 : FVec F S256x128 .bf16} {v693 : FVec F S256x128 .bf16} {v700 : FVec F S256x128 .bf16} {v707 : FVec F S256x128 .bf16} {v714 : FVec F S256x128 .bf16} :
    Safe defs₀ c R R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 k0_h2 v96 k0_h3 v410 k0_hw57 v430 k0_hw59 v432 v450 k0_hw61 v452 v470 k0_hw63 v472 v490 k0_hw65 v492 v686 v693 v700 v707 v714) := by
  rw [k0_part38_eq_skeleton]
  unfold k0_part38_skel
  refine safe_load fun v1046 => ?_
  refine safe_load fun v1048 => ?_
  refine safe_store fun _ => ?_
  refine safe_load fun v1052 => ?_
  refine safe_load fun v1054 => ?_
  refine safe_store fun _ => ?_
  refine safe_load fun v1058 => ?_
  refine safe_load fun v1060 => ?_
  refine safe_store fun _ => ?_
  refine safe_load fun v1064 => ?_
  refine safe_load fun v1066 => ?_
  refine safe_store fun _ => ?_
  refine safe_load fun v1070 => ?_
  refine safe_load fun v1072 => ?_
  refine safe_store fun _ => ?_
  exact safe_pure _

theorem safe_k0_part39 {arg0 : BitVec 32} {v36 : IVec S1x128 1} {k0_h2 : k0_cond2 i = 1#1} {v96 : Elt F .i32} {k0_hw1 : k0_chk1 i v96} {k0_h3 : k0_cond3 v96 = 1#1} :
    Safe defs₀ c R R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v36 k0_h2 v96 k0_hw1 k0_h3) := by
  rw [k0_part39_eq_skeleton]
  unfold k0_part39_skel
  refine safe_load fun v104 => ?_
  refine safe_store fun _ => ?_
  refine safe_load fun v108 => ?_
  refine safe_store fun _ => ?_
  refine safe_word fun v117 hv117 => ?_
  refine safe_assume (k0_chk2_ok _ _ _ hv117) fun k0_hw2 => ?_
  refine safe_word fun v120 hv120 => ?_
  refine safe_assume (k0_chk3_ok _ _ _ hv120) fun k0_hw3 => ?_
  refine safe_load fun v124 => ?_
  refine safe_load fun v131 => ?_
  refine safe_load fun v133 => ?_
  refine safe_store fun _ => ?_
  exact safe_pure _

theorem safe_k0_part40 {arg0 : BitVec 32} {v36 : IVec S1x128 1} {k0_h2 : k0_cond2 i = 1#1} {v96 : Elt F .i32} {k0_hw1 : k0_chk1 i v96} {k0_h3 : k0_cond3 v96 = 1#1} {v136 : BitVec 32} :
    Safe defs₀ c R R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v36 k0_h2 v96 k0_hw1 k0_h3 v136) := by
  rw [k0_part40_eq_skeleton]
  unfold k0_part40_skel
  refine safe_word fun v142 hv142 => ?_
  refine safe_assume (k0_chk4_ok _ _ _ hv142) fun k0_hw4 => ?_
  refine safe_word fun v145 hv145 => ?_
  refine safe_assume (k0_chk5_ok _ _ _ hv145) fun k0_hw5 => ?_
  refine safe_load fun v149 => ?_
  refine safe_load fun v156 => ?_
  refine safe_load fun v158 => ?_
  refine safe_store fun _ => ?_
  refine safe_word fun v167 hv167 => ?_
  refine safe_assume (k0_chk6_ok _ _ _ hv167) fun k0_hw6 => ?_
  refine safe_word fun v170 hv170 => ?_
  refine safe_assume (k0_chk7_ok _ _ _ hv170) fun k0_hw7 => ?_
  refine safe_load fun v174 => ?_
  exact safe_pure _

theorem safe_k0_part41 {arg0 : BitVec 32} {v36 : IVec S1x128 1} {k0_h2 : k0_cond2 i = 1#1} {v96 : Elt F .i32} {k0_hw1 : k0_chk1 i v96} {k0_h3 : k0_cond3 v96 = 1#1} {v170 : Elt F .i32} {k0_hw7 : k0_chk7 i v96 v170} {v172 : BitVec 32} {v174 : Vec F S256x128 .f32} :
    Safe defs₀ c R R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v36 k0_h2 v96 k0_hw1 k0_h3 v170 k0_hw7 v172 v174) := by
  rw [k0_part41_eq_skeleton]
  unfold k0_part41_skel
  refine safe_load fun v181 => ?_
  refine safe_load fun v183 => ?_
  refine safe_store fun _ => ?_
  refine safe_word fun v192 hv192 => ?_
  refine safe_assume (k0_chk8_ok _ _ _ hv192) fun k0_hw8 => ?_
  refine safe_word fun v195 hv195 => ?_
  refine safe_assume (k0_chk9_ok _ _ _ hv195) fun k0_hw9 => ?_
  refine safe_load fun v199 => ?_
  refine safe_load fun v206 => ?_
  refine safe_load fun v208 => ?_
  refine safe_store fun _ => ?_
  exact safe_pure _

theorem safe_k0_part42 {arg0 : BitVec 32} {v36 : IVec S1x128 1} {k0_h2 : k0_cond2 i = 1#1} {v96 : Elt F .i32} {k0_hw1 : k0_chk1 i v96} {k0_h3 : k0_cond3 v96 = 1#1} {v211 : BitVec 32} :
    Safe defs₀ c R R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v36 k0_h2 v96 k0_hw1 k0_h3 v211) := by
  rw [k0_part42_eq_skeleton]
  unfold k0_part42_skel
  refine safe_word fun v217 hv217 => ?_
  refine safe_assume (k0_chk10_ok _ _ _ hv217) fun k0_hw10 => ?_
  refine safe_word fun v220 hv220 => ?_
  refine safe_assume (k0_chk11_ok _ _ _ hv220) fun k0_hw11 => ?_
  refine safe_load fun v224 => ?_
  refine safe_load fun v231 => ?_
  refine safe_load fun v233 => ?_
  refine safe_store fun _ => ?_
  refine safe_word fun v242 hv242 => ?_
  refine safe_assume (k0_chk12_ok _ _ _ hv242) fun k0_hw12 => ?_
  refine safe_word fun v245 hv245 => ?_
  refine safe_assume (k0_chk13_ok _ _ _ hv245) fun k0_hw13 => ?_
  refine safe_load fun v249 => ?_
  exact safe_pure _

theorem safe_k0_part43 {arg0 : BitVec 32} {v36 : IVec S1x128 1} {k0_h2 : k0_cond2 i = 1#1} {v96 : Elt F .i32} {k0_hw1 : k0_chk1 i v96} {k0_h3 : k0_cond3 v96 = 1#1} {v245 : Elt F .i32} {k0_hw13 : k0_chk13 i v96 v245} {v247 : BitVec 32} {v249 : Vec F S256x128 .f32} :
    Safe defs₀ c R R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v36 k0_h2 v96 k0_hw1 k0_h3 v245 k0_hw13 v247 v249) := by
  rw [k0_part43_eq_skeleton]
  unfold k0_part43_skel
  refine safe_load fun v256 => ?_
  refine safe_load fun v258 => ?_
  refine safe_store fun _ => ?_
  refine safe_word fun v267 hv267 => ?_
  refine safe_assume (k0_chk14_ok _ _ _ hv267) fun k0_hw14 => ?_
  refine safe_word fun v270 hv270 => ?_
  refine safe_assume (k0_chk15_ok _ _ _ hv270) fun k0_hw15 => ?_
  refine safe_load fun v274 => ?_
  refine safe_load fun v281 => ?_
  refine safe_load fun v283 => ?_
  refine safe_store fun _ => ?_
  exact safe_pure _

theorem safe_k0_part44 {v36 : IVec S1x128 1} {k0_h2 : k0_cond2 i = 1#1} {v96 : Elt F .i32} {k0_hw1 : k0_chk1 i v96} {k0_h3 : k0_cond3 v96 = 1#1} {v286 : BitVec 32} :
    Safe defs₀ c R R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 k0_h2 v96 k0_hw1 k0_h3 v286) := by
  rw [k0_part44_eq_skeleton]
  unfold k0_part44_skel
  refine safe_word fun v292 hv292 => ?_
  refine safe_assume (k0_chk16_ok _ _ _ hv292) fun k0_hw16 => ?_
  refine safe_word fun v295 hv295 => ?_
  refine safe_assume (k0_chk17_ok _ _ _ hv295) fun k0_hw17 => ?_
  refine safe_load fun v299 => ?_
  refine safe_load fun v306 => ?_
  refine safe_load fun v308 => ?_
  refine safe_store fun _ => ?_
  exact safe_pure _

theorem safe_k0_part45 {arg0 : BitVec 32} {arg1 : BitVec 32} {v10 : IVec S1x128 32} {v36 : IVec S1x128 1} {k0_h4 : k0_cond4 i = 1#1} {k0_h8 : k0_cond8 i = 1#1} :
    Safe defs₀ c R R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v10 v36 k0_h4 k0_h8) := by
  rw [k0_part45_eq_skeleton]
  unfold k0_part45_skel
  refine safe_load fun v141 => ?_
  refine safe_load fun v148 => ?_
  refine safe_load fun v152 => ?_
  refine safe_load fun v161 => ?_
  refine safe_load fun v163 => ?_
  refine safe_load fun v166 => ?_
  exact safe_pure _

theorem safe_k0_t6 {v36 : IVec S1x128 1} {cst_26 : F .bf16} {k0_h4 : k0_cond4 i = 1#1} {k0_h8 : k0_cond8 i = 1#1} {v140 : BitVec 32} {v149 : FVec F S256x512 .f32} {v160 : IVec S256x1 1} {v162 : FVec F S256x256 .f32} {v164 : FVec F S256x256 .f32} {v165 : BitVec 1} {v167 : FVec F S256x256 .f32} [CanWord c R arg21 (fun v : Elt F .i32 => Pos v)] : ∀ t s,
    Safe defs₀ c R R (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v140 v149 v160 v162 v164 v165 v167 t s) := by
  intro t s
  unfold k0_t6_body
  refine safe_word fun v1193 hv1193 => ?_
  refine safe_assume (k0_chk85_ok _ _ hv1193) fun k0_hw85 => ?_
  refine safe_load fun v1195 => ?_
  refine safe_load fun v1197 => ?_
  refine safe_store fun _ => ?_
  refine safe_word fun v1202 hv1202 => ?_
  refine safe_assume (k0_chk86_ok _ _ hv1202) fun k0_hw86 => ?_
  refine safe_load fun v1204 => ?_
  refine safe_load fun v1206 => ?_
  refine safe_store fun _ => ?_
  refine safe_word fun v1211 hv1211 => ?_
  refine safe_assume (k0_chk87_ok _ _ hv1211) fun k0_hw87 => ?_
  refine safe_load fun v1213 => ?_
  refine safe_load fun v1215 => ?_
  refine safe_store fun _ => ?_
  exact safe_pure _

theorem safe_k0_part46 {v36 : IVec S1x128 1} {cst_26 : F .bf16} {k0_h4 : k0_cond4 i = 1#1} {k0_h8 : k0_cond8 i = 1#1} {v140 : BitVec 32} {v149 : FVec F S256x512 .f32} {v160 : IVec S256x1 1} {v162 : FVec F S256x256 .f32} {v164 : FVec F S256x256 .f32} {v165 : BitVec 1} {v167 : FVec F S256x256 .f32} [CanWord c R arg21 (fun v : Elt F .i32 => Pos v)] :
    Safe defs₀ c R R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v140 v149 v160 v162 v164 v165 v167) := by
  rw [k0_part46_eq_skeleton]
  unfold k0_part46_skel
  refine safe_load fun v195 => ?_
  refine safe_bind (safe_for safe_k0_t6) fun _ => ?_
  refine safe_load fun v202 => ?_
  refine safe_load fun v204 => ?_
  refine safe_load fun v206 => ?_
  exact safe_pure _

theorem safe_k0_part47 {v40 : IVec S1x128 1} {v43 : IVec S1x128 1} {v136 : BitVec 32} {v185 : FVec F S256x1 .f32} {v200 : FVec F S256x128 .f32} {v203 : FVec F S256x128 .f32} {v205 : FVec F S256x128 .f32} {v207 : FVec F S256x128 .f32} :
    Safe defs₀ c R R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v43 v136 v185 v200 v203 v205 v207) := by
  rw [k0_part47_eq_skeleton]
  unfold k0_part47_skel
  exact safe_pure _

theorem safe_k0_part48 {arg0 : BitVec 32} {v9 : BitVec 32} {v10 : IVec S1x128 32} {v36 : IVec S1x128 1} {k0_h4 : k0_cond4 i = 1#1} {k0_h8 : k0_cond8 i = 1#1} {v134 : BitVec 32} {v256 : FVec F S256x128 .bf16} {v258 : BitVec 32} :
    Safe defs₀ c R R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v9 v10 v36 k0_h4 k0_h8 v134 v256 v258) := by
  rw [k0_part48_eq_skeleton]
  unfold k0_part48_skel
  refine safe_load fun v265 => ?_
  refine safe_load fun v270 => ?_
  refine safe_store fun _ => ?_
  refine safe_load fun v273 => ?_
  refine safe_store fun _ => ?_
  refine safe_load fun v280 => ?_
  refine safe_load fun v287 => ?_
  refine safe_load fun v291 => ?_
  exact safe_pure _

theorem safe_k0_t7 {v36 : IVec S1x128 1} {cst_26 : F .bf16} {k0_h4 : k0_cond4 i = 1#1} {k0_h8 : k0_cond8 i = 1#1} {v279 : BitVec 32} {v288 : FVec F S256x512 .f32} {v296 : FVec F S256 .f32} [CanWord c R arg21 (fun v : Elt F .i32 => Pos v)] : ∀ t s,
    Safe defs₀ c R R (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v279 v288 v296 t s) := by
  intro t s
  unfold k0_t7_body
  refine safe_word fun v1193 hv1193 => ?_
  refine safe_assume (k0_chk88_ok _ _ hv1193) fun k0_hw88 => ?_
  refine safe_load fun v1195 => ?_
  refine safe_load fun v1197 => ?_
  refine safe_store fun _ => ?_
  refine safe_word fun v1202 hv1202 => ?_
  refine safe_assume (k0_chk89_ok _ _ hv1202) fun k0_hw89 => ?_
  refine safe_load fun v1204 => ?_
  refine safe_load fun v1206 => ?_
  refine safe_store fun _ => ?_
  refine safe_word fun v1211 hv1211 => ?_
  refine safe_assume (k0_chk90_ok _ _ hv1211) fun k0_hw90 => ?_
  refine safe_load fun v1213 => ?_
  refine safe_load fun v1215 => ?_
  refine safe_store fun _ => ?_
  exact safe_pure _

theorem safe_k0_part49 {v36 : IVec S1x128 1} {cst_26 : F .bf16} {k0_h4 : k0_cond4 i = 1#1} {k0_h8 : k0_cond8 i = 1#1} {v279 : BitVec 32} {v288 : FVec F S256x512 .f32} {v296 : FVec F S256 .f32} [CanWord c R arg21 (fun v : Elt F .i32 => Pos v)] :
    Safe defs₀ c R R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v279 v288 v296) := by
  rw [k0_part49_eq_skeleton]
  unfold k0_part49_skel
  refine safe_load fun v300 => ?_
  refine safe_load fun v302 => ?_
  refine safe_load fun v326 => ?_
  refine safe_bind (safe_for safe_k0_t7) fun _ => ?_
  refine safe_load fun v333 => ?_
  exact safe_pure _

theorem safe_k0_part50 {v40 : IVec S1x128 1} {v43 : IVec S1x128 1} {v316 : FVec F S256x1 .f32} {v331 : FVec F S256x128 .f32} {v334 : FVec F S256x128 .f32} :
    Safe defs₀ c R R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v43 v316 v331 v334) := by
  rw [k0_part50_eq_skeleton]
  unfold k0_part50_skel
  refine safe_load fun v335 => ?_
  refine safe_load fun v337 => ?_
  exact safe_pure _

theorem safe_k0_part51 {arg0 : BitVec 32} {v9 : BitVec 32} {v10 : IVec S1x128 32} {v36 : IVec S1x128 1} {k0_h4 : k0_cond4 i = 1#1} {k0_h8 : k0_cond8 i = 1#1} {v134 : BitVec 32} {v275 : BitVec 32} {v378 : FVec F S256x128 .f32} {v382 : FVec F S256x128 .f32} :
    Safe defs₀ c R R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v9 v10 v36 k0_h4 k0_h8 v134 v275 v378 v382) := by
  rw [k0_part51_eq_skeleton]
  unfold k0_part51_skel
  refine safe_load fun v396 => ?_
  refine safe_load fun v401 => ?_
  refine safe_store fun _ => ?_
  refine safe_load fun v404 => ?_
  refine safe_store fun _ => ?_
  refine safe_load fun v411 => ?_
  refine safe_load fun v418 => ?_
  exact safe_pure _

theorem safe_k0_t8 {v36 : IVec S1x128 1} {cst_26 : F .bf16} {k0_h4 : k0_cond4 i = 1#1} {k0_h8 : k0_cond8 i = 1#1} {v410 : BitVec 32} {v419 : FVec F S256x512 .f32} {v421 : IVec S1x128 1} [CanWord c R arg21 (fun v : Elt F .i32 => Pos v)] : ∀ t s,
    Safe defs₀ c R R (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v410 v419 v421 t s) := by
  intro t s
  unfold k0_t8_body
  refine safe_word fun v1193 hv1193 => ?_
  refine safe_assume (k0_chk91_ok _ _ hv1193) fun k0_hw91 => ?_
  refine safe_load fun v1195 => ?_
  refine safe_load fun v1197 => ?_
  refine safe_store fun _ => ?_
  refine safe_word fun v1202 hv1202 => ?_
  refine safe_assume (k0_chk92_ok _ _ hv1202) fun k0_hw92 => ?_
  refine safe_load fun v1204 => ?_
  refine safe_load fun v1206 => ?_
  refine safe_store fun _ => ?_
  refine safe_word fun v1211 hv1211 => ?_
  refine safe_assume (k0_chk93_ok _ _ hv1211) fun k0_hw93 => ?_
  refine safe_load fun v1213 => ?_
  refine safe_load fun v1215 => ?_
  refine safe_store fun _ => ?_
  exact safe_pure _

theorem safe_k0_part52 {v36 : IVec S1x128 1} {cst_26 : F .bf16} {k0_h4 : k0_cond4 i = 1#1} {k0_h8 : k0_cond8 i = 1#1} {v410 : BitVec 32} {v419 : FVec F S256x512 .f32} {v421 : IVec S1x128 1} [CanWord c R arg21 (fun v : Elt F .i32 => Pos v)] :
    Safe defs₀ c R R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_26 k0_h4 k0_h8 v410 v419 v421) := by
  rw [k0_part52_eq_skeleton]
  unfold k0_part52_skel
  refine safe_load fun v422 => ?_
  refine safe_load fun v431 => ?_
  refine safe_load fun v433 => ?_
  refine safe_load fun v457 => ?_
  refine safe_bind (safe_for safe_k0_t8) fun _ => ?_
  exact safe_pure _

theorem safe_k0_part53 {v40 : IVec S1x128 1} {v447 : FVec F S256x1 .f32} {v462 : FVec F S256x128 .f32} :
    Safe defs₀ c R R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v447 v462) := by
  rw [k0_part53_eq_skeleton]
  unfold k0_part53_skel
  refine safe_load fun v464 => ?_
  refine safe_load fun v466 => ?_
  refine safe_load fun v468 => ?_
  exact safe_pure _

theorem safe_k0_part54 {v9 : BitVec 32} {v10 : IVec S1x128 32} {v36 : IVec S1x128 1} {v43 : IVec S1x128 1} {k0_h4 : k0_cond4 i = 1#1} {k0_h8 : k0_cond8 i = 1#1} {v134 : BitVec 32} {v406 : BitVec 32} {v469 : FVec F S256x128 .f32} {v504 : FVec F S256x128 .f32} {v507 : FVec F S256x128 .f32} :
    Safe defs₀ c R R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v36 v43 k0_h4 k0_h8 v134 v406 v469 v504 v507) := by
  rw [k0_part54_eq_skeleton]
  unfold k0_part54_skel
  refine safe_load fun v527 => ?_
  refine safe_load fun v532 => ?_
  refine safe_store fun _ => ?_
  refine safe_load fun v535 => ?_
  refine safe_store fun _ => ?_
  refine safe_load fun v542 => ?_
  exact safe_pure _

theorem safe_k0_part55 {arg0 : BitVec 32} {v10 : IVec S1x128 32} {v36 : IVec S1x128 1} {cst_26 : F .bf16} {k0_h4 : k0_cond4 i = 1#1} {k0_h8 : k0_cond8 i = 1#1} {v541 : BitVec 32} {v547 : FVec F S256x128 .bf16} :
    Safe defs₀ c R R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 cst_26 k0_h4 k0_h8 v541 v547) := by
  rw [k0_part55_eq_skeleton]
  unfold k0_part55_skel
  refine safe_load fun v549 => ?_
  refine safe_load fun v553 => ?_
  refine safe_load fun v562 => ?_
  refine safe_load fun v564 => ?_
  refine safe_load fun v588 => ?_
  exact safe_pure _

theorem safe_k0_t9 {v40 : IVec S1x128 1} {k0_h4 : k0_cond4 i = 1#1} {k0_h8 : k0_cond8 i = 1#1} {v578 : FVec F S256x1 .f32} {v586 : FVec F S256x512 .bf16} {v588 : Vec F S512x128 .bf16} {v590 : IVec S512x128 1} {v591 : FVec F S512x128 .bf16} [CanWord c R arg21 (fun v : Elt F .i32 => Pos v)] : ∀ t s,
    Safe defs₀ c R R (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 k0_h4 k0_h8 v578 v586 v588 v590 v591 t s) := by
  intro t s
  unfold k0_t9_body
  refine safe_word fun v1193 hv1193 => ?_
  refine safe_assume (k0_chk94_ok _ _ hv1193) fun k0_hw94 => ?_
  refine safe_load fun v1195 => ?_
  refine safe_load fun v1197 => ?_
  refine safe_store fun _ => ?_
  refine safe_word fun v1202 hv1202 => ?_
  refine safe_assume (k0_chk95_ok _ _ hv1202) fun k0_hw95 => ?_
  refine safe_load fun v1204 => ?_
  refine safe_load fun v1206 => ?_
  refine safe_store fun _ => ?_
  refine safe_word fun v1211 hv1211 => ?_
  refine safe_assume (k0_chk96_ok _ _ hv1211) fun k0_hw96 => ?_
  refine safe_load fun v1213 => ?_
  refine safe_load fun v1215 => ?_
  refine safe_store fun _ => ?_
  exact safe_pure _

theorem safe_k0_part56 {v40 : IVec S1x128 1} {k0_h4 : k0_cond4 i = 1#1} {k0_h8 : k0_cond8 i = 1#1} {v578 : FVec F S256x1 .f32} {v586 : FVec F S256x512 .bf16} {v588 : Vec F S512x128 .bf16} {v590 : IVec S512x128 1} {v591 : FVec F S512x128 .bf16} [CanWord c R arg21 (fun v : Elt F .i32 => Pos v)] :
    Safe defs₀ c R R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 k0_h4 k0_h8 v578 v586 v588 v590 v591) := by
  rw [k0_part56_eq_skeleton]
  unfold k0_part56_skel
  refine safe_bind (safe_for safe_k0_t9) fun _ => ?_
  refine safe_load fun v595 => ?_
  refine safe_load fun v597 => ?_
  refine safe_load fun v599 => ?_
  exact safe_pure _

theorem safe_k0_part57 {v9 : BitVec 32} {v10 : IVec S1x128 32} {v43 : IVec S1x128 1} {k0_h4 : k0_cond4 i = 1#1} {k0_h8 : k0_cond8 i = 1#1} {v134 : BitVec 32} {v537 : BitVec 32} {v598 : FVec F S256x128 .f32} {v600 : FVec F S256x128 .f32} {v612 : FVec F S256x1 .f32} {v618 : FVec F S256x1 .f32} {v621 : FVec F S256x1 .f32} {v630 : FVec F S256x128 .f32} :
    Safe defs₀ c R R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h4 k0_h8 v134 v537 v598 v600 v612 v618 v621 v630) := by
  rw [k0_part57_eq_skeleton]
  unfold k0_part57_skel
  refine safe_load fun v658 => ?_
  refine safe_load fun v663 => ?_
  refine safe_store fun _ => ?_
  refine safe_load fun v666 => ?_
  refine safe_store fun _ => ?_
  exact safe_pure _

theorem safe_k0_part58 {arg0 : BitVec 32} {v10 : IVec S1x128 32} {v36 : IVec S1x128 1} {k0_h4 : k0_cond4 i = 1#1} {k0_h8 : k0_cond8 i = 1#1} {v672 : BitVec 32} :
    Safe defs₀ c R R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h4 k0_h8 v672) := by
  rw [k0_part58_eq_skeleton]
  unfold k0_part58_skel
  refine safe_load fun v673 => ?_
  refine safe_load fun v680 => ?_
  refine safe_load fun v684 => ?_
  refine safe_load fun v693 => ?_
  refine safe_load fun v695 => ?_
  exact safe_pure _

theorem safe_k0_t10 {v36 : IVec S1x128 1} {v40 : IVec S1x128 1} {cst_26 : F .bf16} {k0_h4 : k0_cond4 i = 1#1} {k0_h8 : k0_cond8 i = 1#1} {v672 : BitVec 32} {v709 : FVec F S256x1 .f32} {v712 : FVec F S256x256 .f32} {v715 : FVec F S256x256 .f32} [CanWord c R arg21 (fun v : Elt F .i32 => Pos v)] : ∀ t s,
    Safe defs₀ c R R (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v672 v709 v712 v715 t s) := by
  intro t s
  unfold k0_t10_body
  refine safe_word fun v1193 hv1193 => ?_
  refine safe_assume (k0_chk97_ok _ _ hv1193) fun k0_hw97 => ?_
  refine safe_load fun v1195 => ?_
  refine safe_load fun v1197 => ?_
  refine safe_store fun _ => ?_
  refine safe_word fun v1202 hv1202 => ?_
  refine safe_assume (k0_chk98_ok _ _ hv1202) fun k0_hw98 => ?_
  refine safe_load fun v1204 => ?_
  refine safe_load fun v1206 => ?_
  refine safe_store fun _ => ?_
  refine safe_word fun v1211 hv1211 => ?_
  refine safe_assume (k0_chk99_ok _ _ hv1211) fun k0_hw99 => ?_
  refine safe_load fun v1213 => ?_
  refine safe_load fun v1215 => ?_
  refine safe_store fun _ => ?_
  exact safe_pure _

theorem safe_k0_part59 {v36 : IVec S1x128 1} {v40 : IVec S1x128 1} {cst_26 : F .bf16} {k0_h4 : k0_cond4 i = 1#1} {k0_h8 : k0_cond8 i = 1#1} {v672 : BitVec 32} {v709 : FVec F S256x1 .f32} {v712 : FVec F S256x256 .f32} {v715 : FVec F S256x256 .f32} [CanWord c R arg21 (fun v : Elt F .i32 => Pos v)] :
    Safe defs₀ c R R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v672 v709 v712 v715) := by
  rw [k0_part59_eq_skeleton]
  unfold k0_part59_skel
  refine safe_load fun v719 => ?_
  refine safe_bind (safe_for safe_k0_t10) fun _ => ?_
  refine safe_load fun v726 => ?_
  refine safe_load fun v728 => ?_
  refine safe_load fun v730 => ?_
  exact safe_pure _

theorem safe_k0_part60 {v9 : BitVec 32} {v10 : IVec S1x128 32} {v43 : IVec S1x128 1} {k0_h4 : k0_cond4 i = 1#1} {k0_h8 : k0_cond8 i = 1#1} {v134 : BitVec 32} {v668 : BitVec 32} {v724 : FVec F S256x128 .f32} {v727 : FVec F S256x128 .f32} {v729 : FVec F S256x128 .f32} {v731 : FVec F S256x128 .f32} {v737 : FVec F S256x1 .f32} {v743 : FVec F S256x1 .f32} {v749 : FVec F S256x1 .f32} {v752 : FVec F S256x1 .f32} {v753 : FVec F S256x1 .f32} :
    Safe defs₀ c R R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h4 k0_h8 v134 v668 v724 v727 v729 v731 v737 v743 v749 v752 v753) := by
  rw [k0_part60_eq_skeleton]
  unfold k0_part60_skel
  refine safe_load fun v789 => ?_
  refine safe_load fun v794 => ?_
  refine safe_store fun _ => ?_
  refine safe_load fun v797 => ?_
  refine safe_store fun _ => ?_
  exact safe_pure _

theorem safe_k0_part61 {arg0 : BitVec 32} {v10 : IVec S1x128 32} {v36 : IVec S1x128 1} {k0_h4 : k0_cond4 i = 1#1} {k0_h8 : k0_cond8 i = 1#1} {v799 : BitVec 32} {c1_i32_325 : BitVec 32} :
    Safe defs₀ c R R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h4 k0_h8 v799 c1_i32_325) := by
  rw [k0_part61_eq_skeleton]
  unfold k0_part61_skel
  refine safe_load fun v804 => ?_
  refine safe_load fun v811 => ?_
  refine safe_load fun v815 => ?_
  refine safe_load fun v824 => ?_
  refine safe_load fun v826 => ?_
  exact safe_pure _

theorem safe_k0_t11 {v36 : IVec S1x128 1} {v40 : IVec S1x128 1} {cst_26 : F .bf16} {k0_h4 : k0_cond4 i = 1#1} {k0_h8 : k0_cond8 i = 1#1} {v803 : BitVec 32} {v833 : FVec F S256x256 .f32} {v835 : FVec F S256x256 .f32} {v837 : FVec F S256x1 .f32} {v838 : FVec F S256 .f32} [CanWord c R arg21 (fun v : Elt F .i32 => Pos v)] : ∀ t s,
    Safe defs₀ c R R (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v803 v833 v835 v837 v838 t s) := by
  intro t s
  unfold k0_t11_body
  refine safe_word fun v1193 hv1193 => ?_
  refine safe_assume (k0_chk100_ok _ _ hv1193) fun k0_hw100 => ?_
  refine safe_load fun v1195 => ?_
  refine safe_load fun v1197 => ?_
  refine safe_store fun _ => ?_
  refine safe_word fun v1202 hv1202 => ?_
  refine safe_assume (k0_chk101_ok _ _ hv1202) fun k0_hw101 => ?_
  refine safe_load fun v1204 => ?_
  refine safe_load fun v1206 => ?_
  refine safe_store fun _ => ?_
  refine safe_word fun v1211 hv1211 => ?_
  refine safe_assume (k0_chk102_ok _ _ hv1211) fun k0_hw102 => ?_
  refine safe_load fun v1213 => ?_
  refine safe_load fun v1215 => ?_
  refine safe_store fun _ => ?_
  exact safe_pure _

theorem safe_k0_part62 {v36 : IVec S1x128 1} {v40 : IVec S1x128 1} {cst_26 : F .bf16} {k0_h4 : k0_cond4 i = 1#1} {k0_h8 : k0_cond8 i = 1#1} {v803 : BitVec 32} {v833 : FVec F S256x256 .f32} {v835 : FVec F S256x256 .f32} {v837 : FVec F S256x1 .f32} {v838 : FVec F S256 .f32} [CanWord c R arg21 (fun v : Elt F .i32 => Pos v)] :
    Safe defs₀ c R R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v803 v833 v835 v837 v838) := by
  rw [k0_part62_eq_skeleton]
  unfold k0_part62_skel
  refine safe_load fun v850 => ?_
  refine safe_bind (safe_for safe_k0_t11) fun _ => ?_
  refine safe_load fun v857 => ?_
  refine safe_load fun v859 => ?_
  refine safe_load fun v861 => ?_
  exact safe_pure _

theorem safe_k0_part63 {v9 : BitVec 32} {v10 : IVec S1x128 32} {v43 : IVec S1x128 1} {k0_h4 : k0_cond4 i = 1#1} {k0_h8 : k0_cond8 i = 1#1} {v799 : BitVec 32} {v840 : FVec F S256x1 .f32} {v855 : FVec F S256x128 .f32} {v858 : FVec F S256x128 .f32} {v860 : FVec F S256x128 .f32} {v862 : FVec F S256x128 .f32} {v868 : FVec F S256x1 .f32} {v874 : FVec F S256x1 .f32} {v876 : IVec S256x128 1} {v877 : FVec F S256x128 .f32} :
    Safe defs₀ c R R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h4 k0_h8 v799 v840 v855 v858 v860 v862 v868 v874 v876 v877) := by
  rw [k0_part63_eq_skeleton]
  unfold k0_part63_skel
  refine safe_load fun v920 => ?_
  refine safe_load fun v925 => ?_
  refine safe_store fun _ => ?_
  exact safe_pure _

theorem safe_k0_part64 {arg0 : BitVec 32} {v10 : IVec S1x128 32} {v36 : IVec S1x128 1} {k0_h4 : k0_cond4 i = 1#1} {k0_h8 : k0_cond8 i = 1#1} {v134 : BitVec 32} {v923 : Vec F S256x128 .bf16} :
    Safe defs₀ c R R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h4 k0_h8 v134 v923) := by
  rw [k0_part64_eq_skeleton]
  unfold k0_part64_skel
  refine safe_load fun v928 => ?_
  refine safe_store fun _ => ?_
  refine safe_load fun v935 => ?_
  refine safe_load fun v942 => ?_
  refine safe_load fun v946 => ?_
  refine safe_load fun v955 => ?_
  refine safe_load fun v957 => ?_
  exact safe_pure _

theorem safe_k0_t12 {v36 : IVec S1x128 1} {v40 : IVec S1x128 1} {cst_26 : F .bf16} {k0_h4 : k0_cond4 i = 1#1} {k0_h8 : k0_cond8 i = 1#1} {v934 : BitVec 32} {v943 : FVec F S256x512 .f32} {v958 : FVec F S256x256 .f32} {v960 : FVec F S256x256 .f32} {v962 : IVec S256x256 1} {v963 : FVec F S256x256 .f32} [CanWord c R arg21 (fun v : Elt F .i32 => Pos v)] : ∀ t s,
    Safe defs₀ c R R (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v934 v943 v958 v960 v962 v963 t s) := by
  intro t s
  unfold k0_t12_body
  refine safe_word fun v1193 hv1193 => ?_
  refine safe_assume (k0_chk103_ok _ _ hv1193) fun k0_hw103 => ?_
  refine safe_load fun v1195 => ?_
  refine safe_load fun v1197 => ?_
  refine safe_store fun _ => ?_
  refine safe_word fun v1202 hv1202 => ?_
  refine safe_assume (k0_chk104_ok _ _ hv1202) fun k0_hw104 => ?_
  refine safe_load fun v1204 => ?_
  refine safe_load fun v1206 => ?_
  refine safe_store fun _ => ?_
  refine safe_word fun v1211 hv1211 => ?_
  refine safe_assume (k0_chk105_ok _ _ hv1211) fun k0_hw105 => ?_
  refine safe_load fun v1213 => ?_
  refine safe_load fun v1215 => ?_
  refine safe_store fun _ => ?_
  exact safe_pure _

theorem safe_k0_part65 {v36 : IVec S1x128 1} {v40 : IVec S1x128 1} {cst_26 : F .bf16} {k0_h4 : k0_cond4 i = 1#1} {k0_h8 : k0_cond8 i = 1#1} {v934 : BitVec 32} {v943 : FVec F S256x512 .f32} {v958 : FVec F S256x256 .f32} {v960 : FVec F S256x256 .f32} {v962 : IVec S256x256 1} {v963 : FVec F S256x256 .f32} [CanWord c R arg21 (fun v : Elt F .i32 => Pos v)] :
    Safe defs₀ c R R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v934 v943 v958 v960 v962 v963) := by
  rw [k0_part65_eq_skeleton]
  unfold k0_part65_skel
  refine safe_load fun v981 => ?_
  refine safe_bind (safe_for safe_k0_t12) fun _ => ?_
  refine safe_load fun v988 => ?_
  refine safe_load fun v990 => ?_
  refine safe_load fun v992 => ?_
  exact safe_pure _

theorem safe_k0_part66 {v9 : BitVec 32} {v10 : IVec S1x128 32} {v40 : IVec S1x128 1} {v43 : IVec S1x128 1} {k0_h4 : k0_cond4 i = 1#1} {k0_h8 : k0_cond8 i = 1#1} {v930 : BitVec 32} {v971 : FVec F S256x1 .f32} {v986 : FVec F S256x128 .f32} {v989 : FVec F S256x128 .f32} {v991 : FVec F S256x128 .f32} {v993 : FVec F S256x128 .f32} {v999 : FVec F S256x1 .f32} {v1001 : IVec S256x128 1} {v1002 : FVec F S256x128 .f32} :
    Safe defs₀ c R R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v40 v43 k0_h4 k0_h8 v930 v971 v986 v989 v991 v993 v999 v1001 v1002) := by
  rw [k0_part66_eq_skeleton]
  unfold k0_part66_skel
  refine safe_load fun v1051 => ?_
  exact safe_pure _

theorem safe_k0_part67 {arg0 : BitVec 32} {v10 : IVec S1x128 32} {v36 : IVec S1x128 1} {k0_h4 : k0_cond4 i = 1#1} {k0_h8 : k0_cond8 i = 1#1} {v134 : BitVec 32} {v1042 : FVec F S256x128 .bf16} {v1044 : BitVec 32} {v1051 : Vec F S256x128 .bf16} {v1053 : IVec S256x128 1} :
    Safe defs₀ c R R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h4 k0_h8 v134 v1042 v1044 v1051 v1053) := by
  rw [k0_part67_eq_skeleton]
  unfold k0_part67_skel
  refine safe_load fun v1056 => ?_
  refine safe_store fun _ => ?_
  refine safe_load fun v1059 => ?_
  refine safe_store fun _ => ?_
  refine safe_load fun v1066 => ?_
  refine safe_load fun v1073 => ?_
  refine safe_load fun v1077 => ?_
  refine safe_load fun v1086 => ?_
  exact safe_pure _

theorem safe_k0_t13 {v36 : IVec S1x128 1} {v40 : IVec S1x128 1} {cst_26 : F .bf16} {k0_h4 : k0_cond4 i = 1#1} {k0_h8 : k0_cond8 i = 1#1} {v1065 : BitVec 32} {v1074 : FVec F S256x512 .f32} {v1085 : IVec S256x1 1} {v1087 : FVec F S256x256 .f32} [CanWord c R arg21 (fun v : Elt F .i32 => Pos v)] : ∀ t s,
    Safe defs₀ c R R (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v1065 v1074 v1085 v1087 t s) := by
  intro t s
  unfold k0_t13_body
  refine safe_word fun v1193 hv1193 => ?_
  refine safe_assume (k0_chk106_ok _ _ hv1193) fun k0_hw106 => ?_
  refine safe_load fun v1195 => ?_
  refine safe_load fun v1197 => ?_
  refine safe_store fun _ => ?_
  refine safe_word fun v1202 hv1202 => ?_
  refine safe_assume (k0_chk107_ok _ _ hv1202) fun k0_hw107 => ?_
  refine safe_load fun v1204 => ?_
  refine safe_load fun v1206 => ?_
  refine safe_store fun _ => ?_
  refine safe_word fun v1211 hv1211 => ?_
  refine safe_assume (k0_chk108_ok _ _ hv1211) fun k0_hw108 => ?_
  refine safe_load fun v1213 => ?_
  refine safe_load fun v1215 => ?_
  refine safe_store fun _ => ?_
  exact safe_pure _

theorem safe_k0_part68 {v36 : IVec S1x128 1} {v40 : IVec S1x128 1} {cst_26 : F .bf16} {k0_h4 : k0_cond4 i = 1#1} {k0_h8 : k0_cond8 i = 1#1} {v1065 : BitVec 32} {v1074 : FVec F S256x512 .f32} {v1085 : IVec S256x1 1} {v1087 : FVec F S256x256 .f32} [CanWord c R arg21 (fun v : Elt F .i32 => Pos v)] :
    Safe defs₀ c R R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_26 k0_h4 k0_h8 v1065 v1074 v1085 v1087) := by
  rw [k0_part68_eq_skeleton]
  unfold k0_part68_skel
  refine safe_load fun v1088 => ?_
  refine safe_load fun v1112 => ?_
  refine safe_bind (safe_for safe_k0_t13) fun _ => ?_
  refine safe_load fun v1119 => ?_
  refine safe_load fun v1121 => ?_
  refine safe_load fun v1123 => ?_
  exact safe_pure _

theorem safe_k0_part69 {v10 : IVec S1x128 32} {v40 : IVec S1x128 1} {v43 : IVec S1x128 1} {v1061 : BitVec 32} {v1102 : FVec F S256x1 .f32} {v1117 : FVec F S256x128 .f32} {v1120 : FVec F S256x128 .f32} {v1122 : FVec F S256x128 .f32} {v1124 : FVec F S256x128 .f32} {v1126 : IVec S256x128 1} {v1127 : FVec F S256x128 .f32} :
    Safe defs₀ c R R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v10 v40 v43 v1061 v1102 v1117 v1120 v1122 v1124 v1126 v1127) := by
  rw [k0_part69_eq_skeleton]
  unfold k0_part69_skel
  exact safe_pure _

theorem safe_k0_part71 {arg0 : BitVec 32} {arg1 : BitVec 32} {v10 : IVec S1x128 32} {v36 : IVec S1x128 1} {k0_h9 : k0_cond9 i = 1#1} {k0_h13 : k0_cond13 i = 1#1} :
    Safe defs₀ c R R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v10 v36 k0_h9 k0_h13) := by
  rw [k0_part71_eq_skeleton]
  unfold k0_part71_skel
  refine safe_load fun v141 => ?_
  refine safe_load fun v148 => ?_
  refine safe_load fun v152 => ?_
  refine safe_load fun v161 => ?_
  refine safe_load fun v163 => ?_
  refine safe_load fun v166 => ?_
  exact safe_pure _

theorem safe_k0_t15 {v36 : IVec S1x128 1} {cst_36 : F .bf16} {k0_h9 : k0_cond9 i = 1#1} {k0_h13 : k0_cond13 i = 1#1} {v140 : BitVec 32} {v149 : FVec F S256x512 .f32} {v160 : IVec S256x1 1} {v162 : FVec F S256x256 .f32} {v164 : FVec F S256x256 .f32} {v165 : BitVec 1} {v167 : FVec F S256x256 .f32} [CanWord c R arg22 (fun v : Elt F .i32 => Pos v)] : ∀ t s,
    Safe defs₀ c R R (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v140 v149 v160 v162 v164 v165 v167 t s) := by
  intro t s
  unfold k0_t15_body
  refine safe_word fun v1193 hv1193 => ?_
  refine safe_assume (k0_chk112_ok _ _ hv1193) fun k0_hw112 => ?_
  refine safe_load fun v1195 => ?_
  refine safe_load fun v1197 => ?_
  refine safe_store fun _ => ?_
  refine safe_word fun v1202 hv1202 => ?_
  refine safe_assume (k0_chk113_ok _ _ hv1202) fun k0_hw113 => ?_
  refine safe_load fun v1204 => ?_
  refine safe_load fun v1206 => ?_
  refine safe_store fun _ => ?_
  refine safe_word fun v1211 hv1211 => ?_
  refine safe_assume (k0_chk114_ok _ _ hv1211) fun k0_hw114 => ?_
  refine safe_load fun v1213 => ?_
  refine safe_load fun v1215 => ?_
  refine safe_store fun _ => ?_
  exact safe_pure _

theorem safe_k0_part72 {v36 : IVec S1x128 1} {cst_36 : F .bf16} {k0_h9 : k0_cond9 i = 1#1} {k0_h13 : k0_cond13 i = 1#1} {v140 : BitVec 32} {v149 : FVec F S256x512 .f32} {v160 : IVec S256x1 1} {v162 : FVec F S256x256 .f32} {v164 : FVec F S256x256 .f32} {v165 : BitVec 1} {v167 : FVec F S256x256 .f32} [CanWord c R arg22 (fun v : Elt F .i32 => Pos v)] :
    Safe defs₀ c R R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v140 v149 v160 v162 v164 v165 v167) := by
  rw [k0_part72_eq_skeleton]
  unfold k0_part72_skel
  refine safe_load fun v195 => ?_
  refine safe_bind (safe_for safe_k0_t15) fun _ => ?_
  refine safe_load fun v202 => ?_
  refine safe_load fun v204 => ?_
  refine safe_load fun v206 => ?_
  exact safe_pure _

theorem safe_k0_part73 {v40 : IVec S1x128 1} {v43 : IVec S1x128 1} {v136 : BitVec 32} {v185 : FVec F S256x1 .f32} {v200 : FVec F S256x128 .f32} {v203 : FVec F S256x128 .f32} {v205 : FVec F S256x128 .f32} {v207 : FVec F S256x128 .f32} :
    Safe defs₀ c R R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v43 v136 v185 v200 v203 v205 v207) := by
  rw [k0_part73_eq_skeleton]
  unfold k0_part73_skel
  exact safe_pure _

theorem safe_k0_part74 {arg0 : BitVec 32} {v9 : BitVec 32} {v10 : IVec S1x128 32} {v36 : IVec S1x128 1} {k0_h9 : k0_cond9 i = 1#1} {k0_h13 : k0_cond13 i = 1#1} {v134 : BitVec 32} {v256 : FVec F S256x128 .bf16} {v258 : BitVec 32} :
    Safe defs₀ c R R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v9 v10 v36 k0_h9 k0_h13 v134 v256 v258) := by
  rw [k0_part74_eq_skeleton]
  unfold k0_part74_skel
  refine safe_load fun v265 => ?_
  refine safe_load fun v270 => ?_
  refine safe_store fun _ => ?_
  refine safe_load fun v273 => ?_
  refine safe_store fun _ => ?_
  refine safe_load fun v280 => ?_
  refine safe_load fun v287 => ?_
  refine safe_load fun v291 => ?_
  exact safe_pure _

theorem safe_k0_t16 {v36 : IVec S1x128 1} {cst_36 : F .bf16} {k0_h9 : k0_cond9 i = 1#1} {k0_h13 : k0_cond13 i = 1#1} {v279 : BitVec 32} {v288 : FVec F S256x512 .f32} {v296 : FVec F S256 .f32} [CanWord c R arg22 (fun v : Elt F .i32 => Pos v)] : ∀ t s,
    Safe defs₀ c R R (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v279 v288 v296 t s) := by
  intro t s
  unfold k0_t16_body
  refine safe_word fun v1193 hv1193 => ?_
  refine safe_assume (k0_chk115_ok _ _ hv1193) fun k0_hw115 => ?_
  refine safe_load fun v1195 => ?_
  refine safe_load fun v1197 => ?_
  refine safe_store fun _ => ?_
  refine safe_word fun v1202 hv1202 => ?_
  refine safe_assume (k0_chk116_ok _ _ hv1202) fun k0_hw116 => ?_
  refine safe_load fun v1204 => ?_
  refine safe_load fun v1206 => ?_
  refine safe_store fun _ => ?_
  refine safe_word fun v1211 hv1211 => ?_
  refine safe_assume (k0_chk117_ok _ _ hv1211) fun k0_hw117 => ?_
  refine safe_load fun v1213 => ?_
  refine safe_load fun v1215 => ?_
  refine safe_store fun _ => ?_
  exact safe_pure _

theorem safe_k0_part75 {v36 : IVec S1x128 1} {cst_36 : F .bf16} {k0_h9 : k0_cond9 i = 1#1} {k0_h13 : k0_cond13 i = 1#1} {v279 : BitVec 32} {v288 : FVec F S256x512 .f32} {v296 : FVec F S256 .f32} [CanWord c R arg22 (fun v : Elt F .i32 => Pos v)] :
    Safe defs₀ c R R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v279 v288 v296) := by
  rw [k0_part75_eq_skeleton]
  unfold k0_part75_skel
  refine safe_load fun v300 => ?_
  refine safe_load fun v302 => ?_
  refine safe_load fun v326 => ?_
  refine safe_bind (safe_for safe_k0_t16) fun _ => ?_
  refine safe_load fun v333 => ?_
  exact safe_pure _

theorem safe_k0_part76 {v40 : IVec S1x128 1} {v43 : IVec S1x128 1} {v316 : FVec F S256x1 .f32} {v331 : FVec F S256x128 .f32} {v334 : FVec F S256x128 .f32} :
    Safe defs₀ c R R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v43 v316 v331 v334) := by
  rw [k0_part76_eq_skeleton]
  unfold k0_part76_skel
  refine safe_load fun v335 => ?_
  refine safe_load fun v337 => ?_
  exact safe_pure _

theorem safe_k0_part77 {arg0 : BitVec 32} {v9 : BitVec 32} {v10 : IVec S1x128 32} {v36 : IVec S1x128 1} {k0_h9 : k0_cond9 i = 1#1} {k0_h13 : k0_cond13 i = 1#1} {v134 : BitVec 32} {v275 : BitVec 32} {v378 : FVec F S256x128 .f32} {v382 : FVec F S256x128 .f32} :
    Safe defs₀ c R R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v9 v10 v36 k0_h9 k0_h13 v134 v275 v378 v382) := by
  rw [k0_part77_eq_skeleton]
  unfold k0_part77_skel
  refine safe_load fun v396 => ?_
  refine safe_load fun v401 => ?_
  refine safe_store fun _ => ?_
  refine safe_load fun v404 => ?_
  refine safe_store fun _ => ?_
  refine safe_load fun v411 => ?_
  refine safe_load fun v418 => ?_
  exact safe_pure _

theorem safe_k0_t17 {v36 : IVec S1x128 1} {cst_36 : F .bf16} {k0_h9 : k0_cond9 i = 1#1} {k0_h13 : k0_cond13 i = 1#1} {v410 : BitVec 32} {v419 : FVec F S256x512 .f32} {v421 : IVec S1x128 1} [CanWord c R arg22 (fun v : Elt F .i32 => Pos v)] : ∀ t s,
    Safe defs₀ c R R (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v410 v419 v421 t s) := by
  intro t s
  unfold k0_t17_body
  refine safe_word fun v1193 hv1193 => ?_
  refine safe_assume (k0_chk118_ok _ _ hv1193) fun k0_hw118 => ?_
  refine safe_load fun v1195 => ?_
  refine safe_load fun v1197 => ?_
  refine safe_store fun _ => ?_
  refine safe_word fun v1202 hv1202 => ?_
  refine safe_assume (k0_chk119_ok _ _ hv1202) fun k0_hw119 => ?_
  refine safe_load fun v1204 => ?_
  refine safe_load fun v1206 => ?_
  refine safe_store fun _ => ?_
  refine safe_word fun v1211 hv1211 => ?_
  refine safe_assume (k0_chk120_ok _ _ hv1211) fun k0_hw120 => ?_
  refine safe_load fun v1213 => ?_
  refine safe_load fun v1215 => ?_
  refine safe_store fun _ => ?_
  exact safe_pure _

theorem safe_k0_part78 {v36 : IVec S1x128 1} {cst_36 : F .bf16} {k0_h9 : k0_cond9 i = 1#1} {k0_h13 : k0_cond13 i = 1#1} {v410 : BitVec 32} {v419 : FVec F S256x512 .f32} {v421 : IVec S1x128 1} [CanWord c R arg22 (fun v : Elt F .i32 => Pos v)] :
    Safe defs₀ c R R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 cst_36 k0_h9 k0_h13 v410 v419 v421) := by
  rw [k0_part78_eq_skeleton]
  unfold k0_part78_skel
  refine safe_load fun v422 => ?_
  refine safe_load fun v431 => ?_
  refine safe_load fun v433 => ?_
  refine safe_load fun v457 => ?_
  refine safe_bind (safe_for safe_k0_t17) fun _ => ?_
  exact safe_pure _

theorem safe_k0_part79 {v40 : IVec S1x128 1} {v447 : FVec F S256x1 .f32} {v462 : FVec F S256x128 .f32} :
    Safe defs₀ c R R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 v447 v462) := by
  rw [k0_part79_eq_skeleton]
  unfold k0_part79_skel
  refine safe_load fun v464 => ?_
  refine safe_load fun v466 => ?_
  refine safe_load fun v468 => ?_
  exact safe_pure _

theorem safe_k0_part80 {v9 : BitVec 32} {v10 : IVec S1x128 32} {v36 : IVec S1x128 1} {v43 : IVec S1x128 1} {k0_h9 : k0_cond9 i = 1#1} {k0_h13 : k0_cond13 i = 1#1} {v134 : BitVec 32} {v406 : BitVec 32} {v469 : FVec F S256x128 .f32} {v504 : FVec F S256x128 .f32} {v507 : FVec F S256x128 .f32} :
    Safe defs₀ c R R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v36 v43 k0_h9 k0_h13 v134 v406 v469 v504 v507) := by
  rw [k0_part80_eq_skeleton]
  unfold k0_part80_skel
  refine safe_load fun v527 => ?_
  refine safe_load fun v532 => ?_
  refine safe_store fun _ => ?_
  refine safe_load fun v535 => ?_
  refine safe_store fun _ => ?_
  refine safe_load fun v542 => ?_
  exact safe_pure _

theorem safe_k0_part81 {arg0 : BitVec 32} {v10 : IVec S1x128 32} {v36 : IVec S1x128 1} {cst_36 : F .bf16} {k0_h9 : k0_cond9 i = 1#1} {k0_h13 : k0_cond13 i = 1#1} {v541 : BitVec 32} {v547 : FVec F S256x128 .bf16} :
    Safe defs₀ c R R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 cst_36 k0_h9 k0_h13 v541 v547) := by
  rw [k0_part81_eq_skeleton]
  unfold k0_part81_skel
  refine safe_load fun v549 => ?_
  refine safe_load fun v553 => ?_
  refine safe_load fun v562 => ?_
  refine safe_load fun v564 => ?_
  refine safe_load fun v588 => ?_
  exact safe_pure _

theorem safe_k0_t18 {v40 : IVec S1x128 1} {k0_h9 : k0_cond9 i = 1#1} {k0_h13 : k0_cond13 i = 1#1} {v578 : FVec F S256x1 .f32} {v586 : FVec F S256x512 .bf16} {v588 : Vec F S512x128 .bf16} {v590 : IVec S512x128 1} {v591 : FVec F S512x128 .bf16} [CanWord c R arg22 (fun v : Elt F .i32 => Pos v)] : ∀ t s,
    Safe defs₀ c R R (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 k0_h9 k0_h13 v578 v586 v588 v590 v591 t s) := by
  intro t s
  unfold k0_t18_body
  refine safe_word fun v1193 hv1193 => ?_
  refine safe_assume (k0_chk121_ok _ _ hv1193) fun k0_hw121 => ?_
  refine safe_load fun v1195 => ?_
  refine safe_load fun v1197 => ?_
  refine safe_store fun _ => ?_
  refine safe_word fun v1202 hv1202 => ?_
  refine safe_assume (k0_chk122_ok _ _ hv1202) fun k0_hw122 => ?_
  refine safe_load fun v1204 => ?_
  refine safe_load fun v1206 => ?_
  refine safe_store fun _ => ?_
  refine safe_word fun v1211 hv1211 => ?_
  refine safe_assume (k0_chk123_ok _ _ hv1211) fun k0_hw123 => ?_
  refine safe_load fun v1213 => ?_
  refine safe_load fun v1215 => ?_
  refine safe_store fun _ => ?_
  exact safe_pure _

theorem safe_k0_part82 {v40 : IVec S1x128 1} {k0_h9 : k0_cond9 i = 1#1} {k0_h13 : k0_cond13 i = 1#1} {v578 : FVec F S256x1 .f32} {v586 : FVec F S256x512 .bf16} {v588 : Vec F S512x128 .bf16} {v590 : IVec S512x128 1} {v591 : FVec F S512x128 .bf16} [CanWord c R arg22 (fun v : Elt F .i32 => Pos v)] :
    Safe defs₀ c R R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v40 k0_h9 k0_h13 v578 v586 v588 v590 v591) := by
  rw [k0_part82_eq_skeleton]
  unfold k0_part82_skel
  refine safe_bind (safe_for safe_k0_t18) fun _ => ?_
  refine safe_load fun v595 => ?_
  refine safe_load fun v597 => ?_
  refine safe_load fun v599 => ?_
  exact safe_pure _

theorem safe_k0_part83 {v9 : BitVec 32} {v10 : IVec S1x128 32} {v43 : IVec S1x128 1} {k0_h9 : k0_cond9 i = 1#1} {k0_h13 : k0_cond13 i = 1#1} {v134 : BitVec 32} {v537 : BitVec 32} {v598 : FVec F S256x128 .f32} {v600 : FVec F S256x128 .f32} {v612 : FVec F S256x1 .f32} {v618 : FVec F S256x1 .f32} {v621 : FVec F S256x1 .f32} {v630 : FVec F S256x128 .f32} :
    Safe defs₀ c R R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h9 k0_h13 v134 v537 v598 v600 v612 v618 v621 v630) := by
  rw [k0_part83_eq_skeleton]
  unfold k0_part83_skel
  refine safe_load fun v658 => ?_
  refine safe_load fun v663 => ?_
  refine safe_store fun _ => ?_
  refine safe_load fun v666 => ?_
  refine safe_store fun _ => ?_
  exact safe_pure _

theorem safe_k0_part84 {arg0 : BitVec 32} {v10 : IVec S1x128 32} {v36 : IVec S1x128 1} {k0_h9 : k0_cond9 i = 1#1} {k0_h13 : k0_cond13 i = 1#1} {v672 : BitVec 32} :
    Safe defs₀ c R R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h9 k0_h13 v672) := by
  rw [k0_part84_eq_skeleton]
  unfold k0_part84_skel
  refine safe_load fun v673 => ?_
  refine safe_load fun v680 => ?_
  refine safe_load fun v684 => ?_
  refine safe_load fun v693 => ?_
  refine safe_load fun v695 => ?_
  exact safe_pure _

theorem safe_k0_t19 {v36 : IVec S1x128 1} {v40 : IVec S1x128 1} {cst_36 : F .bf16} {k0_h9 : k0_cond9 i = 1#1} {k0_h13 : k0_cond13 i = 1#1} {v672 : BitVec 32} {v709 : FVec F S256x1 .f32} {v712 : FVec F S256x256 .f32} {v715 : FVec F S256x256 .f32} [CanWord c R arg22 (fun v : Elt F .i32 => Pos v)] : ∀ t s,
    Safe defs₀ c R R (k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v672 v709 v712 v715 t s) := by
  intro t s
  unfold k0_t19_body
  refine safe_word fun v1193 hv1193 => ?_
  refine safe_assume (k0_chk124_ok _ _ hv1193) fun k0_hw124 => ?_
  refine safe_load fun v1195 => ?_
  refine safe_load fun v1197 => ?_
  refine safe_store fun _ => ?_
  refine safe_word fun v1202 hv1202 => ?_
  refine safe_assume (k0_chk125_ok _ _ hv1202) fun k0_hw125 => ?_
  refine safe_load fun v1204 => ?_
  refine safe_load fun v1206 => ?_
  refine safe_store fun _ => ?_
  refine safe_word fun v1211 hv1211 => ?_
  refine safe_assume (k0_chk126_ok _ _ hv1211) fun k0_hw126 => ?_
  refine safe_load fun v1213 => ?_
  refine safe_load fun v1215 => ?_
  refine safe_store fun _ => ?_
  exact safe_pure _

theorem safe_k0_part85 {v36 : IVec S1x128 1} {v40 : IVec S1x128 1} {cst_36 : F .bf16} {k0_h9 : k0_cond9 i = 1#1} {k0_h13 : k0_cond13 i = 1#1} {v672 : BitVec 32} {v709 : FVec F S256x1 .f32} {v712 : FVec F S256x256 .f32} {v715 : FVec F S256x256 .f32} [CanWord c R arg22 (fun v : Elt F .i32 => Pos v)] :
    Safe defs₀ c R R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v672 v709 v712 v715) := by
  rw [k0_part85_eq_skeleton]
  unfold k0_part85_skel
  refine safe_load fun v719 => ?_
  refine safe_bind (safe_for safe_k0_t19) fun _ => ?_
  refine safe_load fun v726 => ?_
  refine safe_load fun v728 => ?_
  refine safe_load fun v730 => ?_
  exact safe_pure _

theorem safe_k0_part86 {v9 : BitVec 32} {v10 : IVec S1x128 32} {v43 : IVec S1x128 1} {k0_h9 : k0_cond9 i = 1#1} {k0_h13 : k0_cond13 i = 1#1} {v134 : BitVec 32} {v668 : BitVec 32} {v724 : FVec F S256x128 .f32} {v727 : FVec F S256x128 .f32} {v729 : FVec F S256x128 .f32} {v731 : FVec F S256x128 .f32} {v737 : FVec F S256x1 .f32} {v743 : FVec F S256x1 .f32} {v749 : FVec F S256x1 .f32} {v752 : FVec F S256x1 .f32} {v753 : FVec F S256x1 .f32} :
    Safe defs₀ c R R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h9 k0_h13 v134 v668 v724 v727 v729 v731 v737 v743 v749 v752 v753) := by
  rw [k0_part86_eq_skeleton]
  unfold k0_part86_skel
  refine safe_load fun v789 => ?_
  refine safe_load fun v794 => ?_
  refine safe_store fun _ => ?_
  refine safe_load fun v797 => ?_
  refine safe_store fun _ => ?_
  exact safe_pure _

theorem safe_k0_part87 {arg0 : BitVec 32} {v10 : IVec S1x128 32} {v36 : IVec S1x128 1} {k0_h9 : k0_cond9 i = 1#1} {k0_h13 : k0_cond13 i = 1#1} {v799 : BitVec 32} {c1_i32_325 : BitVec 32} :
    Safe defs₀ c R R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h9 k0_h13 v799 c1_i32_325) := by
  rw [k0_part87_eq_skeleton]
  unfold k0_part87_skel
  refine safe_load fun v804 => ?_
  refine safe_load fun v811 => ?_
  refine safe_load fun v815 => ?_
  refine safe_load fun v824 => ?_
  refine safe_load fun v826 => ?_
  exact safe_pure _

theorem safe_k0_t20 {v36 : IVec S1x128 1} {v40 : IVec S1x128 1} {cst_36 : F .bf16} {k0_h9 : k0_cond9 i = 1#1} {k0_h13 : k0_cond13 i = 1#1} {v803 : BitVec 32} {v833 : FVec F S256x256 .f32} {v835 : FVec F S256x256 .f32} {v837 : FVec F S256x1 .f32} {v838 : FVec F S256 .f32} [CanWord c R arg22 (fun v : Elt F .i32 => Pos v)] : ∀ t s,
    Safe defs₀ c R R (k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v803 v833 v835 v837 v838 t s) := by
  intro t s
  unfold k0_t20_body
  refine safe_word fun v1193 hv1193 => ?_
  refine safe_assume (k0_chk127_ok _ _ hv1193) fun k0_hw127 => ?_
  refine safe_load fun v1195 => ?_
  refine safe_load fun v1197 => ?_
  refine safe_store fun _ => ?_
  refine safe_word fun v1202 hv1202 => ?_
  refine safe_assume (k0_chk128_ok _ _ hv1202) fun k0_hw128 => ?_
  refine safe_load fun v1204 => ?_
  refine safe_load fun v1206 => ?_
  refine safe_store fun _ => ?_
  refine safe_word fun v1211 hv1211 => ?_
  refine safe_assume (k0_chk129_ok _ _ hv1211) fun k0_hw129 => ?_
  refine safe_load fun v1213 => ?_
  refine safe_load fun v1215 => ?_
  refine safe_store fun _ => ?_
  exact safe_pure _

theorem safe_k0_part88 {v36 : IVec S1x128 1} {v40 : IVec S1x128 1} {cst_36 : F .bf16} {k0_h9 : k0_cond9 i = 1#1} {k0_h13 : k0_cond13 i = 1#1} {v803 : BitVec 32} {v833 : FVec F S256x256 .f32} {v835 : FVec F S256x256 .f32} {v837 : FVec F S256x1 .f32} {v838 : FVec F S256 .f32} [CanWord c R arg22 (fun v : Elt F .i32 => Pos v)] :
    Safe defs₀ c R R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v803 v833 v835 v837 v838) := by
  rw [k0_part88_eq_skeleton]
  unfold k0_part88_skel
  refine safe_load fun v850 => ?_
  refine safe_bind (safe_for safe_k0_t20) fun _ => ?_
  refine safe_load fun v857 => ?_
  refine safe_load fun v859 => ?_
  refine safe_load fun v861 => ?_
  exact safe_pure _

theorem safe_k0_part89 {v9 : BitVec 32} {v10 : IVec S1x128 32} {v43 : IVec S1x128 1} {k0_h9 : k0_cond9 i = 1#1} {k0_h13 : k0_cond13 i = 1#1} {v799 : BitVec 32} {v840 : FVec F S256x1 .f32} {v855 : FVec F S256x128 .f32} {v858 : FVec F S256x128 .f32} {v860 : FVec F S256x128 .f32} {v862 : FVec F S256x128 .f32} {v868 : FVec F S256x1 .f32} {v874 : FVec F S256x1 .f32} {v876 : IVec S256x128 1} {v877 : FVec F S256x128 .f32} :
    Safe defs₀ c R R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v43 k0_h9 k0_h13 v799 v840 v855 v858 v860 v862 v868 v874 v876 v877) := by
  rw [k0_part89_eq_skeleton]
  unfold k0_part89_skel
  refine safe_load fun v920 => ?_
  refine safe_load fun v925 => ?_
  refine safe_store fun _ => ?_
  exact safe_pure _

theorem safe_k0_part90 {arg0 : BitVec 32} {v10 : IVec S1x128 32} {v36 : IVec S1x128 1} {k0_h9 : k0_cond9 i = 1#1} {k0_h13 : k0_cond13 i = 1#1} {v134 : BitVec 32} {v923 : Vec F S256x128 .bf16} :
    Safe defs₀ c R R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h9 k0_h13 v134 v923) := by
  rw [k0_part90_eq_skeleton]
  unfold k0_part90_skel
  refine safe_load fun v928 => ?_
  refine safe_store fun _ => ?_
  refine safe_load fun v935 => ?_
  refine safe_load fun v942 => ?_
  refine safe_load fun v946 => ?_
  refine safe_load fun v955 => ?_
  refine safe_load fun v957 => ?_
  exact safe_pure _

theorem safe_k0_t21 {v36 : IVec S1x128 1} {v40 : IVec S1x128 1} {cst_36 : F .bf16} {k0_h9 : k0_cond9 i = 1#1} {k0_h13 : k0_cond13 i = 1#1} {v934 : BitVec 32} {v943 : FVec F S256x512 .f32} {v958 : FVec F S256x256 .f32} {v960 : FVec F S256x256 .f32} {v962 : IVec S256x256 1} {v963 : FVec F S256x256 .f32} [CanWord c R arg22 (fun v : Elt F .i32 => Pos v)] : ∀ t s,
    Safe defs₀ c R R (k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v934 v943 v958 v960 v962 v963 t s) := by
  intro t s
  unfold k0_t21_body
  refine safe_word fun v1193 hv1193 => ?_
  refine safe_assume (k0_chk130_ok _ _ hv1193) fun k0_hw130 => ?_
  refine safe_load fun v1195 => ?_
  refine safe_load fun v1197 => ?_
  refine safe_store fun _ => ?_
  refine safe_word fun v1202 hv1202 => ?_
  refine safe_assume (k0_chk131_ok _ _ hv1202) fun k0_hw131 => ?_
  refine safe_load fun v1204 => ?_
  refine safe_load fun v1206 => ?_
  refine safe_store fun _ => ?_
  refine safe_word fun v1211 hv1211 => ?_
  refine safe_assume (k0_chk132_ok _ _ hv1211) fun k0_hw132 => ?_
  refine safe_load fun v1213 => ?_
  refine safe_load fun v1215 => ?_
  refine safe_store fun _ => ?_
  exact safe_pure _

theorem safe_k0_part91 {v36 : IVec S1x128 1} {v40 : IVec S1x128 1} {cst_36 : F .bf16} {k0_h9 : k0_cond9 i = 1#1} {k0_h13 : k0_cond13 i = 1#1} {v934 : BitVec 32} {v943 : FVec F S256x512 .f32} {v958 : FVec F S256x256 .f32} {v960 : FVec F S256x256 .f32} {v962 : IVec S256x256 1} {v963 : FVec F S256x256 .f32} [CanWord c R arg22 (fun v : Elt F .i32 => Pos v)] :
    Safe defs₀ c R R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v934 v943 v958 v960 v962 v963) := by
  rw [k0_part91_eq_skeleton]
  unfold k0_part91_skel
  refine safe_load fun v981 => ?_
  refine safe_bind (safe_for safe_k0_t21) fun _ => ?_
  refine safe_load fun v988 => ?_
  refine safe_load fun v990 => ?_
  refine safe_load fun v992 => ?_
  exact safe_pure _

theorem safe_k0_part92 {v9 : BitVec 32} {v10 : IVec S1x128 32} {v40 : IVec S1x128 1} {v43 : IVec S1x128 1} {k0_h9 : k0_cond9 i = 1#1} {k0_h13 : k0_cond13 i = 1#1} {v930 : BitVec 32} {v971 : FVec F S256x1 .f32} {v986 : FVec F S256x128 .f32} {v989 : FVec F S256x128 .f32} {v991 : FVec F S256x128 .f32} {v993 : FVec F S256x128 .f32} {v999 : FVec F S256x1 .f32} {v1001 : IVec S256x128 1} {v1002 : FVec F S256x128 .f32} :
    Safe defs₀ c R R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v9 v10 v40 v43 k0_h9 k0_h13 v930 v971 v986 v989 v991 v993 v999 v1001 v1002) := by
  rw [k0_part92_eq_skeleton]
  unfold k0_part92_skel
  refine safe_load fun v1051 => ?_
  exact safe_pure _

theorem safe_k0_part93 {arg0 : BitVec 32} {v10 : IVec S1x128 32} {v36 : IVec S1x128 1} {k0_h9 : k0_cond9 i = 1#1} {k0_h13 : k0_cond13 i = 1#1} {v134 : BitVec 32} {v1042 : FVec F S256x128 .bf16} {v1044 : BitVec 32} {v1051 : Vec F S256x128 .bf16} {v1053 : IVec S256x128 1} :
    Safe defs₀ c R R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 v10 v36 k0_h9 k0_h13 v134 v1042 v1044 v1051 v1053) := by
  rw [k0_part93_eq_skeleton]
  unfold k0_part93_skel
  refine safe_load fun v1056 => ?_
  refine safe_store fun _ => ?_
  refine safe_load fun v1059 => ?_
  refine safe_store fun _ => ?_
  refine safe_load fun v1066 => ?_
  refine safe_load fun v1073 => ?_
  refine safe_load fun v1077 => ?_
  refine safe_load fun v1086 => ?_
  exact safe_pure _

theorem safe_k0_t22 {v36 : IVec S1x128 1} {v40 : IVec S1x128 1} {cst_36 : F .bf16} {k0_h9 : k0_cond9 i = 1#1} {k0_h13 : k0_cond13 i = 1#1} {v1065 : BitVec 32} {v1074 : FVec F S256x512 .f32} {v1085 : IVec S256x1 1} {v1087 : FVec F S256x256 .f32} [CanWord c R arg22 (fun v : Elt F .i32 => Pos v)] : ∀ t s,
    Safe defs₀ c R R (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v1065 v1074 v1085 v1087 t s) := by
  intro t s
  unfold k0_t22_body
  refine safe_word fun v1193 hv1193 => ?_
  refine safe_assume (k0_chk133_ok _ _ hv1193) fun k0_hw133 => ?_
  refine safe_load fun v1195 => ?_
  refine safe_load fun v1197 => ?_
  refine safe_store fun _ => ?_
  refine safe_word fun v1202 hv1202 => ?_
  refine safe_assume (k0_chk134_ok _ _ hv1202) fun k0_hw134 => ?_
  refine safe_load fun v1204 => ?_
  refine safe_load fun v1206 => ?_
  refine safe_store fun _ => ?_
  refine safe_word fun v1211 hv1211 => ?_
  refine safe_assume (k0_chk135_ok _ _ hv1211) fun k0_hw135 => ?_
  refine safe_load fun v1213 => ?_
  refine safe_load fun v1215 => ?_
  refine safe_store fun _ => ?_
  exact safe_pure _

theorem safe_k0_part94 {v36 : IVec S1x128 1} {v40 : IVec S1x128 1} {cst_36 : F .bf16} {k0_h9 : k0_cond9 i = 1#1} {k0_h13 : k0_cond13 i = 1#1} {v1065 : BitVec 32} {v1074 : FVec F S256x512 .f32} {v1085 : IVec S256x1 1} {v1087 : FVec F S256x256 .f32} [CanWord c R arg22 (fun v : Elt F .i32 => Pos v)] :
    Safe defs₀ c R R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v36 v40 cst_36 k0_h9 k0_h13 v1065 v1074 v1085 v1087) := by
  rw [k0_part94_eq_skeleton]
  unfold k0_part94_skel
  refine safe_load fun v1088 => ?_
  refine safe_load fun v1112 => ?_
  refine safe_bind (safe_for safe_k0_t22) fun _ => ?_
  refine safe_load fun v1119 => ?_
  refine safe_load fun v1121 => ?_
  refine safe_load fun v1123 => ?_
  exact safe_pure _

theorem safe_k0_part95 {v10 : IVec S1x128 32} {v40 : IVec S1x128 1} {v43 : IVec S1x128 1} {v1061 : BitVec 32} {v1102 : FVec F S256x1 .f32} {v1117 : FVec F S256x128 .f32} {v1120 : FVec F S256x128 .f32} {v1122 : FVec F S256x128 .f32} {v1124 : FVec F S256x128 .f32} {v1126 : IVec S256x128 1} {v1127 : FVec F S256x128 .f32} :
    Safe defs₀ c R R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v10 v40 v43 v1061 v1102 v1117 v1120 v1122 v1124 v1126 v1127) := by
  rw [k0_part95_eq_skeleton]
  unfold k0_part95_skel
  exact safe_pure _

theorem safe_k0_part97  :
    Safe defs₀ c R R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [k0_part97_eq_skeleton]
  unfold k0_part97_skel
  exact safe_pure _

theorem safe_k0_t1 {arg0 : BitVec 32} {arg1 : BitVec 32} {v9 : BitVec 32} {v10 : IVec S1x128 32} {v36 : IVec S1x128 1} {v40 : IVec S1x128 1} {v41 : BitVec 32} {k0_h1 : k0_cond1 i = 1#1} : ∀ t s,
    Safe defs₀ c R R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v9 v10 v36 v40 v41 k0_h1 t s) := by
  intro t s
  unfold k0_t1_body
  refine safe_load fun v93 => ?_
  refine safe_store fun _ => ?_
  exact safe_pure _

theorem safe_k0_t2 {arg0 : BitVec 32} {arg1 : BitVec 32} {v9 : BitVec 32} {v10 : IVec S1x128 32} {v36 : IVec S1x128 1} {v40 : IVec S1x128 1} {v41 : BitVec 32} {k0_h1 : k0_cond1 i = 1#1} : ∀ t s,
    Safe defs₀ c R R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v9 v10 v36 v40 v41 k0_h1 t s) := by
  intro t s
  unfold k0_t2_body
  refine safe_load fun v93 => ?_
  refine safe_store fun _ => ?_
  exact safe_pure _

theorem safe_k0_t3 {arg0 : BitVec 32} {arg1 : BitVec 32} {v9 : BitVec 32} {v10 : IVec S1x128 32} {v36 : IVec S1x128 1} {v40 : IVec S1x128 1} {v41 : BitVec 32} {cst : F .bf16} {k0_h2 : k0_cond2 i = 1#1} {v96 : Elt F .i32} {k0_hw1 : k0_chk1 i v96} {v98 : Elt F .f32} {v99 : IVec S256x128 32} {k0_h3 : k0_cond3 v96 = 1#1} : ∀ t s,
    Safe defs₀ c R R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v9 v10 v36 v40 v41 cst k0_h2 v96 k0_hw1 v98 v99 k0_h3 t s) := by
  intro t s
  unfold k0_t3_body
  refine safe_bind safe_k0_part1 ?_
  rintro ⟨v338, v347, k0_hw18, v348, v350, k0_hw19, v352, v367, k0_hw20, v368, v370, k0_hw21, v372, v375⟩
  refine safe_bind safe_k0_part2 ?_
  rintro ⟨v387, k0_hw22, v388, v390, k0_hw23, v392, v407, k0_hw24, v408, v410, k0_hw25, v412, v415⟩
  refine safe_bind safe_k0_part3 ?_
  rintro ⟨v427, k0_hw26, v428, v430, k0_hw27, v432, v447, k0_hw28, v448, v450, k0_hw29, v452, v455⟩
  refine safe_bind safe_k0_part4 ?_
  rintro ⟨v467, k0_hw30, v468, v470, k0_hw31, v472, v487, k0_hw32, v488, v490, k0_hw33, v492, v495⟩
  refine safe_bind safe_k0_part5 ?_
  rintro ⟨v507, k0_hw34, v508, v510, k0_hw35, v512, v518, v527, k0_hw36, v528, v530, k0_hw37, v532, v535⟩
  refine safe_bind safe_k0_part6 ?_
  rintro ⟨v538, v547, k0_hw38, v548, v550, k0_hw39, v552, v558, v567, k0_hw40, v568, v570, k0_hw41, v572, v575⟩
  refine safe_bind safe_k0_part7 ?_
  rintro ⟨v578, v587, k0_hw42, v588, v590, k0_hw43, v592, v598, v607, k0_hw44, v608, v610, k0_hw45, v612, v615⟩
  refine safe_bind safe_k0_part8 ?_
  rintro ⟨v618, v627, k0_hw46, v628, v630, k0_hw47, v632, v638, v647, k0_hw48, v648, v650, k0_hw49, v652, v655⟩
  refine safe_bind safe_k0_part9 ?_
  rintro ⟨v658, v665, v672, v679, v686, v693, v700, v702⟩
  refine safe_bind safe_k0_part10 ?_
  rintro ⟨v707, v714, v739, v745⟩
  refine safe_bind safe_k0_part11 fun v785 => ?_
  refine safe_bind safe_k0_part12 fun _ => ?_
  refine safe_bind safe_k0_part13 ?_
  rintro ⟨v868, v870⟩
  refine safe_bind safe_k0_part14 fun v911 => ?_
  refine safe_bind safe_k0_part15 ?_
  rintro ⟨v943, v944⟩
  refine safe_bind safe_k0_part16 fun _ => ?_
  refine safe_bind safe_k0_part17 fun v1012 => ?_
  refine safe_bind safe_k0_part18 fun _ => ?_
  exact safe_k0_part19

theorem safe_k0_t4 {arg0 : BitVec 32} {arg1 : BitVec 32} {v9 : BitVec 32} {v10 : IVec S1x128 32} {v36 : IVec S1x128 1} {v40 : IVec S1x128 1} {v41 : BitVec 32} {cst : F .bf16} {k0_h2 : k0_cond2 i = 1#1} {v96 : Elt F .i32} {k0_hw1 : k0_chk1 i v96} {v98 : Elt F .f32} {v99 : IVec S256x128 32} {k0_h3 : k0_cond3 v96 = 1#1} {v335 : BitVec 32} : ∀ t s,
    Safe defs₀ c R R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v9 v10 v36 v40 v41 cst k0_h2 v96 k0_hw1 v98 v99 k0_h3 v335 t s) := by
  intro t s
  unfold k0_t4_body
  refine safe_bind safe_k0_part20 ?_
  rintro ⟨v338, v347, k0_hw50, v348, v350, k0_hw51, v352, v367, k0_hw52, v368, v370, k0_hw53, v372, v375⟩
  refine safe_bind safe_k0_part21 ?_
  rintro ⟨v387, k0_hw54, v388, v390, k0_hw55, v392, v407, k0_hw56, v408, v410, k0_hw57, v412, v415⟩
  refine safe_bind safe_k0_part22 ?_
  rintro ⟨v427, k0_hw58, v428, v430, k0_hw59, v432, v447, k0_hw60, v448, v450, k0_hw61, v452, v455⟩
  refine safe_bind safe_k0_part23 ?_
  rintro ⟨v467, k0_hw62, v468, v470, k0_hw63, v472, v487, k0_hw64, v488, v490, k0_hw65, v492, v495⟩
  refine safe_bind safe_k0_part24 ?_
  rintro ⟨v507, k0_hw66, v508, v510, k0_hw67, v512, v518, v527, k0_hw68, v528, v530, k0_hw69, v532, v535⟩
  refine safe_bind safe_k0_part25 ?_
  rintro ⟨v538, v547, k0_hw70, v548, v550, k0_hw71, v552, v558, v567, k0_hw72, v568, v570, k0_hw73, v572, v575⟩
  refine safe_bind safe_k0_part26 ?_
  rintro ⟨v578, v587, k0_hw74, v588, v590, k0_hw75, v592, v598, v607, k0_hw76, v608, v610, k0_hw77, v612, v615⟩
  refine safe_bind safe_k0_part27 ?_
  rintro ⟨v618, v627, k0_hw78, v628, v630, k0_hw79, v632, v638, v647, k0_hw80, v648, v650, k0_hw81, v652, v655⟩
  refine safe_bind safe_k0_part28 ?_
  rintro ⟨v658, v665, v672, v679, v686, v693, v700, v702⟩
  refine safe_bind safe_k0_part29 ?_
  rintro ⟨v707, v714, v739, v745⟩
  refine safe_bind safe_k0_part30 fun v785 => ?_
  refine safe_bind safe_k0_part31 fun _ => ?_
  refine safe_bind safe_k0_part32 ?_
  rintro ⟨v868, v870⟩
  refine safe_bind safe_k0_part33 fun v911 => ?_
  refine safe_bind safe_k0_part34 ?_
  rintro ⟨v943, v944⟩
  refine safe_bind safe_k0_part35 fun _ => ?_
  refine safe_bind safe_k0_part36 fun v1012 => ?_
  refine safe_bind safe_k0_part37 fun _ => ?_
  exact safe_k0_part38

theorem safe_k0_t5 {arg0 : BitVec 32} {arg1 : BitVec 32} {v9 : BitVec 32} {v10 : IVec S1x128 32} {v36 : IVec S1x128 1} {v40 : IVec S1x128 1} {v41 : BitVec 32} {k0_h4 : k0_cond4 i = 1#1} {k0_h7 : k0_cond7 i = 1#1} [CanWord c R arg21 (fun v : Elt F .i32 => Pos v)] : ∀ t s,
    Safe defs₀ c R R (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg0 arg1 v9 v10 v36 v40 v41 k0_h4 k0_h7 t s) := by
  intro t s
  unfold k0_t5_body
  refine safe_load fun v136 => ?_
  refine safe_word fun v139 hv139 => ?_
  refine safe_assume (k0_chk82_ok _ _ hv139) fun k0_hw82 => ?_
  refine safe_load fun v141 => ?_
  refine safe_store fun _ => ?_
  refine safe_word fun v146 hv146 => ?_
  refine safe_assume (k0_chk83_ok _ _ hv146) fun k0_hw83 => ?_
  refine safe_load fun v148 => ?_
  refine safe_store fun _ => ?_
  refine safe_word fun v153 hv153 => ?_
  refine safe_assume (k0_chk84_ok _ _ hv153) fun k0_hw84 => ?_
  refine safe_load fun v155 => ?_
  refine safe_store fun _ => ?_
  exact safe_pure _

end Cert.KernelIdeal.Hand
-- ==== Proof.Steps.lean ====
/-
  The two buffers of positions that are filled from the position array while the body works on the other: a buffer at rest, a
  buffer being filled, a buffer filled; starting a transfer and waiting for it take one to the next.
-/
module

public import proofs.«01_k».proof.Proof.Safe

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (Pipeline.UD sig nD τ) ℕ

section
variable (c : Dev nD) {s8 s : Shape} {e : EltTy}
variable (a8 : Memref sig .tc .hbm s8 e) (q : PosShare TreeShare) (fp : Buf Val (a8.view.loc (c : Thread nD τ)))
variable (b : Memref sig .tc .smem s e) (sm : DmaSem sig) (φ : Val e → Prop)

/-- The buffer's words all satisfy `φ`. -/
def Filled : sProp 𝕄 := iprop(∃ f, ⌜∀ j, φ (b.view.read Val f j)⌝ ∗ (b.view.loc (c : Thread nD τ) ↦[b.view.set]{fullShare} f))

/-- What a buffer keeps beside its contents: its semaphore at zero and its share of the array it is filled from. -/
def Kept : sProp 𝕄 := iprop(semVal ((c : Thread nD τ), SemLoc.dma sm) 0 ∗ (a8.view.loc (c : Thread nD τ) ↦[a8.view.set]{q} fp))

/-- A buffer at rest, at any contents. -/
def Idle : sProp 𝕄 := iprop((∃ f, b.view.loc (c : Thread nD τ) ↦[b.view.set]{fullShare} f) ∗ Kept c a8 q fp sm)

/-- A buffer filled. -/
def Done : sProp 𝕄 := iprop(Filled c b φ ∗ Kept c a8 q fp sm)

/-- A buffer being filled. -/
def Busy : sProp 𝕄 := iprop(∃ D : sProp 𝕄, Transfers.Flight (countersEmb) (c : Thread nD τ) (SemLoc.dma sm) () b.view.dmaCredit D
  ∗ (D -∗ (Filled c b φ ∗ (a8.view.loc (c : Thread nD τ) ↦[a8.view.set]{q} fp))))

/-- The core owes nothing, whatever it has waited for. -/
def Owes : sProp 𝕄 := iprop(∃ W, owes (c : Thread nD τ) 0 W)
end

variable {d : Defs nD τ sig Val Λ} {c : Dev nD} {s8 s : Shape} {e : EltTy}
variable {a8 : Memref sig .tc .hbm s8 e} {q : PosShare TreeShare} {fp : Buf Val (a8.view.loc (c : Thread nD τ))}
variable {b : Memref sig .tc .smem s e} {sm : DmaSem sig} {φ : Val e → Prop} {α : Type}

theorem Filled.rest : (Filled c b φ : sProp 𝕄) ⊢ iprop(∃ f, b.view.loc (c : Thread nD τ) ↦[b.view.set]{fullShare} f) := by
  unfold Filled
  iintro ⟨%f, -, H⟩
  iexists f; iexact H

theorem Done.rest : (Done c a8 q fp b sm φ : sProp 𝕄) ⊢ Idle c a8 q fp b sm := by
  unfold Done Idle
  iintro ⟨H, HK⟩
  isplitl [H]; · iapply Filled.rest $$ H
  iexact HK

theorem Done.word : CanWord c (Done c a8 q fp b sm φ : sProp 𝕄) b φ where
  lend := by
    unfold Done Filled
    iintro ⟨⟨%f, %hf, H⟩, HK⟩
    iexists fullShare, f
    isplitr; · ipureintro; exact hf
    isplitl [H]; · iexact H
    iintro H
    isplitl [H]
    · iexists f
      isplitr; · ipureintro; exact hf
      iexact H
    iexact HK

theorem word_left {R F : sProp 𝕄} (H : CanWord c R b φ) : CanWord c iprop(R ∗ F) b φ where
  lend := by
    iintro ⟨HR, HF⟩
    ihave ⟨%q, %f, %hf, Hm, Hb⟩ := H.lend $$ HR
    iexists q, f
    isplitr; · ipureintro; exact hf
    isplitl [Hm]; · iexact Hm
    iintro Hm
    isplitl [Hb Hm]; · iapply Hb $$ Hm
    iexact HF

theorem word_right {R F : sProp 𝕄} (H : CanWord c R b φ) : CanWord c iprop(F ∗ R) b φ where
  lend := by
    iintro ⟨HF, HR⟩
    ihave ⟨%q, %f, %hf, Hm, Hb⟩ := H.lend $$ HR
    iexists q, f
    isplitr; · ipureintro; exact hf
    isplitl [Hm]; · iexact Hm
    iintro Hm
    isplitr [Hb Hm]; · iexact HF
    iapply Hb $$ Hm

/-- Moving along entailments before and after. -/
theorem safe_conseq {R R' S S' : sProp 𝕄} {p : Prog (TpuEff nD τ sig Val Λ .tc) α} (h : R ⊢ S) (hp : Safe d c S S' p) (h' : S' ⊢ R') :
    Safe d c R R' p := by
  unfold Safe at *
  exact (h.trans hp).trans (wp_mono _ _ _ fun _ => h')

/-- A transfer of a stretch of the array into a buffer at rest. -/
theorem safe_start {r : Rect s8} {hr : ∀ a, r.stride a = 1} {b : Memref sig .tc .smem r.shape e}
    (hφ : ∀ j, φ (a8.view.read Val fp j)) (h0 : 0 < b.view.dmaCredit) {F R' : sProp 𝕄} {h1 h2 h3} {k : PUnit → Prog (TpuEff nD τ sig Val Λ .tc) α}
    (hk : ∀ v, Safe d c iprop(F ∗ Busy c a8 q fp b sm φ) R' (k v)) :
    Safe d c iprop(F ∗ Idle c a8 q fp b sm) R'
      ((Prog.lift (.enqueueDma (a8.slice r hr) (.here b) (.dma sm) h1 h2 h3) : Prog (TpuEff nD τ sig Val Λ .tc) _) >>= k) := by
  unfold Safe at *
  show _ ⊢ wp frame _ Set.univ (.op (.enqueueDmaAs (a8.slice r hr) (.here b) .same (.dma sm) h1 h2 h3) k) _
  unfold Idle Kept
  iintro ⟨HF, ⟨%f, Hb⟩, Hv, Ha⟩
  ihave Ha' := (pointsTo_split_subset (a8.view.set_slice_subset r)).1 $$ Ha
  icases Ha' with ⟨Ha, Hrest⟩
  iapply (Transfers.wp_dmaLocal (src := a8.slice r hr) (dst := b) countersEmb Variants.none (c : Thread nD τ) none () b.view.dmaCredit rfl h0 subset_rfl) $$ [Ha Hb Hv]
  · isplitl [Ha]; · iexact Ha
    isplitl [Hb]; · iexact Hb
    iexact Hv
  iintro Hf
  iapply (hk _)
  isplitl [HF]; · iexact HF
  unfold Busy
  iexists _
  isplitl [Hf]; · iexact Hf
  iintro ⟨Hb, Ha⟩
  isplitl [Hb]
  · unfold Filled
    iexists _
    isplitr
    swap; · iexact Hb
    ipureintro
    intro j
    rw [View.read_write_univ]
    exact hφ _
  iapply (pointsTo_split_subset (a8.view.set_slice_subset r)).2
  isplitl [Ha]; · iexact Ha
  iexact Hrest

/-- The wait for it. -/
theorem safe_wait {F R' : sProp 𝕄} {sp : Space} {s' : Shape} {e' : EltTy} {src : Memref sig .tc sp s' e'} {h1 h2} {k : PUnit → Prog (TpuEff nD τ sig Val Λ .tc) α}
    (hk : ∀ v, Safe d c iprop((F ∗ Owes c) ∗ Done c a8 q fp b sm φ) R' (k v)) :
    Safe d c iprop((F ∗ Owes c) ∗ Busy c a8 q fp b sm φ) R'
      ((Prog.lift (.waitDma2 sm src b h1 h2) : Prog (TpuEff nD τ sig Val Λ .tc) _) >>= k) := by
  unfold Safe at *
  show _ ⊢ wp frame _ Set.univ (.op (.waitDma2 sm src b h1 h2) k) _
  unfold Busy Owes
  iintro ⟨⟨HF, %W, HO⟩, %D, Hf, HD⟩
  iapply (Transfers.wp_waitLocal (srcw := src) (dstw := b) countersEmb Variants.none (c : Thread nD τ) none () rfl) $$ [Hf HO]
  · isplitl [Hf]; · iexact Hf
    iexact HO
  iintro ⟨Hd, Hv, HO⟩
  iapply (hk _)
  unfold Owes Done Kept
  isplitl [HF HO]
  · isplitl [HF]; · iexact HF
    iexists _; iexact HO
  ihave ⟨Hb, Ha⟩ := HD $$ Hd
  isplitl [Hb]; · iexact Hb
  isplitl [Hv]; · iexact Hv
  iexact Ha

/-! ## The two buffers side by side -/

/-- What else is held, what is owed, and the two buffers. -/
def St (c : Dev nD) (X P Q : sProp 𝕄) : sProp 𝕄 := iprop((X ∗ Owes c) ∗ (P ∗ Q))

theorem safe_pre {R S R' : sProp 𝕄} {p : Prog (TpuEff nD τ sig Val Λ .tc) α} (h : R ⊢ S) (hp : Safe d c S R' p) : Safe d c R R' p :=
  h.trans hp

theorem St.toLeft {X P Q : sProp 𝕄} : St c X P Q ⊢ iprop(((X ∗ Q) ∗ Owes c) ∗ P) := by
  unfold St
  iintro ⟨⟨HX, HO⟩, HP, HQ⟩
  isplitr [HP]
  · isplitr [HO]
    · isplitl [HX] <;> iassumption
    iexact HO
  iexact HP

theorem St.ofLeft {X P Q : sProp 𝕄} : iprop(((X ∗ Q) ∗ Owes c) ∗ P) ⊢ St c X P Q := by
  unfold St
  iintro ⟨⟨⟨HX, HQ⟩, HO⟩, HP⟩
  isplitl [HX HO]
  · isplitl [HX] <;> iassumption
  isplitl [HP] <;> iassumption

theorem St.toRight {X P Q : sProp 𝕄} : St c X P Q ⊢ iprop(((X ∗ P) ∗ Owes c) ∗ Q) := by
  unfold St
  iintro ⟨⟨HX, HO⟩, HP, HQ⟩
  isplitr [HQ]
  · isplitr [HO]
    · isplitl [HX] <;> iassumption
    iexact HO
  iexact HQ

theorem St.ofRight {X P Q : sProp 𝕄} : iprop(((X ∗ P) ∗ Owes c) ∗ Q) ⊢ St c X P Q := by
  unfold St
  iintro ⟨⟨⟨HX, HP⟩, HO⟩, HQ⟩
  isplitl [HX HO]
  · isplitl [HX] <;> iassumption
  isplitl [HP] <;> iassumption

theorem St.mono {X P Q P' Q' : sProp 𝕄} (hP : P ⊢ P') (hQ : Q ⊢ Q') : St c X P Q ⊢ St c X P' Q' := by
  unfold St
  iintro ⟨HX, HP, HQ⟩
  isplitl [HX]; · iexact HX
  isplitl [HP]
  · iapply hP $$ HP
  iapply hQ $$ HQ

instance {X P Q : sProp 𝕄} {sp : Space} {s : Shape} {e : EltTy} {m : Memref sig .tc sp s e} [CanLoad c X m] : CanLoad c (St c X P Q) m := by
  unfold St; infer_instance
instance {X P Q : sProp 𝕄} {sp : Space} {s : Shape} {e : EltTy} {m : Memref sig .tc sp s e} [CanStore c X m] : CanStore c (St c X P Q) m := by
  unfold St; infer_instance
instance {X P Q : sProp 𝕄} {sp : Space} {s : Shape} {e : EltTy} {m : Memref sig .tc sp s e} {ψ : Val e → Prop} [CanWord c X m ψ] : CanWord c (St c X P Q) m ψ := by
  unfold St; infer_instance

theorem word_fst {X P Q : sProp 𝕄} (H : CanWord c P b φ) : CanWord c (St c X P Q) b φ := word_right (word_left H)
theorem word_snd {X P Q : sProp 𝕄} (H : CanWord c Q b φ) : CanWord c (St c X P Q) b φ := word_right (word_right H)

section
variable {r : Rect s8} {hr : ∀ a, r.stride a = 1} {b' : Memref sig .tc .smem r.shape e}

theorem start_fst (hφ : ∀ j, φ (a8.view.read Val fp j)) (h0 : 0 < b'.view.dmaCredit) {X Q R' : sProp 𝕄} {h1 h2 h3} {k : PUnit → Prog (TpuEff nD τ sig Val Λ .tc) α}
    (hk : ∀ v, Safe d c (St c X (Busy c a8 q fp b' sm φ) Q) R' (k v)) :
    Safe d c (St c X (Idle c a8 q fp b' sm) Q) R'
      ((Prog.lift (.enqueueDma (a8.slice r hr) (.here b') (.dma sm) h1 h2 h3) : Prog (TpuEff nD τ sig Val Λ .tc) _) >>= k) :=
  safe_pre St.toLeft (safe_start hφ h0 fun v => safe_pre St.ofLeft (hk v))

theorem start_snd (hφ : ∀ j, φ (a8.view.read Val fp j)) (h0 : 0 < b'.view.dmaCredit) {X P R' : sProp 𝕄} {h1 h2 h3} {k : PUnit → Prog (TpuEff nD τ sig Val Λ .tc) α}
    (hk : ∀ v, Safe d c (St c X P (Busy c a8 q fp b' sm φ)) R' (k v)) :
    Safe d c (St c X P (Idle c a8 q fp b' sm)) R'
      ((Prog.lift (.enqueueDma (a8.slice r hr) (.here b') (.dma sm) h1 h2 h3) : Prog (TpuEff nD τ sig Val Λ .tc) _) >>= k) :=
  safe_pre St.toRight (safe_start hφ h0 fun v => safe_pre St.ofRight (hk v))
end

theorem wait_fst {X Q R' : sProp 𝕄} {sp : Space} {s' : Shape} {e' : EltTy} {src : Memref sig .tc sp s' e'} {h1 h2} {k : PUnit → Prog (TpuEff nD τ sig Val Λ .tc) α}
    (hk : ∀ v, Safe d c (St c X (Done c a8 q fp b sm φ) Q) R' (k v)) :
    Safe d c (St c X (Busy c a8 q fp b sm φ) Q) R'
      ((Prog.lift (.waitDma2 sm src b h1 h2) : Prog (TpuEff nD τ sig Val Λ .tc) _) >>= k) :=
  safe_pre St.toLeft (safe_wait fun v => safe_pre St.ofLeft (hk v))

theorem wait_snd {X P R' : sProp 𝕄} {sp : Space} {s' : Shape} {e' : EltTy} {src : Memref sig .tc sp s' e'} {h1 h2} {k : PUnit → Prog (TpuEff nD τ sig Val Λ .tc) α}
    (hk : ∀ v, Safe d c (St c X P (Done c a8 q fp b sm φ)) R' (k v)) :
    Safe d c (St c X P (Busy c a8 q fp b sm φ)) R'
      ((Prog.lift (.waitDma2 sm src b h1 h2) : Prog (TpuEff nD τ sig Val Λ .tc) _) >>= k) :=
  safe_pre St.toRight (safe_wait fun v => safe_pre St.ofRight (hk v))

/-! ## Branches of which one side only goes on -/

theorem safe_split {R R' : sProp 𝕄} {P : Prop} {_ : Decidable P} {p : P → Prog (TpuEff nD τ sig Val Λ .tc) α} {K : Prog (TpuEff nD τ sig Val Λ .tc) α}
    (hK : Safe d c R R' K) (hp : ∀ h, Safe d c R R' K → Safe d c R R' (p h)) : Safe d c R R' (dite P p fun _ => K) :=
  safe_dite (fun h => hp h hK) fun _ => hK

theorem safe_pos {R R' : sProp 𝕄} {P : Prop} {_ : Decidable P} {p : P → Prog (TpuEff nD τ sig Val Λ .tc) α} {q : ¬ P → Prog (TpuEff nD τ sig Val Λ .tc) α}
    (h : P) (hp : Safe d c R R' (p h)) : Safe d c R R' (dite P p q) := by
  rw [dif_pos h]; exact hp

theorem safe_neg {R R' : sProp 𝕄} {P : Prop} {_ : Decidable P} {p : P → Prog (TpuEff nD τ sig Val Λ .tc) α} {q : ¬ P → Prog (TpuEff nD τ sig Val Λ .tc) α}
    (h : ¬ P) (hq : Safe d c R R' (q h)) : Safe d c R R' (dite P p q) := by
  rw [dif_neg h]; exact hq

/-- The return, from what is held there. -/
theorem safe_done {R R' : sProp 𝕄} (h : R ⊢ R') (a : α) : Safe d c R R' (pure a : Prog (TpuEff nD τ sig Val Λ .tc) α) :=
  safe_pre h (safe_pure a)

end Cert.Safe

end
-- ==== Proof.Point.lean ====
/-
  The body of a grid point: what it holds of its tables, windows and scratch it keeps, and the two buffers of positions go from one state to the next.
-/
module

public import proofs.«01_k».proof.Proof.Gen.KernelIdeal.Launch
public import proofs.«01_k».proof.Proof.Gen.KernelIdeal.Skeleton
public import proofs.«01_k».proof.Proof.Safe
public import proofs.«01_k».proof.Proof.Words
public import proofs.«01_k».proof.Proof.Parts
public import proofs.«01_k».proof.Proof.Steps

@[expose] public section

set_option maxRecDepth 65536
set_option maxHeartbeats 4000000
set_option cleanup.letToHave false
set_option Elab.async true

noncomputable section

namespace Cert.KernelIdeal.Hand

open Cert.KernelIdeal Cert.KernelIdeal.Gen Cert.Safe
open Idealize.ShloMosaic Idealize.ShloMosaic.TcCoe Idealize.ShloMosaic.Tactic
open Idealize.SL Idealize.SL.RA Idealize.SL.BI Idealize.SL.Sem

variable {F : FTy → Type} [FloatOps F]

variable {i : grid0.Coords} {arg2 : Memref sig .tc .smem S4096 .i32} {harg2 : arg2.IsWhole} {arg3 : Memref sig .tc .smem S4096 .i32} {harg3 : arg3.IsWhole} {arg4 : Memref sig .tc .smem S4096 .i32} {harg4 : arg4.IsWhole} {arg5 : Memref sig .tc .smem S16 .i32} {harg5 : arg5.IsWhole} {arg6 : Memref sig .tc .smem S16 .f32} {harg6 : arg6.IsWhole} {arg7 : Memref sig .tc .vmem S2048x128 .f32} {harg7 : arg7.IsWhole} {arg8 : Memref sig .tc .hbm S786432 .i32} {harg8 : arg8.IsWhole} {arg9 : Memref sig .tc .vmem S16384x128 .bf16} {harg9 : arg9.IsWhole} {arg10 : Memref sig .tc .vmem S16384x128 .bf16} {harg10 : arg10.IsWhole} {arg11 : Memref sig .tc .vmem S2048x128 .f32} {harg11 : arg11.IsWhole} {arg12 : Memref sig .tc .vmem S1x256x256 .f32} {harg12 : arg12.IsWhole} {arg13 : Memref sig .tc .vmem S1x256x256 .f32} {harg13 : arg13.IsWhole} {arg14 : Memref sig .tc .vmem S2048x128 .bf16} {harg14 : arg14.IsWhole} {arg15 : Memref sig .tc .vmem S50432x128 .f32} {harg15 : arg15.IsWhole} {arg16 : Memref sig .tc .vmem S3x2048x128 .f32} {harg16 : arg16.IsWhole} {arg17 : Memref sig .tc .vmem S16384x128 .bf16} {harg17 : arg17.IsWhole} {arg18 : Memref sig .tc .vmem S8x256x256 .f32} {harg18 : arg18.IsWhole} {arg19 : Memref sig .tc .vmem S8x256x256 .bf16} {harg19 : arg19.IsWhole} {arg20 : Memref sig .tc .vmem S8x256x128 .f32} {harg20 : arg20.IsWhole} {arg21 : Memref sig .tc .smem S6144 .i32} {harg21 : arg21.IsWhole} {arg22 : Memref sig .tc .smem S6144 .i32} {harg22 : arg22.IsWhole} {arg23 : DmaSems sig S2}
variable {c : Dev nD} {R : sProp (MT nD τ sig Unit (Elt F) ℕ (Pipeline.UD sig nD τ) ℕ)}
  [CanWord c R arg2 (fun v : Elt F .i32 => Choff v)] [CanWord c R arg3 (fun v : Elt F .i32 => Chblk v)] [CanWord c R arg4 (fun v : Elt F .i32 => True)]
  [CanWord c R arg5 (fun v : Elt F .i32 => Nch v)] [CanWord c R arg6 (fun v : Elt F .f32 => True)]
  [CanLoad c R arg7] [CanLoad c R arg9] [CanLoad c R arg10] [CanLoad c R arg11] [CanLoad c R arg12] [CanLoad c R arg13]
  [CanStore c R arg14] [CanStore c R arg15] [CanStore c R arg16] [CanStore c R arg17] [CanStore c R arg18] [CanStore c R arg19] [CanStore c R arg20]

/-- The semaphore of each buffer. -/
abbrev sem0 (arg23 : DmaSems sig S2) : DmaSem sig := ((arg23.slice (Rect.unit (s := S2) ![0] S1.size inb_S2_S1_0)).squeeze S_ squeezes_S1_S_).sem
abbrev sem1 (arg23 : DmaSems sig S2) : DmaSem sig := ((arg23.slice (Rect.unit (s := S2) ![1] S1.size inb_S2_S1_1)).squeeze S_ squeezes_S1_S_).sem

variable {fp : Buf (Elt F) (arg8.view.loc (c : Thread nD τ))} {ql qr : PosShare TreeShare}

/-- Each buffer at rest, being filled, filled. -/
abbrev I0 (c : Dev nD) (arg8 : Memref sig .tc .hbm S786432 .i32) (ql : PosShare TreeShare) (fp : Buf (Elt F) (arg8.view.loc (c : Thread nD τ))) (arg21 : Memref sig .tc .smem S6144 .i32) (arg23 : DmaSems sig S2) : sProp (MT nD τ sig Unit (Elt F) ℕ (Pipeline.UD sig nD τ) ℕ) :=
  Idle c arg8 ql fp arg21 (sem0 arg23)
abbrev B0 (c : Dev nD) (arg8 : Memref sig .tc .hbm S786432 .i32) (ql : PosShare TreeShare) (fp : Buf (Elt F) (arg8.view.loc (c : Thread nD τ))) (arg21 : Memref sig .tc .smem S6144 .i32) (arg23 : DmaSems sig S2) : sProp (MT nD τ sig Unit (Elt F) ℕ (Pipeline.UD sig nD τ) ℕ) :=
  Busy c arg8 ql fp arg21 (sem0 arg23) (fun v : Elt F .i32 => Pos v)
abbrev I1 (c : Dev nD) (arg8 : Memref sig .tc .hbm S786432 .i32) (qr : PosShare TreeShare) (fp : Buf (Elt F) (arg8.view.loc (c : Thread nD τ))) (arg22 : Memref sig .tc .smem S6144 .i32) (arg23 : DmaSems sig S2) : sProp (MT nD τ sig Unit (Elt F) ℕ (Pipeline.UD sig nD τ) ℕ) :=
  Idle c arg8 qr fp arg22 (sem1 arg23)
abbrev B1 (c : Dev nD) (arg8 : Memref sig .tc .hbm S786432 .i32) (qr : PosShare TreeShare) (fp : Buf (Elt F) (arg8.view.loc (c : Thread nD τ))) (arg22 : Memref sig .tc .smem S6144 .i32) (arg23 : DmaSems sig S2) : sProp (MT nD τ sig Unit (Elt F) ℕ (Pipeline.UD sig nD τ) ℕ) :=
  Busy c arg8 qr fp arg22 (sem1 arg23) (fun v : Elt F .i32 => Pos v)

variable (hfp : ∀ j, Pos (arg8.view.read (Elt F) fp j)) (h21 : 0 < arg21.view.dmaCredit) (h22 : 0 < arg22.view.dmaCredit)
include hfp h21 h22

omit h22 in
theorem start0 {X Q R' : sProp (MT nD τ sig Unit (Elt F) ℕ (Pipeline.UD sig nD τ) ℕ)} {off : Fin 1 → ℕ} {hinb hs h1 h2 h3} {α : Type} {k : PUnit → Prog (TpuEff nD τ sig (Elt F) Λ₀ .tc) α}
    (hk : ∀ v, Safe defs₀ c (St c X (B0 c arg8 ql fp arg21 arg23) Q) R' (k v)) :
    Safe defs₀ c (St c X (I0 c arg8 ql fp arg21 arg23) Q) R'
      ((Prog.lift (.enqueueDma (arg8.slice (Rect.unit (s := S786432) off S6144.size hinb) hs) (.here arg21) (.dma (sem0 arg23)) h1 h2 h3) : Prog (TpuEff nD τ sig (Elt F) Λ₀ .tc) _) >>= k) :=
  start_fst (φ := fun v : Elt F .i32 => Pos v) (r := Rect.unit (s := S786432) off S6144.size hinb) (b' := arg21) hfp h21 hk

omit h21 in
theorem start1 {X Q R' : sProp (MT nD τ sig Unit (Elt F) ℕ (Pipeline.UD sig nD τ) ℕ)} {off : Fin 1 → ℕ} {hinb hs h1 h2 h3} {α : Type} {k : PUnit → Prog (TpuEff nD τ sig (Elt F) Λ₀ .tc) α}
    (hk : ∀ v, Safe defs₀ c (St c X Q (B1 c arg8 qr fp arg22 arg23)) R' (k v)) :
    Safe defs₀ c (St c X Q (I1 c arg8 qr fp arg22 arg23)) R'
      ((Prog.lift (.enqueueDma (arg8.slice (Rect.unit (s := S786432) off S6144.size hinb) hs) (.here arg22) (.dma (sem1 arg23)) h1 h2 h3) : Prog (TpuEff nD τ sig (Elt F) Λ₀ .tc) _) >>= k) :=
  start_snd (φ := fun v : Elt F .i32 => Pos v) (r := Rect.unit (s := S786432) off S6144.size hinb) (b' := arg22) hfp h22 hk

theorem part70_first {v56 : BitVec 32} {h4 : k0_cond4 i = 1#1} (h5 : k0_cond5 i = 1#1) (h6 : k0_cond6 i = 1#1) :
    Safe defs₀ c (St c R (I0 c arg8 ql fp arg21 arg23) (I1 c arg8 qr fp arg22 arg23)) (St c R (B0 c arg8 ql fp arg21 arg23) (B1 c arg8 qr fp arg22 arg23))
      (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h4) := by
  rw [k0_part70_eq_skeleton]
  unfold k0_part70_skel
  refine safe_pos ?hc ?_; exact h5
  refine start0 (arg8 := arg8) (arg21 := arg21) (arg23 := arg23) (fp := fp) (ql := ql) (off := k0_off168 i) hfp h21 fun _ => ?_
  rw [dif_pos h6]
  refine start1 (arg8 := arg8) (arg22 := arg22) (arg23 := arg23) (fp := fp) (qr := qr) (off := k0_off169 i) hfp h22 fun _ => ?_
  exact safe_pure _

theorem part70_next {v56 : BitVec 32} {h4 : k0_cond4 i = 1#1} (h5 : ¬ k0_cond5 i = 1#1) (h6 : k0_cond6 i = 1#1) :
    Safe defs₀ c (St c R (B0 c arg8 ql fp arg21 arg23) (I1 c arg8 qr fp arg22 arg23)) (St c R (B0 c arg8 ql fp arg21 arg23) (B1 c arg8 qr fp arg22 arg23))
      (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h4) := by
  rw [k0_part70_eq_skeleton]
  unfold k0_part70_skel
  refine safe_neg ?hc ?_; exact h5
  rw [dif_pos h6]
  refine start1 (arg8 := arg8) (arg22 := arg22) (arg23 := arg23) (fp := fp) (qr := qr) (off := k0_off169 i) hfp h22 fun _ => ?_
  exact safe_pure _

theorem part96_next {v56 : BitVec 32} {h9 : k0_cond9 i = 1#1} (h10 : ¬ k0_cond10 i = 1#1) (h11 : k0_cond11 i = 1#1) :
    Safe defs₀ c (St c R (I0 c arg8 ql fp arg21 arg23) (B1 c arg8 qr fp arg22 arg23)) (St c R (B0 c arg8 ql fp arg21 arg23) (B1 c arg8 qr fp arg22 arg23))
      (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h9) := by
  rw [k0_part96_eq_skeleton]
  unfold k0_part96_skel
  refine safe_neg ?hc ?_; exact h10
  rw [dif_pos h11]
  refine start0 (arg8 := arg8) (arg21 := arg21) (arg23 := arg23) (fp := fp) (ql := ql) (off := k0_off253 i) hfp h21 fun _ => ?_
  exact safe_pure _

omit hfp h21 h22 in
theorem part96_last {v56 : BitVec 32} {h9 : k0_cond9 i = 1#1} (h10 : ¬ k0_cond10 i = 1#1) (h11 : ¬ k0_cond11 i = 1#1) :
    Safe defs₀ c R R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h9) := by
  rw [k0_part96_eq_skeleton]
  unfold k0_part96_skel
  refine safe_neg ?hc ?_; exact h10
  rw [dif_neg h11]
  exact safe_pure _

omit hfp h21 h22

theorem part98_off {a0 a1 v9 : BitVec 32} {v10 : IVec S1x128 32} {v36 v40 : IVec S1x128 1} {v41 : BitVec 32} (h4 : ¬ k0_cond4 i = 1#1) :
    Safe defs₀ c R R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 a0 a1 v9 v10 v36 v40 v41) := by
  rw [k0_part98_eq_skeleton]
  unfold k0_part98_skel
  refine safe_split ?_ fun k0_h1 hK => ?_
  · refine safe_split ?_ fun k0_h2 hK => ?_
    · refine safe_neg ?hc ?_; exact h4
      exact safe_pure _
    refine safe_load fun v92 => ?_
    refine safe_store fun _ => ?_
    refine safe_word fun v96 hv96 => ?_
    refine safe_assume (k0_chk1_ok _ _ hv96) fun k0_hw1 => ?_
    refine safe_word fun v98 hv98 => ?_
    refine safe_split hK fun k0_h3 _ => ?_
    refine safe_bind safe_k0_part39 fun v136 => ?_
    refine safe_bind safe_k0_part40 ?_
    rintro ⟨v170, k0_hw7, v172, v174⟩
    refine safe_bind safe_k0_part41 fun v211 => ?_
    refine safe_bind safe_k0_part42 ?_
    rintro ⟨v245, k0_hw13, v247, v249⟩
    refine safe_bind safe_k0_part43 fun v286 => ?_
    refine safe_bind safe_k0_part44 ?_
    rintro ⟨v313, v324, v325⟩
    refine safe_bind (safe_for safe_k0_t3) fun v336 => ?_
    refine safe_bind (safe_for safe_k0_t4) fun v337 => ?_
    exact hK
  · refine safe_bind (safe_for safe_k0_t1) fun _ => ?_
    refine safe_bind (safe_for safe_k0_t2) fun _ => ?_
    exact hK

theorem part98_on {a0 a1 v9 : BitVec 32} {v10 : IVec S1x128 32} {v36 v40 : IVec S1x128 1} {v41 : BitVec 32} {Y Q : sProp (MT nD τ sig Unit (Elt F) ℕ (Pipeline.UD sig nD τ) ℕ)} (h4 : k0_cond4 i = 1#1)
    (h70 : ∀ v56, Safe defs₀ c (St c R Y Q) (St c R (B0 c arg8 ql fp arg21 arg23) (B1 c arg8 qr fp arg22 arg23)) (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h4)) :
    Safe defs₀ c (St c R Y Q) (St c R (I0 c arg8 ql fp arg21 arg23) (B1 c arg8 qr fp arg22 arg23)) (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 a0 a1 v9 v10 v36 v40 v41) := by
  rw [k0_part98_eq_skeleton]
  unfold k0_part98_skel
  refine safe_split ?_ fun k0_h1 hK => ?_
  · refine safe_split ?_ fun k0_h2 hK => ?_
    · refine safe_pos ?hc ?_; exact h4
      refine safe_bind (h70 _) fun _ => ?_
      refine wait_fst fun _ => ?_
      haveI : CanWord c (St c R (Done c arg8 ql fp arg21 (sem0 arg23) (fun v : Elt F .i32 => Pos v)) (B1 c arg8 qr fp arg22 arg23)) arg21 (fun v : Elt F .i32 => Pos v) :=
        word_fst Done.word
      refine safe_split ?_ fun k0_h7 hK => ?_
      · refine safe_split ?_ fun k0_h8 hK => ?_
        · exact safe_done (St.mono Done.rest .rfl) _
        refine safe_bind safe_k0_part45 ?_
        rintro ⟨v134, v136, v140, v149, v160, v162, v164, v165, v167⟩
        refine safe_bind safe_k0_part46 ?_
        rintro ⟨v185, v200, v203, v205, v207⟩
        refine safe_bind safe_k0_part47 ?_
        rintro ⟨v256, v258⟩
        refine safe_bind safe_k0_part48 ?_
        rintro ⟨v275, v279, v288, v296⟩
        refine safe_bind safe_k0_part49 ?_
        rintro ⟨v316, v331, v334⟩
        refine safe_bind safe_k0_part50 ?_
        rintro ⟨v378, v382⟩
        refine safe_bind safe_k0_part51 ?_
        rintro ⟨v406, v410, v419, v421⟩
        refine safe_bind safe_k0_part52 ?_
        rintro ⟨v447, v462⟩
        refine safe_bind safe_k0_part53 ?_
        rintro ⟨v469, v504, v507⟩
        refine safe_bind safe_k0_part54 ?_
        rintro ⟨v537, v541, v547⟩
        refine safe_bind safe_k0_part55 ?_
        rintro ⟨v578, v586, v588, v590, v591⟩
        refine safe_bind safe_k0_part56 ?_
        rintro ⟨v598, v600, v612, v618, v621, v630⟩
        refine safe_bind safe_k0_part57 ?_
        rintro ⟨v668, v672⟩
        refine safe_bind safe_k0_part58 ?_
        rintro ⟨v709, v712, v715⟩
        refine safe_bind safe_k0_part59 ?_
        rintro ⟨v724, v727, v729, v731, v737, v743, v749, v752, v753⟩
        refine safe_bind safe_k0_part60 ?_
        rintro ⟨v799, c1_i32_325⟩
        refine safe_bind safe_k0_part61 ?_
        rintro ⟨v803, v833, v835, v837, v838⟩
        refine safe_bind safe_k0_part62 ?_
        rintro ⟨v840, v855, v858, v860, v862, v868, v874, v876, v877⟩
        refine safe_bind safe_k0_part63 fun v923 => ?_
        refine safe_bind safe_k0_part64 ?_
        rintro ⟨v930, v934, v943, v958, v960, v962, v963⟩
        refine safe_bind safe_k0_part65 ?_
        rintro ⟨v971, v986, v989, v991, v993, v999, v1001, v1002⟩
        refine safe_bind safe_k0_part66 ?_
        rintro ⟨v1042, v1044, v1051, v1053⟩
        refine safe_bind safe_k0_part67 ?_
        rintro ⟨v1061, v1065, v1074, v1085, v1087⟩
        refine safe_bind safe_k0_part68 ?_
        rintro ⟨v1102, v1117, v1120, v1122, v1124, v1126, v1127⟩
        refine safe_bind safe_k0_part69 ?_
        rintro ⟨v1173, v1175, v1177, c1_i32_472⟩
        refine safe_load fun v1182 => ?_
        refine safe_load fun v1187 => ?_
        refine safe_store fun _ => ?_
        refine safe_load fun v1190 => ?_
        refine safe_store fun _ => ?_
        exact hK
      · refine safe_bind (safe_for safe_k0_t5) fun _ => ?_
        exact hK
    refine safe_load fun v92 => ?_
    refine safe_store fun _ => ?_
    refine safe_word fun v96 hv96 => ?_
    refine safe_assume (k0_chk1_ok _ _ hv96) fun k0_hw1 => ?_
    refine safe_word fun v98 hv98 => ?_
    refine safe_split hK fun k0_h3 _ => ?_
    refine safe_bind safe_k0_part39 fun v136 => ?_
    refine safe_bind safe_k0_part40 ?_
    rintro ⟨v170, k0_hw7, v172, v174⟩
    refine safe_bind safe_k0_part41 fun v211 => ?_
    refine safe_bind safe_k0_part42 ?_
    rintro ⟨v245, k0_hw13, v247, v249⟩
    refine safe_bind safe_k0_part43 fun v286 => ?_
    refine safe_bind safe_k0_part44 ?_
    rintro ⟨v313, v324, v325⟩
    refine safe_bind (safe_for safe_k0_t3) fun v336 => ?_
    refine safe_bind (safe_for safe_k0_t4) fun v337 => ?_
    exact hK
  · refine safe_bind (safe_for safe_k0_t1) fun _ => ?_
    refine safe_bind (safe_for safe_k0_t2) fun _ => ?_
    exact hK

theorem body_rest (h4 : ¬ k0_cond4 i = 1#1) (h9 : ¬ k0_cond9 i = 1#1) :
    Safe defs₀ c R R (cc0_moba_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [cc0_moba_attention_eq_skeleton]
  unfold cc0_moba_attention_skel
  refine safe_bind safe_k0_part97 ?_
  rintro ⟨arg0, arg1, v9, v10, v36, v40, v41⟩
  refine safe_bind (part98_off h4) ?_
  rintro ⟨v43, v56, v72, v74, v75⟩
  refine safe_neg ?hc ?_; exact h9
  exact safe_pure _

theorem body_even {Y Q : sProp (MT nD τ sig Unit (Elt F) ℕ (Pipeline.UD sig nD τ) ℕ)} (h4 : k0_cond4 i = 1#1) (h9 : ¬ k0_cond9 i = 1#1)
    (h70 : ∀ v56, Safe defs₀ c (St c R Y Q) (St c R (B0 c arg8 ql fp arg21 arg23) (B1 c arg8 qr fp arg22 arg23)) (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h4)) :
    Safe defs₀ c (St c R Y Q) (St c R (I0 c arg8 ql fp arg21 arg23) (B1 c arg8 qr fp arg22 arg23)) (cc0_moba_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [cc0_moba_attention_eq_skeleton]
  unfold cc0_moba_attention_skel
  refine safe_bind safe_k0_part97 ?_
  rintro ⟨arg0, arg1, v9, v10, v36, v40, v41⟩
  refine safe_bind (part98_on h4 h70) ?_
  rintro ⟨v43, v56, v72, v74, v75⟩
  refine safe_neg ?hc ?_; exact h9
  exact safe_pure _

theorem body_odd {P Y : sProp (MT nD τ sig Unit (Elt F) ℕ (Pipeline.UD sig nD τ) ℕ)} (h4 : ¬ k0_cond4 i = 1#1) (h9 : k0_cond9 i = 1#1)
    (h96 : ∀ v56, Safe defs₀ c (St c R P (B1 c arg8 qr fp arg22 arg23)) (St c R Y (B1 c arg8 qr fp arg22 arg23)) (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 v56 h9)) :
    Safe defs₀ c (St c R P (B1 c arg8 qr fp arg22 arg23)) (St c R Y (I1 c arg8 qr fp arg22 arg23)) (cc0_moba_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rw [cc0_moba_attention_eq_skeleton]
  unfold cc0_moba_attention_skel
  refine safe_bind safe_k0_part97 ?_
  rintro ⟨arg0, arg1, v9, v10, v36, v40, v41⟩
  refine safe_bind (part98_off h4) ?_
  rintro ⟨v43, v56, v72, v74, v75⟩
  refine safe_pos ?hc ?_; exact h9
  refine safe_bind (h96 _) fun _ => ?_
  refine wait_snd fun _ => ?_
  haveI : CanWord c (St c R Y (Done c arg8 qr fp arg22 (sem1 arg23) (fun v : Elt F .i32 => Pos v))) arg22 (fun v : Elt F .i32 => Pos v) :=
    word_snd Done.word
  refine safe_split ?_ fun k0_h12 hK => ?_
  · refine safe_split ?_ fun k0_h13 hK => ?_
    · exact safe_done (St.mono .rfl Done.rest) _
    refine safe_bind safe_k0_part71 ?_
    rintro ⟨v134, v136, v140, v149, v160, v162, v164, v165, v167⟩
    refine safe_bind safe_k0_part72 ?_
    rintro ⟨v185, v200, v203, v205, v207⟩
    refine safe_bind safe_k0_part73 ?_
    rintro ⟨v256, v258⟩
    refine safe_bind safe_k0_part74 ?_
    rintro ⟨v275, v279, v288, v296⟩
    refine safe_bind safe_k0_part75 ?_
    rintro ⟨v316, v331, v334⟩
    refine safe_bind safe_k0_part76 ?_
    rintro ⟨v378, v382⟩
    refine safe_bind safe_k0_part77 ?_
    rintro ⟨v406, v410, v419, v421⟩
    refine safe_bind safe_k0_part78 ?_
    rintro ⟨v447, v462⟩
    refine safe_bind safe_k0_part79 ?_
    rintro ⟨v469, v504, v507⟩
    refine safe_bind safe_k0_part80 ?_
    rintro ⟨v537, v541, v547⟩
    refine safe_bind safe_k0_part81 ?_
    rintro ⟨v578, v586, v588, v590, v591⟩
    refine safe_bind safe_k0_part82 ?_
    rintro ⟨v598, v600, v612, v618, v621, v630⟩
    refine safe_bind safe_k0_part83 ?_
    rintro ⟨v668, v672⟩
    refine safe_bind safe_k0_part84 ?_
    rintro ⟨v709, v712, v715⟩
    refine safe_bind safe_k0_part85 ?_
    rintro ⟨v724, v727, v729, v731, v737, v743, v749, v752, v753⟩
    refine safe_bind safe_k0_part86 ?_
    rintro ⟨v799, c1_i32_325⟩
    refine safe_bind safe_k0_part87 ?_
    rintro ⟨v803, v833, v835, v837, v838⟩
    refine safe_bind safe_k0_part88 ?_
    rintro ⟨v840, v855, v858, v860, v862, v868, v874, v876, v877⟩
    refine safe_bind safe_k0_part89 fun v923 => ?_
    refine safe_bind safe_k0_part90 ?_
    rintro ⟨v930, v934, v943, v958, v960, v962, v963⟩
    refine safe_bind safe_k0_part91 ?_
    rintro ⟨v971, v986, v989, v991, v993, v999, v1001, v1002⟩
    refine safe_bind safe_k0_part92 ?_
    rintro ⟨v1042, v1044, v1051, v1053⟩
    refine safe_bind safe_k0_part93 ?_
    rintro ⟨v1061, v1065, v1074, v1085, v1087⟩
    refine safe_bind safe_k0_part94 ?_
    rintro ⟨v1102, v1117, v1120, v1122, v1124, v1126, v1127⟩
    refine safe_bind safe_k0_part95 ?_
    rintro ⟨v1173, v1175, v1177, c1_i32_472⟩
    refine safe_load fun v1182 => ?_
    refine safe_load fun v1187 => ?_
    refine safe_store fun _ => ?_
    refine safe_load fun v1190 => ?_
    refine safe_store fun _ => ?_
    exact hK
  · refine safe_bind (safe_for safe_k0_t14) fun _ => ?_
    exact hK

end Cert.KernelIdeal.Hand
-- ==== Proof.Grid.lean ====
/-
  Which way each grid point goes. The stretches of positions are counted through the grid; a point of even count waits for the
  first buffer and starts the second, one of odd count the other way round, and the point beside the middle of a row does neither.
-/
module

public import proofs.«01_k».proof.KernelIdeal

@[expose] public section

namespace Cert.KernelIdeal.Hand

open Cert.KernelIdeal
open Idealize.ShloMosaic

/-- The stretches of positions taken before a point. -/
def taken (t : ℕ) : ℕ := 16 * (t / 17) + (if t % 17 ≤ 8 then t % 17 else t % 17 - 1)

/-- What the body decides at a point, from the stretches taken before it and after. -/
def way (i : grid0.Coords) (n n' : ℕ) : Prop :=
  (¬ k0_cond4 i = 1#1 ∧ ¬ k0_cond9 i = 1#1 ∧ n' = n)
  ∨ (n = 0 ∧ n' = 1 ∧ k0_cond4 i = 1#1 ∧ ¬ k0_cond9 i = 1#1 ∧ k0_cond5 i = 1#1 ∧ k0_cond6 i = 1#1)
  ∨ (n % 2 = 0 ∧ 0 < n ∧ n < 256 ∧ n' = n + 1 ∧ k0_cond4 i = 1#1 ∧ ¬ k0_cond9 i = 1#1 ∧ ¬ k0_cond5 i = 1#1 ∧ k0_cond6 i = 1#1)
  ∨ (n % 2 = 1 ∧ n < 255 ∧ n' = n + 1 ∧ ¬ k0_cond4 i = 1#1 ∧ k0_cond9 i = 1#1 ∧ ¬ k0_cond10 i = 1#1 ∧ k0_cond11 i = 1#1)
  ∨ (n = 255 ∧ n' = 256 ∧ ¬ k0_cond4 i = 1#1 ∧ k0_cond9 i = 1#1 ∧ ¬ k0_cond10 i = 1#1 ∧ ¬ k0_cond11 i = 1#1)

instance (i : grid0.Coords) (n n' : ℕ) : Decidable (way i n n') := by unfold way; infer_instance

set_option maxRecDepth 100000 in
theorem way_all : ∀ t : Fin 272, way (grid0.coords (t.cast (by decide))) (taken t.val) (taken (t.val + 1)) := by decide +kernel

end Cert.KernelIdeal.Hand
-- ==== Proof.Tables.lean ====
/-
  What the precondition says of each table, entry by entry.
-/
module

public import proofs.«01_k».proof.Pre_tables_in_range
public import proofs.«01_k».proof.Proof.Words
public import Idealize.ShloMosaic.Lib.Pointwise.SelectCore
public import Idealize.ShloMosaic.Lib.StableHlo.Predicate

@[expose] public section

namespace Cert.KernelIdeal.Hand

open Idealize.ShloMosaic
open Cert.Pre_tables_in_range (S4096 S16 S786432 S794640)

theorem fin794 {k : ℕ} (h : k < 794640) : ∀ x : Fin S794640.rank, k < S794640.size x := fun x => by
  have hx : x = 0 := Subsingleton.elim _ _
  subst hx; exact h

/-- Skipping a piece that ends at or before the position. -/
theorem cat_skip {t s : Shape} {α : Type} {a : Fin t.rank} {j : t.Idx} {x : s.Idx → α} {q : (s : Shape) × (s.Idx → α)}
    {xs : List ((s : Shape) × (s.Idx → α))} {hs} {k : ℕ} (n c : ℕ) {hc} {v : α}
    (hn : ∀ h : s.rank = t.rank, s.size (a.cast h.symm) = n) (hk : k = n + c)
    (hv : concatenateAt t a j (⟨s, x⟩ :: q :: xs) hs k hc = v) :
    ∃ hs' hc', concatenateAt t a j (q :: xs) hs' c hc' = v := by
  subst hk
  have e := hn (hs s List.mem_cons_self).rank_eq
  have w := concatenateAt_cons a j x q xs hs (n + c) hc
  rw [dif_neg (by rw [e]; omega)] at w
  have z : n + c - s.size (a.cast (hs s List.mem_cons_self).rank_eq.symm) = c := by rw [e]; omega
  generalize_proofs p1 p2 p3 at w
  revert w p3; rw [z]; intro p3 w
  exact ⟨_, _, w.symm.trans hv⟩

/-- A position in the first piece. -/
theorem cat_here {t s : Shape} {α : Type} (a : Fin t.rank) (j : t.Idx) (x : s.Idx → α) (q : (s : Shape) × (s.Idx → α))
    (xs : List ((s : Shape) × (s.Idx → α))) (hs) (c : ℕ) (hc) (i : s.Idx)
    (hr : ∀ b : Fin s.rank, b.val = a.val) (hi : ∀ b, (i b).val = c) :
    concatenateAt t a j (⟨s, x⟩ :: q :: xs) hs c hc = x i := by
  have w := concatenateAt_cons a j x q xs hs c hc
  rw [dif_pos (by rw [← hi (a.cast (hs s List.mem_cons_self).rank_eq.symm)]; exact (i _).isLt)] at w
  rw [w]; congr 1; funext b
  rw [Shape.Idx.norm_def]; exact Fin.ext (by simp only [if_pos (hr b), hi b])

theorem cat_last {t s : Shape} {α : Type} (a : Fin t.rank) (j : t.Idx) (x : s.Idx → α)
    (hs) (c : ℕ) (hc) (i : s.Idx)
    (hr : ∀ b : Fin s.rank, b.val = a.val) (hi : ∀ b, (i b).val = c) :
    concatenateAt t a j [⟨s, x⟩] hs c hc = x i := by
  rw [concatenateAt_singleton]; congr 1; funext b
  rw [Shape.Idx.norm_def]; exact Fin.ext (by simp only [if_pos (hr b), hi b])

/-- A property of every element of a concatenation of the four is one of every element of each. -/
theorem four_pieces (h : Shape.Concatenates [S4096, S4096, S16, S786432] S794640 0)
    (a b : IVec S4096 1) (d : IVec S16 1) (e : IVec S786432 1)
    (H : ∀ j, concatenate S794640 0 [⟨S4096, a⟩, ⟨S4096, b⟩, ⟨S16, d⟩, ⟨S786432, e⟩] h j = 1#1) :
    (∀ j, a j = 1#1) ∧ (∀ j, b j = 1#1) ∧ (∀ j, d j = 1#1) ∧ (∀ j, e j = 1#1) := by
  refine ⟨fun j => ?_, fun j => ?_, fun j => ?_, fun j => ?_⟩
  · have hj : (j 0).val < 4096 := (j 0).isLt
    have := H (fun _ => ⟨(j 0).val, fin794 (by omega) _⟩)
    rw [concatenate_cons_apply, cat_here _ _ _ _ _ _ _ _ j (fun b => by rw [Subsingleton.elim b 0])
      (fun b => by rw [Subsingleton.elim b 0])] at this
    exact this
  · have hj : (j 0).val < 4096 := (j 0).isLt
    have := H (fun _ => ⟨4096 + (j 0).val, fin794 (by omega) _⟩)
    rw [concatenate_cons_apply] at this
    obtain ⟨p1, p2, w⟩ := cat_skip 4096 (j 0).val (fun _ => rfl) rfl this
    rw [cat_here _ _ _ _ _ _ _ _ j (fun b => by rw [Subsingleton.elim b 0]) (fun b => by rw [Subsingleton.elim b 0])] at w
    exact w
  · have hj : (j 0).val < 16 := (j 0).isLt
    have := H (fun _ => ⟨4096 + (4096 + (j 0).val), fin794 (by omega) _⟩)
    rw [concatenate_cons_apply] at this
    obtain ⟨p1, p2, w⟩ := cat_skip 4096 (4096 + (j 0).val) (fun _ => rfl) rfl this
    obtain ⟨p3, p4, w2⟩ := cat_skip 4096 (j 0).val (fun _ => rfl) rfl w
    rw [cat_here _ _ _ _ _ _ _ _ j (fun b => by rw [Subsingleton.elim b 0]) (fun b => by rw [Subsingleton.elim b 0])] at w2
    exact w2
  · have hj : (j 0).val < 786432 := (j 0).isLt
    have := H (fun _ => ⟨4096 + (4096 + (16 + (j 0).val)), fin794 (by omega) _⟩)
    rw [concatenate_cons_apply] at this
    obtain ⟨p1, p2, w⟩ := cat_skip 4096 (4096 + (16 + (j 0).val)) (fun _ => rfl) rfl this
    obtain ⟨p3, p4, w2⟩ := cat_skip 4096 (16 + (j 0).val) (fun _ => rfl) rfl w
    obtain ⟨p5, p6, w3⟩ := cat_skip 16 (j 0).val (fun _ => rfl) rfl w2
    rw [cat_last _ _ _ _ _ _ j (fun b => by rw [Subsingleton.elim b 0]) (fun b => by rw [Subsingleton.elim b 0])] at w3
    exact w3

theorem bit_and (x y : BitVec 1) : IntOp.andi x y = 1#1 ↔ x = 1#1 ∧ y = 1#1 := by revert x y; decide
theorem ofBool_one (b : Bool) : BitVec.ofBool b = 1#1 ↔ b = true := by cases b <;> decide
theorem bit_sge (x y : BitVec 32) : IntOp.cmpi .sge x y = 1#1 ↔ y.toInt ≤ x.toInt := by
  rw [show IntOp.cmpi .sge x y = BitVec.ofBool (decide (y.toInt ≤ x.toInt)) from by simp [IntOp.cmpi, BitVec.sle], ofBool_one, decide_eq_true_iff]
theorem bit_sle (x y : BitVec 32) : IntOp.cmpi .sle x y = 1#1 ↔ x.toInt ≤ y.toInt := by
  rw [show IntOp.cmpi .sle x y = BitVec.ofBool (decide (x.toInt ≤ y.toInt)) from by simp [IntOp.cmpi, BitVec.sle], ofBool_one, decide_eq_true_iff]
theorem bit_slt (x y : BitVec 32) : IntOp.cmpi .slt x y = 1#1 ↔ x.toInt < y.toInt := by
  rw [show IntOp.cmpi .slt x y = BitVec.ofBool (decide (x.toInt < y.toInt)) from by simp [IntOp.cmpi, BitVec.slt], ofBool_one, decide_eq_true_iff]
theorem bit_eq (x y : BitVec 32) : IntOp.cmpi .eq x y = 1#1 ↔ x = y := by
  rw [show IntOp.cmpi .eq x y = BitVec.ofBool (x == y) from by simp [IntOp.cmpi], ofBool_one, beq_iff_eq]

theorem low7 (x : BitVec 32) (h : IntOp.andi x 7#32 = 0#32) : 8 ∣ x.toNat := by
  have e : (x &&& 7#32).toNat = _ := congrArg BitVec.toNat h
  rw [BitVec.toNat_and, show (7#32 : BitVec 32).toNat = 2 ^ 3 - 1 from rfl, Nat.and_two_pow_sub_one_eq_mod] at e
  exact Nat.dvd_of_mod_eq_zero e

theorem toNat_of_range (x : BitVec 32) (k : ℕ) (h0 : 0 ≤ x.toInt) (h1 : x.toInt ≤ k) : x.toNat ≤ k := by
  rw [BitVec.toInt_eq_toNat_cond] at h0 h1
  have := x.isLt
  split at h0 <;> simp_all <;> omega

/-- The precondition, read. -/
theorem tables_read {F : FTy → Type} [FloatOps F] [Cert.Pre_tables_in_range.Facts] (a0 a1 a2 : IVec S4096 32) (a3 : IVec S16 32)
    (a4 : FVec F S16 .f32) (a5 : FVec F Cert.Pre_tables_in_range.S16384x1024 .f32) (a6 : IVec S786432 32) (a7 a8 a9 a10 a11)
    (h : Cert.Pre_tables_in_range.fn (F := F) a0 a1 a2 a3 a4 a5 a6 a7 a8 a9 a10 a11 = fun _ => 1#1) :
    (∀ j, Choff (a0 j)) ∧ (∀ j, Chblk (a1 j)) ∧ (∀ j, Nch (a3 j)) ∧ (∀ j, Pos (a6 j)) := by
  have H := four_pieces Cert.Pre_tables_in_range.Facts.concatenates_S4096_S4096_S16_S786432_S794640_d0 _ _ _ _ (fun j => congrFun h j)
  obtain ⟨h0, h1, h2, h3⟩ := H
  refine ⟨fun j => ?_, fun j => ?_, fun j => ?_, fun j => ?_⟩
  · have e := h0 j
    simp only [andi, cmpi, broadcastInDim, constantI, bit_and, bit_sge, bit_sle, bit_slt, bit_eq] at e
    obtain ⟨⟨e1, e2⟩, e3⟩ := e
    exact ⟨toNat_of_range _ _ e1 e2, low7 _ e3⟩
  · have e := h1 j
    simp only [andi, cmpi, broadcastInDim, constantI, bit_and, bit_sge, bit_sle, bit_slt, bit_eq] at e
    exact toNat_of_range _ _ e.1 (Int.le_of_lt_add_one e.2)
  · have e := h2 j
    simp only [andi, cmpi, broadcastInDim, constantI, bit_and, bit_sge, bit_sle, bit_slt, bit_eq] at e
    exact toNat_of_range _ _ e.1 e.2
  · have e := h3 j
    simp only [andi, cmpi, broadcastInDim, constantI, bit_and, bit_sge, bit_sle, bit_slt, bit_eq] at e
    exact Nat.lt_succ_of_le (toNat_of_range _ 50431 e.1 (Int.le_of_lt_add_one e.2))

end Cert.KernelIdeal.Hand
-- ==== Proof.Held.lean ====
/-
  At each grid point the body goes the way the point's count of stretches says; what is held from point to point is
  the tables, the scratch and the two buffers of positions, each at rest or being filled as that count says.
-/
module

public import proofs.«01_k».proof.Proof.Point
public import proofs.«01_k».proof.Proof.Grid
public import proofs.«01_k».proof.Proof.Tables
public import Idealize.ShloMosaic.Lib.Pipeline.Frame
public import Idealize.ShloMosaic.Lib.Pipeline.FrameBody
public import Idealize.ShloMosaic.Lib.Tactic
public import Idealize.ShloMosaic.Lib.Transfers

@[expose] public section

set_option maxRecDepth 65536
set_option maxHeartbeats 4000000

noncomputable section

namespace Cert.KernelIdeal.Hand

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Point

variable {i : grid0.Coords} {arg2 : Memref sig .tc .smem S4096 .i32} {harg2 : arg2.IsWhole} {arg3 : Memref sig .tc .smem S4096 .i32} {harg3 : arg3.IsWhole} {arg4 : Memref sig .tc .smem S4096 .i32} {harg4 : arg4.IsWhole} {arg5 : Memref sig .tc .smem S16 .i32} {harg5 : arg5.IsWhole} {arg6 : Memref sig .tc .smem S16 .f32} {harg6 : arg6.IsWhole} {arg7 : Memref sig .tc .vmem S2048x128 .f32} {harg7 : arg7.IsWhole} {arg8 : Memref sig .tc .hbm S786432 .i32} {harg8 : arg8.IsWhole} {arg9 : Memref sig .tc .vmem S16384x128 .bf16} {harg9 : arg9.IsWhole} {arg10 : Memref sig .tc .vmem S16384x128 .bf16} {harg10 : arg10.IsWhole} {arg11 : Memref sig .tc .vmem S2048x128 .f32} {harg11 : arg11.IsWhole} {arg12 : Memref sig .tc .vmem S1x256x256 .f32} {harg12 : arg12.IsWhole} {arg13 : Memref sig .tc .vmem S1x256x256 .f32} {harg13 : arg13.IsWhole} {arg14 : Memref sig .tc .vmem S2048x128 .bf16} {harg14 : arg14.IsWhole} {arg15 : Memref sig .tc .vmem S50432x128 .f32} {harg15 : arg15.IsWhole} {arg16 : Memref sig .tc .vmem S3x2048x128 .f32} {harg16 : arg16.IsWhole} {arg17 : Memref sig .tc .vmem S16384x128 .bf16} {harg17 : arg17.IsWhole} {arg18 : Memref sig .tc .vmem S8x256x256 .f32} {harg18 : arg18.IsWhole} {arg19 : Memref sig .tc .vmem S8x256x256 .bf16} {harg19 : arg19.IsWhole} {arg20 : Memref sig .tc .vmem S8x256x128 .f32} {harg20 : arg20.IsWhole} {arg21 : Memref sig .tc .smem S6144 .i32} {harg21 : arg21.IsWhole} {arg22 : Memref sig .tc .smem S6144 .i32} {harg22 : arg22.IsWhole} {arg23 : DmaSems sig S2}
variable {c : Dev nD} {R : sProp (MT nD τ sig Unit (Elt F) ℕ (Pipeline.UD sig nD τ) ℕ)}
  [CanWord c R arg2 (fun v : Elt F .i32 => Choff v)] [CanWord c R arg3 (fun v : Elt F .i32 => Chblk v)] [CanWord c R arg4 (fun v : Elt F .i32 => True)]
  [CanWord c R arg5 (fun v : Elt F .i32 => Nch v)] [CanWord c R arg6 (fun v : Elt F .f32 => True)]
  [CanLoad c R arg7] [CanLoad c R arg9] [CanLoad c R arg10] [CanLoad c R arg11] [CanLoad c R arg12] [CanLoad c R arg13]
  [CanStore c R arg14] [CanStore c R arg15] [CanStore c R arg16] [CanStore c R arg17] [CanStore c R arg18] [CanStore c R arg19] [CanStore c R arg20]
variable {fp : Buf (Elt F) (arg8.view.loc (c : Thread nD τ))} {ql qr : PosShare TreeShare}

/-- The first buffer, when `n` stretches have been taken. -/
abbrev PP (c : Dev nD) (arg8 : Memref sig .tc .hbm S786432 .i32) (ql : PosShare TreeShare) (fp : Buf (Elt F) (arg8.view.loc (c : Thread nD τ))) (arg21 : Memref sig .tc .smem S6144 .i32) (arg23 : DmaSems sig S2) (n : ℕ) : sProp (MT nD τ sig Unit (Elt F) ℕ (Pipeline.UD sig nD τ) ℕ) :=
  if n % 2 = 0 ∧ n ≠ 0 ∧ n ≠ 256 then B0 c arg8 ql fp arg21 arg23 else I0 c arg8 ql fp arg21 arg23
/-- The second. -/
abbrev QQ (c : Dev nD) (arg8 : Memref sig .tc .hbm S786432 .i32) (qr : PosShare TreeShare) (fp : Buf (Elt F) (arg8.view.loc (c : Thread nD τ))) (arg22 : Memref sig .tc .smem S6144 .i32) (arg23 : DmaSems sig S2) (n : ℕ) : sProp (MT nD τ sig Unit (Elt F) ℕ (Pipeline.UD sig nD τ) ℕ) :=
  if n % 2 = 1 then B1 c arg8 qr fp arg22 arg23 else I1 c arg8 qr fp arg22 arg23

/-- The body at a point. -/
theorem point (hfp : ∀ j, Pos (arg8.view.read (Elt F) fp j)) (h21 : 0 < arg21.view.dmaCredit) (h22 : 0 < arg22.view.dmaCredit)
    {n n' : ℕ} (hw : way i n n') :
    Safe defs₀ c (St c R (PP c arg8 ql fp arg21 arg23 n) (QQ c arg8 qr fp arg22 arg23 n)) (St c R (PP c arg8 ql fp arg21 arg23 n') (QQ c arg8 qr fp arg22 arg23 n'))
      (cc0_moba_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23) := by
  rcases hw with ⟨h4, h9, rfl⟩ | ⟨rfl, rfl, h4, h9, h5, h6⟩ | ⟨he, h0, h1, rfl, h4, h9, h5, h6⟩ | ⟨ho, h1, rfl, h4, h9, h10, h11⟩ | ⟨rfl, rfl, h4, h9, h10, h11⟩
  · exact body_rest h4 h9
  · have e1 : (PP c arg8 ql fp arg21 arg23 0 : sProp (MT nD τ sig Unit (Elt F) ℕ (Pipeline.UD sig nD τ) ℕ)) = I0 c arg8 ql fp arg21 arg23 := if_neg (by omega)
    have e2 : (QQ c arg8 qr fp arg22 arg23 0 : sProp (MT nD τ sig Unit (Elt F) ℕ (Pipeline.UD sig nD τ) ℕ)) = I1 c arg8 qr fp arg22 arg23 := if_neg (by omega)
    have e3 : (PP c arg8 ql fp arg21 arg23 1 : sProp (MT nD τ sig Unit (Elt F) ℕ (Pipeline.UD sig nD τ) ℕ)) = I0 c arg8 ql fp arg21 arg23 := if_neg (by omega)
    have e4 : (QQ c arg8 qr fp arg22 arg23 1 : sProp (MT nD τ sig Unit (Elt F) ℕ (Pipeline.UD sig nD τ) ℕ)) = B1 c arg8 qr fp arg22 arg23 := if_pos (by omega)
    rw [e1, e2, e3, e4]
    exact body_even h4 h9 fun _ => part70_first hfp h21 h22 h5 h6
  · have e1 : (PP c arg8 ql fp arg21 arg23 n : sProp (MT nD τ sig Unit (Elt F) ℕ (Pipeline.UD sig nD τ) ℕ)) = B0 c arg8 ql fp arg21 arg23 := if_pos (by omega)
    have e2 : (QQ c arg8 qr fp arg22 arg23 n : sProp (MT nD τ sig Unit (Elt F) ℕ (Pipeline.UD sig nD τ) ℕ)) = I1 c arg8 qr fp arg22 arg23 := if_neg (by omega)
    have e3 : (PP c arg8 ql fp arg21 arg23 (n + 1) : sProp (MT nD τ sig Unit (Elt F) ℕ (Pipeline.UD sig nD τ) ℕ)) = I0 c arg8 ql fp arg21 arg23 := if_neg (by omega)
    have e4 : (QQ c arg8 qr fp arg22 arg23 (n + 1) : sProp (MT nD τ sig Unit (Elt F) ℕ (Pipeline.UD sig nD τ) ℕ)) = B1 c arg8 qr fp arg22 arg23 := if_pos (by omega)
    rw [e1, e2, e3, e4]
    exact body_even h4 h9 fun _ => part70_next hfp h21 h22 h5 h6
  · have e1 : (PP c arg8 ql fp arg21 arg23 n : sProp (MT nD τ sig Unit (Elt F) ℕ (Pipeline.UD sig nD τ) ℕ)) = I0 c arg8 ql fp arg21 arg23 := if_neg (by omega)
    have e2 : (QQ c arg8 qr fp arg22 arg23 n : sProp (MT nD τ sig Unit (Elt F) ℕ (Pipeline.UD sig nD τ) ℕ)) = B1 c arg8 qr fp arg22 arg23 := if_pos (by omega)
    have e3 : (PP c arg8 ql fp arg21 arg23 (n + 1) : sProp (MT nD τ sig Unit (Elt F) ℕ (Pipeline.UD sig nD τ) ℕ)) = B0 c arg8 ql fp arg21 arg23 := if_pos (by omega)
    have e4 : (QQ c arg8 qr fp arg22 arg23 (n + 1) : sProp (MT nD τ sig Unit (Elt F) ℕ (Pipeline.UD sig nD τ) ℕ)) = I1 c arg8 qr fp arg22 arg23 := if_neg (by omega)
    rw [e1, e2, e3, e4]
    exact body_odd h4 h9 fun _ => part96_next hfp h21 h22 h10 h11
  · have e1 : (PP c arg8 ql fp arg21 arg23 255 : sProp (MT nD τ sig Unit (Elt F) ℕ (Pipeline.UD sig nD τ) ℕ)) = I0 c arg8 ql fp arg21 arg23 := if_neg (by omega)
    have e2 : (QQ c arg8 qr fp arg22 arg23 255 : sProp (MT nD τ sig Unit (Elt F) ℕ (Pipeline.UD sig nD τ) ℕ)) = B1 c arg8 qr fp arg22 arg23 := if_pos (by omega)
    have e3 : (PP c arg8 ql fp arg21 arg23 256 : sProp (MT nD τ sig Unit (Elt F) ℕ (Pipeline.UD sig nD τ) ℕ)) = I0 c arg8 ql fp arg21 arg23 := if_neg (by omega)
    have e4 : (QQ c arg8 qr fp arg22 arg23 256 : sProp (MT nD τ sig Unit (Elt F) ℕ (Pipeline.UD sig nD τ) ℕ)) = I1 c arg8 qr fp arg22 arg23 := if_neg (by omega)
    rw [e1, e2, e3, e4]
    exact body_odd h4 h9 fun _ => part96_last h10 h11

end Point

/-! ## What is held beside the buffers -/

/-- A memref at some contents. -/
def Own (c : Dev nD) {sp : Space} {s : Shape} {e : EltTy} (m : Memref sig .tc sp s e) : sProp 𝕄 :=
  iprop(∃ d, owns (c : Thread nD τ) m fullShare d)
/-- A share of a table, the words of which are known to satisfy `φ`. -/
def Tab (c : Dev nD) {sp : Space} {s : Shape} {e : EltTy} (m : Memref sig .tc sp s e) (φ : Elt F e → Prop) : sProp 𝕄 :=
  iprop(∃ q f, ⌜∀ j, φ (m.view.read (Elt F) f j)⌝ ∗ (m.view.loc (c : Thread nD τ) ↦[m.view.set]{q} f))

section Leaves
variable {c : Dev nD} {sp : Space} {s : Shape} {e : EltTy} {m : Memref sig .tc sp s e}

instance : CanStore (Val := Elt F) c (Own c m) m where
  lend := by
    unfold Own owns
    iintro ⟨%d, %f, -, H⟩
    iexists f
    isplitl [H]; · iexact H
    iintro %g H
    iexists _, g
    isplitr; · ipureintro; rfl
    iexact H

instance : CanWord (Val := Elt F) c (Own c m) m (fun _ => True) where
  lend := by
    unfold Own owns
    iintro ⟨%d, %f, -, H⟩
    iexists fullShare, f
    isplitr; · ipureintro; exact fun _ => trivial
    isplitl [H]; · iexact H
    iintro H
    iexists _, f
    isplitr; · ipureintro; rfl
    iexact H

instance {φ : Elt F e → Prop} : CanWord (Val := Elt F) c (Tab c m φ) m φ where
  lend := by
    unfold Tab
    iintro ⟨%q, %f, %hf, H⟩
    iexists q, f
    isplitr; · ipureintro; exact hf
    isplitl [H]; · iexact H
    iintro H
    iexists q, f
    isplitr; · ipureintro; exact hf
    iexact H

instance {R G : sProp 𝕄} {φ : Elt F e → Prop} [H : CanWord (Val := Elt F) c R m φ] : CanWord (Val := Elt F) c iprop(G ∗ R) m φ where
  lend := by
    iintro ⟨HF, HR⟩
    ihave ⟨%q, %f, %hf, Hm, Hb⟩ := H.lend $$ HR
    iexists q, f
    isplitr; · ipureintro; exact hf
    isplitl [Hm]; · iexact Hm
    iintro Hm
    isplitr [Hb Hm]; · iexact HF
    iapply Hb $$ Hm
instance {R G : sProp 𝕄} [H : CanStore (Val := Elt F) c R m] : CanStore (Val := Elt F) c iprop(G ∗ R) m where
  lend := by
    iintro ⟨HF, HR⟩
    ihave ⟨%f, Hm, Hb⟩ := H.lend $$ HR
    iexists f
    isplitl [Hm]; · iexact Hm
    iintro %g Hm
    isplitl [HF]; · iexact HF
    iapply Hb $$ Hm
end Leaves

/-- The tables. -/
def Tabs (c : Dev nD) : sProp 𝕄 :=
  iprop(Tab c (Memref.whole main_arg0) (fun v : Elt F .i32 => Choff v) ∗ Tab c (Memref.whole main_arg1) (fun v : Elt F .i32 => Chblk v)
    ∗ Tab c (Memref.whole main_arg2) (fun v : Elt F .i32 => True) ∗ Tab c (Memref.whole main_arg3) (fun v : Elt F .i32 => Nch v))
/-- The scratch the body works in. -/
def Scr (c : Dev nD) : sProp 𝕄 :=
  iprop(Own c (Memref.whole cc0_scratch0) ∗ Own c (Memref.whole cc0_scratch1) ∗ Own c (Memref.whole cc0_scratch2)
    ∗ Own c (Memref.whole cc0_scratch3) ∗ Own c (Memref.whole cc0_scratch4) ∗ Own c (Memref.whole cc0_scratch5))
/-- The windows' buffers. -/
def Wins (c : Dev nD) (s : (w : Fin 8) → Fin (spec0 w).nbuf) : sProp 𝕄 :=
  iprop(Own c ((spec0 0).stage (s 0)) ∗ Own c ((spec0 1).stage (s 1)) ∗ Own c ((spec0 2).stage (s 2)) ∗ Own c ((spec0 3).stage (s 3))
    ∗ Own c ((spec0 4).stage (s 4)) ∗ Own c ((spec0 5).stage (s 5)) ∗ Own c ((spec0 6).stage (s 6)) ∗ Own c ((spec0 7).stage (s 7)))
/-- All of it. -/
def Held (c : Dev nD) (s : (w : Fin 8) → Fin (spec0 w).nbuf) : sProp 𝕄 :=
  iprop((Tabs c ∗ Scr c ∗ (∃ r, prngReg c r)) ∗ Wins c s)

abbrev hbM : Memref sig .tc .hbm S786432 .i32 := Memref.whole main_arg6
abbrev bf0 : Memref sig .tc .smem S6144 .i32 := Memref.whole cc0_scratch6
abbrev bf1 : Memref sig .tc .smem S6144 .i32 := Memref.whole cc0_scratch7

theorem credit0 : 0 < bf0.view.dmaCredit := by decide
theorem credit1 : 0 < bf1.view.dmaCredit := by decide

/-- The body's row at a point. -/
abbrev row (t : Fin grid0.N) (s : (w : Fin 8) → Fin (spec0 w).nbuf) : Prog (TpuEff nD τ sig (Elt F) Λ₀ .tc) PUnit :=
  cc0_moba_attention (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage (s 0)) (hstage0_0 ((s 0).cast nbuf0_0)) (spec0_1.stage (s 1)) (hstage0_1 ((s 1).cast nbuf0_1)) (Memref.whole main_arg6) (Memref.isWhole_whole _) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8

theorem sound (c : Dev nD) (t : Fin grid0.N) (s : (w : Fin 8) → Fin (spec0 w).nbuf) (fp : Buf (Elt F) (hbM.view.loc (c : Thread nD τ)))
    (hfp : ∀ j, Pos (hbM.view.read (Elt F) fp j)) {n n' : ℕ} (hw : way (grid0.coords t) n n') :
    Safe defs₀ c (St c (Held (F := F) c s) (PP c hbM fullShare.left fp bf0 cc0_scratch8 n) (QQ c hbM fullShare.right fp bf1 cc0_scratch8 n))
      (St c (Held (F := F) c s) (PP c hbM fullShare.left fp bf0 cc0_scratch8 n') (QQ c hbM fullShare.right fp bf1 cc0_scratch8 n')) (row t s) := by
  unfold Held Tabs Scr Wins
  exact point hfp credit0 credit1 hw

end Cert.KernelIdeal.Hand

end
-- ==== Proof.Launch.lean ====
/-
  The launch: what is held from point to point, opened from what the region hands the pipeline and closed again at its end. The run
  ends with every argument array as it was and every semaphore at zero; nothing is said of the result's contents.
-/
module

public import proofs.«01_k».proof.Proof.Held

@[expose] public section

set_option maxRecDepth 65536
set_option maxHeartbeats 200000

noncomputable section

namespace Cert.KernelIdeal.Hand

open Cert.KernelIdeal Cert.KernelIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The buffers at launch. -/
abbrev V (c : Dev nD) (b : Ref sig .tc) : Buf (Elt F) ((c : Thread nD τ).loc b) := m ((c : Thread nD τ).loc b)

/-- The tables at launch. -/
def adm : (p : Fin 1) → (pcfgs (F := F) p).Adm := fun _ => ⟨fun k => V m 0 (pre0.ref k), trivial⟩

/-- What the precondition gives. -/
def InRange : Prop :=
  ∀ c : Dev nD, (∀ j, Choff (V m c main_arg0 j)) ∧ (∀ j, Chblk (V m c main_arg1 j)) ∧ (∀ j, Nch (V m c main_arg3 j)) ∧ (∀ j, Pos (V m c main_arg6 j))

abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl
def H0 : Finset (Ref sig .tc) := {main_arg6}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(((c : Thread nD τ).loc main_arg6) ↦{fullShare} V m c main_arg6) := by
  rw [BI.bigSep_eq_bigSepL_of_eq [main_arg6] (by decide) (by decide)]; rfl
theorem tbls0_eq (c : Dev nD) :
    (Pipeline.ΦT pre0 (adm m 0).1 c : sProp 𝕄)
      = iprop((((c : Thread nD τ).loc main_arg0) ↦{fullShare.right} V m 0 main_arg0) ∗ (((c : Thread nD τ).loc main_arg1) ↦{fullShare.right} V m 0 main_arg1)
          ∗ (((c : Thread nD τ).loc main_arg2) ↦{fullShare.right} V m 0 main_arg2) ∗ (((c : Thread nD τ).loc main_arg3) ↦{fullShare.right} V m 0 main_arg3)) :=
  bigSep_univ_eq_bigSepL [(0 : Fin 4), (1 : Fin 4), (2 : Fin 4), (3 : Fin 4)] (by decide) (by decide) _

theorem whole_pt (c : Dev nD) (b : Ref sig .tc) (q : PosShare TreeShare) (f : Buf (Elt F) ((c : Thread nD τ).loc b)) :
    (((Memref.whole b).view.loc (c : Thread nD τ) ↦[(Memref.whole b).view.set]{q} f) : sProp 𝕄) = iprop(((c : Thread nD τ).loc b) ↦{q} f) := by
  show (((c : Thread nD τ).loc b) ↦[(View.whole b).set]{q} f) = _
  rw [View.set_whole]

/-- What is held between the points. -/
def Phi (c : Dev nD) (n : ℕ) : sProp 𝕄 :=
  iprop((Tabs c ∗ Scr c ∗ (∃ r, prngReg c r)) ∗ (PP c hbM fullShare.left (V m c main_arg6) bf0 cc0_scratch8 n) ∗ (QQ c hbM fullShare.right (V m c main_arg6) bf1 cc0_scratch8 n))

def forgets0 : Fin 8 → Bool := fun _ => true

def dats (_ : Fin 1) (c : Dev nD) : Dat τ (Elt F) Unit ℕ (Pipeline.UD sig nD τ) ℕ (Pipeline.pin pcfgs (adm m) 0) c where
  A w := V m c (Pipeline.arrRef spec0 w)
  after w t := Pipeline.Dat.unnamed (cfg := Pipeline.pin pcfgs (adm m) 0) w t
  Φ t := Phi m c (taken t.val)
  q _ := fullShare
  owed _ := 0

theorem Phi_eq (c : Dev nD) (t : Fin ((Pipeline.pin (pcfgs (F := F)) (adm m) 0).N + 1)) : (dats m 0 c).Φ t = Phi m c (taken t.val) := by dsimp only [dats]
theorem A_eq (c : Dev nD) (w : Fin 8) : (dats m 0 c).A w = V m c (Pipeline.arrRef spec0 w) := by dsimp only [dats]

def bodyPre (c : Dev nD) (t : Fin (Pipeline.pin pcfgs (adm m) 0).N) : sProp 𝕄 :=
  iprop((dats m 0 c).Φ t.castSucc ∗ (dats m 0 c).owesAt () t.castSucc ∗ Wins (F := F) c ((Pipeline.pin pcfgs (adm m) 0).slots t))
def bodyPost (c : Dev nD) (t : Fin (Pipeline.pin pcfgs (adm m) 0).N) : sProp 𝕄 :=
  iprop((dats m 0 c).Φ t.succ ∗ (dats m 0 c).owesAt () t.succ ∗ Wins (F := F) c ((Pipeline.pin pcfgs (adm m) 0).slots t))

theorem sound_body (hR : InRange m) (c : Dev nD) (t : Fin (Pipeline.pin pcfgs (adm m) 0).N) :
    bodyPre m c t ⊢ wp frame (wpE (defs₀ (F := F)) Variants.none c none) Set.univ (row t ((Pipeline.pin pcfgs (adm m) 0).slots t)) (fun _ => bodyPost m c t) := by
  have hs := sound (F := F) c t ((Pipeline.pin pcfgs (adm m) 0).slots t) (V m c main_arg6) (fun j => (hR c).2.2.2 j) (way_all (t.cast N_0))
  refine safe_conseq ?_ hs ?_
  · unfold bodyPre St Held Safe.Owes
    unfold Dat.owesAt Pipeline.owesWithin
    rw [show (dats m 0 c).owed t.castSucc = 0 from rfl, Phi_eq, Fin.val_castSucc]
    unfold Phi
    iintro ⟨⟨HT, HP, HQ⟩, ⟨%W, %hW, HO⟩, HW⟩
    isplitl [HT HO HW]
    · isplitl [HT HW]
      · isplitl [HT]; · iexact HT
        iexact HW
      iexists W; iexact HO
    isplitl [HP]; · iexact HP
    iexact HQ
  · unfold bodyPost St Held Safe.Owes
    unfold Dat.owesAt Pipeline.owesWithin
    rw [show (dats m 0 c).owed t.succ = 0 from rfl, Phi_eq, Fin.val_succ]
    unfold Phi
    iintro ⟨⟨⟨HT, HW⟩, %W, HO⟩, HP, HQ⟩
    isplitl [HT HP HQ]
    · isplitl [HT]; · iexact HT
      isplitl [HP]; · iexact HP
      iexact HQ
    isplitl [HO]
    · iexists W; isplitr; · ipureintro; exact fun _ _ => Or.inl trivial
      iexact HO
    iexact HW

theorem defs₀_row (t : Fin (Pipeline.pin (pcfgs (F := F)) (adm m) 0).N) :
    defs₀ (F := F) .tc (Pipeline.pin pcfgs (adm m) 0).body ((Pipeline.pin pcfgs (adm m) 0).bodyArgs t ((Pipeline.pin pcfgs (adm m) 0).slots t)) = row t ((Pipeline.pin pcfgs (adm m) 0).slots t) := by
  unfold defs₀; rw [Defs.onTc_tc]

theorem body_obligation (hR : InRange m) (c : Dev nD) :
    BodyObligation (dats (F := F) m 0 c) (defs₀ (F := F)) Variants.none () Set.univ forgets0 := fun t => by
  rw [defs₀_row]
  refine triple_restated (sound_body m hR c t) rfl ?_ fun _ => ?_
  · unfold bodyPre Wins Own
    exact .of_eq (by rw [bigSep_W0]; rfl)
  · unfold bodyPost Wins Own
    exact .of_eq (by rw [bigSep_W0]; rfl)

theorem own_of (c : Dev nD) (b : Ref sig .tc) :
    (iprop(∃ f : Buf (Elt F) ((c : Thread nD τ).loc b), ((c : Thread nD τ).loc b) ↦{fullShare} f) : sProp 𝕄) ⊢ Own c (Memref.whole b) := by
  unfold Own
  simp only [owns_whole]
  exact .rfl
theorem of_own (c : Dev nD) (b : Ref sig .tc) :
    (Own c (Memref.whole b) : sProp 𝕄) ⊢ iprop(∃ f : Buf (Elt F) ((c : Thread nD τ).loc b), ((c : Thread nD τ).loc b) ↦{fullShare} f) := by
  unfold Own
  simp only [owns_whole]
  exact .rfl
theorem tab_of (c : Dev nD) (b : Ref sig .tc) (q : PosShare TreeShare) (f : Buf (Elt F) ((c : Thread nD τ).loc b)) (φ : Elt F b.ty.elt → Prop) (h : ∀ j, φ (f j)) :
    (iprop(((c : Thread nD τ).loc b) ↦{q} f) : sProp 𝕄) ⊢ Tab c (Memref.whole b) φ := by
  unfold Tab
  iintro H
  iexists q, f
  isplitr; · ipureintro; exact h
  rw [whole_pt]
  iexact H

theorem sem0_eq : sem0 (cc0_scratch8 : DmaSems sig S2) = 13 := by decide
theorem sem1_eq : sem1 (cc0_scratch8 : DmaSems sig S2) = 14 := by decide

/-- A buffer at rest, each part of it spelled out. -/
theorem idle0_eq (c : Dev nD) (q : PosShare TreeShare) (fp : Buf (Elt F) ((c : Thread nD τ).loc main_arg6)) :
    (I0 c hbM q fp bf0 cc0_scratch8 : sProp 𝕄)
      = iprop((∃ f : Buf (Elt F) ((c : Thread nD τ).loc cc0_scratch6), ((c : Thread nD τ).loc cc0_scratch6) ↦{fullShare} f)
          ∗ semVal ((c : Thread nD τ), SemLoc.dma 13) 0 ∗ (((c : Thread nD τ).loc main_arg6) ↦{q} fp)) := by
  have h1 := whole_pt (F := F) c main_arg6 q fp
  have h2 := fun f => whole_pt (F := F) c cc0_scratch6 fullShare f
  have h3 := sem0_eq
  unfold I0 Idle Kept
  exact congrArg₂ BIBase.sep (congrArg BIBase.exists (funext h2)) (congrArg₂ BIBase.sep (by rw [h3]) h1)
theorem idle1_eq (c : Dev nD) (q : PosShare TreeShare) (fp : Buf (Elt F) ((c : Thread nD τ).loc main_arg6)) :
    (I1 c hbM q fp bf1 cc0_scratch8 : sProp 𝕄)
      = iprop((∃ f : Buf (Elt F) ((c : Thread nD τ).loc cc0_scratch7), ((c : Thread nD τ).loc cc0_scratch7) ↦{fullShare} f)
          ∗ semVal ((c : Thread nD τ), SemLoc.dma 14) 0 ∗ (((c : Thread nD τ).loc main_arg6) ↦{q} fp)) := by
  have h1 := whole_pt (F := F) c main_arg6 q fp
  have h2 := fun f => whole_pt (F := F) c cc0_scratch7 fullShare f
  have h3 := sem1_eq
  unfold I1 Idle Kept
  exact congrArg₂ BIBase.sep (congrArg BIBase.exists (funext h2)) (congrArg₂ BIBase.sep (by rw [h3]) h1)

/-- The scratch, opened and closed. -/
theorem scr_out (c : Dev nD) : (Scr (F := F) c : sProp 𝕄) ⊢ iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) :=
  BIClass.sep_mono (of_own c cc0_scratch0) (BIClass.sep_mono (of_own c cc0_scratch1) (BIClass.sep_mono (of_own c cc0_scratch2) (BIClass.sep_mono (of_own c cc0_scratch3) (BIClass.sep_mono (of_own c cc0_scratch4) (of_own c cc0_scratch5)))))
theorem scr_in (c : Dev nD) : (iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) : sProp 𝕄) ⊢ Scr (F := F) c :=
  BIClass.sep_mono (own_of c cc0_scratch0) (BIClass.sep_mono (own_of c cc0_scratch1) (BIClass.sep_mono (own_of c cc0_scratch2) (BIClass.sep_mono (own_of c cc0_scratch3) (BIClass.sep_mono (own_of c cc0_scratch4) (own_of c cc0_scratch5)))))
theorem tabs_in (hR : InRange m) (c : Dev nD) : (Pipeline.ΦT pre0 (adm m 0).1 c : sProp 𝕄) ⊢ Tabs (F := F) c := by
  have hc : c = 0 := Subsingleton.elim _ _
  subst hc
  rw [tbls0_eq]
  exact BIClass.sep_mono (tab_of 0 main_arg0 _ _ _ (hR 0).1) (BIClass.sep_mono (tab_of 0 main_arg1 _ _ _ (hR 0).2.1) (BIClass.sep_mono (tab_of 0 main_arg2 _ _ _ (fun _ => trivial)) (tab_of 0 main_arg3 _ _ _ (hR 0).2.2.1)))

theorem hin (hR : InRange m) (c : Dev nD) :
    iprop(Pipeline.ΦD osem0 spec0 H0 (V m) c ∗ Pipeline.ΦT pre0 (adm m 0).1 c) ⊢ (Phi m c 0 : sProp 𝕄) := by
  rw [Pipeline.ΦD_eq, scopedRest0_eq, ownSems00_eq, hbmPts0_eq]
  unfold Phi
  rw [show (PP c hbM fullShare.left (V m c main_arg6) bf0 cc0_scratch8 0 : sProp 𝕄) = I0 c hbM fullShare.left (V m c main_arg6) bf0 cc0_scratch8 from if_neg (by omega),
    show (QQ c hbM fullShare.right (V m c main_arg6) bf1 cc0_scratch8 0 : sProp 𝕄) = I1 c hbM fullShare.right (V m c main_arg6) bf1 cc0_scratch8 from if_neg (by omega), idle0_eq, idle1_eq]
  iintro ⟨⟨⟨S0, S1, S2, S3, S4, S5, S6, S7⟩, Hg, ⟨Hq0, Hq1⟩, Hh⟩, HT⟩
  ihave Hh' := (pointsTo_share (Part.eq_some_iff.1 fullShare.left_op_right)).1 $$ Hh
  icases Hh' with ⟨Hl, Hr⟩
  isplitr [S6 S7 Hq0 Hq1 Hl Hr]
  · isplitl [HT]; · iapply (tabs_in m hR c) $$ HT
    isplitr [Hg]
    · iapply (scr_in c)
      isplitl [S0]; · iexact S0
      isplitl [S1]; · iexact S1
      isplitl [S2]; · iexact S2
      isplitl [S3]; · iexact S3
      isplitl [S4]; · iexact S4
      iexact S5
    iexact Hg
  isplitl [S6 Hq0 Hl]
  · isplitl [S6]; · iexact S6
    isplitl [Hq0]; · iexact Hq0
    iexact Hl
  isplitl [S7]; · iexact S7
  isplitl [Hq1]; · iexact Hq1
  iexact Hr

theorem hout (c : Dev nD) : (Phi m c 256 : sProp 𝕄) ⊢ Pipeline.ΦD osem0 spec0 H0 (V m) c := by
  rw [Pipeline.ΦD_eq, scopedRest0_eq, ownSems00_eq, hbmPts0_eq]
  unfold Phi
  rw [show (PP c hbM fullShare.left (V m c main_arg6) bf0 cc0_scratch8 256 : sProp 𝕄) = I0 c hbM fullShare.left (V m c main_arg6) bf0 cc0_scratch8 from if_neg (by omega),
    show (QQ c hbM fullShare.right (V m c main_arg6) bf1 cc0_scratch8 256 : sProp 𝕄) = I1 c hbM fullShare.right (V m c main_arg6) bf1 cc0_scratch8 from if_neg (by omega), idle0_eq, idle1_eq]
  iintro ⟨⟨-, HS, Hg⟩, ⟨S6, Hq0, Hl⟩, S7, Hq1, Hr⟩
  ihave HS' := (scr_out c) $$ HS
  icases HS' with ⟨S0, S1, S2, S3, S4, S5⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Hg]; · iexact Hg
  isplitl [Hq0 Hq1]
  · isplitl [Hq0]; · iexact Hq0
    iexact Hq1
  iapply (pointsTo_share (Part.eq_some_iff.1 fullShare.left_op_right)).2
  isplitl [Hl]; · iexact Hl
  iexact Hr

theorem hmainD (𝒱₀ : Variants) :
    Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
/-- From any memory whose tables are in range, with zero counters, every weakly fair execution of @main terminates, every argument array ends
    as it was and every counter ends at zero. -/
theorem run_main (hR : InRange m) :
    θ_run defs (onTc (τ := τ) (main (F := F))) (s₀ m ρ)
      (fun r => Pipeline.RDat.FramePost (Pipeline.pin pcfgs (adm m) 0) (fun c => (dats m 0 c).toRForget forgets0) (V m) r ∧ r.2.sem = fun _ => 0) :=
  Pipeline.θ_run_frameP_dma_forget (Q' := _) pcfgs (adm m) (dats m) (0 : Fin 1) launch0 osem0 defs₀ Variants.none forgets0 ownSemFacts0 H0 H0_sub m ρ main
    (hbody := fun c => (body_obligation m hR c).loose) (hshare := fun c => (dats m 0 c).share_full fun _ => rfl)
    (howed := fun _ _ => rfl) (V := V m) (hmain := hmainD m Variants.none) (hA := A_eq m)
    (hpf := fun c k => by rw [show c = 0 from Subsingleton.elim _ _]; rfl)
    (hin := fun c => (hin m hR c).trans (.of_eq (congrArg (Phi m c) (show 0 = taken 0 from by decide))))
    (hout := fun c => (BIBase.Entails.of_eq (congrArg (Phi m c) (show taken grid0.N = 256 from by rw [N_0]; decide))).trans (hout m c))

theorem rest_mem (b : Ref sig .tc) (h : b.isScoped = false) (h' : ∀ w : Fin 8, (spec0 w).arr.view.ref ≠ b) : b ∈ Pipeline.restRefs sig spec0 :=
  Pipeline.mem_restRefs_of b h h'

/-- Every argument array ends as it was. -/
theorem args_kept {m : (ℓ : Loc nD τ sig) → Buf (Elt F) ℓ} {r : PUnit × MemSt nD τ sig (Elt F)}
    (h : Pipeline.RDat.FramePost (Pipeline.pin pcfgs (adm m) 0) (fun c => (dats m 0 c).toRForget forgets0) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11) :=
  ⟨(h c).2 main_arg0 (rest_mem main_arg0 (by decide) (by decide)),
    (h c).2 main_arg1 (rest_mem main_arg1 (by decide) (by decide)),
    (h c).2 main_arg2 (rest_mem main_arg2 (by decide) (by decide)),
    (h c).2 main_arg3 (rest_mem main_arg3 (by decide) (by decide)),
    (Pipeline.RDat.FramePost.arr_in h c (0 : Fin 8) rfl).trans (A_eq m c 0),
    (Pipeline.RDat.FramePost.arr_in h c (1 : Fin 8) rfl).trans (A_eq m c 1),
    (h c).2 main_arg6 (rest_mem main_arg6 (by decide) (by decide)),
    (Pipeline.RDat.FramePost.arr_in h c (2 : Fin 8) rfl).trans (A_eq m c 2),
    (Pipeline.RDat.FramePost.arr_in h c (3 : Fin 8) rfl).trans (A_eq m c 3),
    (Pipeline.RDat.FramePost.arr_in h c (4 : Fin 8) rfl).trans (A_eq m c 4),
    (Pipeline.RDat.FramePost.arr_in h c (5 : Fin 8) rfl).trans (A_eq m c 5),
    (Pipeline.RDat.FramePost.arr_in h c (6 : Fin 8) rfl).trans (A_eq m c 6)⟩

end Cert.KernelIdeal.Hand

end
-- ==== Proof.Rows.lean ====
/-
  What the feed-forward half-step computes of one row, over the extended reals: the row's norm, the scale and shift of the
  conditioning, the gated product with the first weight matrix and the product with the second, added to the row.
-/
module

public import Idealize.ShloMosaic.PureOps.Ideal

@[expose] public section

noncomputable section

namespace Cert.Rows

open Idealize.ShloMosaic

/-- A row over the root of the mean of its squares. -/
def norm (x : Fin 1024 → EReal) (j : Fin 1024) : EReal :=
  x j * Ideal.rsqrt (Ideal.div (∑ l, x l * x l) (Ideal.ofBits .f32 1149239296#32) + Ideal.ofBits .f32 897988541#32)

/-- The normed row times its gain, scaled and shifted. -/
def lift (x g sh sc : Fin 1024 → EReal) (j : Fin 1024) : EReal := norm x j * g j * (1 + sc j) + sh j

/-- Column `k` of the gated product: the gate's column through `z * logistic z`, times the column `2816` places on. -/
def gated (h : Fin 1024 → EReal) (w : Fin 1024 → Fin 5632 → EReal) (k : Fin 2816) : EReal :=
  (∑ j, h j * w j ⟨k.val, by omega⟩) * Ideal.logistic (∑ j, h j * w j ⟨k.val, by omega⟩)
    * ∑ j, h j * w j ⟨2816 + k.val, by omega⟩

/-- The row plus half its gate times the feed-forward part of its lift. -/
def half (x g sh sc ga : Fin 1024 → EReal) (w : Fin 1024 → Fin 5632 → EReal) (v : Fin 2816 → Fin 1024 → EReal)
    (d : Fin 1024) : EReal :=
  x d + Ideal.ofBits .f32 1056964608#32 * ga d * ∑ k, gated (lift x g sh sc) w k * v k d

/-- The row plus its gate times the attention's row through the output weights. -/
def mix (x a ga : Fin 1024 → EReal) (o : Fin 1024 → Fin 1024 → EReal) (l : Fin 1024) : EReal := x l + ga l * ∑ j, a j * o j l

/-- The normed row times its gain. -/
def close (x f : Fin 1024 → EReal) (d : Fin 1024) : EReal := norm x d * f d

end Cert.Rows

end
-- ==== Proof.Ffn.Block.lean ====
/-
  What one grid point of the feed-forward call leaves in its output block, row by row: the half-step of the block's rows.
-/
module

public import proofs.«01_k».proof.Proof.Rows
public import proofs.«01_k».proof.Proof.Gen.Kernel2Ideal.Value
public import Idealize.ShloMosaic.Lib.Tactic
public import Idealize.ShloMosaic.Lib.Pointwise

@[expose] public section

set_option maxRecDepth 16384

noncomputable section

namespace Cert.Kernel2Ideal.Block

open Cert.Kernel2Ideal Cert.Kernel2Ideal.Gen Idealize.ShloMosaic Idealize.ShloMosaic.TcCoe Idealize.SL.Sem

/-- The lifted row, from the block's rows and the three conditioning rows. -/
theorem lift_apply (v0 : Vec Ideal S1024x1024 .f32) (v12 v16 v22 : Vec Ideal S1x1024 .f32) (r j : Fin 1024) :
    k0_pay4 (F := Ideal) v0 v12 v16 v22 (ix2 r j)
      = Rows.lift (fun l => v0 (ix2 r l)) (fun l => v12 (ix2 0 l)) (fun l => v22 (ix2 0 l)) (fun l => v16 (ix2 0 l)) j := by
  unfold k0_pay4 k0_pay3
  pointwise
  rfl

/-- One chunk of the gated product at an element. -/
theorem chunk_apply (h : FVec Ideal S1024x1024 .bf16) (a b : Vec Ideal S1x1x1024x256 .bf16) (r : Fin 1024) (k : Fin 256) :
    k0_pay1 (F := Ideal) h a b (ix2 r k)
      = (∑ j, h (ix2 r j) * a (ix4 0 0 j k)) * Ideal.logistic (∑ j, h (ix2 r j) * a (ix4 0 0 j k))
          * ∑ j, h (ix2 r j) * b (ix4 0 0 j k) := by
  unfold k0_pay1
  pointwise

/-- The second product, gated and added to the row. -/
theorem out_apply (x : FVec Ideal S1024x1024 .f32) (s : Vec Ideal S1024x2816 .bf16) (v : Vec Ideal S1x1x2816x1024 .bf16)
    (ga : Vec Ideal S1x1024 .f32) (r d : Fin 1024) :
    k0_pay2 (F := Ideal) x s v ga (ix2 r d)
      = x (ix2 r d) + Ideal.ofBits .f32 1056964608#32 * ga (ix2 0 d) * ∑ k, s (ix2 r k) * v (ix4 0 0 k d) := by
  unfold k0_pay2
  pointwise

theorem hz : (![0, 0] : Fin 2 → Nat) = fun _ => 0 := funext fun a => by fin_cases a <;> rfl
theorem hz4 : (![0, 0, 0, 0] : Fin 4 → Nat) = fun _ => 0 := funext fun a => by fin_cases a <;> rfl

/-- The gated product of a block's rows, at a row and a column. -/
def gate (x0 : Vec Ideal S1024x1024 .f32) (x1 : Vec Ideal S8x1024 .f32) (x2 : Vec Ideal S1x1x1024x5632 .bf16) :
    S1024x2816.Idx → EReal := fun i =>
  Rows.gated (Rows.lift (fun l => x0 (ix2 (i 0) l)) (fun l => x1 (ix2 0 l)) (fun l => x1 (ix2 1 l)) (fun l => x1 (ix2 2 l)))
    (fun j k => x2 (ix4 0 0 j k)) (i 1)

/-- The rows as the body lifts them. -/
abbrev lifted (x0 : Vec Ideal S1024x1024 .f32) (x1 : Vec Ideal S8x1024 .f32) : FVec Ideal S1024x1024 .bf16 :=
  k0_pay4 (View.ld x0 (Rect.unit (s := S1024x1024) ![0, 0] S1024x1024.size inb_S1024x1024_S1024x1024_0_0))
    (View.ld x1 (Rect.unit (s := S8x1024) ![0, 0] S1x1024.size inb_S8x1024_S1x1024_0_0))
    (View.ld x1 (Rect.unit (s := S8x1024) ![2, 0] S1x1024.size inb_S8x1024_S1x1024_2_0))
    (View.ld x1 (Rect.unit (s := S8x1024) ![1, 0] S1x1024.size inb_S8x1024_S1x1024_1_0))

theorem lifted_apply (x0 : Vec Ideal S1024x1024 .f32) (x1 : Vec Ideal S8x1024 .f32) (r j : Fin 1024) :
    lifted x0 x1 (ix2 r j)
      = Rows.lift (fun l => x0 (ix2 r l)) (fun l => x1 (ix2 0 l)) (fun l => x1 (ix2 1 l)) (fun l => x1 (ix2 2 l)) j := by
  unfold lifted
  rw [lift_apply]
  pointwise

/-- A load of the columns from `a` on. -/
theorem cols_apply (x2 : Vec Ideal S1x1x1024x5632 .bf16) (a : Nat) (ha : a + 256 ≤ 5632)
    (inb : ∀ i : Fin 4, (![0, 0, 0, a] : Fin 4 → Nat) i + S1x1x1024x256.size i ≤ S1x1x1024x5632.size i) (j : Fin 1024) (k : Fin 256) :
    View.ld x2 (Rect.unit (s := S1x1x1024x5632) ![0, 0, 0, a] S1x1x1024x256.size inb) (ix4 0 0 j k) = x2 (ix4 0 0 j ⟨a + k.val, by omega⟩) := by
  show x2 ((Rect.unit (s := S1x1x1024x5632) ![0, 0, 0, a] S1x1x1024x256.size inb).emb (ix4 0 0 j k)) = _
  congr 1
  funext i
  apply Fin.ext
  match i with
  | ⟨0, _⟩ => rfl
  | ⟨1, _⟩ => rfl
  | ⟨2, _⟩ => show 0 + 1 * j.val = j.val; omega
  | ⟨3, _⟩ => show a + 1 * k.val = a + k.val; omega

/-- A store to the scratch holds the gated product of its columns. -/
theorem piece (x0 : Vec Ideal S1024x1024 .f32) (x1 : Vec Ideal S8x1024 .f32) (x2 : Vec Ideal S1x1x1024x5632 .bf16) (a b : Nat)
    (hb : b = 2816 + a) (ha : a + 256 ≤ 2816) (inba : ∀ i : Fin 4, (![0, 0, 0, a] : Fin 4 → Nat) i + S1x1x1024x256.size i ≤ S1x1x1024x5632.size i)
    (inbb : ∀ i : Fin 4, (![0, 0, 0, b] : Fin 4 → Nat) i + S1x1x1024x256.size i ≤ S1x1x1024x5632.size i)
    (inbs : ∀ i : Fin 2, (![0, a] : Fin 2 → Nat) i + S1024x256.size i ≤ S1024x2816.size i) (x : S1024x256.Idx) :
    k0_pay1 (lifted x0 x1) (View.ld x2 (Rect.unit (s := S1x1x1024x5632) ![0, 0, 0, a] S1x1x1024x256.size inba))
        (View.ld x2 (Rect.unit (s := S1x1x1024x5632) ![0, 0, 0, b] S1x1x1024x256.size inbb)) x
      = gate x0 x1 x2 ((Rect.unit (s := S1024x2816) ![0, a] S1024x256.size inbs).emb x) := by
  subst hb
  obtain ⟨r, k, rfl⟩ : ∃ (r : Fin 1024) (k : Fin 256), x = ix2 r k :=
    ⟨x 0, x 1, funext fun i => by match i with | ⟨0, _⟩ => rfl | ⟨1, _⟩ => rfl⟩
  have h0 : ((Rect.unit (s := S1024x2816) ![0, a] S1024x256.size inbs).emb (ix2 r k)) = (ix2 r ⟨a + k.val, by omega⟩ : S1024x2816.Idx) := by
    funext i
    apply Fin.ext
    match i with
    | ⟨0, _⟩ => show 0 + 1 * r.val = r.val; omega
    | ⟨1, _⟩ => show a + 1 * k.val = a + k.val; omega
  rw [chunk_apply, h0]
  simp only [cols_apply x2 a (by omega) inba, cols_apply x2 (2816 + a) (by omega) inbb, lifted_apply, Nat.add_assoc]
  rfl

/-- What the run leaves in the result's block. -/
theorem run_apply (c : Dev nD) (i : grid0.Coords) (arg1 : Memref sig .tc .vmem S1024x1024 .f32) (harg1 : arg1.IsWhole)
    (arg2 : Memref sig .tc .vmem S8x1024 .f32) (harg2 : arg2.IsWhole) (arg3 : Memref sig .tc .vmem S1x1x1024x5632 .bf16)
    (harg3 : arg3.IsWhole) (arg4 : Memref sig .tc .vmem S1x1x2816x1024 .bf16) (harg4 : arg4.IsWhole)
    (arg5 : Memref sig .tc .vmem S1x1024 .f32) (harg5 : arg5.IsWhole) (arg6 : Memref sig .tc .vmem S1024x1024 .f32)
    (harg6 : arg6.IsWhole) (arg7 : Memref sig .tc .vmem S1024x2816 .bf16) (harg7 : arg7.IsWhole)
    (x0 : Vec Ideal S1024x1024 .f32) (x1 : Vec Ideal S8x1024 .f32) (x2 : Vec Ideal S1x1x1024x5632 .bf16)
    (x3 : Vec Ideal S1x1x2816x1024 .bf16) (x4 : Vec Ideal S1x1024 .f32) (r d : Fin 1024) :
    out0_A_5 c i arg1 harg1 arg2 harg2 arg3 harg3 arg4 harg4 arg5 harg5 arg6 harg6 arg7 harg7 x0 x1 x2 x3 x4 (ix2 r d)
      = Rows.half (fun l => x0 (ix2 r l)) (fun l => x1 (ix2 0 l)) (fun l => x1 (ix2 1 l)) (fun l => x1 (ix2 2 l))
          (fun l => x1 (ix2 3 l)) (fun j k => x2 (ix4 0 0 j k)) (fun k l => x3 (ix4 0 0 k l)) d := by
  unfold out0_A_5
  rw [View.read_writes_junk_eq_canon]
  unfold kernelRun0_A
  dsimp only
  sl_unfold_words
  rw [View.canon_unit_zero hz]
  simp only [View.readAt_eq_ld, harg1.read_unread, harg2.read_unread, harg3.read_unread, harg4.read_unread]
  rw [out_apply]
  unfold Rows.half
  have hs : ∀ (k : Fin 2816) (B : List (View.Piece (Elt Ideal) S1024x2816 .bf16)),
      (∀ p ∈ B, ∀ x : p.1.shape.Idx, p.2 x = gate x0 x1 x2 (p.1.emb x)) → (∀ y : S1024x2816.Idx, ∃ p ∈ B, y ∈ p.1.set) →
      arg7.view.readCov B (Rect.unit (s := S1024x2816) ![0, 0] S1024x2816.size inb_S1024x2816_S1024x2816_0_0).toLoadRect (ix2 r k)
        = gate x0 x1 x2 (ix2 r k) := by
    intro k B hB hc
    rw [View.readCov_eq_canon']
    have h0 : (Rect.unit (s := S1024x2816) ![0, 0] S1024x2816.size inb_S1024x2816_S1024x2816_0_0).toLoadRect.idx (ix2 r k)
        = (ix2 r k : S1024x2816.Idx) := by
      funext i
      apply Fin.ext
      match i with
      | ⟨0, _⟩ => show 0 + 1 * r.val = r.val; omega
      | ⟨1, _⟩ => show 0 + 1 * k.val = k.val; omega
    simp only [h0]
    exact View.canon_apply_of_pieces (gate x0 x1 x2) B hB _ (hc _)
  refine congrArg₂ (· + ·) ?_ (congrArg₂ (· * ·) ?_ (Finset.sum_congr rfl fun k _ =>
    congrArg₂ (· * ·) ((hs k _ ?_ (View.cover_of_tiled _ S1024x256.size (by sl_kernel_rfl))).trans rfl) ?_))
  · unfold k0_pay3
    pointwise
  · pointwise
  · intro p hp
    simp only [List.mem_cons, List.not_mem_nil, or_false] at hp
    rcases hp with rfl | rfl | rfl | rfl | rfl | rfl | rfl | rfl | rfl | rfl | rfl
    · exact piece x0 x1 x2 2560 5376 rfl (by decide) inb_S1x1x1024x5632_S1x1x1024x256_0_0_0_2560 inb_S1x1x1024x5632_S1x1x1024x256_0_0_0_5376
        inb_S1024x2816_S1024x256_0_2560
    · exact piece x0 x1 x2 2304 5120 rfl (by decide) inb_S1x1x1024x5632_S1x1x1024x256_0_0_0_2304 inb_S1x1x1024x5632_S1x1x1024x256_0_0_0_5120
        inb_S1024x2816_S1024x256_0_2304
    · exact piece x0 x1 x2 2048 4864 rfl (by decide) inb_S1x1x1024x5632_S1x1x1024x256_0_0_0_2048 inb_S1x1x1024x5632_S1x1x1024x256_0_0_0_4864
        inb_S1024x2816_S1024x256_0_2048
    · exact piece x0 x1 x2 1792 4608 rfl (by decide) inb_S1x1x1024x5632_S1x1x1024x256_0_0_0_1792 inb_S1x1x1024x5632_S1x1x1024x256_0_0_0_4608
        inb_S1024x2816_S1024x256_0_1792
    · exact piece x0 x1 x2 1536 4352 rfl (by decide) inb_S1x1x1024x5632_S1x1x1024x256_0_0_0_1536 inb_S1x1x1024x5632_S1x1x1024x256_0_0_0_4352
        inb_S1024x2816_S1024x256_0_1536
    · exact piece x0 x1 x2 1280 4096 rfl (by decide) inb_S1x1x1024x5632_S1x1x1024x256_0_0_0_1280 inb_S1x1x1024x5632_S1x1x1024x256_0_0_0_4096
        inb_S1024x2816_S1024x256_0_1280
    · exact piece x0 x1 x2 1024 3840 rfl (by decide) inb_S1x1x1024x5632_S1x1x1024x256_0_0_0_1024 inb_S1x1x1024x5632_S1x1x1024x256_0_0_0_3840
        inb_S1024x2816_S1024x256_0_1024
    · exact piece x0 x1 x2 768 3584 rfl (by decide) inb_S1x1x1024x5632_S1x1x1024x256_0_0_0_768 inb_S1x1x1024x5632_S1x1x1024x256_0_0_0_3584
        inb_S1024x2816_S1024x256_0_768
    · exact piece x0 x1 x2 512 3328 rfl (by decide) inb_S1x1x1024x5632_S1x1x1024x256_0_0_0_512 inb_S1x1x1024x5632_S1x1x1024x256_0_0_0_3328
        inb_S1024x2816_S1024x256_0_512
    · exact piece x0 x1 x2 256 3072 rfl (by decide) inb_S1x1x1024x5632_S1x1x1024x256_0_0_0_256 inb_S1x1x1024x5632_S1x1x1024x256_0_0_0_3072
        inb_S1024x2816_S1024x256_0_256
    · exact piece x0 x1 x2 0 2816 rfl (by decide) inb_S1x1x1024x5632_S1x1x1024x256_0_0_0_0 inb_S1x1x1024x5632_S1x1x1024x256_0_0_0_2816
        inb_S1024x2816_S1024x256_0_0
  · pointwise

end Cert.Kernel2Ideal.Block

end
-- ==== Proof.Ffn.Run.lean ====
/-
  The plain feed-forward kernel's result array as one function of its arguments: each grid point writes the half-step of
  its own 1024 rows, and the points' blocks make up the array.
-/
module

public import proofs.«01_k».proof.Proof.Ffn.Block
public import proofs.«01_k».proof.Proof.Gen.Kernel2Ideal.Value
public import Idealize.ShloMosaic.Lib.Claim
public import Idealize.ShloMosaic.Lib.Tactic
public import Idealize.ShloMosaic.Lib.Pointwise

@[expose] public section

set_option maxRecDepth 16384

noncomputable section

namespace Cert.Kernel2Ideal.Run

open Cert.Kernel2Ideal Cert.Kernel2Ideal.Gen Cert.Kernel2Ideal.Value Idealize.ShloMosaic Idealize.ShloMosaic.TcCoe
open Idealize.SL.Sem

/-- The half-step of every row, of the arrays as the grid finds them. -/
def G (x : Vec Ideal S16384x1024 .f32) (p : Vec Ideal S8x1024 .f32) (w : Vec Ideal S2x2x1024x5632 .bf16)
    (v : Vec Ideal S2x2x2816x1024 .bf16) : Vec Ideal S16384x1024 .f32 := fun i =>
  Rows.half (fun l => x (ix2 (i 0) l)) (fun l => p (ix2 0 l)) (fun l => p (ix2 1 l)) (fun l => p (ix2 2 l))
    (fun l => p (ix2 3 l)) (fun j k => w (ix4 0 0 j k)) (fun k l => v (ix4 0 0 k l)) (i 1)

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 4) = 0 ∧ win0_2.index t (1 : Fin 4) = 0
    ∧ win0_2.index t (2 : Fin 4) = 0 ∧ win0_2.index t (3 : Fin 4) = 0 := (by decide +kernel : ∀ t : Fin grid0.N, _)
theorem index3 : ∀ t : Fin cfg0.N, win0_3.index t (0 : Fin 4) = 0 ∧ win0_3.index t (1 : Fin 4) = 0
    ∧ win0_3.index t (2 : Fin 4) = 0 ∧ win0_3.index t (3 : Fin 4) = 0 := (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The row of the whole array that row `r` of point `t`'s block is. -/
def row (t : Fin cfg0.N) (r : Fin 1024) : Fin 16384 := ⟨1024 * t.val + r.val, by have h : t.val < 16 := t.isLt; omega⟩

theorem emb0 (t : Fin cfg0.N) (r l : Fin 1024) :
    ((cfg0.win 0).blk t).view.emb (ix2 r l : S1024x1024.Idx) = (ix2 (row t r) l : S16384x1024.Idx) := by
  obtain ⟨e0, e1⟩ := index0 t
  funext a; apply Fin.ext
  match a with
  | ⟨0, _⟩ => show win0_0.index t (0 : Fin 2) * 1024 + 1 * r.val = 1024 * t.val + r.val; omega
  | ⟨1, _⟩ => show win0_0.index t (1 : Fin 2) * 1024 + 1 * l.val = l.val; omega

theorem emb5 (t : Fin cfg0.N) (r l : Fin 1024) :
    ((cfg0.win 5).blk t).view.emb (ix2 r l : S1024x1024.Idx) = (ix2 (row t r) l : S16384x1024.Idx) := by
  obtain ⟨e0, e1⟩ := index5 t
  funext a; apply Fin.ext
  match a with
  | ⟨0, _⟩ => show win0_5.index t (0 : Fin 2) * 1024 + 1 * r.val = 1024 * t.val + r.val; omega
  | ⟨1, _⟩ => show win0_5.index t (1 : Fin 2) * 1024 + 1 * l.val = l.val; omega

theorem emb1 (t : Fin cfg0.N) (r : Fin 8) (l : Fin 1024) :
    ((cfg0.win 1).blk t).view.emb (ix2 r l : S8x1024.Idx) = (ix2 r l : S8x1024.Idx) := by
  obtain ⟨e0, e1⟩ := index1 t
  funext a; apply Fin.ext
  match a with
  | ⟨0, _⟩ => show win0_1.index t (0 : Fin 2) * 8 + 1 * r.val = r.val; omega
  | ⟨1, _⟩ => show win0_1.index t (1 : Fin 2) * 1024 + 1 * l.val = l.val; omega

theorem emb2 (t : Fin cfg0.N) (j : Fin 1024) (k : Fin 5632) :
    ((cfg0.win 2).blk t).view.emb (ix4 0 0 j k : S1x1x1024x5632.Idx) = (ix4 0 0 j k : S2x2x1024x5632.Idx) := by
  obtain ⟨e0, e1, e2, e3⟩ := index2 t
  funext a; apply Fin.ext
  match a with
  | ⟨0, _⟩ => show win0_2.index t (0 : Fin 4) * 1 + 1 * 0 = 0; omega
  | ⟨1, _⟩ => show win0_2.index t (1 : Fin 4) * 1 + 1 * 0 = 0; omega
  | ⟨2, _⟩ => show win0_2.index t (2 : Fin 4) * 1024 + 1 * j.val = j.val; omega
  | ⟨3, _⟩ => show win0_2.index t (3 : Fin 4) * 5632 + 1 * k.val = k.val; omega

theorem emb3 (t : Fin cfg0.N) (k : Fin 2816) (l : Fin 1024) :
    ((cfg0.win 3).blk t).view.emb (ix4 0 0 k l : S1x1x2816x1024.Idx) = (ix4 0 0 k l : S2x2x2816x1024.Idx) := by
  obtain ⟨e0, e1, e2, e3⟩ := index3 t
  funext a; apply Fin.ext
  match a with
  | ⟨0, _⟩ => show win0_3.index t (0 : Fin 4) * 1 + 1 * 0 = 0; omega
  | ⟨1, _⟩ => show win0_3.index t (1 : Fin 4) * 1 + 1 * 0 = 0; omega
  | ⟨2, _⟩ => show win0_3.index t (2 : Fin 4) * 2816 + 1 * k.val = k.val; omega
  | ⟨3, _⟩ => show win0_3.index t (3 : Fin 4) * 1024 + 1 * l.val = l.val; omega

/-- What a point writes back is its block of `G`. -/
theorem flushed_eq (c : Dev nD) (t : Fin cfg0.N) :
    (dats m 0 c).flushed 5 t = ((cfg0.win 5).blk t).view.read (Elt Ideal)
      (G (V m c main_v0) (V m c main_v3) (V m c main_v4) (V m c main_v5)) := by
  rw [flushed5_A]
  refine funext fun (y : S1024x1024.Idx) => ?_
  obtain ⟨r, d, rfl⟩ : ∃ r d : Fin 1024, y = ix2 r d :=
    ⟨y 0, y 1, funext fun i => by match i with | ⟨0, _⟩ => rfl | ⟨1, _⟩ => rfl⟩
  refine (Block.run_apply c _ _ _ _ _ _ _ _ _ _ _ _ _ _ _ _ _ _ _ _ r d).trans ?_
  have h0 : ∀ l, iblk m c 0 t (ix2 r l : S1024x1024.Idx) = V m c main_v0 (ix2 (row t r) l : S16384x1024.Idx) :=
    fun l => congrArg (V m c main_v0) (emb0 t r l)
  have h1 : ∀ (a : Fin 8) (l : Fin 1024), iblk m c 1 t (ix2 a l : S8x1024.Idx) = V m c main_v3 (ix2 a l : S8x1024.Idx) :=
    fun a l => congrArg (V m c main_v3) (emb1 t a l)
  have h2 : ∀ j k, iblk m c 2 t (ix4 0 0 j k : S1x1x1024x5632.Idx) = V m c main_v4 (ix4 0 0 j k : S2x2x1024x5632.Idx) :=
    fun j k => congrArg (V m c main_v4) (emb2 t j k)
  have h3 : ∀ k l, iblk m c 3 t (ix4 0 0 k l : S1x1x2816x1024.Idx) = V m c main_v5 (ix4 0 0 k l : S2x2x2816x1024.Idx) :=
    fun k l => congrArg (V m c main_v5) (emb3 t k l)
  have e : ((cfg0.win 5).blk t).view.read (Elt Ideal)
      (G (V m c main_v0) (V m c main_v3) (V m c main_v4) (V m c main_v5)) (ix2 r d : S1024x1024.Idx)
      = G (V m c main_v0) (V m c main_v3) (V m c main_v4) (V m c main_v5) (ix2 (row t r) d) :=
    congrArg (G (V m c main_v0) (V m c main_v3) (V m c main_v4) (V m c main_v5)) (emb5 t r d)
  refine Eq.trans ?_ e.symm
  simp only [h0, h1, h2, h3]
  rfl

theorem mem5 (t : Fin cfg0.N) (r l : Fin 1024) :
    (ix2 (row t r) l : S16384x1024.Idx) ∈ ((cfg0.win 5).blk t).view.set :=
  emb5 t r l ▸ ((cfg0.win 5).blk t).view.emb_mem_set (ix2 r l : S1024x1024.Idx)

/-- Every element is in some point's block. -/
theorem covered (i : S16384x1024.Idx) :
    ∃ t : Fin cfg0.N, (cfg0.win 5).flush t = true ∧ i ∈ ((cfg0.win 5).blk t).view.set := by
  have hi : (i 0).val < 16384 := (i 0).isLt
  refine ⟨(⟨(i 0).val / 1024, by show _ < 16; omega⟩ : Fin cfg0.N), flush0_5 _, ?_⟩
  have h := mem5 ⟨(i 0).val / 1024, by show _ < 16; omega⟩ ⟨(i 0).val % 1024, Nat.mod_lt _ (by decide)⟩ (i 1)
  have e : (ix2 (row ⟨(i 0).val / 1024, by show _ < 16; omega⟩ ⟨(i 0).val % 1024, Nat.mod_lt _ (by decide)⟩) (i 1)
      : S16384x1024.Idx) = i := by
    funext a; apply Fin.ext
    match a with
    | ⟨0, _⟩ => show 1024 * ((i 0).val / 1024) + (i 0).val % 1024 = (i 0).val; omega
    | ⟨1, _⟩ => rfl
  rwa [e] at h

/-- The result array after the run. -/
theorem final (c : Dev nD) :
    (dats m 0 c).arrAt 5 cfg0.N = G (V m c main_v0) (V m c main_v3) (V m c main_v4) (V m c main_v5) :=
  (dats m 0 c).arrAt_eq_of_cover 5 (G (V m c main_v0) (V m c main_v3) (V m c main_v4) (V m c main_v5))
    (fun t _ => flushed_eq m c t) covered

/-- The conditioning rows under one another: the gain, the three of the modulation, and four of nothing. -/
def stack (a : Vec Ideal S1x1024 .f32) (b : Vec Ideal S3x1024 .f32) (d : Vec Ideal S4x1024 .f32) : Vec Ideal S8x1024 .f32 :=
  concatenate S8x1024 0 [⟨S1x1024, a⟩, ⟨S3x1024, b⟩, ⟨S4x1024, d⟩] concatenates_S1x1024_S3x1024_S4x1024_S8x1024_d0

theorem stack_gain (a : Vec Ideal S1x1024 .f32) (b : Vec Ideal S3x1024 .f32) (d : Vec Ideal S4x1024 .f32) (l : Fin 1024) :
    stack a b d (ix2 0 l) = a (ix2 0 l) := by
  unfold stack
  pointwise

theorem stack_shift (a : Vec Ideal S1x1024 .f32) (b : Vec Ideal S3x1024 .f32) (d : Vec Ideal S4x1024 .f32) (l : Fin 1024) :
    stack a b d (ix2 1 l) = b (ix2 0 l) := by
  unfold stack
  pointwise

theorem stack_scale (a : Vec Ideal S1x1024 .f32) (b : Vec Ideal S3x1024 .f32) (d : Vec Ideal S4x1024 .f32) (l : Fin 1024) :
    stack a b d (ix2 2 l) = b (ix2 1 l) := by
  unfold stack
  pointwise

theorem stack_gate (a : Vec Ideal S1x1024 .f32) (b : Vec Ideal S3x1024 .f32) (d : Vec Ideal S4x1024 .f32) (l : Fin 1024) :
    stack a b d (ix2 3 l) = b (ix2 2 l) := by
  unfold stack
  pointwise

/-- The conditioning rows as the grid finds them. -/
theorem entry3 (c : Dev nD) : (V m c main_v3 : Vec Ideal S8x1024 .f32)
    = stack (broadcastInDim S1x1024 ![1] bcast_S1024_S1x1024_1 (m ((c : Thread nD τ).loc main_arg1) : Vec Ideal S1024 .f32))
        (m ((c : Thread nD τ).loc main_arg2))
        (broadcastInDim S4x1024 ![] bcast_S_S4x1024 (constant (F := Ideal) S_ .f32 0x00000000#32)) := by
  unfold V hostOps0
  simp only [StableHlo.after_cons, StableHlo.after_nil]
  rw [StableHlo.reshape_result_ne' (h := by decide), StableHlo.unary_result_ne' (h := by decide),
    StableHlo.unary_result_ne' (h := by decide), StableHlo.nary_result']
  show stack _ _ _ = _
  refine congr (congr (congrArg stack ?_) ?_) ?_
  · show HloOp.result _ _ (Proc.tc.devRef main_v1) = _
    rw [StableHlo.unary_result_ne' (h := by decide), StableHlo.nullary_result_ne' (h := by decide), StableHlo.unary_result',
      StableHlo.reshape_result_ne' (h := by decide)]
  · show HloOp.result _ _ (Proc.tc.devRef main_arg2) = _
    rw [StableHlo.unary_result_ne' (h := by decide), StableHlo.nullary_result_ne' (h := by decide),
      StableHlo.unary_result_ne' (h := by decide), StableHlo.reshape_result_ne' (h := by decide)]
  · show HloOp.result _ _ (Proc.tc.devRef main_v2) = _
    rw [StableHlo.unary_result', StableHlo.nullary_result']

/-- The result array from the arguments as launched. -/
theorem value (c : Dev nD) (x : Vec Ideal S1x16384x1024 .f32) (hx : m ((c : Thread nD τ).loc main_arg0) = x)
    (g : Vec Ideal S1024 .f32) (hg : m ((c : Thread nD τ).loc main_arg1) = g)
    (p : Vec Ideal S3x1024 .f32) (hp : m ((c : Thread nD τ).loc main_arg2) = p)
    (w : Vec Ideal S2x2x1024x5632 .f32) (hw : m ((c : Thread nD τ).loc main_arg3) = w)
    (v : Vec Ideal S2x2x2816x1024 .f32) (hv : m ((c : Thread nD τ).loc main_arg4) = v) (r : Fin 16384) (d : Fin 1024) :
    ((dats m 0 c).arrAt 5 cfg0.N : Vec Ideal S16384x1024 .f32) (ix2 r d)
      = Rows.half (fun l => x (ix3 0 r l)) (fun l => g (ix1 l)) (fun l => p (ix2 0 l)) (fun l => p (ix2 1 l))
          (fun l => p (ix2 2 l)) (fun j k => w (ix4 0 0 j k)) (fun k l => v (ix4 0 0 k l)) d := by
  have h0 : (V m c main_v0 : Vec Ideal S16384x1024 .f32) = shapeCast S16384x1024 x shapeCasts_S1x16384x1024_S16384x1024 := by
    subst hx
    entry_read
    rfl
  have h4 : (V m c main_v4 : S2x2x1024x5632.Idx → EReal) = w := by
    subst hw
    entry_read
    rfl
  have h5 : (V m c main_v5 : S2x2x2816x1024.Idx → EReal) = v := by
    subst hv
    entry_read
    rfl
  have e0 : ∀ l, shapeCast S16384x1024 x shapeCasts_S1x16384x1024_S16384x1024 (ix2 r l) = x (ix3 0 r l) := by
    intro l
    pointwise
  have eg : ∀ l : Fin 1024, broadcastInDim S1x1024 ![1] bcast_S1024_S1x1024_1 g (ix2 0 l) = g (ix1 l) := by
    intro l
    pointwise
  rw [final, entry3, hg, hp]
  show Rows.half (fun l => (V m c main_v0 : Vec Ideal S16384x1024 .f32) (ix2 r l)) (fun l => stack _ _ _ (ix2 0 l))
    (fun l => stack _ _ _ (ix2 1 l)) (fun l => stack _ _ _ (ix2 2 l)) (fun l => stack _ _ _ (ix2 3 l))
    (fun j k => (V m c main_v4 : S2x2x1024x5632.Idx → EReal) (ix4 0 0 j k))
    (fun k l => (V m c main_v5 : S2x2x2816x1024.Idx → EReal) (ix4 0 0 k l)) d = _
  rw [h0, h4, h5]
  simp only [e0, stack_gain, stack_shift, stack_scale, stack_gate, eg]

end Cert.Kernel2Ideal.Run

end
-- ==== Proof.Ffn.Host.lean ====
/-
  The plain feed-forward half-step in whole arrays, stage by stage, and each stage read at an element: together they are
  the half-step of each row.
-/
module

public import proofs.«01_k».proof.Proof.Rows
public import proofs.«01_k».proof.Proof.Gen.Reference2Ideal.Run
public import Idealize.ShloMosaic.Lib.Tactic
public import Idealize.ShloMosaic.Lib.Pointwise

@[expose] public section

set_option maxRecDepth 16384

noncomputable section

namespace Cert.Reference2Ideal.Host

open Cert.Reference2Ideal Cert.Reference2Ideal.Gen Cert.Reference2Ideal.Value Idealize.ShloMosaic Idealize.ShloMosaic.TcCoe
open Idealize.SL.Sem

/-- A vector of one row repeated down the rows. -/
def rows (v : Vec Ideal S1024 .f32) : Vec Ideal S16384x1024 .f32 :=
  broadcastInDim S16384x1024 ![0, 1] bcast_S1x1024_S16384x1024_0_1 (broadcastInDim S1x1024 ![1] bcast_S1024_S1x1024_1 v)

/-- Every row normed. -/
def normed (X : FVec Ideal S16384x1024 .f32) : FVec Ideal S16384x1024 .f32 :=
  mulf X (broadcastInDim S16384x1024 ![0, 1] bcast_S16384x1_S16384x1024_0_1 (Host.rsqrt (addf (Host.divf
    (broadcastInDim S16384x1 ![0] bcast_S16384_S16384x1_0
      (Host.reduceAdd (mulf X X) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))))

/-- Every row lifted. -/
def lifted (X : FVec Ideal S16384x1024 .f32) (g sh sc : FVec Ideal S1024 .f32) : FVec Ideal S16384x1024 .f32 :=
  addf (mulf (mulf (normed X) (rows g)) (rows (addf (broadcastInDim S1024 ![] bcast_S_S1024 (constant S_ .f32 0x3F800000#32)) sc)))
    (rows sh)

/-- The first product. -/
def wide (H : FVec Ideal S16384x1024 .f32) (w : FVec Ideal S1024x5632 .f32) : FVec Ideal S16384x5632 .f32 :=
  Host.dotGeneral dot_S16384x1024_S1024x5632_S16384x5632_1_0_0_1_n_n none H w

/-- The first half of the columns. -/
def left (P : FVec Ideal S16384x5632 .f32) : FVec Ideal S16384x2816 .f32 :=
  extractStridedSlice S16384x2816 ![0, 0] P slices_S16384x5632_S16384x2816_0_0

/-- One over one plus the exponential of the negated argument. -/
def sigmoid (z : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf z)))

/-- The gate's columns through `z * sigmoid z`, times the other half. -/
def mixed (P : FVec Ideal S16384x5632 .f32) : FVec Ideal S16384x2816 .f32 :=
  mulf (mulf (left P) (sigmoid (left P)))
    (extractStridedSlice S16384x2816 ![0, 2816] P slices_S16384x5632_S16384x2816_0_2816)

/-- The half-step. -/
def stepped (X : FVec Ideal S16384x1024 .f32) (g sh sc ga : FVec Ideal S1024 .f32) (w : FVec Ideal S1024x5632 .f32)
    (v : FVec Ideal S2816x1024 .f32) : FVec Ideal S16384x1024 .f32 :=
  addf X (mulf (rows (mulf (broadcastInDim S1024 ![] bcast_S_S1024 (constant S_ .f32 0x3F000000#32)) ga))
    (Host.dotGeneral dot_S16384x2816_S2816x1024_S16384x1024_1_0_0_1_n_n none (mixed (wide (lifted X g sh sc) w)) v))

theorem normed_apply (X : FVec Ideal S16384x1024 .f32) (r : Fin 16384) (j : Fin 1024) :
    normed X (ix2 r j) = Rows.norm (fun l => X (ix2 r l)) j := by
  unfold normed
  pointwise
  rfl

theorem rows_apply (v : Vec Ideal S1024 .f32) (r : Fin 16384) (j : Fin 1024) : rows v (ix2 r j) = v (ix1 j) := by
  unfold rows
  pointwise

theorem lifted_apply (X : FVec Ideal S16384x1024 .f32) (g sh sc : FVec Ideal S1024 .f32) (r : Fin 16384) (j : Fin 1024) :
    lifted X g sh sc (ix2 r j)
      = Rows.lift (fun l => X (ix2 r l)) (fun l => g (ix1 l)) (fun l => sh (ix1 l)) (fun l => sc (ix1 l)) j := by
  unfold lifted
  pointwise [normed_apply, rows_apply]
  rfl

theorem wide_apply (H : FVec Ideal S16384x1024 .f32) (w : FVec Ideal S1024x5632 .f32) (r : Fin 16384) (k : Fin 5632) :
    wide H w (ix2 r k) = ∑ j, H (ix2 r j) * w (ix2 j k) := by
  unfold wide
  pointwise

theorem sigmoid_apply (z : FVec Ideal S16384x2816 .f32) (r : Fin 16384) (k : Fin 2816) :
    sigmoid z (ix2 r k) = Ideal.logistic (z (ix2 r k)) := by
  unfold sigmoid
  pointwise
  rfl

theorem left_apply (P : FVec Ideal S16384x5632 .f32) (r : Fin 16384) (k : Fin 2816) :
    left P (ix2 r k) = P (ix2 r ⟨k.val, by omega⟩) := by
  unfold left
  pointwise

theorem mixed_apply (P : FVec Ideal S16384x5632 .f32) (r : Fin 16384) (k : Fin 2816) :
    mixed P (ix2 r k) = P (ix2 r ⟨k.val, by omega⟩) * Ideal.logistic (P (ix2 r ⟨k.val, by omega⟩))
      * P (ix2 r ⟨2816 + k.val, by omega⟩) := by
  unfold mixed
  pointwise [sigmoid_apply, left_apply]

theorem stepped_apply (X : FVec Ideal S16384x1024 .f32) (g sh sc ga : FVec Ideal S1024 .f32) (w : FVec Ideal S1024x5632 .f32)
    (v : FVec Ideal S2816x1024 .f32) (r : Fin 16384) (d : Fin 1024) :
    stepped X g sh sc ga w v (ix2 r d)
      = Rows.half (fun l => X (ix2 r l)) (fun l => g (ix1 l)) (fun l => sh (ix1 l)) (fun l => sc (ix1 l))
          (fun l => ga (ix1 l)) (fun j k => w (ix2 j k)) (fun k l => v (ix2 k l)) d := by
  unfold stepped
  pointwise [rows_apply, mixed_apply, wide_apply, lifted_apply]
  rfl

/-- The reference's result from its arguments. -/
theorem value (m : (ℓ : Loc nD τ sig) → Buf (Elt Ideal) ℓ) (c : Dev nD)
    (x : Vec Ideal S1x16384x1024 .f32) (hx : m ((c.tc : Thread nD τ).loc main_arg0) = x)
    (g : Vec Ideal S1024 .f32) (hg : m ((c.tc : Thread nD τ).loc main_arg1) = g)
    (p : Vec Ideal S3x1024 .f32) (hp : m ((c.tc : Thread nD τ).loc main_arg2) = p)
    (w : Vec Ideal S2x2x1024x5632 .f32) (hw : m ((c.tc : Thread nD τ).loc main_arg3) = w)
    (v : Vec Ideal S2x2x2816x1024 .f32) (hv : m ((c.tc : Thread nD τ).loc main_arg4) = v) (r : Fin 16384) (d : Fin 1024) :
    (res_out0 m c : Vec Ideal S16384x1024 .f32) (ix2 r d)
      = Rows.half (fun l => x (ix3 0 r l)) (fun l => g (ix1 l)) (fun l => p (ix2 0 l)) (fun l => p (ix2 1 l))
          (fun l => p (ix2 2 l)) (fun j k => w (ix4 0 0 j k)) (fun k l => v (ix4 0 0 k l)) d := by
  have e : (res_out0 m c : Vec Ideal S16384x1024 .f32)
      = stepped (shapeCast S16384x1024 x shapeCasts_S1x16384x1024_S16384x1024) g
          (shapeCast S1024 (extractStridedSlice S1x1024 ![0, 0] p slices_S3x1024_S1x1024_0_0) shapeCasts_S1x1024_S1024)
          (shapeCast S1024 (extractStridedSlice S1x1024 ![1, 0] p slices_S3x1024_S1x1024_1_0) shapeCasts_S1x1024_S1024)
          (shapeCast S1024 (extractStridedSlice S1x1024 ![2, 0] p slices_S3x1024_S1x1024_2_0) shapeCasts_S1x1024_S1024)
          (shapeCast S1024x5632 (extractStridedSlice S1x1x1024x5632 ![0, 0, 0, 0] w slices_S2x2x1024x5632_S1x1x1024x5632_0_0_0_0)
            shapeCasts_S1x1x1024x5632_S1024x5632)
          (shapeCast S2816x1024 (extractStridedSlice S1x1x2816x1024 ![0, 0, 0, 0] v slices_S2x2x2816x1024_S1x1x2816x1024_0_0_0_0)
            shapeCasts_S1x1x2816x1024_S2816x1024) := by
    subst hx hg hp hw hv
    rfl
  rw [e, stepped_apply]
  pointwise

end Cert.Reference2Ideal.Host

end
-- ==== Proof.Ffn.Claims.lean ====
/-
  The claims of the plain feed-forward call: its frames and its reference's, and that at exact reals the two end with the
  same array.
-/
module

public import proofs.«01_k».proof.Defs
public import proofs.«01_k».proof.Proof.Ffn.Run
public import proofs.«01_k».proof.Proof.Ffn.Host
public import proofs.«01_k».proof.Proof.Gen.Kernel2.Frame
public import Idealize.ShloMosaic.Lib.Claim

@[expose] public section

set_option maxRecDepth 16384

noncomputable section

namespace Cert.Ffn

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Reference and kernel end with the same array, given the same arguments. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4)) :
    (Cert.Reference2Ideal.Value.res_out0 m' c : Vec Ideal Cert.Kernel2Ideal.S16384x1024 .f32)
      = (Cert.Kernel2Ideal.Gen.dats m 0 c).arrAt 5 Cert.Kernel2Ideal.cfg0.N := by
  refine funext fun (y : Cert.Kernel2Ideal.S16384x1024.Idx) => ?_
  obtain ⟨r, d, rfl⟩ : ∃ (r : Fin 16384) (d : Fin 1024), y = ix2 r d :=
    ⟨y 0, y 1, funext fun i => by match i with | ⟨0, _⟩ => rfl | ⟨1, _⟩ => rfl⟩
  exact (Cert.Reference2Ideal.Host.value m' c _ h0 _ h1 _ h2 _ h3 _ h4 r d).trans
    (Cert.Kernel2Ideal.Run.value m c _ rfl _ rfl _ rfl _ rfl _ rfl r d).symm

theorem algebraic : Cert.algebraic_Kernel2Ideal_Reference2Ideal := by
  intro m ρ m' ρ' _ h
  refine ⟨fun c => (Cert.Kernel2Ideal.Gen.dats m 0 c).arrAt 5 Cert.Kernel2Ideal.cfg0.N,
    Cert.Kernel2Ideal.Value.run_blocks m ρ, ?_⟩
  exact (θ_run Cert.Reference2Ideal.defs _ _).mono
    (fun r hr c => ⟨(hr c).1.trans (same m m' c (h c).1 (h c).2.1 (h c).2.2.1 (h c).2.2.2.1 (h c).2.2.2.2.1), (hr c).2⟩)
    (Cert.Reference2Ideal.Value.run m' ρ')

end Cert.Ffn

end
-- ==== Proof.Last.Block.lean ====
/-
  What one grid point of the layer's last call leaves in its output block, row by row: the attention's part is added, the
  half-step is taken, and the outcome is normed.
-/
module

public import proofs.«01_k».proof.Proof.Rows
public import proofs.«01_k».proof.Proof.Gen.Kernel3Ideal.Value
public import Idealize.ShloMosaic.Lib.Tactic
public import Idealize.ShloMosaic.Lib.Pointwise

@[expose] public section

set_option maxRecDepth 16384

noncomputable section

namespace Cert.Kernel3Ideal.Block

open Cert.Kernel3Ideal Cert.Kernel3Ideal.Gen Idealize.ShloMosaic Idealize.ShloMosaic.TcCoe Idealize.SL.Sem

/-- The residual with the attention's part added. -/
theorem mix_apply (x : Vec Ideal S512x1024 .f32) (ga : Vec Ideal S1x1024 .f32) (a : Vec Ideal S512x1024 .bf16)
    (o : Vec Ideal S1024x1024 .bf16) (r : Fin 512) (j : Fin 1024) :
    k0_pay2 (F := Ideal) x ga a o (ix2 r j)
      = Rows.mix (fun l => x (ix2 r l)) (fun l => a (ix2 r l)) (fun l => ga (ix2 0 l)) (fun i l => o (ix2 i l)) j := by
  unfold k0_pay2
  pointwise
  rfl

/-- The lifted row, from the residual's. -/
theorem lift_apply (x : Vec Ideal S512x1024 .f32) (ga : Vec Ideal S1x1024 .f32) (a : Vec Ideal S512x1024 .bf16)
    (o : Vec Ideal S1024x1024 .bf16) (g sc sh : Vec Ideal S1x1024 .f32) (r : Fin 512) (j : Fin 1024) :
    k0_pay3 (F := Ideal) x ga a o g sc sh (ix2 r j)
      = Rows.lift (fun l => k0_pay2 (F := Ideal) x ga a o (ix2 r l)) (fun l => g (ix2 0 l)) (fun l => sh (ix2 0 l))
          (fun l => sc (ix2 0 l)) j := by
  unfold k0_pay3
  generalize k0_pay2 (F := Ideal) x ga a o = y
  pointwise
  rfl

/-- A chunk of the gated product. -/
theorem chunk_apply (h : FVec Ideal S512x1024 .bf16) (a b : Vec Ideal S1x1x1024x256 .bf16) (r : Fin 512) (k : Fin 256) :
    k0_pay4 (F := Ideal) h a b (ix2 r k)
      = (∑ j, h (ix2 r j) * a (ix4 0 0 j k)) * Ideal.logistic (∑ j, h (ix2 r j) * a (ix4 0 0 j k))
        * ∑ j, h (ix2 r j) * b (ix4 0 0 j k) := by
  unfold k0_pay4
  pointwise

/-- The second product. -/
theorem back_apply (s : Vec Ideal S512x2816 .bf16) (v : Vec Ideal S1x1x2816x1024 .bf16) (r : Fin 512) (d : Fin 1024) :
    k0_pay18 (F := Ideal) s v (ix2 r d) = ∑ k, s (ix2 r k) * v (ix4 0 0 k d) := by
  unfold k0_pay18
  pointwise

theorem gate_apply (ga : Vec Ideal S1x1024 .f32) (d : Fin 1024) :
    k0_pay19 (F := Ideal) ga (ix2 0 d) = Ideal.ofBits .f32 1056964608#32 * ga (ix2 0 d) := by
  unfold k0_pay19
  pointwise

theorem close_apply (x f : FVec Ideal S512x1024 .f32) (ga : FVec Ideal S1x1024 .f32) (w : Vec Ideal S1x1024 .f32) (r : Fin 512)
    (d : Fin 1024) :
    k0_pay1 (F := Ideal) x f ga w (ix2 r d)
      = Rows.close (fun l => x (ix2 r l) + ga (ix2 0 l) * f (ix2 r l)) (fun l => w (ix2 0 l)) d := by
  unfold k0_pay1
  pointwise
  rfl

theorem hz : (![0, 0] : Fin 2 → Nat) = fun _ => 0 := funext fun a => by fin_cases a <;> rfl

/-- The residual's rows as the body finds them, the attention's part added. -/
abbrev mixed (x0 : Vec Ideal S512x1024 .f32) (x1 : Vec Ideal S512x1024 .bf16) (x2 : Vec Ideal S8x1024 .f32)
    (x3 : Vec Ideal S1024x1024 .bf16) (r : Fin 512) : Fin 1024 → EReal :=
  Rows.mix (fun l => x0 (ix2 r l)) (fun l => x1 (ix2 r l)) (fun l => x2 (ix2 3 l)) (fun i l => x3 (ix2 i l))

/-- The gated product of a block's rows, at a row and a column. -/
def gate (x0 : Vec Ideal S512x1024 .f32) (x1 : Vec Ideal S512x1024 .bf16) (x2 : Vec Ideal S8x1024 .f32)
    (x3 : Vec Ideal S1024x1024 .bf16) (x4 : Vec Ideal S8x1024 .f32) (x5 : Vec Ideal S1x1x1024x5632 .bf16) :
    S512x2816.Idx → EReal := fun i =>
  Rows.gated (Rows.lift (mixed x0 x1 x2 x3 (i 0)) (fun l => x4 (ix2 0 l)) (fun l => x4 (ix2 1 l)) (fun l => x4 (ix2 2 l)))
    (fun j k => x5 (ix4 0 0 j k)) (i 1)

/-- The residual as the body computes it. -/
abbrev body (x0 : Vec Ideal S512x1024 .f32) (x1 : Vec Ideal S512x1024 .bf16) (x2 : Vec Ideal S8x1024 .f32)
    (x3 : Vec Ideal S1024x1024 .bf16) : FVec Ideal S512x1024 .f32 :=
  k0_pay2 (View.ld x0 (Rect.unit (s := S512x1024) ![0, 0] S512x1024.size inb_S512x1024_S512x1024_0_0))
    (View.ld x2 (Rect.unit (s := S8x1024) ![3, 0] S1x1024.size inb_S8x1024_S1x1024_3_0))
    (View.ld x1 (Rect.unit (s := S512x1024) ![0, 0] S512x1024.size inb_S512x1024_S512x1024_0_0))
    (View.ld x3 (Rect.unit (s := S1024x1024) ![0, 0] S1024x1024.size inb_S1024x1024_S1024x1024_0_0))

/-- The rows as the body lifts them. -/
abbrev lifted (x0 : Vec Ideal S512x1024 .f32) (x1 : Vec Ideal S512x1024 .bf16) (x2 : Vec Ideal S8x1024 .f32)
    (x3 : Vec Ideal S1024x1024 .bf16) (x4 : Vec Ideal S8x1024 .f32) : FVec Ideal S512x1024 .bf16 :=
  k0_pay3 (View.ld x0 (Rect.unit (s := S512x1024) ![0, 0] S512x1024.size inb_S512x1024_S512x1024_0_0))
    (View.ld x2 (Rect.unit (s := S8x1024) ![3, 0] S1x1024.size inb_S8x1024_S1x1024_3_0))
    (View.ld x1 (Rect.unit (s := S512x1024) ![0, 0] S512x1024.size inb_S512x1024_S512x1024_0_0))
    (View.ld x3 (Rect.unit (s := S1024x1024) ![0, 0] S1024x1024.size inb_S1024x1024_S1024x1024_0_0))
    (View.ld x4 (Rect.unit (s := S8x1024) ![0, 0] S1x1024.size inb_S8x1024_S1x1024_0_0))
    (View.ld x4 (Rect.unit (s := S8x1024) ![2, 0] S1x1024.size inb_S8x1024_S1x1024_2_0))
    (View.ld x4 (Rect.unit (s := S8x1024) ![1, 0] S1x1024.size inb_S8x1024_S1x1024_1_0))

theorem body_apply (x0 : Vec Ideal S512x1024 .f32) (x1 : Vec Ideal S512x1024 .bf16) (x2 : Vec Ideal S8x1024 .f32)
    (x3 : Vec Ideal S1024x1024 .bf16) (r : Fin 512) (j : Fin 1024) : body x0 x1 x2 x3 (ix2 r j) = mixed x0 x1 x2 x3 r j := by
  unfold body mixed
  rw [mix_apply]
  pointwise

theorem lifted_apply (x0 : Vec Ideal S512x1024 .f32) (x1 : Vec Ideal S512x1024 .bf16) (x2 : Vec Ideal S8x1024 .f32)
    (x3 : Vec Ideal S1024x1024 .bf16) (x4 : Vec Ideal S8x1024 .f32) (r : Fin 512) (j : Fin 1024) :
    lifted x0 x1 x2 x3 x4 (ix2 r j)
      = Rows.lift (mixed x0 x1 x2 x3 r) (fun l => x4 (ix2 0 l)) (fun l => x4 (ix2 1 l)) (fun l => x4 (ix2 2 l)) j := by
  unfold lifted
  rw [lift_apply]
  have h := body_apply x0 x1 x2 x3 r
  unfold body at h
  simp only [h]
  pointwise

/-- A load of the first weights' columns from `a` on. -/
theorem cols_apply (x5 : Vec Ideal S1x1x1024x5632 .bf16) (a : Nat) (ha : a + 256 ≤ 5632)
    (inb : ∀ i : Fin 4, (![0, 0, 0, a] : Fin 4 → Nat) i + S1x1x1024x256.size i ≤ S1x1x1024x5632.size i) (j : Fin 1024) (k : Fin 256) :
    View.ld x5 (Rect.unit (s := S1x1x1024x5632) ![0, 0, 0, a] S1x1x1024x256.size inb) (ix4 0 0 j k)
      = x5 (ix4 0 0 j ⟨a + k.val, by omega⟩) := by
  refine congrArg x5 (funext fun i => Fin.ext ?_)
  match i with
  | ⟨0, _⟩ => rfl
  | ⟨1, _⟩ => rfl
  | ⟨2, _⟩ => show 0 + 1 * j.val = j.val; omega
  | ⟨3, _⟩ => show a + 1 * k.val = a + k.val; omega

/-- A store to the scratch holds the gated product of its columns. -/
theorem piece (x0 : Vec Ideal S512x1024 .f32) (x1 : Vec Ideal S512x1024 .bf16) (x2 : Vec Ideal S8x1024 .f32)
    (x3 : Vec Ideal S1024x1024 .bf16) (x4 : Vec Ideal S8x1024 .f32) (x5 : Vec Ideal S1x1x1024x5632 .bf16) (a b : Nat)
    (hb : b = 2816 + a) (ha : a + 256 ≤ 2816)
    (inba : ∀ i : Fin 4, (![0, 0, 0, a] : Fin 4 → Nat) i + S1x1x1024x256.size i ≤ S1x1x1024x5632.size i)
    (inbb : ∀ i : Fin 4, (![0, 0, 0, b] : Fin 4 → Nat) i + S1x1x1024x256.size i ≤ S1x1x1024x5632.size i)
    (inbs : ∀ i : Fin 2, (![0, a] : Fin 2 → Nat) i + S512x256.size i ≤ S512x2816.size i) (x : S512x256.Idx) :
    k0_pay4 (lifted x0 x1 x2 x3 x4) (View.ld x5 (Rect.unit (s := S1x1x1024x5632) ![0, 0, 0, a] S1x1x1024x256.size inba))
        (View.ld x5 (Rect.unit (s := S1x1x1024x5632) ![0, 0, 0, b] S1x1x1024x256.size inbb)) x
      = gate x0 x1 x2 x3 x4 x5 ((Rect.unit (s := S512x2816) ![0, a] S512x256.size inbs).emb x) := by
  subst hb
  obtain ⟨r, k, rfl⟩ : ∃ (r : Fin 512) (k : Fin 256), x = ix2 r k :=
    ⟨x 0, x 1, funext fun i => by match i with | ⟨0, _⟩ => rfl | ⟨1, _⟩ => rfl⟩
  have h0 : (Rect.unit (s := S512x2816) ![0, a] S512x256.size inbs).emb (ix2 r k) = (ix2 r ⟨a + k.val, by omega⟩ : S512x2816.Idx) := by
    refine funext fun i => Fin.ext ?_
    match i with
    | ⟨0, _⟩ => show 0 + 1 * r.val = r.val; omega
    | ⟨1, _⟩ => show a + 1 * k.val = a + k.val; omega
  rw [chunk_apply, h0]
  simp only [cols_apply x5 a (by omega) inba, cols_apply x5 (2816 + a) (by omega) inbb, lifted_apply, Nat.add_assoc]
  rfl

/-- What the run leaves in the result's block. -/
theorem run_apply (c : Dev nD) (i : grid0.Coords) (arg1 : Memref sig .tc .vmem S512x1024 .f32) (harg1 : arg1.IsWhole)
    (arg2 : Memref sig .tc .vmem S512x1024 .bf16) (harg2 : arg2.IsWhole) (arg3 : Memref sig .tc .vmem S8x1024 .f32)
    (harg3 : arg3.IsWhole) (arg4 : Memref sig .tc .vmem S1024x1024 .bf16) (harg4 : arg4.IsWhole)
    (arg5 : Memref sig .tc .vmem S8x1024 .f32) (harg5 : arg5.IsWhole) (arg6 : Memref sig .tc .vmem S1x1x1024x5632 .bf16)
    (harg6 : arg6.IsWhole) (arg7 : Memref sig .tc .vmem S1x1x2816x1024 .bf16) (harg7 : arg7.IsWhole)
    (arg8 : Memref sig .tc .vmem S1x1024 .f32) (harg8 : arg8.IsWhole) (arg9 : Memref sig .tc .vmem S512x1024 .f32)
    (harg9 : arg9.IsWhole) (arg10 : Memref sig .tc .vmem S512x2816 .bf16) (harg10 : arg10.IsWhole)
    (x0 : Vec Ideal S512x1024 .f32) (x1 : Vec Ideal S512x1024 .bf16) (x2 : Vec Ideal S8x1024 .f32)
    (x3 : Vec Ideal S1024x1024 .bf16) (x4 : Vec Ideal S8x1024 .f32) (x5 : Vec Ideal S1x1x1024x5632 .bf16)
    (x6 : Vec Ideal S1x1x2816x1024 .bf16) (x7 : Vec Ideal S1x1024 .f32) (r : Fin 512) (d : Fin 1024) :
    out0_A_8 c i arg1 harg1 arg2 harg2 arg3 harg3 arg4 harg4 arg5 harg5 arg6 harg6 arg7 harg7 arg8 harg8 arg9 harg9 arg10 harg10
        x0 x1 x2 x3 x4 x5 x6 x7 (ix2 r d)
      = Rows.close (Rows.half (mixed x0 x1 x2 x3 r) (fun l => x4 (ix2 0 l)) (fun l => x4 (ix2 1 l)) (fun l => x4 (ix2 2 l))
          (fun l => x4 (ix2 3 l)) (fun j k => x5 (ix4 0 0 j k)) (fun k l => x6 (ix4 0 0 k l))) (fun l => x7 (ix2 0 l)) d := by
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread]
  rw [close_apply]
  have hs : ∀ (k : Fin 2816) (B : List (View.Piece (Elt Ideal) S512x2816 .bf16)),
      (∀ p ∈ B, ∀ x : p.1.shape.Idx, p.2 x = gate x0 x1 x2 x3 x4 x5 (p.1.emb x)) → (∀ y : S512x2816.Idx, ∃ p ∈ B, y ∈ p.1.set) →
      arg10.view.readCov B (Rect.unit (s := S512x2816) ![0, 0] S512x2816.size inb_S512x2816_S512x2816_0_0).toLoadRect (ix2 r k)
        = gate x0 x1 x2 x3 x4 x5 (ix2 r k) := by
    intro k B hB hc
    rw [View.readCov_eq_canon']
    have h0 : (Rect.unit (s := S512x2816) ![0, 0] S512x2816.size inb_S512x2816_S512x2816_0_0).toLoadRect.idx (ix2 r k)
        = (ix2 r k : S512x2816.Idx) := by
      refine funext fun i => Fin.ext ?_
      match i with
      | ⟨0, _⟩ => show 0 + 1 * r.val = r.val; omega
      | ⟨1, _⟩ => show 0 + 1 * k.val = k.val; omega
    simp only [h0]
    exact View.canon_apply_of_pieces (gate x0 x1 x2 x3 x4 x5) B hB _ (hc _)
  have hx := body_apply x0 x1 x2 x3 r
  unfold body at hx
  simp only [back_apply, gate_apply, hx]
  refine congrFun (congrArg₂ Rows.close (funext fun l => ?_) (funext fun l => ?_)) d
  · refine congrArg₂ (· + ·) rfl (congrArg₂ (· * ·) ?_ (Finset.sum_congr rfl fun k _ =>
      congrArg₂ (· * ·) ((hs k _ ?_ (View.cover_of_tiled _ S512x256.size (by sl_kernel_rfl))).trans rfl) ?_))
    · pointwise
    · intro p hp
      simp only [List.mem_cons, List.not_mem_nil, or_false] at hp
      rcases hp with rfl | rfl | rfl | rfl | rfl | rfl | rfl | rfl | rfl | rfl | rfl
      · exact piece x0 x1 x2 x3 x4 x5 2560 5376 rfl (by decide) inb_S1x1x1024x5632_S1x1x1024x256_0_0_0_2560
          inb_S1x1x1024x5632_S1x1x1024x256_0_0_0_5376 inb_S512x2816_S512x256_0_2560
      · exact piece x0 x1 x2 x3 x4 x5 2304 5120 rfl (by decide) inb_S1x1x1024x5632_S1x1x1024x256_0_0_0_2304
          inb_S1x1x1024x5632_S1x1x1024x256_0_0_0_5120 inb_S512x2816_S512x256_0_2304
      · exact piece x0 x1 x2 x3 x4 x5 2048 4864 rfl (by decide) inb_S1x1x1024x5632_S1x1x1024x256_0_0_0_2048
          inb_S1x1x1024x5632_S1x1x1024x256_0_0_0_4864 inb_S512x2816_S512x256_0_2048
      · exact piece x0 x1 x2 x3 x4 x5 1792 4608 rfl (by decide) inb_S1x1x1024x5632_S1x1x1024x256_0_0_0_1792
          inb_S1x1x1024x5632_S1x1x1024x256_0_0_0_4608 inb_S512x2816_S512x256_0_1792
      · exact piece x0 x1 x2 x3 x4 x5 1536 4352 rfl (by decide) inb_S1x1x1024x5632_S1x1x1024x256_0_0_0_1536
          inb_S1x1x1024x5632_S1x1x1024x256_0_0_0_4352 inb_S512x2816_S512x256_0_1536
      · exact piece x0 x1 x2 x3 x4 x5 1280 4096 rfl (by decide) inb_S1x1x1024x5632_S1x1x1024x256_0_0_0_1280
          inb_S1x1x1024x5632_S1x1x1024x256_0_0_0_4096 inb_S512x2816_S512x256_0_1280
      · exact piece x0 x1 x2 x3 x4 x5 1024 3840 rfl (by decide) inb_S1x1x1024x5632_S1x1x1024x256_0_0_0_1024
          inb_S1x1x1024x5632_S1x1x1024x256_0_0_0_3840 inb_S512x2816_S512x256_0_1024
      · exact piece x0 x1 x2 x3 x4 x5 768 3584 rfl (by decide) inb_S1x1x1024x5632_S1x1x1024x256_0_0_0_768
          inb_S1x1x1024x5632_S1x1x1024x256_0_0_0_3584 inb_S512x2816_S512x256_0_768
      · exact piece x0 x1 x2 x3 x4 x5 512 3328 rfl (by decide) inb_S1x1x1024x5632_S1x1x1024x256_0_0_0_512
          inb_S1x1x1024x5632_S1x1x1024x256_0_0_0_3328 inb_S512x2816_S512x256_0_512
      · exact piece x0 x1 x2 x3 x4 x5 256 3072 rfl (by decide) inb_S1x1x1024x5632_S1x1x1024x256_0_0_0_256
          inb_S1x1x1024x5632_S1x1x1024x256_0_0_0_3072 inb_S512x2816_S512x256_0_256
      · exact piece x0 x1 x2 x3 x4 x5 0 2816 rfl (by decide) inb_S1x1x1024x5632_S1x1x1024x256_0_0_0_0
          inb_S1x1x1024x5632_S1x1x1024x256_0_0_0_2816 inb_S512x2816_S512x256_0_0
    · pointwise
  · pointwise

end Cert.Kernel3Ideal.Block

end
-- ==== Proof.Last.Run.lean ====
/-
  The last feed-forward kernel's result array as one function of its arguments: each grid point writes its own 512 rows,
  the attention's part added, the half-step taken and the outcome normed, and the points' blocks make up the array.
-/
module

public import proofs.«01_k».proof.Proof.Last.Block
public import proofs.«01_k».proof.Proof.Ffn.Run
public import proofs.«01_k».proof.Proof.Gen.Kernel3Ideal.Value
public import Idealize.ShloMosaic.Lib.Claim
public import Idealize.ShloMosaic.Lib.Tactic
public import Idealize.ShloMosaic.Lib.Pointwise

@[expose] public section

set_option maxRecDepth 16384

noncomputable section

namespace Cert.Kernel3Ideal.Run

open Cert.Kernel3Ideal Cert.Kernel3Ideal.Gen Cert.Kernel3Ideal.Value Idealize.ShloMosaic Idealize.ShloMosaic.TcCoe
open Idealize.SL.Sem
open Cert.Kernel2Ideal.Run (stack stack_gain stack_shift stack_scale stack_gate)

/-- Every row's outcome, of the arrays as the grid finds them. -/
def G (x : Vec Ideal S16384x1024 .f32) (a : Vec Ideal S16384x1024 .bf16) (q : Vec Ideal S8x1024 .f32)
    (o : Vec Ideal S1024x1024 .bf16) (p : Vec Ideal S8x1024 .f32) (w : Vec Ideal S2x2x1024x5632 .bf16)
    (v : Vec Ideal S2x2x2816x1024 .bf16) (f : Vec Ideal S1x1024 .f32) : Vec Ideal S16384x1024 .f32 := fun i =>
  Rows.close (Rows.half (Rows.mix (fun l => x (ix2 (i 0) l)) (fun l => a (ix2 (i 0) l)) (fun l => q (ix2 3 l))
      (fun j l => o (ix2 j l)))
    (fun l => p (ix2 0 l)) (fun l => p (ix2 1 l)) (fun l => p (ix2 2 l)) (fun l => p (ix2 3 l))
    (fun j k => w (ix4 1 1 j k)) (fun k l => v (ix4 1 1 k l))) (fun l => f (ix2 0 l)) (i 1)

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 4) = 1 ∧ win0_5.index t (1 : Fin 4) = 1
    ∧ win0_5.index t (2 : Fin 4) = 0 ∧ win0_5.index t (3 : Fin 4) = 0 := (by decide +kernel : ∀ t : Fin grid0.N, _)
theorem index6 : ∀ t : Fin cfg0.N, win0_6.index t (0 : Fin 4) = 1 ∧ win0_6.index t (1 : Fin 4) = 1
    ∧ win0_6.index t (2 : Fin 4) = 0 ∧ win0_6.index t (3 : Fin 4) = 0 := (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)

/-- The row of the whole array that row `r` of point `t`'s block is. -/
def row (t : Fin cfg0.N) (r : Fin 512) : Fin 16384 := ⟨512 * t.val + r.val, by have h : t.val < 32 := t.isLt; omega⟩

theorem emb0 (t : Fin cfg0.N) (r : Fin 512) (l : Fin 1024) :
    ((cfg0.win 0).blk t).view.emb (ix2 r l : S512x1024.Idx) = (ix2 (row t r) l : S16384x1024.Idx) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem emb1 (t : Fin cfg0.N) (r : Fin 512) (l : Fin 1024) :
    ((cfg0.win 1).blk t).view.emb (ix2 r l : S512x1024.Idx) = (ix2 (row t r) l : S16384x1024.Idx) := by
  obtain ⟨e0, e1⟩ := index1 t
  funext a; apply Fin.ext
  match a with
  | ⟨0, _⟩ => show win0_1.index t (0 : Fin 2) * 512 + 1 * r.val = 512 * t.val + r.val; omega
  | ⟨1, _⟩ => show win0_1.index t (1 : Fin 2) * 1024 + 1 * l.val = l.val; omega

theorem emb8 (t : Fin cfg0.N) (r : Fin 512) (l : Fin 1024) :
    ((cfg0.win 8).blk t).view.emb (ix2 r l : S512x1024.Idx) = (ix2 (row t r) l : S16384x1024.Idx) := by
  obtain ⟨e0, e1⟩ := index8 t
  funext a; apply Fin.ext
  match a with
  | ⟨0, _⟩ => show win0_8.index t (0 : Fin 2) * 512 + 1 * r.val = 512 * t.val + r.val; omega
  | ⟨1, _⟩ => show win0_8.index t (1 : Fin 2) * 1024 + 1 * l.val = l.val; omega

theorem emb2 (t : Fin cfg0.N) (r : Fin 8) (l : Fin 1024) :
    ((cfg0.win 2).blk t).view.emb (ix2 r l : S8x1024.Idx) = (ix2 r l : S8x1024.Idx) := by
  obtain ⟨e0, e1⟩ := index2 t
  funext a; apply Fin.ext
  match a with
  | ⟨0, _⟩ => show win0_2.index t (0 : Fin 2) * 8 + 1 * r.val = r.val; omega
  | ⟨1, _⟩ => show win0_2.index t (1 : Fin 2) * 1024 + 1 * l.val = l.val; omega

theorem emb3 (t : Fin cfg0.N) (j l : Fin 1024) :
    ((cfg0.win 3).blk t).view.emb (ix2 j l : S1024x1024.Idx) = (ix2 j l : S1024x1024.Idx) := by
  obtain ⟨e0, e1⟩ := index3 t
  funext a; apply Fin.ext
  match a with
  | ⟨0, _⟩ => show win0_3.index t (0 : Fin 2) * 1024 + 1 * j.val = j.val; omega
  | ⟨1, _⟩ => show win0_3.index t (1 : Fin 2) * 1024 + 1 * l.val = l.val; omega

theorem emb4 (t : Fin cfg0.N) (r : Fin 8) (l : Fin 1024) :
    ((cfg0.win 4).blk t).view.emb (ix2 r l : S8x1024.Idx) = (ix2 r l : S8x1024.Idx) := by
  obtain ⟨e0, e1⟩ := index4 t
  funext a; apply Fin.ext
  match a with
  | ⟨0, _⟩ => show win0_4.index t (0 : Fin 2) * 8 + 1 * r.val = r.val; omega
  | ⟨1, _⟩ => show win0_4.index t (1 : Fin 2) * 1024 + 1 * l.val = l.val; omega

theorem emb5 (t : Fin cfg0.N) (j : Fin 1024) (k : Fin 5632) :
    ((cfg0.win 5).blk t).view.emb (ix4 0 0 j k : S1x1x1024x5632.Idx) = (ix4 1 1 j k : S2x2x1024x5632.Idx) := by
  obtain ⟨e0, e1, e2, e3⟩ := index5 t
  funext a; apply Fin.ext
  match a with
  | ⟨0, _⟩ => show win0_5.index t (0 : Fin 4) * 1 + 1 * 0 = 1; omega
  | ⟨1, _⟩ => show win0_5.index t (1 : Fin 4) * 1 + 1 * 0 = 1; omega
  | ⟨2, _⟩ => show win0_5.index t (2 : Fin 4) * 1024 + 1 * j.val = j.val; omega
  | ⟨3, _⟩ => show win0_5.index t (3 : Fin 4) * 5632 + 1 * k.val = k.val; omega

theorem emb6 (t : Fin cfg0.N) (k : Fin 2816) (l : Fin 1024) :
    ((cfg0.win 6).blk t).view.emb (ix4 0 0 k l : S1x1x2816x1024.Idx) = (ix4 1 1 k l : S2x2x2816x1024.Idx) := by
  obtain ⟨e0, e1, e2, e3⟩ := index6 t
  funext a; apply Fin.ext
  match a with
  | ⟨0, _⟩ => show win0_6.index t (0 : Fin 4) * 1 + 1 * 0 = 1; omega
  | ⟨1, _⟩ => show win0_6.index t (1 : Fin 4) * 1 + 1 * 0 = 1; omega
  | ⟨2, _⟩ => show win0_6.index t (2 : Fin 4) * 2816 + 1 * k.val = k.val; omega
  | ⟨3, _⟩ => show win0_6.index t (3 : Fin 4) * 1024 + 1 * l.val = l.val; omega

theorem emb7 (t : Fin cfg0.N) (l : Fin 1024) :
    ((cfg0.win 7).blk t).view.emb (ix2 0 l : S1x1024.Idx) = (ix2 0 l : S1x1024.Idx) := by
  obtain ⟨e0, e1⟩ := index7 t
  funext a; apply Fin.ext
  match a with
  | ⟨0, _⟩ => show win0_7.index t (0 : Fin 2) * 1 + 1 * 0 = 0; omega
  | ⟨1, _⟩ => show win0_7.index t (1 : Fin 2) * 1024 + 1 * l.val = l.val; omega

/-- The outcome of the arrays as the grid of device `c` finds them. -/
abbrev outcome (c : Dev nD) : Vec Ideal S16384x1024 .f32 :=
  G (V m c main_v0) (V m c main_arg1) (V m c main_v9) (V m c main_v10) (V m c main_v3) (V m c main_v4) (V m c main_v5) (V m c main_v6)

/-- What a point writes back is its block of the outcome. -/
theorem flushed_eq (c : Dev nD) (t : Fin cfg0.N) :
    (dats m 0 c).flushed 8 t = ((cfg0.win 8).blk t).view.read (Elt Ideal) (outcome m c) := by
  rw [flushed8_A]
  refine funext fun (y : S512x1024.Idx) => ?_
  obtain ⟨r, d, rfl⟩ : ∃ (r : Fin 512) (d : Fin 1024), y = ix2 r d :=
    ⟨y 0, y 1, funext fun i => by match i with | ⟨0, _⟩ => rfl | ⟨1, _⟩ => rfl⟩
  refine (Block.run_apply c _ _ _ _ _ _ _ _ _ _ _ _ _ _ _ _ _ _ _ _ _ _ _ _ _ _ _ _ _ r d).trans ?_
  have h0 : ∀ l, iblk m c 0 t (ix2 r l : S512x1024.Idx) = V m c main_v0 (ix2 (row t r) l : S16384x1024.Idx) :=
    fun l => congrArg (V m c main_v0) (emb0 t r l)
  have h1 : ∀ l, iblk m c 1 t (ix2 r l : S512x1024.Idx) = V m c main_arg1 (ix2 (row t r) l : S16384x1024.Idx) :=
    fun l => congrArg (V m c main_arg1) (emb1 t r l)
  have h2 : ∀ (a : Fin 8) (l : Fin 1024), iblk m c 2 t (ix2 a l : S8x1024.Idx) = V m c main_v9 (ix2 a l : S8x1024.Idx) :=
    fun a l => congrArg (V m c main_v9) (emb2 t a l)
  have h3 : ∀ j l, iblk m c 3 t (ix2 j l : S1024x1024.Idx) = V m c main_v10 (ix2 j l : S1024x1024.Idx) :=
    fun j l => congrArg (V m c main_v10) (emb3 t j l)
  have h4 : ∀ (a : Fin 8) (l : Fin 1024), iblk m c 4 t (ix2 a l : S8x1024.Idx) = V m c main_v3 (ix2 a l : S8x1024.Idx) :=
    fun a l => congrArg (V m c main_v3) (emb4 t a l)
  have h5 : ∀ j k, iblk m c 5 t (ix4 0 0 j k : S1x1x1024x5632.Idx) = V m c main_v4 (ix4 1 1 j k : S2x2x1024x5632.Idx) :=
    fun j k => congrArg (V m c main_v4) (emb5 t j k)
  have h6 : ∀ k l, iblk m c 6 t (ix4 0 0 k l : S1x1x2816x1024.Idx) = V m c main_v5 (ix4 1 1 k l : S2x2x2816x1024.Idx) :=
    fun k l => congrArg (V m c main_v5) (emb6 t k l)
  have h7 : ∀ l, iblk m c 7 t (ix2 0 l : S1x1024.Idx) = V m c main_v6 (ix2 0 l : S1x1024.Idx) :=
    fun l => congrArg (V m c main_v6) (emb7 t l)
  have e : ((cfg0.win 8).blk t).view.read (Elt Ideal) (outcome m c) (ix2 r d : S512x1024.Idx) = outcome m c (ix2 (row t r) d) :=
    congrArg (outcome m c) (emb8 t r d)
  refine Eq.trans ?_ e.symm
  unfold Block.mixed
  simp only [h0, h1, h2, h3, h4, h5, h6, h7]
  rfl

theorem mem8 (t : Fin cfg0.N) (r : Fin 512) (l : Fin 1024) :
    (ix2 (row t r) l : S16384x1024.Idx) ∈ ((cfg0.win 8).blk t).view.set :=
  emb8 t r l ▸ ((cfg0.win 8).blk t).view.emb_mem_set (ix2 r l : S512x1024.Idx)

/-- Every element is in some point's block. -/
theorem covered (i : S16384x1024.Idx) :
    ∃ t : Fin cfg0.N, (cfg0.win 8).flush t = true ∧ i ∈ ((cfg0.win 8).blk t).view.set := by
  have hi : (i 0).val < 16384 := (i 0).isLt
  refine ⟨(⟨(i 0).val / 512, by show _ < 32; omega⟩ : Fin cfg0.N), flush0_8 _, ?_⟩
  have h := mem8 ⟨(i 0).val / 512, by show _ < 32; omega⟩ ⟨(i 0).val % 512, Nat.mod_lt _ (by decide)⟩ (i 1)
  have e : (ix2 (row ⟨(i 0).val / 512, by show _ < 32; omega⟩ ⟨(i 0).val % 512, Nat.mod_lt _ (by decide)⟩) (i 1)
      : S16384x1024.Idx) = i := by
    funext a; apply Fin.ext
    match a with
    | ⟨0, _⟩ => show 512 * ((i 0).val / 512) + (i 0).val % 512 = (i 0).val; omega
    | ⟨1, _⟩ => rfl
  rwa [e] at h

/-- The result array after the run. -/
theorem final (c : Dev nD) : (dats m 0 c).arrAt 8 cfg0.N = outcome m c :=
  (dats m 0 c).arrAt_eq_of_cover 8 (outcome m c) (fun t _ => flushed_eq m c t) covered

/-- The half-step's conditioning rows as the grid finds them. -/
theorem entry3 (c : Dev nD) : (V m c main_v3 : Vec Ideal S8x1024 .f32)
    = stack (broadcastInDim S1x1024 ![1] bcast_S1024_S1x1024_1 (m ((c : Thread nD τ).loc main_arg5) : Vec Ideal S1024 .f32))
        (m ((c : Thread nD τ).loc main_arg6))
        (broadcastInDim S4x1024 ![] bcast_S_S4x1024 (constant (F := Ideal) S_ .f32 0x00000000#32)) := by
  unfold V hostOps0
  simp only [StableHlo.after_cons, StableHlo.after_nil]
  rw [StableHlo.unary_result_ne' (h := by decide), StableHlo.nary_result_ne' (h := by decide),
    StableHlo.unary_result_ne' (h := by decide), StableHlo.nullary_result_ne' (h := by decide),
    StableHlo.unary_result_ne' (h := by decide), StableHlo.reshape_result_ne' (h := by decide),
    StableHlo.unary_result_ne' (h := by decide), StableHlo.unary_result_ne' (h := by decide), StableHlo.nary_result']
  show stack _ _ _ = _
  refine congr (congr (congrArg stack ?_) ?_) ?_
  · show HloOp.result _ _ (Proc.tc.devRef main_v1) = _
    rw [StableHlo.unary_result_ne' (h := by decide), StableHlo.nullary_result_ne' (h := by decide), StableHlo.unary_result',
      StableHlo.reshape_result_ne' (h := by decide)]
  · show HloOp.result _ _ (Proc.tc.devRef main_arg6) = _
    rw [StableHlo.unary_result_ne' (h := by decide), StableHlo.nullary_result_ne' (h := by decide),
      StableHlo.unary_result_ne' (h := by decide), StableHlo.reshape_result_ne' (h := by decide)]
  · show HloOp.result _ _ (Proc.tc.devRef main_v2) = _
    rw [StableHlo.unary_result', StableHlo.nullary_result']

/-- The attention's conditioning rows. -/
theorem entry9 (c : Dev nD) : (V m c main_v9 : Vec Ideal S8x1024 .f32)
    = stack (broadcastInDim S1x1024 ![1] bcast_S1024_S1x1024_1 (m ((c : Thread nD τ).loc main_arg2) : Vec Ideal S1024 .f32))
        (m ((c : Thread nD τ).loc main_arg3))
        (broadcastInDim S4x1024 ![] bcast_S_S4x1024 (constant (F := Ideal) S_ .f32 0x00000000#32)) := by
  unfold V hostOps0
  simp only [StableHlo.after_cons, StableHlo.after_nil]
  rw [StableHlo.unary_result_ne' (h := by decide), StableHlo.nary_result']
  show stack _ _ _ = _
  refine congr (congr (congrArg stack ?_) ?_) ?_
  · show HloOp.result _ _ (Proc.tc.devRef main_v7) = _
    rw [StableHlo.unary_result_ne' (h := by decide), StableHlo.nullary_result_ne' (h := by decide), StableHlo.unary_result',
      StableHlo.reshape_result_ne' (h := by decide), StableHlo.unary_result_ne' (h := by decide),
      StableHlo.unary_result_ne' (h := by decide), StableHlo.nary_result_ne' (h := by decide),
      StableHlo.unary_result_ne' (h := by decide), StableHlo.nullary_result_ne' (h := by decide),
      StableHlo.unary_result_ne' (h := by decide), StableHlo.reshape_result_ne' (h := by decide)]
  · show HloOp.result _ _ (Proc.tc.devRef main_arg3) = _
    rw [StableHlo.unary_result_ne' (h := by decide), StableHlo.nullary_result_ne' (h := by decide),
      StableHlo.unary_result_ne' (h := by decide), StableHlo.reshape_result_ne' (h := by decide),
      StableHlo.unary_result_ne' (h := by decide), StableHlo.unary_result_ne' (h := by decide),
      StableHlo.nary_result_ne' (h := by decide), StableHlo.unary_result_ne' (h := by decide),
      StableHlo.nullary_result_ne' (h := by decide), StableHlo.unary_result_ne' (h := by decide),
      StableHlo.reshape_result_ne' (h := by decide)]
  · show HloOp.result _ _ (Proc.tc.devRef main_v8) = _
    rw [StableHlo.unary_result', StableHlo.nullary_result']

/-- The result array from the arguments as launched. -/
theorem value (c : Dev nD) (x : Vec Ideal S1x16384x1024 .f32) (hx : m ((c : Thread nD τ).loc main_arg0) = x)
    (a : Vec Ideal S16384x1024 .bf16) (ha : m ((c : Thread nD τ).loc main_arg1) = a)
    (q : Vec Ideal S3x1024 .f32) (hq : m ((c : Thread nD τ).loc main_arg3) = q)
    (o : Vec Ideal S1024x1024 .f32) (ho : m ((c : Thread nD τ).loc main_arg4) = o)
    (g : Vec Ideal S1024 .f32) (hg : m ((c : Thread nD τ).loc main_arg5) = g)
    (p : Vec Ideal S3x1024 .f32) (hp : m ((c : Thread nD τ).loc main_arg6) = p)
    (w : Vec Ideal S2x2x1024x5632 .f32) (hw : m ((c : Thread nD τ).loc main_arg7) = w)
    (v : Vec Ideal S2x2x2816x1024 .f32) (hv : m ((c : Thread nD τ).loc main_arg8) = v)
    (f : Vec Ideal S1024 .f32) (hf : m ((c : Thread nD τ).loc main_arg9) = f) (r : Fin 16384) (d : Fin 1024) :
    ((dats m 0 c).arrAt 8 cfg0.N : Vec Ideal S16384x1024 .f32) (ix2 r d)
      = Rows.close (Rows.half (Rows.mix (fun l => x (ix3 0 r l)) (fun l => a (ix2 r l)) (fun l => q (ix2 2 l))
            (fun j l => o (ix2 j l)))
          (fun l => g (ix1 l)) (fun l => p (ix2 0 l)) (fun l => p (ix2 1 l)) (fun l => p (ix2 2 l))
          (fun j k => w (ix4 1 1 j k)) (fun k l => v (ix4 1 1 k l))) (fun l => f (ix1 l)) d := by
  have h0 : (V m c main_v0 : Vec Ideal S16384x1024 .f32) = shapeCast S16384x1024 x shapeCasts_S1x16384x1024_S16384x1024 := by
    subst hx
    entry_read
    rfl
  have h1 : (V m c main_arg1 : S16384x1024.Idx → EReal) = a := by
    subst ha
    entry_read
    rfl
  have h10 : (V m c main_v10 : S1024x1024.Idx → EReal) = o := by
    subst ho
    entry_read
    rfl
  have h4 : (V m c main_v4 : S2x2x1024x5632.Idx → EReal) = w := by
    subst hw
    entry_read
    rfl
  have h5 : (V m c main_v5 : S2x2x2816x1024.Idx → EReal) = v := by
    subst hv
    entry_read
    rfl
  have h6 : (V m c main_v6 : Vec Ideal S1x1024 .f32) = shapeCast S1x1024 f shapeCasts_S1024_S1x1024 := by
    subst hf
    entry_read
    rfl
  have e0 : ∀ l, shapeCast S16384x1024 x shapeCasts_S1x16384x1024_S16384x1024 (ix2 r l) = x (ix3 0 r l) := by
    intro l
    pointwise
  have ef : ∀ l : Fin 1024, shapeCast S1x1024 f shapeCasts_S1024_S1x1024 (ix2 0 l) = f (ix1 l) := by
    intro l
    pointwise
  have eg : ∀ l : Fin 1024, broadcastInDim S1x1024 ![1] bcast_S1024_S1x1024_1 g (ix2 0 l) = g (ix1 l) := by
    intro l
    pointwise
  rw [final]
  unfold outcome
  rw [entry9, entry3, hq, hg, hp]
  show Rows.close (Rows.half (Rows.mix (fun l => (V m c main_v0 : Vec Ideal S16384x1024 .f32) (ix2 r l))
      (fun l => (V m c main_arg1 : S16384x1024.Idx → EReal) (ix2 r l)) (fun l => stack _ _ _ (ix2 3 l))
      (fun j l => (V m c main_v10 : S1024x1024.Idx → EReal) (ix2 j l))) (fun l => stack _ _ _ (ix2 0 l))
    (fun l => stack _ _ _ (ix2 1 l)) (fun l => stack _ _ _ (ix2 2 l)) (fun l => stack _ _ _ (ix2 3 l))
    (fun j k => (V m c main_v4 : S2x2x1024x5632.Idx → EReal) (ix4 1 1 j k))
    (fun k l => (V m c main_v5 : S2x2x2816x1024.Idx → EReal) (ix4 1 1 k l)))
    (fun l => (V m c main_v6 : Vec Ideal S1x1024 .f32) (ix2 0 l)) d = _
  rw [h0, h1, h10, h4, h5, h6]
  simp only [e0, ef, stack_gain, stack_shift, stack_scale, stack_gate, eg]

end Cert.Kernel3Ideal.Run

end
-- ==== Proof.Last.Host.lean ====
/-
  The last feed-forward call in whole arrays: the attention's part added, then the plain call's stages at the other
  weights, then every row normed; read at an element.
-/
module

public import proofs.«01_k».proof.Proof.Rows
public import proofs.«01_k».proof.Proof.Ffn.Host
public import proofs.«01_k».proof.Proof.Gen.Reference3Ideal.Run
public import Idealize.ShloMosaic.Lib.Tactic
public import Idealize.ShloMosaic.Lib.Pointwise

@[expose] public section

set_option maxRecDepth 16384

noncomputable section

namespace Cert.Reference3Ideal.Host

open Cert.Reference3Ideal Cert.Reference3Ideal.Gen Cert.Reference3Ideal.Value Idealize.ShloMosaic Idealize.ShloMosaic.TcCoe
open Idealize.SL.Sem
open Cert.Reference2Ideal.Host (rows rows_apply normed normed_apply stepped stepped_apply)

/-- The residual plus its gate times the attention's output through the weights. -/
def joined (X : FVec Ideal S16384x1024 .f32) (a : FVec Ideal S16384x1024 .f32) (ga : FVec Ideal S1024 .f32)
    (o : FVec Ideal S1024x1024 .f32) : FVec Ideal S16384x1024 .f32 :=
  addf X (mulf (rows ga) (Host.dotGeneral dot_S16384x1024_S1024x1024_S16384x1024_1_0_0_1_n_n none a o))

/-- Every row normed and times the gain. -/
def closed (X : FVec Ideal S16384x1024 .f32) (f : FVec Ideal S1024 .f32) : FVec Ideal S16384x1024 .f32 := mulf (normed X) (rows f)

theorem joined_apply (X a : FVec Ideal S16384x1024 .f32) (ga : FVec Ideal S1024 .f32) (o : FVec Ideal S1024x1024 .f32)
    (r : Fin 16384) (l : Fin 1024) :
    joined X a ga o (ix2 r l)
      = Rows.mix (fun l => X (ix2 r l)) (fun l => a (ix2 r l)) (fun l => ga (ix1 l)) (fun j l => o (ix2 j l)) l := by
  unfold joined
  pointwise [rows_apply]
  rfl

theorem closed_apply (X : FVec Ideal S16384x1024 .f32) (f : FVec Ideal S1024 .f32) (r : Fin 16384) (d : Fin 1024) :
    closed X f (ix2 r d) = Rows.close (fun l => X (ix2 r l)) (fun l => f (ix1 l)) d := by
  unfold closed
  pointwise [rows_apply, normed_apply]
  rfl

/-- The reference's result from its arguments. -/
theorem value (m : (ℓ : Loc nD τ sig) → Buf (Elt Ideal) ℓ) (c : Dev nD)
    (x : Vec Ideal S1x16384x1024 .f32) (hx : m ((c.tc : Thread nD τ).loc main_arg0) = x)
    (a : Vec Ideal S16384x1024 .bf16) (ha : m ((c.tc : Thread nD τ).loc main_arg1) = a)
    (q : Vec Ideal S3x1024 .f32) (hq : m ((c.tc : Thread nD τ).loc main_arg3) = q)
    (o : Vec Ideal S1024x1024 .f32) (ho : m ((c.tc : Thread nD τ).loc main_arg4) = o)
    (g : Vec Ideal S1024 .f32) (hg : m ((c.tc : Thread nD τ).loc main_arg5) = g)
    (p : Vec Ideal S3x1024 .f32) (hp : m ((c.tc : Thread nD τ).loc main_arg6) = p)
    (w : Vec Ideal S2x2x1024x5632 .f32) (hw : m ((c.tc : Thread nD τ).loc main_arg7) = w)
    (v : Vec Ideal S2x2x2816x1024 .f32) (hv : m ((c.tc : Thread nD τ).loc main_arg8) = v)
    (f : Vec Ideal S1024 .f32) (hf : m ((c.tc : Thread nD τ).loc main_arg9) = f) (r : Fin 16384) (d : Fin 1024) :
    (res_out0 m c : Vec Ideal S16384x1024 .f32) (ix2 r d)
      = Rows.close (Rows.half (Rows.mix (fun l => x (ix3 0 r l)) (fun l => a (ix2 r l)) (fun l => q (ix2 2 l))
            (fun j l => o (ix2 j l)))
          (fun l => g (ix1 l)) (fun l => p (ix2 0 l)) (fun l => p (ix2 1 l)) (fun l => p (ix2 2 l))
          (fun j k => w (ix4 1 1 j k)) (fun k l => v (ix4 1 1 k l))) (fun l => f (ix1 l)) d := by
  have e : (res_out0 m c : Vec Ideal S16384x1024 .f32)
      = closed (stepped (joined (shapeCast S16384x1024 x shapeCasts_S1x16384x1024_S16384x1024) (extf .f32 a bitsLt_bf16_f32)
            (shapeCast S1024 (extractStridedSlice S1x1024 ![2, 0] q slices_S3x1024_S1x1024_2_0) shapeCasts_S1x1024_S1024) o) g
          (shapeCast S1024 (extractStridedSlice S1x1024 ![0, 0] p slices_S3x1024_S1x1024_0_0) shapeCasts_S1x1024_S1024)
          (shapeCast S1024 (extractStridedSlice S1x1024 ![1, 0] p slices_S3x1024_S1x1024_1_0) shapeCasts_S1x1024_S1024)
          (shapeCast S1024 (extractStridedSlice S1x1024 ![2, 0] p slices_S3x1024_S1x1024_2_0) shapeCasts_S1x1024_S1024)
          (shapeCast S1024x5632 (extractStridedSlice S1x1x1024x5632 ![1, 1, 0, 0] w slices_S2x2x1024x5632_S1x1x1024x5632_1_1_0_0)
            shapeCasts_S1x1x1024x5632_S1024x5632)
          (shapeCast S2816x1024 (extractStridedSlice S1x1x2816x1024 ![1, 1, 0, 0] v slices_S2x2x2816x1024_S1x1x2816x1024_1_1_0_0)
            shapeCasts_S1x1x2816x1024_S2816x1024)) f := by
    subst hx ha hq ho hg hp hw hv hf
    rfl
  rw [e, closed_apply]
  simp only [stepped_apply, joined_apply]
  pointwise

end Cert.Reference3Ideal.Host

end
-- ==== Proof.Last.Claims.lean ====
/-
  The claims of the last feed-forward call: its frames and its reference's, and that at exact reals the two end with the
  same array.
-/
module

public import proofs.«01_k».proof.Defs
public import proofs.«01_k».proof.Proof.Last.Run
public import proofs.«01_k».proof.Proof.Last.Host
public import proofs.«01_k».proof.Proof.Gen.Kernel3.Frame
public import Idealize.ShloMosaic.Lib.Claim

@[expose] public section

set_option maxRecDepth 16384

noncomputable section

namespace Cert.Last

open Idealize.ShloMosaic Idealize.ShloMosaic.TcCoe Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic : Cert.algebraic_Kernel3Ideal_Reference3Ideal := by
  intro m ρ m' ρ' _ h
  refine ⟨fun c => (Cert.Kernel3Ideal.Gen.dats m 0 c).arrAt 8 Cert.Kernel3Ideal.cfg0.N,
    Cert.Kernel3Ideal.Value.run_blocks m ρ, ?_⟩
  refine (θ_run Cert.Reference3Ideal.defs _ _).mono (fun r hr c => ⟨(hr c).1.trans ?_, (hr c).2⟩)
    (Cert.Reference3Ideal.Value.run m' ρ')
  obtain ⟨h0, h1, -, h3, h4, h5, h6, h7, h8, h9⟩ := h c
  refine funext fun (y : Cert.Kernel3Ideal.S16384x1024.Idx) => ?_
  obtain ⟨i, d, rfl⟩ : ∃ (i : Fin 16384) (d : Fin 1024), y = ix2 i d :=
    ⟨y 0, y 1, funext fun a => by match a with | ⟨0, _⟩ => rfl | ⟨1, _⟩ => rfl⟩
  exact (Cert.Reference3Ideal.Host.value m' c _ h0 _ h1 _ h3 _ h4 _ h5 _ h6 _ h7 _ h8 _ h9 i d).trans
    (Cert.Kernel3Ideal.Run.value m c _ rfl _ rfl _ rfl _ rfl _ rfl _ rfl _ rfl _ rfl _ rfl i d).symm

end Cert.Last

end
-- ==== Proof.Gate.Rows.lean ====
/-
  What the spatial gating unit computes of the rows of one chunk, over the extended reals: the two halves of the first
  product through the error function's unit, the second half normed and mixed along the chunk by the lower triangle of its
  group's weights, the halves' product and the output product, added to the row.
-/
module

public import proofs.«01_k».proof.Proof.Rows

@[expose] public section

noncomputable section

namespace Cert.Rows

open Idealize.ShloMosaic

/-- Half of `z` times one plus the error function of `z` over the root of two. -/
def gelu (z : EReal) : EReal :=
  Ideal.ofBits .f32 0x3F000000#32 * z * (1 + Ideal.erf (z * Ideal.ofBits .f32 0x3F3504F3#32))

/-- A row times a column of the first weights, through `gelu`. -/
def act (h : Fin 1024 → EReal) (w : Fin 1024 → EReal) : EReal := gelu (∑ j, h j * w j)

/-- One over the root of the mean of the squares of a row of 3072. -/
def scale (v : Fin 3072 → EReal) : EReal :=
  Ideal.rsqrt ((∑ k, v k * v k) * ((3072⁻¹ : ℝ) : EReal) + Ideal.ofBits .f32 0x358637BD#32)

/-- The second half of a row's first product. -/
def held (h : Fin 1024 → EReal) (w : Fin 1024 → Fin 6144 → EReal) (k : Fin 3072) : EReal :=
  act h fun j => w j ⟨3072 + k.val, by omega⟩

/-- The second half of a row, normed and times its gain. -/
def level (h : Fin 1024 → EReal) (w : Fin 1024 → Fin 6144 → EReal) (n : Fin 3072 → EReal) (k : Fin 3072) : EReal :=
  held h w k * scale (held h w) * n k

/-- The lower triangle of a square of weights, the diagonal included. -/
def tri (s : Fin 128 → Fin 128 → EReal) (t u : Fin 128) : EReal := if u ≤ t then s t u else 0

/-- The group that a column belongs to. -/
def group (k : Fin 3072) : Fin 16 := ⟨k.val / 192, by omega⟩

/-- Row `t` of a chunk at column `k`: the first half times the second half mixed along the chunk. -/
def spatial (h : Fin 128 → Fin 1024 → EReal) (w : Fin 1024 → Fin 6144 → EReal) (n : Fin 3072 → EReal)
    (s : Fin 16 → Fin 128 → Fin 128 → EReal) (b : Fin 3072 → Fin 128 → EReal) (t : Fin 128) (k : Fin 3072) : EReal :=
  act (h t) (fun j => w j ⟨k.val, by omega⟩) * ((∑ u, tri (s (group k)) t u * level (h u) w n k) + b k t)

/-- Every row plus its gate times the unit's output, the chunks of 128 rows one after the other. -/
def unit (x : Fin 16384 → Fin 1024 → EReal) (g sh sc ga : Fin 1024 → EReal) (w : Fin 1024 → Fin 6144 → EReal)
    (n : Fin 3072 → EReal) (s : Fin 16 → Fin 128 → Fin 128 → EReal) (b : Fin 3072 → Fin 128 → EReal)
    (o : Fin 3072 → Fin 1024 → EReal) (r : Fin 16384) (d : Fin 1024) : EReal :=
  x r d + ga d * ∑ k, spatial (fun u => lift (x ⟨128 * (r.val / 128) + u.val, by omega⟩) g sh sc) w n s b
    ⟨r.val % 128, by omega⟩ k * o k d

end Cert.Rows

end
-- ==== Proof.Gate.Block.lean ====
/-
  What one grid point of the spatial gating call leaves in its output block, row by row: four chunks of 128 rows, each
  mixed along itself, eight pairs of groups at a time.
-/
module

public import proofs.«01_k».proof.Proof.Gate.Rows
public import proofs.«01_k».proof.Proof.Gen.Kernel4Ideal.Value
public import Idealize.ShloMosaic.Lib.Tactic
public import Idealize.ShloMosaic.Lib.Pointwise

@[expose] public section

set_option maxRecDepth 16384

noncomputable section

namespace Cert.Kernel4Ideal.Block

open Cert.Kernel4Ideal Cert.Kernel4Ideal.Gen Idealize.ShloMosaic Idealize.ShloMosaic.TcCoe Idealize.SL.Sem

/-- The lifted row. -/
theorem lift_apply (x : Vec Ideal S512x1024 .f32) (g sc sh : Vec Ideal S1x1024 .f32) (r : Fin 512) (j : Fin 1024) :
    k0_pay4 (F := Ideal) x g sc sh (ix2 r j)
      = Rows.lift (fun l => x (ix2 r l)) (fun l => g (ix2 0 l)) (fun l => sh (ix2 0 l)) (fun l => sc (ix2 0 l)) j := by
  unfold k0_pay4 k0_pay3
  pointwise
  rfl

/-- A chunk of the second half. -/
theorem wide_apply (h : FVec Ideal S512x1024 .bf16) (b : Vec Ideal S1024x768 .bf16) (r : Fin 512) (k : Fin 768) :
    k0_pay8 (F := Ideal) h b (ix2 r k) = Rows.act (fun j => h (ix2 r j)) (fun j => b (ix2 j k)) := by
  unfold k0_pay8 Rows.act Rows.gelu
  pointwise
  rfl

/-- A pair of groups of the first half. -/
theorem narrow_apply (h : FVec Ideal S512x1024 .bf16) (b : Vec Ideal S1024x384 .bf16) (r : Fin 512) (k : Fin 384) :
    k0_pay30 (F := Ideal) h b (ix2 r k) = Rows.act (fun j => h (ix2 r j)) (fun j => b (ix2 j k)) := by
  unfold k0_pay30 Rows.act Rows.gelu
  pointwise
  rfl

/-- The named width's inverse. -/
theorem named_width : Named.named (F := Ideal) Cert.Kernel4Ideal.κ "width_inverse" (φ := .f32) 0x39AAAAAB#32 = ((3072⁻¹ : ℝ) : EReal) :=
  IdealRules.named_const.ideal_named_scalar _ _ _ _ rfl

theorem scale_apply (h : FVec Ideal S512x1024 .bf16) (v : FVec Ideal S512x768 .f32) (b c d : Vec Ideal S1024x768 .bf16) (r : Fin 512) :
    k0_pay15 (F := Ideal) h (k0_pay10 h (k0_pay5 (F := Ideal)) v b) (k0_pay8 h c) d (ix2 r 0)
      = Ideal.rsqrt (((∑ k, v (ix2 r k) * v (ix2 r k)) + (∑ k, k0_pay8 h b (ix2 r k) * k0_pay8 h b (ix2 r k))
          + (∑ k, k0_pay8 h c (ix2 r k) * k0_pay8 h c (ix2 r k)) + (∑ k, k0_pay8 h d (ix2 r k) * k0_pay8 h d (ix2 r k)))
          * ((3072⁻¹ : ℝ) : EReal) + Ideal.ofBits .f32 0x358637BD#32) := by
  have e : k0_pay13 (F := Ideal) h d = k0_pay8 h d := rfl
  unfold k0_pay15 k0_pay10 k0_pay5
  rw [e]
  generalize k0_pay8 (F := Ideal) h b = y
  generalize k0_pay8 (F := Ideal) h c = z
  generalize k0_pay8 (F := Ideal) h d = w
  dsimp only
  rw [named_width]
  pointwise

/-- A square of weights below its diagonal. -/
theorem tri_apply (w : Vec Ideal S1x128x128 .bf16) (t u : Fin 128) :
    k0_pay20 (F := Ideal) k0_pay16 w (ix2 t u) = Rows.tri (fun t u => w (ix3 0 t u)) t u := by
  unfold k0_pay20 k0_pay16 Rows.tri
  pointwise
  have h : ∀ t u : Fin 128, IntOp.cmpi CmpIPredicate.sge (BitVec.ofNat 32 t.val) (BitVec.ofNat 32 u.val)
      = if u ≤ t then 1#1 else 0#1 := by decide +kernel
  rw [h]
  by_cases hu : u ≤ t
  · simp only [hu, if_true]
    rfl
  · simp only [hu, if_false]
    rfl

/-- The vector in the middle is the first group's on its first 64 columns. -/
theorem low_apply (t u : Fin 128) : k0_pay17 (ix2 t u) = if u.val < 64 then 1#1 else 0#1 := by
  unfold k0_pay17
  pointwise
  revert u
  decide +kernel

theorem level_apply (s : FVec Ideal S512x1 .f32) (v : Vec Ideal S512x384 .f32) (n : Vec Ideal S1x384 .f32) (r : Fin 512) (k : Fin 384) :
    k0_pay29 (F := Ideal) s v n (ix2 r k) = v (ix2 r k) * s (ix2 r 0) * n (ix2 0 k) := by
  unfold k0_pay29
  pointwise

/-- A chunk's rows of a pair of groups: two groups side by side, the vector in the middle taken from both. -/
def cell (v : FVec Ideal S512x384 .bf16) (u : FVec Ideal S512x384 .f32) (p q : FVec Ideal S128x128 .bf16) (b : Vec Ideal S128x384 .f32)
    (o : Nat) (hs : S512x384.Slices ![o, 0] S128x384) : FVec Ideal S128x384 .bf16 :=
  shapeCast S128x384 (truncf .bf16 (mulf (extractStridedSlice S128x384 ![o, 0] u hs) (addf (concatenate S128x384 1
    [⟨S128x128, extractStridedSlice S128x128 ![0, 0] (matmul dot_S128x128_S128x256_S128x256_1_0_0_1_n_n none p
      (extractStridedSlice S128x256 ![0, 0] (extractStridedSlice S128x384 ![o, 0] v hs) slices_S128x384_o0_0_S128x256)
      (constant S128x256 .f32 0x00000000#32)) slices_S128x256_o0_0_S128x128⟩,
     ⟨S128x128, select k0_pay17
      (extractStridedSlice S128x128 ![0, 128] (matmul dot_S128x128_S128x256_S128x256_1_0_0_1_n_n none p
        (extractStridedSlice S128x256 ![0, 0] (extractStridedSlice S128x384 ![o, 0] v hs) slices_S128x384_o0_0_S128x256)
        (constant S128x256 .f32 0x00000000#32)) slices_S128x256_o0_128_S128x128)
      (extractStridedSlice S128x128 ![0, 0] (matmul dot_S128x128_S128x256_S128x256_1_0_0_1_n_n none q
        (extractStridedSlice S128x256 ![0, 128] (extractStridedSlice S128x384 ![o, 0] v hs) slices_S128x384_o0_128_S128x256)
        (constant S128x256 .f32 0x00000000#32)) slices_S128x256_o0_0_S128x128)⟩,
     ⟨S128x128, extractStridedSlice S128x128 ![0, 128] (matmul dot_S128x128_S128x256_S128x256_1_0_0_1_n_n none q
      (extractStridedSlice S128x256 ![0, 128] (extractStridedSlice S128x384 ![o, 0] v hs) slices_S128x384_o0_128_S128x256)
      (constant S128x256 .f32 0x00000000#32)) slices_S128x256_o0_128_S128x128⟩]
    concatenates_S128x128_S128x128_S128x128_S128x384_d1)
    (shapeCast S128x384 b shapeCasts_S128x384_S128x384))) bitsLt_bf16_f32) shapeCasts_S128x384_S128x384

theorem cell_apply (v : FVec Ideal S512x384 .bf16) (u : FVec Ideal S512x384 .f32) (p q : FVec Ideal S128x128 .bf16)
    (b : Vec Ideal S128x384 .f32) (o : Nat) (ho : o + 128 ≤ 512) (hs : S512x384.Slices ![o, 0] S128x384) (t : Fin 128) (k : Fin 384) :
    cell v u p q b o hs (ix2 t k)
      = u (ix2 ⟨o + t.val, by omega⟩ k) * ((∑ s, (if k.val < 192 then p (ix2 t s) else q (ix2 t s))
          * v (ix2 ⟨o + s.val, by omega⟩ k)) + b (ix2 t k)) := by
  have e : ∀ {m : Fin 384}, m = k → ∀ s : Fin 128, v (ix2 ⟨o + s.val, by omega⟩ m) = v (ix2 ⟨o + s.val, by omega⟩ k) :=
    fun h _ => by rw [h]
  unfold cell
  pointwise
  refine congrArg₂ (· * ·) rfl (congrArg₂ (· + ·) ?_ rfl)
  split
  · next h =>
    simp only [show k.val < 192 by omega, if_true]
  · next h =>
    split
    · next h' =>
      rw [low_apply]
      by_cases hk : k.val < 192
      · simp only [show k.val - 128 < 64 by omega, hk, if_true]
        show (∑ s, p (ix2 t s) * v (ix2 ⟨o + s.val, by omega⟩ ⟨128 + (k.val - 128), by omega⟩)) = _
        exact Finset.sum_congr rfl fun s _ => congrArg₂ (· * ·) rfl (e (Fin.ext (by show 128 + (k.val - 128) = k.val; omega)) s)
      · simp only [show ¬ k.val - 128 < 64 by omega, hk, if_false]
        show (∑ s, q (ix2 t s) * v (ix2 ⟨o + s.val, by omega⟩ ⟨128 + (k.val - 128), by omega⟩)) = _
        exact Finset.sum_congr rfl fun s _ => congrArg₂ (· * ·) rfl (e (Fin.ext (by show 128 + (k.val - 128) = k.val; omega)) s)
    · next h' =>
      simp only [show ¬ k.val < 192 by omega, if_false]
      exact Finset.sum_congr rfl fun s _ =>
        congrArg₂ (· * ·) rfl (e (Fin.ext (by show 128 + (128 + (k.val - 128 - 128)) = k.val; omega)) s)

/-- The output product, times the gate and added to the row. -/
theorem close_apply (x : Vec Ideal S512x1024 .f32) (g : Vec Ideal S512x3072 .bf16) (o : Vec Ideal S3072x1024 .bf16)
    (ga : Vec Ideal S1x1024 .f32) (r : Fin 512) (d : Fin 1024) :
    k0_pay2 (F := Ideal) (k0_pay3 x) g o ga (ix2 r d)
      = x (ix2 r d) + ga (ix2 0 d) * ∑ k, g (ix2 r k) * o (ix2 k d) := by
  unfold k0_pay2 k0_pay3
  pointwise

theorem hz : (![0, 0] : Fin 2 → Nat) = fun _ => 0 := funext fun a => by fin_cases a <;> rfl

/-- The rows of a block, lifted. -/
abbrev raised (x0 : Vec Ideal S512x1024 .f32) (x1 : Vec Ideal S8x1024 .f32) (r : Fin 512) : Fin 1024 → EReal :=
  Rows.lift (fun l => x0 (ix2 r l)) (fun l => x1 (ix2 0 l)) (fun l => x1 (ix2 1 l)) (fun l => x1 (ix2 2 l))

/-- The rows as the body lifts them. -/
abbrev lifted (x0 : Vec Ideal S512x1024 .f32) (x1 : Vec Ideal S8x1024 .f32) : FVec Ideal S512x1024 .bf16 :=
  k0_pay4 (View.ld x0 (Rect.unit (s := S512x1024) ![0, 0] S512x1024.size inb_S512x1024_S512x1024_0_0))
    (View.ld x1 (Rect.unit (s := S8x1024) ![0, 0] S1x1024.size inb_S8x1024_S1x1024_0_0))
    (View.ld x1 (Rect.unit (s := S8x1024) ![2, 0] S1x1024.size inb_S8x1024_S1x1024_2_0))
    (View.ld x1 (Rect.unit (s := S8x1024) ![1, 0] S1x1024.size inb_S8x1024_S1x1024_1_0))

theorem lifted_apply (x0 : Vec Ideal S512x1024 .f32) (x1 : Vec Ideal S8x1024 .f32) (r : Fin 512) (j : Fin 1024) :
    lifted x0 x1 (ix2 r j) = raised x0 x1 r j := by
  unfold lifted
  rw [lift_apply]
  pointwise

/-- The second half of the block's rows. -/
def right (x0 : Vec Ideal S512x1024 .f32) (x1 : Vec Ideal S8x1024 .f32) (x2 : Vec Ideal S1024x6144 .bf16) : S512x3072.Idx → EReal :=
  fun i => Rows.held (raised x0 x1 (i 0)) (fun j k => x2 (ix2 j k)) (i 1)

/-- The gated product of a block's rows: every row within its chunk. -/
def gate (x0 : Vec Ideal S512x1024 .f32) (x1 : Vec Ideal S8x1024 .f32) (x2 : Vec Ideal S1024x6144 .bf16) (x3 : Vec Ideal S1x3072 .f32)
    (x4 : Vec Ideal S16x128x128 .bf16) (x5 : Vec Ideal S128x3072 .f32) (r : Fin 512) (k : Fin 3072) : EReal :=
  Rows.spatial (fun u => raised x0 x1 ⟨128 * (r.val / 128) + u.val, by omega⟩) (fun j k => x2 (ix2 j k)) (fun k => x3 (ix2 0 k))
    (fun g t u => x4 (ix3 g t u)) (fun k t => x5 (ix2 t k)) ⟨r.val % 128, by omega⟩ k

/-- The gated product as an array. -/
def gates (x0 : Vec Ideal S512x1024 .f32) (x1 : Vec Ideal S8x1024 .f32) (x2 : Vec Ideal S1024x6144 .bf16) (x3 : Vec Ideal S1x3072 .f32)
    (x4 : Vec Ideal S16x128x128 .bf16) (x5 : Vec Ideal S128x3072 .f32) : S512x3072.Idx → EReal :=
  fun i => gate x0 x1 x2 x3 x4 x5 (i 0) (i 1)

/-- A load of the first weights' columns from `a` on. -/
theorem cols_apply {n : Nat} (x2 : Vec Ideal S1024x6144 .bf16) (a : Nat) (ha : a + n ≤ 6144)
    (inb : ∀ i : Fin 2, (![0, a] : Fin 2 → Nat) i + (![1024, n] : Fin 2 → Nat) i ≤ S1024x6144.size i) (j : Fin 1024) (k : Fin n) :
    View.ld x2 (Rect.unit (s := S1024x6144) ![0, a] ![1024, n] inb) (ix2 j k) = x2 (ix2 j ⟨a + k.val, by omega⟩) := by
  refine congrArg x2 (funext fun i => Fin.ext ?_)
  match i with
  | ⟨0, _⟩ => show 0 + 1 * j.val = j.val; omega
  | ⟨1, _⟩ => show a + 1 * k.val = a + k.val; omega

/-- A chunk of the second half is that chunk's columns of it. -/
theorem right_apply (x0 : Vec Ideal S512x1024 .f32) (x1 : Vec Ideal S8x1024 .f32) (x2 : Vec Ideal S1024x6144 .bf16) (a b : Nat)
    (hb : b = 3072 + a) (ha : a + 768 ≤ 3072)
    (inb : ∀ i : Fin 2, (![0, b] : Fin 2 → Nat) i + (![1024, 768] : Fin 2 → Nat) i ≤ S1024x6144.size i) (r : Fin 512) (k : Fin 768) :
    k0_pay8 (lifted x0 x1) (View.ld x2 (Rect.unit (s := S1024x6144) ![0, b] ![1024, 768] inb)) (ix2 r k)
      = right x0 x1 x2 (ix2 r ⟨a + k.val, by omega⟩) := by
  subst hb
  rw [wide_apply]
  simp only [cols_apply x2 (3072 + a) (by omega) inb, lifted_apply, Nat.add_assoc]
  rfl

theorem right_piece (x0 : Vec Ideal S512x1024 .f32) (x1 : Vec Ideal S8x1024 .f32) (x2 : Vec Ideal S1024x6144 .bf16) (a b : Nat)
    (hb : b = 3072 + a) (ha : a + 768 ≤ 3072)
    (inb : ∀ i : Fin 2, (![0, b] : Fin 2 → Nat) i + (![1024, 768] : Fin 2 → Nat) i ≤ S1024x6144.size i)
    (inbs : ∀ i : Fin 2, (![0, a] : Fin 2 → Nat) i + S512x768.size i ≤ S512x3072.size i) (x : S512x768.Idx) :
    k0_pay9 (lifted x0 x1) (View.ld x2 (Rect.unit (s := S1024x6144) ![0, b] ![1024, 768] inb)) x
      = right x0 x1 x2 ((Rect.unit (s := S512x3072) ![0, a] S512x768.size inbs).emb x) := by
  obtain ⟨r, k, rfl⟩ : ∃ (r : Fin 512) (k : Fin 768), x = ix2 r k :=
    ⟨x 0, x 1, funext fun i => by match i with | ⟨0, _⟩ => rfl | ⟨1, _⟩ => rfl⟩
  have h0 : (Rect.unit (s := S512x3072) ![0, a] S512x768.size inbs).emb (ix2 r k) = (ix2 r ⟨a + k.val, by omega⟩ : S512x3072.Idx) := by
    refine funext fun i => Fin.ext ?_
    match i with
    | ⟨0, _⟩ => show 0 + 1 * r.val = r.val; omega
    | ⟨1, _⟩ => show a + 1 * k.val = a + k.val; omega
  rw [h0, ← right_apply x0 x1 x2 a b hb ha inb r k]
  unfold k0_pay9
  rw [shapeCast_self]

/-- The scratch of the second half: four chunks of its columns. -/
abbrev pieces (x0 : Vec Ideal S512x1024 .f32) (x1 : Vec Ideal S8x1024 .f32) (x2 : Vec Ideal S1024x6144 .bf16) :
    List (View.Piece (Elt Ideal) S512x3072 .f32) :=
  [⟨Rect.unit (s := S512x3072) ![0, 2304] S512x768.size inb_S512x3072_S512x768_0_2304,
      k0_pay14 (lifted x0 x1) (View.ld x2 (Rect.unit (s := S1024x6144) ![0, 5376] ![1024, 768] inb_S1024x6144_S1024x768_0_5376))⟩,
   ⟨Rect.unit (s := S512x3072) ![0, 1536] S512x768.size inb_S512x3072_S512x768_0_1536,
      k0_pay12 (lifted x0 x1) (View.ld x2 (Rect.unit (s := S1024x6144) ![0, 4608] ![1024, 768] inb_S1024x6144_S1024x768_0_4608))⟩,
   ⟨Rect.unit (s := S512x3072) ![0, 768] S512x768.size inb_S512x3072_S512x768_0_768,
      k0_pay9 (lifted x0 x1) (View.ld x2 (Rect.unit (s := S1024x6144) ![0, 3840] ![1024, 768] inb_S1024x6144_S1024x768_0_3840))⟩,
   ⟨Rect.unit (s := S512x3072) ![0, 0] S512x768.size inb_S512x3072_S512x768_0_0,
      k0_pay9 (lifted x0 x1) (View.ld x2 (Rect.unit (s := S1024x6144) ![0, 3072] ![1024, 768] inb_S1024x6144_S1024x768_0_3072))⟩]

/-- A read of the second half's scratch, from column `a` on. -/
theorem read_apply (arg9 : Memref sig .tc .vmem S512x3072 .f32) (x0 : Vec Ideal S512x1024 .f32) (x1 : Vec Ideal S8x1024 .f32)
    (x2 : Vec Ideal S1024x6144 .bf16) (a : Nat) (ha : a + 384 ≤ 3072)
    (inb : ∀ i : Fin 2, (![0, a] : Fin 2 → Nat) i + S512x384.size i ≤ S512x3072.size i) (r : Fin 512) (k : Fin 384) :
    arg9.view.readCov (pieces x0 x1 x2) (Rect.unit (s := S512x3072) ![0, a] S512x384.size inb).toLoadRect (ix2 r k)
      = right x0 x1 x2 (ix2 r ⟨a + k.val, by omega⟩) := by
  rw [View.readCov_eq_canon']
  have h0 : (Rect.unit (s := S512x3072) ![0, a] S512x384.size inb).toLoadRect.idx (ix2 r k)
      = (ix2 r ⟨a + k.val, by omega⟩ : S512x3072.Idx) := by
    refine funext fun i => Fin.ext ?_
    match i with
    | ⟨0, _⟩ => show 0 + 1 * r.val = r.val; omega
    | ⟨1, _⟩ => show a + 1 * k.val = a + k.val; omega
  simp only [h0]
  have hc : ∀ y : S512x3072.Idx, ∃ p ∈ pieces x0 x1 x2, y ∈ p.1.set := View.cover_of_tiled _ S512x768.size (by sl_kernel_rfl)
  refine View.canon_apply_of_pieces (S := S512x3072) (right x0 x1 x2) (pieces x0 x1 x2) ?_ _ (hc _)
  intro p hp
  simp only [List.mem_cons, List.not_mem_nil, or_false] at hp
  rcases hp with rfl | rfl | rfl | rfl
  · exact right_piece x0 x1 x2 2304 5376 rfl (by decide) inb_S1024x6144_S1024x768_0_5376 inb_S512x3072_S512x768_0_2304
  · exact right_piece x0 x1 x2 1536 4608 rfl (by decide) inb_S1024x6144_S1024x768_0_4608 inb_S512x3072_S512x768_0_1536
  · exact right_piece x0 x1 x2 768 3840 rfl (by decide) inb_S1024x6144_S1024x768_0_3840 inb_S512x3072_S512x768_0_768
  · exact right_piece x0 x1 x2 0 3072 rfl (by decide) inb_S1024x6144_S1024x768_0_3072 inb_S512x3072_S512x768_0_0

/-- A sum over 3072 columns, in its four chunks. -/
theorem sum_chunks (f : Fin 3072 → EReal) :
    ∑ k, f k = (∑ k : Fin 768, f ⟨0 + k.val, by omega⟩) + (∑ k : Fin 768, f ⟨768 + k.val, by omega⟩)
      + (∑ k : Fin 768, f ⟨1536 + k.val, by omega⟩) + (∑ k : Fin 768, f ⟨2304 + k.val, by omega⟩) := by
  have h : ∑ k, f k = ∑ k : Fin (768 + 768 + 768 + 768), f k := rfl
  rw [h, Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg f (Fin.ext (by first | (simp; done) | (simp; omega)))

/-- The scale of a row, as the body computes it. -/
abbrev scales (x0 : Vec Ideal S512x1024 .f32) (x1 : Vec Ideal S8x1024 .f32) (x2 : Vec Ideal S1024x6144 .bf16) : FVec Ideal S512x1 .f32 :=
  k0_pay15 (lifted x0 x1) (k0_pay10 (lifted x0 x1) (k0_pay5 (F := Ideal))
      (k0_pay8 (lifted x0 x1) (View.ld x2 (Rect.unit (s := S1024x6144) ![0, 3072] ![1024, 768] inb_S1024x6144_S1024x768_0_3072)))
      (View.ld x2 (Rect.unit (s := S1024x6144) ![0, 3840] ![1024, 768] inb_S1024x6144_S1024x768_0_3840)))
    (k0_pay8 (lifted x0 x1) (View.ld x2 (Rect.unit (s := S1024x6144) ![0, 4608] ![1024, 768] inb_S1024x6144_S1024x768_0_4608)))
    (View.ld x2 (Rect.unit (s := S1024x6144) ![0, 5376] ![1024, 768] inb_S1024x6144_S1024x768_0_5376))

theorem scales_apply (x0 : Vec Ideal S512x1024 .f32) (x1 : Vec Ideal S8x1024 .f32) (x2 : Vec Ideal S1024x6144 .bf16) (r : Fin 512) :
    scales x0 x1 x2 (ix2 r 0) = Rows.scale (Rows.held (raised x0 x1 r) fun j k => x2 (ix2 j k)) := by
  unfold scales
  rw [scale_apply]
  simp only [right_apply x0 x1 x2 0 3072 rfl (by decide) inb_S1024x6144_S1024x768_0_3072,
    right_apply x0 x1 x2 768 3840 rfl (by decide) inb_S1024x6144_S1024x768_0_3840,
    right_apply x0 x1 x2 1536 4608 rfl (by decide) inb_S1024x6144_S1024x768_0_4608,
    right_apply x0 x1 x2 2304 5376 rfl (by decide) inb_S1024x6144_S1024x768_0_5376]
  unfold Rows.scale
  rw [sum_chunks]
  rfl

/-- A store to the gated scratch holds the gated product of its rows and columns. -/
theorem piece (x0 : Vec Ideal S512x1024 .f32) (x1 : Vec Ideal S8x1024 .f32)
    (x2 : Vec Ideal S1024x6144 .bf16) (x3 : Vec Ideal S1x3072 .f32) (x4 : Vec Ideal S16x128x128 .bf16) (x5 : Vec Ideal S128x3072 .f32)
    {H : FVec Ideal S512x1024 .bf16} {C : FVec Ideal S512x1 .f32} {V : Vec Ideal S512x384 .f32} {lo o a b : Nat}
    (hH : ∀ r j, H (ix2 r j) = raised x0 x1 r j)
    (hC : ∀ r, C (ix2 r 0) = Rows.scale (Rows.held (raised x0 x1 r) fun j k => x2 (ix2 j k))) (hl : lo + 384 ≤ 3072)
    (hV : ∀ r k, V (ix2 r k) = right x0 x1 x2 (ix2 r ⟨lo + k.val, by omega⟩)) (ha : b < 16) (ho : o < 512) (hd : o % 128 = 0) (hlo : lo = 192 * a) (hb : b = a + 1)
    {i2 : ∀ i : Fin 2, (![0, lo] : Fin 2 → Nat) i + (![1024, 384] : Fin 2 → Nat) i ≤ S1024x6144.size i}
    {i3 : ∀ i : Fin 2, (![0, lo] : Fin 2 → Nat) i + S1x384.size i ≤ S1x3072.size i}
    {ia : ∀ i : Fin 3, (![a, 0, 0] : Fin 3 → Nat) i + S1x128x128.size i ≤ S16x128x128.size i}
    {ib : ∀ i : Fin 3, (![b, 0, 0] : Fin 3 → Nat) i + S1x128x128.size i ≤ S16x128x128.size i}
    {i5 : ∀ i : Fin 2, (![0, lo] : Fin 2 → Nat) i + S128x384.size i ≤ S128x3072.size i}
    {io : ∀ i : Fin 2, (![o, lo] : Fin 2 → Nat) i + S128x384.size i ≤ S512x3072.size i}
    {hs : S512x384.Slices ![o, 0] S128x384} (x : S128x384.Idx) :
    gates x0 x1 x2 x3 x4 x5 ((Rect.unit (s := S512x3072) ![o, lo] S128x384.size io).emb x)
      = cell (k0_pay29 C V (View.ld x3 (Rect.unit (s := S1x3072) ![0, lo] S1x384.size i3)))
        (k0_pay30 H (View.ld x2 (Rect.unit (s := S1024x6144) ![0, lo] ![1024, 384] i2)))
        (k0_pay20 k0_pay16 (View.ld x4 (Rect.unit (s := S16x128x128) ![a, 0, 0] S1x128x128.size ia)))
        (k0_pay20 k0_pay16 (View.ld x4 (Rect.unit (s := S16x128x128) ![b, 0, 0] S1x128x128.size ib)))
        (View.ld x5 (Rect.unit (s := S128x3072) ![0, lo] S128x384.size i5)) o hs x := by
  obtain ⟨t, k, rfl⟩ : ∃ (t : Fin 128) (k : Fin 384), x = ix2 t k :=
    ⟨x 0, x 1, funext fun i => by match i with | ⟨0, _⟩ => rfl | ⟨1, _⟩ => rfl⟩
  have h0 : (Rect.unit (s := S512x3072) ![o, lo] S128x384.size io).emb (ix2 t k)
      = (ix2 ⟨o + t.val, by omega⟩ ⟨lo + k.val, by omega⟩ : S512x3072.Idx) := by
    refine funext fun i => Fin.ext ?_
    match i with
    | ⟨0, _⟩ => show o + 1 * t.val = o + t.val; omega
    | ⟨1, _⟩ => show lo + 1 * k.val = lo + k.val; omega
  have e3 : View.ld x3 (Rect.unit (s := S1x3072) ![0, lo] S1x384.size i3) (ix2 0 k) = x3 (ix2 0 ⟨lo + k.val, by omega⟩) := by
    refine congrArg x3 (funext fun i => Fin.ext ?_)
    match i with
    | ⟨0, _⟩ => rfl
    | ⟨1, _⟩ => show lo + 1 * k.val = lo + k.val; omega
  have e5 : View.ld x5 (Rect.unit (s := S128x3072) ![0, lo] S128x384.size i5) (ix2 t k) = x5 (ix2 t ⟨lo + k.val, by omega⟩) := by
    refine congrArg x5 (funext fun i => Fin.ext ?_)
    match i with
    | ⟨0, _⟩ => show 0 + 1 * t.val = t.val; omega
    | ⟨1, _⟩ => show lo + 1 * k.val = lo + k.val; omega
  have e4 : ∀ (g : Nat) (hg : g < 16) (ig : ∀ i : Fin 3, (![g, 0, 0] : Fin 3 → Nat) i + S1x128x128.size i ≤ S16x128x128.size i)
      (t u : Fin 128), View.ld x4 (Rect.unit (s := S16x128x128) ![g, 0, 0] S1x128x128.size ig) (ix3 0 t u) = x4 (ix3 ⟨g, hg⟩ t u) := by
    intro g hg ig t u
    refine congrArg x4 (funext fun i => Fin.ext ?_)
    match i with
    | ⟨0, _⟩ => show g + 1 * 0 = g; omega
    | ⟨1, _⟩ => show 0 + 1 * t.val = t.val; omega
    | ⟨2, _⟩ => show 0 + 1 * u.val = u.val; omega
  symm
  rw [cell_apply _ _ _ _ _ o (by omega) hs, h0, e5, narrow_apply]
  simp only [level_apply, tri_apply, e3, e4 a (by omega) ia, e4 b (by omega) ib, hV,
    hC, cols_apply x2 lo (by omega) i2, hH]
  show _ = gate x0 x1 x2 x3 x4 x5 ⟨o + t.val, by omega⟩ ⟨lo + k.val, by omega⟩
  unfold gate Rows.spatial
  have hr : ∀ u : Fin 128, (⟨128 * ((o + t.val) / 128) + u.val, by omega⟩ : Fin 512) = ⟨o + u.val, by omega⟩ :=
    fun u => Fin.ext (by show 128 * ((o + t.val) / 128) + u.val = o + u.val; omega)
  have ht : (⟨(o + t.val) % 128, by omega⟩ : Fin 128) = t := Fin.ext (by show (o + t.val) % 128 = t.val; omega)
  simp only [hr, ht]
  refine congrArg₂ (· * ·) (congrArg (fun r => Rows.act (raised x0 x1 r) fun j => x2 (ix2 j ⟨lo + k.val, by omega⟩))
    (Fin.ext (by show o + t.val = 128 * ((o + t.val) / 128) + (o + t.val) % 128; omega))) (congrArg₂ (· + ·) (Finset.sum_congr rfl fun u _ => congrArg₂ (· * ·) ?_ rfl) rfl)
  split
  · next hk =>
    rw [show Rows.group ⟨lo + k.val, by omega⟩ = ⟨a, by omega⟩ from Fin.ext (by show (lo + k.val) / 192 = a; omega)]
  · next hk =>
    rw [show Rows.group ⟨lo + k.val, by omega⟩ = ⟨b, by omega⟩ from Fin.ext (by show (lo + k.val) / 192 = b; omega)]

set_option maxHeartbeats 4000000 in
/-- What the run leaves in the result's block. -/
theorem run_apply (c : Dev nD) (i : grid0.Coords) (arg1 : Memref sig .tc .vmem S512x1024 .f32) (harg1 : arg1.IsWhole)
    (arg2 : Memref sig .tc .vmem S8x1024 .f32) (harg2 : arg2.IsWhole) (arg3 : Memref sig .tc .vmem S1024x6144 .bf16)
    (harg3 : arg3.IsWhole) (arg4 : Memref sig .tc .vmem S1x3072 .f32) (harg4 : arg4.IsWhole)
    (arg5 : Memref sig .tc .vmem S16x128x128 .bf16) (harg5 : arg5.IsWhole) (arg6 : Memref sig .tc .vmem S128x3072 .f32)
    (harg6 : arg6.IsWhole) (arg7 : Memref sig .tc .vmem S3072x1024 .bf16) (harg7 : arg7.IsWhole)
    (arg8 : Memref sig .tc .vmem S512x1024 .f32) (harg8 : arg8.IsWhole) (arg9 : Memref sig .tc .vmem S512x3072 .f32)
    (harg9 : arg9.IsWhole) (arg10 : Memref sig .tc .vmem S512x3072 .bf16) (harg10 : arg10.IsWhole)
    (x0 : Vec Ideal S512x1024 .f32) (x1 : Vec Ideal S8x1024 .f32) (x2 : Vec Ideal S1024x6144 .bf16)
    (x3 : Vec Ideal S1x3072 .f32) (x4 : Vec Ideal S16x128x128 .bf16) (x5 : Vec Ideal S128x3072 .f32)
    (x6 : Vec Ideal S3072x1024 .bf16) (r : Fin 512) (d : Fin 1024) :
    out0_A_7 c i arg1 harg1 arg2 harg2 arg3 harg3 arg4 harg4 arg5 harg5 arg6 harg6 arg7 harg7 arg8 harg8 arg9 harg9 arg10 harg10
        x0 x1 x2 x3 x4 x5 x6 (ix2 r d)
      = x0 (ix2 r d) + x1 (ix2 3 d) * ∑ k, gate x0 x1 x2 x3 x4 x5 r k * x6 (ix2 k d) := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread]
  rw [close_apply]
  have hs : ∀ (k : Fin 3072) (B : List (View.Piece (Elt Ideal) S512x3072 .bf16)),
      (∀ p ∈ B, ∀ x : p.1.shape.Idx, p.2 x = gates x0 x1 x2 x3 x4 x5 (p.1.emb x)) →
      (∀ y : S512x3072.Idx, ∃ p ∈ B, y ∈ p.1.set) →
      arg10.view.readCov B (Rect.unit (s := S512x3072) ![0, 0] S512x3072.size inb_S512x3072_S512x3072_0_0).toLoadRect (ix2 r k)
        = gate x0 x1 x2 x3 x4 x5 r k := by
    intro k B hB hc
    rw [View.readCov_eq_canon']
    have h0 : (Rect.unit (s := S512x3072) ![0, 0] S512x3072.size inb_S512x3072_S512x3072_0_0).toLoadRect.idx (ix2 r k)
        = (ix2 r k : S512x3072.Idx) := by
      refine funext fun i => Fin.ext ?_
      match i with
      | ⟨0, _⟩ => show 0 + 1 * r.val = r.val; omega
      | ⟨1, _⟩ => show 0 + 1 * k.val = k.val; omega
    simp only [h0]
    exact View.canon_apply_of_pieces (S := S512x3072) (gates x0 x1 x2 x3 x4 x5) B hB _ (hc _)
  refine congrArg₂ (· + ·) ?_ (congrArg₂ (· * ·) ?_ (Finset.sum_congr rfl fun k _ =>
    congrArg₂ (· * ·) ((hs k _ ?_ (View.cover_of_tiled _ S128x384.size (by sl_kernel_rfl))).trans rfl) ?_))
  · pointwise
  · pointwise
  · have filled := fun (lo o a b : Nat) i2 i3 ia ib i5 i9 io hs
        (h : lo + 384 ≤ 3072 ∧ b < 16 ∧ o < 512 ∧ o % 128 = 0 ∧ lo = 192 * a ∧ b = a + 1) x =>
      piece x0 x1 x2 x3 x4 x5 (lo := lo) (o := o) (a := a) (b := b) (lifted_apply x0 x1) (scales_apply x0 x1 x2) h.1
        (read_apply arg9 x0 x1 x2 lo h.1 i9) h.2.1 h.2.2.1 h.2.2.2.1 h.2.2.2.2.1 h.2.2.2.2.2 (i2 := i2) (i3 := i3) (ia := ia) (ib := ib) (i5 := i5) (io := io)
        (hs := hs) x
    intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro x
    · exact (filled 2688 384 14 15 (by decide) (by decide) (by decide) (by decide) (by decide) (by decide) (by decide)
        (by decide) (by decide) x).symm
    · exact (filled 2688 256 14 15 (by decide) (by decide) (by decide) (by decide) (by decide) (by decide) (by decide)
        (by decide) (by decide) x).symm
    · exact (filled 2688 128 14 15 (by decide) (by decide) (by decide) (by decide) (by decide) (by decide) (by decide)
        (by decide) (by decide) x).symm
    · exact (filled 2688 0 14 15 (by decide) (by decide) (by decide) (by decide) (by decide) (by decide) (by decide)
        (by decide) (by decide) x).symm
    · exact (filled 2304 384 12 13 (by decide) (by decide) (by decide) (by decide) (by decide) (by decide) (by decide)
        (by decide) (by decide) x).symm
    · exact (filled 2304 256 12 13 (by decide) (by decide) (by decide) (by decide) (by decide) (by decide) (by decide)
        (by decide) (by decide) x).symm
    · exact (filled 2304 128 12 13 (by decide) (by decide) (by decide) (by decide) (by decide) (by decide) (by decide)
        (by decide) (by decide) x).symm
    · exact (filled 2304 0 12 13 (by decide) (by decide) (by decide) (by decide) (by decide) (by decide) (by decide)
        (by decide) (by decide) x).symm
    · exact (filled 1920 384 10 11 (by decide) (by decide) (by decide) (by decide) (by decide) (by decide) (by decide)
        (by decide) (by decide) x).symm
    · exact (filled 1920 256 10 11 (by decide) (by decide) (by decide) (by decide) (by decide) (by decide) (by decide)
        (by decide) (by decide) x).symm
    · exact (filled 1920 128 10 11 (by decide) (by decide) (by decide) (by decide) (by decide) (by decide) (by decide)
        (by decide) (by decide) x).symm
    · exact (filled 1920 0 10 11 (by decide) (by decide) (by decide) (by decide) (by decide) (by decide) (by decide)
        (by decide) (by decide) x).symm
    · exact (filled 1536 384 8 9 (by decide) (by decide) (by decide) (by decide) (by decide) (by decide) (by decide)
        (by decide) (by decide) x).symm
    · exact (filled 1536 256 8 9 (by decide) (by decide) (by decide) (by decide) (by decide) (by decide) (by decide)
        (by decide) (by decide) x).symm
    · exact (filled 1536 128 8 9 (by decide) (by decide) (by decide) (by decide) (by decide) (by decide) (by decide)
        (by decide) (by decide) x).symm
    · exact (filled 1536 0 8 9 (by decide) (by decide) (by decide) (by decide) (by decide) (by decide) (by decide)
        (by decide) (by decide) x).symm
    · exact (filled 1152 384 6 7 (by decide) (by decide) (by decide) (by decide) (by decide) (by decide) (by decide)
        (by decide) (by decide) x).symm
    · exact (filled 1152 256 6 7 (by decide) (by decide) (by decide) (by decide) (by decide) (by decide) (by decide)
        (by decide) (by decide) x).symm
    · exact (filled 1152 128 6 7 (by decide) (by decide) (by decide) (by decide) (by decide) (by decide) (by decide)
        (by decide) (by decide) x).symm
    · exact (filled 1152 0 6 7 (by decide) (by decide) (by decide) (by decide) (by decide) (by decide) (by decide)
        (by decide) (by decide) x).symm
    · exact (filled 768 384 4 5 (by decide) (by decide) (by decide) (by decide) (by decide) (by decide) (by decide)
        (by decide) (by decide) x).symm
    · exact (filled 768 256 4 5 (by decide) (by decide) (by decide) (by decide) (by decide) (by decide) (by decide)
        (by decide) (by decide) x).symm
    · exact (filled 768 128 4 5 (by decide) (by decide) (by decide) (by decide) (by decide) (by decide) (by decide)
        (by decide) (by decide) x).symm
    · exact (filled 768 0 4 5 (by decide) (by decide) (by decide) (by decide) (by decide) (by decide) (by decide)
        (by decide) (by decide) x).symm
    · exact (filled 384 384 2 3 (by decide) (by decide) (by decide) (by decide) (by decide) (by decide) (by decide)
        (by decide) (by decide) x).symm
    · exact (filled 384 256 2 3 (by decide) (by decide) (by decide) (by decide) (by decide) (by decide) (by decide)
        (by decide) (by decide) x).symm
    · exact (filled 384 128 2 3 (by decide) (by decide) (by decide) (by decide) (by decide) (by decide) (by decide)
        (by decide) (by decide) x).symm
    · exact (filled 384 0 2 3 (by decide) (by decide) (by decide) (by decide) (by decide) (by decide) (by decide)
        (by decide) (by decide) x).symm
    · exact (filled 0 384 0 1 (by decide) (by decide) (by decide) (by decide) (by decide) (by decide) (by decide)
        (by decide) (by decide) x).symm
    · exact (filled 0 256 0 1 (by decide) (by decide) (by decide) (by decide) (by decide) (by decide) (by decide)
        (by decide) (by decide) x).symm
    · exact (filled 0 128 0 1 (by decide) (by decide) (by decide) (by decide) (by decide) (by decide) (by decide)
        (by decide) (by decide) x).symm
    · exact (filled 0 0 0 1 (by decide) (by decide) (by decide) (by decide) (by decide) (by decide) (by decide)
        (by decide) (by decide) x).symm
  · pointwise

end Cert.Kernel4Ideal.Block

end
-- ==== Proof.Gate.Run.lean ====
/-
  The spatial gating kernel's result array as one function of its arguments: each grid point writes its own four chunks, and
  the points' blocks make up the array.
-/
module

public import proofs.«01_k».proof.Proof.Gate.Block
public import proofs.«01_k».proof.Proof.Ffn.Run
public import proofs.«01_k».proof.Proof.Gen.Kernel4Ideal.Value
public import Idealize.ShloMosaic.Lib.Claim
public import Idealize.ShloMosaic.Lib.Tactic
public import Idealize.ShloMosaic.Lib.Pointwise

@[expose] public section

set_option maxRecDepth 16384

noncomputable section

namespace Cert.Kernel4Ideal.Run

open Cert.Kernel4Ideal Cert.Kernel4Ideal.Gen Cert.Kernel4Ideal.Value Idealize.ShloMosaic Idealize.ShloMosaic.TcCoe
open Idealize.SL.Sem
open Cert.Kernel2Ideal.Run (stack stack_gain stack_shift stack_scale stack_gate)

/-- Every row's outcome, of the arrays as the grid finds them. -/
def G (x : Vec Ideal S16384x1024 .f32) (p : Vec Ideal S8x1024 .f32) (w : Vec Ideal S1024x6144 .bf16) (n : Vec Ideal S1x3072 .f32)
    (s : Vec Ideal S16x128x128 .bf16) (b : Vec Ideal S128x3072 .f32) (o : Vec Ideal S3072x1024 .bf16) :
    Vec Ideal S16384x1024 .f32 := fun i =>
  Rows.unit (fun r l => x (ix2 r l)) (fun l => p (ix2 0 l)) (fun l => p (ix2 1 l)) (fun l => p (ix2 2 l)) (fun l => p (ix2 3 l))
    (fun j k => w (ix2 j k)) (fun k => n (ix2 0 k)) (fun g t u => s (ix3 g t u)) (fun k t => b (ix2 t k)) (fun k l => o (ix2 k l))
    (i 0) (i 1)

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 3) = 0 ∧ win0_4.index t (1 : Fin 3) = 0
    ∧ win0_4.index t (2 : Fin 3) = 0 := (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- The row of the whole array that row `r` of point `t`'s block is. -/
def row (t : Fin cfg0.N) (r : Fin 512) : Fin 16384 := ⟨512 * t.val + r.val, by have h : t.val < 32 := t.isLt; omega⟩

theorem emb0 (t : Fin cfg0.N) (r : Fin 512) (l : Fin 1024) :
    ((cfg0.win 0).blk t).view.emb (ix2 r l : S512x1024.Idx) = (ix2 (row t r) l : S16384x1024.Idx) := by
  obtain ⟨e0, e1⟩ := index0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem emb7 (t : Fin cfg0.N) (r : Fin 512) (l : Fin 1024) :
    ((cfg0.win 7).blk t).view.emb (ix2 r l : S512x1024.Idx) = (ix2 (row t r) l : S16384x1024.Idx) := by
  obtain ⟨e0, e1⟩ := index7 t
  funext a; apply Fin.ext
  match a with
  | ⟨0, _⟩ => show win0_7.index t (0 : Fin 2) * 512 + 1 * r.val = 512 * t.val + r.val; omega
  | ⟨1, _⟩ => show win0_7.index t (1 : Fin 2) * 1024 + 1 * l.val = l.val; omega

theorem emb1 (t : Fin cfg0.N) (r : Fin 8) (l : Fin 1024) :
    ((cfg0.win 1).blk t).view.emb (ix2 r l : S8x1024.Idx) = (ix2 r l : S8x1024.Idx) := by
  obtain ⟨e0, e1⟩ := index1 t
  funext a; apply Fin.ext
  match a with
  | ⟨0, _⟩ => show win0_1.index t (0 : Fin 2) * 8 + 1 * r.val = r.val; omega
  | ⟨1, _⟩ => show win0_1.index t (1 : Fin 2) * 1024 + 1 * l.val = l.val; omega

theorem emb2 (t : Fin cfg0.N) (j : Fin 1024) (k : Fin 6144) :
    ((cfg0.win 2).blk t).view.emb (ix2 j k : S1024x6144.Idx) = (ix2 j k : S1024x6144.Idx) := by
  obtain ⟨e0, e1⟩ := index2 t
  funext a; apply Fin.ext
  match a with
  | ⟨0, _⟩ => show win0_2.index t (0 : Fin 2) * 1024 + 1 * j.val = j.val; omega
  | ⟨1, _⟩ => show win0_2.index t (1 : Fin 2) * 6144 + 1 * k.val = k.val; omega

theorem emb3 (t : Fin cfg0.N) (k : Fin 3072) :
    ((cfg0.win 3).blk t).view.emb (ix2 0 k : S1x3072.Idx) = (ix2 0 k : S1x3072.Idx) := by
  obtain ⟨e0, e1⟩ := index3 t
  funext a; apply Fin.ext
  match a with
  | ⟨0, _⟩ => show win0_3.index t (0 : Fin 2) * 1 + 1 * 0 = 0; omega
  | ⟨1, _⟩ => show win0_3.index t (1 : Fin 2) * 3072 + 1 * k.val = k.val; omega

theorem emb4 (t : Fin cfg0.N) (g : Fin 16) (a u : Fin 128) :
    ((cfg0.win 4).blk t).view.emb (ix3 g a u : S16x128x128.Idx) = (ix3 g a u : S16x128x128.Idx) := by
  obtain ⟨e0, e1, e2⟩ := index4 t
  funext i; apply Fin.ext
  match i with
  | ⟨0, _⟩ => show win0_4.index t (0 : Fin 3) * 16 + 1 * g.val = g.val; omega
  | ⟨1, _⟩ => show win0_4.index t (1 : Fin 3) * 128 + 1 * a.val = a.val; omega
  | ⟨2, _⟩ => show win0_4.index t (2 : Fin 3) * 128 + 1 * u.val = u.val; omega

theorem emb5 (t : Fin cfg0.N) (u : Fin 128) (k : Fin 3072) :
    ((cfg0.win 5).blk t).view.emb (ix2 u k : S128x3072.Idx) = (ix2 u k : S128x3072.Idx) := by
  obtain ⟨e0, e1⟩ := index5 t
  funext a; apply Fin.ext
  match a with
  | ⟨0, _⟩ => show win0_5.index t (0 : Fin 2) * 128 + 1 * u.val = u.val; omega
  | ⟨1, _⟩ => show win0_5.index t (1 : Fin 2) * 3072 + 1 * k.val = k.val; omega

theorem emb6 (t : Fin cfg0.N) (k : Fin 3072) (l : Fin 1024) :
    ((cfg0.win 6).blk t).view.emb (ix2 k l : S3072x1024.Idx) = (ix2 k l : S3072x1024.Idx) := by
  obtain ⟨e0, e1⟩ := index6 t
  funext a; apply Fin.ext
  match a with
  | ⟨0, _⟩ => show win0_6.index t (0 : Fin 2) * 3072 + 1 * k.val = k.val; omega
  | ⟨1, _⟩ => show win0_6.index t (1 : Fin 2) * 1024 + 1 * l.val = l.val; omega

/-- The outcome of the arrays as the grid of device `c` finds them. -/
abbrev outcome (c : Dev nD) : Vec Ideal S16384x1024 .f32 :=
  G (V m c main_v4) (V m c main_v7) (V m c main_v9) (V m c main_v11) (V m c main_v13) (V m c main_v3) (V m c main_v15)

/-- What a point writes back is its block of the outcome. -/
theorem flushed_eq (c : Dev nD) (t : Fin cfg0.N) :
    (dats m 0 c).flushed 7 t = ((cfg0.win 7).blk t).view.read (Elt Ideal) (outcome m c) := by
  rw [flushed7_A]
  refine funext fun (y : S512x1024.Idx) => ?_
  obtain ⟨r, d, rfl⟩ : ∃ (r : Fin 512) (d : Fin 1024), y = ix2 r d :=
    ⟨y 0, y 1, funext fun i => by match i with | ⟨0, _⟩ => rfl | ⟨1, _⟩ => rfl⟩
  refine (Block.run_apply c _ _ _ _ _ _ _ _ _ _ _ _ _ _ _ _ _ _ _ _ _ _ _ _ _ _ _ _ r d).trans ?_
  have h0 : ∀ r l, iblk m c 0 t (ix2 r l : S512x1024.Idx) = V m c main_v4 (ix2 (row t r) l : S16384x1024.Idx) :=
    fun r l => congrArg (V m c main_v4) (emb0 t r l)
  have h1 : ∀ (a : Fin 8) (l : Fin 1024), iblk m c 1 t (ix2 a l : S8x1024.Idx) = V m c main_v7 (ix2 a l : S8x1024.Idx) :=
    fun a l => congrArg (V m c main_v7) (emb1 t a l)
  have h2 : ∀ j k, iblk m c 2 t (ix2 j k : S1024x6144.Idx) = V m c main_v9 (ix2 j k : S1024x6144.Idx) :=
    fun j k => congrArg (V m c main_v9) (emb2 t j k)
  have h3 : ∀ k, iblk m c 3 t (ix2 0 k : S1x3072.Idx) = V m c main_v11 (ix2 0 k : S1x3072.Idx) :=
    fun k => congrArg (V m c main_v11) (emb3 t k)
  have h4 : ∀ g a u, iblk m c 4 t (ix3 g a u : S16x128x128.Idx) = V m c main_v13 (ix3 g a u : S16x128x128.Idx) :=
    fun g a u => congrArg (V m c main_v13) (emb4 t g a u)
  have h5 : ∀ u k, iblk m c 5 t (ix2 u k : S128x3072.Idx) = V m c main_v3 (ix2 u k : S128x3072.Idx) :=
    fun u k => congrArg (V m c main_v3) (emb5 t u k)
  have h6 : ∀ k l, iblk m c 6 t (ix2 k l : S3072x1024.Idx) = V m c main_v15 (ix2 k l : S3072x1024.Idx) :=
    fun k l => congrArg (V m c main_v15) (emb6 t k l)
  have e : ((cfg0.win 7).blk t).view.read (Elt Ideal) (outcome m c) (ix2 r d : S512x1024.Idx) = outcome m c (ix2 (row t r) d) :=
    congrArg (outcome m c) (emb7 t r d)
  refine Eq.trans ?_ e.symm
  have hu : ∀ u : Fin 128, row t ⟨128 * (r.val / 128) + u.val, by omega⟩
      = (⟨128 * ((row t r).val / 128) + u.val, by have h : (row t r).val < 16384 := (row t r).isLt; omega⟩ : Fin 16384) := fun u =>
    Fin.ext (by show 512 * t.val + (128 * (r.val / 128) + u.val) = 128 * ((512 * t.val + r.val) / 128) + u.val; omega)
  have ht : (⟨r.val % 128, by omega⟩ : Fin 128) = ⟨(row t r).val % 128, by omega⟩ :=
    Fin.ext (by show r.val % 128 = (512 * t.val + r.val) % 128; omega)
  unfold Block.gate Block.raised
  simp only [h0, h1, h2, h3, h4, h5, h6, hu, ht]
  rfl

theorem mem7 (t : Fin cfg0.N) (r : Fin 512) (l : Fin 1024) :
    (ix2 (row t r) l : S16384x1024.Idx) ∈ ((cfg0.win 7).blk t).view.set :=
  emb7 t r l ▸ ((cfg0.win 7).blk t).view.emb_mem_set (ix2 r l : S512x1024.Idx)

/-- Every element is in some point's block. -/
theorem covered (i : S16384x1024.Idx) :
    ∃ t : Fin cfg0.N, (cfg0.win 7).flush t = true ∧ i ∈ ((cfg0.win 7).blk t).view.set := by
  have hi : (i 0).val < 16384 := (i 0).isLt
  refine ⟨(⟨(i 0).val / 512, by show _ < 32; omega⟩ : Fin cfg0.N), flush0_7 _, ?_⟩
  have h := mem7 ⟨(i 0).val / 512, by show _ < 32; omega⟩ ⟨(i 0).val % 512, Nat.mod_lt _ (by decide)⟩ (i 1)
  have e : (ix2 (row ⟨(i 0).val / 512, by show _ < 32; omega⟩ ⟨(i 0).val % 512, Nat.mod_lt _ (by decide)⟩) (i 1)
      : S16384x1024.Idx) = i := by
    funext a; apply Fin.ext
    match a with
    | ⟨0, _⟩ => show 512 * ((i 0).val / 512) + (i 0).val % 512 = (i 0).val; omega
    | ⟨1, _⟩ => rfl
  rwa [e] at h

/-- The result array after the run. -/
theorem final (c : Dev nD) : (dats m 0 c).arrAt 7 cfg0.N = outcome m c :=
  (dats m 0 c).arrAt_eq_of_cover 7 (outcome m c) (fun t _ => flushed_eq m c t) covered

/-- The conditioning rows as the grid finds them. -/
theorem entry7 (c : Dev nD) : (V m c main_v7 : Vec Ideal S8x1024 .f32)
    = stack (broadcastInDim S1x1024 ![1] bcast_S1024_S1x1024_1 (m ((c : Thread nD τ).loc main_arg1) : Vec Ideal S1024 .f32))
        (m ((c : Thread nD τ).loc main_arg2))
        (broadcastInDim S4x1024 ![] bcast_S_S4x1024 (constant (F := Ideal) S_ .f32 0x00000000#32)) := by
  unfold V hostOps0
  simp only [StableHlo.after_cons, StableHlo.after_nil]
  rw [StableHlo.unary_result_ne' (h := by decide), StableHlo.reshape_result_ne' (h := by decide),
    StableHlo.unary_result_ne' (h := by decide), StableHlo.reshape_result_ne' (h := by decide),
    StableHlo.reshape_result_ne' (h := by decide), StableHlo.reshape_result_ne' (h := by decide),
    StableHlo.unary_result_ne' (h := by decide), StableHlo.reshape_result_ne' (h := by decide), StableHlo.nary_result']
  show stack _ _ _ = _
  refine congr (congr (congrArg stack ?_) ?_) ?_
  · show HloOp.result _ _ (Proc.tc.devRef main_v5) = _
    rw [StableHlo.unary_result_ne' (h := by decide), StableHlo.nullary_result_ne' (h := by decide), StableHlo.unary_result',
      StableHlo.reshape_result_ne' (h := by decide), StableHlo.reshape_result_ne' (h := by decide),
      StableHlo.unary_result_ne' (h := by decide), StableHlo.unary_result_ne' (h := by decide),
      StableHlo.reshape_result_ne' (h := by decide)]
  · show HloOp.result _ _ (Proc.tc.devRef main_arg2) = _
    rw [StableHlo.unary_result_ne' (h := by decide), StableHlo.nullary_result_ne' (h := by decide),
      StableHlo.unary_result_ne' (h := by decide), StableHlo.reshape_result_ne' (h := by decide),
      StableHlo.reshape_result_ne' (h := by decide), StableHlo.unary_result_ne' (h := by decide),
      StableHlo.unary_result_ne' (h := by decide), StableHlo.reshape_result_ne' (h := by decide)]
  · show HloOp.result _ _ (Proc.tc.devRef main_v6) = _
    rw [StableHlo.unary_result', StableHlo.nullary_result']

/-- The result array from the arguments as launched. -/
theorem value (c : Dev nD) (x : Vec Ideal S1x16384x1024 .f32) (hx : m ((c : Thread nD τ).loc main_arg0) = x)
    (g : Vec Ideal S1024 .f32) (hg : m ((c : Thread nD τ).loc main_arg1) = g)
    (p : Vec Ideal S3x1024 .f32) (hp : m ((c : Thread nD τ).loc main_arg2) = p)
    (w : Vec Ideal S1x1024x6144 .f32) (hw : m ((c : Thread nD τ).loc main_arg3) = w)
    (n : Vec Ideal S1x3072 .f32) (hn : m ((c : Thread nD τ).loc main_arg4) = n)
    (s : Vec Ideal S1x16x128x128 .f32) (hs : m ((c : Thread nD τ).loc main_arg5) = s)
    (b : Vec Ideal S1x16x128 .f32) (hb : m ((c : Thread nD τ).loc main_arg6) = b)
    (o : Vec Ideal S1x3072x1024 .f32) (ho : m ((c : Thread nD τ).loc main_arg7) = o) (r : Fin 16384) (d : Fin 1024) :
    ((dats m 0 c).arrAt 7 cfg0.N : Vec Ideal S16384x1024 .f32) (ix2 r d)
      = Rows.unit (fun r l => x (ix3 0 r l)) (fun l => g (ix1 l)) (fun l => p (ix2 0 l)) (fun l => p (ix2 1 l)) (fun l => p (ix2 2 l))
          (fun j k => w (ix3 0 j k)) (fun k => n (ix2 0 k)) (fun g t u => s (ix4 0 g t u)) (fun k t => b (ix3 0 (Rows.group k) t))
          (fun k l => o (ix3 0 k l)) r d := by
  have h4 : (V m c main_v4 : Vec Ideal S16384x1024 .f32) = shapeCast S16384x1024 x shapeCasts_S1x16384x1024_S16384x1024 := by
    subst hx
    entry_read
    rfl
  have h9 : (V m c main_v9 : S1024x6144.Idx → EReal) = shapeCast S1024x6144 w shapeCasts_S1x1024x6144_S1024x6144 := by
    subst hw
    entry_read
    rfl
  have h11 : (V m c main_v11 : Vec Ideal S1x3072 .f32)
      = shapeCast S1x3072 (shapeCast S3072 n shapeCasts_S1x3072_S3072) shapeCasts_S3072_S1x3072 := by
    subst hn
    entry_read
    rfl
  have h13 : (V m c main_v13 : S16x128x128.Idx → EReal) = shapeCast S16x128x128 s shapeCasts_S1x16x128x128_S16x128x128 := by
    subst hs
    entry_read
    rfl
  have h3 : (V m c main_v3 : Vec Ideal S128x3072 .f32)
      = shapeCast S128x3072 (broadcastInDim S128x16x192 ![0, 1] bcast_S128x16_S128x16x192_0_1 (transpose S128x16 [1, 0]
          (shapeCast S16x128 b shapeCasts_S1x16x128_S16x128) transposes_S16x128_S128x16_1_0)) shapeCasts_S128x16x192_S128x3072 := by
    subst hb
    entry_read
    rfl
  have h15 : (V m c main_v15 : S3072x1024.Idx → EReal) = shapeCast S3072x1024 o shapeCasts_S1x3072x1024_S3072x1024 := by
    subst ho
    entry_read
    rfl
  rw [final]
  unfold outcome
  rw [entry7, hg, hp, h4, h9, h11, h13, h3, h15]
  have eg : ∀ l : Fin 1024, broadcastInDim S1x1024 ![1] bcast_S1024_S1x1024_1 g (ix2 0 l) = g (ix1 l) := by
    intro l
    pointwise
  have e4 : ∀ (r : Fin 16384) (l : Fin 1024), shapeCast S16384x1024 x shapeCasts_S1x16384x1024_S16384x1024 (ix2 r l) = x (ix3 0 r l) := by
    intro r l
    pointwise
  have e9 : ∀ (j : Fin 1024) (k : Fin 6144), shapeCast S1024x6144 w shapeCasts_S1x1024x6144_S1024x6144 (ix2 j k) = w (ix3 0 j k) := by
    intro j k
    pointwise
  have e11 : ∀ k : Fin 3072, shapeCast S1x3072 (shapeCast S3072 n shapeCasts_S1x3072_S3072) shapeCasts_S3072_S1x3072 (ix2 0 k)
      = n (ix2 0 k) := by
    intro k
    pointwise
  have e13 : ∀ (g : Fin 16) (t u : Fin 128), shapeCast S16x128x128 s shapeCasts_S1x16x128x128_S16x128x128 (ix3 g t u)
      = s (ix4 0 g t u) := by
    intro g t u
    pointwise
  have e3 : ∀ (t : Fin 128) (k : Fin 3072), shapeCast S128x3072 (broadcastInDim S128x16x192 ![0, 1] bcast_S128x16_S128x16x192_0_1
      (transpose S128x16 [1, 0] (shapeCast S16x128 b shapeCasts_S1x16x128_S16x128) transposes_S16x128_S128x16_1_0))
      shapeCasts_S128x16x192_S128x3072 (ix2 t k) = b (ix3 0 (Rows.group k) t) := by
    intro t k
    pointwise
    rfl
  have e15 : ∀ (k : Fin 3072) (l : Fin 1024), shapeCast S3072x1024 o shapeCasts_S1x3072x1024_S3072x1024 (ix2 k l) = o (ix3 0 k l) := by
    intro k l
    pointwise
  unfold G
  simp only [e4, e9, e11, e13, e3, e15, stack_gain, stack_shift, stack_scale, stack_gate, eg]
  rfl

end Cert.Kernel4Ideal.Run

end
-- ==== Proof.Gate.Host.lean ====
/-
  The spatial gating unit in whole arrays, stage by stage, and each stage read at an element.
-/
module

public import proofs.«01_k».proof.Proof.Gate.Rows
public import proofs.«01_k».proof.Proof.Ffn.Host
public import proofs.«01_k».proof.Proof.Gen.Reference4Ideal.Run
public import Idealize.ShloMosaic.Lib.Tactic
public import Idealize.ShloMosaic.Lib.Pointwise

@[expose] public section

set_option maxRecDepth 16384

noncomputable section

namespace Cert.Reference4Ideal.Host

open Cert.Reference4Ideal Cert.Reference4Ideal.Gen Cert.Reference4Ideal.Value Idealize.ShloMosaic Idealize.ShloMosaic.TcCoe
open Idealize.SL.Sem
open Cert.Reference2Ideal.Host (rows rows_apply lifted lifted_apply)

/-- The first product. -/
def first (H : FVec Ideal S16384x1024 .f32) (w : FVec Ideal S1024x6144 .f32) : FVec Ideal S16384x6144 .f32 :=
  Host.dotGeneral dot_S16384x1024_S1024x6144_S16384x6144_1_0_0_1_n_n none H w

/-- The error function's unit at every element. -/
def bent (z : FVec Ideal S16384x6144 .f32) : FVec Ideal S16384x6144 .f32 :=
  mulf (mulf (broadcastInDim S16384x6144 ![] bcast_S_S16384x6144 (constant S_ .f32 0x3F000000#32)) z)
    (Host.erfc (mulf (Host.negf z) (broadcastInDim S16384x6144 ![] bcast_S_S16384x6144 (constant S_ .f32 0x3F3504F3#32))))

/-- The second half of the columns. -/
def right (A : FVec Ideal S16384x6144 .f32) : FVec Ideal S16384x3072 .f32 :=
  extractStridedSlice S16384x3072 ![0, 3072] A slices_S16384x6144_S16384x3072_0_3072

/-- Every row of 3072 normed and times the gain. -/
def leveled (V : FVec Ideal S16384x3072 .f32) (n : FVec Ideal S3072 .f32) : FVec Ideal S16384x3072 .f32 :=
  mulf (mulf V (broadcastInDim S16384x3072 ![0, 1] bcast_S16384x1_S16384x3072_0_1 (Host.rsqrt (addf (Host.divf
    (broadcastInDim S16384x1 ![0] bcast_S16384_S16384x1_0
      (Host.reduceAdd (mulf V V) (constant S_ .f32 0x00000000#32) reducesTo_S16384x3072_S16384_d1 h_S_))
    (broadcastInDim S16384x1 ![] bcast_S_S16384x1 (constant S_ .f32 0x45400000#32)))
    (broadcastInDim S16384x1 ![] bcast_S_S16384x1 (constant S_ .f32 0x358637BD#32))))))
    (broadcastInDim S16384x3072 ![0, 1] bcast_S1x3072_S16384x3072_0_1 (broadcastInDim S1x3072 ![1] bcast_S3072_S1x3072_1 n))

/-- The lower triangle of every group's weights. -/
def lower (s : FVec Ideal S16x128x128 .f32) : FVec Ideal S16x128x128 .f32 :=
  select (broadcastInDim S16x128x128 ![1, 2] bcast_S128x128_S16x128x128_1_2 (select (cmpi .sge (addi (iotaInDim S128x128 32 0)
      (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))
    s (broadcastInDim S16x128x128 ![] bcast_S_S16x128x128 (sitofp .f32 (constantI S_ 32 0#32)))

/-- The chunks' rows of every group, mixed along the chunk. -/
def along (V : FVec Ideal S128x128x16x192 .f32) (s : FVec Ideal S16x128x128 .f32) : FVec Ideal S128x128x16x192 .f32 :=
  transpose S128x128x16x192 [1, 3, 0, 2] (Host.dotGeneral dot_S128x128x16x192_S16x128x128_S16x128x192x128_1_2_03_1_2_0 none V s)
    transposes_S16x128x192x128_S128x128x16x192_1_3_0_2

/-- The shift of every row and group. -/
def shifts (b : FVec Ideal S16x128 .f32) : FVec Ideal S128x128x16x192 .f32 :=
  broadcastInDim S128x128x16x192 ![0, 1, 2, 3] bcast_S1x128x16x1_S128x128x16x192_0_1_2_3 (broadcastInDim S1x128x16x1 ![1, 2, 3]
    bcast_S128x16x1_S1x128x16x1_1_2_3 (broadcastInDim S128x16x1 ![0, 1] bcast_S128x16_S128x16x1_0_1
      (transpose S128x16 [1, 0] b transposes_S16x128_S128x16_1_0)))

/-- The two halves' product. -/
def gating (A : FVec Ideal S16384x6144 .f32) (n : FVec Ideal S3072 .f32) (s : FVec Ideal S16x128x128 .f32)
    (b : FVec Ideal S16x128 .f32) : FVec Ideal S16384x3072 .f32 :=
  mulf (extractStridedSlice S16384x3072 ![0, 0] A slices_S16384x6144_S16384x3072_0_0)
    (shapeCast S16384x3072 (addf (along (shapeCast S128x128x16x192 (leveled (right A) n) shapeCasts_S16384x3072_S128x128x16x192)
      (lower s)) (shifts b)) shapeCasts_S128x128x16x192_S16384x3072)

/-- The unit added to the residual. -/
def united (X : FVec Ideal S16384x1024 .f32) (g sh sc ga : FVec Ideal S1024 .f32) (w : FVec Ideal S1024x6144 .f32)
    (n : FVec Ideal S3072 .f32) (s : FVec Ideal S16x128x128 .f32) (b : FVec Ideal S16x128 .f32) (o : FVec Ideal S3072x1024 .f32) :
    FVec Ideal S16384x1024 .f32 :=
  addf X (mulf (rows ga) (Host.dotGeneral dot_S16384x3072_S3072x1024_S16384x1024_1_0_0_1_n_n none
    (gating (bent (first (lifted X g sh sc) w)) n s b) o))

theorem first_apply (H : FVec Ideal S16384x1024 .f32) (w : FVec Ideal S1024x6144 .f32) (r : Fin 16384) (k : Fin 6144) :
    first H w (ix2 r k) = ∑ j, H (ix2 r j) * w (ix2 j k) := by
  unfold first
  pointwise

theorem bent_apply (z : FVec Ideal S16384x6144 .f32) (r : Fin 16384) (k : Fin 6144) : bent z (ix2 r k) = Rows.gelu (z (ix2 r k)) := by
  unfold bent Rows.gelu
  pointwise
  rw [neg_mul, Ideal.erfc_neg]

theorem right_apply (A : FVec Ideal S16384x6144 .f32) (r : Fin 16384) (k : Fin 3072) :
    right A (ix2 r k) = A (ix2 r ⟨3072 + k.val, by omega⟩) := by
  unfold right
  pointwise

theorem ofBits_width : Ideal.ofBits .f32 0x45400000#32 = ((3072 : ℝ) : EReal) := by
  simp [Ideal.ofBits, Ideal.ieee, -EReal.coe_mul]; norm_num

theorem leveled_apply (V : FVec Ideal S16384x3072 .f32) (n : FVec Ideal S3072 .f32) (r : Fin 16384) (k : Fin 3072) :
    leveled V n (ix2 r k) = V (ix2 r k) * Rows.scale (fun l => V (ix2 r l)) * n (ix1 k) := by
  unfold leveled Rows.scale
  pointwise
  rw [ofBits_width, Ideal.div_coe (by norm_num), one_div]

theorem lower_apply (s : FVec Ideal S16x128x128 .f32) (g : Fin 16) (t u : Fin 128) :
    lower s (ix3 g t u) = Rows.tri (fun t u => s (ix3 g t u)) t u := by
  unfold lower Rows.tri
  pointwise
  have h : ∀ t u : Fin 128, IntOp.cmpi CmpIPredicate.sge (IntOp.addi (BitVec.ofNat 32 t.val) 0#32) (BitVec.ofNat 32 u.val)
      = if u ≤ t then 1#1 else 0#1 := by decide +kernel
  rw [h]
  by_cases hu : u ≤ t
  · simp only [hu, if_true]
    rfl
  · simp only [hu, if_false]
    show ((((0#32 : BitVec 32).toInt : ℝ)) : EReal) = 0
    simp

theorem along_apply (V : FVec Ideal S128x128x16x192 .f32) (s : FVec Ideal S16x128x128 .f32) (c t : Fin 128) (g : Fin 16)
    (e : Fin 192) : along V s (ix4 c t g e) = ∑ u, V (ix4 c u g e) * s (ix3 g t u) := by
  unfold along
  pointwise

theorem shifts_apply (b : FVec Ideal S16x128 .f32) (c t : Fin 128) (g : Fin 16) (e : Fin 192) :
    shifts b (ix4 c t g e) = b (ix2 g t) := by
  unfold shifts
  pointwise

/-- The two halves' product at a row and a column: the row's chunk, and the column's group. -/
theorem gating_apply (A : FVec Ideal S16384x6144 .f32) (n : FVec Ideal S3072 .f32) (s : FVec Ideal S16x128x128 .f32)
    (b : FVec Ideal S16x128 .f32) (r : Fin 16384) (k : Fin 3072) :
    gating A n s b (ix2 r k)
      = A (ix2 r ⟨k.val, by omega⟩) * ((∑ u : Fin 128, lower s (ix3 (Rows.group k) ⟨r.val % 128, by omega⟩ u)
          * leveled (right A) n (ix2 ⟨128 * (r.val / 128) + u.val, by omega⟩ k))
          + b (ix2 (Rows.group k) ⟨r.val % 128, by omega⟩)) := by
  unfold gating
  pointwise [along_apply, shifts_apply]
  have hu : ∀ u : Fin 128, (⟨r.val / 128 * 128 + u.val, by omega⟩ : Fin 16384) = ⟨128 * (r.val / 128) + u.val, by omega⟩ := fun u =>
    Fin.ext (by show r.val / 128 * 128 + u.val = 128 * (r.val / 128) + u.val; omega)
  simp only [hu]
  exact congrArg (A _ * ·) (congrArg (· + b _) (Finset.sum_congr rfl fun u _ => mul_comm _ _))

theorem united_apply (X : FVec Ideal S16384x1024 .f32) (g sh sc ga : FVec Ideal S1024 .f32) (w : FVec Ideal S1024x6144 .f32)
    (n : FVec Ideal S3072 .f32) (s : FVec Ideal S16x128x128 .f32) (b : FVec Ideal S16x128 .f32) (o : FVec Ideal S3072x1024 .f32)
    (r : Fin 16384) (d : Fin 1024) :
    united X g sh sc ga w n s b o (ix2 r d)
      = Rows.unit (fun r l => X (ix2 r l)) (fun l => g (ix1 l)) (fun l => sh (ix1 l)) (fun l => sc (ix1 l)) (fun l => ga (ix1 l))
          (fun j k => w (ix2 j k)) (fun k => n (ix1 k)) (fun g t u => s (ix3 g t u)) (fun k t => b (ix2 (Rows.group k) t))
          (fun k l => o (ix2 k l)) r d := by
  unfold united
  pointwise [rows_apply]
  simp only [gating_apply, leveled_apply, right_apply, bent_apply, first_apply, lifted_apply, lower_apply]
  have hr : (⟨128 * (r.val / 128) + r.val % 128, by omega⟩ : Fin 16384) = r := Fin.ext (by show 128 * (r.val / 128) + r.val % 128 = r.val; omega)
  unfold Rows.unit Rows.spatial
  simp only [hr]
  rfl

/-- The reference's result from its arguments. -/
theorem value (m : (ℓ : Loc nD τ sig) → Buf (Elt Ideal) ℓ) (c : Dev nD)
    (x : Vec Ideal S1x16384x1024 .f32) (hx : m ((c.tc : Thread nD τ).loc main_arg0) = x)
    (g : Vec Ideal S1024 .f32) (hg : m ((c.tc : Thread nD τ).loc main_arg1) = g)
    (p : Vec Ideal S3x1024 .f32) (hp : m ((c.tc : Thread nD τ).loc main_arg2) = p)
    (w : Vec Ideal S1x1024x6144 .f32) (hw : m ((c.tc : Thread nD τ).loc main_arg3) = w)
    (n : Vec Ideal S1x3072 .f32) (hn : m ((c.tc : Thread nD τ).loc main_arg4) = n)
    (s : Vec Ideal S1x16x128x128 .f32) (hs : m ((c.tc : Thread nD τ).loc main_arg5) = s)
    (b : Vec Ideal S1x16x128 .f32) (hb : m ((c.tc : Thread nD τ).loc main_arg6) = b)
    (o : Vec Ideal S1x3072x1024 .f32) (ho : m ((c.tc : Thread nD τ).loc main_arg7) = o) (r : Fin 16384) (d : Fin 1024) :
    (res_main_v73 m c : Vec Ideal S16384x1024 .f32) (ix2 r d)
      = Rows.unit (fun r l => x (ix3 0 r l)) (fun l => g (ix1 l)) (fun l => p (ix2 0 l)) (fun l => p (ix2 1 l)) (fun l => p (ix2 2 l))
          (fun j k => w (ix3 0 j k)) (fun k => n (ix2 0 k)) (fun g t u => s (ix4 0 g t u)) (fun k t => b (ix3 0 (Rows.group k) t))
          (fun k l => o (ix3 0 k l)) r d := by
  have e : (res_main_v73 m c : Vec Ideal S16384x1024 .f32)
      = united (shapeCast S16384x1024 x shapeCasts_S1x16384x1024_S16384x1024) g
          (shapeCast S1024 (extractStridedSlice S1x1024 ![0, 0] p slices_S3x1024_S1x1024_0_0) shapeCasts_S1x1024_S1024)
          (shapeCast S1024 (extractStridedSlice S1x1024 ![1, 0] p slices_S3x1024_S1x1024_1_0) shapeCasts_S1x1024_S1024)
          (shapeCast S1024 (extractStridedSlice S1x1024 ![2, 0] p slices_S3x1024_S1x1024_2_0) shapeCasts_S1x1024_S1024)
          (shapeCast S1024x6144 w shapeCasts_S1x1024x6144_S1024x6144) (shapeCast S3072 n shapeCasts_S1x3072_S3072)
          (shapeCast S16x128x128 s shapeCasts_S1x16x128x128_S16x128x128) (shapeCast S16x128 b shapeCasts_S1x16x128_S16x128)
          (shapeCast S3072x1024 o shapeCasts_S1x3072x1024_S3072x1024) := by
    subst hx hg hp hw hn hs hb ho
    rfl
  rw [e, united_apply]
  pointwise

end Cert.Reference4Ideal.Host

end
-- ==== Proof.Gate.Claims.lean ====
/-
  The claims of the spatial gating call: its frames and its reference's, that naming the width's inverse is a rewrite of the
  kernel, and that at exact reals the two end with the same array.
-/
module

public import proofs.«01_k».proof.Defs
public import proofs.«01_k».proof.Proof.Gate.Run
public import proofs.«01_k».proof.Proof.Gate.Host
public import proofs.«01_k».proof.Proof.Gen.Kernel4.Frame
public import Idealize.ShloMosaic.Lib.Claim

@[expose] public section

set_option maxRecDepth 16384

noncomputable section

namespace Cert.Gate

open Idealize.ShloMosaic Idealize.ShloMosaic.TcCoe Idealize.SL.Sem

instance : Cert.Kernel4.Facts := Cert.Kernel4.Gen.facts
instance : Cert.Kernel4Ideal.Facts := Cert.Kernel4Ideal.Gen.facts
instance : Cert.Reference4Ideal.Facts := Cert.Reference4Ideal.Gen.facts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem preserves : Cert.preserves_Kernel4_Kernel4Ideal :=
  IdealRules.named_const.statement Cert.Kernel4Ideal.κ "width_inverse" .f32 0x39AAAAAB#32 ((3072⁻¹ : ℝ) : EReal) rfl

theorem algebraic : Cert.algebraic_Kernel4Ideal_Reference4Ideal := by
  intro m ρ m' ρ' _ h
  refine ⟨fun c => (Cert.Kernel4Ideal.Gen.dats m 0 c).arrAt 7 Cert.Kernel4Ideal.cfg0.N,
    Cert.Kernel4Ideal.Value.run_blocks m ρ, ?_⟩
  refine (θ_run Cert.Reference4Ideal.defs _ _).mono (fun r hr c => ⟨(hr c).1.trans ?_, (hr c).2⟩)
    (Cert.Reference4Ideal.Value.run m' ρ')
  obtain ⟨h0, h1, h2, h3, h4, h5, h6, h7⟩ := h c
  refine funext fun (y : Cert.Kernel4Ideal.S16384x1024.Idx) => ?_
  obtain ⟨i, d, rfl⟩ : ∃ (i : Fin 16384) (d : Fin 1024), y = ix2 i d :=
    ⟨y 0, y 1, funext fun a => by match a with | ⟨0, _⟩ => rfl | ⟨1, _⟩ => rfl⟩
  exact (Cert.Reference4Ideal.Host.value m' c _ h0 _ h1 _ h2 _ h3 _ h4 _ h5 _ h6 _ h7 i d).trans
    (Cert.Kernel4Ideal.Run.value m c _ rfl _ rfl _ rfl _ rfl _ rfl _ rfl _ rfl _ rfl i d).symm

end Cert.Gate

end
-- ==== Proof.lean ====
/-
  The claims of the four calls together. Of the attention call: from any memory whose tables are in range it ends, nothing
  faults, every argument array ends as it was and every semaphore counter at zero; the run is gone through at any reading of
  the floats. Of the two feed-forward calls and the spatial gating call: the same from any memory, and
  the value at exact reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_tables_in_range
public import proofs.«01_k».proof.Proof.Launch
public import proofs.«01_k».proof.Proof.Ffn.Claims
public import proofs.«01_k».proof.Proof.Last.Claims
public import proofs.«01_k».proof.Proof.Gate.Claims
public import Idealize.ShloMosaic.Adequacy
public import Idealize.ShloMosaic.Init
public import Idealize.ShloMosaic.Lib.Tactic

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.Pre_tables_in_range.Facts := Cert.Pre_tables_in_range.Gen.facts

section

open Cert.KernelIdeal

/-- The frame of the attention call at a reading `F` of the floats: from tables in range it ends with the arguments as they
were and the counters at zero. -/
def Framed (F : FTy → Type) [FloatOps F] : Prop :=
  ∀ (m : (ℓ : Loc nD τ sig) → Buf (Elt F) ℓ) (g : Dev nD → PrngReg),
    (∀ c : Dev nD, (Cert.Pre_tables_in_range.fn (F := F) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))) = fun _ => 1#1) →
    θ_run (defs (F := F)) (onTc (τ := τ) (main (F := F))) ⟨m, fun _ => 0, g⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11))
      ∧ r.2.sem = fun _ => 0)

theorem framed (F : FTy → Type) [FloatOps F] [∀ e, Nonempty (Elt F e)] : Framed F := fun m ρ h =>
  (θ_run defs _ _).mono (fun _ h => ⟨fun c => Hand.args_kept h.1 c, h.2⟩)
    (Hand.run_main (F := F) m ρ fun c => Hand.tables_read _ _ _ _ _ _ _ _ _ _ _ _ (h c))

end

theorem frame_ideal : Cert.quiescent_KernelIdeal := framed Ideal

/-- The two programs have the same text, so the two statements are one at the bits. -/
theorem same_text : Cert.quiescent_Kernel = Framed Bits := by sl_kernel_rfl

theorem frame_kernel : Cert.quiescent_Kernel := same_text.mpr (framed Bits)

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_tables_in_range.Gen.facts, frame_kernel, frame_ideal, Cert.Ffn.frame_kernel, Cert.Ffn.frame_ideal,
    Cert.Ffn.frame_reference, Cert.Last.frame_kernel, Cert.Last.frame_ideal, Cert.Last.frame_reference,
    Cert.Gate.frame_kernel, Cert.Gate.frame_ideal, Cert.Gate.frame_reference, trivial, trivial, Cert.Ffn.algebraic, trivial,
    Cert.Last.algebraic, Cert.Gate.preserves, Cert.Gate.algebraic⟩

end Cert.Proof

end
